-- ==== Defs.lean ====
def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDy (m : (ℓ : Loc Cert.GluDy.nD Cert.GluDy.τ Cert.GluDy.sig) → Buf (Elt Bits) ℓ) : Prop :=
  True

def Pre_GluDyIdeal (m : (ℓ : Loc Cert.GluDyIdeal.nD Cert.GluDyIdeal.τ Cert.GluDyIdeal.sig) → Buf (Elt Ideal) ℓ) : Prop :=
  True

def Pre_GluDyIdeal_finite_dy [hPre_finite_dy : Cert.Pre_finite_dy.Facts] (m : (ℓ : Loc Cert.GluDyIdeal.nD Cert.GluDyIdeal.τ Cert.GluDyIdeal.sig) → Buf (Elt Ideal) ℓ) : Prop :=
  ∀ c : Dev Cert.GluDyIdeal.nD,
    (Cert.Pre_finite_dy.fn (F := Ideal) (m ((c.tc : Thread Cert.GluDyIdeal.nD Cert.GluDyIdeal.τ).loc Cert.GluDyIdeal.main_arg0)) (m ((c.tc : Thread Cert.GluDyIdeal.nD Cert.GluDyIdeal.τ).loc Cert.GluDyIdeal.main_arg1)) (m ((c.tc : Thread Cert.GluDyIdeal.nD Cert.GluDyIdeal.τ).loc Cert.GluDyIdeal.main_arg2))) = (fun _ => 1#1)

def Pre_GluDyRefIdeal (m : (ℓ : Loc Cert.GluDyRefIdeal.nD Cert.GluDyRefIdeal.τ Cert.GluDyRefIdeal.sig) → Buf (Elt Ideal) ℓ) : Prop :=
  True

def Pre_GluDyRefIdeal_finite_dy [hPre_finite_dy : Cert.Pre_finite_dy.Facts] (m : (ℓ : Loc Cert.GluDyRefIdeal.nD Cert.GluDyRefIdeal.τ Cert.GluDyRefIdeal.sig) → Buf (Elt Ideal) ℓ) : Prop :=
  ∀ c : Dev Cert.GluDyRefIdeal.nD,
    (Cert.Pre_finite_dy.fn (F := Ideal) (m ((c.tc : Thread Cert.GluDyRefIdeal.nD Cert.GluDyRefIdeal.τ).loc Cert.GluDyRefIdeal.main_arg0)) (m ((c.tc : Thread Cert.GluDyRefIdeal.nD Cert.GluDyRefIdeal.τ).loc Cert.GluDyRefIdeal.main_arg1)) (m ((c.tc : Thread Cert.GluDyRefIdeal.nD Cert.GluDyRefIdeal.τ).loc Cert.GluDyRefIdeal.main_arg2))) = (fun _ => 1#1)

def Pre_MlpDa (m : (ℓ : Loc Cert.MlpDa.nD Cert.MlpDa.τ Cert.MlpDa.sig) → Buf (Elt Bits) ℓ) : Prop :=
  True

def Pre_MlpDaIdeal (m : (ℓ : Loc Cert.MlpDaIdeal.nD Cert.MlpDaIdeal.τ Cert.MlpDaIdeal.sig) → Buf (Elt Ideal) ℓ) : Prop :=
  True

def Pre_MlpDaRefIdeal (m : (ℓ : Loc Cert.MlpDaRefIdeal.nD Cert.MlpDaRefIdeal.τ Cert.MlpDaRefIdeal.sig) → Buf (Elt Ideal) ℓ) : Prop :=
  True

def Pre_KvCombine (m : (ℓ : Loc Cert.KvCombine.nD Cert.KvCombine.τ Cert.KvCombine.sig) → Buf (Elt Bits) ℓ) : Prop :=
  True

def Pre_KvCombineIdeal (m : (ℓ : Loc Cert.KvCombineIdeal.nD Cert.KvCombineIdeal.τ Cert.KvCombineIdeal.sig) → Buf (Elt Ideal) ℓ) : Prop :=
  True

def Pre_KvCombineRefIdeal (m : (ℓ : Loc Cert.KvCombineRefIdeal.nD Cert.KvCombineRefIdeal.τ Cert.KvCombineRefIdeal.sig) → Buf (Elt Ideal) ℓ) : Prop :=
  True

def Pre_MlpDn (m : (ℓ : Loc Cert.MlpDn.nD Cert.MlpDn.τ Cert.MlpDn.sig) → Buf (Elt Bits) ℓ) : Prop :=
  True

def Pre_MlpDnIdeal (m : (ℓ : Loc Cert.MlpDnIdeal.nD Cert.MlpDnIdeal.τ Cert.MlpDnIdeal.sig) → Buf (Elt Ideal) ℓ) : Prop :=
  True

def Pre_MlpDnIdeal_finite_mlpdn [hPre_finite_mlpdn : Cert.Pre_finite_mlpdn.Facts] (m : (ℓ : Loc Cert.MlpDnIdeal.nD Cert.MlpDnIdeal.τ Cert.MlpDnIdeal.sig) → Buf (Elt Ideal) ℓ) : Prop :=
  ∀ c : Dev Cert.MlpDnIdeal.nD,
    (Cert.Pre_finite_mlpdn.fn (F := Ideal) (m ((c.tc : Thread Cert.MlpDnIdeal.nD Cert.MlpDnIdeal.τ).loc Cert.MlpDnIdeal.main_arg0)) (m ((c.tc : Thread Cert.MlpDnIdeal.nD Cert.MlpDnIdeal.τ).loc Cert.MlpDnIdeal.main_arg1)) (m ((c.tc : Thread Cert.MlpDnIdeal.nD Cert.MlpDnIdeal.τ).loc Cert.MlpDnIdeal.main_arg2)) (m ((c.tc : Thread Cert.MlpDnIdeal.nD Cert.MlpDnIdeal.τ).loc Cert.MlpDnIdeal.main_arg3)) (m ((c.tc : Thread Cert.MlpDnIdeal.nD Cert.MlpDnIdeal.τ).loc Cert.MlpDnIdeal.main_arg4)) (m ((c.tc : Thread Cert.MlpDnIdeal.nD Cert.MlpDnIdeal.τ).loc Cert.MlpDnIdeal.main_arg5))) = (fun _ => 1#1)

def Pre_MlpDnRefIdeal (m : (ℓ : Loc Cert.MlpDnRefIdeal.nD Cert.MlpDnRefIdeal.τ Cert.MlpDnRefIdeal.sig) → Buf (Elt Ideal) ℓ) : Prop :=
  True

def Pre_MlpDnRefIdeal_finite_mlpdn [hPre_finite_mlpdn : Cert.Pre_finite_mlpdn.Facts] (m : (ℓ : Loc Cert.MlpDnRefIdeal.nD Cert.MlpDnRefIdeal.τ Cert.MlpDnRefIdeal.sig) → Buf (Elt Ideal) ℓ) : Prop :=
  ∀ c : Dev Cert.MlpDnRefIdeal.nD,
    (Cert.Pre_finite_mlpdn.fn (F := Ideal) (m ((c.tc : Thread Cert.MlpDnRefIdeal.nD Cert.MlpDnRefIdeal.τ).loc Cert.MlpDnRefIdeal.main_arg0)) (m ((c.tc : Thread Cert.MlpDnRefIdeal.nD Cert.MlpDnRefIdeal.τ).loc Cert.MlpDnRefIdeal.main_arg1)) (m ((c.tc : Thread Cert.MlpDnRefIdeal.nD Cert.MlpDnRefIdeal.τ).loc Cert.MlpDnRefIdeal.main_arg2)) (m ((c.tc : Thread Cert.MlpDnRefIdeal.nD Cert.MlpDnRefIdeal.τ).loc Cert.MlpDnRefIdeal.main_arg3)) (m ((c.tc : Thread Cert.MlpDnRefIdeal.nD Cert.MlpDnRefIdeal.τ).loc Cert.MlpDnRefIdeal.main_arg4)) (m ((c.tc : Thread Cert.MlpDnRefIdeal.nD Cert.MlpDnRefIdeal.τ).loc Cert.MlpDnRefIdeal.main_arg5))) = (fun _ => 1#1)

def Pre_AttnDn (m : (ℓ : Loc Cert.AttnDn.nD Cert.AttnDn.τ Cert.AttnDn.sig) → Buf (Elt Bits) ℓ) : Prop :=
  True

def Pre_AttnDnIdeal (m : (ℓ : Loc Cert.AttnDnIdeal.nD Cert.AttnDnIdeal.τ Cert.AttnDnIdeal.sig) → Buf (Elt Ideal) ℓ) : Prop :=
  True

def Pre_AttnDnIdeal_finite_attndn [hPre_finite_attndn : Cert.Pre_finite_attndn.Facts] (m : (ℓ : Loc Cert.AttnDnIdeal.nD Cert.AttnDnIdeal.τ Cert.AttnDnIdeal.sig) → Buf (Elt Ideal) ℓ) : Prop :=
  ∀ c : Dev Cert.AttnDnIdeal.nD,
    (Cert.Pre_finite_attndn.fn (F := Ideal) (m ((c.tc : Thread Cert.AttnDnIdeal.nD Cert.AttnDnIdeal.τ).loc Cert.AttnDnIdeal.main_arg0)) (m ((c.tc : Thread Cert.AttnDnIdeal.nD Cert.AttnDnIdeal.τ).loc Cert.AttnDnIdeal.main_arg1)) (m ((c.tc : Thread Cert.AttnDnIdeal.nD Cert.AttnDnIdeal.τ).loc Cert.AttnDnIdeal.main_arg2)) (m ((c.tc : Thread Cert.AttnDnIdeal.nD Cert.AttnDnIdeal.τ).loc Cert.AttnDnIdeal.main_arg3)) (m ((c.tc : Thread Cert.AttnDnIdeal.nD Cert.AttnDnIdeal.τ).loc Cert.AttnDnIdeal.main_arg4)) (m ((c.tc : Thread Cert.AttnDnIdeal.nD Cert.AttnDnIdeal.τ).loc Cert.AttnDnIdeal.main_arg5)) (m ((c.tc : Thread Cert.AttnDnIdeal.nD Cert.AttnDnIdeal.τ).loc Cert.AttnDnIdeal.main_arg6)) (m ((c.tc : Thread Cert.AttnDnIdeal.nD Cert.AttnDnIdeal.τ).loc Cert.AttnDnIdeal.main_arg7))) = (fun _ => 1#1)

def Pre_AttnDnRefIdeal (m : (ℓ : Loc Cert.AttnDnRefIdeal.nD Cert.AttnDnRefIdeal.τ Cert.AttnDnRefIdeal.sig) → Buf (Elt Ideal) ℓ) : Prop :=
  True

def Pre_AttnDnRefIdeal_finite_attndn [hPre_finite_attndn : Cert.Pre_finite_attndn.Facts] (m : (ℓ : Loc Cert.AttnDnRefIdeal.nD Cert.AttnDnRefIdeal.τ Cert.AttnDnRefIdeal.sig) → Buf (Elt Ideal) ℓ) : Prop :=
  ∀ c : Dev Cert.AttnDnRefIdeal.nD,
    (Cert.Pre_finite_attndn.fn (F := Ideal) (m ((c.tc : Thread Cert.AttnDnRefIdeal.nD Cert.AttnDnRefIdeal.τ).loc Cert.AttnDnRefIdeal.main_arg0)) (m ((c.tc : Thread Cert.AttnDnRefIdeal.nD Cert.AttnDnRefIdeal.τ).loc Cert.AttnDnRefIdeal.main_arg1)) (m ((c.tc : Thread Cert.AttnDnRefIdeal.nD Cert.AttnDnRefIdeal.τ).loc Cert.AttnDnRefIdeal.main_arg2)) (m ((c.tc : Thread Cert.AttnDnRefIdeal.nD Cert.AttnDnRefIdeal.τ).loc Cert.AttnDnRefIdeal.main_arg3)) (m ((c.tc : Thread Cert.AttnDnRefIdeal.nD Cert.AttnDnRefIdeal.τ).loc Cert.AttnDnRefIdeal.main_arg4)) (m ((c.tc : Thread Cert.AttnDnRefIdeal.nD Cert.AttnDnRefIdeal.τ).loc Cert.AttnDnRefIdeal.main_arg5)) (m ((c.tc : Thread Cert.AttnDnRefIdeal.nD Cert.AttnDnRefIdeal.τ).loc Cert.AttnDnRefIdeal.main_arg6)) (m ((c.tc : Thread Cert.AttnDnRefIdeal.nD Cert.AttnDnRefIdeal.τ).loc Cert.AttnDnRefIdeal.main_arg7))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_finite_loss [hPre_finite_loss : Cert.Pre_finite_loss.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_finite_loss.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_S5Param (m : (ℓ : Loc Cert.S5Param.nD Cert.S5Param.τ Cert.S5Param.sig) → Buf (Elt Bits) ℓ) : Prop :=
  True

def Pre_S5ParamIdeal (m : (ℓ : Loc Cert.S5ParamIdeal.nD Cert.S5ParamIdeal.τ Cert.S5ParamIdeal.sig) → Buf (Elt Ideal) ℓ) : Prop :=
  True

def Pre_S5ParamIdeal_finite_pbwd [hPre_finite_pbwd : Cert.Pre_finite_pbwd.Facts] (m : (ℓ : Loc Cert.S5ParamIdeal.nD Cert.S5ParamIdeal.τ Cert.S5ParamIdeal.sig) → Buf (Elt Ideal) ℓ) : Prop :=
  ∀ c : Dev Cert.S5ParamIdeal.nD,
    (Cert.Pre_finite_pbwd.fn (F := Ideal) (m ((c.tc : Thread Cert.S5ParamIdeal.nD Cert.S5ParamIdeal.τ).loc Cert.S5ParamIdeal.main_arg0)) (m ((c.tc : Thread Cert.S5ParamIdeal.nD Cert.S5ParamIdeal.τ).loc Cert.S5ParamIdeal.main_arg1)) (m ((c.tc : Thread Cert.S5ParamIdeal.nD Cert.S5ParamIdeal.τ).loc Cert.S5ParamIdeal.main_arg2)) (m ((c.tc : Thread Cert.S5ParamIdeal.nD Cert.S5ParamIdeal.τ).loc Cert.S5ParamIdeal.main_arg3)) (m ((c.tc : Thread Cert.S5ParamIdeal.nD Cert.S5ParamIdeal.τ).loc Cert.S5ParamIdeal.main_arg4)) (m ((c.tc : Thread Cert.S5ParamIdeal.nD Cert.S5ParamIdeal.τ).loc Cert.S5ParamIdeal.main_arg5)) (m ((c.tc : Thread Cert.S5ParamIdeal.nD Cert.S5ParamIdeal.τ).loc Cert.S5ParamIdeal.main_arg6)) (m ((c.tc : Thread Cert.S5ParamIdeal.nD Cert.S5ParamIdeal.τ).loc Cert.S5ParamIdeal.main_arg7)) (m ((c.tc : Thread Cert.S5ParamIdeal.nD Cert.S5ParamIdeal.τ).loc Cert.S5ParamIdeal.main_arg8)) (m ((c.tc : Thread Cert.S5ParamIdeal.nD Cert.S5ParamIdeal.τ).loc Cert.S5ParamIdeal.main_arg9)) (m ((c.tc : Thread Cert.S5ParamIdeal.nD Cert.S5ParamIdeal.τ).loc Cert.S5ParamIdeal.main_arg10)) (m ((c.tc : Thread Cert.S5ParamIdeal.nD Cert.S5ParamIdeal.τ).loc Cert.S5ParamIdeal.main_arg11)) (m ((c.tc : Thread Cert.S5ParamIdeal.nD Cert.S5ParamIdeal.τ).loc Cert.S5ParamIdeal.main_arg12))) = (fun _ => 1#1)

def Pre_S5ParamRefIdeal (m : (ℓ : Loc Cert.S5ParamRefIdeal.nD Cert.S5ParamRefIdeal.τ Cert.S5ParamRefIdeal.sig) → Buf (Elt Ideal) ℓ) : Prop :=
  True

def Pre_S5ParamRefIdeal_finite_pbwd [hPre_finite_pbwd : Cert.Pre_finite_pbwd.Facts] (m : (ℓ : Loc Cert.S5ParamRefIdeal.nD Cert.S5ParamRefIdeal.τ Cert.S5ParamRefIdeal.sig) → Buf (Elt Ideal) ℓ) : Prop :=
  ∀ c : Dev Cert.S5ParamRefIdeal.nD,
    (Cert.Pre_finite_pbwd.fn (F := Ideal) (m ((c.tc : Thread Cert.S5ParamRefIdeal.nD Cert.S5ParamRefIdeal.τ).loc Cert.S5ParamRefIdeal.main_arg0)) (m ((c.tc : Thread Cert.S5ParamRefIdeal.nD Cert.S5ParamRefIdeal.τ).loc Cert.S5ParamRefIdeal.main_arg1)) (m ((c.tc : Thread Cert.S5ParamRefIdeal.nD Cert.S5ParamRefIdeal.τ).loc Cert.S5ParamRefIdeal.main_arg2)) (m ((c.tc : Thread Cert.S5ParamRefIdeal.nD Cert.S5ParamRefIdeal.τ).loc Cert.S5ParamRefIdeal.main_arg3)) (m ((c.tc : Thread Cert.S5ParamRefIdeal.nD Cert.S5ParamRefIdeal.τ).loc Cert.S5ParamRefIdeal.main_arg4)) (m ((c.tc : Thread Cert.S5ParamRefIdeal.nD Cert.S5ParamRefIdeal.τ).loc Cert.S5ParamRefIdeal.main_arg5)) (m ((c.tc : Thread Cert.S5ParamRefIdeal.nD Cert.S5ParamRefIdeal.τ).loc Cert.S5ParamRefIdeal.main_arg6)) (m ((c.tc : Thread Cert.S5ParamRefIdeal.nD Cert.S5ParamRefIdeal.τ).loc Cert.S5ParamRefIdeal.main_arg7)) (m ((c.tc : Thread Cert.S5ParamRefIdeal.nD Cert.S5ParamRefIdeal.τ).loc Cert.S5ParamRefIdeal.main_arg8)) (m ((c.tc : Thread Cert.S5ParamRefIdeal.nD Cert.S5ParamRefIdeal.τ).loc Cert.S5ParamRefIdeal.main_arg9)) (m ((c.tc : Thread Cert.S5ParamRefIdeal.nD Cert.S5ParamRefIdeal.τ).loc Cert.S5ParamRefIdeal.main_arg10)) (m ((c.tc : Thread Cert.S5ParamRefIdeal.nD Cert.S5ParamRefIdeal.τ).loc Cert.S5ParamRefIdeal.main_arg11)) (m ((c.tc : Thread Cert.S5ParamRefIdeal.nD Cert.S5ParamRefIdeal.τ).loc Cert.S5ParamRefIdeal.main_arg12))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnf [hPre_finite_attnf : Cert.Pre_finite_attnf.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnf.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnf [hPre_finite_attnf : Cert.Pre_finite_attnf.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnf.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_S5Prep (m : (ℓ : Loc Cert.S5Prep.nD Cert.S5Prep.τ Cert.S5Prep.sig) → Buf (Elt Bits) ℓ) : Prop :=
  True

def Pre_S5PrepIdeal (m : (ℓ : Loc Cert.S5PrepIdeal.nD Cert.S5PrepIdeal.τ Cert.S5PrepIdeal.sig) → Buf (Elt Ideal) ℓ) : Prop :=
  True

def Pre_S5PrepRefIdeal (m : (ℓ : Loc Cert.S5PrepRefIdeal.nD Cert.S5PrepRefIdeal.τ Cert.S5PrepRefIdeal.sig) → Buf (Elt Ideal) ℓ) : Prop :=
  True

def Pre_S5Compact (m : (ℓ : Loc Cert.S5Compact.nD Cert.S5Compact.τ Cert.S5Compact.sig) → Buf (Elt Bits) ℓ) : Prop :=
  True

def Pre_S5CompactIdeal (m : (ℓ : Loc Cert.S5CompactIdeal.nD Cert.S5CompactIdeal.τ Cert.S5CompactIdeal.sig) → Buf (Elt Ideal) ℓ) : Prop :=
  True

def Pre_S5CompactRefIdeal (m : (ℓ : Loc Cert.S5CompactRefIdeal.nD Cert.S5CompactRefIdeal.τ Cert.S5CompactRefIdeal.sig) → Buf (Elt Ideal) ℓ) : Prop :=
  True

def Pre_MlpDw (m : (ℓ : Loc Cert.MlpDw.nD Cert.MlpDw.τ Cert.MlpDw.sig) → Buf (Elt Bits) ℓ) : Prop :=
  True

def Pre_MlpDwIdeal (m : (ℓ : Loc Cert.MlpDwIdeal.nD Cert.MlpDwIdeal.τ Cert.MlpDwIdeal.sig) → Buf (Elt Ideal) ℓ) : Prop :=
  True

def Pre_MlpDwRefIdeal (m : (ℓ : Loc Cert.MlpDwRefIdeal.nD Cert.MlpDwRefIdeal.τ Cert.MlpDwRefIdeal.sig) → Buf (Elt Ideal) ℓ) : Prop :=
  True

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3))
      ∧ r.2.sem = fun _ => 0)

def quiescent_GluDy [hGluDy : Cert.GluDy.Facts] : Prop :=
  ∀ (m : (ℓ : Loc Cert.GluDy.nD Cert.GluDy.τ Cert.GluDy.sig) → Buf (Elt Bits) ℓ) (g : Dev Cert.GluDy.nD → PrngReg), Pre_GluDy m →
    θ_run (Cert.GluDy.defs (F := Bits)) (onTc (τ := Cert.GluDy.τ) (Cert.GluDy.main (F := Bits))) ⟨m, fun _ => 0, g⟩ (fun r => (∀ c : Dev Cert.GluDy.nD,
      r.2.mem ((c.tc : Thread Cert.GluDy.nD Cert.GluDy.τ).loc Cert.GluDy.main_arg0) = m ((c.tc : Thread Cert.GluDy.nD Cert.GluDy.τ).loc Cert.GluDy.main_arg0)
      ∧ r.2.mem ((c.tc : Thread Cert.GluDy.nD Cert.GluDy.τ).loc Cert.GluDy.main_arg1) = m ((c.tc : Thread Cert.GluDy.nD Cert.GluDy.τ).loc Cert.GluDy.main_arg1)
      ∧ r.2.mem ((c.tc : Thread Cert.GluDy.nD Cert.GluDy.τ).loc Cert.GluDy.main_arg2) = m ((c.tc : Thread Cert.GluDy.nD Cert.GluDy.τ).loc Cert.GluDy.main_arg2))
      ∧ r.2.sem = fun _ => 0)

def quiescent_GluDyIdeal [hGluDyIdeal : Cert.GluDyIdeal.Facts] : Prop :=
  ∀ (m : (ℓ : Loc Cert.GluDyIdeal.nD Cert.GluDyIdeal.τ Cert.GluDyIdeal.sig) → Buf (Elt Ideal) ℓ) (g : Dev Cert.GluDyIdeal.nD → PrngReg), Pre_GluDyIdeal m →
    θ_run (Cert.GluDyIdeal.defs (F := Ideal)) (onTc (τ := Cert.GluDyIdeal.τ) (Cert.GluDyIdeal.main (F := Ideal))) ⟨m, fun _ => 0, g⟩ (fun r => (∀ c : Dev Cert.GluDyIdeal.nD,
      r.2.mem ((c.tc : Thread Cert.GluDyIdeal.nD Cert.GluDyIdeal.τ).loc Cert.GluDyIdeal.main_arg0) = m ((c.tc : Thread Cert.GluDyIdeal.nD Cert.GluDyIdeal.τ).loc Cert.GluDyIdeal.main_arg0)
      ∧ r.2.mem ((c.tc : Thread Cert.GluDyIdeal.nD Cert.GluDyIdeal.τ).loc Cert.GluDyIdeal.main_arg1) = m ((c.tc : Thread Cert.GluDyIdeal.nD Cert.GluDyIdeal.τ).loc Cert.GluDyIdeal.main_arg1)
      ∧ r.2.mem ((c.tc : Thread Cert.GluDyIdeal.nD Cert.GluDyIdeal.τ).loc Cert.GluDyIdeal.main_arg2) = m ((c.tc : Thread Cert.GluDyIdeal.nD Cert.GluDyIdeal.τ).loc Cert.GluDyIdeal.main_arg2))
      ∧ r.2.sem = fun _ => 0)

def quiescent_GluDyIdeal_pre_finite_dy [hGluDyIdeal : Cert.GluDyIdeal.Facts] [hPre_finite_dy : Cert.Pre_finite_dy.Facts] : Prop :=
  ∀ (m : (ℓ : Loc Cert.GluDyIdeal.nD Cert.GluDyIdeal.τ Cert.GluDyIdeal.sig) → Buf (Elt Ideal) ℓ) (g : Dev Cert.GluDyIdeal.nD → PrngReg), Pre_GluDyIdeal_finite_dy m →
    θ_run (Cert.GluDyIdeal.defs (F := Ideal)) (onTc (τ := Cert.GluDyIdeal.τ) (Cert.GluDyIdeal.main (F := Ideal))) ⟨m, fun _ => 0, g⟩ (fun r => (∀ c : Dev Cert.GluDyIdeal.nD,
      r.2.mem ((c.tc : Thread Cert.GluDyIdeal.nD Cert.GluDyIdeal.τ).loc Cert.GluDyIdeal.main_arg0) = m ((c.tc : Thread Cert.GluDyIdeal.nD Cert.GluDyIdeal.τ).loc Cert.GluDyIdeal.main_arg0)
      ∧ r.2.mem ((c.tc : Thread Cert.GluDyIdeal.nD Cert.GluDyIdeal.τ).loc Cert.GluDyIdeal.main_arg1) = m ((c.tc : Thread Cert.GluDyIdeal.nD Cert.GluDyIdeal.τ).loc Cert.GluDyIdeal.main_arg1)
      ∧ r.2.mem ((c.tc : Thread Cert.GluDyIdeal.nD Cert.GluDyIdeal.τ).loc Cert.GluDyIdeal.main_arg2) = m ((c.tc : Thread Cert.GluDyIdeal.nD Cert.GluDyIdeal.τ).loc Cert.GluDyIdeal.main_arg2))
      ∧ r.2.sem = fun _ => 0)

def quiescent_GluDyRefIdeal [hGluDyRefIdeal : Cert.GluDyRefIdeal.Facts] : Prop :=
  ∀ (m : (ℓ : Loc Cert.GluDyRefIdeal.nD Cert.GluDyRefIdeal.τ Cert.GluDyRefIdeal.sig) → Buf (Elt Ideal) ℓ) (g : Dev Cert.GluDyRefIdeal.nD → PrngReg), Pre_GluDyRefIdeal m →
    θ_run (Cert.GluDyRefIdeal.defs (F := Ideal)) (onTc (τ := Cert.GluDyRefIdeal.τ) (Cert.GluDyRefIdeal.main (F := Ideal))) ⟨m, fun _ => 0, g⟩ (fun r => (∀ c : Dev Cert.GluDyRefIdeal.nD,
      r.2.mem ((c.tc : Thread Cert.GluDyRefIdeal.nD Cert.GluDyRefIdeal.τ).loc Cert.GluDyRefIdeal.main_arg0) = m ((c.tc : Thread Cert.GluDyRefIdeal.nD Cert.GluDyRefIdeal.τ).loc Cert.GluDyRefIdeal.main_arg0)
      ∧ r.2.mem ((c.tc : Thread Cert.GluDyRefIdeal.nD Cert.GluDyRefIdeal.τ).loc Cert.GluDyRefIdeal.main_arg1) = m ((c.tc : Thread Cert.GluDyRefIdeal.nD Cert.GluDyRefIdeal.τ).loc Cert.GluDyRefIdeal.main_arg1)
      ∧ r.2.mem ((c.tc : Thread Cert.GluDyRefIdeal.nD Cert.GluDyRefIdeal.τ).loc Cert.GluDyRefIdeal.main_arg2) = m ((c.tc : Thread Cert.GluDyRefIdeal.nD Cert.GluDyRefIdeal.τ).loc Cert.GluDyRefIdeal.main_arg2))
      ∧ r.2.sem = fun _ => 0)

def quiescent_GluDyRefIdeal_pre_finite_dy [hGluDyRefIdeal : Cert.GluDyRefIdeal.Facts] [hPre_finite_dy : Cert.Pre_finite_dy.Facts] : Prop :=
  ∀ (m : (ℓ : Loc Cert.GluDyRefIdeal.nD Cert.GluDyRefIdeal.τ Cert.GluDyRefIdeal.sig) → Buf (Elt Ideal) ℓ) (g : Dev Cert.GluDyRefIdeal.nD → PrngReg), Pre_GluDyRefIdeal_finite_dy m →
    θ_run (Cert.GluDyRefIdeal.defs (F := Ideal)) (onTc (τ := Cert.GluDyRefIdeal.τ) (Cert.GluDyRefIdeal.main (F := Ideal))) ⟨m, fun _ => 0, g⟩ (fun r => (∀ c : Dev Cert.GluDyRefIdeal.nD,
      r.2.mem ((c.tc : Thread Cert.GluDyRefIdeal.nD Cert.GluDyRefIdeal.τ).loc Cert.GluDyRefIdeal.main_arg0) = m ((c.tc : Thread Cert.GluDyRefIdeal.nD Cert.GluDyRefIdeal.τ).loc Cert.GluDyRefIdeal.main_arg0)
      ∧ r.2.mem ((c.tc : Thread Cert.GluDyRefIdeal.nD Cert.GluDyRefIdeal.τ).loc Cert.GluDyRefIdeal.main_arg1) = m ((c.tc : Thread Cert.GluDyRefIdeal.nD Cert.GluDyRefIdeal.τ).loc Cert.GluDyRefIdeal.main_arg1)
      ∧ r.2.mem ((c.tc : Thread Cert.GluDyRefIdeal.nD Cert.GluDyRefIdeal.τ).loc Cert.GluDyRefIdeal.main_arg2) = m ((c.tc : Thread Cert.GluDyRefIdeal.nD Cert.GluDyRefIdeal.τ).loc Cert.GluDyRefIdeal.main_arg2))
      ∧ r.2.sem = fun _ => 0)

def quiescent_MlpDa [hMlpDa : Cert.MlpDa.Facts] : Prop :=
  ∀ (m : (ℓ : Loc Cert.MlpDa.nD Cert.MlpDa.τ Cert.MlpDa.sig) → Buf (Elt Bits) ℓ) (g : Dev Cert.MlpDa.nD → PrngReg), Pre_MlpDa m →
    θ_run (Cert.MlpDa.defs (F := Bits)) (onTc (τ := Cert.MlpDa.τ) (Cert.MlpDa.main (F := Bits))) ⟨m, fun _ => 0, g⟩ (fun r => (∀ c : Dev Cert.MlpDa.nD,
      r.2.mem ((c.tc : Thread Cert.MlpDa.nD Cert.MlpDa.τ).loc Cert.MlpDa.main_arg0) = m ((c.tc : Thread Cert.MlpDa.nD Cert.MlpDa.τ).loc Cert.MlpDa.main_arg0)
      ∧ r.2.mem ((c.tc : Thread Cert.MlpDa.nD Cert.MlpDa.τ).loc Cert.MlpDa.main_arg1) = m ((c.tc : Thread Cert.MlpDa.nD Cert.MlpDa.τ).loc Cert.MlpDa.main_arg1)
      ∧ r.2.mem ((c.tc : Thread Cert.MlpDa.nD Cert.MlpDa.τ).loc Cert.MlpDa.main_arg2) = m ((c.tc : Thread Cert.MlpDa.nD Cert.MlpDa.τ).loc Cert.MlpDa.main_arg2)
      ∧ r.2.mem ((c.tc : Thread Cert.MlpDa.nD Cert.MlpDa.τ).loc Cert.MlpDa.main_arg3) = m ((c.tc : Thread Cert.MlpDa.nD Cert.MlpDa.τ).loc Cert.MlpDa.main_arg3))
      ∧ r.2.sem = fun _ => 0)

def quiescent_MlpDaIdeal [hMlpDaIdeal : Cert.MlpDaIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg), Pre_MlpDaIdeal m →
    θ_run (Cert.MlpDaIdeal.defs (F := Ideal)) (onTc (τ := Cert.MlpDaIdeal.τ) (Cert.MlpDaIdeal.main (F := Ideal))) ⟨m, fun _ => 0, g⟩ (fun r => (∀ c : Dev Cert.MlpDaIdeal.nD,
      r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
      ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
      ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2)
      ∧ r.2.mem ((c.tc : Thread Cert.MlpDaIdeal.nD Cert.MlpDaIdeal.τ).loc Cert.MlpDaIdeal.main_arg3) = m ((c.tc : Thread Cert.MlpDaIdeal.nD Cert.MlpDaIdeal.τ).loc Cert.MlpDaIdeal.main_arg3))
      ∧ r.2.sem = fun _ => 0)

def quiescent_MlpDaRefIdeal [hMlpDaRefIdeal : Cert.MlpDaRefIdeal.Facts] : Prop :=
  ∀ (m : (ℓ : Loc Cert.MlpDaRefIdeal.nD Cert.MlpDaRefIdeal.τ Cert.MlpDaRefIdeal.sig) → Buf (Elt Ideal) ℓ) (g : Dev Cert.MlpDaRefIdeal.nD → PrngReg), Pre_MlpDaRefIdeal m →
    θ_run (Cert.MlpDaRefIdeal.defs (F := Ideal)) (onTc (τ := Cert.MlpDaRefIdeal.τ) (Cert.MlpDaRefIdeal.main (F := Ideal))) ⟨m, fun _ => 0, g⟩ (fun r => (∀ c : Dev Cert.MlpDaRefIdeal.nD,
      r.2.mem ((c.tc : Thread Cert.MlpDaRefIdeal.nD Cert.MlpDaRefIdeal.τ).loc Cert.MlpDaRefIdeal.main_arg0) = m ((c.tc : Thread Cert.MlpDaRefIdeal.nD Cert.MlpDaRefIdeal.τ).loc Cert.MlpDaRefIdeal.main_arg0)
      ∧ r.2.mem ((c.tc : Thread Cert.MlpDaRefIdeal.nD Cert.MlpDaRefIdeal.τ).loc Cert.MlpDaRefIdeal.main_arg1) = m ((c.tc : Thread Cert.MlpDaRefIdeal.nD Cert.MlpDaRefIdeal.τ).loc Cert.MlpDaRefIdeal.main_arg1)
      ∧ r.2.mem ((c.tc : Thread Cert.MlpDaRefIdeal.nD Cert.MlpDaRefIdeal.τ).loc Cert.MlpDaRefIdeal.main_arg2) = m ((c.tc : Thread Cert.MlpDaRefIdeal.nD Cert.MlpDaRefIdeal.τ).loc Cert.MlpDaRefIdeal.main_arg2)
      ∧ r.2.mem ((c.tc : Thread Cert.MlpDaRefIdeal.nD Cert.MlpDaRefIdeal.τ).loc Cert.MlpDaRefIdeal.main_arg3) = m ((c.tc : Thread Cert.MlpDaRefIdeal.nD Cert.MlpDaRefIdeal.τ).loc Cert.MlpDaRefIdeal.main_arg3))
      ∧ r.2.sem = fun _ => 0)

def quiescent_KvCombine [hKvCombine : Cert.KvCombine.Facts] : Prop :=
  ∀ (m : (ℓ : Loc Cert.KvCombine.nD Cert.KvCombine.τ Cert.KvCombine.sig) → Buf (Elt Bits) ℓ) (g : Dev Cert.KvCombine.nD → PrngReg), Pre_KvCombine m →
    θ_run (Cert.KvCombine.defs (F := Bits)) (onTc (τ := Cert.KvCombine.τ) (Cert.KvCombine.main (F := Bits))) ⟨m, fun _ => 0, g⟩ (fun r => (∀ c : Dev Cert.KvCombine.nD,
      r.2.mem ((c.tc : Thread Cert.KvCombine.nD Cert.KvCombine.τ).loc Cert.KvCombine.main_arg0) = m ((c.tc : Thread Cert.KvCombine.nD Cert.KvCombine.τ).loc Cert.KvCombine.main_arg0)
      ∧ r.2.mem ((c.tc : Thread Cert.KvCombine.nD Cert.KvCombine.τ).loc Cert.KvCombine.main_arg1) = m ((c.tc : Thread Cert.KvCombine.nD Cert.KvCombine.τ).loc Cert.KvCombine.main_arg1))
      ∧ r.2.sem = fun _ => 0)

def quiescent_KvCombineIdeal [hKvCombineIdeal : Cert.KvCombineIdeal.Facts] : Prop :=
  ∀ (m : (ℓ : Loc Cert.KvCombineIdeal.nD Cert.KvCombineIdeal.τ Cert.KvCombineIdeal.sig) → Buf (Elt Ideal) ℓ) (g : Dev Cert.KvCombineIdeal.nD → PrngReg), Pre_KvCombineIdeal m →
    θ_run (Cert.KvCombineIdeal.defs (F := Ideal)) (onTc (τ := Cert.KvCombineIdeal.τ) (Cert.KvCombineIdeal.main (F := Ideal))) ⟨m, fun _ => 0, g⟩ (fun r => (∀ c : Dev Cert.KvCombineIdeal.nD,
      r.2.mem ((c.tc : Thread Cert.KvCombineIdeal.nD Cert.KvCombineIdeal.τ).loc Cert.KvCombineIdeal.main_arg0) = m ((c.tc : Thread Cert.KvCombineIdeal.nD Cert.KvCombineIdeal.τ).loc Cert.KvCombineIdeal.main_arg0)
      ∧ r.2.mem ((c.tc : Thread Cert.KvCombineIdeal.nD Cert.KvCombineIdeal.τ).loc Cert.KvCombineIdeal.main_arg1) = m ((c.tc : Thread Cert.KvCombineIdeal.nD Cert.KvCombineIdeal.τ).loc Cert.KvCombineIdeal.main_arg1))
      ∧ r.2.sem = fun _ => 0)

def quiescent_KvCombineRefIdeal [hKvCombineRefIdeal : Cert.KvCombineRefIdeal.Facts] : Prop :=
  ∀ (m : (ℓ : Loc Cert.KvCombineRefIdeal.nD Cert.KvCombineRefIdeal.τ Cert.KvCombineRefIdeal.sig) → Buf (Elt Ideal) ℓ) (g : Dev Cert.KvCombineRefIdeal.nD → PrngReg), Pre_KvCombineRefIdeal m →
    θ_run (Cert.KvCombineRefIdeal.defs (F := Ideal)) (onTc (τ := Cert.KvCombineRefIdeal.τ) (Cert.KvCombineRefIdeal.main (F := Ideal))) ⟨m, fun _ => 0, g⟩ (fun r => (∀ c : Dev Cert.KvCombineRefIdeal.nD,
      r.2.mem ((c.tc : Thread Cert.KvCombineRefIdeal.nD Cert.KvCombineRefIdeal.τ).loc Cert.KvCombineRefIdeal.main_arg0) = m ((c.tc : Thread Cert.KvCombineRefIdeal.nD Cert.KvCombineRefIdeal.τ).loc Cert.KvCombineRefIdeal.main_arg0)
      ∧ r.2.mem ((c.tc : Thread Cert.KvCombineRefIdeal.nD Cert.KvCombineRefIdeal.τ).loc Cert.KvCombineRefIdeal.main_arg1) = m ((c.tc : Thread Cert.KvCombineRefIdeal.nD Cert.KvCombineRefIdeal.τ).loc Cert.KvCombineRefIdeal.main_arg1))
      ∧ r.2.sem = fun _ => 0)

def quiescent_MlpDn [hMlpDn : Cert.MlpDn.Facts] : Prop :=
  ∀ (m : (ℓ : Loc Cert.MlpDn.nD Cert.MlpDn.τ Cert.MlpDn.sig) → Buf (Elt Bits) ℓ) (g : Dev Cert.MlpDn.nD → PrngReg), Pre_MlpDn m →
    θ_run (Cert.MlpDn.defs (F := Bits)) (onTc (τ := Cert.MlpDn.τ) (Cert.MlpDn.main (F := Bits))) ⟨m, fun _ => 0, g⟩ (fun r => (∀ c : Dev Cert.MlpDn.nD,
      r.2.mem ((c.tc : Thread Cert.MlpDn.nD Cert.MlpDn.τ).loc Cert.MlpDn.main_arg0) = m ((c.tc : Thread Cert.MlpDn.nD Cert.MlpDn.τ).loc Cert.MlpDn.main_arg0)
      ∧ r.2.mem ((c.tc : Thread Cert.MlpDn.nD Cert.MlpDn.τ).loc Cert.MlpDn.main_arg1) = m ((c.tc : Thread Cert.MlpDn.nD Cert.MlpDn.τ).loc Cert.MlpDn.main_arg1)
      ∧ r.2.mem ((c.tc : Thread Cert.MlpDn.nD Cert.MlpDn.τ).loc Cert.MlpDn.main_arg2) = m ((c.tc : Thread Cert.MlpDn.nD Cert.MlpDn.τ).loc Cert.MlpDn.main_arg2)
      ∧ r.2.mem ((c.tc : Thread Cert.MlpDn.nD Cert.MlpDn.τ).loc Cert.MlpDn.main_arg3) = m ((c.tc : Thread Cert.MlpDn.nD Cert.MlpDn.τ).loc Cert.MlpDn.main_arg3)
      ∧ r.2.mem ((c.tc : Thread Cert.MlpDn.nD Cert.MlpDn.τ).loc Cert.MlpDn.main_arg4) = m ((c.tc : Thread Cert.MlpDn.nD Cert.MlpDn.τ).loc Cert.MlpDn.main_arg4)
      ∧ r.2.mem ((c.tc : Thread Cert.MlpDn.nD Cert.MlpDn.τ).loc Cert.MlpDn.main_arg5) = m ((c.tc : Thread Cert.MlpDn.nD Cert.MlpDn.τ).loc Cert.MlpDn.main_arg5))
      ∧ r.2.sem = fun _ => 0)

def quiescent_MlpDnIdeal [hMlpDnIdeal : Cert.MlpDnIdeal.Facts] : Prop :=
  ∀ (m : (ℓ : Loc Cert.MlpDnIdeal.nD Cert.MlpDnIdeal.τ Cert.MlpDnIdeal.sig) → Buf (Elt Ideal) ℓ) (g : Dev Cert.MlpDnIdeal.nD → PrngReg), Pre_MlpDnIdeal m →
    θ_run (Cert.MlpDnIdeal.defs (F := Ideal)) (onTc (τ := Cert.MlpDnIdeal.τ) (Cert.MlpDnIdeal.main (F := Ideal))) ⟨m, fun _ => 0, g⟩ (fun r => (∀ c : Dev Cert.MlpDnIdeal.nD,
      r.2.mem ((c.tc : Thread Cert.MlpDnIdeal.nD Cert.MlpDnIdeal.τ).loc Cert.MlpDnIdeal.main_arg0) = m ((c.tc : Thread Cert.MlpDnIdeal.nD Cert.MlpDnIdeal.τ).loc Cert.MlpDnIdeal.main_arg0)
      ∧ r.2.mem ((c.tc : Thread Cert.MlpDnIdeal.nD Cert.MlpDnIdeal.τ).loc Cert.MlpDnIdeal.main_arg1) = m ((c.tc : Thread Cert.MlpDnIdeal.nD Cert.MlpDnIdeal.τ).loc Cert.MlpDnIdeal.main_arg1)
      ∧ r.2.mem ((c.tc : Thread Cert.MlpDnIdeal.nD Cert.MlpDnIdeal.τ).loc Cert.MlpDnIdeal.main_arg2) = m ((c.tc : Thread Cert.MlpDnIdeal.nD Cert.MlpDnIdeal.τ).loc Cert.MlpDnIdeal.main_arg2)
      ∧ r.2.mem ((c.tc : Thread Cert.MlpDnIdeal.nD Cert.MlpDnIdeal.τ).loc Cert.MlpDnIdeal.main_arg3) = m ((c.tc : Thread Cert.MlpDnIdeal.nD Cert.MlpDnIdeal.τ).loc Cert.MlpDnIdeal.main_arg3)
      ∧ r.2.mem ((c.tc : Thread Cert.MlpDnIdeal.nD Cert.MlpDnIdeal.τ).loc Cert.MlpDnIdeal.main_arg4) = m ((c.tc : Thread Cert.MlpDnIdeal.nD Cert.MlpDnIdeal.τ).loc Cert.MlpDnIdeal.main_arg4)
      ∧ r.2.mem ((c.tc : Thread Cert.MlpDnIdeal.nD Cert.MlpDnIdeal.τ).loc Cert.MlpDnIdeal.main_arg5) = m ((c.tc : Thread Cert.MlpDnIdeal.nD Cert.MlpDnIdeal.τ).loc Cert.MlpDnIdeal.main_arg5))
      ∧ r.2.sem = fun _ => 0)

def quiescent_MlpDnIdeal_pre_finite_mlpdn [hMlpDnIdeal : Cert.MlpDnIdeal.Facts] [hPre_finite_mlpdn : Cert.Pre_finite_mlpdn.Facts] : Prop :=
  ∀ (m : (ℓ : Loc Cert.MlpDnIdeal.nD Cert.MlpDnIdeal.τ Cert.MlpDnIdeal.sig) → Buf (Elt Ideal) ℓ) (g : Dev Cert.MlpDnIdeal.nD → PrngReg), Pre_MlpDnIdeal_finite_mlpdn m →
    θ_run (Cert.MlpDnIdeal.defs (F := Ideal)) (onTc (τ := Cert.MlpDnIdeal.τ) (Cert.MlpDnIdeal.main (F := Ideal))) ⟨m, fun _ => 0, g⟩ (fun r => (∀ c : Dev Cert.MlpDnIdeal.nD,
      r.2.mem ((c.tc : Thread Cert.MlpDnIdeal.nD Cert.MlpDnIdeal.τ).loc Cert.MlpDnIdeal.main_arg0) = m ((c.tc : Thread Cert.MlpDnIdeal.nD Cert.MlpDnIdeal.τ).loc Cert.MlpDnIdeal.main_arg0)
      ∧ r.2.mem ((c.tc : Thread Cert.MlpDnIdeal.nD Cert.MlpDnIdeal.τ).loc Cert.MlpDnIdeal.main_arg1) = m ((c.tc : Thread Cert.MlpDnIdeal.nD Cert.MlpDnIdeal.τ).loc Cert.MlpDnIdeal.main_arg1)
      ∧ r.2.mem ((c.tc : Thread Cert.MlpDnIdeal.nD Cert.MlpDnIdeal.τ).loc Cert.MlpDnIdeal.main_arg2) = m ((c.tc : Thread Cert.MlpDnIdeal.nD Cert.MlpDnIdeal.τ).loc Cert.MlpDnIdeal.main_arg2)
      ∧ r.2.mem ((c.tc : Thread Cert.MlpDnIdeal.nD Cert.MlpDnIdeal.τ).loc Cert.MlpDnIdeal.main_arg3) = m ((c.tc : Thread Cert.MlpDnIdeal.nD Cert.MlpDnIdeal.τ).loc Cert.MlpDnIdeal.main_arg3)
      ∧ r.2.mem ((c.tc : Thread Cert.MlpDnIdeal.nD Cert.MlpDnIdeal.τ).loc Cert.MlpDnIdeal.main_arg4) = m ((c.tc : Thread Cert.MlpDnIdeal.nD Cert.MlpDnIdeal.τ).loc Cert.MlpDnIdeal.main_arg4)
      ∧ r.2.mem ((c.tc : Thread Cert.MlpDnIdeal.nD Cert.MlpDnIdeal.τ).loc Cert.MlpDnIdeal.main_arg5) = m ((c.tc : Thread Cert.MlpDnIdeal.nD Cert.MlpDnIdeal.τ).loc Cert.MlpDnIdeal.main_arg5))
      ∧ r.2.sem = fun _ => 0)

def quiescent_MlpDnRefIdeal [hMlpDnRefIdeal : Cert.MlpDnRefIdeal.Facts] : Prop :=
  ∀ (m : (ℓ : Loc Cert.MlpDnRefIdeal.nD Cert.MlpDnRefIdeal.τ Cert.MlpDnRefIdeal.sig) → Buf (Elt Ideal) ℓ) (g : Dev Cert.MlpDnRefIdeal.nD → PrngReg), Pre_MlpDnRefIdeal m →
    θ_run (Cert.MlpDnRefIdeal.defs (F := Ideal)) (onTc (τ := Cert.MlpDnRefIdeal.τ) (Cert.MlpDnRefIdeal.main (F := Ideal))) ⟨m, fun _ => 0, g⟩ (fun r => (∀ c : Dev Cert.MlpDnRefIdeal.nD,
      r.2.mem ((c.tc : Thread Cert.MlpDnRefIdeal.nD Cert.MlpDnRefIdeal.τ).loc Cert.MlpDnRefIdeal.main_arg0) = m ((c.tc : Thread Cert.MlpDnRefIdeal.nD Cert.MlpDnRefIdeal.τ).loc Cert.MlpDnRefIdeal.main_arg0)
      ∧ r.2.mem ((c.tc : Thread Cert.MlpDnRefIdeal.nD Cert.MlpDnRefIdeal.τ).loc Cert.MlpDnRefIdeal.main_arg1) = m ((c.tc : Thread Cert.MlpDnRefIdeal.nD Cert.MlpDnRefIdeal.τ).loc Cert.MlpDnRefIdeal.main_arg1)
      ∧ r.2.mem ((c.tc : Thread Cert.MlpDnRefIdeal.nD Cert.MlpDnRefIdeal.τ).loc Cert.MlpDnRefIdeal.main_arg2) = m ((c.tc : Thread Cert.MlpDnRefIdeal.nD Cert.MlpDnRefIdeal.τ).loc Cert.MlpDnRefIdeal.main_arg2)
      ∧ r.2.mem ((c.tc : Thread Cert.MlpDnRefIdeal.nD Cert.MlpDnRefIdeal.τ).loc Cert.MlpDnRefIdeal.main_arg3) = m ((c.tc : Thread Cert.MlpDnRefIdeal.nD Cert.MlpDnRefIdeal.τ).loc Cert.MlpDnRefIdeal.main_arg3)
      ∧ r.2.mem ((c.tc : Thread Cert.MlpDnRefIdeal.nD Cert.MlpDnRefIdeal.τ).loc Cert.MlpDnRefIdeal.main_arg4) = m ((c.tc : Thread Cert.MlpDnRefIdeal.nD Cert.MlpDnRefIdeal.τ).loc Cert.MlpDnRefIdeal.main_arg4)
      ∧ r.2.mem ((c.tc : Thread Cert.MlpDnRefIdeal.nD Cert.MlpDnRefIdeal.τ).loc Cert.MlpDnRefIdeal.main_arg5) = m ((c.tc : Thread Cert.MlpDnRefIdeal.nD Cert.MlpDnRefIdeal.τ).loc Cert.MlpDnRefIdeal.main_arg5))
      ∧ r.2.sem = fun _ => 0)

def quiescent_MlpDnRefIdeal_pre_finite_mlpdn [hMlpDnRefIdeal : Cert.MlpDnRefIdeal.Facts] [hPre_finite_mlpdn : Cert.Pre_finite_mlpdn.Facts] : Prop :=
  ∀ (m : (ℓ : Loc Cert.MlpDnRefIdeal.nD Cert.MlpDnRefIdeal.τ Cert.MlpDnRefIdeal.sig) → Buf (Elt Ideal) ℓ) (g : Dev Cert.MlpDnRefIdeal.nD → PrngReg), Pre_MlpDnRefIdeal_finite_mlpdn m →
    θ_run (Cert.MlpDnRefIdeal.defs (F := Ideal)) (onTc (τ := Cert.MlpDnRefIdeal.τ) (Cert.MlpDnRefIdeal.main (F := Ideal))) ⟨m, fun _ => 0, g⟩ (fun r => (∀ c : Dev Cert.MlpDnRefIdeal.nD,
      r.2.mem ((c.tc : Thread Cert.MlpDnRefIdeal.nD Cert.MlpDnRefIdeal.τ).loc Cert.MlpDnRefIdeal.main_arg0) = m ((c.tc : Thread Cert.MlpDnRefIdeal.nD Cert.MlpDnRefIdeal.τ).loc Cert.MlpDnRefIdeal.main_arg0)
      ∧ r.2.mem ((c.tc : Thread Cert.MlpDnRefIdeal.nD Cert.MlpDnRefIdeal.τ).loc Cert.MlpDnRefIdeal.main_arg1) = m ((c.tc : Thread Cert.MlpDnRefIdeal.nD Cert.MlpDnRefIdeal.τ).loc Cert.MlpDnRefIdeal.main_arg1)
      ∧ r.2.mem ((c.tc : Thread Cert.MlpDnRefIdeal.nD Cert.MlpDnRefIdeal.τ).loc Cert.MlpDnRefIdeal.main_arg2) = m ((c.tc : Thread Cert.MlpDnRefIdeal.nD Cert.MlpDnRefIdeal.τ).loc Cert.MlpDnRefIdeal.main_arg2)
      ∧ r.2.mem ((c.tc : Thread Cert.MlpDnRefIdeal.nD Cert.MlpDnRefIdeal.τ).loc Cert.MlpDnRefIdeal.main_arg3) = m ((c.tc : Thread Cert.MlpDnRefIdeal.nD Cert.MlpDnRefIdeal.τ).loc Cert.MlpDnRefIdeal.main_arg3)
      ∧ r.2.mem ((c.tc : Thread Cert.MlpDnRefIdeal.nD Cert.MlpDnRefIdeal.τ).loc Cert.MlpDnRefIdeal.main_arg4) = m ((c.tc : Thread Cert.MlpDnRefIdeal.nD Cert.MlpDnRefIdeal.τ).loc Cert.MlpDnRefIdeal.main_arg4)
      ∧ r.2.mem ((c.tc : Thread Cert.MlpDnRefIdeal.nD Cert.MlpDnRefIdeal.τ).loc Cert.MlpDnRefIdeal.main_arg5) = m ((c.tc : Thread Cert.MlpDnRefIdeal.nD Cert.MlpDnRefIdeal.τ).loc Cert.MlpDnRefIdeal.main_arg5))
      ∧ r.2.sem = fun _ => 0)

def quiescent_AttnDn [hAttnDn : Cert.AttnDn.Facts] : Prop :=
  ∀ (m : (ℓ : Loc Cert.AttnDn.nD Cert.AttnDn.τ Cert.AttnDn.sig) → Buf (Elt Bits) ℓ) (g : Dev Cert.AttnDn.nD → PrngReg), Pre_AttnDn m →
    θ_run (Cert.AttnDn.defs (F := Bits)) (onTc (τ := Cert.AttnDn.τ) (Cert.AttnDn.main (F := Bits))) ⟨m, fun _ => 0, g⟩ (fun r => (∀ c : Dev Cert.AttnDn.nD,
      r.2.mem ((c.tc : Thread Cert.AttnDn.nD Cert.AttnDn.τ).loc Cert.AttnDn.main_arg0) = m ((c.tc : Thread Cert.AttnDn.nD Cert.AttnDn.τ).loc Cert.AttnDn.main_arg0)
      ∧ r.2.mem ((c.tc : Thread Cert.AttnDn.nD Cert.AttnDn.τ).loc Cert.AttnDn.main_arg1) = m ((c.tc : Thread Cert.AttnDn.nD Cert.AttnDn.τ).loc Cert.AttnDn.main_arg1)
      ∧ r.2.mem ((c.tc : Thread Cert.AttnDn.nD Cert.AttnDn.τ).loc Cert.AttnDn.main_arg2) = m ((c.tc : Thread Cert.AttnDn.nD Cert.AttnDn.τ).loc Cert.AttnDn.main_arg2)
      ∧ r.2.mem ((c.tc : Thread Cert.AttnDn.nD Cert.AttnDn.τ).loc Cert.AttnDn.main_arg3) = m ((c.tc : Thread Cert.AttnDn.nD Cert.AttnDn.τ).loc Cert.AttnDn.main_arg3)
      ∧ r.2.mem ((c.tc : Thread Cert.AttnDn.nD Cert.AttnDn.τ).loc Cert.AttnDn.main_arg4) = m ((c.tc : Thread Cert.AttnDn.nD Cert.AttnDn.τ).loc Cert.AttnDn.main_arg4)
      ∧ r.2.mem ((c.tc : Thread Cert.AttnDn.nD Cert.AttnDn.τ).loc Cert.AttnDn.main_arg5) = m ((c.tc : Thread Cert.AttnDn.nD Cert.AttnDn.τ).loc Cert.AttnDn.main_arg5)
      ∧ r.2.mem ((c.tc : Thread Cert.AttnDn.nD Cert.AttnDn.τ).loc Cert.AttnDn.main_arg6) = m ((c.tc : Thread Cert.AttnDn.nD Cert.AttnDn.τ).loc Cert.AttnDn.main_arg6)
      ∧ r.2.mem ((c.tc : Thread Cert.AttnDn.nD Cert.AttnDn.τ).loc Cert.AttnDn.main_arg7) = m ((c.tc : Thread Cert.AttnDn.nD Cert.AttnDn.τ).loc Cert.AttnDn.main_arg7))
      ∧ r.2.sem = fun _ => 0)

def quiescent_AttnDnIdeal [hAttnDnIdeal : Cert.AttnDnIdeal.Facts] : Prop :=
  ∀ (m : (ℓ : Loc Cert.AttnDnIdeal.nD Cert.AttnDnIdeal.τ Cert.AttnDnIdeal.sig) → Buf (Elt Ideal) ℓ) (g : Dev Cert.AttnDnIdeal.nD → PrngReg), Pre_AttnDnIdeal m →
    θ_run (Cert.AttnDnIdeal.defs (F := Ideal)) (onTc (τ := Cert.AttnDnIdeal.τ) (Cert.AttnDnIdeal.main (F := Ideal))) ⟨m, fun _ => 0, g⟩ (fun r => (∀ c : Dev Cert.AttnDnIdeal.nD,
      r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
      ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1)
      ∧ r.2.mem ((c.tc : Thread Cert.AttnDnIdeal.nD Cert.AttnDnIdeal.τ).loc Cert.AttnDnIdeal.main_arg2) = m ((c.tc : Thread Cert.AttnDnIdeal.nD Cert.AttnDnIdeal.τ).loc Cert.AttnDnIdeal.main_arg2)
      ∧ r.2.mem ((c.tc : Thread Cert.AttnDnIdeal.nD Cert.AttnDnIdeal.τ).loc Cert.AttnDnIdeal.main_arg3) = m ((c.tc : Thread Cert.AttnDnIdeal.nD Cert.AttnDnIdeal.τ).loc Cert.AttnDnIdeal.main_arg3)
      ∧ r.2.mem ((c.tc : Thread Cert.AttnDnIdeal.nD Cert.AttnDnIdeal.τ).loc Cert.AttnDnIdeal.main_arg4) = m ((c.tc : Thread Cert.AttnDnIdeal.nD Cert.AttnDnIdeal.τ).loc Cert.AttnDnIdeal.main_arg4)
      ∧ r.2.mem ((c.tc : Thread Cert.AttnDnIdeal.nD Cert.AttnDnIdeal.τ).loc Cert.AttnDnIdeal.main_arg5) = m ((c.tc : Thread Cert.AttnDnIdeal.nD Cert.AttnDnIdeal.τ).loc Cert.AttnDnIdeal.main_arg5)
      ∧ r.2.mem ((c.tc : Thread Cert.AttnDnIdeal.nD Cert.AttnDnIdeal.τ).loc Cert.AttnDnIdeal.main_arg6) = m ((c.tc : Thread Cert.AttnDnIdeal.nD Cert.AttnDnIdeal.τ).loc Cert.AttnDnIdeal.main_arg6)
      ∧ r.2.mem ((c.tc : Thread Cert.AttnDnIdeal.nD Cert.AttnDnIdeal.τ).loc Cert.AttnDnIdeal.main_arg7) = m ((c.tc : Thread Cert.AttnDnIdeal.nD Cert.AttnDnIdeal.τ).loc Cert.AttnDnIdeal.main_arg7))
      ∧ r.2.sem = fun _ => 0)

def quiescent_AttnDnIdeal_pre_finite_attndn [hAttnDnIdeal : Cert.AttnDnIdeal.Facts] [hPre_finite_attndn : Cert.Pre_finite_attndn.Facts] : Prop :=
  ∀ (m : (ℓ : Loc Cert.AttnDnIdeal.nD Cert.AttnDnIdeal.τ Cert.AttnDnIdeal.sig) → Buf (Elt Ideal) ℓ) (g : Dev Cert.AttnDnIdeal.nD → PrngReg), Pre_AttnDnIdeal_finite_attndn m →
    θ_run (Cert.AttnDnIdeal.defs (F := Ideal)) (onTc (τ := Cert.AttnDnIdeal.τ) (Cert.AttnDnIdeal.main (F := Ideal))) ⟨m, fun _ => 0, g⟩ (fun r => (∀ c : Dev Cert.AttnDnIdeal.nD,
      r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
      ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1)
      ∧ r.2.mem ((c.tc : Thread Cert.AttnDnIdeal.nD Cert.AttnDnIdeal.τ).loc Cert.AttnDnIdeal.main_arg2) = m ((c.tc : Thread Cert.AttnDnIdeal.nD Cert.AttnDnIdeal.τ).loc Cert.AttnDnIdeal.main_arg2)
      ∧ r.2.mem ((c.tc : Thread Cert.AttnDnIdeal.nD Cert.AttnDnIdeal.τ).loc Cert.AttnDnIdeal.main_arg3) = m ((c.tc : Thread Cert.AttnDnIdeal.nD Cert.AttnDnIdeal.τ).loc Cert.AttnDnIdeal.main_arg3)
      ∧ r.2.mem ((c.tc : Thread Cert.AttnDnIdeal.nD Cert.AttnDnIdeal.τ).loc Cert.AttnDnIdeal.main_arg4) = m ((c.tc : Thread Cert.AttnDnIdeal.nD Cert.AttnDnIdeal.τ).loc Cert.AttnDnIdeal.main_arg4)
      ∧ r.2.mem ((c.tc : Thread Cert.AttnDnIdeal.nD Cert.AttnDnIdeal.τ).loc Cert.AttnDnIdeal.main_arg5) = m ((c.tc : Thread Cert.AttnDnIdeal.nD Cert.AttnDnIdeal.τ).loc Cert.AttnDnIdeal.main_arg5)
      ∧ r.2.mem ((c.tc : Thread Cert.AttnDnIdeal.nD Cert.AttnDnIdeal.τ).loc Cert.AttnDnIdeal.main_arg6) = m ((c.tc : Thread Cert.AttnDnIdeal.nD Cert.AttnDnIdeal.τ).loc Cert.AttnDnIdeal.main_arg6)
      ∧ r.2.mem ((c.tc : Thread Cert.AttnDnIdeal.nD Cert.AttnDnIdeal.τ).loc Cert.AttnDnIdeal.main_arg7) = m ((c.tc : Thread Cert.AttnDnIdeal.nD Cert.AttnDnIdeal.τ).loc Cert.AttnDnIdeal.main_arg7))
      ∧ r.2.sem = fun _ => 0)

def quiescent_AttnDnRefIdeal [hAttnDnRefIdeal : Cert.AttnDnRefIdeal.Facts] : Prop :=
  ∀ (m : (ℓ : Loc Cert.AttnDnRefIdeal.nD Cert.AttnDnRefIdeal.τ Cert.AttnDnRefIdeal.sig) → Buf (Elt Ideal) ℓ) (g : Dev Cert.AttnDnRefIdeal.nD → PrngReg), Pre_AttnDnRefIdeal m →
    θ_run (Cert.AttnDnRefIdeal.defs (F := Ideal)) (onTc (τ := Cert.AttnDnRefIdeal.τ) (Cert.AttnDnRefIdeal.main (F := Ideal))) ⟨m, fun _ => 0, g⟩ (fun r => (∀ c : Dev Cert.AttnDnRefIdeal.nD,
      r.2.mem ((c.tc : Thread Cert.AttnDnRefIdeal.nD Cert.AttnDnRefIdeal.τ).loc Cert.AttnDnRefIdeal.main_arg0) = m ((c.tc : Thread Cert.AttnDnRefIdeal.nD Cert.AttnDnRefIdeal.τ).loc Cert.AttnDnRefIdeal.main_arg0)
      ∧ r.2.mem ((c.tc : Thread Cert.AttnDnRefIdeal.nD Cert.AttnDnRefIdeal.τ).loc Cert.AttnDnRefIdeal.main_arg1) = m ((c.tc : Thread Cert.AttnDnRefIdeal.nD Cert.AttnDnRefIdeal.τ).loc Cert.AttnDnRefIdeal.main_arg1)
      ∧ r.2.mem ((c.tc : Thread Cert.AttnDnRefIdeal.nD Cert.AttnDnRefIdeal.τ).loc Cert.AttnDnRefIdeal.main_arg2) = m ((c.tc : Thread Cert.AttnDnRefIdeal.nD Cert.AttnDnRefIdeal.τ).loc Cert.AttnDnRefIdeal.main_arg2)
      ∧ r.2.mem ((c.tc : Thread Cert.AttnDnRefIdeal.nD Cert.AttnDnRefIdeal.τ).loc Cert.AttnDnRefIdeal.main_arg3) = m ((c.tc : Thread Cert.AttnDnRefIdeal.nD Cert.AttnDnRefIdeal.τ).loc Cert.AttnDnRefIdeal.main_arg3)
      ∧ r.2.mem ((c.tc : Thread Cert.AttnDnRefIdeal.nD Cert.AttnDnRefIdeal.τ).loc Cert.AttnDnRefIdeal.main_arg4) = m ((c.tc : Thread Cert.AttnDnRefIdeal.nD Cert.AttnDnRefIdeal.τ).loc Cert.AttnDnRefIdeal.main_arg4)
      ∧ r.2.mem ((c.tc : Thread Cert.AttnDnRefIdeal.nD Cert.AttnDnRefIdeal.τ).loc Cert.AttnDnRefIdeal.main_arg5) = m ((c.tc : Thread Cert.AttnDnRefIdeal.nD Cert.AttnDnRefIdeal.τ).loc Cert.AttnDnRefIdeal.main_arg5)
      ∧ r.2.mem ((c.tc : Thread Cert.AttnDnRefIdeal.nD Cert.AttnDnRefIdeal.τ).loc Cert.AttnDnRefIdeal.main_arg6) = m ((c.tc : Thread Cert.AttnDnRefIdeal.nD Cert.AttnDnRefIdeal.τ).loc Cert.AttnDnRefIdeal.main_arg6)
      ∧ r.2.mem ((c.tc : Thread Cert.AttnDnRefIdeal.nD Cert.AttnDnRefIdeal.τ).loc Cert.AttnDnRefIdeal.main_arg7) = m ((c.tc : Thread Cert.AttnDnRefIdeal.nD Cert.AttnDnRefIdeal.τ).loc Cert.AttnDnRefIdeal.main_arg7))
      ∧ r.2.sem = fun _ => 0)

def quiescent_AttnDnRefIdeal_pre_finite_attndn [hAttnDnRefIdeal : Cert.AttnDnRefIdeal.Facts] [hPre_finite_attndn : Cert.Pre_finite_attndn.Facts] : Prop :=
  ∀ (m : (ℓ : Loc Cert.AttnDnRefIdeal.nD Cert.AttnDnRefIdeal.τ Cert.AttnDnRefIdeal.sig) → Buf (Elt Ideal) ℓ) (g : Dev Cert.AttnDnRefIdeal.nD → PrngReg), Pre_AttnDnRefIdeal_finite_attndn m →
    θ_run (Cert.AttnDnRefIdeal.defs (F := Ideal)) (onTc (τ := Cert.AttnDnRefIdeal.τ) (Cert.AttnDnRefIdeal.main (F := Ideal))) ⟨m, fun _ => 0, g⟩ (fun r => (∀ c : Dev Cert.AttnDnRefIdeal.nD,
      r.2.mem ((c.tc : Thread Cert.AttnDnRefIdeal.nD Cert.AttnDnRefIdeal.τ).loc Cert.AttnDnRefIdeal.main_arg0) = m ((c.tc : Thread Cert.AttnDnRefIdeal.nD Cert.AttnDnRefIdeal.τ).loc Cert.AttnDnRefIdeal.main_arg0)
      ∧ r.2.mem ((c.tc : Thread Cert.AttnDnRefIdeal.nD Cert.AttnDnRefIdeal.τ).loc Cert.AttnDnRefIdeal.main_arg1) = m ((c.tc : Thread Cert.AttnDnRefIdeal.nD Cert.AttnDnRefIdeal.τ).loc Cert.AttnDnRefIdeal.main_arg1)
      ∧ r.2.mem ((c.tc : Thread Cert.AttnDnRefIdeal.nD Cert.AttnDnRefIdeal.τ).loc Cert.AttnDnRefIdeal.main_arg2) = m ((c.tc : Thread Cert.AttnDnRefIdeal.nD Cert.AttnDnRefIdeal.τ).loc Cert.AttnDnRefIdeal.main_arg2)
      ∧ r.2.mem ((c.tc : Thread Cert.AttnDnRefIdeal.nD Cert.AttnDnRefIdeal.τ).loc Cert.AttnDnRefIdeal.main_arg3) = m ((c.tc : Thread Cert.AttnDnRefIdeal.nD Cert.AttnDnRefIdeal.τ).loc Cert.AttnDnRefIdeal.main_arg3)
      ∧ r.2.mem ((c.tc : Thread Cert.AttnDnRefIdeal.nD Cert.AttnDnRefIdeal.τ).loc Cert.AttnDnRefIdeal.main_arg4) = m ((c.tc : Thread Cert.AttnDnRefIdeal.nD Cert.AttnDnRefIdeal.τ).loc Cert.AttnDnRefIdeal.main_arg4)
      ∧ r.2.mem ((c.tc : Thread Cert.AttnDnRefIdeal.nD Cert.AttnDnRefIdeal.τ).loc Cert.AttnDnRefIdeal.main_arg5) = m ((c.tc : Thread Cert.AttnDnRefIdeal.nD Cert.AttnDnRefIdeal.τ).loc Cert.AttnDnRefIdeal.main_arg5)
      ∧ r.2.mem ((c.tc : Thread Cert.AttnDnRefIdeal.nD Cert.AttnDnRefIdeal.τ).loc Cert.AttnDnRefIdeal.main_arg6) = m ((c.tc : Thread Cert.AttnDnRefIdeal.nD Cert.AttnDnRefIdeal.τ).loc Cert.AttnDnRefIdeal.main_arg6)
      ∧ r.2.mem ((c.tc : Thread Cert.AttnDnRefIdeal.nD Cert.AttnDnRefIdeal.τ).loc Cert.AttnDnRefIdeal.main_arg7) = m ((c.tc : Thread Cert.AttnDnRefIdeal.nD Cert.AttnDnRefIdeal.τ).loc Cert.AttnDnRefIdeal.main_arg7))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_finite_loss [hLossHeadIdeal : Cert.LossHeadIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_finite_loss m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_S5Param [hS5Param : Cert.S5Param.Facts] : Prop :=
  ∀ (m : (ℓ : Loc Cert.S5Param.nD Cert.S5Param.τ Cert.S5Param.sig) → Buf (Elt Bits) ℓ) (g : Dev Cert.S5Param.nD → PrngReg), Pre_S5Param m →
    θ_run (Cert.S5Param.defs (F := Bits)) (onTc (τ := Cert.S5Param.τ) (Cert.S5Param.main (F := Bits))) ⟨m, fun _ => 0, g⟩ (fun r => (∀ c : Dev Cert.S5Param.nD,
      r.2.mem ((c.tc : Thread Cert.S5Param.nD Cert.S5Param.τ).loc Cert.S5Param.main_arg0) = m ((c.tc : Thread Cert.S5Param.nD Cert.S5Param.τ).loc Cert.S5Param.main_arg0)
      ∧ r.2.mem ((c.tc : Thread Cert.S5Param.nD Cert.S5Param.τ).loc Cert.S5Param.main_arg1) = m ((c.tc : Thread Cert.S5Param.nD Cert.S5Param.τ).loc Cert.S5Param.main_arg1)
      ∧ r.2.mem ((c.tc : Thread Cert.S5Param.nD Cert.S5Param.τ).loc Cert.S5Param.main_arg2) = m ((c.tc : Thread Cert.S5Param.nD Cert.S5Param.τ).loc Cert.S5Param.main_arg2)
      ∧ r.2.mem ((c.tc : Thread Cert.S5Param.nD Cert.S5Param.τ).loc Cert.S5Param.main_arg3) = m ((c.tc : Thread Cert.S5Param.nD Cert.S5Param.τ).loc Cert.S5Param.main_arg3)
      ∧ r.2.mem ((c.tc : Thread Cert.S5Param.nD Cert.S5Param.τ).loc Cert.S5Param.main_arg4) = m ((c.tc : Thread Cert.S5Param.nD Cert.S5Param.τ).loc Cert.S5Param.main_arg4)
      ∧ r.2.mem ((c.tc : Thread Cert.S5Param.nD Cert.S5Param.τ).loc Cert.S5Param.main_arg5) = m ((c.tc : Thread Cert.S5Param.nD Cert.S5Param.τ).loc Cert.S5Param.main_arg5)
      ∧ r.2.mem ((c.tc : Thread Cert.S5Param.nD Cert.S5Param.τ).loc Cert.S5Param.main_arg6) = m ((c.tc : Thread Cert.S5Param.nD Cert.S5Param.τ).loc Cert.S5Param.main_arg6)
      ∧ r.2.mem ((c.tc : Thread Cert.S5Param.nD Cert.S5Param.τ).loc Cert.S5Param.main_arg7) = m ((c.tc : Thread Cert.S5Param.nD Cert.S5Param.τ).loc Cert.S5Param.main_arg7)
      ∧ r.2.mem ((c.tc : Thread Cert.S5Param.nD Cert.S5Param.τ).loc Cert.S5Param.main_arg8) = m ((c.tc : Thread Cert.S5Param.nD Cert.S5Param.τ).loc Cert.S5Param.main_arg8)
      ∧ r.2.mem ((c.tc : Thread Cert.S5Param.nD Cert.S5Param.τ).loc Cert.S5Param.main_arg9) = m ((c.tc : Thread Cert.S5Param.nD Cert.S5Param.τ).loc Cert.S5Param.main_arg9)
      ∧ r.2.mem ((c.tc : Thread Cert.S5Param.nD Cert.S5Param.τ).loc Cert.S5Param.main_arg10) = m ((c.tc : Thread Cert.S5Param.nD Cert.S5Param.τ).loc Cert.S5Param.main_arg10)
      ∧ r.2.mem ((c.tc : Thread Cert.S5Param.nD Cert.S5Param.τ).loc Cert.S5Param.main_arg11) = m ((c.tc : Thread Cert.S5Param.nD Cert.S5Param.τ).loc Cert.S5Param.main_arg11)
      ∧ r.2.mem ((c.tc : Thread Cert.S5Param.nD Cert.S5Param.τ).loc Cert.S5Param.main_arg12) = m ((c.tc : Thread Cert.S5Param.nD Cert.S5Param.τ).loc Cert.S5Param.main_arg12))
      ∧ r.2.sem = fun _ => 0)

def quiescent_S5ParamIdeal [hS5ParamIdeal : Cert.S5ParamIdeal.Facts] : Prop :=
  ∀ (m : (ℓ : Loc Cert.S5ParamIdeal.nD Cert.S5ParamIdeal.τ Cert.S5ParamIdeal.sig) → Buf (Elt Ideal) ℓ) (g : Dev Cert.S5ParamIdeal.nD → PrngReg), Pre_S5ParamIdeal m →
    θ_run (Cert.S5ParamIdeal.defs (F := Ideal)) (onTc (τ := Cert.S5ParamIdeal.τ) (Cert.S5ParamIdeal.main (F := Ideal))) ⟨m, fun _ => 0, g⟩ (fun r => (∀ c : Dev Cert.S5ParamIdeal.nD,
      r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
      ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
      ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2)
      ∧ r.2.mem ((c.tc : Thread Cert.S5ParamIdeal.nD Cert.S5ParamIdeal.τ).loc Cert.S5ParamIdeal.main_arg3) = m ((c.tc : Thread Cert.S5ParamIdeal.nD Cert.S5ParamIdeal.τ).loc Cert.S5ParamIdeal.main_arg3)
      ∧ r.2.mem ((c.tc : Thread Cert.S5ParamIdeal.nD Cert.S5ParamIdeal.τ).loc Cert.S5ParamIdeal.main_arg4) = m ((c.tc : Thread Cert.S5ParamIdeal.nD Cert.S5ParamIdeal.τ).loc Cert.S5ParamIdeal.main_arg4)
      ∧ r.2.mem ((c.tc : Thread Cert.S5ParamIdeal.nD Cert.S5ParamIdeal.τ).loc Cert.S5ParamIdeal.main_arg5) = m ((c.tc : Thread Cert.S5ParamIdeal.nD Cert.S5ParamIdeal.τ).loc Cert.S5ParamIdeal.main_arg5)
      ∧ r.2.mem ((c.tc : Thread Cert.S5ParamIdeal.nD Cert.S5ParamIdeal.τ).loc Cert.S5ParamIdeal.main_arg6) = m ((c.tc : Thread Cert.S5ParamIdeal.nD Cert.S5ParamIdeal.τ).loc Cert.S5ParamIdeal.main_arg6)
      ∧ r.2.mem ((c.tc : Thread Cert.S5ParamIdeal.nD Cert.S5ParamIdeal.τ).loc Cert.S5ParamIdeal.main_arg7) = m ((c.tc : Thread Cert.S5ParamIdeal.nD Cert.S5ParamIdeal.τ).loc Cert.S5ParamIdeal.main_arg7)
      ∧ r.2.mem ((c.tc : Thread Cert.S5ParamIdeal.nD Cert.S5ParamIdeal.τ).loc Cert.S5ParamIdeal.main_arg8) = m ((c.tc : Thread Cert.S5ParamIdeal.nD Cert.S5ParamIdeal.τ).loc Cert.S5ParamIdeal.main_arg8)
      ∧ r.2.mem ((c.tc : Thread Cert.S5ParamIdeal.nD Cert.S5ParamIdeal.τ).loc Cert.S5ParamIdeal.main_arg9) = m ((c.tc : Thread Cert.S5ParamIdeal.nD Cert.S5ParamIdeal.τ).loc Cert.S5ParamIdeal.main_arg9)
      ∧ r.2.mem ((c.tc : Thread Cert.S5ParamIdeal.nD Cert.S5ParamIdeal.τ).loc Cert.S5ParamIdeal.main_arg10) = m ((c.tc : Thread Cert.S5ParamIdeal.nD Cert.S5ParamIdeal.τ).loc Cert.S5ParamIdeal.main_arg10)
      ∧ r.2.mem ((c.tc : Thread Cert.S5ParamIdeal.nD Cert.S5ParamIdeal.τ).loc Cert.S5ParamIdeal.main_arg11) = m ((c.tc : Thread Cert.S5ParamIdeal.nD Cert.S5ParamIdeal.τ).loc Cert.S5ParamIdeal.main_arg11)
      ∧ r.2.mem ((c.tc : Thread Cert.S5ParamIdeal.nD Cert.S5ParamIdeal.τ).loc Cert.S5ParamIdeal.main_arg12) = m ((c.tc : Thread Cert.S5ParamIdeal.nD Cert.S5ParamIdeal.τ).loc Cert.S5ParamIdeal.main_arg12))
      ∧ r.2.sem = fun _ => 0)

def quiescent_S5ParamIdeal_pre_finite_pbwd [hS5ParamIdeal : Cert.S5ParamIdeal.Facts] [hPre_finite_pbwd : Cert.Pre_finite_pbwd.Facts] : Prop :=
  ∀ (m : (ℓ : Loc Cert.S5ParamIdeal.nD Cert.S5ParamIdeal.τ Cert.S5ParamIdeal.sig) → Buf (Elt Ideal) ℓ) (g : Dev Cert.S5ParamIdeal.nD → PrngReg), Pre_S5ParamIdeal_finite_pbwd m →
    θ_run (Cert.S5ParamIdeal.defs (F := Ideal)) (onTc (τ := Cert.S5ParamIdeal.τ) (Cert.S5ParamIdeal.main (F := Ideal))) ⟨m, fun _ => 0, g⟩ (fun r => (∀ c : Dev Cert.S5ParamIdeal.nD,
      r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
      ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
      ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2)
      ∧ r.2.mem ((c.tc : Thread Cert.S5ParamIdeal.nD Cert.S5ParamIdeal.τ).loc Cert.S5ParamIdeal.main_arg3) = m ((c.tc : Thread Cert.S5ParamIdeal.nD Cert.S5ParamIdeal.τ).loc Cert.S5ParamIdeal.main_arg3)
      ∧ r.2.mem ((c.tc : Thread Cert.S5ParamIdeal.nD Cert.S5ParamIdeal.τ).loc Cert.S5ParamIdeal.main_arg4) = m ((c.tc : Thread Cert.S5ParamIdeal.nD Cert.S5ParamIdeal.τ).loc Cert.S5ParamIdeal.main_arg4)
      ∧ r.2.mem ((c.tc : Thread Cert.S5ParamIdeal.nD Cert.S5ParamIdeal.τ).loc Cert.S5ParamIdeal.main_arg5) = m ((c.tc : Thread Cert.S5ParamIdeal.nD Cert.S5ParamIdeal.τ).loc Cert.S5ParamIdeal.main_arg5)
      ∧ r.2.mem ((c.tc : Thread Cert.S5ParamIdeal.nD Cert.S5ParamIdeal.τ).loc Cert.S5ParamIdeal.main_arg6) = m ((c.tc : Thread Cert.S5ParamIdeal.nD Cert.S5ParamIdeal.τ).loc Cert.S5ParamIdeal.main_arg6)
      ∧ r.2.mem ((c.tc : Thread Cert.S5ParamIdeal.nD Cert.S5ParamIdeal.τ).loc Cert.S5ParamIdeal.main_arg7) = m ((c.tc : Thread Cert.S5ParamIdeal.nD Cert.S5ParamIdeal.τ).loc Cert.S5ParamIdeal.main_arg7)
      ∧ r.2.mem ((c.tc : Thread Cert.S5ParamIdeal.nD Cert.S5ParamIdeal.τ).loc Cert.S5ParamIdeal.main_arg8) = m ((c.tc : Thread Cert.S5ParamIdeal.nD Cert.S5ParamIdeal.τ).loc Cert.S5ParamIdeal.main_arg8)
      ∧ r.2.mem ((c.tc : Thread Cert.S5ParamIdeal.nD Cert.S5ParamIdeal.τ).loc Cert.S5ParamIdeal.main_arg9) = m ((c.tc : Thread Cert.S5ParamIdeal.nD Cert.S5ParamIdeal.τ).loc Cert.S5ParamIdeal.main_arg9)
      ∧ r.2.mem ((c.tc : Thread Cert.S5ParamIdeal.nD Cert.S5ParamIdeal.τ).loc Cert.S5ParamIdeal.main_arg10) = m ((c.tc : Thread Cert.S5ParamIdeal.nD Cert.S5ParamIdeal.τ).loc Cert.S5ParamIdeal.main_arg10)
      ∧ r.2.mem ((c.tc : Thread Cert.S5ParamIdeal.nD Cert.S5ParamIdeal.τ).loc Cert.S5ParamIdeal.main_arg11) = m ((c.tc : Thread Cert.S5ParamIdeal.nD Cert.S5ParamIdeal.τ).loc Cert.S5ParamIdeal.main_arg11)
      ∧ r.2.mem ((c.tc : Thread Cert.S5ParamIdeal.nD Cert.S5ParamIdeal.τ).loc Cert.S5ParamIdeal.main_arg12) = m ((c.tc : Thread Cert.S5ParamIdeal.nD Cert.S5ParamIdeal.τ).loc Cert.S5ParamIdeal.main_arg12))
      ∧ r.2.sem = fun _ => 0)

def quiescent_S5ParamRefIdeal [hS5ParamRefIdeal : Cert.S5ParamRefIdeal.Facts] : Prop :=
  ∀ (m : (ℓ : Loc Cert.S5ParamRefIdeal.nD Cert.S5ParamRefIdeal.τ Cert.S5ParamRefIdeal.sig) → Buf (Elt Ideal) ℓ) (g : Dev Cert.S5ParamRefIdeal.nD → PrngReg), Pre_S5ParamRefIdeal m →
    θ_run (Cert.S5ParamRefIdeal.defs (F := Ideal)) (onTc (τ := Cert.S5ParamRefIdeal.τ) (Cert.S5ParamRefIdeal.main (F := Ideal))) ⟨m, fun _ => 0, g⟩ (fun r => (∀ c : Dev Cert.S5ParamRefIdeal.nD,
      r.2.mem ((c.tc : Thread Cert.S5ParamRefIdeal.nD Cert.S5ParamRefIdeal.τ).loc Cert.S5ParamRefIdeal.main_arg0) = m ((c.tc : Thread Cert.S5ParamRefIdeal.nD Cert.S5ParamRefIdeal.τ).loc Cert.S5ParamRefIdeal.main_arg0)
      ∧ r.2.mem ((c.tc : Thread Cert.S5ParamRefIdeal.nD Cert.S5ParamRefIdeal.τ).loc Cert.S5ParamRefIdeal.main_arg1) = m ((c.tc : Thread Cert.S5ParamRefIdeal.nD Cert.S5ParamRefIdeal.τ).loc Cert.S5ParamRefIdeal.main_arg1)
      ∧ r.2.mem ((c.tc : Thread Cert.S5ParamRefIdeal.nD Cert.S5ParamRefIdeal.τ).loc Cert.S5ParamRefIdeal.main_arg2) = m ((c.tc : Thread Cert.S5ParamRefIdeal.nD Cert.S5ParamRefIdeal.τ).loc Cert.S5ParamRefIdeal.main_arg2)
      ∧ r.2.mem ((c.tc : Thread Cert.S5ParamRefIdeal.nD Cert.S5ParamRefIdeal.τ).loc Cert.S5ParamRefIdeal.main_arg3) = m ((c.tc : Thread Cert.S5ParamRefIdeal.nD Cert.S5ParamRefIdeal.τ).loc Cert.S5ParamRefIdeal.main_arg3)
      ∧ r.2.mem ((c.tc : Thread Cert.S5ParamRefIdeal.nD Cert.S5ParamRefIdeal.τ).loc Cert.S5ParamRefIdeal.main_arg4) = m ((c.tc : Thread Cert.S5ParamRefIdeal.nD Cert.S5ParamRefIdeal.τ).loc Cert.S5ParamRefIdeal.main_arg4)
      ∧ r.2.mem ((c.tc : Thread Cert.S5ParamRefIdeal.nD Cert.S5ParamRefIdeal.τ).loc Cert.S5ParamRefIdeal.main_arg5) = m ((c.tc : Thread Cert.S5ParamRefIdeal.nD Cert.S5ParamRefIdeal.τ).loc Cert.S5ParamRefIdeal.main_arg5)
      ∧ r.2.mem ((c.tc : Thread Cert.S5ParamRefIdeal.nD Cert.S5ParamRefIdeal.τ).loc Cert.S5ParamRefIdeal.main_arg6) = m ((c.tc : Thread Cert.S5ParamRefIdeal.nD Cert.S5ParamRefIdeal.τ).loc Cert.S5ParamRefIdeal.main_arg6)
      ∧ r.2.mem ((c.tc : Thread Cert.S5ParamRefIdeal.nD Cert.S5ParamRefIdeal.τ).loc Cert.S5ParamRefIdeal.main_arg7) = m ((c.tc : Thread Cert.S5ParamRefIdeal.nD Cert.S5ParamRefIdeal.τ).loc Cert.S5ParamRefIdeal.main_arg7)
      ∧ r.2.mem ((c.tc : Thread Cert.S5ParamRefIdeal.nD Cert.S5ParamRefIdeal.τ).loc Cert.S5ParamRefIdeal.main_arg8) = m ((c.tc : Thread Cert.S5ParamRefIdeal.nD Cert.S5ParamRefIdeal.τ).loc Cert.S5ParamRefIdeal.main_arg8)
      ∧ r.2.mem ((c.tc : Thread Cert.S5ParamRefIdeal.nD Cert.S5ParamRefIdeal.τ).loc Cert.S5ParamRefIdeal.main_arg9) = m ((c.tc : Thread Cert.S5ParamRefIdeal.nD Cert.S5ParamRefIdeal.τ).loc Cert.S5ParamRefIdeal.main_arg9)
      ∧ r.2.mem ((c.tc : Thread Cert.S5ParamRefIdeal.nD Cert.S5ParamRefIdeal.τ).loc Cert.S5ParamRefIdeal.main_arg10) = m ((c.tc : Thread Cert.S5ParamRefIdeal.nD Cert.S5ParamRefIdeal.τ).loc Cert.S5ParamRefIdeal.main_arg10)
      ∧ r.2.mem ((c.tc : Thread Cert.S5ParamRefIdeal.nD Cert.S5ParamRefIdeal.τ).loc Cert.S5ParamRefIdeal.main_arg11) = m ((c.tc : Thread Cert.S5ParamRefIdeal.nD Cert.S5ParamRefIdeal.τ).loc Cert.S5ParamRefIdeal.main_arg11)
      ∧ r.2.mem ((c.tc : Thread Cert.S5ParamRefIdeal.nD Cert.S5ParamRefIdeal.τ).loc Cert.S5ParamRefIdeal.main_arg12) = m ((c.tc : Thread Cert.S5ParamRefIdeal.nD Cert.S5ParamRefIdeal.τ).loc Cert.S5ParamRefIdeal.main_arg12))
      ∧ r.2.sem = fun _ => 0)

def quiescent_S5ParamRefIdeal_pre_finite_pbwd [hS5ParamRefIdeal : Cert.S5ParamRefIdeal.Facts] [hPre_finite_pbwd : Cert.Pre_finite_pbwd.Facts] : Prop :=
  ∀ (m : (ℓ : Loc Cert.S5ParamRefIdeal.nD Cert.S5ParamRefIdeal.τ Cert.S5ParamRefIdeal.sig) → Buf (Elt Ideal) ℓ) (g : Dev Cert.S5ParamRefIdeal.nD → PrngReg), Pre_S5ParamRefIdeal_finite_pbwd m →
    θ_run (Cert.S5ParamRefIdeal.defs (F := Ideal)) (onTc (τ := Cert.S5ParamRefIdeal.τ) (Cert.S5ParamRefIdeal.main (F := Ideal))) ⟨m, fun _ => 0, g⟩ (fun r => (∀ c : Dev Cert.S5ParamRefIdeal.nD,
      r.2.mem ((c.tc : Thread Cert.S5ParamRefIdeal.nD Cert.S5ParamRefIdeal.τ).loc Cert.S5ParamRefIdeal.main_arg0) = m ((c.tc : Thread Cert.S5ParamRefIdeal.nD Cert.S5ParamRefIdeal.τ).loc Cert.S5ParamRefIdeal.main_arg0)
      ∧ r.2.mem ((c.tc : Thread Cert.S5ParamRefIdeal.nD Cert.S5ParamRefIdeal.τ).loc Cert.S5ParamRefIdeal.main_arg1) = m ((c.tc : Thread Cert.S5ParamRefIdeal.nD Cert.S5ParamRefIdeal.τ).loc Cert.S5ParamRefIdeal.main_arg1)
      ∧ r.2.mem ((c.tc : Thread Cert.S5ParamRefIdeal.nD Cert.S5ParamRefIdeal.τ).loc Cert.S5ParamRefIdeal.main_arg2) = m ((c.tc : Thread Cert.S5ParamRefIdeal.nD Cert.S5ParamRefIdeal.τ).loc Cert.S5ParamRefIdeal.main_arg2)
      ∧ r.2.mem ((c.tc : Thread Cert.S5ParamRefIdeal.nD Cert.S5ParamRefIdeal.τ).loc Cert.S5ParamRefIdeal.main_arg3) = m ((c.tc : Thread Cert.S5ParamRefIdeal.nD Cert.S5ParamRefIdeal.τ).loc Cert.S5ParamRefIdeal.main_arg3)
      ∧ r.2.mem ((c.tc : Thread Cert.S5ParamRefIdeal.nD Cert.S5ParamRefIdeal.τ).loc Cert.S5ParamRefIdeal.main_arg4) = m ((c.tc : Thread Cert.S5ParamRefIdeal.nD Cert.S5ParamRefIdeal.τ).loc Cert.S5ParamRefIdeal.main_arg4)
      ∧ r.2.mem ((c.tc : Thread Cert.S5ParamRefIdeal.nD Cert.S5ParamRefIdeal.τ).loc Cert.S5ParamRefIdeal.main_arg5) = m ((c.tc : Thread Cert.S5ParamRefIdeal.nD Cert.S5ParamRefIdeal.τ).loc Cert.S5ParamRefIdeal.main_arg5)
      ∧ r.2.mem ((c.tc : Thread Cert.S5ParamRefIdeal.nD Cert.S5ParamRefIdeal.τ).loc Cert.S5ParamRefIdeal.main_arg6) = m ((c.tc : Thread Cert.S5ParamRefIdeal.nD Cert.S5ParamRefIdeal.τ).loc Cert.S5ParamRefIdeal.main_arg6)
      ∧ r.2.mem ((c.tc : Thread Cert.S5ParamRefIdeal.nD Cert.S5ParamRefIdeal.τ).loc Cert.S5ParamRefIdeal.main_arg7) = m ((c.tc : Thread Cert.S5ParamRefIdeal.nD Cert.S5ParamRefIdeal.τ).loc Cert.S5ParamRefIdeal.main_arg7)
      ∧ r.2.mem ((c.tc : Thread Cert.S5ParamRefIdeal.nD Cert.S5ParamRefIdeal.τ).loc Cert.S5ParamRefIdeal.main_arg8) = m ((c.tc : Thread Cert.S5ParamRefIdeal.nD Cert.S5ParamRefIdeal.τ).loc Cert.S5ParamRefIdeal.main_arg8)
      ∧ r.2.mem ((c.tc : Thread Cert.S5ParamRefIdeal.nD Cert.S5ParamRefIdeal.τ).loc Cert.S5ParamRefIdeal.main_arg9) = m ((c.tc : Thread Cert.S5ParamRefIdeal.nD Cert.S5ParamRefIdeal.τ).loc Cert.S5ParamRefIdeal.main_arg9)
      ∧ r.2.mem ((c.tc : Thread Cert.S5ParamRefIdeal.nD Cert.S5ParamRefIdeal.τ).loc Cert.S5ParamRefIdeal.main_arg10) = m ((c.tc : Thread Cert.S5ParamRefIdeal.nD Cert.S5ParamRefIdeal.τ).loc Cert.S5ParamRefIdeal.main_arg10)
      ∧ r.2.mem ((c.tc : Thread Cert.S5ParamRefIdeal.nD Cert.S5ParamRefIdeal.τ).loc Cert.S5ParamRefIdeal.main_arg11) = m ((c.tc : Thread Cert.S5ParamRefIdeal.nD Cert.S5ParamRefIdeal.τ).loc Cert.S5ParamRefIdeal.main_arg11)
      ∧ r.2.mem ((c.tc : Thread Cert.S5ParamRefIdeal.nD Cert.S5ParamRefIdeal.τ).loc Cert.S5ParamRefIdeal.main_arg12) = m ((c.tc : Thread Cert.S5ParamRefIdeal.nD Cert.S5ParamRefIdeal.τ).loc Cert.S5ParamRefIdeal.main_arg12))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attnf [hAttnFwdIdeal : Cert.AttnFwdIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnf m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attnf [hAttnFwdRefIdeal : Cert.AttnFwdRefIdeal.Facts] [hPre_finite_attnf : Cert.Pre_finite_attnf.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnf m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4))
      ∧ r.2.sem = fun _ => 0)

def quiescent_S5Prep [hS5Prep : Cert.S5Prep.Facts] : Prop :=
  ∀ (m : (ℓ : Loc Cert.S5Prep.nD Cert.S5Prep.τ Cert.S5Prep.sig) → Buf (Elt Bits) ℓ) (g : Dev Cert.S5Prep.nD → PrngReg), Pre_S5Prep m →
    θ_run (Cert.S5Prep.defs (F := Bits)) (onTc (τ := Cert.S5Prep.τ) (Cert.S5Prep.main (F := Bits))) ⟨m, fun _ => 0, g⟩ (fun r => (∀ c : Dev Cert.S5Prep.nD,
      r.2.mem ((c.tc : Thread Cert.S5Prep.nD Cert.S5Prep.τ).loc Cert.S5Prep.main_arg0) = m ((c.tc : Thread Cert.S5Prep.nD Cert.S5Prep.τ).loc Cert.S5Prep.main_arg0)
      ∧ r.2.mem ((c.tc : Thread Cert.S5Prep.nD Cert.S5Prep.τ).loc Cert.S5Prep.main_arg1) = m ((c.tc : Thread Cert.S5Prep.nD Cert.S5Prep.τ).loc Cert.S5Prep.main_arg1)
      ∧ r.2.mem ((c.tc : Thread Cert.S5Prep.nD Cert.S5Prep.τ).loc Cert.S5Prep.main_arg2) = m ((c.tc : Thread Cert.S5Prep.nD Cert.S5Prep.τ).loc Cert.S5Prep.main_arg2)
      ∧ r.2.mem ((c.tc : Thread Cert.S5Prep.nD Cert.S5Prep.τ).loc Cert.S5Prep.main_arg3) = m ((c.tc : Thread Cert.S5Prep.nD Cert.S5Prep.τ).loc Cert.S5Prep.main_arg3)
      ∧ r.2.mem ((c.tc : Thread Cert.S5Prep.nD Cert.S5Prep.τ).loc Cert.S5Prep.main_arg4) = m ((c.tc : Thread Cert.S5Prep.nD Cert.S5Prep.τ).loc Cert.S5Prep.main_arg4)
      ∧ r.2.mem ((c.tc : Thread Cert.S5Prep.nD Cert.S5Prep.τ).loc Cert.S5Prep.main_arg5) = m ((c.tc : Thread Cert.S5Prep.nD Cert.S5Prep.τ).loc Cert.S5Prep.main_arg5)
      ∧ r.2.mem ((c.tc : Thread Cert.S5Prep.nD Cert.S5Prep.τ).loc Cert.S5Prep.main_arg6) = m ((c.tc : Thread Cert.S5Prep.nD Cert.S5Prep.τ).loc Cert.S5Prep.main_arg6))
      ∧ r.2.sem = fun _ => 0)

def quiescent_S5PrepIdeal [hS5PrepIdeal : Cert.S5PrepIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg), Pre_S5PrepIdeal m →
    θ_run (Cert.S5PrepIdeal.defs (F := Ideal)) (onTc (τ := Cert.S5PrepIdeal.τ) (Cert.S5PrepIdeal.main (F := Ideal))) ⟨m, fun _ => 0, g⟩ (fun r => (∀ c : Dev Cert.S5PrepIdeal.nD,
      r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
      ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
      ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
      ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
      ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
      ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
      ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ r.2.sem = fun _ => 0)

def quiescent_S5PrepRefIdeal [hS5PrepRefIdeal : Cert.S5PrepRefIdeal.Facts] : Prop :=
  ∀ (m : (ℓ : Loc Cert.S5PrepRefIdeal.nD Cert.S5PrepRefIdeal.τ Cert.S5PrepRefIdeal.sig) → Buf (Elt Ideal) ℓ) (g : Dev Cert.S5PrepRefIdeal.nD → PrngReg), Pre_S5PrepRefIdeal m →
    θ_run (Cert.S5PrepRefIdeal.defs (F := Ideal)) (onTc (τ := Cert.S5PrepRefIdeal.τ) (Cert.S5PrepRefIdeal.main (F := Ideal))) ⟨m, fun _ => 0, g⟩ (fun r => (∀ c : Dev Cert.S5PrepRefIdeal.nD,
      r.2.mem ((c.tc : Thread Cert.S5PrepRefIdeal.nD Cert.S5PrepRefIdeal.τ).loc Cert.S5PrepRefIdeal.main_arg0) = m ((c.tc : Thread Cert.S5PrepRefIdeal.nD Cert.S5PrepRefIdeal.τ).loc Cert.S5PrepRefIdeal.main_arg0)
      ∧ r.2.mem ((c.tc : Thread Cert.S5PrepRefIdeal.nD Cert.S5PrepRefIdeal.τ).loc Cert.S5PrepRefIdeal.main_arg1) = m ((c.tc : Thread Cert.S5PrepRefIdeal.nD Cert.S5PrepRefIdeal.τ).loc Cert.S5PrepRefIdeal.main_arg1)
      ∧ r.2.mem ((c.tc : Thread Cert.S5PrepRefIdeal.nD Cert.S5PrepRefIdeal.τ).loc Cert.S5PrepRefIdeal.main_arg2) = m ((c.tc : Thread Cert.S5PrepRefIdeal.nD Cert.S5PrepRefIdeal.τ).loc Cert.S5PrepRefIdeal.main_arg2)
      ∧ r.2.mem ((c.tc : Thread Cert.S5PrepRefIdeal.nD Cert.S5PrepRefIdeal.τ).loc Cert.S5PrepRefIdeal.main_arg3) = m ((c.tc : Thread Cert.S5PrepRefIdeal.nD Cert.S5PrepRefIdeal.τ).loc Cert.S5PrepRefIdeal.main_arg3)
      ∧ r.2.mem ((c.tc : Thread Cert.S5PrepRefIdeal.nD Cert.S5PrepRefIdeal.τ).loc Cert.S5PrepRefIdeal.main_arg4) = m ((c.tc : Thread Cert.S5PrepRefIdeal.nD Cert.S5PrepRefIdeal.τ).loc Cert.S5PrepRefIdeal.main_arg4)
      ∧ r.2.mem ((c.tc : Thread Cert.S5PrepRefIdeal.nD Cert.S5PrepRefIdeal.τ).loc Cert.S5PrepRefIdeal.main_arg5) = m ((c.tc : Thread Cert.S5PrepRefIdeal.nD Cert.S5PrepRefIdeal.τ).loc Cert.S5PrepRefIdeal.main_arg5)
      ∧ r.2.mem ((c.tc : Thread Cert.S5PrepRefIdeal.nD Cert.S5PrepRefIdeal.τ).loc Cert.S5PrepRefIdeal.main_arg6) = m ((c.tc : Thread Cert.S5PrepRefIdeal.nD Cert.S5PrepRefIdeal.τ).loc Cert.S5PrepRefIdeal.main_arg6))
      ∧ r.2.sem = fun _ => 0)

def quiescent_S5Compact [hS5Compact : Cert.S5Compact.Facts] : Prop :=
  ∀ (m : (ℓ : Loc Cert.S5Compact.nD Cert.S5Compact.τ Cert.S5Compact.sig) → Buf (Elt Bits) ℓ) (g : Dev Cert.S5Compact.nD → PrngReg), Pre_S5Compact m →
    θ_run (Cert.S5Compact.defs (F := Bits)) (onTc (τ := Cert.S5Compact.τ) (Cert.S5Compact.main (F := Bits))) ⟨m, fun _ => 0, g⟩ (fun r => (∀ c : Dev Cert.S5Compact.nD,
      r.2.mem ((c.tc : Thread Cert.S5Compact.nD Cert.S5Compact.τ).loc Cert.S5Compact.main_arg0) = m ((c.tc : Thread Cert.S5Compact.nD Cert.S5Compact.τ).loc Cert.S5Compact.main_arg0)
      ∧ r.2.mem ((c.tc : Thread Cert.S5Compact.nD Cert.S5Compact.τ).loc Cert.S5Compact.main_arg1) = m ((c.tc : Thread Cert.S5Compact.nD Cert.S5Compact.τ).loc Cert.S5Compact.main_arg1)
      ∧ r.2.mem ((c.tc : Thread Cert.S5Compact.nD Cert.S5Compact.τ).loc Cert.S5Compact.main_arg2) = m ((c.tc : Thread Cert.S5Compact.nD Cert.S5Compact.τ).loc Cert.S5Compact.main_arg2)
      ∧ r.2.mem ((c.tc : Thread Cert.S5Compact.nD Cert.S5Compact.τ).loc Cert.S5Compact.main_arg3) = m ((c.tc : Thread Cert.S5Compact.nD Cert.S5Compact.τ).loc Cert.S5Compact.main_arg3))
      ∧ r.2.sem = fun _ => 0)

def quiescent_S5CompactIdeal [hS5CompactIdeal : Cert.S5CompactIdeal.Facts] : Prop :=
  ∀ (m : (ℓ : Loc Cert.S5CompactIdeal.nD Cert.S5CompactIdeal.τ Cert.S5CompactIdeal.sig) → Buf (Elt Ideal) ℓ) (g : Dev Cert.S5CompactIdeal.nD → PrngReg), Pre_S5CompactIdeal m →
    θ_run (Cert.S5CompactIdeal.defs (F := Ideal)) (onTc (τ := Cert.S5CompactIdeal.τ) (Cert.S5CompactIdeal.main (F := Ideal))) ⟨m, fun _ => 0, g⟩ (fun r => (∀ c : Dev Cert.S5CompactIdeal.nD,
      r.2.mem ((c.tc : Thread Cert.S5CompactIdeal.nD Cert.S5CompactIdeal.τ).loc Cert.S5CompactIdeal.main_arg0) = m ((c.tc : Thread Cert.S5CompactIdeal.nD Cert.S5CompactIdeal.τ).loc Cert.S5CompactIdeal.main_arg0)
      ∧ r.2.mem ((c.tc : Thread Cert.S5CompactIdeal.nD Cert.S5CompactIdeal.τ).loc Cert.S5CompactIdeal.main_arg1) = m ((c.tc : Thread Cert.S5CompactIdeal.nD Cert.S5CompactIdeal.τ).loc Cert.S5CompactIdeal.main_arg1)
      ∧ r.2.mem ((c.tc : Thread Cert.S5CompactIdeal.nD Cert.S5CompactIdeal.τ).loc Cert.S5CompactIdeal.main_arg2) = m ((c.tc : Thread Cert.S5CompactIdeal.nD Cert.S5CompactIdeal.τ).loc Cert.S5CompactIdeal.main_arg2)
      ∧ r.2.mem ((c.tc : Thread Cert.S5CompactIdeal.nD Cert.S5CompactIdeal.τ).loc Cert.S5CompactIdeal.main_arg3) = m ((c.tc : Thread Cert.S5CompactIdeal.nD Cert.S5CompactIdeal.τ).loc Cert.S5CompactIdeal.main_arg3))
      ∧ r.2.sem = fun _ => 0)

def quiescent_S5CompactRefIdeal [hS5CompactRefIdeal : Cert.S5CompactRefIdeal.Facts] : Prop :=
  ∀ (m : (ℓ : Loc Cert.S5CompactRefIdeal.nD Cert.S5CompactRefIdeal.τ Cert.S5CompactRefIdeal.sig) → Buf (Elt Ideal) ℓ) (g : Dev Cert.S5CompactRefIdeal.nD → PrngReg), Pre_S5CompactRefIdeal m →
    θ_run (Cert.S5CompactRefIdeal.defs (F := Ideal)) (onTc (τ := Cert.S5CompactRefIdeal.τ) (Cert.S5CompactRefIdeal.main (F := Ideal))) ⟨m, fun _ => 0, g⟩ (fun r => (∀ c : Dev Cert.S5CompactRefIdeal.nD,
      r.2.mem ((c.tc : Thread Cert.S5CompactRefIdeal.nD Cert.S5CompactRefIdeal.τ).loc Cert.S5CompactRefIdeal.main_arg0) = m ((c.tc : Thread Cert.S5CompactRefIdeal.nD Cert.S5CompactRefIdeal.τ).loc Cert.S5CompactRefIdeal.main_arg0)
      ∧ r.2.mem ((c.tc : Thread Cert.S5CompactRefIdeal.nD Cert.S5CompactRefIdeal.τ).loc Cert.S5CompactRefIdeal.main_arg1) = m ((c.tc : Thread Cert.S5CompactRefIdeal.nD Cert.S5CompactRefIdeal.τ).loc Cert.S5CompactRefIdeal.main_arg1)
      ∧ r.2.mem ((c.tc : Thread Cert.S5CompactRefIdeal.nD Cert.S5CompactRefIdeal.τ).loc Cert.S5CompactRefIdeal.main_arg2) = m ((c.tc : Thread Cert.S5CompactRefIdeal.nD Cert.S5CompactRefIdeal.τ).loc Cert.S5CompactRefIdeal.main_arg2)
      ∧ r.2.mem ((c.tc : Thread Cert.S5CompactRefIdeal.nD Cert.S5CompactRefIdeal.τ).loc Cert.S5CompactRefIdeal.main_arg3) = m ((c.tc : Thread Cert.S5CompactRefIdeal.nD Cert.S5CompactRefIdeal.τ).loc Cert.S5CompactRefIdeal.main_arg3))
      ∧ r.2.sem = fun _ => 0)

def quiescent_MlpDw [hMlpDw : Cert.MlpDw.Facts] : Prop :=
  ∀ (m : (ℓ : Loc Cert.MlpDw.nD Cert.MlpDw.τ Cert.MlpDw.sig) → Buf (Elt Bits) ℓ) (g : Dev Cert.MlpDw.nD → PrngReg), Pre_MlpDw m →
    θ_run (Cert.MlpDw.defs (F := Bits)) (onTc (τ := Cert.MlpDw.τ) (Cert.MlpDw.main (F := Bits))) ⟨m, fun _ => 0, g⟩ (fun r => (∀ c : Dev Cert.MlpDw.nD,
      r.2.mem ((c.tc : Thread Cert.MlpDw.nD Cert.MlpDw.τ).loc Cert.MlpDw.main_arg0) = m ((c.tc : Thread Cert.MlpDw.nD Cert.MlpDw.τ).loc Cert.MlpDw.main_arg0)
      ∧ r.2.mem ((c.tc : Thread Cert.MlpDw.nD Cert.MlpDw.τ).loc Cert.MlpDw.main_arg1) = m ((c.tc : Thread Cert.MlpDw.nD Cert.MlpDw.τ).loc Cert.MlpDw.main_arg1))
      ∧ r.2.sem = fun _ => 0)

def quiescent_MlpDwIdeal [hMlpDwIdeal : Cert.MlpDwIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg), Pre_MlpDwIdeal m →
    θ_run (Cert.MlpDwIdeal.defs (F := Ideal)) (onTc (τ := Cert.MlpDwIdeal.τ) (Cert.MlpDwIdeal.main (F := Ideal))) ⟨m, fun _ => 0, g⟩ (fun r => (∀ c : Dev Cert.MlpDwIdeal.nD,
      r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
      ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1))
      ∧ r.2.sem = fun _ => 0)

def quiescent_MlpDwRefIdeal [hMlpDwRefIdeal : Cert.MlpDwRefIdeal.Facts] : Prop :=
  ∀ (m : (ℓ : Loc Cert.MlpDwRefIdeal.nD Cert.MlpDwRefIdeal.τ Cert.MlpDwRefIdeal.sig) → Buf (Elt Ideal) ℓ) (g : Dev Cert.MlpDwRefIdeal.nD → PrngReg), Pre_MlpDwRefIdeal m →
    θ_run (Cert.MlpDwRefIdeal.defs (F := Ideal)) (onTc (τ := Cert.MlpDwRefIdeal.τ) (Cert.MlpDwRefIdeal.main (F := Ideal))) ⟨m, fun _ => 0, g⟩ (fun r => (∀ c : Dev Cert.MlpDwRefIdeal.nD,
      r.2.mem ((c.tc : Thread Cert.MlpDwRefIdeal.nD Cert.MlpDwRefIdeal.τ).loc Cert.MlpDwRefIdeal.main_arg0) = m ((c.tc : Thread Cert.MlpDwRefIdeal.nD Cert.MlpDwRefIdeal.τ).loc Cert.MlpDwRefIdeal.main_arg0)
      ∧ r.2.mem ((c.tc : Thread Cert.MlpDwRefIdeal.nD Cert.MlpDwRefIdeal.τ).loc Cert.MlpDwRefIdeal.main_arg1) = m ((c.tc : Thread Cert.MlpDwRefIdeal.nD Cert.MlpDwRefIdeal.τ).loc Cert.MlpDwRefIdeal.main_arg1))
      ∧ r.2.sem = fun _ => 0)

def preserves_GluBwd_GluBwdIdeal : Prop :=
  True

def algebraic_GluBwdIdeal_GluRefIdeal [hGluBwdIdeal : Cert.GluBwdIdeal.Facts] [hGluRefIdeal : Cert.GluRefIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluBwdIdeal m →
    (∀ c : Dev Cert.GluBwdIdeal.nD,
      m' ((c.tc : Thread Cert.GluRefIdeal.nD Cert.GluRefIdeal.τ).loc Cert.GluRefIdeal.main_arg0) = m ((c.tc : Thread Cert.GluBwdIdeal.nD Cert.GluBwdIdeal.τ).loc Cert.GluBwdIdeal.main_arg0)
      ∧ m' ((c.tc : Thread Cert.GluRefIdeal.nD Cert.GluRefIdeal.τ).loc Cert.GluRefIdeal.main_arg1) = m ((c.tc : Thread Cert.GluBwdIdeal.nD Cert.GluBwdIdeal.τ).loc Cert.GluBwdIdeal.main_arg1)
      ∧ m' ((c.tc : Thread Cert.GluRefIdeal.nD Cert.GluRefIdeal.τ).loc Cert.GluRefIdeal.main_arg2) = m ((c.tc : Thread Cert.GluBwdIdeal.nD Cert.GluBwdIdeal.τ).loc Cert.GluBwdIdeal.main_arg2)
      ∧ m' ((c.tc : Thread Cert.GluRefIdeal.nD Cert.GluRefIdeal.τ).loc Cert.GluRefIdeal.main_arg3) = m ((c.tc : Thread Cert.GluBwdIdeal.nD Cert.GluBwdIdeal.τ).loc Cert.GluBwdIdeal.main_arg3)) →
    ∃ (v0 : (c : Dev Cert.GluBwdIdeal.nD) → Buf (Elt Ideal) ((c.tc : Thread Cert.GluBwdIdeal.nD Cert.GluBwdIdeal.τ).loc Cert.GluBwdIdeal.main_v6_0)) (v1 : (c : Dev Cert.GluBwdIdeal.nD) → Buf (Elt Ideal) ((c.tc : Thread Cert.GluBwdIdeal.nD Cert.GluBwdIdeal.τ).loc Cert.GluBwdIdeal.main_v6_1)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v6_0) = v0 c
          ∧ r.2.mem ((c.tc : Thread Cert.GluBwdIdeal.nD Cert.GluBwdIdeal.τ).loc Cert.GluBwdIdeal.main_v6_1) = v1 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v23) = v0 c
          ∧ r.2.mem ((c.tc : Thread Cert.GluRefIdeal.nD Cert.GluRefIdeal.τ).loc Cert.GluRefIdeal.main_v24) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3))

def preserves_GluDy_GluDyIdeal : Prop :=
  True

def algebraic_GluDyIdeal_GluDyRefIdeal_pre_finite_dy [hGluDyIdeal : Cert.GluDyIdeal.Facts] [hGluDyRefIdeal : Cert.GluDyRefIdeal.Facts] [hPre_finite_dy : Cert.Pre_finite_dy.Facts] : Prop :=
  ∀ (m : (ℓ : Loc Cert.GluDyIdeal.nD Cert.GluDyIdeal.τ Cert.GluDyIdeal.sig) → Buf (Elt Ideal) ℓ) (g : Dev Cert.GluDyIdeal.nD → PrngReg)
    (m' : (ℓ : Loc Cert.GluDyRefIdeal.nD Cert.GluDyRefIdeal.τ Cert.GluDyRefIdeal.sig) → Buf (Elt Ideal) ℓ) (g' : Dev Cert.GluDyRefIdeal.nD → PrngReg), Pre_GluDyIdeal_finite_dy m →
    (∀ c : Dev Cert.GluDyIdeal.nD,
      m' ((c.tc : Thread Cert.GluDyRefIdeal.nD Cert.GluDyRefIdeal.τ).loc Cert.GluDyRefIdeal.main_arg0) = m ((c.tc : Thread Cert.GluDyIdeal.nD Cert.GluDyIdeal.τ).loc Cert.GluDyIdeal.main_arg0)
      ∧ m' ((c.tc : Thread Cert.GluDyRefIdeal.nD Cert.GluDyRefIdeal.τ).loc Cert.GluDyRefIdeal.main_arg1) = m ((c.tc : Thread Cert.GluDyIdeal.nD Cert.GluDyIdeal.τ).loc Cert.GluDyIdeal.main_arg1)
      ∧ m' ((c.tc : Thread Cert.GluDyRefIdeal.nD Cert.GluDyRefIdeal.τ).loc Cert.GluDyRefIdeal.main_arg2) = m ((c.tc : Thread Cert.GluDyIdeal.nD Cert.GluDyIdeal.τ).loc Cert.GluDyIdeal.main_arg2)) →
    ∃ (v0 : (c : Dev Cert.GluDyIdeal.nD) → Buf (Elt Ideal) ((c.tc : Thread Cert.GluDyIdeal.nD Cert.GluDyIdeal.τ).loc Cert.GluDyIdeal.main_v31)),
      θ_run (Cert.GluDyIdeal.defs (F := Ideal)) (onTc (τ := Cert.GluDyIdeal.τ) (Cert.GluDyIdeal.main (F := Ideal))) ⟨m, fun _ => 0, g⟩ (fun r => ∀ c : Dev Cert.GluDyIdeal.nD,
          r.2.mem ((c.tc : Thread Cert.GluDyIdeal.nD Cert.GluDyIdeal.τ).loc Cert.GluDyIdeal.main_v31) = v0 c
          ∧ r.2.mem ((c.tc : Thread Cert.GluDyIdeal.nD Cert.GluDyIdeal.τ).loc Cert.GluDyIdeal.main_arg0) = m ((c.tc : Thread Cert.GluDyIdeal.nD Cert.GluDyIdeal.τ).loc Cert.GluDyIdeal.main_arg0)
          ∧ r.2.mem ((c.tc : Thread Cert.GluDyIdeal.nD Cert.GluDyIdeal.τ).loc Cert.GluDyIdeal.main_arg1) = m ((c.tc : Thread Cert.GluDyIdeal.nD Cert.GluDyIdeal.τ).loc Cert.GluDyIdeal.main_arg1)
          ∧ r.2.mem ((c.tc : Thread Cert.GluDyIdeal.nD Cert.GluDyIdeal.τ).loc Cert.GluDyIdeal.main_arg2) = m ((c.tc : Thread Cert.GluDyIdeal.nD Cert.GluDyIdeal.τ).loc Cert.GluDyIdeal.main_arg2))
      ∧ θ_run (Cert.GluDyRefIdeal.defs (F := Ideal)) (onTc (τ := Cert.GluDyRefIdeal.τ) (Cert.GluDyRefIdeal.main (F := Ideal))) ⟨m', fun _ => 0, g'⟩ (fun r => ∀ c : Dev Cert.GluDyRefIdeal.nD,
          r.2.mem ((c.tc : Thread Cert.GluDyRefIdeal.nD Cert.GluDyRefIdeal.τ).loc Cert.GluDyRefIdeal.main_v34) = v0 c
          ∧ r.2.mem ((c.tc : Thread Cert.GluDyRefIdeal.nD Cert.GluDyRefIdeal.τ).loc Cert.GluDyRefIdeal.main_arg0) = m' ((c.tc : Thread Cert.GluDyRefIdeal.nD Cert.GluDyRefIdeal.τ).loc Cert.GluDyRefIdeal.main_arg0)
          ∧ r.2.mem ((c.tc : Thread Cert.GluDyRefIdeal.nD Cert.GluDyRefIdeal.τ).loc Cert.GluDyRefIdeal.main_arg1) = m' ((c.tc : Thread Cert.GluDyRefIdeal.nD Cert.GluDyRefIdeal.τ).loc Cert.GluDyRefIdeal.main_arg1)
          ∧ r.2.mem ((c.tc : Thread Cert.GluDyRefIdeal.nD Cert.GluDyRefIdeal.τ).loc Cert.GluDyRefIdeal.main_arg2) = m' ((c.tc : Thread Cert.GluDyRefIdeal.nD Cert.GluDyRefIdeal.τ).loc Cert.GluDyRefIdeal.main_arg2))

def preserves_MlpDa_MlpDaIdeal : Prop :=
  True

def algebraic_MlpDaIdeal_MlpDaRefIdeal [hMlpDaIdeal : Cert.MlpDaIdeal.Facts] [hMlpDaRefIdeal : Cert.MlpDaRefIdeal.Facts] : Prop :=
  ∀ (m : (ℓ : Loc Cert.MlpDaIdeal.nD Cert.MlpDaIdeal.τ Cert.MlpDaIdeal.sig) → Buf (Elt Ideal) ℓ) (g : Dev Cert.MlpDaIdeal.nD → PrngReg)
    (m' : (ℓ : Loc Cert.MlpDaRefIdeal.nD Cert.MlpDaRefIdeal.τ Cert.MlpDaRefIdeal.sig) → Buf (Elt Ideal) ℓ) (g' : Dev Cert.MlpDaRefIdeal.nD → PrngReg), Pre_MlpDaIdeal m →
    (∀ c : Dev Cert.MlpDaIdeal.nD,
      m' ((c.tc : Thread Cert.MlpDaRefIdeal.nD Cert.MlpDaRefIdeal.τ).loc Cert.MlpDaRefIdeal.main_arg0) = m ((c.tc : Thread Cert.MlpDaIdeal.nD Cert.MlpDaIdeal.τ).loc Cert.MlpDaIdeal.main_arg0)
      ∧ m' ((c.tc : Thread Cert.MlpDaRefIdeal.nD Cert.MlpDaRefIdeal.τ).loc Cert.MlpDaRefIdeal.main_arg1) = m ((c.tc : Thread Cert.MlpDaIdeal.nD Cert.MlpDaIdeal.τ).loc Cert.MlpDaIdeal.main_arg1)
      ∧ m' ((c.tc : Thread Cert.MlpDaRefIdeal.nD Cert.MlpDaRefIdeal.τ).loc Cert.MlpDaRefIdeal.main_arg2) = m ((c.tc : Thread Cert.MlpDaIdeal.nD Cert.MlpDaIdeal.τ).loc Cert.MlpDaIdeal.main_arg2)
      ∧ m' ((c.tc : Thread Cert.MlpDaRefIdeal.nD Cert.MlpDaRefIdeal.τ).loc Cert.MlpDaRefIdeal.main_arg3) = m ((c.tc : Thread Cert.MlpDaIdeal.nD Cert.MlpDaIdeal.τ).loc Cert.MlpDaIdeal.main_arg3)) →
    ∃ (v0 : (c : Dev Cert.MlpDaIdeal.nD) → Buf (Elt Ideal) ((c.tc : Thread Cert.MlpDaIdeal.nD Cert.MlpDaIdeal.τ).loc Cert.MlpDaIdeal.main_v8)),
      θ_run (Cert.MlpDaIdeal.defs (F := Ideal)) (onTc (τ := Cert.MlpDaIdeal.τ) (Cert.MlpDaIdeal.main (F := Ideal))) ⟨m, fun _ => 0, g⟩ (fun r => ∀ c : Dev Cert.MlpDaIdeal.nD,
          r.2.mem ((c.tc : Thread Cert.MlpDaIdeal.nD Cert.MlpDaIdeal.τ).loc Cert.MlpDaIdeal.main_v8) = v0 c
          ∧ r.2.mem ((c.tc : Thread Cert.MlpDaIdeal.nD Cert.MlpDaIdeal.τ).loc Cert.MlpDaIdeal.main_arg0) = m ((c.tc : Thread Cert.MlpDaIdeal.nD Cert.MlpDaIdeal.τ).loc Cert.MlpDaIdeal.main_arg0)
          ∧ r.2.mem ((c.tc : Thread Cert.MlpDaIdeal.nD Cert.MlpDaIdeal.τ).loc Cert.MlpDaIdeal.main_arg1) = m ((c.tc : Thread Cert.MlpDaIdeal.nD Cert.MlpDaIdeal.τ).loc Cert.MlpDaIdeal.main_arg1)
          ∧ r.2.mem ((c.tc : Thread Cert.MlpDaIdeal.nD Cert.MlpDaIdeal.τ).loc Cert.MlpDaIdeal.main_arg2) = m ((c.tc : Thread Cert.MlpDaIdeal.nD Cert.MlpDaIdeal.τ).loc Cert.MlpDaIdeal.main_arg2)
          ∧ r.2.mem ((c.tc : Thread Cert.MlpDaIdeal.nD Cert.MlpDaIdeal.τ).loc Cert.MlpDaIdeal.main_arg3) = m ((c.tc : Thread Cert.MlpDaIdeal.nD Cert.MlpDaIdeal.τ).loc Cert.MlpDaIdeal.main_arg3))
      ∧ θ_run (Cert.MlpDaRefIdeal.defs (F := Ideal)) (onTc (τ := Cert.MlpDaRefIdeal.τ) (Cert.MlpDaRefIdeal.main (F := Ideal))) ⟨m', fun _ => 0, g'⟩ (fun r => ∀ c : Dev Cert.MlpDaRefIdeal.nD,
          r.2.mem ((c.tc : Thread Cert.MlpDaRefIdeal.nD Cert.MlpDaRefIdeal.τ).loc Cert.MlpDaRefIdeal.main_v13) = v0 c
          ∧ r.2.mem ((c.tc : Thread Cert.MlpDaRefIdeal.nD Cert.MlpDaRefIdeal.τ).loc Cert.MlpDaRefIdeal.main_arg0) = m' ((c.tc : Thread Cert.MlpDaRefIdeal.nD Cert.MlpDaRefIdeal.τ).loc Cert.MlpDaRefIdeal.main_arg0)
          ∧ r.2.mem ((c.tc : Thread Cert.MlpDaRefIdeal.nD Cert.MlpDaRefIdeal.τ).loc Cert.MlpDaRefIdeal.main_arg1) = m' ((c.tc : Thread Cert.MlpDaRefIdeal.nD Cert.MlpDaRefIdeal.τ).loc Cert.MlpDaRefIdeal.main_arg1)
          ∧ r.2.mem ((c.tc : Thread Cert.MlpDaRefIdeal.nD Cert.MlpDaRefIdeal.τ).loc Cert.MlpDaRefIdeal.main_arg2) = m' ((c.tc : Thread Cert.MlpDaRefIdeal.nD Cert.MlpDaRefIdeal.τ).loc Cert.MlpDaRefIdeal.main_arg2)
          ∧ r.2.mem ((c.tc : Thread Cert.MlpDaRefIdeal.nD Cert.MlpDaRefIdeal.τ).loc Cert.MlpDaRefIdeal.main_arg3) = m' ((c.tc : Thread Cert.MlpDaRefIdeal.nD Cert.MlpDaRefIdeal.τ).loc Cert.MlpDaRefIdeal.main_arg3))

def preserves_KvCombine_KvCombineIdeal : Prop :=
  True

def algebraic_KvCombineIdeal_KvCombineRefIdeal [hKvCombineIdeal : Cert.KvCombineIdeal.Facts] [hKvCombineRefIdeal : Cert.KvCombineRefIdeal.Facts] : Prop :=
  ∀ (m : (ℓ : Loc Cert.KvCombineIdeal.nD Cert.KvCombineIdeal.τ Cert.KvCombineIdeal.sig) → Buf (Elt Ideal) ℓ) (g : Dev Cert.KvCombineIdeal.nD → PrngReg)
    (m' : (ℓ : Loc Cert.KvCombineRefIdeal.nD Cert.KvCombineRefIdeal.τ Cert.KvCombineRefIdeal.sig) → Buf (Elt Ideal) ℓ) (g' : Dev Cert.KvCombineRefIdeal.nD → PrngReg), Pre_KvCombineIdeal m →
    (∀ c : Dev Cert.KvCombineIdeal.nD,
      m' ((c.tc : Thread Cert.KvCombineRefIdeal.nD Cert.KvCombineRefIdeal.τ).loc Cert.KvCombineRefIdeal.main_arg0) = m ((c.tc : Thread Cert.KvCombineIdeal.nD Cert.KvCombineIdeal.τ).loc Cert.KvCombineIdeal.main_arg0)
      ∧ m' ((c.tc : Thread Cert.KvCombineRefIdeal.nD Cert.KvCombineRefIdeal.τ).loc Cert.KvCombineRefIdeal.main_arg1) = m ((c.tc : Thread Cert.KvCombineIdeal.nD Cert.KvCombineIdeal.τ).loc Cert.KvCombineIdeal.main_arg1)) →
    ∃ (v0 : (c : Dev Cert.KvCombineIdeal.nD) → Buf (Elt Ideal) ((c.tc : Thread Cert.KvCombineIdeal.nD Cert.KvCombineIdeal.τ).loc Cert.KvCombineIdeal.main_v0_0)) (v1 : (c : Dev Cert.KvCombineIdeal.nD) → Buf (Elt Ideal) ((c.tc : Thread Cert.KvCombineIdeal.nD Cert.KvCombineIdeal.τ).loc Cert.KvCombineIdeal.main_v0_1)),
      θ_run (Cert.KvCombineIdeal.defs (F := Ideal)) (onTc (τ := Cert.KvCombineIdeal.τ) (Cert.KvCombineIdeal.main (F := Ideal))) ⟨m, fun _ => 0, g⟩ (fun r => ∀ c : Dev Cert.KvCombineIdeal.nD,
          r.2.mem ((c.tc : Thread Cert.KvCombineIdeal.nD Cert.KvCombineIdeal.τ).loc Cert.KvCombineIdeal.main_v0_0) = v0 c
          ∧ r.2.mem ((c.tc : Thread Cert.KvCombineIdeal.nD Cert.KvCombineIdeal.τ).loc Cert.KvCombineIdeal.main_v0_1) = v1 c
          ∧ r.2.mem ((c.tc : Thread Cert.KvCombineIdeal.nD Cert.KvCombineIdeal.τ).loc Cert.KvCombineIdeal.main_arg0) = m ((c.tc : Thread Cert.KvCombineIdeal.nD Cert.KvCombineIdeal.τ).loc Cert.KvCombineIdeal.main_arg0)
          ∧ r.2.mem ((c.tc : Thread Cert.KvCombineIdeal.nD Cert.KvCombineIdeal.τ).loc Cert.KvCombineIdeal.main_arg1) = m ((c.tc : Thread Cert.KvCombineIdeal.nD Cert.KvCombineIdeal.τ).loc Cert.KvCombineIdeal.main_arg1))
      ∧ θ_run (Cert.KvCombineRefIdeal.defs (F := Ideal)) (onTc (τ := Cert.KvCombineRefIdeal.τ) (Cert.KvCombineRefIdeal.main (F := Ideal))) ⟨m', fun _ => 0, g'⟩ (fun r => ∀ c : Dev Cert.KvCombineRefIdeal.nD,
          r.2.mem ((c.tc : Thread Cert.KvCombineRefIdeal.nD Cert.KvCombineRefIdeal.τ).loc Cert.KvCombineRefIdeal.main_v23) = v0 c
          ∧ r.2.mem ((c.tc : Thread Cert.KvCombineRefIdeal.nD Cert.KvCombineRefIdeal.τ).loc Cert.KvCombineRefIdeal.main_v25) = v1 c
          ∧ r.2.mem ((c.tc : Thread Cert.KvCombineRefIdeal.nD Cert.KvCombineRefIdeal.τ).loc Cert.KvCombineRefIdeal.main_arg0) = m' ((c.tc : Thread Cert.KvCombineRefIdeal.nD Cert.KvCombineRefIdeal.τ).loc Cert.KvCombineRefIdeal.main_arg0)
          ∧ r.2.mem ((c.tc : Thread Cert.KvCombineRefIdeal.nD Cert.KvCombineRefIdeal.τ).loc Cert.KvCombineRefIdeal.main_arg1) = m' ((c.tc : Thread Cert.KvCombineRefIdeal.nD Cert.KvCombineRefIdeal.τ).loc Cert.KvCombineRefIdeal.main_arg1))

def preserves_MlpDn_MlpDnIdeal : Prop :=
  True

def algebraic_MlpDnIdeal_MlpDnRefIdeal_pre_finite_mlpdn [hMlpDnIdeal : Cert.MlpDnIdeal.Facts] [hMlpDnRefIdeal : Cert.MlpDnRefIdeal.Facts] [hPre_finite_mlpdn : Cert.Pre_finite_mlpdn.Facts] : Prop :=
  ∀ (m : (ℓ : Loc Cert.MlpDnIdeal.nD Cert.MlpDnIdeal.τ Cert.MlpDnIdeal.sig) → Buf (Elt Ideal) ℓ) (g : Dev Cert.MlpDnIdeal.nD → PrngReg)
    (m' : (ℓ : Loc Cert.MlpDnRefIdeal.nD Cert.MlpDnRefIdeal.τ Cert.MlpDnRefIdeal.sig) → Buf (Elt Ideal) ℓ) (g' : Dev Cert.MlpDnRefIdeal.nD → PrngReg), Pre_MlpDnIdeal_finite_mlpdn m →
    (∀ c : Dev Cert.MlpDnIdeal.nD,
      m' ((c.tc : Thread Cert.MlpDnRefIdeal.nD Cert.MlpDnRefIdeal.τ).loc Cert.MlpDnRefIdeal.main_arg0) = m ((c.tc : Thread Cert.MlpDnIdeal.nD Cert.MlpDnIdeal.τ).loc Cert.MlpDnIdeal.main_arg0)
      ∧ m' ((c.tc : Thread Cert.MlpDnRefIdeal.nD Cert.MlpDnRefIdeal.τ).loc Cert.MlpDnRefIdeal.main_arg1) = m ((c.tc : Thread Cert.MlpDnIdeal.nD Cert.MlpDnIdeal.τ).loc Cert.MlpDnIdeal.main_arg1)
      ∧ m' ((c.tc : Thread Cert.MlpDnRefIdeal.nD Cert.MlpDnRefIdeal.τ).loc Cert.MlpDnRefIdeal.main_arg2) = m ((c.tc : Thread Cert.MlpDnIdeal.nD Cert.MlpDnIdeal.τ).loc Cert.MlpDnIdeal.main_arg2)
      ∧ m' ((c.tc : Thread Cert.MlpDnRefIdeal.nD Cert.MlpDnRefIdeal.τ).loc Cert.MlpDnRefIdeal.main_arg3) = m ((c.tc : Thread Cert.MlpDnIdeal.nD Cert.MlpDnIdeal.τ).loc Cert.MlpDnIdeal.main_arg3)
      ∧ m' ((c.tc : Thread Cert.MlpDnRefIdeal.nD Cert.MlpDnRefIdeal.τ).loc Cert.MlpDnRefIdeal.main_arg4) = m ((c.tc : Thread Cert.MlpDnIdeal.nD Cert.MlpDnIdeal.τ).loc Cert.MlpDnIdeal.main_arg4)
      ∧ m' ((c.tc : Thread Cert.MlpDnRefIdeal.nD Cert.MlpDnRefIdeal.τ).loc Cert.MlpDnRefIdeal.main_arg5) = m ((c.tc : Thread Cert.MlpDnIdeal.nD Cert.MlpDnIdeal.τ).loc Cert.MlpDnIdeal.main_arg5)) →
    ∃ (v0 : (c : Dev Cert.MlpDnIdeal.nD) → Buf (Elt Ideal) ((c.tc : Thread Cert.MlpDnIdeal.nD Cert.MlpDnIdeal.τ).loc Cert.MlpDnIdeal.main_v6_0)) (v1 : (c : Dev Cert.MlpDnIdeal.nD) → Buf (Elt Ideal) ((c.tc : Thread Cert.MlpDnIdeal.nD Cert.MlpDnIdeal.τ).loc Cert.MlpDnIdeal.main_v6_1)) (v2 : (c : Dev Cert.MlpDnIdeal.nD) → Buf (Elt Ideal) ((c.tc : Thread Cert.MlpDnIdeal.nD Cert.MlpDnIdeal.τ).loc Cert.MlpDnIdeal.main_v6_2)) (v3 : (c : Dev Cert.MlpDnIdeal.nD) → Buf (Elt Ideal) ((c.tc : Thread Cert.MlpDnIdeal.nD Cert.MlpDnIdeal.τ).loc Cert.MlpDnIdeal.main_v6_3)),
      θ_run (Cert.MlpDnIdeal.defs (F := Ideal)) (onTc (τ := Cert.MlpDnIdeal.τ) (Cert.MlpDnIdeal.main (F := Ideal))) ⟨m, fun _ => 0, g⟩ (fun r => ∀ c : Dev Cert.MlpDnIdeal.nD,
          r.2.mem ((c.tc : Thread Cert.MlpDnIdeal.nD Cert.MlpDnIdeal.τ).loc Cert.MlpDnIdeal.main_v6_0) = v0 c
          ∧ r.2.mem ((c.tc : Thread Cert.MlpDnIdeal.nD Cert.MlpDnIdeal.τ).loc Cert.MlpDnIdeal.main_v6_1) = v1 c
          ∧ r.2.mem ((c.tc : Thread Cert.MlpDnIdeal.nD Cert.MlpDnIdeal.τ).loc Cert.MlpDnIdeal.main_v6_2) = v2 c
          ∧ r.2.mem ((c.tc : Thread Cert.MlpDnIdeal.nD Cert.MlpDnIdeal.τ).loc Cert.MlpDnIdeal.main_v6_3) = v3 c
          ∧ r.2.mem ((c.tc : Thread Cert.MlpDnIdeal.nD Cert.MlpDnIdeal.τ).loc Cert.MlpDnIdeal.main_arg0) = m ((c.tc : Thread Cert.MlpDnIdeal.nD Cert.MlpDnIdeal.τ).loc Cert.MlpDnIdeal.main_arg0)
          ∧ r.2.mem ((c.tc : Thread Cert.MlpDnIdeal.nD Cert.MlpDnIdeal.τ).loc Cert.MlpDnIdeal.main_arg1) = m ((c.tc : Thread Cert.MlpDnIdeal.nD Cert.MlpDnIdeal.τ).loc Cert.MlpDnIdeal.main_arg1)
          ∧ r.2.mem ((c.tc : Thread Cert.MlpDnIdeal.nD Cert.MlpDnIdeal.τ).loc Cert.MlpDnIdeal.main_arg2) = m ((c.tc : Thread Cert.MlpDnIdeal.nD Cert.MlpDnIdeal.τ).loc Cert.MlpDnIdeal.main_arg2)
          ∧ r.2.mem ((c.tc : Thread Cert.MlpDnIdeal.nD Cert.MlpDnIdeal.τ).loc Cert.MlpDnIdeal.main_arg3) = m ((c.tc : Thread Cert.MlpDnIdeal.nD Cert.MlpDnIdeal.τ).loc Cert.MlpDnIdeal.main_arg3)
          ∧ r.2.mem ((c.tc : Thread Cert.MlpDnIdeal.nD Cert.MlpDnIdeal.τ).loc Cert.MlpDnIdeal.main_arg4) = m ((c.tc : Thread Cert.MlpDnIdeal.nD Cert.MlpDnIdeal.τ).loc Cert.MlpDnIdeal.main_arg4)
          ∧ r.2.mem ((c.tc : Thread Cert.MlpDnIdeal.nD Cert.MlpDnIdeal.τ).loc Cert.MlpDnIdeal.main_arg5) = m ((c.tc : Thread Cert.MlpDnIdeal.nD Cert.MlpDnIdeal.τ).loc Cert.MlpDnIdeal.main_arg5))
      ∧ θ_run (Cert.MlpDnRefIdeal.defs (F := Ideal)) (onTc (τ := Cert.MlpDnRefIdeal.τ) (Cert.MlpDnRefIdeal.main (F := Ideal))) ⟨m', fun _ => 0, g'⟩ (fun r => ∀ c : Dev Cert.MlpDnRefIdeal.nD,
          r.2.mem ((c.tc : Thread Cert.MlpDnRefIdeal.nD Cert.MlpDnRefIdeal.τ).loc Cert.MlpDnRefIdeal.main_v41) = v0 c
          ∧ r.2.mem ((c.tc : Thread Cert.MlpDnRefIdeal.nD Cert.MlpDnRefIdeal.τ).loc Cert.MlpDnRefIdeal.main_v45) = v1 c
          ∧ r.2.mem ((c.tc : Thread Cert.MlpDnRefIdeal.nD Cert.MlpDnRefIdeal.τ).loc Cert.MlpDnRefIdeal.main_v46) = v2 c
          ∧ r.2.mem ((c.tc : Thread Cert.MlpDnRefIdeal.nD Cert.MlpDnRefIdeal.τ).loc Cert.MlpDnRefIdeal.main_v47) = v3 c
          ∧ r.2.mem ((c.tc : Thread Cert.MlpDnRefIdeal.nD Cert.MlpDnRefIdeal.τ).loc Cert.MlpDnRefIdeal.main_arg0) = m' ((c.tc : Thread Cert.MlpDnRefIdeal.nD Cert.MlpDnRefIdeal.τ).loc Cert.MlpDnRefIdeal.main_arg0)
          ∧ r.2.mem ((c.tc : Thread Cert.MlpDnRefIdeal.nD Cert.MlpDnRefIdeal.τ).loc Cert.MlpDnRefIdeal.main_arg1) = m' ((c.tc : Thread Cert.MlpDnRefIdeal.nD Cert.MlpDnRefIdeal.τ).loc Cert.MlpDnRefIdeal.main_arg1)
          ∧ r.2.mem ((c.tc : Thread Cert.MlpDnRefIdeal.nD Cert.MlpDnRefIdeal.τ).loc Cert.MlpDnRefIdeal.main_arg2) = m' ((c.tc : Thread Cert.MlpDnRefIdeal.nD Cert.MlpDnRefIdeal.τ).loc Cert.MlpDnRefIdeal.main_arg2)
          ∧ r.2.mem ((c.tc : Thread Cert.MlpDnRefIdeal.nD Cert.MlpDnRefIdeal.τ).loc Cert.MlpDnRefIdeal.main_arg3) = m' ((c.tc : Thread Cert.MlpDnRefIdeal.nD Cert.MlpDnRefIdeal.τ).loc Cert.MlpDnRefIdeal.main_arg3)
          ∧ r.2.mem ((c.tc : Thread Cert.MlpDnRefIdeal.nD Cert.MlpDnRefIdeal.τ).loc Cert.MlpDnRefIdeal.main_arg4) = m' ((c.tc : Thread Cert.MlpDnRefIdeal.nD Cert.MlpDnRefIdeal.τ).loc Cert.MlpDnRefIdeal.main_arg4)
          ∧ r.2.mem ((c.tc : Thread Cert.MlpDnRefIdeal.nD Cert.MlpDnRefIdeal.τ).loc Cert.MlpDnRefIdeal.main_arg5) = m' ((c.tc : Thread Cert.MlpDnRefIdeal.nD Cert.MlpDnRefIdeal.τ).loc Cert.MlpDnRefIdeal.main_arg5))

def preserves_AttnDn_AttnDnIdeal : Prop :=
  True

def algebraic_AttnDnIdeal_AttnDnRefIdeal_pre_finite_attndn [hAttnDnIdeal : Cert.AttnDnIdeal.Facts] [hAttnDnRefIdeal : Cert.AttnDnRefIdeal.Facts] [hPre_finite_attndn : Cert.Pre_finite_attndn.Facts] : Prop :=
  ∀ (m : (ℓ : Loc Cert.AttnDnIdeal.nD Cert.AttnDnIdeal.τ Cert.AttnDnIdeal.sig) → Buf (Elt Ideal) ℓ) (g : Dev Cert.AttnDnIdeal.nD → PrngReg)
    (m' : (ℓ : Loc Cert.AttnDnRefIdeal.nD Cert.AttnDnRefIdeal.τ Cert.AttnDnRefIdeal.sig) → Buf (Elt Ideal) ℓ) (g' : Dev Cert.AttnDnRefIdeal.nD → PrngReg), Pre_AttnDnIdeal_finite_attndn m →
    (∀ c : Dev Cert.AttnDnIdeal.nD,
      m' ((c.tc : Thread Cert.AttnDnRefIdeal.nD Cert.AttnDnRefIdeal.τ).loc Cert.AttnDnRefIdeal.main_arg0) = m ((c.tc : Thread Cert.AttnDnIdeal.nD Cert.AttnDnIdeal.τ).loc Cert.AttnDnIdeal.main_arg0)
      ∧ m' ((c.tc : Thread Cert.AttnDnRefIdeal.nD Cert.AttnDnRefIdeal.τ).loc Cert.AttnDnRefIdeal.main_arg1) = m ((c.tc : Thread Cert.AttnDnIdeal.nD Cert.AttnDnIdeal.τ).loc Cert.AttnDnIdeal.main_arg1)
      ∧ m' ((c.tc : Thread Cert.AttnDnRefIdeal.nD Cert.AttnDnRefIdeal.τ).loc Cert.AttnDnRefIdeal.main_arg2) = m ((c.tc : Thread Cert.AttnDnIdeal.nD Cert.AttnDnIdeal.τ).loc Cert.AttnDnIdeal.main_arg2)
      ∧ m' ((c.tc : Thread Cert.AttnDnRefIdeal.nD Cert.AttnDnRefIdeal.τ).loc Cert.AttnDnRefIdeal.main_arg3) = m ((c.tc : Thread Cert.AttnDnIdeal.nD Cert.AttnDnIdeal.τ).loc Cert.AttnDnIdeal.main_arg3)
      ∧ m' ((c.tc : Thread Cert.AttnDnRefIdeal.nD Cert.AttnDnRefIdeal.τ).loc Cert.AttnDnRefIdeal.main_arg4) = m ((c.tc : Thread Cert.AttnDnIdeal.nD Cert.AttnDnIdeal.τ).loc Cert.AttnDnIdeal.main_arg4)
      ∧ m' ((c.tc : Thread Cert.AttnDnRefIdeal.nD Cert.AttnDnRefIdeal.τ).loc Cert.AttnDnRefIdeal.main_arg5) = m ((c.tc : Thread Cert.AttnDnIdeal.nD Cert.AttnDnIdeal.τ).loc Cert.AttnDnIdeal.main_arg5)
      ∧ m' ((c.tc : Thread Cert.AttnDnRefIdeal.nD Cert.AttnDnRefIdeal.τ).loc Cert.AttnDnRefIdeal.main_arg6) = m ((c.tc : Thread Cert.AttnDnIdeal.nD Cert.AttnDnIdeal.τ).loc Cert.AttnDnIdeal.main_arg6)
      ∧ m' ((c.tc : Thread Cert.AttnDnRefIdeal.nD Cert.AttnDnRefIdeal.τ).loc Cert.AttnDnRefIdeal.main_arg7) = m ((c.tc : Thread Cert.AttnDnIdeal.nD Cert.AttnDnIdeal.τ).loc Cert.AttnDnIdeal.main_arg7)) →
    ∃ (v0 : (c : Dev Cert.AttnDnIdeal.nD) → Buf (Elt Ideal) ((c.tc : Thread Cert.AttnDnIdeal.nD Cert.AttnDnIdeal.τ).loc Cert.AttnDnIdeal.main_v5_0)) (v1 : (c : Dev Cert.AttnDnIdeal.nD) → Buf (Elt Ideal) ((c.tc : Thread Cert.AttnDnIdeal.nD Cert.AttnDnIdeal.τ).loc Cert.AttnDnIdeal.main_v5_1)) (v2 : (c : Dev Cert.AttnDnIdeal.nD) → Buf (Elt Ideal) ((c.tc : Thread Cert.AttnDnIdeal.nD Cert.AttnDnIdeal.τ).loc Cert.AttnDnIdeal.main_v5_2)) (v3 : (c : Dev Cert.AttnDnIdeal.nD) → Buf (Elt Ideal) ((c.tc : Thread Cert.AttnDnIdeal.nD Cert.AttnDnIdeal.τ).loc Cert.AttnDnIdeal.main_v5_3)),
      θ_run (Cert.AttnDnIdeal.defs (F := Ideal)) (onTc (τ := Cert.AttnDnIdeal.τ) (Cert.AttnDnIdeal.main (F := Ideal))) ⟨m, fun _ => 0, g⟩ (fun r => ∀ c : Dev Cert.AttnDnIdeal.nD,
          r.2.mem ((c.tc : Thread Cert.AttnDnIdeal.nD Cert.AttnDnIdeal.τ).loc Cert.AttnDnIdeal.main_v5_0) = v0 c
          ∧ r.2.mem ((c.tc : Thread Cert.AttnDnIdeal.nD Cert.AttnDnIdeal.τ).loc Cert.AttnDnIdeal.main_v5_1) = v1 c
          ∧ r.2.mem ((c.tc : Thread Cert.AttnDnIdeal.nD Cert.AttnDnIdeal.τ).loc Cert.AttnDnIdeal.main_v5_2) = v2 c
          ∧ r.2.mem ((c.tc : Thread Cert.AttnDnIdeal.nD Cert.AttnDnIdeal.τ).loc Cert.AttnDnIdeal.main_v5_3) = v3 c
          ∧ r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
          ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1)
          ∧ r.2.mem ((c.tc : Thread Cert.AttnDnIdeal.nD Cert.AttnDnIdeal.τ).loc Cert.AttnDnIdeal.main_arg2) = m ((c.tc : Thread Cert.AttnDnIdeal.nD Cert.AttnDnIdeal.τ).loc Cert.AttnDnIdeal.main_arg2)
          ∧ r.2.mem ((c.tc : Thread Cert.AttnDnIdeal.nD Cert.AttnDnIdeal.τ).loc Cert.AttnDnIdeal.main_arg3) = m ((c.tc : Thread Cert.AttnDnIdeal.nD Cert.AttnDnIdeal.τ).loc Cert.AttnDnIdeal.main_arg3)
          ∧ r.2.mem ((c.tc : Thread Cert.AttnDnIdeal.nD Cert.AttnDnIdeal.τ).loc Cert.AttnDnIdeal.main_arg4) = m ((c.tc : Thread Cert.AttnDnIdeal.nD Cert.AttnDnIdeal.τ).loc Cert.AttnDnIdeal.main_arg4)
          ∧ r.2.mem ((c.tc : Thread Cert.AttnDnIdeal.nD Cert.AttnDnIdeal.τ).loc Cert.AttnDnIdeal.main_arg5) = m ((c.tc : Thread Cert.AttnDnIdeal.nD Cert.AttnDnIdeal.τ).loc Cert.AttnDnIdeal.main_arg5)
          ∧ r.2.mem ((c.tc : Thread Cert.AttnDnIdeal.nD Cert.AttnDnIdeal.τ).loc Cert.AttnDnIdeal.main_arg6) = m ((c.tc : Thread Cert.AttnDnIdeal.nD Cert.AttnDnIdeal.τ).loc Cert.AttnDnIdeal.main_arg6)
          ∧ r.2.mem ((c.tc : Thread Cert.AttnDnIdeal.nD Cert.AttnDnIdeal.τ).loc Cert.AttnDnIdeal.main_arg7) = m ((c.tc : Thread Cert.AttnDnIdeal.nD Cert.AttnDnIdeal.τ).loc Cert.AttnDnIdeal.main_arg7))
      ∧ θ_run (Cert.AttnDnRefIdeal.defs (F := Ideal)) (onTc (τ := Cert.AttnDnRefIdeal.τ) (Cert.AttnDnRefIdeal.main (F := Ideal))) ⟨m', fun _ => 0, g'⟩ (fun r => ∀ c : Dev Cert.AttnDnRefIdeal.nD,
          r.2.mem ((c.tc : Thread Cert.AttnDnRefIdeal.nD Cert.AttnDnRefIdeal.τ).loc Cert.AttnDnRefIdeal.main_v77) = v0 c
          ∧ r.2.mem ((c.tc : Thread Cert.AttnDnRefIdeal.nD Cert.AttnDnRefIdeal.τ).loc Cert.AttnDnRefIdeal.main_v78) = v1 c
          ∧ r.2.mem ((c.tc : Thread Cert.AttnDnRefIdeal.nD Cert.AttnDnRefIdeal.τ).loc Cert.AttnDnRefIdeal.main_v79) = v2 c
          ∧ r.2.mem ((c.tc : Thread Cert.AttnDnRefIdeal.nD Cert.AttnDnRefIdeal.τ).loc Cert.AttnDnRefIdeal.main_v80) = v3 c
          ∧ r.2.mem ((c.tc : Thread Cert.AttnDnRefIdeal.nD Cert.AttnDnRefIdeal.τ).loc Cert.AttnDnRefIdeal.main_arg0) = m' ((c.tc : Thread Cert.AttnDnRefIdeal.nD Cert.AttnDnRefIdeal.τ).loc Cert.AttnDnRefIdeal.main_arg0)
          ∧ r.2.mem ((c.tc : Thread Cert.AttnDnRefIdeal.nD Cert.AttnDnRefIdeal.τ).loc Cert.AttnDnRefIdeal.main_arg1) = m' ((c.tc : Thread Cert.AttnDnRefIdeal.nD Cert.AttnDnRefIdeal.τ).loc Cert.AttnDnRefIdeal.main_arg1)
          ∧ r.2.mem ((c.tc : Thread Cert.AttnDnRefIdeal.nD Cert.AttnDnRefIdeal.τ).loc Cert.AttnDnRefIdeal.main_arg2) = m' ((c.tc : Thread Cert.AttnDnRefIdeal.nD Cert.AttnDnRefIdeal.τ).loc Cert.AttnDnRefIdeal.main_arg2)
          ∧ r.2.mem ((c.tc : Thread Cert.AttnDnRefIdeal.nD Cert.AttnDnRefIdeal.τ).loc Cert.AttnDnRefIdeal.main_arg3) = m' ((c.tc : Thread Cert.AttnDnRefIdeal.nD Cert.AttnDnRefIdeal.τ).loc Cert.AttnDnRefIdeal.main_arg3)
          ∧ r.2.mem ((c.tc : Thread Cert.AttnDnRefIdeal.nD Cert.AttnDnRefIdeal.τ).loc Cert.AttnDnRefIdeal.main_arg4) = m' ((c.tc : Thread Cert.AttnDnRefIdeal.nD Cert.AttnDnRefIdeal.τ).loc Cert.AttnDnRefIdeal.main_arg4)
          ∧ r.2.mem ((c.tc : Thread Cert.AttnDnRefIdeal.nD Cert.AttnDnRefIdeal.τ).loc Cert.AttnDnRefIdeal.main_arg5) = m' ((c.tc : Thread Cert.AttnDnRefIdeal.nD Cert.AttnDnRefIdeal.τ).loc Cert.AttnDnRefIdeal.main_arg5)
          ∧ r.2.mem ((c.tc : Thread Cert.AttnDnRefIdeal.nD Cert.AttnDnRefIdeal.τ).loc Cert.AttnDnRefIdeal.main_arg6) = m' ((c.tc : Thread Cert.AttnDnRefIdeal.nD Cert.AttnDnRefIdeal.τ).loc Cert.AttnDnRefIdeal.main_arg6)
          ∧ r.2.mem ((c.tc : Thread Cert.AttnDnRefIdeal.nD Cert.AttnDnRefIdeal.τ).loc Cert.AttnDnRefIdeal.main_arg7) = m' ((c.tc : Thread Cert.AttnDnRefIdeal.nD Cert.AttnDnRefIdeal.τ).loc Cert.AttnDnRefIdeal.main_arg7))

def preserves_LossHead_LossHeadIdeal : Prop :=
  True

def algebraic_LossHeadIdeal_LossRefIdeal_pre_finite_loss [hLossHeadIdeal : Cert.LossHeadIdeal.Facts] [hLossRefIdeal : Cert.LossRefIdeal.Facts] [hPre_finite_loss : Cert.Pre_finite_loss.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_finite_loss m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)
      ∧ m' ((c.tc : Thread Cert.LossRefIdeal.nD Cert.LossRefIdeal.τ).loc Cert.LossRefIdeal.main_arg3) = m ((c.tc : Thread Cert.LossHeadIdeal.nD Cert.LossHeadIdeal.τ).loc Cert.LossHeadIdeal.main_arg3)
      ∧ m' ((c.tc : Thread Cert.LossRefIdeal.nD Cert.LossRefIdeal.τ).loc Cert.LossRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)) (v3 : (c : Dev Cert.LossHeadIdeal.nD) → Buf (Elt Ideal) ((c.tc : Thread Cert.LossHeadIdeal.nD Cert.LossHeadIdeal.τ).loc Cert.LossHeadIdeal.main_v3_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_v3_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v52) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_S5Param_S5ParamIdeal : Prop :=
  True

def algebraic_S5ParamIdeal_S5ParamRefIdeal_pre_finite_pbwd [hS5ParamIdeal : Cert.S5ParamIdeal.Facts] [hS5ParamRefIdeal : Cert.S5ParamRefIdeal.Facts] [hPre_finite_pbwd : Cert.Pre_finite_pbwd.Facts] : Prop :=
  ∀ (m : (ℓ : Loc Cert.S5ParamIdeal.nD Cert.S5ParamIdeal.τ Cert.S5ParamIdeal.sig) → Buf (Elt Ideal) ℓ) (g : Dev Cert.S5ParamIdeal.nD → PrngReg)
    (m' : (ℓ : Loc Cert.S5ParamRefIdeal.nD Cert.S5ParamRefIdeal.τ Cert.S5ParamRefIdeal.sig) → Buf (Elt Ideal) ℓ) (g' : Dev Cert.S5ParamRefIdeal.nD → PrngReg), Pre_S5ParamIdeal_finite_pbwd m →
    (∀ c : Dev Cert.S5ParamIdeal.nD,
      m' ((c.tc : Thread Cert.S5ParamRefIdeal.nD Cert.S5ParamRefIdeal.τ).loc Cert.S5ParamRefIdeal.main_arg0) = m ((c.tc : Thread Cert.S5ParamIdeal.nD Cert.S5ParamIdeal.τ).loc Cert.S5ParamIdeal.main_arg0)
      ∧ m' ((c.tc : Thread Cert.S5ParamRefIdeal.nD Cert.S5ParamRefIdeal.τ).loc Cert.S5ParamRefIdeal.main_arg1) = m ((c.tc : Thread Cert.S5ParamIdeal.nD Cert.S5ParamIdeal.τ).loc Cert.S5ParamIdeal.main_arg1)
      ∧ m' ((c.tc : Thread Cert.S5ParamRefIdeal.nD Cert.S5ParamRefIdeal.τ).loc Cert.S5ParamRefIdeal.main_arg2) = m ((c.tc : Thread Cert.S5ParamIdeal.nD Cert.S5ParamIdeal.τ).loc Cert.S5ParamIdeal.main_arg2)
      ∧ m' ((c.tc : Thread Cert.S5ParamRefIdeal.nD Cert.S5ParamRefIdeal.τ).loc Cert.S5ParamRefIdeal.main_arg3) = m ((c.tc : Thread Cert.S5ParamIdeal.nD Cert.S5ParamIdeal.τ).loc Cert.S5ParamIdeal.main_arg3)
      ∧ m' ((c.tc : Thread Cert.S5ParamRefIdeal.nD Cert.S5ParamRefIdeal.τ).loc Cert.S5ParamRefIdeal.main_arg4) = m ((c.tc : Thread Cert.S5ParamIdeal.nD Cert.S5ParamIdeal.τ).loc Cert.S5ParamIdeal.main_arg4)
      ∧ m' ((c.tc : Thread Cert.S5ParamRefIdeal.nD Cert.S5ParamRefIdeal.τ).loc Cert.S5ParamRefIdeal.main_arg5) = m ((c.tc : Thread Cert.S5ParamIdeal.nD Cert.S5ParamIdeal.τ).loc Cert.S5ParamIdeal.main_arg5)
      ∧ m' ((c.tc : Thread Cert.S5ParamRefIdeal.nD Cert.S5ParamRefIdeal.τ).loc Cert.S5ParamRefIdeal.main_arg6) = m ((c.tc : Thread Cert.S5ParamIdeal.nD Cert.S5ParamIdeal.τ).loc Cert.S5ParamIdeal.main_arg6)
      ∧ m' ((c.tc : Thread Cert.S5ParamRefIdeal.nD Cert.S5ParamRefIdeal.τ).loc Cert.S5ParamRefIdeal.main_arg7) = m ((c.tc : Thread Cert.S5ParamIdeal.nD Cert.S5ParamIdeal.τ).loc Cert.S5ParamIdeal.main_arg7)
      ∧ m' ((c.tc : Thread Cert.S5ParamRefIdeal.nD Cert.S5ParamRefIdeal.τ).loc Cert.S5ParamRefIdeal.main_arg8) = m ((c.tc : Thread Cert.S5ParamIdeal.nD Cert.S5ParamIdeal.τ).loc Cert.S5ParamIdeal.main_arg8)
      ∧ m' ((c.tc : Thread Cert.S5ParamRefIdeal.nD Cert.S5ParamRefIdeal.τ).loc Cert.S5ParamRefIdeal.main_arg9) = m ((c.tc : Thread Cert.S5ParamIdeal.nD Cert.S5ParamIdeal.τ).loc Cert.S5ParamIdeal.main_arg9)
      ∧ m' ((c.tc : Thread Cert.S5ParamRefIdeal.nD Cert.S5ParamRefIdeal.τ).loc Cert.S5ParamRefIdeal.main_arg10) = m ((c.tc : Thread Cert.S5ParamIdeal.nD Cert.S5ParamIdeal.τ).loc Cert.S5ParamIdeal.main_arg10)
      ∧ m' ((c.tc : Thread Cert.S5ParamRefIdeal.nD Cert.S5ParamRefIdeal.τ).loc Cert.S5ParamRefIdeal.main_arg11) = m ((c.tc : Thread Cert.S5ParamIdeal.nD Cert.S5ParamIdeal.τ).loc Cert.S5ParamIdeal.main_arg11)
      ∧ m' ((c.tc : Thread Cert.S5ParamRefIdeal.nD Cert.S5ParamRefIdeal.τ).loc Cert.S5ParamRefIdeal.main_arg12) = m ((c.tc : Thread Cert.S5ParamIdeal.nD Cert.S5ParamIdeal.τ).loc Cert.S5ParamIdeal.main_arg12)) →
    ∃ (v0 : (c : Dev Cert.S5ParamIdeal.nD) → Buf (Elt Ideal) ((c.tc : Thread Cert.S5ParamIdeal.nD Cert.S5ParamIdeal.τ).loc Cert.S5ParamIdeal.main_v21_0)) (v1 : (c : Dev Cert.S5ParamIdeal.nD) → Buf (Elt Ideal) ((c.tc : Thread Cert.S5ParamIdeal.nD Cert.S5ParamIdeal.τ).loc Cert.S5ParamIdeal.main_v21_1)) (v2 : (c : Dev Cert.S5ParamIdeal.nD) → Buf (Elt Ideal) ((c.tc : Thread Cert.S5ParamIdeal.nD Cert.S5ParamIdeal.τ).loc Cert.S5ParamIdeal.main_v21_2)) (v3 : (c : Dev Cert.S5ParamIdeal.nD) → Buf (Elt Ideal) ((c.tc : Thread Cert.S5ParamIdeal.nD Cert.S5ParamIdeal.τ).loc Cert.S5ParamIdeal.main_v21_3)) (v4 : (c : Dev Cert.S5ParamIdeal.nD) → Buf (Elt Ideal) ((c.tc : Thread Cert.S5ParamIdeal.nD Cert.S5ParamIdeal.τ).loc Cert.S5ParamIdeal.main_v21_4)) (v5 : (c : Dev Cert.S5ParamIdeal.nD) → Buf (Elt Ideal) ((c.tc : Thread Cert.S5ParamIdeal.nD Cert.S5ParamIdeal.τ).loc Cert.S5ParamIdeal.main_v21_5)) (v6 : (c : Dev Cert.S5ParamIdeal.nD) → Buf (Elt Ideal) ((c.tc : Thread Cert.S5ParamIdeal.nD Cert.S5ParamIdeal.τ).loc Cert.S5ParamIdeal.main_v21_6)),
      θ_run (Cert.S5ParamIdeal.defs (F := Ideal)) (onTc (τ := Cert.S5ParamIdeal.τ) (Cert.S5ParamIdeal.main (F := Ideal))) ⟨m, fun _ => 0, g⟩ (fun r => ∀ c : Dev Cert.S5ParamIdeal.nD,
          r.2.mem ((c.tc : Thread Cert.S5ParamIdeal.nD Cert.S5ParamIdeal.τ).loc Cert.S5ParamIdeal.main_v21_0) = v0 c
          ∧ r.2.mem ((c.tc : Thread Cert.S5ParamIdeal.nD Cert.S5ParamIdeal.τ).loc Cert.S5ParamIdeal.main_v21_1) = v1 c
          ∧ r.2.mem ((c.tc : Thread Cert.S5ParamIdeal.nD Cert.S5ParamIdeal.τ).loc Cert.S5ParamIdeal.main_v21_2) = v2 c
          ∧ r.2.mem ((c.tc : Thread Cert.S5ParamIdeal.nD Cert.S5ParamIdeal.τ).loc Cert.S5ParamIdeal.main_v21_3) = v3 c
          ∧ r.2.mem ((c.tc : Thread Cert.S5ParamIdeal.nD Cert.S5ParamIdeal.τ).loc Cert.S5ParamIdeal.main_v21_4) = v4 c
          ∧ r.2.mem ((c.tc : Thread Cert.S5ParamIdeal.nD Cert.S5ParamIdeal.τ).loc Cert.S5ParamIdeal.main_v21_5) = v5 c
          ∧ r.2.mem ((c.tc : Thread Cert.S5ParamIdeal.nD Cert.S5ParamIdeal.τ).loc Cert.S5ParamIdeal.main_v21_6) = v6 c
          ∧ r.2.mem ((c.tc : Thread Cert.S5ParamIdeal.nD Cert.S5ParamIdeal.τ).loc Cert.S5ParamIdeal.main_arg0) = m ((c.tc : Thread Cert.S5ParamIdeal.nD Cert.S5ParamIdeal.τ).loc Cert.S5ParamIdeal.main_arg0)
          ∧ r.2.mem ((c.tc : Thread Cert.S5ParamIdeal.nD Cert.S5ParamIdeal.τ).loc Cert.S5ParamIdeal.main_arg1) = m ((c.tc : Thread Cert.S5ParamIdeal.nD Cert.S5ParamIdeal.τ).loc Cert.S5ParamIdeal.main_arg1)
          ∧ r.2.mem ((c.tc : Thread Cert.S5ParamIdeal.nD Cert.S5ParamIdeal.τ).loc Cert.S5ParamIdeal.main_arg2) = m ((c.tc : Thread Cert.S5ParamIdeal.nD Cert.S5ParamIdeal.τ).loc Cert.S5ParamIdeal.main_arg2)
          ∧ r.2.mem ((c.tc : Thread Cert.S5ParamIdeal.nD Cert.S5ParamIdeal.τ).loc Cert.S5ParamIdeal.main_arg3) = m ((c.tc : Thread Cert.S5ParamIdeal.nD Cert.S5ParamIdeal.τ).loc Cert.S5ParamIdeal.main_arg3)
          ∧ r.2.mem ((c.tc : Thread Cert.S5ParamIdeal.nD Cert.S5ParamIdeal.τ).loc Cert.S5ParamIdeal.main_arg4) = m ((c.tc : Thread Cert.S5ParamIdeal.nD Cert.S5ParamIdeal.τ).loc Cert.S5ParamIdeal.main_arg4)
          ∧ r.2.mem ((c.tc : Thread Cert.S5ParamIdeal.nD Cert.S5ParamIdeal.τ).loc Cert.S5ParamIdeal.main_arg5) = m ((c.tc : Thread Cert.S5ParamIdeal.nD Cert.S5ParamIdeal.τ).loc Cert.S5ParamIdeal.main_arg5)
          ∧ r.2.mem ((c.tc : Thread Cert.S5ParamIdeal.nD Cert.S5ParamIdeal.τ).loc Cert.S5ParamIdeal.main_arg6) = m ((c.tc : Thread Cert.S5ParamIdeal.nD Cert.S5ParamIdeal.τ).loc Cert.S5ParamIdeal.main_arg6)
          ∧ r.2.mem ((c.tc : Thread Cert.S5ParamIdeal.nD Cert.S5ParamIdeal.τ).loc Cert.S5ParamIdeal.main_arg7) = m ((c.tc : Thread Cert.S5ParamIdeal.nD Cert.S5ParamIdeal.τ).loc Cert.S5ParamIdeal.main_arg7)
          ∧ r.2.mem ((c.tc : Thread Cert.S5ParamIdeal.nD Cert.S5ParamIdeal.τ).loc Cert.S5ParamIdeal.main_arg8) = m ((c.tc : Thread Cert.S5ParamIdeal.nD Cert.S5ParamIdeal.τ).loc Cert.S5ParamIdeal.main_arg8)
          ∧ r.2.mem ((c.tc : Thread Cert.S5ParamIdeal.nD Cert.S5ParamIdeal.τ).loc Cert.S5ParamIdeal.main_arg9) = m ((c.tc : Thread Cert.S5ParamIdeal.nD Cert.S5ParamIdeal.τ).loc Cert.S5ParamIdeal.main_arg9)
          ∧ r.2.mem ((c.tc : Thread Cert.S5ParamIdeal.nD Cert.S5ParamIdeal.τ).loc Cert.S5ParamIdeal.main_arg10) = m ((c.tc : Thread Cert.S5ParamIdeal.nD Cert.S5ParamIdeal.τ).loc Cert.S5ParamIdeal.main_arg10)
          ∧ r.2.mem ((c.tc : Thread Cert.S5ParamIdeal.nD Cert.S5ParamIdeal.τ).loc Cert.S5ParamIdeal.main_arg11) = m ((c.tc : Thread Cert.S5ParamIdeal.nD Cert.S5ParamIdeal.τ).loc Cert.S5ParamIdeal.main_arg11)
          ∧ r.2.mem ((c.tc : Thread Cert.S5ParamIdeal.nD Cert.S5ParamIdeal.τ).loc Cert.S5ParamIdeal.main_arg12) = m ((c.tc : Thread Cert.S5ParamIdeal.nD Cert.S5ParamIdeal.τ).loc Cert.S5ParamIdeal.main_arg12))
      ∧ θ_run (Cert.S5ParamRefIdeal.defs (F := Ideal)) (onTc (τ := Cert.S5ParamRefIdeal.τ) (Cert.S5ParamRefIdeal.main (F := Ideal))) ⟨m', fun _ => 0, g'⟩ (fun r => ∀ c : Dev Cert.S5ParamRefIdeal.nD,
          r.2.mem ((c.tc : Thread Cert.S5ParamRefIdeal.nD Cert.S5ParamRefIdeal.τ).loc Cert.S5ParamRefIdeal.main_v165) = v0 c
          ∧ r.2.mem ((c.tc : Thread Cert.S5ParamRefIdeal.nD Cert.S5ParamRefIdeal.τ).loc Cert.S5ParamRefIdeal.main_v166) = v1 c
          ∧ r.2.mem ((c.tc : Thread Cert.S5ParamRefIdeal.nD Cert.S5ParamRefIdeal.τ).loc Cert.S5ParamRefIdeal.main_v167) = v2 c
          ∧ r.2.mem ((c.tc : Thread Cert.S5ParamRefIdeal.nD Cert.S5ParamRefIdeal.τ).loc Cert.S5ParamRefIdeal.main_v168) = v3 c
          ∧ r.2.mem ((c.tc : Thread Cert.S5ParamRefIdeal.nD Cert.S5ParamRefIdeal.τ).loc Cert.S5ParamRefIdeal.main_v169) = v4 c
          ∧ r.2.mem ((c.tc : Thread Cert.S5ParamRefIdeal.nD Cert.S5ParamRefIdeal.τ).loc Cert.S5ParamRefIdeal.main_arg11) = v5 c
          ∧ r.2.mem ((c.tc : Thread Cert.S5ParamRefIdeal.nD Cert.S5ParamRefIdeal.τ).loc Cert.S5ParamRefIdeal.main_v63) = v6 c
          ∧ r.2.mem ((c.tc : Thread Cert.S5ParamRefIdeal.nD Cert.S5ParamRefIdeal.τ).loc Cert.S5ParamRefIdeal.main_arg0) = m' ((c.tc : Thread Cert.S5ParamRefIdeal.nD Cert.S5ParamRefIdeal.τ).loc Cert.S5ParamRefIdeal.main_arg0)
          ∧ r.2.mem ((c.tc : Thread Cert.S5ParamRefIdeal.nD Cert.S5ParamRefIdeal.τ).loc Cert.S5ParamRefIdeal.main_arg1) = m' ((c.tc : Thread Cert.S5ParamRefIdeal.nD Cert.S5ParamRefIdeal.τ).loc Cert.S5ParamRefIdeal.main_arg1)
          ∧ r.2.mem ((c.tc : Thread Cert.S5ParamRefIdeal.nD Cert.S5ParamRefIdeal.τ).loc Cert.S5ParamRefIdeal.main_arg2) = m' ((c.tc : Thread Cert.S5ParamRefIdeal.nD Cert.S5ParamRefIdeal.τ).loc Cert.S5ParamRefIdeal.main_arg2)
          ∧ r.2.mem ((c.tc : Thread Cert.S5ParamRefIdeal.nD Cert.S5ParamRefIdeal.τ).loc Cert.S5ParamRefIdeal.main_arg3) = m' ((c.tc : Thread Cert.S5ParamRefIdeal.nD Cert.S5ParamRefIdeal.τ).loc Cert.S5ParamRefIdeal.main_arg3)
          ∧ r.2.mem ((c.tc : Thread Cert.S5ParamRefIdeal.nD Cert.S5ParamRefIdeal.τ).loc Cert.S5ParamRefIdeal.main_arg4) = m' ((c.tc : Thread Cert.S5ParamRefIdeal.nD Cert.S5ParamRefIdeal.τ).loc Cert.S5ParamRefIdeal.main_arg4)
          ∧ r.2.mem ((c.tc : Thread Cert.S5ParamRefIdeal.nD Cert.S5ParamRefIdeal.τ).loc Cert.S5ParamRefIdeal.main_arg5) = m' ((c.tc : Thread Cert.S5ParamRefIdeal.nD Cert.S5ParamRefIdeal.τ).loc Cert.S5ParamRefIdeal.main_arg5)
          ∧ r.2.mem ((c.tc : Thread Cert.S5ParamRefIdeal.nD Cert.S5ParamRefIdeal.τ).loc Cert.S5ParamRefIdeal.main_arg6) = m' ((c.tc : Thread Cert.S5ParamRefIdeal.nD Cert.S5ParamRefIdeal.τ).loc Cert.S5ParamRefIdeal.main_arg6)
          ∧ r.2.mem ((c.tc : Thread Cert.S5ParamRefIdeal.nD Cert.S5ParamRefIdeal.τ).loc Cert.S5ParamRefIdeal.main_arg7) = m' ((c.tc : Thread Cert.S5ParamRefIdeal.nD Cert.S5ParamRefIdeal.τ).loc Cert.S5ParamRefIdeal.main_arg7)
          ∧ r.2.mem ((c.tc : Thread Cert.S5ParamRefIdeal.nD Cert.S5ParamRefIdeal.τ).loc Cert.S5ParamRefIdeal.main_arg8) = m' ((c.tc : Thread Cert.S5ParamRefIdeal.nD Cert.S5ParamRefIdeal.τ).loc Cert.S5ParamRefIdeal.main_arg8)
          ∧ r.2.mem ((c.tc : Thread Cert.S5ParamRefIdeal.nD Cert.S5ParamRefIdeal.τ).loc Cert.S5ParamRefIdeal.main_arg9) = m' ((c.tc : Thread Cert.S5ParamRefIdeal.nD Cert.S5ParamRefIdeal.τ).loc Cert.S5ParamRefIdeal.main_arg9)
          ∧ r.2.mem ((c.tc : Thread Cert.S5ParamRefIdeal.nD Cert.S5ParamRefIdeal.τ).loc Cert.S5ParamRefIdeal.main_arg10) = m' ((c.tc : Thread Cert.S5ParamRefIdeal.nD Cert.S5ParamRefIdeal.τ).loc Cert.S5ParamRefIdeal.main_arg10)
          ∧ r.2.mem ((c.tc : Thread Cert.S5ParamRefIdeal.nD Cert.S5ParamRefIdeal.τ).loc Cert.S5ParamRefIdeal.main_arg11) = m' ((c.tc : Thread Cert.S5ParamRefIdeal.nD Cert.S5ParamRefIdeal.τ).loc Cert.S5ParamRefIdeal.main_arg11)
          ∧ r.2.mem ((c.tc : Thread Cert.S5ParamRefIdeal.nD Cert.S5ParamRefIdeal.τ).loc Cert.S5ParamRefIdeal.main_arg12) = m' ((c.tc : Thread Cert.S5ParamRefIdeal.nD Cert.S5ParamRefIdeal.τ).loc Cert.S5ParamRefIdeal.main_arg12))

def preserves_AttnBwd_AttnBwdIdeal : Prop :=
  IdealRules.named_const.Statement Cert.AttnBwdIdeal.κ "mask" .f32 0xF149F2CA#32 ⊥

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v6_0)) (v1 : (c : Dev Cert.AttnBwdIdeal.nD) → Buf (Elt Ideal) ((c.tc : Thread Cert.AttnBwdIdeal.nD Cert.AttnBwdIdeal.τ).loc Cert.AttnBwdIdeal.main_v6_1)) (v2 : (c : Dev Cert.AttnBwdIdeal.nD) → Buf (Elt Ideal) ((c.tc : Thread Cert.AttnBwdIdeal.nD Cert.AttnBwdIdeal.τ).loc Cert.AttnBwdIdeal.main_v6_2)) (v3 : (c : Dev Cert.AttnBwdIdeal.nD) → Buf (Elt Ideal) ((c.tc : Thread Cert.AttnBwdIdeal.nD Cert.AttnBwdIdeal.τ).loc Cert.AttnBwdIdeal.main_v6_3)) (v4 : (c : Dev Cert.AttnBwdIdeal.nD) → Buf (Elt Ideal) ((c.tc : Thread Cert.AttnBwdIdeal.nD Cert.AttnBwdIdeal.τ).loc Cert.AttnBwdIdeal.main_v6_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v6_0) = v0 c
          ∧ r.2.mem ((c.tc : Thread Cert.AttnBwdIdeal.nD Cert.AttnBwdIdeal.τ).loc Cert.AttnBwdIdeal.main_v6_1) = v1 c
          ∧ r.2.mem ((c.tc : Thread Cert.AttnBwdIdeal.nD Cert.AttnBwdIdeal.τ).loc Cert.AttnBwdIdeal.main_v6_2) = v2 c
          ∧ r.2.mem ((c.tc : Thread Cert.AttnBwdIdeal.nD Cert.AttnBwdIdeal.τ).loc Cert.AttnBwdIdeal.main_v6_3) = v3 c
          ∧ r.2.mem ((c.tc : Thread Cert.AttnBwdIdeal.nD Cert.AttnBwdIdeal.τ).loc Cert.AttnBwdIdeal.main_v6_4) = v4 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v169) = v0 c
          ∧ r.2.mem ((c.tc : Thread Cert.AttnRefIdeal.nD Cert.AttnRefIdeal.τ).loc Cert.AttnRefIdeal.main_v170) = v1 c
          ∧ r.2.mem ((c.tc : Thread Cert.AttnRefIdeal.nD Cert.AttnRefIdeal.τ).loc Cert.AttnRefIdeal.main_v163) = v2 c
          ∧ r.2.mem ((c.tc : Thread Cert.AttnRefIdeal.nD Cert.AttnRefIdeal.τ).loc Cert.AttnRefIdeal.main_v168) = v3 c
          ∧ r.2.mem ((c.tc : Thread Cert.AttnRefIdeal.nD Cert.AttnRefIdeal.τ).loc Cert.AttnRefIdeal.main_v172) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_AttnFwd_AttnFwdIdeal : Prop :=
  IdealRules.named_const.Statement Cert.AttnFwdIdeal.κ "mask" .f32 0xF149F2CA#32 ⊥

def algebraic_AttnFwdIdeal_AttnFwdRefIdeal_pre_finite_attnf [hAttnFwdIdeal : Cert.AttnFwdIdeal.Facts] [hAttnFwdRefIdeal : Cert.AttnFwdRefIdeal.Facts] [hPre_finite_attnf : Cert.Pre_finite_attnf.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnf m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v78) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)
      ∧ m' ((c.tc : Thread Cert.GluFwdRefIdeal.nD Cert.GluFwdRefIdeal.τ).loc Cert.GluFwdRefIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v4_0)) (v1 : (c : Dev Cert.GluFwdIdeal.nD) → Buf (Elt Ideal) ((c.tc : Thread Cert.GluFwdIdeal.nD Cert.GluFwdIdeal.τ).loc Cert.GluFwdIdeal.main_v4_1)) (v2 : (c : Dev Cert.GluFwdIdeal.nD) → Buf (Elt Ideal) ((c.tc : Thread Cert.GluFwdIdeal.nD Cert.GluFwdIdeal.τ).loc Cert.GluFwdIdeal.main_v4_2)) (v3 : (c : Dev Cert.GluFwdIdeal.nD) → Buf (Elt Ideal) ((c.tc : Thread Cert.GluFwdIdeal.nD Cert.GluFwdIdeal.τ).loc Cert.GluFwdIdeal.main_v4_3)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v4_0) = v0 c
          ∧ r.2.mem ((c.tc : Thread Cert.GluFwdIdeal.nD Cert.GluFwdIdeal.τ).loc Cert.GluFwdIdeal.main_v4_1) = v1 c
          ∧ r.2.mem ((c.tc : Thread Cert.GluFwdIdeal.nD Cert.GluFwdIdeal.τ).loc Cert.GluFwdIdeal.main_v4_2) = v2 c
          ∧ r.2.mem ((c.tc : Thread Cert.GluFwdIdeal.nD Cert.GluFwdIdeal.τ).loc Cert.GluFwdIdeal.main_v4_3) = v3 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v13) = v0 c
          ∧ r.2.mem ((c.tc : Thread Cert.GluFwdRefIdeal.nD Cert.GluFwdRefIdeal.τ).loc Cert.GluFwdRefIdeal.main_v4) = v1 c
          ∧ r.2.mem ((c.tc : Thread Cert.GluFwdRefIdeal.nD Cert.GluFwdRefIdeal.τ).loc Cert.GluFwdRefIdeal.main_v5) = v2 c
          ∧ r.2.mem ((c.tc : Thread Cert.GluFwdRefIdeal.nD Cert.GluFwdRefIdeal.τ).loc Cert.GluFwdRefIdeal.main_v27) = v3 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v2_0)) (v1 : (c : Dev Cert.MlpInIdeal.nD) → Buf (Elt Ideal) ((c.tc : Thread Cert.MlpInIdeal.nD Cert.MlpInIdeal.τ).loc Cert.MlpInIdeal.main_v2_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v2_0) = v0 c
          ∧ r.2.mem ((c.tc : Thread Cert.MlpInIdeal.nD Cert.MlpInIdeal.τ).loc Cert.MlpInIdeal.main_v2_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v8) = v0 c
          ∧ r.2.mem ((c.tc : Thread Cert.MlpInRefIdeal.nD Cert.MlpInRefIdeal.τ).loc Cert.MlpInRefIdeal.main_v13) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)
      ∧ m' ((c.tc : Thread Cert.MlpOutRefIdeal.nD Cert.MlpOutRefIdeal.τ).loc Cert.MlpOutRefIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v4_0)) (v1 : (c : Dev Cert.MlpOutIdeal.nD) → Buf (Elt Ideal) ((c.tc : Thread Cert.MlpOutIdeal.nD Cert.MlpOutIdeal.τ).loc Cert.MlpOutIdeal.main_v4_1)) (v2 : (c : Dev Cert.MlpOutIdeal.nD) → Buf (Elt Ideal) ((c.tc : Thread Cert.MlpOutIdeal.nD Cert.MlpOutIdeal.τ).loc Cert.MlpOutIdeal.main_v4_2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v4_0) = v0 c
          ∧ r.2.mem ((c.tc : Thread Cert.MlpOutIdeal.nD Cert.MlpOutIdeal.τ).loc Cert.MlpOutIdeal.main_v4_1) = v1 c
          ∧ r.2.mem ((c.tc : Thread Cert.MlpOutIdeal.nD Cert.MlpOutIdeal.τ).loc Cert.MlpOutIdeal.main_v4_2) = v2 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v1) = v0 c
          ∧ r.2.mem ((c.tc : Thread Cert.MlpOutRefIdeal.nD Cert.MlpOutRefIdeal.τ).loc Cert.MlpOutRefIdeal.main_v15) = v1 c
          ∧ r.2.mem ((c.tc : Thread Cert.MlpOutRefIdeal.nD Cert.MlpOutRefIdeal.τ).loc Cert.MlpOutRefIdeal.main_v29) = v2 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3)
          ∧ r.2.mem ((c.tc : Thread Cert.MlpOutRefIdeal.nD Cert.MlpOutRefIdeal.τ).loc Cert.MlpOutRefIdeal.main_arg4) = m' ((c.tc : Thread Cert.MlpOutRefIdeal.nD Cert.MlpOutRefIdeal.τ).loc Cert.MlpOutRefIdeal.main_arg4))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)) →
    ∃ (v0 : (c : Dev Cert.OProjIdeal.nD) → Buf (Elt Ideal) ((c.tc : Thread Cert.OProjIdeal.nD Cert.OProjIdeal.τ).loc Cert.OProjIdeal.main_v4_0)) (v1 : (c : Dev Cert.OProjIdeal.nD) → Buf (Elt Ideal) ((c.tc : Thread Cert.OProjIdeal.nD Cert.OProjIdeal.τ).loc Cert.OProjIdeal.main_v4_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v4_0) = v0 c
          ∧ r.2.mem ((c.tc : Thread Cert.OProjIdeal.nD Cert.OProjIdeal.τ).loc Cert.OProjIdeal.main_v4_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4) = v0 c
          ∧ r.2.mem ((c.tc : Thread Cert.OProjRefIdeal.nD Cert.OProjRefIdeal.τ).loc Cert.OProjRefIdeal.main_v18) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4))

def preserves_S5Prep_S5PrepIdeal : Prop :=
  True

def algebraic_S5PrepIdeal_S5PrepRefIdeal [hS5PrepIdeal : Cert.S5PrepIdeal.Facts] [hS5PrepRefIdeal : Cert.S5PrepRefIdeal.Facts] : Prop :=
  ∀ (m : (ℓ : Loc Cert.S5PrepIdeal.nD Cert.S5PrepIdeal.τ Cert.S5PrepIdeal.sig) → Buf (Elt Ideal) ℓ) (g : Dev Cert.S5PrepIdeal.nD → PrngReg)
    (m' : (ℓ : Loc Cert.S5PrepRefIdeal.nD Cert.S5PrepRefIdeal.τ Cert.S5PrepRefIdeal.sig) → Buf (Elt Ideal) ℓ) (g' : Dev Cert.S5PrepRefIdeal.nD → PrngReg), Pre_S5PrepIdeal m →
    (∀ c : Dev Cert.S5PrepIdeal.nD,
      m' ((c.tc : Thread Cert.S5PrepRefIdeal.nD Cert.S5PrepRefIdeal.τ).loc Cert.S5PrepRefIdeal.main_arg0) = m ((c.tc : Thread Cert.S5PrepIdeal.nD Cert.S5PrepIdeal.τ).loc Cert.S5PrepIdeal.main_arg0)
      ∧ m' ((c.tc : Thread Cert.S5PrepRefIdeal.nD Cert.S5PrepRefIdeal.τ).loc Cert.S5PrepRefIdeal.main_arg1) = m ((c.tc : Thread Cert.S5PrepIdeal.nD Cert.S5PrepIdeal.τ).loc Cert.S5PrepIdeal.main_arg1)
      ∧ m' ((c.tc : Thread Cert.S5PrepRefIdeal.nD Cert.S5PrepRefIdeal.τ).loc Cert.S5PrepRefIdeal.main_arg2) = m ((c.tc : Thread Cert.S5PrepIdeal.nD Cert.S5PrepIdeal.τ).loc Cert.S5PrepIdeal.main_arg2)
      ∧ m' ((c.tc : Thread Cert.S5PrepRefIdeal.nD Cert.S5PrepRefIdeal.τ).loc Cert.S5PrepRefIdeal.main_arg3) = m ((c.tc : Thread Cert.S5PrepIdeal.nD Cert.S5PrepIdeal.τ).loc Cert.S5PrepIdeal.main_arg3)
      ∧ m' ((c.tc : Thread Cert.S5PrepRefIdeal.nD Cert.S5PrepRefIdeal.τ).loc Cert.S5PrepRefIdeal.main_arg4) = m ((c.tc : Thread Cert.S5PrepIdeal.nD Cert.S5PrepIdeal.τ).loc Cert.S5PrepIdeal.main_arg4)
      ∧ m' ((c.tc : Thread Cert.S5PrepRefIdeal.nD Cert.S5PrepRefIdeal.τ).loc Cert.S5PrepRefIdeal.main_arg5) = m ((c.tc : Thread Cert.S5PrepIdeal.nD Cert.S5PrepIdeal.τ).loc Cert.S5PrepIdeal.main_arg5)
      ∧ m' ((c.tc : Thread Cert.S5PrepRefIdeal.nD Cert.S5PrepRefIdeal.τ).loc Cert.S5PrepRefIdeal.main_arg6) = m ((c.tc : Thread Cert.S5PrepIdeal.nD Cert.S5PrepIdeal.τ).loc Cert.S5PrepIdeal.main_arg6)) →
    ∃ (v0 : (c : Dev Cert.S5PrepIdeal.nD) → Buf (Elt Ideal) ((c.tc : Thread Cert.S5PrepIdeal.nD Cert.S5PrepIdeal.τ).loc Cert.S5PrepIdeal.main_v5_0)) (v1 : (c : Dev Cert.S5PrepIdeal.nD) → Buf (Elt Ideal) ((c.tc : Thread Cert.S5PrepIdeal.nD Cert.S5PrepIdeal.τ).loc Cert.S5PrepIdeal.main_v5_1)) (v2 : (c : Dev Cert.S5PrepIdeal.nD) → Buf (Elt Ideal) ((c.tc : Thread Cert.S5PrepIdeal.nD Cert.S5PrepIdeal.τ).loc Cert.S5PrepIdeal.main_v5_2)) (v3 : (c : Dev Cert.S5PrepIdeal.nD) → Buf (Elt Ideal) ((c.tc : Thread Cert.S5PrepIdeal.nD Cert.S5PrepIdeal.τ).loc Cert.S5PrepIdeal.main_v5_3)) (v4 : (c : Dev Cert.S5PrepIdeal.nD) → Buf (Elt Ideal) ((c.tc : Thread Cert.S5PrepIdeal.nD Cert.S5PrepIdeal.τ).loc Cert.S5PrepIdeal.main_v5_4)) (v5 : (c : Dev Cert.S5PrepIdeal.nD) → Buf (Elt Ideal) ((c.tc : Thread Cert.S5PrepIdeal.nD Cert.S5PrepIdeal.τ).loc Cert.S5PrepIdeal.main_v5_5)),
      θ_run (Cert.S5PrepIdeal.defs (F := Ideal)) (onTc (τ := Cert.S5PrepIdeal.τ) (Cert.S5PrepIdeal.main (F := Ideal))) ⟨m, fun _ => 0, g⟩ (fun r => ∀ c : Dev Cert.S5PrepIdeal.nD,
          r.2.mem ((c.tc : Thread Cert.S5PrepIdeal.nD Cert.S5PrepIdeal.τ).loc Cert.S5PrepIdeal.main_v5_0) = v0 c
          ∧ r.2.mem ((c.tc : Thread Cert.S5PrepIdeal.nD Cert.S5PrepIdeal.τ).loc Cert.S5PrepIdeal.main_v5_1) = v1 c
          ∧ r.2.mem ((c.tc : Thread Cert.S5PrepIdeal.nD Cert.S5PrepIdeal.τ).loc Cert.S5PrepIdeal.main_v5_2) = v2 c
          ∧ r.2.mem ((c.tc : Thread Cert.S5PrepIdeal.nD Cert.S5PrepIdeal.τ).loc Cert.S5PrepIdeal.main_v5_3) = v3 c
          ∧ r.2.mem ((c.tc : Thread Cert.S5PrepIdeal.nD Cert.S5PrepIdeal.τ).loc Cert.S5PrepIdeal.main_v5_4) = v4 c
          ∧ r.2.mem ((c.tc : Thread Cert.S5PrepIdeal.nD Cert.S5PrepIdeal.τ).loc Cert.S5PrepIdeal.main_v5_5) = v5 c
          ∧ r.2.mem ((c.tc : Thread Cert.S5PrepIdeal.nD Cert.S5PrepIdeal.τ).loc Cert.S5PrepIdeal.main_arg0) = m ((c.tc : Thread Cert.S5PrepIdeal.nD Cert.S5PrepIdeal.τ).loc Cert.S5PrepIdeal.main_arg0)
          ∧ r.2.mem ((c.tc : Thread Cert.S5PrepIdeal.nD Cert.S5PrepIdeal.τ).loc Cert.S5PrepIdeal.main_arg1) = m ((c.tc : Thread Cert.S5PrepIdeal.nD Cert.S5PrepIdeal.τ).loc Cert.S5PrepIdeal.main_arg1)
          ∧ r.2.mem ((c.tc : Thread Cert.S5PrepIdeal.nD Cert.S5PrepIdeal.τ).loc Cert.S5PrepIdeal.main_arg2) = m ((c.tc : Thread Cert.S5PrepIdeal.nD Cert.S5PrepIdeal.τ).loc Cert.S5PrepIdeal.main_arg2)
          ∧ r.2.mem ((c.tc : Thread Cert.S5PrepIdeal.nD Cert.S5PrepIdeal.τ).loc Cert.S5PrepIdeal.main_arg3) = m ((c.tc : Thread Cert.S5PrepIdeal.nD Cert.S5PrepIdeal.τ).loc Cert.S5PrepIdeal.main_arg3)
          ∧ r.2.mem ((c.tc : Thread Cert.S5PrepIdeal.nD Cert.S5PrepIdeal.τ).loc Cert.S5PrepIdeal.main_arg4) = m ((c.tc : Thread Cert.S5PrepIdeal.nD Cert.S5PrepIdeal.τ).loc Cert.S5PrepIdeal.main_arg4)
          ∧ r.2.mem ((c.tc : Thread Cert.S5PrepIdeal.nD Cert.S5PrepIdeal.τ).loc Cert.S5PrepIdeal.main_arg5) = m ((c.tc : Thread Cert.S5PrepIdeal.nD Cert.S5PrepIdeal.τ).loc Cert.S5PrepIdeal.main_arg5)
          ∧ r.2.mem ((c.tc : Thread Cert.S5PrepIdeal.nD Cert.S5PrepIdeal.τ).loc Cert.S5PrepIdeal.main_arg6) = m ((c.tc : Thread Cert.S5PrepIdeal.nD Cert.S5PrepIdeal.τ).loc Cert.S5PrepIdeal.main_arg6))
      ∧ θ_run (Cert.S5PrepRefIdeal.defs (F := Ideal)) (onTc (τ := Cert.S5PrepRefIdeal.τ) (Cert.S5PrepRefIdeal.main (F := Ideal))) ⟨m', fun _ => 0, g'⟩ (fun r => ∀ c : Dev Cert.S5PrepRefIdeal.nD,
          r.2.mem ((c.tc : Thread Cert.S5PrepRefIdeal.nD Cert.S5PrepRefIdeal.τ).loc Cert.S5PrepRefIdeal.main_v63) = v0 c
          ∧ r.2.mem ((c.tc : Thread Cert.S5PrepRefIdeal.nD Cert.S5PrepRefIdeal.τ).loc Cert.S5PrepRefIdeal.main_v82) = v1 c
          ∧ r.2.mem ((c.tc : Thread Cert.S5PrepRefIdeal.nD Cert.S5PrepRefIdeal.τ).loc Cert.S5PrepRefIdeal.main_v83) = v2 c
          ∧ r.2.mem ((c.tc : Thread Cert.S5PrepRefIdeal.nD Cert.S5PrepRefIdeal.τ).loc Cert.S5PrepRefIdeal.main_v81) = v3 c
          ∧ r.2.mem ((c.tc : Thread Cert.S5PrepRefIdeal.nD Cert.S5PrepRefIdeal.τ).loc Cert.S5PrepRefIdeal.main_v84) = v4 c
          ∧ r.2.mem ((c.tc : Thread Cert.S5PrepRefIdeal.nD Cert.S5PrepRefIdeal.τ).loc Cert.S5PrepRefIdeal.main_v85) = v5 c
          ∧ r.2.mem ((c.tc : Thread Cert.S5PrepRefIdeal.nD Cert.S5PrepRefIdeal.τ).loc Cert.S5PrepRefIdeal.main_arg0) = m' ((c.tc : Thread Cert.S5PrepRefIdeal.nD Cert.S5PrepRefIdeal.τ).loc Cert.S5PrepRefIdeal.main_arg0)
          ∧ r.2.mem ((c.tc : Thread Cert.S5PrepRefIdeal.nD Cert.S5PrepRefIdeal.τ).loc Cert.S5PrepRefIdeal.main_arg1) = m' ((c.tc : Thread Cert.S5PrepRefIdeal.nD Cert.S5PrepRefIdeal.τ).loc Cert.S5PrepRefIdeal.main_arg1)
          ∧ r.2.mem ((c.tc : Thread Cert.S5PrepRefIdeal.nD Cert.S5PrepRefIdeal.τ).loc Cert.S5PrepRefIdeal.main_arg2) = m' ((c.tc : Thread Cert.S5PrepRefIdeal.nD Cert.S5PrepRefIdeal.τ).loc Cert.S5PrepRefIdeal.main_arg2)
          ∧ r.2.mem ((c.tc : Thread Cert.S5PrepRefIdeal.nD Cert.S5PrepRefIdeal.τ).loc Cert.S5PrepRefIdeal.main_arg3) = m' ((c.tc : Thread Cert.S5PrepRefIdeal.nD Cert.S5PrepRefIdeal.τ).loc Cert.S5PrepRefIdeal.main_arg3)
          ∧ r.2.mem ((c.tc : Thread Cert.S5PrepRefIdeal.nD Cert.S5PrepRefIdeal.τ).loc Cert.S5PrepRefIdeal.main_arg4) = m' ((c.tc : Thread Cert.S5PrepRefIdeal.nD Cert.S5PrepRefIdeal.τ).loc Cert.S5PrepRefIdeal.main_arg4)
          ∧ r.2.mem ((c.tc : Thread Cert.S5PrepRefIdeal.nD Cert.S5PrepRefIdeal.τ).loc Cert.S5PrepRefIdeal.main_arg5) = m' ((c.tc : Thread Cert.S5PrepRefIdeal.nD Cert.S5PrepRefIdeal.τ).loc Cert.S5PrepRefIdeal.main_arg5)
          ∧ r.2.mem ((c.tc : Thread Cert.S5PrepRefIdeal.nD Cert.S5PrepRefIdeal.τ).loc Cert.S5PrepRefIdeal.main_arg6) = m' ((c.tc : Thread Cert.S5PrepRefIdeal.nD Cert.S5PrepRefIdeal.τ).loc Cert.S5PrepRefIdeal.main_arg6))

def preserves_S5Compact_S5CompactIdeal : Prop :=
  True

def algebraic_S5CompactIdeal_S5CompactRefIdeal [hS5CompactIdeal : Cert.S5CompactIdeal.Facts] [hS5CompactRefIdeal : Cert.S5CompactRefIdeal.Facts] : Prop :=
  ∀ (m : (ℓ : Loc Cert.S5CompactIdeal.nD Cert.S5CompactIdeal.τ Cert.S5CompactIdeal.sig) → Buf (Elt Ideal) ℓ) (g : Dev Cert.S5CompactIdeal.nD → PrngReg)
    (m' : (ℓ : Loc Cert.S5CompactRefIdeal.nD Cert.S5CompactRefIdeal.τ Cert.S5CompactRefIdeal.sig) → Buf (Elt Ideal) ℓ) (g' : Dev Cert.S5CompactRefIdeal.nD → PrngReg), Pre_S5CompactIdeal m →
    (∀ c : Dev Cert.S5CompactIdeal.nD,
      m' ((c.tc : Thread Cert.S5CompactRefIdeal.nD Cert.S5CompactRefIdeal.τ).loc Cert.S5CompactRefIdeal.main_arg0) = m ((c.tc : Thread Cert.S5CompactIdeal.nD Cert.S5CompactIdeal.τ).loc Cert.S5CompactIdeal.main_arg0)
      ∧ m' ((c.tc : Thread Cert.S5CompactRefIdeal.nD Cert.S5CompactRefIdeal.τ).loc Cert.S5CompactRefIdeal.main_arg1) = m ((c.tc : Thread Cert.S5CompactIdeal.nD Cert.S5CompactIdeal.τ).loc Cert.S5CompactIdeal.main_arg1)
      ∧ m' ((c.tc : Thread Cert.S5CompactRefIdeal.nD Cert.S5CompactRefIdeal.τ).loc Cert.S5CompactRefIdeal.main_arg2) = m ((c.tc : Thread Cert.S5CompactIdeal.nD Cert.S5CompactIdeal.τ).loc Cert.S5CompactIdeal.main_arg2)
      ∧ m' ((c.tc : Thread Cert.S5CompactRefIdeal.nD Cert.S5CompactRefIdeal.τ).loc Cert.S5CompactRefIdeal.main_arg3) = m ((c.tc : Thread Cert.S5CompactIdeal.nD Cert.S5CompactIdeal.τ).loc Cert.S5CompactIdeal.main_arg3)) →
    ∃ (v0 : (c : Dev Cert.S5CompactIdeal.nD) → Buf (Elt Ideal) ((c.tc : Thread Cert.S5CompactIdeal.nD Cert.S5CompactIdeal.τ).loc Cert.S5CompactIdeal.main_v0_0)) (v1 : (c : Dev Cert.S5CompactIdeal.nD) → Buf (Elt Ideal) ((c.tc : Thread Cert.S5CompactIdeal.nD Cert.S5CompactIdeal.τ).loc Cert.S5CompactIdeal.main_v0_1)),
      θ_run (Cert.S5CompactIdeal.defs (F := Ideal)) (onTc (τ := Cert.S5CompactIdeal.τ) (Cert.S5CompactIdeal.main (F := Ideal))) ⟨m, fun _ => 0, g⟩ (fun r => ∀ c : Dev Cert.S5CompactIdeal.nD,
          r.2.mem ((c.tc : Thread Cert.S5CompactIdeal.nD Cert.S5CompactIdeal.τ).loc Cert.S5CompactIdeal.main_v0_0) = v0 c
          ∧ r.2.mem ((c.tc : Thread Cert.S5CompactIdeal.nD Cert.S5CompactIdeal.τ).loc Cert.S5CompactIdeal.main_v0_1) = v1 c
          ∧ r.2.mem ((c.tc : Thread Cert.S5CompactIdeal.nD Cert.S5CompactIdeal.τ).loc Cert.S5CompactIdeal.main_arg0) = m ((c.tc : Thread Cert.S5CompactIdeal.nD Cert.S5CompactIdeal.τ).loc Cert.S5CompactIdeal.main_arg0)
          ∧ r.2.mem ((c.tc : Thread Cert.S5CompactIdeal.nD Cert.S5CompactIdeal.τ).loc Cert.S5CompactIdeal.main_arg1) = m ((c.tc : Thread Cert.S5CompactIdeal.nD Cert.S5CompactIdeal.τ).loc Cert.S5CompactIdeal.main_arg1)
          ∧ r.2.mem ((c.tc : Thread Cert.S5CompactIdeal.nD Cert.S5CompactIdeal.τ).loc Cert.S5CompactIdeal.main_arg2) = m ((c.tc : Thread Cert.S5CompactIdeal.nD Cert.S5CompactIdeal.τ).loc Cert.S5CompactIdeal.main_arg2)
          ∧ r.2.mem ((c.tc : Thread Cert.S5CompactIdeal.nD Cert.S5CompactIdeal.τ).loc Cert.S5CompactIdeal.main_arg3) = m ((c.tc : Thread Cert.S5CompactIdeal.nD Cert.S5CompactIdeal.τ).loc Cert.S5CompactIdeal.main_arg3))
      ∧ θ_run (Cert.S5CompactRefIdeal.defs (F := Ideal)) (onTc (τ := Cert.S5CompactRefIdeal.τ) (Cert.S5CompactRefIdeal.main (F := Ideal))) ⟨m', fun _ => 0, g'⟩ (fun r => ∀ c : Dev Cert.S5CompactRefIdeal.nD,
          r.2.mem ((c.tc : Thread Cert.S5CompactRefIdeal.nD Cert.S5CompactRefIdeal.τ).loc Cert.S5CompactRefIdeal.main_v60) = v0 c
          ∧ r.2.mem ((c.tc : Thread Cert.S5CompactRefIdeal.nD Cert.S5CompactRefIdeal.τ).loc Cert.S5CompactRefIdeal.main_v63) = v1 c
          ∧ r.2.mem ((c.tc : Thread Cert.S5CompactRefIdeal.nD Cert.S5CompactRefIdeal.τ).loc Cert.S5CompactRefIdeal.main_arg0) = m' ((c.tc : Thread Cert.S5CompactRefIdeal.nD Cert.S5CompactRefIdeal.τ).loc Cert.S5CompactRefIdeal.main_arg0)
          ∧ r.2.mem ((c.tc : Thread Cert.S5CompactRefIdeal.nD Cert.S5CompactRefIdeal.τ).loc Cert.S5CompactRefIdeal.main_arg1) = m' ((c.tc : Thread Cert.S5CompactRefIdeal.nD Cert.S5CompactRefIdeal.τ).loc Cert.S5CompactRefIdeal.main_arg1)
          ∧ r.2.mem ((c.tc : Thread Cert.S5CompactRefIdeal.nD Cert.S5CompactRefIdeal.τ).loc Cert.S5CompactRefIdeal.main_arg2) = m' ((c.tc : Thread Cert.S5CompactRefIdeal.nD Cert.S5CompactRefIdeal.τ).loc Cert.S5CompactRefIdeal.main_arg2)
          ∧ r.2.mem ((c.tc : Thread Cert.S5CompactRefIdeal.nD Cert.S5CompactRefIdeal.τ).loc Cert.S5CompactRefIdeal.main_arg3) = m' ((c.tc : Thread Cert.S5CompactRefIdeal.nD Cert.S5CompactRefIdeal.τ).loc Cert.S5CompactRefIdeal.main_arg3))

def preserves_MlpDw_MlpDwIdeal : Prop :=
  True

def algebraic_MlpDwIdeal_MlpDwRefIdeal [hMlpDwIdeal : Cert.MlpDwIdeal.Facts] [hMlpDwRefIdeal : Cert.MlpDwRefIdeal.Facts] : Prop :=
  ∀ (m : (ℓ : Loc Cert.MlpDwIdeal.nD Cert.MlpDwIdeal.τ Cert.MlpDwIdeal.sig) → Buf (Elt Ideal) ℓ) (g : Dev Cert.MlpDwIdeal.nD → PrngReg)
    (m' : (ℓ : Loc Cert.MlpDwRefIdeal.nD Cert.MlpDwRefIdeal.τ Cert.MlpDwRefIdeal.sig) → Buf (Elt Ideal) ℓ) (g' : Dev Cert.MlpDwRefIdeal.nD → PrngReg), Pre_MlpDwIdeal m →
    (∀ c : Dev Cert.MlpDwIdeal.nD,
      m' ((c.tc : Thread Cert.MlpDwRefIdeal.nD Cert.MlpDwRefIdeal.τ).loc Cert.MlpDwRefIdeal.main_arg0) = m ((c.tc : Thread Cert.MlpDwIdeal.nD Cert.MlpDwIdeal.τ).loc Cert.MlpDwIdeal.main_arg0)
      ∧ m' ((c.tc : Thread Cert.MlpDwRefIdeal.nD Cert.MlpDwRefIdeal.τ).loc Cert.MlpDwRefIdeal.main_arg1) = m ((c.tc : Thread Cert.MlpDwIdeal.nD Cert.MlpDwIdeal.τ).loc Cert.MlpDwIdeal.main_arg1)) →
    ∃ (v0 : (c : Dev Cert.MlpDwIdeal.nD) → Buf (Elt Ideal) ((c.tc : Thread Cert.MlpDwIdeal.nD Cert.MlpDwIdeal.τ).loc Cert.MlpDwIdeal.main_v2)),
      θ_run (Cert.MlpDwIdeal.defs (F := Ideal)) (onTc (τ := Cert.MlpDwIdeal.τ) (Cert.MlpDwIdeal.main (F := Ideal))) ⟨m, fun _ => 0, g⟩ (fun r => ∀ c : Dev Cert.MlpDwIdeal.nD,
          r.2.mem ((c.tc : Thread Cert.MlpDwIdeal.nD Cert.MlpDwIdeal.τ).loc Cert.MlpDwIdeal.main_v2) = v0 c
          ∧ r.2.mem ((c.tc : Thread Cert.MlpDwIdeal.nD Cert.MlpDwIdeal.τ).loc Cert.MlpDwIdeal.main_arg0) = m ((c.tc : Thread Cert.MlpDwIdeal.nD Cert.MlpDwIdeal.τ).loc Cert.MlpDwIdeal.main_arg0)
          ∧ r.2.mem ((c.tc : Thread Cert.MlpDwIdeal.nD Cert.MlpDwIdeal.τ).loc Cert.MlpDwIdeal.main_arg1) = m ((c.tc : Thread Cert.MlpDwIdeal.nD Cert.MlpDwIdeal.τ).loc Cert.MlpDwIdeal.main_arg1))
      ∧ θ_run (Cert.MlpDwRefIdeal.defs (F := Ideal)) (onTc (τ := Cert.MlpDwRefIdeal.τ) (Cert.MlpDwRefIdeal.main (F := Ideal))) ⟨m', fun _ => 0, g'⟩ (fun r => ∀ c : Dev Cert.MlpDwRefIdeal.nD,
          r.2.mem ((c.tc : Thread Cert.MlpDwRefIdeal.nD Cert.MlpDwRefIdeal.τ).loc Cert.MlpDwRefIdeal.main_v4) = v0 c
          ∧ r.2.mem ((c.tc : Thread Cert.MlpDwRefIdeal.nD Cert.MlpDwRefIdeal.τ).loc Cert.MlpDwRefIdeal.main_arg0) = m' ((c.tc : Thread Cert.MlpDwRefIdeal.nD Cert.MlpDwRefIdeal.τ).loc Cert.MlpDwRefIdeal.main_arg0)
          ∧ r.2.mem ((c.tc : Thread Cert.MlpDwRefIdeal.nD Cert.MlpDwRefIdeal.τ).loc Cert.MlpDwRefIdeal.main_arg1) = m' ((c.tc : Thread Cert.MlpDwRefIdeal.nD Cert.MlpDwRefIdeal.τ).loc Cert.MlpDwRefIdeal.main_arg1))

def Claim : Prop :=
  ∃ (hGluBwd : Cert.GluBwd.Facts) (hGluBwdIdeal : Cert.GluBwdIdeal.Facts) (hGluRefIdeal : Cert.GluRefIdeal.Facts) (hGluDy : Cert.GluDy.Facts) (hGluDyIdeal : Cert.GluDyIdeal.Facts) (hGluDyRefIdeal : Cert.GluDyRefIdeal.Facts) (hMlpDa : Cert.MlpDa.Facts) (hMlpDaIdeal : Cert.MlpDaIdeal.Facts) (hMlpDaRefIdeal : Cert.MlpDaRefIdeal.Facts) (hKvCombine : Cert.KvCombine.Facts) (hKvCombineIdeal : Cert.KvCombineIdeal.Facts) (hKvCombineRefIdeal : Cert.KvCombineRefIdeal.Facts) (hMlpDn : Cert.MlpDn.Facts) (hMlpDnIdeal : Cert.MlpDnIdeal.Facts) (hMlpDnRefIdeal : Cert.MlpDnRefIdeal.Facts) (hAttnDn : Cert.AttnDn.Facts) (hAttnDnIdeal : Cert.AttnDnIdeal.Facts) (hAttnDnRefIdeal : Cert.AttnDnRefIdeal.Facts) (hLossHead : Cert.LossHead.Facts) (hLossHeadIdeal : Cert.LossHeadIdeal.Facts) (hLossRefIdeal : Cert.LossRefIdeal.Facts) (hS5Param : Cert.S5Param.Facts) (hS5ParamIdeal : Cert.S5ParamIdeal.Facts) (hS5ParamRefIdeal : Cert.S5ParamRefIdeal.Facts) (hAttnBwd : Cert.AttnBwd.Facts) (hAttnBwdIdeal : Cert.AttnBwdIdeal.Facts) (hAttnRefIdeal : Cert.AttnRefIdeal.Facts) (hAttnFwd : Cert.AttnFwd.Facts) (hAttnFwdIdeal : Cert.AttnFwdIdeal.Facts) (hAttnFwdRefIdeal : Cert.AttnFwdRefIdeal.Facts) (hGluFwd : Cert.GluFwd.Facts) (hGluFwdIdeal : Cert.GluFwdIdeal.Facts) (hGluFwdRefIdeal : Cert.GluFwdRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hOProj : Cert.OProj.Facts) (hOProjIdeal : Cert.OProjIdeal.Facts) (hOProjRefIdeal : Cert.OProjRefIdeal.Facts) (hS5Prep : Cert.S5Prep.Facts) (hS5PrepIdeal : Cert.S5PrepIdeal.Facts) (hS5PrepRefIdeal : Cert.S5PrepRefIdeal.Facts) (hS5Compact : Cert.S5Compact.Facts) (hS5CompactIdeal : Cert.S5CompactIdeal.Facts) (hS5CompactRefIdeal : Cert.S5CompactRefIdeal.Facts) (hMlpDw : Cert.MlpDw.Facts) (hMlpDwIdeal : Cert.MlpDwIdeal.Facts) (hMlpDwRefIdeal : Cert.MlpDwRefIdeal.Facts) (hPre_finite_dy : Cert.Pre_finite_dy.Facts) (hPre_finite_mlpdn : Cert.Pre_finite_mlpdn.Facts) (hPre_finite_attndn : Cert.Pre_finite_attndn.Facts) (hPre_finite_loss : Cert.Pre_finite_loss.Facts) (hPre_finite_pbwd : Cert.Pre_finite_pbwd.Facts) (hPre_finite_attn : Cert.Pre_finite_attn.Facts) (hPre_finite_attnf : Cert.Pre_finite_attnf.Facts),
    quiescent_GluBwd (hGluBwd := hGluBwd)
    ∧ quiescent_GluBwdIdeal (hGluBwdIdeal := hGluBwdIdeal)
    ∧ quiescent_GluRefIdeal (hGluRefIdeal := hGluRefIdeal)
    ∧ quiescent_GluDy (hGluDy := hGluDy)
    ∧ quiescent_GluDyIdeal (hGluDyIdeal := hGluDyIdeal)
    ∧ quiescent_GluDyIdeal_pre_finite_dy (hGluDyIdeal := hGluDyIdeal) (hPre_finite_dy := hPre_finite_dy)
    ∧ quiescent_GluDyRefIdeal (hGluDyRefIdeal := hGluDyRefIdeal)
    ∧ quiescent_GluDyRefIdeal_pre_finite_dy (hGluDyRefIdeal := hGluDyRefIdeal) (hPre_finite_dy := hPre_finite_dy)
    ∧ quiescent_MlpDa (hMlpDa := hMlpDa)
    ∧ quiescent_MlpDaIdeal (hMlpDaIdeal := hMlpDaIdeal)
    ∧ quiescent_MlpDaRefIdeal (hMlpDaRefIdeal := hMlpDaRefIdeal)
    ∧ quiescent_KvCombine (hKvCombine := hKvCombine)
    ∧ quiescent_KvCombineIdeal (hKvCombineIdeal := hKvCombineIdeal)
    ∧ quiescent_KvCombineRefIdeal (hKvCombineRefIdeal := hKvCombineRefIdeal)
    ∧ quiescent_MlpDn (hMlpDn := hMlpDn)
    ∧ quiescent_MlpDnIdeal (hMlpDnIdeal := hMlpDnIdeal)
    ∧ quiescent_MlpDnIdeal_pre_finite_mlpdn (hMlpDnIdeal := hMlpDnIdeal) (hPre_finite_mlpdn := hPre_finite_mlpdn)
    ∧ quiescent_MlpDnRefIdeal (hMlpDnRefIdeal := hMlpDnRefIdeal)
    ∧ quiescent_MlpDnRefIdeal_pre_finite_mlpdn (hMlpDnRefIdeal := hMlpDnRefIdeal) (hPre_finite_mlpdn := hPre_finite_mlpdn)
    ∧ quiescent_AttnDn (hAttnDn := hAttnDn)
    ∧ quiescent_AttnDnIdeal (hAttnDnIdeal := hAttnDnIdeal)
    ∧ quiescent_AttnDnIdeal_pre_finite_attndn (hAttnDnIdeal := hAttnDnIdeal) (hPre_finite_attndn := hPre_finite_attndn)
    ∧ quiescent_AttnDnRefIdeal (hAttnDnRefIdeal := hAttnDnRefIdeal)
    ∧ quiescent_AttnDnRefIdeal_pre_finite_attndn (hAttnDnRefIdeal := hAttnDnRefIdeal) (hPre_finite_attndn := hPre_finite_attndn)
    ∧ quiescent_LossHead (hLossHead := hLossHead)
    ∧ quiescent_LossHeadIdeal (hLossHeadIdeal := hLossHeadIdeal)
    ∧ quiescent_LossHeadIdeal_pre_finite_loss (hLossHeadIdeal := hLossHeadIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_S5Param (hS5Param := hS5Param)
    ∧ quiescent_S5ParamIdeal (hS5ParamIdeal := hS5ParamIdeal)
    ∧ quiescent_S5ParamIdeal_pre_finite_pbwd (hS5ParamIdeal := hS5ParamIdeal) (hPre_finite_pbwd := hPre_finite_pbwd)
    ∧ quiescent_S5ParamRefIdeal (hS5ParamRefIdeal := hS5ParamRefIdeal)
    ∧ quiescent_S5ParamRefIdeal_pre_finite_pbwd (hS5ParamRefIdeal := hS5ParamRefIdeal) (hPre_finite_pbwd := hPre_finite_pbwd)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AttnFwd (hAttnFwd := hAttnFwd)
    ∧ quiescent_AttnFwdIdeal (hAttnFwdIdeal := hAttnFwdIdeal)
    ∧ quiescent_AttnFwdIdeal_pre_finite_attnf (hAttnFwdIdeal := hAttnFwdIdeal) (hPre_finite_attnf := hPre_finite_attnf)
    ∧ quiescent_AttnFwdRefIdeal (hAttnFwdRefIdeal := hAttnFwdRefIdeal)
    ∧ quiescent_AttnFwdRefIdeal_pre_finite_attnf (hAttnFwdRefIdeal := hAttnFwdRefIdeal) (hPre_finite_attnf := hPre_finite_attnf)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_OProj (hOProj := hOProj)
    ∧ quiescent_OProjIdeal (hOProjIdeal := hOProjIdeal)
    ∧ quiescent_OProjRefIdeal (hOProjRefIdeal := hOProjRefIdeal)
    ∧ quiescent_S5Prep (hS5Prep := hS5Prep)
    ∧ quiescent_S5PrepIdeal (hS5PrepIdeal := hS5PrepIdeal)
    ∧ quiescent_S5PrepRefIdeal (hS5PrepRefIdeal := hS5PrepRefIdeal)
    ∧ quiescent_S5Compact (hS5Compact := hS5Compact)
    ∧ quiescent_S5CompactIdeal (hS5CompactIdeal := hS5CompactIdeal)
    ∧ quiescent_S5CompactRefIdeal (hS5CompactRefIdeal := hS5CompactRefIdeal)
    ∧ quiescent_MlpDw (hMlpDw := hMlpDw)
    ∧ quiescent_MlpDwIdeal (hMlpDwIdeal := hMlpDwIdeal)
    ∧ quiescent_MlpDwRefIdeal (hMlpDwRefIdeal := hMlpDwRefIdeal)
    ∧ preserves_GluBwd_GluBwdIdeal
    ∧ algebraic_GluBwdIdeal_GluRefIdeal (hGluBwdIdeal := hGluBwdIdeal) (hGluRefIdeal := hGluRefIdeal)
    ∧ preserves_GluDy_GluDyIdeal
    ∧ algebraic_GluDyIdeal_GluDyRefIdeal_pre_finite_dy (hGluDyIdeal := hGluDyIdeal) (hGluDyRefIdeal := hGluDyRefIdeal) (hPre_finite_dy := hPre_finite_dy)
    ∧ preserves_MlpDa_MlpDaIdeal
    ∧ algebraic_MlpDaIdeal_MlpDaRefIdeal (hMlpDaIdeal := hMlpDaIdeal) (hMlpDaRefIdeal := hMlpDaRefIdeal)
    ∧ preserves_KvCombine_KvCombineIdeal
    ∧ algebraic_KvCombineIdeal_KvCombineRefIdeal (hKvCombineIdeal := hKvCombineIdeal) (hKvCombineRefIdeal := hKvCombineRefIdeal)
    ∧ preserves_MlpDn_MlpDnIdeal
    ∧ algebraic_MlpDnIdeal_MlpDnRefIdeal_pre_finite_mlpdn (hMlpDnIdeal := hMlpDnIdeal) (hMlpDnRefIdeal := hMlpDnRefIdeal) (hPre_finite_mlpdn := hPre_finite_mlpdn)
    ∧ preserves_AttnDn_AttnDnIdeal
    ∧ algebraic_AttnDnIdeal_AttnDnRefIdeal_pre_finite_attndn (hAttnDnIdeal := hAttnDnIdeal) (hAttnDnRefIdeal := hAttnDnRefIdeal) (hPre_finite_attndn := hPre_finite_attndn)
    ∧ preserves_LossHead_LossHeadIdeal
    ∧ algebraic_LossHeadIdeal_LossRefIdeal_pre_finite_loss (hLossHeadIdeal := hLossHeadIdeal) (hLossRefIdeal := hLossRefIdeal) (hPre_finite_loss := hPre_finite_loss)
    ∧ preserves_S5Param_S5ParamIdeal
    ∧ algebraic_S5ParamIdeal_S5ParamRefIdeal_pre_finite_pbwd (hS5ParamIdeal := hS5ParamIdeal) (hS5ParamRefIdeal := hS5ParamRefIdeal) (hPre_finite_pbwd := hPre_finite_pbwd)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_AttnFwd_AttnFwdIdeal
    ∧ algebraic_AttnFwdIdeal_AttnFwdRefIdeal_pre_finite_attnf (hAttnFwdIdeal := hAttnFwdIdeal) (hAttnFwdRefIdeal := hAttnFwdRefIdeal) (hPre_finite_attnf := hPre_finite_attnf)
    ∧ preserves_GluFwd_GluFwdIdeal
    ∧ algebraic_GluFwdIdeal_GluFwdRefIdeal (hGluFwdIdeal := hGluFwdIdeal) (hGluFwdRefIdeal := hGluFwdRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_OProj_OProjIdeal
    ∧ algebraic_OProjIdeal_OProjRefIdeal (hOProjIdeal := hOProjIdeal) (hOProjRefIdeal := hOProjRefIdeal)
    ∧ preserves_S5Prep_S5PrepIdeal
    ∧ algebraic_S5PrepIdeal_S5PrepRefIdeal (hS5PrepIdeal := hS5PrepIdeal) (hS5PrepRefIdeal := hS5PrepRefIdeal)
    ∧ preserves_S5Compact_S5CompactIdeal
    ∧ algebraic_S5CompactIdeal_S5CompactRefIdeal (hS5CompactIdeal := hS5CompactIdeal) (hS5CompactRefIdeal := hS5CompactRefIdeal)
    ∧ preserves_MlpDw_MlpDwIdeal
    ∧ algebraic_MlpDwIdeal_MlpDwRefIdeal (hMlpDwIdeal := hMlpDwIdeal) (hMlpDwRefIdeal := hMlpDwRefIdeal)
-- ==== Pre_finite_attn.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2048x512 : S_.BroadcastsInDim S2048x512 (![] : Fin 0 → Fin S2048x512.rank)
  reducesTo_S2048x512_S_d0_1 : S2048x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S2048x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S1024 .f32) (main_arg2 : FVec F S2048x512 .f32) (main_arg3 : FVec F S16 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_finite_attndn.lean ====
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S2048x512 : Shape := ⟨2, ![2048, 512]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S1024x512 .f32) (main_arg5 : FVec F S2048x1024 .f32) (main_arg6 : FVec F S2048x512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x512 .f32 := Host.absf main_arg6
  let main_cst_10 : FVec F S_ .f32 := constant S_ .f32 0x7F800000#32
  let main_v30 : FVec F S2048x512 .f32 := broadcastInDim S2048x512 ![] bcast_S_S2048x512 main_cst_10
  let main_v31 : IVec S2048x512 1 := cmpf .olt main_v29 main_v30
  let main_c_11 : IVec S_ 1 := constantI S_ 1 1#1
  let main_v32 : IVec S_ 1 := (fun x v => Host.reduce IntOp.andi x v reducesTo_S2048x512_S_d0_1 h_S_) main_v31 main_c_11
  let main_v33 : IVec S_ 1 := andi main_v28 main_v32
  main_v33

def fn {F : FTy → Type} [FloatOps F] (main_arg0 : FVec F S2048x1024 .f32) (main_arg1 : FVec F S1024 .f32) (main_arg2 : FVec F S1024 .f32) (main_arg3 : FVec F S1024x1024 .f32) (main_arg4 : FVec F S1024x512 .f32) (main_arg5 : FVec F S2048x1024 .f32) (main_arg6 : FVec F S2048x512 .f32) (main_arg7 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Pre_finite_attnf.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2048x512 : S_.BroadcastsInDim S2048x512 (![] : Fin 0 → Fin S2048x512.rank)
  reducesTo_S2048x512_S_d0_1 : S2048x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S2048x1024 .f32) (main_arg1 : FVec F S1024 .f32) (main_arg2 : FVec F S2048x512 .f32) (main_arg3 : FVec F S16 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite_dy.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S2048x1024 .f32) (main_arg1 : FVec F S1024x2048 .f32) (main_arg2 : FVec F S2048x2048 .f32) : IVec S_ 1 :=
  let main_v0 : FVec F S1024x2048 .f32 := Host.absf main_arg1
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Pre_finite_loss.lean ====
abbrev S2048x1024 : Shape := ⟨2, ![2048, 1024]⟩
abbrev S2048x4096 : Shape := ⟨2, ![2048, 4096]⟩
abbrev S4096x1024 : Shape := ⟨2, ![4096, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2048x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x1024 .f32) (main_arg1 : FVec F S2048x4096 .f32) (main_arg2 : FVec F S4096x1024 .f32) (main_arg3 : FVec F S1024 .f32) (main_arg4 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_mlpdn.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg4 : FVec F S2048x4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  main_v23

def fn {F : FTy → Type} [FloatOps F] (main_arg0 : FVec F S2048x1024 .f32) (main_arg1 : FVec F S1024 .f32) (main_arg2 : FVec F S1024 .f32) (main_arg3 : FVec F S1024x4096 .f32) (main_arg4 : FVec F S2048x4096 .f32) (main_arg5 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Pre_finite_pbwd.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩

class Facts : Prop where
  bcast_S_S64x64 : S_.BroadcastsInDim S64x64 (![] : Fin 0 → Fin S64x64.rank)
  reducesTo_S64x64_S_d0_1 : S64x64.ReducesTo [0, 1] S_
  h_S_ : 0 < S_.numel
  bcast_S_S64 : S_.BroadcastsInDim S64 (![] : Fin 0 → Fin S64.rank)
  reducesTo_S64_S_d0 : S64.ReducesTo [0] S_
  bcast_S_S64x64x16 : S_.BroadcastsInDim S64x64x16 (![] : Fin 0 → Fin S64x64x16.rank)
  reducesTo_S64x64x16_S_d0_1_2 : S64x64x16.ReducesTo [0, 1, 2] S_

variable [Facts]

def fn_part2 {F : FTy → Type} [FloatOps F] (main_arg9 : FVec F S64x64x16 .f32) (main_arg10 : FVec F S64x64x16 .f32) (main_v33 : IVec S_ 1) : IVec S_ 1 :=
  let main_v34 : FVec F S64x64x16 .f32 := Host.absf main_arg9
  let main_cst_12 : FVec F S_ .f32 := constant S_ .f32 0x7F800000#32
  let main_v35 : FVec F S64x64x16 .f32 := broadcastInDim S64x64x16 ![] bcast_S_S64x64x16 main_cst_12
  let main_v36 : IVec S64x64x16 1 := cmpf .olt main_v34 main_v35
  let main_c_13 : IVec S_ 1 := constantI S_ 1 1#1
  let main_v37 : IVec S_ 1 := (fun x v => Host.reduce IntOp.andi x v reducesTo_S64x64x16_S_d0_1_2 h_S_) main_v36 main_c_13
  let main_v38 : IVec S_ 1 := andi main_v33 main_v37
  let main_v39 : FVec F S64x64x16 .f32 := Host.absf main_arg10
  let main_cst_14 : FVec F S_ .f32 := constant S_ .f32 0x7F800000#32
  let main_v40 : FVec F S64x64x16 .f32 := broadcastInDim S64x64x16 ![] bcast_S_S64x64x16 main_cst_14
  let main_v41 : IVec S64x64x16 1 := cmpf .olt main_v39 main_v40
  let main_c_15 : IVec S_ 1 := constantI S_ 1 1#1
  let main_v42 : IVec S_ 1 := (fun x v => Host.reduce IntOp.andi x v reducesTo_S64x64x16_S_d0_1_2 h_S_) main_v41 main_c_15
  let main_v43 : IVec S_ 1 := andi main_v38 main_v42
  main_v43

def fn_part1 {F : FTy → Type} [FloatOps F] (main_arg4 : FVec F S64x64x16 .f32) (main_arg7 : FVec F S64x64 .f32) (main_arg8 : FVec F S64x64 .f32) (main_arg9 : FVec F S64x64x16 .f32) (main_arg10 : FVec F S64x64x16 .f32) (main_v13 : IVec S_ 1) (main_v16 : IVec S64x64x16 1) : IVec S_ 1 :=
  let main_c_5 : IVec S_ 1 := constantI S_ 1 1#1
  let main_v17 : IVec S_ 1 := (fun x v => Host.reduce IntOp.andi x v reducesTo_S64x64x16_S_d0_1_2 h_S_) main_v16 main_c_5
  let main_v18 : IVec S_ 1 := andi main_v13 main_v17
  let main_v19 : FVec F S64x64x16 .f32 := Host.absf main_arg4
  let main_cst_6 : FVec F S_ .f32 := constant S_ .f32 0x7F800000#32
  let main_v20 : FVec F S64x64x16 .f32 := broadcastInDim S64x64x16 ![] bcast_S_S64x64x16 main_cst_6
  let main_v21 : IVec S64x64x16 1 := cmpf .olt main_v19 main_v20
  let main_c_7 : IVec S_ 1 := constantI S_ 1 1#1
  let main_v22 : IVec S_ 1 := (fun x v => Host.reduce IntOp.andi x v reducesTo_S64x64x16_S_d0_1_2 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x16x64 .f32) (main_arg6 : FVec F S64x16x64 .f32) (main_arg7 : FVec F S64x64 .f32) (main_arg8 : FVec F S64x64 .f32) (main_arg9 : FVec F S64x64x16 .f32) (main_arg10 : FVec F S64x64x16 .f32) (main_arg11 : FVec F S64x16x64 .f32) (main_arg12 : FVec F S64x16x64 .f32) : IVec S_ 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_c : IVec S_ 1 := constantI S_ 1 1#1
  let main_v3 : IVec S_ 1 := (fun x v => Host.reduce IntOp.andi x v reducesTo_S64x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64x16 .f32 := Host.absf main_arg3
  let main_cst_4 : FVec F S_ .f32 := constant S_ .f32 0x7F800000#32
  let main_v15 : FVec F S64x64x16 .f32 := broadcastInDim S64x64x16 ![] bcast_S_S64x64x16 main_cst_4
  let main_v16 : IVec S64x64x16 1 := cmpf .olt main_v14 main_v15
  fn_part1 (F := F) main_arg4 main_arg7 main_arg8 main_arg9 main_arg10 main_v13 main_v16
-- ==== GluBwd.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1x2048 : Shape := ⟨2, ![1, 2048]⟩
abbrev S2x1024 : Shape := ⟨2, ![2, 1024]⟩
abbrev S256x1024 : Shape := ⟨2, ![256, 1024]⟩
abbrev S256x2048 : Shape := ⟨2, ![256, 2048]⟩
abbrev S1x1024 : Shape := ⟨2, ![1, 1024]⟩
abbrev S1024 : Shape := ⟨1, ![1024]⟩

abbrev nBuf : Space → Nat
  | .hbm => 12
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S2048x2048, .bf16⟩
  | .hbm, ⟨11, _⟩ => ⟨S2x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S2x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GluRefIdeal.lean ====
abbrev S2048x1024 : Shape := ⟨2, ![2048, 1024]⟩
abbrev S1024x2048 : Shape := ⟨2, ![1024, 2048]⟩
abbrev S2048 : Shape := ⟨1, ![2048]⟩
abbrev S2048x2048 : Shape := ⟨2, ![2048, 2048]⟩
abbrev S1x2048 : Shape := ⟨2, ![1, 2048]⟩
abbrev S_ : Shape := ⟨0, ![]⟩
abbrev S2x1024 : Shape := ⟨2, ![2, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048, .f32⟩
  | .hbm, ⟨3, _⟩ => ⟨S2048x1024, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S_, .f32⟩
  | .hbm, ⟨31, _⟩ => ⟨S2048, .f32⟩
  | .hbm, ⟨32, _⟩ => ⟨S2048x2048, .bf16⟩
  | .hbm, ⟨33, _⟩ => ⟨S2x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== GluDy.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩
abbrev S512x2048 : Shape := ⟨2, ![512, 2048]⟩
abbrev S512x1024 : Shape := ⟨2, ![512, 1024]⟩

abbrev nBuf : Space → Nat
  | .hbm => 45
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x2048, .bf16⟩
  | .hbm, ⟨43, _⟩ => ⟨S1024x2048, .bf16⟩
  | .hbm, ⟨44, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluDyRefIdeal.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S_, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x2048, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== MlpDa.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩
abbrev S512x1024 : Shape := ⟨2, ![512, 1024]⟩
abbrev S2048x512 : Shape := ⟨2, ![2048, 512]⟩

abbrev nBuf : Space → Nat
  | .hbm => 15
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .f32⟩
  | .hbm, ⟨11, _⟩ => ⟨S2048x4096, .bf16⟩
  | .hbm, ⟨12, _⟩ => ⟨S2048x1024, .bf16⟩
  | .hbm, ⟨13, _⟩ => ⟨S4096x1024, .bf16⟩
  | .hbm, ⟨14, _⟩ => ⟨S2048x4096, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpDaRefIdeal.lean ====
abbrev S2048x1024 : Shape := ⟨2, ![2048, 1024]⟩
abbrev S1024x4096 : Shape := ⟨2, ![1024, 4096]⟩
abbrev S4096x1024 : Shape := ⟨2, ![4096, 1024]⟩
abbrev S2048x4096 : Shape := ⟨2, ![2048, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S4096x1024, .f32⟩
  | .hbm, ⟨3, _⟩ => ⟨S2048x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x4096, .f32⟩
  | .hbm, ⟨19, _⟩ => ⟨S2048x4096, .f32⟩
  | .hbm, ⟨20, _⟩ => ⟨S_, .f32⟩
  | .hbm, ⟨21, _⟩ => ⟨S2048x4096, .f32⟩
  | .hbm, ⟨22, _⟩ => ⟨S2048x4096, .f32⟩
  | .hbm, ⟨23, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩

abbrev nD : Nat := 1
abbrev τ : Topo := Topo.v7x

variable {F : FTy → Type} [FloatOps F]
-- ==== KvCombine.lean ====
abbrev S16x128x512 : Shape := ⟨3, ![16, 128, 512]⟩
abbrev S2048x512 : Shape := ⟨2, ![2048, 512]⟩
abbrev S1x1024 : Shape := ⟨2, ![1, 1024]⟩
abbrev S1x512 : Shape := ⟨2, ![1, 512]⟩
abbrev S1x128x512 : Shape := ⟨3, ![1, 128, 512]⟩
abbrev S128x512 : Shape := ⟨2, ![128, 512]⟩
abbrev S512 : Shape := ⟨1, ![512]⟩

abbrev nBuf : Space → Nat
  | .hbm => 4
  | .vmem => 4
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S2048x512, .bf16⟩
  | .hbm, ⟨3, _⟩ => ⟨S1x1024, .f32⟩
  | .local _ .vmem, ⟨0, _⟩ => ⟨S16x128x512, .f32⟩
  | .local _ .vmem, ⟨1, _⟩ => ⟨S16x128x512, .f32⟩
  | .local _ .vmem, ⟨2, _⟩ => ⟨S2048x512, .bf16⟩
  | .local _ .vmem, ⟨3, _⟩ => ⟨S1x1024, .f32⟩
  | _, _ => ⟨S16x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KvCombineRefIdeal.lean ====
abbrev S16x128x512 : Shape := ⟨3, ![16, 128, 512]⟩
abbrev S_ : Shape := ⟨0, ![]⟩
abbrev S2048x512 : Shape := ⟨2, ![2048, 512]⟩
abbrev S512 : Shape := ⟨1, ![512]⟩
abbrev S1x512 : Shape := ⟨2, ![1, 512]⟩
abbrev S1x128x512 : Shape := ⟨3, ![1, 128, 512]⟩
abbrev S15x128x512 : Shape := ⟨3, ![15, 128, 512]⟩
abbrev S16x256x512 : Shape := ⟨3, ![16, 256, 512]⟩
abbrev S1024 : Shape := ⟨1, ![1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S16x128x512, .f32⟩
  | .hbm, ⟨2, _⟩ => ⟨S_, .f32⟩
  | .hbm, ⟨3, _⟩ => ⟨S2048x512, .f32⟩
  | .hbm, ⟨4, _⟩ => ⟨S_, .f32⟩
  | .hbm, ⟨5, _⟩ => ⟨S512, .f32⟩
  | .hbm, ⟨6, _⟩ => ⟨S1x512, .f32⟩
  | .hbm, ⟨7, _⟩ => ⟨S2048x512, .f32⟩
  | .hbm, ⟨8, _⟩ => ⟨S2048x512, .f32⟩
  | .hbm, ⟨9, _⟩ => ⟨S16x128x512, .f32⟩
  | .hbm, ⟨10, _⟩ => ⟨S1x128x512, .f32⟩
  | .hbm, ⟨11, _⟩ => ⟨S_, .f32⟩
  | .hbm, ⟨12, _⟩ => ⟨S1x128x512, .f32⟩
  | .hbm, ⟨13, _⟩ => ⟨S15x128x512, .f32⟩
  | .hbm, ⟨14, _⟩ => ⟨S16x128x512, .f32⟩
  | .hbm, ⟨15, _⟩ => ⟨S_, .f32⟩
  | .hbm, ⟨16, _⟩ => ⟨S1x128x512, .f32⟩
  | .hbm, ⟨17, _⟩ => ⟨S16x256x512, .f32⟩
  | .hbm, ⟨18, _⟩ => ⟨S16x256x512, .f32⟩
  | .hbm, ⟨19, _⟩ => ⟨S16x128x512, .f32⟩
  | .hbm, ⟨20, _⟩ => ⟨S16x128x512, .f32⟩
  | .hbm, ⟨21, _⟩ => ⟨S1x128x512, .f32⟩
  | .hbm, ⟨22, _⟩ => ⟨S15x128x512, .f32⟩
  | .hbm, ⟨23, _⟩ => ⟨S_, .f32⟩
  | .hbm, ⟨24, _⟩ => ⟨S16x128x512, .f32⟩
  | .hbm, ⟨25, _⟩ => ⟨S16x128x512, .f32⟩
  | .hbm, ⟨26, _⟩ => ⟨S2048x512, .f32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S_, .f32⟩
  | .hbm, ⟨31, _⟩ => ⟨S512, .f32⟩
  | .hbm, ⟨32, _⟩ => ⟨S2048x512, .bf16⟩
  | .hbm, ⟨33, _⟩ => ⟨S_, .i32⟩
  | .hbm, ⟨34, _⟩ => ⟨S_, .f32⟩
  | .hbm, ⟨35, _⟩ => ⟨S1024, .f32⟩
  | .hbm, ⟨36, _⟩ => ⟨S1x1024, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== MlpDn.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S2048x4096, .f32⟩
  | .hbm, ⟨5, _⟩ => ⟨S2048x1024, .f32⟩
  | .hbm, ⟨6, _⟩ => ⟨S2048x4096, .bf16⟩
  | .hbm, ⟨7, _⟩ => ⟨S1024x4096, .bf16⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== MlpDnRefIdeal.lean ====
abbrev S2048x1024 : Shape := ⟨2, ![2048, 1024]⟩
abbrev S1024 : Shape := ⟨1, ![1024]⟩
abbrev S1024x4096 : Shape := ⟨2, ![1024, 4096]⟩
abbrev S2048x4096 : Shape := ⟨2, ![2048, 4096]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x4096, .f32⟩
  | .hbm, ⟨4, _⟩ => ⟨S2048x4096, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x4096, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S1024, .f32⟩
  | .hbm, ⟨62, _⟩ => ⟨S2048x1024, .bf16⟩
  | .hbm, ⟨63, _⟩ => ⟨S1x1024, .f32⟩
  | .hbm, ⟨64, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== AttnDn.lean ====
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S2048x512 : Shape := ⟨2, ![2048, 512]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x512, .f32⟩
  | .hbm, ⟨5, _⟩ => ⟨S2048x1024, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S2048x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .bf16⟩
  | .hbm, ⟨15, _⟩ => ⟨S1x1024, .f32⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, true]
-- ==== AttnDnRefIdeal.lean ====
abbrev S2048x1024 : Shape := ⟨2, ![2048, 1024]⟩
abbrev S1024 : Shape := ⟨1, ![1024]⟩
abbrev S1024x1024 : Shape := ⟨2, ![1024, 1024]⟩
abbrev S1024x512 : Shape := ⟨2, ![1024, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x512, .f32⟩
  | .hbm, ⟨5, _⟩ => ⟨S2048x1024, .f32⟩
  | .hbm, ⟨6, _⟩ => ⟨S2048x512, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x512, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S1024, .f32⟩
  | .hbm, ⟨86, _⟩ => ⟨S2048x1024, .f32⟩
  | .hbm, ⟨87, _⟩ => ⟨S_, .f32⟩
  | .hbm, ⟨88, _⟩ => ⟨S2048, .f32⟩
  | .hbm, ⟨89, _⟩ => ⟨S2048x1, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1, .f32⟩
  | .hbm, ⟨94, _⟩ => ⟨S_, .f32⟩
  | .hbm, ⟨95, _⟩ => ⟨S2048x1, .f32⟩
  | .hbm, ⟨96, _⟩ => ⟨S2048x1, .f32⟩
  | .hbm, ⟨97, _⟩ => ⟨S_, .f32⟩
  | .hbm, ⟨98, _⟩ => ⟨S2048, .f32⟩
  | .hbm, ⟨99, _⟩ => ⟨S2048x1024, .f32⟩
  | .hbm, ⟨100, _⟩ => ⟨S2048x1024, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .bf16⟩
  | .hbm, ⟨105, _⟩ => ⟨S1x1024, .f32⟩
  | .hbm, ⟨106, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_15 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== LossHead.lean ====
abbrev S2048x1024 : Shape := ⟨2, ![2048, 1024]⟩
abbrev S2048x4096 : Shape := ⟨2, ![2048, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 12
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1024, .f32⟩
  | .hbm, ⟨4, _⟩ => ⟨S2048x1024, .f32⟩
  | .hbm, ⟨5, _⟩ => ⟨S2048x4096, .bf16⟩
  | .hbm, ⟨6, _⟩ => ⟨S4096x1024, .bf16⟩
  | .hbm, ⟨7, _⟩ => ⟨S1x1024, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== LossRefIdeal.lean ====
abbrev S2048x1024 : Shape := ⟨2, ![2048, 1024]⟩
abbrev S2048x4096 : Shape := ⟨2, ![2048, 4096]⟩
abbrev S4096x1024 : Shape := ⟨2, ![4096, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S_, .f32⟩
  | .hbm, ⟨46, _⟩ => ⟨S2048, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .bf16⟩
  | .hbm, ⟨76, _⟩ => ⟨S1x1024, .f32⟩
  | .hbm, ⟨77, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_11 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_cst_13 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== S5Param.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S1024x64 : Shape := ⟨2, ![1024, 64]⟩
abbrev S1024x128 : Shape := ⟨2, ![1024, 128]⟩
abbrev S2048x128 : Shape := ⟨2, ![2048, 128]⟩
abbrev S32x128 : Shape := ⟨2, ![32, 128]⟩
abbrev S64x128 : Shape := ⟨2, ![64, 128]⟩
abbrev S64x1x64 : Shape := ⟨3, ![64, 1, 64]⟩
abbrev S64x1x1 : Shape := ⟨3, ![64, 1, 1]⟩
abbrev S64x1 : Shape := ⟨2, ![64, 1]⟩

abbrev nBuf : Space → Nat
  | .hbm => 41
  | .vmem => 15
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x64, .f32⟩
  | .hbm, ⟨8, _⟩ => ⟨S64x64, .f32⟩
  | .hbm, ⟨9, _⟩ => ⟨S64x64x16, .f32⟩
  | .hbm, ⟨10, _⟩ => ⟨S64x64x16, .f32⟩
  | .hbm, ⟨11, _⟩ => ⟨S64x16x64, .f32⟩
  | .hbm, ⟨12, _⟩ => ⟨S64x16x64, .f32⟩
  | .hbm, ⟨13, _⟩ => ⟨S64x16x64, .f32⟩
  | .hbm, ⟨14, _⟩ => ⟨S64x16x64, .f32⟩
  | .hbm, ⟨15, _⟩ => ⟨S1024x64, .f32⟩
  | .hbm, ⟨16, _⟩ => ⟨S1024x64, .f32⟩
  | .hbm, ⟨17, _⟩ => ⟨S1024x128, .f32⟩
  | .hbm, ⟨18, _⟩ => ⟨S1024x64, .f32⟩
  | .hbm, ⟨19, _⟩ => ⟨S1024x64, .f32⟩
  | .hbm, ⟨20, _⟩ => ⟨S1024x128, .f32⟩
  | .hbm, ⟨21, _⟩ => ⟨S2048x128, .f32⟩
  | .hbm, ⟨22, _⟩ => ⟨S32x128, .f32⟩
  | .hbm, ⟨23, _⟩ => ⟨S32x128, .f32⟩
  | .hbm, ⟨24, _⟩ => ⟨S64x128, .f32⟩
  | .hbm, ⟨25, _⟩ => ⟨S32x128, .f32⟩
  | .hbm, ⟨26, _⟩ => ⟨S64x1x64, .f32⟩
  | .hbm, ⟨27, _⟩ => ⟨S32x128, .f32⟩
  | .hbm, ⟨28, _⟩ => ⟨S64x1x64, .f32⟩
  | .hbm, ⟨29, _⟩ => ⟨S64x1x64, .f32⟩
  | .hbm, ⟨30, _⟩ => ⟨S64x1x64, .f32⟩
  | .hbm, ⟨31, _⟩ => ⟨S64x1x1, .f32⟩
  | .hbm, ⟨32, _⟩ => ⟨S64x16x64, .f32⟩
  | .hbm, ⟨33, _⟩ => ⟨S64x16x64, .f32⟩
  | .hbm, ⟨34, _⟩ => ⟨S64x1x64, .f32⟩
  | .hbm, ⟨35, _⟩ => ⟨S64x1x64, .f32⟩
  | .hbm, ⟨36, _⟩ => ⟨S64x1x1, .f32⟩
  | .hbm, ⟨37, _⟩ => ⟨S64x16x64, .f32⟩
  | .hbm, ⟨38, _⟩ => ⟨S64x16x64, .f32⟩
  | .hbm, ⟨39, _⟩ => ⟨S64x16x64, .f32⟩
  | .hbm, ⟨40, _⟩ => ⟨S64x16x64, .f32⟩
  | .local _ .vmem, ⟨0, _⟩ => ⟨S2048x128, .f32⟩
  | .local _ .vmem, ⟨1, _⟩ => ⟨S64x1x64, .f32⟩
  | .local _ .vmem, ⟨2, _⟩ => ⟨S64x1x64, .f32⟩
  | .local _ .vmem, ⟨3, _⟩ => ⟨S64x1x64, .f32⟩
  | .local _ .vmem, ⟨4, _⟩ => ⟨S64x1x64, .f32⟩
  | .local _ .vmem, ⟨5, _⟩ => ⟨S64x1x1, .f32⟩
  | .local _ .vmem, ⟨6, _⟩ => ⟨S64x16x64, .f32⟩
  | .local _ .vmem, ⟨7, _⟩ => ⟨S64x16x64, .f32⟩
  | .local _ .vmem, ⟨8, _⟩ => ⟨S64x1x64, .f32⟩
  | .local _ .vmem, ⟨9, _⟩ => ⟨S64x1x64, .f32⟩
  | .local _ .vmem, ⟨10, _⟩ => ⟨S64x1x1, .f32⟩
  | .local _ .vmem, ⟨11, _⟩ => ⟨S64x16x64, .f32⟩
  | .local _ .vmem, ⟨12, _⟩ => ⟨S64x16x64, .f32⟩
  | .local _ .vmem, ⟨13, _⟩ => ⟨S64x16x64, .f32⟩
  | .local _ .vmem, ⟨14, _⟩ => ⟨S64x16x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v21_3 : Ref sig .tc := ⟨.hbm, 37, rfl⟩
abbrev main_v21_4 : Ref sig .tc := ⟨.hbm, 38, rfl⟩
abbrev main_v21_5 : Ref sig .tc := ⟨.hbm, 39, rfl⟩
abbrev main_v21_6 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x16x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x16x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== S5ParamRefIdeal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩
abbrev S64x1 : Shape := ⟨2, ![64, 1]⟩
abbrev S64x64x1 : Shape := ⟨3, ![64, 64, 1]⟩
abbrev S64x1x64 : Shape := ⟨3, ![64, 1, 64]⟩
abbrev S64x1x1 : Shape := ⟨3, ![64, 1, 1]⟩

abbrev nBuf : Space → Nat
  | .hbm => 204
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x16x64, .f32⟩
  | 6 => ⟨S64x16x64, .f32⟩
  | 7 => ⟨S64x64, .f32⟩
  | 8 => ⟨S64x64, .f32⟩
  | 9 => ⟨S64x64x16, .f32⟩
  | 10 => ⟨S64x64x16, .f32⟩
  | 11 => ⟨S64x16x64, .f32⟩
  | 12 => ⟨S64x16x64, .f32⟩
  | 13 => ⟨S_, .f32⟩
  | 14 => ⟨S64x64, .f32⟩
  | 15 => ⟨S64x64, .f32⟩
  | 16 => ⟨S_, .f32⟩
  | 17 => ⟨S64x64, .f32⟩
  | 18 => ⟨S64x64, .i1⟩
  | 19 => ⟨S_, .f32⟩
  | 20 => ⟨S64x64, .f32⟩
  | 21 => ⟨S64x64, .i1⟩
  | 22 => ⟨S_, .f32⟩
  | 23 => ⟨S64x64, .f32⟩
  | 24 => ⟨S_, .f32⟩
  | 25 => ⟨S64x64, .f32⟩
  | 26 => ⟨S_, .f32⟩
  | 27 => ⟨S64x64, .f32⟩
  | 28 => ⟨S64x64, .f32⟩
  | 29 => ⟨S64x64, .f32⟩
  | 30 => ⟨S64, .f32⟩
  | 31 => ⟨S64x1, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S_, .f32⟩
  | 60 => ⟨S64x64, .f32⟩
  | 61 => ⟨S64x64, .f32⟩
  | 62 => ⟨S64x64x1, .f32⟩
  | 63 => ⟨S64x64, .f32⟩
  | 64 => ⟨S_, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S64x64x1, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S64x64x16, .f32⟩
  | 81 => ⟨S64x64x16, .f32⟩
  | 82 => ⟨S64x64x16, .f32⟩
  | 83 => ⟨S64x64x16, .f32⟩
  | 84 => ⟨S64x64x16, .f32⟩
  | 85 => ⟨S64x16x64, .f32⟩
  | 86 => ⟨S64x16x64, .f32⟩
  | 87 => ⟨S64x64x16, .f32⟩
  | 88 => ⟨S64x64x16, .f32⟩
  | 89 => ⟨S64x64x16, .f32⟩
  | 90 => ⟨S64x64x16, .f32⟩
  | 91 => ⟨S64x64x16, .f32⟩
  | 92 => ⟨S_, .f32⟩
  | 93 => ⟨S64x64, .f32⟩
  | 94 => ⟨S64x64x1, .f32⟩
  | 95 => ⟨S64x64x16, .f32⟩
  | 96 => ⟨S64x64x16, .f32⟩
  | 97 => ⟨S64x64x16, .f32⟩
  | 98 => ⟨S_, .f32⟩
  | 99 => ⟨S64x64, .f32⟩
  | 100 => ⟨S64x64x1, .f32⟩
  | 101 => ⟨S64x64x16, .f32⟩
  | 102 => ⟨S64x64x16, .f32⟩
  | 103 => ⟨S64x64x16, .f32⟩
  | 104 => ⟨S64x64x16, .f32⟩
  | 105 => ⟨S64x64x16, .f32⟩
  | 106 => ⟨S64x64x16, .f32⟩
  | 107 => ⟨S_, .f32⟩
  | 108 => ⟨S64x64, .f32⟩
  | 109 => ⟨S64x64x1, .f32⟩
  | 110 => ⟨S64x64x1, .f32⟩
  | 111 => ⟨S64x64x16, .f32⟩
  | 112 => ⟨S64x64x16, .f32⟩
  | 113 => ⟨S64x64x16, .f32⟩
  | 114 => ⟨S64x64x16, .f32⟩
  | 115 => ⟨S_, .f32⟩
  | 116 => ⟨S64x64, .f32⟩
  | 117 => ⟨S64x64x1, .f32⟩
  | 118 => ⟨S64x64x1, .f32⟩
  | 119 => ⟨S_, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S_, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S64x64, .f32⟩
  | 31 => ⟨S_, .f32⟩
  | 32 => ⟨S64, .f32⟩
  | 33 => ⟨S64x1, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S_, .f32⟩
  | 40 => ⟨S64, .f32⟩
  | 41 => ⟨S64x1, .f32⟩
  | 42 => ⟨S64x1, .f32⟩
  | 43 => ⟨S64x64, .f32⟩
  | 44 => ⟨S64x64, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S64x64, .f32⟩
  | 51 => ⟨S_, .f32⟩
  | 52 => ⟨S64, .f32⟩
  | 53 => ⟨S64x1, .f32⟩
  | 54 => ⟨S64x1, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S_, .f32⟩
  | 61 => ⟨S64, .f32⟩
  | 62 => ⟨S64x1, .f32⟩
  | 63 => ⟨S64x1, .f32⟩
  | 64 => ⟨S64x64, .f32⟩
  | 65 => ⟨S64x64, .f32⟩
  | 66 => ⟨S64x64, .f32⟩
  | 67 => ⟨S_, .f32⟩
  | 68 => ⟨S64, .f32⟩
  | 69 => ⟨S64, .f32⟩
  | 70 => ⟨S64x64, .f32⟩
  | 71 => ⟨S64x1x64, .f32⟩
  | 72 => ⟨S64x1x64, .f32⟩
  | 73 => ⟨S64x1x1, .f32⟩
  | 74 => ⟨S64x16x64, .f32⟩
  | 75 => ⟨S64x16x64, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_cst_3 : Ref sig .tc := ⟨.hbm, 24, rfl⟩
abbrev main_v7 : Ref sig .tc := ⟨.hbm, 25, rfl⟩
abbrev main_cst_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_9 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_11 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_12 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_13 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_14 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_cst_15 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_16 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_17 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_cst_18 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_cst_19 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩

abbrev nD : Nat := 1
abbrev τ : Topo := Topo.v7x

variable {F : FTy → Type} [FloatOps F]
-- ==== AttnBwd.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S1x1024 : Shape := ⟨2, ![1, 1024]⟩
abbrev S16x128x512 : Shape := ⟨3, ![16, 128, 512]⟩
abbrev S128x1024 : Shape := ⟨2, ![128, 1024]⟩
abbrev S128x512 : Shape := ⟨2, ![128, 512]⟩
abbrev S1x128x512 : Shape := ⟨3, ![1, 128, 512]⟩
abbrev S512x128 : Shape := ⟨2, ![512, 128]⟩
abbrev S128x64 : Shape := ⟨2, ![128, 64]⟩
abbrev S512x64 : Shape := ⟨2, ![512, 64]⟩
abbrev S512x1 : Shape := ⟨2, ![512, 1]⟩
abbrev S1 : Shape := ⟨1, ![1]⟩
abbrev S512 : Shape := ⟨1, ![512]⟩
abbrev S1x512x1 : Shape := ⟨3, ![1, 512, 1]⟩
abbrev S1x1x1 : Shape := ⟨3, ![1, 1, 1]⟩
abbrev S128x256 : Shape := ⟨2, ![128, 256]⟩

abbrev nBuf : Space → Nat
  | .hbm => 16
  | .vmem => 16
  | .smem => 1
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x512, .f32⟩
  | .hbm, ⟨3, _⟩ => ⟨S16, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S2048x512, .bf16⟩
  | .hbm, ⟨10, _⟩ => ⟨S2048x1024, .bf16⟩
  | .hbm, ⟨11, _⟩ => ⟨S2048x1024, .bf16⟩
  | .hbm, ⟨12, _⟩ => ⟨S1x1024, .f32⟩
  | .hbm, ⟨13, _⟩ => ⟨S16x128x512, .f32⟩
  | .hbm, ⟨14, _⟩ => ⟨S16x128x512, .f32⟩
  | .hbm, ⟨15, _⟩ => ⟨S1x1024, .f32⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1x1024, .f32⟩
  | .local _ .vmem, ⟨11, _⟩ => ⟨S1x128x512, .f32⟩
  | .local _ .vmem, ⟨12, _⟩ => ⟨S1x128x512, .f32⟩
  | .local _ .vmem, ⟨13, _⟩ => ⟨S1x128x512, .f32⟩
  | .local _ .vmem, ⟨14, _⟩ => ⟨S1x128x512, .f32⟩
  | .local _ .vmem, ⟨15, _⟩ => ⟨S1x1024, .f32⟩
  | .local _ .smem, ⟨0, _⟩ => ⟨S16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v6_4 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnBwdIdeal.lean ====
variable {F : FTy → Type} [FloatOps F] [Named F]
def κ : String → Option EReal := fun
  | "mask" => some ⊥
  | _ => none
-- ==== AttnRefIdeal.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S2048x256 : Shape := ⟨2, ![2048, 256]⟩
abbrev S16x128x4x64 : Shape := ⟨4, ![16, 128, 4, 64]⟩
abbrev S1x128x4x64 : Shape := ⟨4, ![1, 128, 4, 64]⟩
abbrev S_ : Shape := ⟨0, ![]⟩
abbrev S15x128x4x64 : Shape := ⟨4, ![15, 128, 4, 64]⟩
abbrev S16x256x4x64 : Shape := ⟨4, ![16, 256, 4, 64]⟩
abbrev S1x1024 : Shape := ⟨2, ![1, 1024]⟩
abbrev S16x128x4x4x64 : Shape := ⟨5, ![16, 128, 4, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x256x128x4 : Shape := ⟨5, ![16, 4, 256, 128, 4]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S16x4x4x128x1 : Shape := ⟨5, ![16, 4, 4, 128, 1]⟩
abbrev S1x4x4x1 : Shape := ⟨4, ![1, 4, 4, 1]⟩
abbrev S16x4x64x4x128 : Shape := ⟨5, ![16, 4, 64, 4, 128]⟩
abbrev S16x4x64x256 : Shape := ⟨4, ![16, 4, 64, 256]⟩
abbrev S16x4x128x4x64 : Shape := ⟨5, ![16, 4, 128, 4, 64]⟩
abbrev S16x4x256x64 : Shape := ⟨4, ![16, 4, 256, 64]⟩
abbrev S16x128x512 : Shape := ⟨3, ![16, 128, 512]⟩

abbrev nBuf : Space → Nat
  | .hbm => 214
  | .vmem => 0
  | .smem => 0
  | _ => 0

abbrev hbmTy0_0 (i : Nat) : BufTy := match i % 128 with
  | 0 => ⟨S2048x1024, .f32⟩
  | 1 => ⟨S1024, .f32⟩
  | 2 => ⟨S2048x512, .f32⟩
  | 3 => ⟨S16, .f32⟩
  | 4 => ⟨S2048x1024, .f32⟩
  | 5 => ⟨S2048x256, .f32⟩
  | 6 => ⟨S2048x256, .f32⟩
  | 7 => ⟨S16x128x4x64, .f32⟩
  | 8 => ⟨S1x128x4x64, .f32⟩
  | 9 => ⟨S_, .f32⟩
  | 10 => ⟨S1x128x4x64, .f32⟩
  | 11 => ⟨S15x128x4x64, .f32⟩
  | 12 => ⟨S16x128x4x64, .f32⟩
  | 13 => ⟨S16x256x4x64, .f32⟩
  | 14 => ⟨S16x128x4x64, .f32⟩
  | 15 => ⟨S1x128x4x64, .f32⟩
  | 16 => ⟨S_, .f32⟩
  | 17 => ⟨S1x128x4x64, .f32⟩
  | 18 => ⟨S15x128x4x64, .f32⟩
  | 19 => ⟨S16x128x4x64, .f32⟩
  | 20 => ⟨S16x256x4x64, .f32⟩
  | 21 => ⟨S1x1024, .f32⟩
  | 22 => ⟨S2048x1024, .f32⟩
  | 23 => ⟨S2048x1024, .f32⟩
  | 24 => ⟨S16x128x4x4x64, .f32⟩
  | 25 => ⟨S128, .i32⟩
  | 26 => ⟨S128x1, .i32⟩
  | 27 => ⟨S256, .i32⟩
  | 28 => ⟨S1x256, .i32⟩
  | 29 => ⟨S_, .i32⟩
  | 30 => ⟨S128x1, .i32⟩
  | 31 => ⟨S128x1, .i32⟩
  | 32 => ⟨S128x256, .i32⟩
  | 33 => ⟨S128x256, .i32⟩
  | 34 => ⟨S128x256, .i32⟩
  | 35 => ⟨S_, .i32⟩
  | 36 => ⟨S128x256, .i32⟩
  | 37 => ⟨S128x256, .i1⟩
  | 38 => ⟨S_, .i32⟩
  | 39 => ⟨S128x256, .i32⟩
  | 40 => ⟨S128x256, .i1⟩
  | 41 => ⟨S128x256, .i1⟩
  | 42 => ⟨S4x4, .f32⟩
  | 43 => ⟨S4x4x1, .f32⟩
  | 44 => ⟨S16, .i32⟩
  | 45 => ⟨S16x4x256x128x4, .f32⟩
  | 46 => ⟨S16x4x4x128x256, .f32⟩
  | 47 => ⟨S_, .f32⟩
  | 48 => ⟨S16x4x4x128x256, .f32⟩
  | 49 => ⟨S16x4x4x128x256, .f32⟩
  | 50 => ⟨S_, .i32⟩
  | 51 => ⟨S16, .i32⟩
  | 52 => ⟨S16, .i32⟩
  | 53 => ⟨S_, .i32⟩
  | 54 => ⟨S16, .i32⟩
  | 55 => ⟨S16, .i32⟩
  | 56 => ⟨S1x1x256, .i32⟩
  | 57 => ⟨S16x1x1, .i32⟩
  | 58 => ⟨S16x1x256, .i32⟩
  | 59 => ⟨S16x1x256, .i32⟩
  | 60 => ⟨S16x1x256, .i32⟩
  | 61 => ⟨S_, .i32⟩
  | 62 => ⟨S16x1x256, .i32⟩
  | 63 => ⟨S16x1x256, .i1⟩
  | 64 => ⟨S1x128x256, .i1⟩
  | 65 => ⟨S16x128x256, .i1⟩
  | 66 => ⟨S16x128x256, .i1⟩
  | 67 => ⟨S16x128x256, .i1⟩
  | 68 => ⟨S16x4x4x128x256, .i1⟩
  | 69 => ⟨S_, .f32⟩
  | 70 => ⟨S4x4x128x256, .f32⟩
  | 71 => ⟨S16x4x4x128x256, .f32⟩
  | 72 => ⟨S16x4x4x128x256, .f32⟩
  | 73 => ⟨S_, .f32⟩
  | 74 => ⟨S16x4x4x128x256, .f32⟩
  | 75 => ⟨S_, .f32⟩
  | 76 => ⟨S16x4x4x128, .f32⟩
  | 77 => ⟨S16x4x4x128x1, .f32⟩
  | 78 => ⟨S16x4x4x128x256, .f32⟩
  | 79 => ⟨S16x4x4x128x256, .i1⟩
  | 80 => ⟨S16x4x4x128x256, .f32⟩
  | 81 => ⟨S_, .f32⟩
  | 82 => ⟨S16x4x4x128, .f32⟩
  | 83 => ⟨S1x4x4x1, .f32⟩
  | 84 => ⟨S16x4x4x128, .f32⟩
  | 85 => ⟨S16x4x4x128, .f32⟩
  | 86 => ⟨S16x4x4x128, .f32⟩
  | 87 => ⟨S16x4x4x128, .i1⟩
  | 88 => ⟨S16x4x4x128, .f32⟩
  | 89 => ⟨S16x4x4x128, .i1⟩
  | 90 => ⟨S_, .f32⟩
  | 91 => ⟨S16x4x4x128, .f32⟩
  | 92 => ⟨S_, .f32⟩
  | 93 => ⟨S16x4x4x128, .f32⟩
  | 94 => ⟨S_, .f32⟩
  | 95 => ⟨S16x4x4x128, .f32⟩
  | 96 => ⟨S16x4x4x128, .f32⟩
  | 97 => ⟨S16x4x4x128, .f32⟩
  | 98 => ⟨S16x4x4x128, .f32⟩
  | 99 => ⟨S16x4x4x128, .i1⟩
  | 100 => ⟨S16x4x4x128, .f32⟩
  | 101 => ⟨S16x4x4x128, .i1⟩
  | 102 => ⟨S_, .f32⟩
  | 103 => ⟨S16x4x4x128, .f32⟩
  | 104 => ⟨S_, .f32⟩
  | 105 => ⟨S16x4x4x128, .f32⟩
  | 106 => ⟨S_, .f32⟩
  | 107 => ⟨S16x4x4x128, .f32⟩
  | 108 => ⟨S16x4x4x128, .f32⟩
  | 109 => ⟨S16x4x4x128, .f32⟩
  | 110 => ⟨S16x4x4x128x1, .f32⟩
  | 111 => ⟨S16x4x4x128x256, .f32⟩
  | 112 => ⟨S16x4x4x128x256, .f32⟩
  | 113 => ⟨S16x4x4x128x256, .f32⟩
  | 114 => ⟨S_, .f32⟩
  | 115 => ⟨S16x4x4x128, .f32⟩
  | 116 => ⟨S1x4x4x1, .f32⟩
  | 117 => ⟨S16x4x4x128, .f32⟩
  | 118 => ⟨S16x4x4x128, .f32⟩
  | 119 => ⟨S16x4x4x128, .f32⟩
  | 120 => ⟨S16x4x4x128, .f32⟩
  | 121 => ⟨S16x4x4x128x1, .f32⟩
  | 122 => ⟨S16x4x4x128x256, .f32⟩
  | 123 => ⟨S16x4x4x128x256, .f32⟩
  | 124 => ⟨S16x4x4x128x1, .f32⟩
  | 125 => ⟨S_, .f32⟩
  | 126 => ⟨S16x4x4x128x1, .f32⟩
  | 127 => ⟨S16x4x4x128x1, .f32⟩
  | _ => ⟨S2048x1024, .f32⟩

abbrev hbmTy0_1 (i : Nat) : BufTy := match i % 128 with
  | 0 => ⟨S16x4x64x4x128, .f32⟩
  | 1 => ⟨S16x128x4x4x64, .f32⟩
  | 2 => ⟨S2048x1024, .f32⟩
  | 3 => ⟨S16x128x4x4x64, .f32⟩
  | 4 => ⟨S16x4x64x4x128, .f32⟩
  | 5 => ⟨S16x4x4x128x256, .f32⟩
  | 6 => ⟨S16x4x64x256, .f32⟩
  | 7 => ⟨S16x256x4x64, .f32⟩
  | 8 => ⟨S16x4x4x128x256, .f32⟩
  | 9 => ⟨S16x4x4x128x256, .f32⟩
  | 10 => ⟨S16x4x4x128x256, .f32⟩
  | 11 => ⟨S_, .f32⟩
  | 12 => ⟨S16x4x4x128, .f32⟩
  | 13 => ⟨S16x4x4x128x1, .f32⟩
  | 14 => ⟨S16x4x4x128x1, .f32⟩
  | 15 => ⟨S16x4x4x128x256, .f32⟩
  | 16 => ⟨S16x4x4x128x256, .f32⟩
  | 17 => ⟨S_, .f32⟩
  | 18 => ⟨S16x4x4x128, .f32⟩
  | 19 => ⟨S16x4x4x128, .f32⟩
  | 20 => ⟨S_, .f32⟩
  | 21 => ⟨S4x4, .f32⟩
  | 22 => ⟨S1x4x4x1, .f32⟩
  | 23 => ⟨S16x4x4x128, .f32⟩
  | 24 => ⟨S_, .f32⟩
  | 25 => ⟨S4x4, .f32⟩
  | 26 => ⟨S4x4x1, .f32⟩
  | 27 => ⟨S16x4x4x128x256, .f32⟩
  | 28 => ⟨S16x4x4x128x256, .f32⟩
  | 29 => ⟨S16x4x4x128x256, .f32⟩
  | 30 => ⟨S16x4x4x128x256, .f32⟩
  | 31 => ⟨S_, .f32⟩
  | 32 => ⟨S16x4x4x128, .f32⟩
  | 33 => ⟨S16x4x4x128x1, .f32⟩
  | 34 => ⟨S_, .f32⟩
  | 35 => ⟨S16x4x4x128, .f32⟩
  | 36 => ⟨S16x4x4x128, .f32⟩
  | 37 => ⟨S16x4x4x128, .f32⟩
  | 38 => ⟨S_, .f32⟩
  | 39 => ⟨S4x4, .f32⟩
  | 40 => ⟨S1x4x4x1, .f32⟩
  | 41 => ⟨S16x4x4x128, .f32⟩
  | 42 => ⟨S_, .f32⟩
  | 43 => ⟨S4x4, .f32⟩
  | 44 => ⟨S4x4x1, .f32⟩
  | 45 => ⟨S4x4x1, .f32⟩
  | 46 => ⟨S16x4x4x128, .f32⟩
  | 47 => ⟨S16x4x4x128x256, .f32⟩
  | 48 => ⟨S16x4x4x128x256, .f32⟩
  | 49 => ⟨S16x4x4x128x256, .f32⟩
  | 50 => ⟨S_, .f32⟩
  | 51 => ⟨S16x4x4x128x256, .f32⟩
  | 52 => ⟨S16x4x4x128x256, .f32⟩
  | 53 => ⟨S_, .f32⟩
  | 54 => ⟨S16x4x4x128x256, .f32⟩
  | 55 => ⟨S16x4x4x128x256, .f32⟩
  | 56 => ⟨S16x4x256x128x4, .f32⟩
  | 57 => ⟨S16x4x128x4x64, .f32⟩
  | 58 => ⟨S16x128x4x4x64, .f32⟩
  | 59 => ⟨S16x4x256x64, .f32⟩
  | 60 => ⟨S16x256x4x64, .f32⟩
  | 61 => ⟨S_, .f32⟩
  | 62 => ⟨S4x4, .f32⟩
  | 63 => ⟨S16, .f32⟩
  | 64 => ⟨S2048x1024, .f32⟩
  | 65 => ⟨S_, .f32⟩
  | 66 => ⟨S1024, .f32⟩
  | 67 => ⟨S1x1024, .f32⟩
  | 68 => ⟨S_, .f32⟩
  | 69 => ⟨S1024, .f32⟩
  | 70 => ⟨S16x128x4x64, .f32⟩
  | 71 => ⟨S16x128x256, .f32⟩
  | 72 => ⟨S16x128x4x64, .f32⟩
  | 73 => ⟨S16x128x256, .f32⟩
  | 74 => ⟨S16x128x512, .f32⟩
  | 75 => ⟨S16x128x4x64, .f32⟩
  | 76 => ⟨S16x128x256, .f32⟩
  | 77 => ⟨S16x128x4x64, .f32⟩
  | 78 => ⟨S16x128x256, .f32⟩
  | 79 => ⟨S16x128x512, .f32⟩
  | 80 => ⟨S2048x1024, .bf16⟩
  | 81 => ⟨S1x1024, .f32⟩
  | 82 => ⟨S_, .i32⟩
  | 83 => ⟨S_, .f32⟩
  | 84 => ⟨S1024, .f32⟩
  | 85 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_1 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_14 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_17 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_18 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_cst_19 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_cst_20 : Ref sig .tc := ⟨.hbm, 145, rfl⟩
abbrev main_v118 : Ref sig .tc := ⟨.hbm, 146, rfl⟩
abbrev main_v119 : Ref sig .tc := ⟨.hbm, 147, rfl⟩
abbrev main_cst_21 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_22 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_23 : Ref sig .tc := ⟨.hbm, 159, rfl⟩
abbrev main_v129 : Ref sig .tc := ⟨.hbm, 160, rfl⟩
abbrev main_v130 : Ref sig .tc := ⟨.hbm, 161, rfl⟩
abbrev main_cst_24 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_25 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_26 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_27 : Ref sig .tc := ⟨.hbm, 178, rfl⟩
abbrev main_v144 : Ref sig .tc := ⟨.hbm, 179, rfl⟩
abbrev main_v145 : Ref sig .tc := ⟨.hbm, 180, rfl⟩
abbrev main_cst_28 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_cst_29 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_cst_30 : Ref sig .tc := ⟨.hbm, 193, rfl⟩
abbrev main_v156 : Ref sig .tc := ⟨.hbm, 194, rfl⟩
abbrev main_v157 : Ref sig .tc := ⟨.hbm, 195, rfl⟩
abbrev main_cst_31 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_c_32 : Ref sig .tc := ⟨.hbm, 210, rfl⟩
abbrev main_call0_v0 : Ref sig .tc := ⟨.hbm, 211, rfl⟩
abbrev main_v171 : Ref sig .tc := ⟨.hbm, 212, rfl⟩
abbrev main_v172 : Ref sig .tc := ⟨.hbm, 213, rfl⟩

abbrev nD : Nat := 1
abbrev τ : Topo := Topo.v7x

variable {F : FTy → Type} [FloatOps F]
-- ==== AttnFwd.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S1x1024 : Shape := ⟨2, ![1, 1024]⟩
abbrev S128x1024 : Shape := ⟨2, ![128, 1024]⟩
abbrev S128x512 : Shape := ⟨2, ![128, 512]⟩
abbrev S512x128 : Shape := ⟨2, ![512, 128]⟩
abbrev S512x1 : Shape := ⟨2, ![512, 1]⟩
abbrev S1 : Shape := ⟨1, ![1]⟩
abbrev S128x64 : Shape := ⟨2, ![128, 64]⟩
abbrev S512x64 : Shape := ⟨2, ![512, 64]⟩
abbrev S512 : Shape := ⟨1, ![512]⟩
abbrev S128x128 : Shape := ⟨2, ![128, 128]⟩
abbrev S128x256 : Shape := ⟨2, ![128, 256]⟩

abbrev nBuf : Space → Nat
  | .hbm => 10
  | .vmem => 8
  | .smem => 1
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x512, .f32⟩
  | .hbm, ⟨3, _⟩ => ⟨S16, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S2048x512, .bf16⟩
  | .hbm, ⟨9, _⟩ => ⟨S2048x1024, .bf16⟩
  | .local _ .vmem, ⟨0, _⟩ => ⟨S128x1024, .bf16⟩
  | .local _ .vmem, ⟨1, _⟩ => ⟨S128x1024, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x1024, .bf16⟩
  | .local _ .vmem, ⟨7, _⟩ => ⟨S128x1024, .bf16⟩
  | .local _ .smem, ⟨0, _⟩ => ⟨S16, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S2048x1024 : Shape := ⟨2, ![2048, 1024]⟩
abbrev S1024 : Shape := ⟨1, ![1024]⟩
abbrev S2048x512 : Shape := ⟨2, ![2048, 512]⟩
abbrev S16 : Shape := ⟨1, ![16]⟩
abbrev S2048x256 : Shape := ⟨2, ![2048, 256]⟩
abbrev S1x1024 : Shape := ⟨2, ![1, 1024]⟩
abbrev S16x128x4x4x64 : Shape := ⟨5, ![16, 128, 4, 4, 64]⟩
abbrev S16x128x4x64 : Shape := ⟨4, ![16, 128, 4, 64]⟩
abbrev S1x128x4x64 : Shape := ⟨4, ![1, 128, 4, 64]⟩
abbrev S_ : Shape := ⟨0, ![]⟩
abbrev S15x128x4x64 : Shape := ⟨4, ![15, 128, 4, 64]⟩
abbrev S16x256x4x64 : Shape := ⟨4, ![16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4 : Shape := ⟨2, ![4, 4]⟩
abbrev S4x4x1 : Shape := ⟨3, ![4, 4, 1]⟩
abbrev S16x4x256x128x4 : Shape := ⟨5, ![16, 4, 256, 128, 4]⟩
abbrev S16x4x4x128x256 : Shape := ⟨5, ![16, 4, 4, 128, 256]⟩
abbrev S1x1x256 : Shape := ⟨3, ![1, 1, 256]⟩
abbrev S16x1x1 : Shape := ⟨3, ![16, 1, 1]⟩
abbrev S16x1x256 : Shape := ⟨3, ![16, 1, 256]⟩
abbrev S1x128x256 : Shape := ⟨3, ![1, 128, 256]⟩
abbrev S16x128x256 : Shape := ⟨3, ![16, 128, 256]⟩
abbrev S4x4x128x256 : Shape := ⟨4, ![4, 4, 128, 256]⟩
abbrev S16x4x4x128 : Shape := ⟨4, ![16, 4, 4, 128]⟩
abbrev S1x4x4x1 : Shape := ⟨4, ![1, 4, 4, 1]⟩
abbrev S16x4x4x128x1 : Shape := ⟨5, ![16, 4, 4, 128, 1]⟩
abbrev S16x4x64x4x128 : Shape := ⟨5, ![16, 4, 64, 4, 128]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x512, .f32⟩
  | .hbm, ⟨3, _⟩ => ⟨S16, .f32⟩
  | .hbm, ⟨4, _⟩ => ⟨S2048x256, .f32⟩
  | .hbm, ⟨5, _⟩ => ⟨S2048x256, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S16x128x4x4x64, .f32⟩
  | .hbm, ⟨10, _⟩ => ⟨S16x128x4x64, .f32⟩
  | .hbm, ⟨11, _⟩ => ⟨S1x128x4x64, .f32⟩
  | .hbm, ⟨12, _⟩ => ⟨S_, .f32⟩
  | .hbm, ⟨13, _⟩ => ⟨S1x128x4x64, .f32⟩
  | .hbm, ⟨14, _⟩ => ⟨S15x128x4x64, .f32⟩
  | .hbm, ⟨15, _⟩ => ⟨S16x128x4x64, .f32⟩
  | .hbm, ⟨16, _⟩ => ⟨S16x256x4x64, .f32⟩
  | .hbm, ⟨17, _⟩ => ⟨S16x128x4x64, .f32⟩
  | .hbm, ⟨18, _⟩ => ⟨S1x128x4x64, .f32⟩
  | .hbm, ⟨19, _⟩ => ⟨S_, .f32⟩
  | .hbm, ⟨20, _⟩ => ⟨S1x128x4x64, .f32⟩
  | .hbm, ⟨21, _⟩ => ⟨S15x128x4x64, .f32⟩
  | .hbm, ⟨22, _⟩ => ⟨S16x128x4x64, .f32⟩
  | .hbm, ⟨23, _⟩ => ⟨S16x256x4x64, .f32⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S128x1, .i32⟩
  | .hbm, ⟨30, _⟩ => ⟨S128x1, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S_, .i32⟩
  | .hbm, ⟨38, _⟩ => ⟨S128x256, .i32⟩
  | .hbm, ⟨39, _⟩ => ⟨S128x256, .i1⟩
  | .hbm, ⟨40, _⟩ => ⟨S128x256, .i1⟩
  | .hbm, ⟨41, _⟩ => ⟨S4x4, .f32⟩
  | .hbm, ⟨42, _⟩ => ⟨S4x4x1, .f32⟩
  | .hbm, ⟨43, _⟩ => ⟨S16, .i32⟩
  | .hbm, ⟨44, _⟩ => ⟨S16x4x256x128x4, .f32⟩
  | .hbm, ⟨45, _⟩ => ⟨S16x4x4x128x256, .f32⟩
  | .hbm, ⟨46, _⟩ => ⟨S_, .f32⟩
  | .hbm, ⟨47, _⟩ => ⟨S16x4x4x128x256, .f32⟩
  | .hbm, ⟨48, _⟩ => ⟨S16x4x4x128x256, .f32⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S_, .i32⟩
  | .hbm, ⟨53, _⟩ => ⟨S16, .i32⟩
  | .hbm, ⟨54, _⟩ => ⟨S16, .i32⟩
  | .hbm, ⟨55, _⟩ => ⟨S1x1x256, .i32⟩
  | .hbm, ⟨56, _⟩ => ⟨S16x1x1, .i32⟩
  | .hbm, ⟨57, _⟩ => ⟨S16x1x256, .i32⟩
  | .hbm, ⟨58, _⟩ => ⟨S16x1x256, .i32⟩
  | .hbm, ⟨59, _⟩ => ⟨S16x1x256, .i32⟩
  | .hbm, ⟨60, _⟩ => ⟨S_, .i32⟩
  | .hbm, ⟨61, _⟩ => ⟨S16x1x256, .i32⟩
  | .hbm, ⟨62, _⟩ => ⟨S16x1x256, .i1⟩
  | .hbm, ⟨63, _⟩ => ⟨S1x128x256, .i1⟩
  | .hbm, ⟨64, _⟩ => ⟨S16x128x256, .i1⟩
  | .hbm, ⟨65, _⟩ => ⟨S16x128x256, .i1⟩
  | .hbm, ⟨66, _⟩ => ⟨S16x128x256, .i1⟩
  | .hbm, ⟨67, _⟩ => ⟨S16x4x4x128x256, .i1⟩
  | .hbm, ⟨68, _⟩ => ⟨S_, .f32⟩
  | .hbm, ⟨69, _⟩ => ⟨S4x4x128x256, .f32⟩
  | .hbm, ⟨70, _⟩ => ⟨S16x4x4x128x256, .f32⟩
  | .hbm, ⟨71, _⟩ => ⟨S16x4x4x128x256, .f32⟩
  | .hbm, ⟨72, _⟩ => ⟨S_, .f32⟩
  | .hbm, ⟨73, _⟩ => ⟨S16x4x4x128, .f32⟩
  | .hbm, ⟨74, _⟩ => ⟨S1x4x4x1, .f32⟩
  | .hbm, ⟨75, _⟩ => ⟨S16x4x4x128, .f32⟩
  | .hbm, ⟨76, _⟩ => ⟨S16x4x4x128, .f32⟩
  | .hbm, ⟨77, _⟩ => ⟨S16x4x4x128x1, .f32⟩
  | .hbm, ⟨78, _⟩ => ⟨S16x4x4x128x256, .f32⟩
  | .hbm, ⟨79, _⟩ => ⟨S16x4x4x128x256, .f32⟩
  | .hbm, ⟨80, _⟩ => ⟨S16x4x4x128x256, .f32⟩
  | .hbm, ⟨81, _⟩ => ⟨S_, .f32⟩
  | .hbm, ⟨82, _⟩ => ⟨S16x4x4x128, .f32⟩
  | .hbm, ⟨83, _⟩ => ⟨S1x4x4x1, .f32⟩
  | .hbm, ⟨84, _⟩ => ⟨S16x4x4x128, .f32⟩
  | .hbm, ⟨85, _⟩ => ⟨S16x4x4x128, .f32⟩
  | .hbm, ⟨86, _⟩ => ⟨S16x4x4x128, .f32⟩
  | .hbm, ⟨87, _⟩ => ⟨S16x4x4x128, .f32⟩
  | .hbm, ⟨88, _⟩ => ⟨S16x4x4x128x1, .f32⟩
  | .hbm, ⟨89, _⟩ => ⟨S16x4x4x128x256, .f32⟩
  | .hbm, ⟨90, _⟩ => ⟨S16x4x4x128x256, .f32⟩
  | .hbm, ⟨91, _⟩ => ⟨S16x4x64x4x128, .f32⟩
  | .hbm, ⟨92, _⟩ => ⟨S16x128x4x4x64, .f32⟩
  | .hbm, ⟨93, _⟩ => ⟨S2048x1024, .f32⟩
  | .hbm, ⟨94, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_9 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== GluFwd.lean ====
abbrev S2048x1024 : Shape := ⟨2, ![2048, 1024]⟩
abbrev S1024x2048 : Shape := ⟨2, ![1024, 2048]⟩
abbrev S2048 : Shape := ⟨1, ![2048]⟩
abbrev S1024 : Shape := ⟨1, ![1024]⟩
abbrev S1x2048 : Shape := ⟨2, ![1, 2048]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S1x2048, .f32⟩
  | .hbm, ⟨6, _⟩ => ⟨S2048x1024, .bf16⟩
  | .hbm, ⟨7, _⟩ => ⟨S1024x2048, .bf16⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== GluFwdRefIdeal.lean ====
abbrev S2048x1024 : Shape := ⟨2, ![2048, 1024]⟩
abbrev S1024x2048 : Shape := ⟨2, ![1024, 2048]⟩
abbrev S2048 : Shape := ⟨1, ![2048]⟩
abbrev S1024 : Shape := ⟨1, ![1024]⟩
abbrev S2048x2048 : Shape := ⟨2, ![2048, 2048]⟩
abbrev S1x2048 : Shape := ⟨2, ![1, 2048]⟩
abbrev S_ : Shape := ⟨0, ![]⟩
abbrev S2048x1 : Shape := ⟨2, ![2048, 1]⟩
abbrev S1x1024 : Shape := ⟨2, ![1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== MlpIn.lean ====
abbrev S2048x1024 : Shape := ⟨2, ![2048, 1024]⟩
abbrev S1024x4096 : Shape := ⟨2, ![1024, 4096]⟩
abbrev S2048x4096 : Shape := ⟨2, ![2048, 4096]⟩
abbrev S1024x512 : Shape := ⟨2, ![1024, 512]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4096, .bf16⟩
  | .hbm, ⟨4, _⟩ => ⟨S2048x4096, .bf16⟩
  | .hbm, ⟨5, _⟩ => ⟨S2048x4096, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlpInRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .bf16⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S2048x4096, .f32⟩
  | .hbm, ⟨21, _⟩ => ⟨S2048x4096, .f32⟩
  | .hbm, ⟨22, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== MlpOut.lean ====
abbrev S2048x1024 : Shape := ⟨2, ![2048, 1024]⟩
abbrev S2048x4096 : Shape := ⟨2, ![2048, 4096]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2048x4096, .bf16⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .hbm, ⟨11, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MlpOutRefIdeal.lean ====
abbrev S2048x1024 : Shape := ⟨2, ![2048, 1024]⟩
abbrev S2048x4096 : Shape := ⟨2, ![2048, 4096]⟩
abbrev S4096x1024 : Shape := ⟨2, ![4096, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1024, .f32⟩
  | .hbm, ⟨36, _⟩ => ⟨S2048x1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== OProj.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OProjRefIdeal.lean ====
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S2048x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== S5Prep.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1x64 : Shape := ⟨3, ![64, 1, 64]⟩
abbrev S64x1x1 : Shape := ⟨3, ![64, 1, 1]⟩
abbrev S4x256x256 : Shape := ⟨3, ![4, 256, 256]⟩
abbrev S256x64 : Shape := ⟨2, ![256, 64]⟩
abbrev S16x16x64 : Shape := ⟨3, ![16, 16, 64]⟩
abbrev S256x256 : Shape := ⟨2, ![256, 256]⟩
abbrev S1x256x256 : Shape := ⟨3, ![1, 256, 256]⟩

abbrev nBuf : Space → Nat
  | .hbm => 18
  | .vmem => 13
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S64x1x64, .f32⟩
  | .hbm, ⟨8, _⟩ => ⟨S64x1x64, .f32⟩
  | .hbm, ⟨9, _⟩ => ⟨S64x1x1, .f32⟩
  | .hbm, ⟨10, _⟩ => ⟨S64x16x64, .f32⟩
  | .hbm, ⟨11, _⟩ => ⟨S64x16x64, .f32⟩
  | .hbm, ⟨12, _⟩ => ⟨S4x256x256, .bf16⟩
  | .hbm, ⟨13, _⟩ => ⟨S4x256x256, .bf16⟩
  | .hbm, ⟨14, _⟩ => ⟨S4x256x256, .bf16⟩
  | .hbm, ⟨15, _⟩ => ⟨S4x256x256, .bf16⟩
  | .hbm, ⟨16, _⟩ => ⟨S64x1x64, .f32⟩
  | .hbm, ⟨17, _⟩ => ⟨S64x1x64, .f32⟩
  | .local _ .vmem, ⟨0, _⟩ => ⟨S64x1x64, .f32⟩
  | .local _ .vmem, ⟨1, _⟩ => ⟨S64x1x64, .f32⟩
  | .local _ .vmem, ⟨2, _⟩ => ⟨S64x1x1, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S64x16x64, .f32⟩
  | .local _ .vmem, ⟨7, _⟩ => ⟨S4x256x256, .bf16⟩
  | .local _ .vmem, ⟨8, _⟩ => ⟨S4x256x256, .bf16⟩
  | .local _ .vmem, ⟨9, _⟩ => ⟨S4x256x256, .bf16⟩
  | .local _ .vmem, ⟨10, _⟩ => ⟨S4x256x256, .bf16⟩
  | .local _ .vmem, ⟨11, _⟩ => ⟨S64x1x64, .f32⟩
  | .local _ .vmem, ⟨12, _⟩ => ⟨S64x1x64, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== S5PrepRefIdeal.lean ====
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S_ : Shape := ⟨0, ![]⟩
abbrev S64x1 : Shape := ⟨2, ![64, 1]⟩
abbrev S64x64x1 : Shape := ⟨3, ![64, 64, 1]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x2x1x2x1 : Shape := ⟨5, ![1, 2, 1, 2, 1]⟩
abbrev S32x2x16x1x64 : Shape := ⟨5, ![32, 2, 16, 1, 64]⟩
abbrev S32x2x16x2x64 : Shape := ⟨5, ![32, 2, 16, 2, 64]⟩
abbrev S4x256x128 : Shape := ⟨3, ![4, 256, 128]⟩
abbrev S4x256x256 : Shape := ⟨3, ![4, 256, 256]⟩
abbrev S64x1x64 : Shape := ⟨3, ![64, 1, 64]⟩

abbrev nBuf : Space → Nat
  | .hbm => 116
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x16x64, .f32⟩
  | .hbm, ⟨6, _⟩ => ⟨S64x16x64, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S_, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64x1, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64x1, .f32⟩
  | .hbm, ⟨45, _⟩ => ⟨S64x64x16, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x16x64, .f32⟩
  | .hbm, ⟨56, _⟩ => ⟨S64x16x64, .f32⟩
  | .hbm, ⟨57, _⟩ => ⟨S2, .i32⟩
  | .hbm, ⟨58, _⟩ => ⟨S2x1, .i32⟩
  | .hbm, ⟨59, _⟩ => ⟨S2, .i32⟩
  | .hbm, ⟨60, _⟩ => ⟨S1x2, .i32⟩
  | .hbm, ⟨61, _⟩ => ⟨S2x2, .i32⟩
  | .hbm, ⟨62, _⟩ => ⟨S2x2, .i32⟩
  | .hbm, ⟨63, _⟩ => ⟨S2x2, .i1⟩
  | .hbm, ⟨64, _⟩ => ⟨S1x2x1x2x1, .i1⟩
  | .hbm, ⟨65, _⟩ => ⟨S32x2x16x1x64, .f32⟩
  | .hbm, ⟨66, _⟩ => ⟨S_, .f32⟩
  | .hbm, ⟨67, _⟩ => ⟨S_, .f32⟩
  | .hbm, ⟨68, _⟩ => ⟨S32x2x16x2x64, .i1⟩
  | .hbm, ⟨69, _⟩ => ⟨S32x2x16x2x64, .f32⟩
  | .hbm, ⟨70, _⟩ => ⟨S32x2x16x2x64, .f32⟩
  | .hbm, ⟨71, _⟩ => ⟨S32x2x16x2x64, .f32⟩
  | .hbm, ⟨72, _⟩ => ⟨S4x256x128, .f32⟩
  | .hbm, ⟨73, _⟩ => ⟨S1x2x1x2x1, .i1⟩
  | .hbm, ⟨74, _⟩ => ⟨S32x2x16x1x64, .f32⟩
  | .hbm, ⟨75, _⟩ => ⟨S_, .f32⟩
  | .hbm, ⟨76, _⟩ => ⟨S_, .f32⟩
  | .hbm, ⟨77, _⟩ => ⟨S32x2x16x2x64, .i1⟩
  | .hbm, ⟨78, _⟩ => ⟨S32x2x16x2x64, .f32⟩
  | .hbm, ⟨79, _⟩ => ⟨S32x2x16x2x64, .f32⟩
  | .hbm, ⟨80, _⟩ => ⟨S32x2x16x2x64, .f32⟩
  | .hbm, ⟨81, _⟩ => ⟨S4x256x128, .f32⟩
  | .hbm, ⟨82, _⟩ => ⟨S4x256x256, .f32⟩
  | .hbm, ⟨83, _⟩ => ⟨S4x256x256, .bf16⟩
  | .hbm, ⟨84, _⟩ => ⟨S64x16x64, .f32⟩
  | .hbm, ⟨85, _⟩ => ⟨S2, .i32⟩
  | .hbm, ⟨86, _⟩ => ⟨S2x1, .i32⟩
  | .hbm, ⟨87, _⟩ => ⟨S2, .i32⟩
  | .hbm, ⟨88, _⟩ => ⟨S1x2, .i32⟩
  | .hbm, ⟨89, _⟩ => ⟨S2x2, .i32⟩
  | .hbm, ⟨90, _⟩ => ⟨S2x2, .i32⟩
  | .hbm, ⟨91, _⟩ => ⟨S2x2, .i1⟩
  | .hbm, ⟨92, _⟩ => ⟨S1x2x1x2x1, .i1⟩
  | .hbm, ⟨93, _⟩ => ⟨S32x2x16x1x64, .f32⟩
  | .hbm, ⟨94, _⟩ => ⟨S_, .f32⟩
  | .hbm, ⟨95, _⟩ => ⟨S_, .f32⟩
  | .hbm, ⟨96, _⟩ => ⟨S32x2x16x2x64, .i1⟩
  | .hbm, ⟨97, _⟩ => ⟨S32x2x16x2x64, .f32⟩
  | .hbm, ⟨98, _⟩ => ⟨S32x2x16x2x64, .f32⟩
  | .hbm, ⟨99, _⟩ => ⟨S32x2x16x2x64, .f32⟩
  | .hbm, ⟨100, _⟩ => ⟨S4x256x128, .f32⟩
  | .hbm, ⟨101, _⟩ => ⟨S1x2x1x2x1, .i1⟩
  | .hbm, ⟨102, _⟩ => ⟨S32x2x16x1x64, .f32⟩
  | .hbm, ⟨103, _⟩ => ⟨S_, .f32⟩
  | .hbm, ⟨104, _⟩ => ⟨S_, .f32⟩
  | .hbm, ⟨105, _⟩ => ⟨S32x2x16x2x64, .i1⟩
  | .hbm, ⟨106, _⟩ => ⟨S32x2x16x2x64, .f32⟩
  | .hbm, ⟨107, _⟩ => ⟨S32x2x16x2x64, .f32⟩
  | .hbm, ⟨108, _⟩ => ⟨S32x2x16x2x64, .f32⟩
  | .hbm, ⟨109, _⟩ => ⟨S4x256x128, .f32⟩
  | .hbm, ⟨110, _⟩ => ⟨S4x256x256, .f32⟩
  | .hbm, ⟨111, _⟩ => ⟨S4x256x256, .bf16⟩
  | .hbm, ⟨112, _⟩ => ⟨S4x256x256, .bf16⟩
  | .hbm, ⟨113, _⟩ => ⟨S4x256x256, .bf16⟩
  | .hbm, ⟨114, _⟩ => ⟨S64x1x64, .f32⟩
  | .hbm, ⟨115, _⟩ => ⟨S64x1x64, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_4 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_5 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== S5Compact.lean ====
abbrev S4x256x256 : Shape := ⟨3, ![4, 256, 256]⟩
abbrev S4x8x128 : Shape := ⟨3, ![4, 8, 128]⟩
abbrev S2048x128 : Shape := ⟨2, ![2048, 128]⟩
abbrev S64x128 : Shape := ⟨2, ![64, 128]⟩
abbrev S256x64 : Shape := ⟨2, ![256, 64]⟩
abbrev S1x256x256 : Shape := ⟨3, ![1, 256, 256]⟩
abbrev S256x256 : Shape := ⟨2, ![256, 256]⟩
abbrev S256x128 : Shape := ⟨2, ![256, 128]⟩
abbrev S1x8x128 : Shape := ⟨3, ![1, 8, 128]⟩
abbrev S8x128 : Shape := ⟨2, ![8, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x8x128, .f32⟩
  | .hbm, ⟨3, _⟩ => ⟨S4x8x128, .f32⟩
  | .hbm, ⟨4, _⟩ => ⟨S2048x128, .f32⟩
  | .hbm, ⟨5, _⟩ => ⟨S64x128, .f32⟩
  | .local _ .vmem, ⟨0, _⟩ => ⟨S4x256x256, .f32⟩
  | .local _ .vmem, ⟨1, _⟩ => ⟨S4x256x256, .f32⟩
  | .local _ .vmem, ⟨2, _⟩ => ⟨S4x8x128, .f32⟩
  | .local _ .vmem, ⟨3, _⟩ => ⟨S4x8x128, .f32⟩
  | .local _ .vmem, ⟨4, _⟩ => ⟨S2048x128, .f32⟩
  | .local _ .vmem, ⟨5, _⟩ => ⟨S64x128, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== S5CompactRefIdeal.lean ====
abbrev S4x256x256 : Shape := ⟨3, ![4, 256, 256]⟩
abbrev S4x8x128 : Shape := ⟨3, ![4, 8, 128]⟩
abbrev S_ : Shape := ⟨0, ![]⟩
abbrev S64x16x64 : Shape := ⟨3, ![64, 16, 64]⟩
abbrev S64x64 : Shape := ⟨2, ![64, 64]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S1x2x1x2x1 : Shape := ⟨5, ![1, 2, 1, 2, 1]⟩
abbrev S32x2x16x1x64 : Shape := ⟨5, ![32, 2, 16, 1, 64]⟩
abbrev S32x2x16x2x64 : Shape := ⟨5, ![32, 2, 16, 2, 64]⟩
abbrev S4x256x128 : Shape := ⟨3, ![4, 256, 128]⟩
abbrev S32x2x16x64 : Shape := ⟨4, ![32, 2, 16, 64]⟩
abbrev S1024x64 : Shape := ⟨2, ![1024, 64]⟩
abbrev S1024x128 : Shape := ⟨2, ![1024, 128]⟩
abbrev S2048x128 : Shape := ⟨2, ![2048, 128]⟩
abbrev S32x128 : Shape := ⟨2, ![32, 128]⟩
abbrev S64x128 : Shape := ⟨2, ![64, 128]⟩

abbrev nBuf : Space → Nat
  | .hbm => 118
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x8x128, .f32⟩
  | .hbm, ⟨3, _⟩ => ⟨S4x8x128, .f32⟩
  | .hbm, ⟨4, _⟩ => ⟨S_, .f32⟩
  | .hbm, ⟨5, _⟩ => ⟨S64x16x64, .f32⟩
  | .hbm, ⟨6, _⟩ => ⟨S_, .f32⟩
  | .hbm, ⟨7, _⟩ => ⟨S64x64, .f32⟩
  | .hbm, ⟨8, _⟩ => ⟨S2, .i32⟩
  | .hbm, ⟨9, _⟩ => ⟨S2x1, .i32⟩
  | .hbm, ⟨10, _⟩ => ⟨S2, .i32⟩
  | .hbm, ⟨11, _⟩ => ⟨S1x2, .i32⟩
  | .hbm, ⟨12, _⟩ => ⟨S2x2, .i32⟩
  | .hbm, ⟨13, _⟩ => ⟨S2x2, .i32⟩
  | .hbm, ⟨14, _⟩ => ⟨S2x2, .i1⟩
  | .hbm, ⟨15, _⟩ => ⟨S1x2x1x2x1, .i1⟩
  | .hbm, ⟨16, _⟩ => ⟨S32x2x16x1x64, .f32⟩
  | .hbm, ⟨17, _⟩ => ⟨S_, .f32⟩
  | .hbm, ⟨18, _⟩ => ⟨S_, .f32⟩
  | .hbm, ⟨19, _⟩ => ⟨S32x2x16x2x64, .i1⟩
  | .hbm, ⟨20, _⟩ => ⟨S32x2x16x2x64, .f32⟩
  | .hbm, ⟨21, _⟩ => ⟨S32x2x16x2x64, .f32⟩
  | .hbm, ⟨22, _⟩ => ⟨S32x2x16x2x64, .f32⟩
  | .hbm, ⟨23, _⟩ => ⟨S_, .f32⟩
  | .hbm, ⟨24, _⟩ => ⟨S32x2x16x2x64, .f32⟩
  | .hbm, ⟨25, _⟩ => ⟨S4x256x128, .f32⟩
  | .hbm, ⟨26, _⟩ => ⟨S1x2x1x2x1, .i1⟩
  | .hbm, ⟨27, _⟩ => ⟨S32x2x16x1x64, .f32⟩
  | .hbm, ⟨28, _⟩ => ⟨S_, .f32⟩
  | .hbm, ⟨29, _⟩ => ⟨S_, .f32⟩
  | .hbm, ⟨30, _⟩ => ⟨S32x2x16x2x64, .i1⟩
  | .hbm, ⟨31, _⟩ => ⟨S32x2x16x2x64, .f32⟩
  | .hbm, ⟨32, _⟩ => ⟨S32x2x16x2x64, .f32⟩
  | .hbm, ⟨33, _⟩ => ⟨S32x2x16x2x64, .f32⟩
  | .hbm, ⟨34, _⟩ => ⟨S_, .f32⟩
  | .hbm, ⟨35, _⟩ => ⟨S32x2x16x2x64, .f32⟩
  | .hbm, ⟨36, _⟩ => ⟨S4x256x128, .f32⟩
  | .hbm, ⟨37, _⟩ => ⟨S4x256x256, .f32⟩
  | .hbm, ⟨38, _⟩ => ⟨S2, .i32⟩
  | .hbm, ⟨39, _⟩ => ⟨S2x1, .i32⟩
  | .hbm, ⟨40, _⟩ => ⟨S2, .i32⟩
  | .hbm, ⟨41, _⟩ => ⟨S1x2, .i32⟩
  | .hbm, ⟨42, _⟩ => ⟨S2x2, .i32⟩
  | .hbm, ⟨43, _⟩ => ⟨S2x2, .i32⟩
  | .hbm, ⟨44, _⟩ => ⟨S2x2, .i1⟩
  | .hbm, ⟨45, _⟩ => ⟨S1x2x1x2x1, .i1⟩
  | .hbm, ⟨46, _⟩ => ⟨S32x2x16x1x64, .f32⟩
  | .hbm, ⟨47, _⟩ => ⟨S_, .f32⟩
  | .hbm, ⟨48, _⟩ => ⟨S_, .f32⟩
  | .hbm, ⟨49, _⟩ => ⟨S32x2x16x2x64, .i1⟩
  | .hbm, ⟨50, _⟩ => ⟨S32x2x16x2x64, .f32⟩
  | .hbm, ⟨51, _⟩ => ⟨S32x2x16x2x64, .f32⟩
  | .hbm, ⟨52, _⟩ => ⟨S32x2x16x2x64, .f32⟩
  | .hbm, ⟨53, _⟩ => ⟨S_, .f32⟩
  | .hbm, ⟨54, _⟩ => ⟨S32x2x16x2x64, .f32⟩
  | .hbm, ⟨55, _⟩ => ⟨S4x256x128, .f32⟩
  | .hbm, ⟨56, _⟩ => ⟨S1x2x1x2x1, .i1⟩
  | .hbm, ⟨57, _⟩ => ⟨S32x2x16x1x64, .f32⟩
  | .hbm, ⟨58, _⟩ => ⟨S_, .f32⟩
  | .hbm, ⟨59, _⟩ => ⟨S_, .f32⟩
  | .hbm, ⟨60, _⟩ => ⟨S32x2x16x2x64, .i1⟩
  | .hbm, ⟨61, _⟩ => ⟨S32x2x16x2x64, .f32⟩
  | .hbm, ⟨62, _⟩ => ⟨S32x2x16x2x64, .f32⟩
  | .hbm, ⟨63, _⟩ => ⟨S32x2x16x2x64, .f32⟩
  | .hbm, ⟨64, _⟩ => ⟨S_, .f32⟩
  | .hbm, ⟨65, _⟩ => ⟨S32x2x16x2x64, .f32⟩
  | .hbm, ⟨66, _⟩ => ⟨S4x256x128, .f32⟩
  | .hbm, ⟨67, _⟩ => ⟨S4x256x256, .f32⟩
  | .hbm, ⟨68, _⟩ => ⟨S4x8x128, .f32⟩
  | .hbm, ⟨69, _⟩ => ⟨S4x8x128, .f32⟩
  | .hbm, ⟨70, _⟩ => ⟨S64x64, .f32⟩
  | .hbm, ⟨71, _⟩ => ⟨S64x64, .f32⟩
  | .hbm, ⟨72, _⟩ => ⟨S4x256x128, .f32⟩
  | .hbm, ⟨73, _⟩ => ⟨S4x256x128, .f32⟩
  | .hbm, ⟨74, _⟩ => ⟨S32x2x16x2x64, .f32⟩
  | .hbm, ⟨75, _⟩ => ⟨S_, .f32⟩
  | .hbm, ⟨76, _⟩ => ⟨S32x2x16x2x64, .f32⟩
  | .hbm, ⟨77, _⟩ => ⟨S32x2x16x2x64, .f32⟩
  | .hbm, ⟨78, _⟩ => ⟨S_, .f32⟩
  | .hbm, ⟨79, _⟩ => ⟨S32x2x16x64, .f32⟩
  | .hbm, ⟨80, _⟩ => ⟨S32x2x16x1x64, .f32⟩
  | .hbm, ⟨81, _⟩ => ⟨S64x16x64, .f32⟩
  | .hbm, ⟨82, _⟩ => ⟨S32x2x16x2x64, .f32⟩
  | .hbm, ⟨83, _⟩ => ⟨S_, .f32⟩
  | .hbm, ⟨84, _⟩ => ⟨S32x2x16x2x64, .f32⟩
  | .hbm, ⟨85, _⟩ => ⟨S32x2x16x2x64, .f32⟩
  | .hbm, ⟨86, _⟩ => ⟨S_, .f32⟩
  | .hbm, ⟨87, _⟩ => ⟨S32x2x16x64, .f32⟩
  | .hbm, ⟨88, _⟩ => ⟨S32x2x16x1x64, .f32⟩
  | .hbm, ⟨89, _⟩ => ⟨S64x16x64, .f32⟩
  | .hbm, ⟨90, _⟩ => ⟨S4x256x128, .f32⟩
  | .hbm, ⟨91, _⟩ => ⟨S4x256x128, .f32⟩
  | .hbm, ⟨92, _⟩ => ⟨S32x2x16x2x64, .f32⟩
  | .hbm, ⟨93, _⟩ => ⟨S_, .f32⟩
  | .hbm, ⟨94, _⟩ => ⟨S32x2x16x2x64, .f32⟩
  | .hbm, ⟨95, _⟩ => ⟨S32x2x16x2x64, .f32⟩
  | .hbm, ⟨96, _⟩ => ⟨S_, .f32⟩
  | .hbm, ⟨97, _⟩ => ⟨S32x2x16x64, .f32⟩
  | .hbm, ⟨98, _⟩ => ⟨S32x2x16x1x64, .f32⟩
  | .hbm, ⟨99, _⟩ => ⟨S64x16x64, .f32⟩
  | .hbm, ⟨100, _⟩ => ⟨S32x2x16x2x64, .f32⟩
  | .hbm, ⟨101, _⟩ => ⟨S_, .f32⟩
  | .hbm, ⟨102, _⟩ => ⟨S32x2x16x2x64, .f32⟩
  | .hbm, ⟨103, _⟩ => ⟨S32x2x16x2x64, .f32⟩
  | .hbm, ⟨104, _⟩ => ⟨S_, .f32⟩
  | .hbm, ⟨105, _⟩ => ⟨S32x2x16x64, .f32⟩
  | .hbm, ⟨106, _⟩ => ⟨S32x2x16x1x64, .f32⟩
  | .hbm, ⟨107, _⟩ => ⟨S64x16x64, .f32⟩
  | .hbm, ⟨108, _⟩ => ⟨S1024x64, .f32⟩
  | .hbm, ⟨109, _⟩ => ⟨S1024x64, .f32⟩
  | .hbm, ⟨110, _⟩ => ⟨S1024x128, .f32⟩
  | .hbm, ⟨111, _⟩ => ⟨S1024x64, .f32⟩
  | .hbm, ⟨112, _⟩ => ⟨S1024x64, .f32⟩
  | .hbm, ⟨113, _⟩ => ⟨S1024x128, .f32⟩
  | .hbm, ⟨114, _⟩ => ⟨S2048x128, .f32⟩
  | .hbm, ⟨115, _⟩ => ⟨S32x128, .f32⟩
  | .hbm, ⟨116, _⟩ => ⟨S32x128, .f32⟩
  | .hbm, ⟨117, _⟩ => ⟨S64x128, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_v11_1 : Ref sig .tc := ⟨.hbm, 19, rfl⟩
abbrev main_call0_v2 : Ref sig .tc := ⟨.hbm, 20, rfl⟩
abbrev main_call0_v3 : Ref sig .tc := ⟨.hbm, 21, rfl⟩
abbrev main_v11_0 : Ref sig .tc := ⟨.hbm, 22, rfl⟩
abbrev main_call0_cst : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call1_v0 : Ref sig .tc := ⟨.hbm, 29, rfl⟩
abbrev main_v15_1 : Ref sig .tc := ⟨.hbm, 30, rfl⟩
abbrev main_call1_v2 : Ref sig .tc := ⟨.hbm, 31, rfl⟩
abbrev main_call1_v3 : Ref sig .tc := ⟨.hbm, 32, rfl⟩
abbrev main_v15_0 : Ref sig .tc := ⟨.hbm, 33, rfl⟩
abbrev main_call1_cst : Ref sig .tc := ⟨.hbm, 34, rfl⟩
abbrev main_v15_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_3 : Ref sig .tc := ⟨.hbm, 47, rfl⟩
abbrev main_call2_v0 : Ref sig .tc := ⟨.hbm, 48, rfl⟩
abbrev main_v27_1 : Ref sig .tc := ⟨.hbm, 49, rfl⟩
abbrev main_call2_v2 : Ref sig .tc := ⟨.hbm, 50, rfl⟩
abbrev main_call2_v3 : Ref sig .tc := ⟨.hbm, 51, rfl⟩
abbrev main_v27_0 : Ref sig .tc := ⟨.hbm, 52, rfl⟩
abbrev main_call2_cst : Ref sig .tc := ⟨.hbm, 53, rfl⟩
abbrev main_v27_2 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_call3_v0 : Ref sig .tc := ⟨.hbm, 59, rfl⟩
abbrev main_v31_1 : Ref sig .tc := ⟨.hbm, 60, rfl⟩
abbrev main_call3_v2 : Ref sig .tc := ⟨.hbm, 61, rfl⟩
abbrev main_call3_v3 : Ref sig .tc := ⟨.hbm, 62, rfl⟩
abbrev main_v31_0 : Ref sig .tc := ⟨.hbm, 63, rfl⟩
abbrev main_call3_cst : Ref sig .tc := ⟨.hbm, 64, rfl⟩
abbrev main_v31_2 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call4_cst : Ref sig .tc := ⟨.hbm, 75, rfl⟩
abbrev main_call4_v0 : Ref sig .tc := ⟨.hbm, 76, rfl⟩
abbrev main_call4_v1 : Ref sig .tc := ⟨.hbm, 77, rfl⟩
abbrev main_call4_cst_0 : Ref sig .tc := ⟨.hbm, 78, rfl⟩
abbrev main_call4_v2 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_call5_cst : Ref sig .tc := ⟨.hbm, 83, rfl⟩
abbrev main_call5_v0 : Ref sig .tc := ⟨.hbm, 84, rfl⟩
abbrev main_call5_v1 : Ref sig .tc := ⟨.hbm, 85, rfl⟩
abbrev main_call5_cst_0 : Ref sig .tc := ⟨.hbm, 86, rfl⟩
abbrev main_call5_v2 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call6_cst : Ref sig .tc := ⟨.hbm, 93, rfl⟩
abbrev main_call6_v0 : Ref sig .tc := ⟨.hbm, 94, rfl⟩
abbrev main_call6_v1 : Ref sig .tc := ⟨.hbm, 95, rfl⟩
abbrev main_call6_cst_0 : Ref sig .tc := ⟨.hbm, 96, rfl⟩
abbrev main_call6_v2 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_call7_cst : Ref sig .tc := ⟨.hbm, 101, rfl⟩
abbrev main_call7_v0 : Ref sig .tc := ⟨.hbm, 102, rfl⟩
abbrev main_call7_v1 : Ref sig .tc := ⟨.hbm, 103, rfl⟩
abbrev main_call7_cst_0 : Ref sig .tc := ⟨.hbm, 104, rfl⟩
abbrev main_call7_v2 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩

abbrev nD : Nat := 1
abbrev τ : Topo := Topo.v7x

variable {F : FTy → Type} [FloatOps F]
-- ==== MlpDw.lean ====
abbrev S2048x1024 : Shape := ⟨2, ![2048, 1024]⟩
abbrev S2048x4096 : Shape := ⟨2, ![2048, 4096]⟩
abbrev S1024x4096 : Shape := ⟨2, ![1024, 4096]⟩
abbrev S2048x512 : Shape := ⟨2, ![2048, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S1024x4096, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlpDwRefIdeal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Glu.lean ====
/- The gated linear unit's gradient: `glu_bwd`'s two results are the reference's. -/
module

public import proofs.«01_k».proof.Defs
public import proofs.«01_k».proof.Proof.Gen.GluBwd.Frame
public import proofs.«01_k».proof.Proof.Gen.GluBwdIdeal.Value
public import proofs.«01_k».proof.Proof.Gen.GluRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GluBwdIdeal.Grad

open Cert.GluBwdIdeal Cert.GluBwdIdeal.Gen

variable (m : (ℓ : Loc nD τ sig) → Buf (Elt Ideal) ℓ)

/-- The four argument arrays of device `c`: the rows, the matrix, its bias, the cotangent. -/
abbrev aY (c : Dev nD) : FVec Ideal S2048x1024 .f32 := m ((c : Thread nD τ).loc main_arg0)
abbrev aW (c : Dev nD) : FVec Ideal S1024x2048 .f32 := m ((c : Thread nD τ).loc main_arg1)
abbrev aB (c : Dev nD) : FVec Ideal S2048 .f32 := m ((c : Thread nD τ).loc main_arg2)
abbrev aD (c : Dev nD) : FVec Ideal S2048x1024 .f32 := m ((c : Thread nD τ).loc main_arg3)

/-- The unit's input `y @ w + b`; its left half is the value, its right half the gate. -/
def Z (y : FVec Ideal S2048x1024 .f32) (w : FVec Ideal S1024x2048 .f32) (b : FVec Ideal S2048 .f32) : FVec Ideal S2048x2048 .f32 :=
  addf (Host.dotGeneral dot_S2048x1024_S1024x2048_S2048x2048_1_0_0_1_n_n none y w)
    (broadcastInDim S2048x2048 ![0, 1] bcast_S1x2048_S2048x2048_0_1 (broadcastInDim S1x2048 ![1] bcast_S2048_S1x2048_1 b))

/-- The two halves of an array of `2048` columns. -/
abbrev left (z : FVec Ideal S2048x2048 .f32) : FVec Ideal S2048x1024 .f32 := extractStridedSlice S2048x1024 ![0, 0] z slices_S2048x2048_S2048x1024_0_0
abbrev right (z : FVec Ideal S2048x2048 .f32) : FVec Ideal S2048x1024 .f32 := extractStridedSlice S2048x1024 ![0, 1024] z slices_S2048x2048_S2048x1024_0_1024

/-- The array of ones, and the gate's logistic, as the reference spells it. -/
abbrev ones : FVec Ideal S2048x1024 .f32 := broadcastInDim S2048x1024 ![] Cert.GluRefIdeal.Gen.bcast_S_S2048x1024 (constant Cert.GluRefIdeal.S_ .f32 0x3F800000#32)
def sg (z : FVec Ideal S2048x2048 .f32) : FVec Ideal S2048x1024 .f32 := Host.divf ones (addf ones (Host.exp (Host.negf (right z))))

/-- The gradient with respect to the unit's input, before rounding. -/
def dZ (z : FVec Ideal S2048x2048 .f32) (d : FVec Ideal S2048x1024 .f32) : FVec Ideal S2048x2048 .f32 :=
  concatenate S2048x2048 1 [⟨S2048x1024, mulf d (sg z)⟩, ⟨S2048x1024, mulf (mulf (left z) d) (mulf (sg z) (subf ones (sg z)))⟩]
    Cert.GluRefIdeal.Gen.concatenates_S2048x1024_S2048x1024_S2048x2048_d1

/-- The gradient with respect to the bias: the rows' sum, in two rows of `1024`. -/
def dB (z : FVec Ideal S2048x2048 .f32) (d : FVec Ideal S2048x1024 .f32) : FVec Ideal S2x1024 .f32 :=
  shapeCast _ (Host.reduceAdd (shapeCast _ (Host.reduceAdd (dZ z d) (constant Cert.GluRefIdeal.S_ .f32 0x00000000#32) Cert.GluRefIdeal.Gen.reducesTo_S2048x2048_S2048_d0 Cert.GluRefIdeal.Gen.h_S_)
    Cert.GluRefIdeal.Gen.shapeCasts_S2048_S1x2048) (constant Cert.GluRefIdeal.S_ .f32 0x00000000#32) Cert.GluRefIdeal.Gen.reducesTo_S1x2048_S2048_d0 Cert.GluRefIdeal.Gen.h_S_)
    Cert.GluRefIdeal.Gen.shapeCasts_S2048_S2x1024

/-- Every window's block index at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- What the region finds in the three arrays it reads. -/
theorem V_d (c : Dev nD) : V m c main_arg3 = aD m c := by unfold V; after_results
theorem V_val (c : Dev nD) : V m c main_v4 = left (Z (aY m c) (aW m c) (aB m c)) := by unfold V; after_results; rfl
theorem V_gate (c : Dev nD) : V m c main_v5 = right (Z (aY m c) (aW m c) (aB m c)) := by unfold V; after_results; rfl

/-- The blocks at point `t`, read at an index. -/
theorem blk0 (c : Dev nD) (t : Fin cfg0.N) (i : Fin 256) (k : Fin 1024) (h : t.val * 256 + i.val < 2048) :
    iblk m c 0 t (ix2 i k) = aD m c (ix2 ⟨t.val * 256 + i.val, h⟩ k) := by
  refine Eq.trans (b := V m c main_arg3 (((cfg0.win 0).blk t).view.emb (ix2 i k))) rfl ?_
  rw [V_d]
  blk_ext [idx t]

theorem blk1 (c : Dev nD) (t : Fin cfg0.N) (i : Fin 256) (k : Fin 1024) (h : t.val * 256 + i.val < 2048) :
    iblk m c 1 t (ix2 i k) = left (Z (aY m c) (aW m c) (aB m c)) (ix2 ⟨t.val * 256 + i.val, h⟩ k) := by
  refine Eq.trans (b := V m c main_v4 (((cfg0.win 1).blk t).view.emb (ix2 i k))) rfl ?_
  rw [V_val]
  blk_ext [idx t]

theorem blk2 (c : Dev nD) (t : Fin cfg0.N) (i : Fin 256) (k : Fin 1024) (h : t.val * 256 + i.val < 2048) :
    iblk m c 2 t (ix2 i k) = right (Z (aY m c) (aW m c) (aB m c)) (ix2 ⟨t.val * 256 + i.val, h⟩ k) := by
  refine Eq.trans (b := V m c main_v5 (((cfg0.win 2).blk t).view.emb (ix2 i k))) rfl ?_
  rw [V_gate]
  blk_ext [idx t]

/-- The two halves of the input's gradient at an index. -/
theorem dZ_left (z : FVec Ideal S2048x2048 .f32) (d : FVec Ideal S2048x1024 .f32) (i : Fin 2048) (j : Fin 1024) :
    dZ z d (ix2 i ⟨j.val, by omega⟩) = d (ix2 i j) * sg z (ix2 i j) := by
  pointwise [dZ]

theorem dZ_right (z : FVec Ideal S2048x2048 .f32) (d : FVec Ideal S2048x1024 .f32) (i : Fin 2048) (j : Fin 1024) :
    dZ z d (ix2 i ⟨1024 + j.val, by omega⟩) = left z (ix2 i j) * d (ix2 i j) * (sg z (ix2 i j) * (1 - sg z (ix2 i j))) := by
  pointwise [dZ]

/-- The body's logistic of the gate's block is the reference's quotient. -/
theorem pay1_at (v : FVec Ideal S256x1024 .f32) (z : FVec Ideal S2048x2048 .f32) (y0 : Fin 256) (i : Fin 2048) (j : Fin 1024)
    (hv : v (ix2 y0 j) = right z (ix2 i j)) : k0_pay1 v (ix2 y0 j) = sg z (ix2 i j) := by
  pointwise [k0_pay1, sg, hv, Ideal.logistic]

/-- The body's named values at an index. -/
theorem pay2_at (v0 v3 : FVec Ideal S256x1024 .f32) (i : Fin 256) (j : Fin 1024) :
    k0_pay2 v0 v3 (ix2 i j) = v3 (ix2 i j) * k0_pay1 v0 (ix2 i j) := by
  pointwise [k0_pay2]
theorem pay3_at (v0 v5 v6 : FVec Ideal S256x1024 .f32) (i : Fin 256) (j : Fin 1024) :
    k0_pay3 v0 v5 v6 (ix2 i j) = v5 (ix2 i j) * v6 (ix2 i j) * k0_pay1 v0 (ix2 i j) * (1 - k0_pay1 v0 (ix2 i j)) := by
  pointwise [k0_pay3]
theorem pay4_at (v0 v3 v5 v6 : FVec Ideal S256x1024 .f32) (i : Fin 256) (j : Fin 2048) :
    (k0_pay4 (F := Ideal) v0 v3 v5 v6 : S256x2048.Idx → EReal) (ix2 i j)
      = if h : j.val < 1024 then (k0_pay2 (F := Ideal) v0 v3 : S256x1024.Idx → EReal) (ix2 i ⟨j.val, h⟩)
        else (k0_pay3 (F := Ideal) v0 v5 v6 : S256x1024.Idx → EReal) (ix2 i ⟨j.val - 1024, by omega⟩) := by
  pointwise [k0_pay4]
theorem pay6_at (v0 v3 : FVec Ideal S256x1024 .f32) (a : FVec Ideal S1x1024 .f32) (j : Fin 1024) :
    k0_pay6 v0 v3 a (ix2 0 j) = a (ix2 0 j) + ∑ k : Fin 256, k0_pay2 v0 v3 (ix2 k j) := by
  pointwise [k0_pay6]
theorem pay7_at (v0 v5 v6 : FVec Ideal S256x1024 .f32) (a : FVec Ideal S1x1024 .f32) (j : Fin 1024) :
    k0_pay7 v0 v5 v6 a (ix2 0 j) = a (ix2 0 j) + ∑ k : Fin 256, k0_pay3 v0 v5 v6 (ix2 k j) := by
  pointwise [k0_pay7]

/-- The bias's gradient: column `r * 1024 + j` of the input's gradient, summed over the rows. -/
theorem dB_at (z : FVec Ideal S2048x2048 .f32) (d : FVec Ideal S2048x1024 .f32) (r : Fin 2) (j : Fin 1024) :
    dB z d (ix2 r j) = ∑ k : Fin 2048, dZ z d (ix2 k ⟨r.val * 1024 + j.val, by omega⟩) := by
  pointwise [dB]
  exact Fin.sum_univ_one _

/-- The input's gradient of device `c`'s arguments. -/
abbrev G (c : Dev nD) : FVec Ideal S2048x2048 .f32 := dZ (Z (aY m c) (aW m c) (aB m c)) (aD m c)

/-- At point `t` the body's two products are the two halves of the input's gradient, at the rows of the block. -/
theorem val_at (c : Dev nD) (t : Fin cfg0.N) (i : Fin 256) (j : Fin 1024) (h : t.val * 256 + i.val < 2048) :
    k0_pay2 (iblk m c 2 t) (iblk m c 0 t) (ix2 i j) = G m c (ix2 ⟨t.val * 256 + i.val, h⟩ ⟨j.val, by omega⟩) := by
  unfold G
  rw [pay2_at, dZ_left, blk0 m c t i j h, pay1_at _ _ _ _ _ (blk2 m c t i j h)]

theorem gate_at (c : Dev nD) (t : Fin cfg0.N) (i : Fin 256) (j : Fin 1024) (h : t.val * 256 + i.val < 2048) :
    k0_pay3 (iblk m c 2 t) (iblk m c 0 t) (iblk m c 1 t) (ix2 i j) = G m c (ix2 ⟨t.val * 256 + i.val, h⟩ ⟨1024 + j.val, by omega⟩) := by
  unfold G
  rw [pay3_at, dZ_right, blk0 m c t i j h, blk1 m c t i j h, pay1_at _ _ _ _ _ (blk2 m c t i j h), mul_assoc, mul_comm (aD m c _)]

theorem point (c : Dev nD) (t : Fin cfg0.N) (y : S256x2048.Idx) :
    k0_pay4 (iblk m c 2 t) (iblk m c 0 t) (iblk m c 0 t) (iblk m c 1 t) y
      = truncf .bf16 (G m c) Cert.GluRefIdeal.Gen.bitsLt_bf16_f32 (((cfg0.win 3).blk t).view.emb y) := by
  idx_vars y
  have ht : t.val < 8 := lt_of_lt_of_eq t.isLt N_0
  have h : t.val * 256 + y0.val < 2048 := by omega
  rw [show ((cfg0.win 3).blk t).view.emb (ix2 y0 y1) = (ix2 ⟨t.val * 256 + y0.val, h⟩ y1 : S2048x2048.Idx) from by blk_ext [idx t]]
  refine (pay4_at _ _ _ _ _ _).trans (Eq.trans ?_ (show G m c _ = _ from rfl))
  split
  · exact val_at m c t y0 ⟨y1.val, ‹_›⟩ h
  · refine (gate_at m c t y0 ⟨y1.val - 1024, by omega⟩ h).trans ?_
    congr 2
    exact Fin.ext (by simp; omega)

/-- The first result after the run. -/
theorem final_dz (c : Dev nD) : (dats m 0 c).arrAt 3 (cfgs 0).N = truncf .bf16 (G m c) Cert.GluRefIdeal.Gen.bitsLt_bf16_f32 := by
  refine (dats m 0 c).arrAt_eq_of_covers 3 _ (by decide +kernel) fun t _ y => ?_
  blk_simp
  rw [after0_3]
  by_cases h : t.val % 8 = 0
  · rw [outsAt0_A m c t h]; frame_out
    exact point m c t y
  · rw [outsAt0_B m c t h]; frame_out
    exact point m c t y

/-- Point `p`'s part of the bias's gradient: the columns summed over the block's rows. -/
def part (c : Dev nD) (p : Fin cfg0.N) (j : S2x1024.Idx) : EReal :=
  ∑ k : Fin 256, G m c (ix2 ⟨p.val * 256 + k.val, by have : p.val < 8 := lt_of_lt_of_eq p.isLt N_0; omega⟩
    ⟨(j 0).val * 1024 + (j 1).val, by have h0 : (j 0).val < 2 := (j 0).isLt; have h1 : (j 1).val < 1024 := (j 1).isLt; omega⟩)

/-- The two rows of the bias's block. -/
abbrev R0 : Rect S2x1024 := Rect.unit ![0, 0] ![1, 1024] inb_S2x1024_S1x1024_0_0
abbrev R1 : Rect S2x1024 := Rect.unit ![1, 0] ![1, 1024] inb_S2x1024_S1x1024_1_0

/-- The body's two row stores: row `1` adds the gate's column sums, row `0` the value's. -/
theorem row1 (c : Dev nD) (t : Fin cfg0.N) (a : S2x1024.Idx → EReal) (x : S1x1024.Idx) :
    (k0_pay7 (iblk m c 2 t) (iblk m c 0 t) (iblk m c 1 t) (View.ld a R1) : S1x1024.Idx → EReal) x
      = a (R1.emb x) + part m c t (R1.emb x) := by
  have ht : t.val < 8 := lt_of_lt_of_eq t.isLt N_0
  idx_vars x
  obtain rfl : x0 = 0 := Subsingleton.elim _ _
  refine (pay7_at _ _ _ _ _).trans (congrArg₂ _ rfl (Finset.sum_congr rfl fun k _ => ?_))
  rw [gate_at m c t k x1 (by omega)]
  blk_ext

theorem row0 (c : Dev nD) (t : Fin cfg0.N) (a : S2x1024.Idx → EReal) (x : S1x1024.Idx) :
    (k0_pay6 (iblk m c 2 t) (iblk m c 0 t) (View.ld a R0) : S1x1024.Idx → EReal) x
      = a (R0.emb x) + part m c t (R0.emb x) := by
  have ht : t.val < 8 := lt_of_lt_of_eq t.isLt N_0
  idx_vars x
  obtain rfl : x0 = 0 := Subsingleton.elim _ _
  refine (pay6_at _ _ _ _).trans (congrArg₂ _ rfl (Finset.sum_congr rfl fun k _ => ?_))
  rw [val_at m c t k x1 (by omega)]
  blk_ext

/-- Every entry of the two-row block lies in one of the two rows. -/
theorem in_rows (f g : S1x1024.Idx → EReal) (j : S2x1024.Idx) :
    ∃ p ∈ ([⟨R1, f⟩, ⟨R0, g⟩]
      : List (View.Piece (Elt Ideal) S2x1024 .f32)), j ∈ p.1.set :=
  View.cover_of_tiledL _ ![1, 1024] (by sl_kernel_rfl) j

/-- At the first point the block holds that point's part; at every later one the part is added. -/
theorem reset (c : Dev nD) (t : Fin cfg0.N) (h : t.val % 8 = 0) (j : S2x1024.Idx) :
    ((outsAt0 m c t.val t.isLt).2 : S2x1024.Idx → EReal) j = 0 + part m c t j := by
  rw [outsAt0_A m c t h]; frame_out
  rw [View.readCov_skip _ _ _ _ _ (by decide), View.readCov_fill _ _ _ _ _ (by decide), View.readCov_fill _ _ _ _ _ (by decide)]
  refine (View.canon_append_of_piecesOf (fun j => (0 : EReal) + part m c t j) [_] [_, _] ⟨fun x => ?_, fun x => ?_, trivial⟩ j (in_rows _ _ j))
  · exact (row1 m c t _ x).trans (congrArg₂ _ (by pointwise [k0_pay5]) rfl)
  · exact (row0 m c t _ x).trans (congrArg₂ _ (by pointwise [k0_pay5]) rfl)

theorem step (c : Dev nD) (t : Fin cfg0.N) (h : ¬t.val % 8 = 0) (j : S2x1024.Idx) :
    ((outsAt0 m c t.val t.isLt).2 : S2x1024.Idx → EReal) j
      = (outsAt0 m c (t.val - 1) (Nat.lt_of_le_of_lt (Nat.sub_le _ _) t.isLt)).2 j + part m c t j := by
  rw [outsAt0_B m c t h]; frame_out
  exact View.canon_append_of_piecesOf (fun j => ((outsAt0 m c (t.val - 1) (Nat.lt_of_le_of_lt (Nat.sub_le _ _) t.isLt)).2 j : EReal) + part m c t j)
    [] [_, _] ⟨fun x => row1 m c t _ x, fun x => row0 m c t _ x, trivial⟩ j (in_rows _ _ j)

/-- The second result after the run. -/
theorem final_db (c : Dev nD) : (dats m 0 c).arrAt 4 (cfgs 0).N = dB (Z (aY m c) (aW m c) (aB m c)) (aD m c) := by
  refine (dats m 0 c).arrAt_eq_of_after_last 4 t0_7 (by decide +kernel) _ fun j => ?_
  blk_simp
  rw [after0_4, Pipeline.eq_sum_fin_of_reset_step_apply_last (fun n h => (outsAt0 m c n h).2) 8 (fun _ => 0) (fun p j => part m c p j)
    (fun t h j => reset m c t h j) (fun t h j => step m c t h j) (le_of_eq N_0) t0_7 rfl j, zero_add]
  idx_vars j
  rw [dB_at]
  exact Fin.sum_mul_add_congr fun s k hl => rfl

end Cert.GluBwdIdeal.Grad

namespace Cert.Proof

theorem frame_GluBwd : Cert.quiescent_GluBwd := fun m ρ _ => Cert.GluBwd.Gen.frame m ρ
theorem frame_GluBwdIdeal : Cert.quiescent_GluBwdIdeal := fun m ρ _ => Cert.GluBwdIdeal.Gen.frame m ρ
/-- The reference's frame: its run leaves the arguments, and it declares no semaphore. -/
theorem frame_GluRefIdeal : Cert.quiescent_GluRefIdeal := fun m ρ _ =>
  (θ_run Cert.GluRefIdeal.defs _ _).mono (fun r h => ⟨fun c => (h c).2.2,
      Idealize.ShloMosaic.sem_eq_zero_of_no_sems (by decide) r.2⟩) (Cert.GluRefIdeal.Value.run (F := Ideal) m ρ)

open Cert.GluBwdIdeal.Grad in
/-- Kernel and reference end with the same two gradients. -/
theorem algebraic_Glu : Cert.algebraic_GluBwdIdeal_GluRefIdeal := by
  intro m ρ m' ρ' _ hagree
  refine ⟨fun c => truncf .bf16 (G m c) Cert.GluRefIdeal.Gen.bitsLt_bf16_f32, fun c => dB (Z (aY m c) (aW m c) (aB m c)) (aD m c), ?_, ?_⟩
  · exact (θ_run Cert.GluBwdIdeal.defs _ _).mono (fun _ h c => ⟨(h c).1.trans (final_dz m c), (h c).2.1.trans (final_db m c), (h c).2.2⟩)
      (Cert.GluBwdIdeal.Value.run_blocks (F := Ideal) m ρ)
  · refine (θ_run Cert.GluRefIdeal.defs _ _).mono (fun _ h c => ⟨(h c).1.trans ?_, (h c).2.1.trans ?_, (h c).2.2⟩)
      (Cert.GluRefIdeal.Value.run (F := Ideal) m' ρ')
    all_goals
      rw [(hagree c).1, (hagree c).2.1, (hagree c).2.2.1, (hagree c).2.2.2]
      rfl

end Cert.Proof

end
-- ==== Proof.Finite.lean ====
/- Finite extended reals: which values are real numbers, and how a precondition says that an array's are. -/
module

public import Idealize.ShloMosaic.Lib.Pointwise
public import Idealize.ShloMosaic.Lib.ReduceAll
public import Idealize.ShloMosaic.PureOps.Ideal.Laws

@[expose] public section

noncomputable section

open Idealize.ShloMosaic

namespace Cert.Finite

/-- An array of extended reals whose entries are all real numbers. -/
def IsReal {ι : Type*} (x : ι → EReal) : Prop := ∃ r : ι → ℝ, x = fun i => (r i : EReal)

theorem isReal_of_ne {ι : Type*} {x : ι → EReal} (h : ∀ i, x i ≠ ⊤ ∧ x i ≠ ⊥) : IsReal x :=
  ⟨fun i => (x i).toReal, funext fun i => (EReal.coe_toReal (h i).1 (h i).2).symm⟩

/-- A value whose absolute value is below `⊤` is neither infinity. -/
theorem ne_of_abs_lt (x : EReal) (h : max x (-x) < ⊤) : x ≠ ⊤ ∧ x ≠ ⊥ := by
  constructor
  · rintro rfl; simp at h
  · rintro rfl; simp at h

theorem ofBits_inf : Ideal.ofBits .f32 0x7F800000#32 = ⊤ := by
  simp [Ideal.ofBits, Ideal.ieee]

/-- `jnp.all(jnp.abs(x) < inf)`, as printed, says that `x` is an array of real numbers. -/
theorem isReal_of_all {s t : Shape} {axes : List (Fin s.rank)} [Subsingleton t.Idx] (x : FVec Ideal s .f32)
    (hb : (⟨0, ![]⟩ : Shape).BroadcastsInDim s (![] : Fin 0 → Fin s.rank)) (h : s.ReducesTo axes t) (u : Shape) (hu : 0 < u.numel) (i1 : IVec u 1) (j : t.Idx)
    (e : Host.reduce IntOp.andi (cmpf .olt (Host.absf x) (broadcastInDim s ![] hb (constant ⟨0, ![]⟩ .f32 0x7F800000#32))) i1 h hu j = 1#1) :
    IsReal (x : s.Idx → EReal) := by
  refine isReal_of_ne fun i => ne_of_abs_lt _ ?_
  have e' := Host.reduce_andi_all _ _ _ _ _ e i
  rw [show (cmpf .olt (Host.absf x) (broadcastInDim s ![] hb (constant ⟨0, ![]⟩ .f32 0x7F800000#32))) i
    = Ideal.cmp .olt (max (x i) (-x i)) (Ideal.ofBits .f32 0x7F800000#32) from rfl, ofBits_inf] at e'
  by_contra hn
  rw [Ideal.cmp, decide_eq_false hn] at e'
  exact absurd e' (by decide)

/-- An `and` of two truth values that is true has both true. -/
theorem andi_eq_one {s : Shape} {x y : IVec s 1} {i : s.Idx} (h : andi x y i = 1#1) : x i = 1#1 ∧ y i = 1#1 := by
  have e : ∀ a b : BitVec 1, a &&& b = 1#1 → a = 1#1 ∧ b = 1#1 := by decide
  exact e _ _ h

/-- A finite sum of real numbers is the real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scalar's array has one index. -/
instance : Subsingleton (Shape.Idx ⟨0, ![]⟩) := ⟨fun _ _ => funext fun a => a.elim0⟩

end Cert.Finite

end
-- ==== Proof.GluDy.lean ====
/- The product with the gate's matrix, times gelu's slope: `glu_dy`'s result is the reference's. -/
module

public import proofs.«01_k».proof.Defs
public import proofs.«01_k».proof.Proof.Gen.GluDy.Frame
public import proofs.«01_k».proof.Proof.Gen.GluDyIdeal.Value
public import proofs.«01_k».proof.Proof.Gen.GluDyRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.GluDyIdeal.Grad

open Cert.GluDyIdeal Cert.GluDyIdeal.Gen Cert.Finite

variable (m : (ℓ : Loc nD τ sig) → Buf (Elt Ideal) ℓ)

/-- The three argument arrays of device `c`: the convolved rows, the gate's matrix, the cotangent of the product. -/
abbrev aY (c : Dev nD) : FVec Ideal S2048x1024 .f32 := m ((c : Thread nD τ).loc main_arg0)
abbrev aW (c : Dev nD) : FVec Ideal S1024x2048 .f32 := m ((c : Thread nD τ).loc main_arg1)
abbrev aZ (c : Dev nD) : FVec Ideal S2048x2048 .f32 := m ((c : Thread nD τ).loc main_arg2)

/-- A constant as an array, the product's gradient, and gelu's hyperbolic tangent, as the reference spells them. -/
abbrev cst (w : BitVec 32) : FVec Ideal S2048x1024 .f32 := broadcastInDim S2048x1024 ![] Cert.GluDyRefIdeal.Gen.bcast_S_S2048x1024 (constant S_ .f32 w)
def D (w : FVec Ideal S1024x2048 .f32) (dz : FVec Ideal S2048x2048 .f32) : FVec Ideal S2048x1024 .f32 :=
  Host.dotGeneral Cert.GluDyRefIdeal.dot_S2048x2048_S1024x2048_S2048x1024_1_1_0_0_n_n none dz w
def th (y : FVec Ideal S2048x1024 .f32) : FVec Ideal S2048x1024 .f32 :=
  Host.tanh (mulf (cst 0x3F4C422A#32) (addf y (mulf (cst 0x3D372713#32) (mulf (mulf y y) y))))

/-- The part of the gradient that goes through the hyperbolic tangent, and the gradient. -/
def thru (y : FVec Ideal S2048x1024 .f32) (w : FVec Ideal S1024x2048 .f32) (dz : FVec Ideal S2048x2048 .f32) : FVec Ideal S2048x1024 .f32 :=
  mulf (cst 0x3F4C422A#32) (mulf (mulf (cst 0x3F000000#32) (mulf y (D w dz))) (mulf (addf (cst 0x3F800000#32) (th y)) (subf (cst 0x3F800000#32) (th y))))
def REF (y : FVec Ideal S2048x1024 .f32) (w : FVec Ideal S1024x2048 .f32) (dz : FVec Ideal S2048x2048 .f32) : FVec Ideal S2048x1024 .f32 :=
  addf (addf (mulf (D w dz) (mulf (cst 0x3F000000#32) (addf (cst 0x3F800000#32) (th y)))) (thru y w dz))
    (mulf (mulf (cst 0x3D372713#32) (thru y w dz)) (mulf (cst 0x40400000#32) (mulf y y)))

/-- gelu's slope, as the kernel's host lines spell it. -/
abbrev kst (w : BitVec 32) : FVec Ideal S2048x1024 .f32 := broadcastInDim S2048x1024 ![] bcast_S_S2048x1024 (constant S_ .f32 w)
def kth (y : FVec Ideal S2048x1024 .f32) : FVec Ideal S2048x1024 .f32 :=
  Host.tanh (mulf (kst 0x3F4C422A#32) (addf y (mulf (mulf (mulf (kst 0x3D372713#32) y) y) y)))
def slope (y : FVec Ideal S2048x1024 .f32) : FVec Ideal S2048x1024 .f32 :=
  addf (mulf (kst 0x3F000000#32) (addf (kst 0x3F800000#32) (kth y)))
    (mulf (mulf (mulf (mulf (kst 0x3F000000#32) y) (subf (kst 0x3F800000#32) (mulf (kth y) (kth y)))) (kst 0x3F4C422A#32))
      (addf (kst 0x3F800000#32) (mulf (kst 0x40400000#32) (mulf (mulf (kst 0x3D372713#32) y) y))))

/-- Every window's block index at every point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- What the region finds in the three arrays it reads. -/
theorem V_dz (c : Dev nD) : V m c main_v29 = aZ m c := by unfold V; after_results; rfl
theorem V_w (c : Dev nD) : V m c main_v30 = aW m c := by unfold V; after_results; rfl
theorem V_slope (c : Dev nD) : V m c main_v28 = slope (aY m c) := by unfold V; after_results; rfl

/-- The blocks at point `t`, read at an index. -/
theorem blk0 (c : Dev nD) (t : Fin cfg0.N) (i : Fin 512) (k : Fin 2048) (h : t.val * 512 + i.val < 2048) :
    iblk m c 0 t (ix2 i k) = aZ m c (ix2 ⟨t.val * 512 + i.val, h⟩ k) := by
  refine Eq.trans (b := V m c main_v29 (((cfg0.win 0).blk t).view.emb (ix2 i k))) rfl ?_
  rw [V_dz]
  blk_ext [idx t]

theorem blk1 (c : Dev nD) (t : Fin cfg0.N) (i : Fin 1024) (k : Fin 2048) : iblk m c 1 t (ix2 i k) = aW m c (ix2 i k) := by
  refine Eq.trans (b := V m c main_v30 (((cfg0.win 1).blk t).view.emb (ix2 i k))) rfl ?_
  rw [V_w]
  blk_ext [idx t]

theorem blk2 (c : Dev nD) (t : Fin cfg0.N) (i : Fin 512) (k : Fin 1024) (h : t.val * 512 + i.val < 2048) :
    iblk m c 2 t (ix2 i k) = slope (aY m c) (ix2 ⟨t.val * 512 + i.val, h⟩ k) := by
  refine Eq.trans (b := V m c main_v28 (((cfg0.win 2).blk t).view.emb (ix2 i k))) rfl ?_
  rw [V_slope]
  blk_ext [idx t]

/-- The printed constants are real numbers, two of them positive. -/
theorem half_real : ∃ r : ℝ, Ideal.ofBits .f32 0x3F000000#32 = (r : EReal) := ⟨_, by simp [Ideal.ofBits, Ideal.ieee]; rfl⟩
theorem three_real : ∃ r : ℝ, Ideal.ofBits .f32 0x40400000#32 = (r : EReal) := ⟨_, by simp [Ideal.ofBits, Ideal.ieee]; rfl⟩
theorem c_real : ∃ r : ℝ, 0 < r ∧ Ideal.ofBits .f32 0x3F4C422A#32 = (r : EReal) := by
  refine ⟨_, ?_, by simp [Ideal.ofBits, Ideal.ieee]; rfl⟩
  positivity
theorem a_real : ∃ r : ℝ, 0 < r ∧ Ideal.ofBits .f32 0x3D372713#32 = (r : EReal) := by
  refine ⟨_, ?_, by simp [Ideal.ofBits, Ideal.ieee]; rfl⟩
  positivity

theorem one_one : (1 : EReal) - 1 = 0 := EReal.sub_self (EReal.coe_ne_top 1) (EReal.coe_ne_bot 1)
theorem neg_one : (1 : EReal) + -1 = 0 := one_one

/-- Finite cotangent times slope is the gradient through both factors, whatever the row holds: at an infinite row the hyperbolic
    tangent is `1` or `-1` and what goes through it vanishes. -/
theorem slope_eq (h w c a d : ℝ) (hc : 0 < c) (ha : 0 < a) (y : EReal) (t u : EReal)
    (ht : t = Ideal.tanh (c * (y + a * (y * y * y)))) (hu : u = Ideal.tanh (c * (y + a * y * y * y))) :
    (d : EReal) * (h * (1 + u) + h * y * (1 - u * u) * c * (1 + w * (a * y * y)))
      = d * (h * (1 + t)) + c * (h * (y * d) * ((1 + t) * (1 - t))) + a * (c * (h * (y * d) * ((1 + t) * (1 - t)))) * (w * (y * y)) := by
  have e : u = t := by rw [ht, hu]; simp only [mul_assoc]
  subst e
  clear hu
  induction y with
  | bot =>
    have : u = -1 := by rw [ht]; simp [EReal.coe_mul_bot_of_pos, hc, ha]
    subst this
    simp only [one_one, neg_one, neg_mul_neg, mul_one, zero_mul, mul_zero, zero_mul, add_zero]
  | top =>
    have : u = 1 := by rw [ht]; simp [EReal.coe_mul_top_of_pos, hc, ha]
    subst this
    simp only [one_one, neg_one, neg_mul_neg, mul_one, zero_mul, mul_zero, zero_mul, add_zero]
  | coe r =>
    obtain ⟨s, hs⟩ : ∃ s : ℝ, u = s := ⟨_, by rw [ht]; norm_cast⟩
    subst hs
    norm_cast
    ring

theorem D_real (w : FVec Ideal S1024x2048 .f32) (dz : FVec Ideal S2048x2048 .f32) (hw : IsReal (w : S1024x2048.Idx → EReal))
    (hz : IsReal (dz : S2048x2048.Idx → EReal)) (i : Fin 2048) (j : Fin 1024) : ∃ d : ℝ, D w dz (ix2 i j) = (d : EReal) := by
  obtain ⟨w', rfl⟩ := hw
  obtain ⟨z', rfl⟩ := hz
  refine ⟨∑ k : Fin 2048, z' (ix2 i k) * w' (ix2 j k), ?_⟩
  rw [coe_sum]
  pointwise [D]
  simp only [EReal.coe_mul]

/-- Slope and gradient at an index. -/
theorem mul_slope (y : FVec Ideal S2048x1024 .f32) (w : FVec Ideal S1024x2048 .f32) (dz : FVec Ideal S2048x2048 .f32)
    (hw : IsReal (w : S1024x2048.Idx → EReal)) (hz : IsReal (dz : S2048x2048.Idx → EReal)) (i : Fin 2048) (j : Fin 1024) :
    D w dz (ix2 i j) * slope y (ix2 i j) = REF y w dz (ix2 i j) := by
  obtain ⟨d, hd⟩ := D_real w dz hw hz i j
  obtain ⟨h, hh⟩ := half_real
  obtain ⟨w, hw⟩ := three_real
  obtain ⟨c, hc, hc'⟩ := c_real
  obtain ⟨a, ha, ha'⟩ := a_real
  pointwise [slope, REF, thru, kth, th, hd, hh, hw, hc', ha']
  exact slope_eq h w c a d hc ha _ _ _ rfl rfl

/-- What the body stores at block index `y` of point `t` is the reference's gradient at the array index `y` sits at. -/
theorem point (c : Dev nD) (hw : IsReal (aW m c : S1024x2048.Idx → EReal)) (hz : IsReal (aZ m c : S2048x2048.Idx → EReal)) (t : Fin cfg0.N)
    (y : S512x1024.Idx) : k0_pay1 (iblk m c 0 t) (iblk m c 1 t) (iblk m c 2 t) y
    = REF (aY m c) (aW m c) (aZ m c) (((cfg0.win 3).blk t).view.emb y) := by
  idx_vars y
  have ht : t.val < 4 := lt_of_lt_of_eq t.isLt N_0
  have h : t.val * 512 + y0.val < 2048 := by omega
  rw [show ((cfg0.win 3).blk t).view.emb (ix2 y0 y1) = (ix2 ⟨t.val * 512 + y0.val, h⟩ y1 : S2048x1024.Idx) from by blk_ext [idx t],
    ← mul_slope _ _ _ hw hz]
  pointwise [k0_pay1, D, blk0 m c t y0 _ h, blk1, blk2 m c t y0 _ h]

/-- The result array after the run: the reference's gradient. -/
theorem final (c : Dev nD) (hw : IsReal (aW m c : S1024x2048.Idx → EReal)) (hz : IsReal (aZ m c : S2048x2048.Idx → EReal)) :
    (dats m 0 c).arrAt 3 (cfgs 0).N = REF (aY m c) (aW m c) (aZ m c) := by
  refine (dats m 0 c).arrAt_eq_of_covers 3 _ (by decide +kernel) fun t _ y => ?_
  blk_simp
  rw [after0_3]; frame_out
  exact point m c hw hz t y

end Cert.GluDyIdeal.Grad

namespace Cert.Proof

/-- The precondition's side conditions on shapes. -/
instance facts_finite_dy : Cert.Pre_finite_dy.Facts where
  bcast_S_S1024x2048 := by decide
  reducesTo_S1024x2048_S_d0_1 := by decide
  h_S_ := by decide
  bcast_S_S2048x2048 := by decide
  reducesTo_S2048x2048_S_d0_1 := by decide

theorem frame_GluDy : Cert.quiescent_GluDy := fun m ρ _ => Cert.GluDy.Gen.frame m ρ
theorem frame_GluDyIdeal : Cert.quiescent_GluDyIdeal := fun m ρ _ => Cert.GluDyIdeal.Gen.frame m ρ
/-- The reference's frame: its run leaves the arguments, and it declares no semaphore. -/
theorem frame_GluDyRefIdeal : Cert.quiescent_GluDyRefIdeal := fun m ρ _ =>
  (θ_run Cert.GluDyRefIdeal.defs _ _).mono (fun r h => ⟨fun c => (h c).2,
      Idealize.ShloMosaic.sem_eq_zero_of_no_sems (by decide) r.2⟩) (Cert.GluDyRefIdeal.Value.run (F := Ideal) m ρ)

open Cert.GluDyIdeal.Grad in
/-- What the precondition says: the matrix and the cotangent are real. -/
theorem finite_dy_real (m : (ℓ : Loc Cert.GluDyIdeal.nD Cert.GluDyIdeal.τ Cert.GluDyIdeal.sig) → Buf (Elt Ideal) ℓ)
    (h : Cert.Pre_GluDyIdeal_finite_dy m) (c : Dev Cert.GluDyIdeal.nD) :
    Cert.Finite.IsReal (aW m c : Cert.GluDyIdeal.S1024x2048.Idx → EReal) ∧ Cert.Finite.IsReal (aZ m c : Cert.GluDyIdeal.S2048x2048.Idx → EReal) := by
  have e := congrFun (h c) (fun a => a.elim0)
  obtain ⟨e1, e2⟩ := Cert.Finite.andi_eq_one e
  exact ⟨Cert.Finite.isReal_of_all _ _ _ _ _ _ _ e1, Cert.Finite.isReal_of_all _ _ _ _ _ _ _ e2⟩

open Cert.GluDyIdeal.Grad in
/-- Kernel and reference end with the same gradient. -/
theorem algebraic_GluDy : Cert.algebraic_GluDyIdeal_GluDyRefIdeal_pre_finite_dy := by
  intro m ρ m' ρ' hpre hagree
  refine ⟨fun c => REF (aY m c) (aW m c) (aZ m c), ?_, ?_⟩
  · exact (θ_run Cert.GluDyIdeal.defs _ _).mono (fun _ h c => ⟨(h c).1.trans (final m c (finite_dy_real m hpre c).1 (finite_dy_real m hpre c).2), (h c).2⟩)
      (Cert.GluDyIdeal.Value.run_blocks (F := Ideal) m ρ)
  · refine (θ_run Cert.GluDyRefIdeal.defs _ _).mono (fun _ h c => ⟨(h c).1.trans ?_, (h c).2⟩)
      (Cert.GluDyRefIdeal.Value.run (F := Ideal) m' ρ')
    rw [(hagree c).1, (hagree c).2.1, (hagree c).2.2]
    rfl

end Cert.Proof

end
-- ==== Proof.MlpDa.lean ====
module

public import proofs.«01_k».proof.Defs
public import proofs.«01_k».proof.Proof.Gen.MlpDa.Frame
public import proofs.«01_k».proof.Proof.Gen.MlpDaIdeal.Value
public import proofs.«01_k».proof.Proof.Gen.MlpDaRefIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpDaIdeal.Grad

open Cert.MlpDaIdeal Cert.MlpDaIdeal.Gen

variable (m : (ℓ : Loc nD τ sig) → Buf (Elt Ideal) ℓ)

/-- The gradient of the squared relu, as the reference spells it. -/
def REF (n : FVec Ideal S2048x1024 .f32) (wi : FVec Ideal S1024x4096 .f32) (wo : FVec Ideal S4096x1024 .f32)
    (dh : FVec Ideal S2048x1024 .f32) : FVec Ideal S2048x4096 .bf16 :=
  truncf .bf16 (select (cmpf .ogt (Host.dotGeneral Cert.MlpDaRefIdeal.dot_S2048x1024_S1024x4096_S2048x4096_1_0_0_1_n_n none n wi) (broadcastInDim S2048x4096 ![] Cert.MlpDaRefIdeal.Gen.bcast_S_S2048x4096 (constant S_ .f32 0x00000000#32))) (mulf (Host.dotGeneral Cert.MlpDaRefIdeal.dot_S2048x1024_S4096x1024_S2048x4096_1_1_0_0_n_n none dh wo) (mulf (broadcastInDim S2048x4096 ![] Cert.MlpDaRefIdeal.Gen.bcast_S_S2048x4096 (constant S_ .f32 0x40000000#32)) (maximumf (Host.dotGeneral Cert.MlpDaRefIdeal.dot_S2048x1024_S1024x4096_S2048x4096_1_0_0_1_n_n none n wi) (broadcastInDim S2048x4096 ![] Cert.MlpDaRefIdeal.Gen.bcast_S_S2048x4096 (constant S_ .f32 0x00000000#32))))) (broadcastInDim S2048x4096 ![] Cert.MlpDaRefIdeal.Gen.bcast_S_S2048x4096 (constant S_ .f32 0x00000000#32))) Cert.MlpDaRefIdeal.Gen.bitsLt_bf16_f32

/-- Every window's block index at every point. -/
theorem idx : ∀ t : Fin cfg0.N, win0_0.index t = ![0, 0] ∧ win0_1.index t = ![t.val, 0] ∧ win0_2.index t = ![0, t.val]
    ∧ win0_3.index t = ![0, t.val] :=
  (by decide +kernel : ∀ t : Fin grid0.N, _)

/-- The four argument arrays of device `c`: the normed rows, the two matrices, the cotangent. -/
abbrev aN (c : Dev nD) : FVec Ideal S2048x1024 .f32 := m ((c : Thread nD τ).loc main_arg0)
abbrev aIn (c : Dev nD) : FVec Ideal S1024x4096 .f32 := m ((c : Thread nD τ).loc main_arg1)
abbrev aOut (c : Dev nD) : FVec Ideal S4096x1024 .f32 := m ((c : Thread nD τ).loc main_arg2)
abbrev aDh (c : Dev nD) : FVec Ideal S2048x1024 .f32 := m ((c : Thread nD τ).loc main_arg3)

/-- The slope array the host lines prepare: twice the positive part of the activation. -/
abbrev slope (n : FVec Ideal S2048x1024 .f32) (wi : FVec Ideal S1024x4096 .f32) : FVec Ideal S2048x4096 .bf16 :=
  truncf .bf16 (mulf (broadcastInDim S2048x4096 ![] bcast_S_S2048x4096 (constant S_ .f32 0x40000000#32))
    (maximumf (Host.dotGeneral dot_S2048x1024_S1024x4096_S2048x4096_1_0_0_1_n_n none n wi)
      (broadcastInDim S2048x4096 ![] bcast_S_S2048x4096 (constant S_ .f32 0x00000000#32)))) bitsLt_bf16_f32

/-- What the region finds in the three arrays it reads. -/
theorem V_dh (c : Dev nD) : V m c main_v6 = aDh m c := by unfold V; after_results; rfl
theorem V_wo (c : Dev nD) : V m c main_v7 = aOut m c := by unfold V; after_results; rfl
theorem V_slope (c : Dev nD) : V m c main_v5 = slope (aN m c) (aIn m c) := by unfold V; after_results

/-- The blocks at point `t`, read at an index. -/
theorem blk0 (c : Dev nD) (t : Fin cfg0.N) (i : Fin 2048) (k : Fin 1024) : iblk m c 0 t (ix2 i k) = aDh m c (ix2 i k) := by
  refine Eq.trans (b := V m c main_v6 (((cfg0.win 0).blk t).view.emb (ix2 i k))) rfl ?_
  rw [V_dh]
  blk_ext [idx t]

theorem blk1 (c : Dev nD) (t : Fin cfg0.N) (i : Fin 512) (k : Fin 1024) (h : t.val * 512 + i.val < 4096) :
    iblk m c 1 t (ix2 i k) = aOut m c (ix2 ⟨t.val * 512 + i.val, h⟩ k) := by
  refine Eq.trans (b := V m c main_v7 (((cfg0.win 1).blk t).view.emb (ix2 i k))) rfl ?_
  rw [V_wo]
  blk_ext [idx t]

theorem blk2 (c : Dev nD) (t : Fin cfg0.N) (i : Fin 2048) (k : Fin 512) (h : t.val * 512 + k.val < 4096) :
    iblk m c 2 t (ix2 i k) = slope (aN m c) (aIn m c) (ix2 i ⟨t.val * 512 + k.val, h⟩) := by
  refine Eq.trans (b := V m c main_v5 (((cfg0.win 2).blk t).view.emb (ix2 i k))) rfl ?_
  rw [V_slope]
  blk_ext [idx t]

/-- Where the activation is not positive its slope is zero. -/
theorem slope_mul (x a b : EReal) : x * (b * max a 0) = if 0 < a then x * (b * max a 0) else 0 := by
  split
  · rfl
  · rw [max_eq_right (not_lt.mp ‹_›), mul_zero, mul_zero]

/-- What the body stores at block index `y` of point `t` is the reference's gradient at the array index `y` sits at. -/
theorem point (c : Dev nD) (t : Fin cfg0.N) (y : S2048x512.Idx) : k0_pay1 (iblk m c 0 t) (iblk m c 1 t) (iblk m c 2 t) y
    = REF (m ((c : Thread nD τ).loc main_arg0)) (m ((c : Thread nD τ).loc main_arg1)) (m ((c : Thread nD τ).loc main_arg2))
      (m ((c : Thread nD τ).loc main_arg3)) (((cfg0.win 3).blk t).view.emb y) := by
  idx_vars y
  have ht : t.val < 8 := lt_of_lt_of_eq t.isLt N_0
  have h : t.val * 512 + y1.val < 4096 := by omega
  rw [show ((cfg0.win 3).blk t).view.emb (ix2 y0 y1) = (ix2 y0 ⟨t.val * 512 + y1.val, h⟩ : S2048x4096.Idx) from by blk_ext [idx t]]
  pointwise [k0_pay1, REF, blk0, blk1 m c t y1 _ h, blk2 m c t _ y1 h, slope]
  exact slope_mul _ _ _

/-- The result array after the run: the reference's gradient. -/
theorem final (c : Dev nD) : (dats m 0 c).arrAt 3 (cfgs 0).N
    = REF (m ((c : Thread nD τ).loc main_arg0)) (m ((c : Thread nD τ).loc main_arg1)) (m ((c : Thread nD τ).loc main_arg2))
      (m ((c : Thread nD τ).loc main_arg3)) := by
  refine (dats m 0 c).arrAt_eq_of_covers 3 _ (by decide +kernel) fun t _ y => ?_
  blk_simp
  rw [after0_3]; frame_out
  exact point m c t y

end Cert.MlpDaIdeal.Grad

namespace Cert.Proof

theorem frame_MlpDa : Cert.quiescent_MlpDa := fun m ρ _ => Cert.MlpDa.Gen.frame m ρ
theorem frame_MlpDaIdeal : Cert.quiescent_MlpDaIdeal := fun m ρ _ => Cert.MlpDaIdeal.Gen.frame m ρ
/-- The reference's frame: its run leaves the arguments, and it declares no semaphore. -/
theorem frame_MlpDaRefIdeal : Cert.quiescent_MlpDaRefIdeal := fun m ρ _ =>
  (θ_run Cert.MlpDaRefIdeal.defs _ _).mono (fun r h => ⟨fun c => (h c).2,
      Idealize.ShloMosaic.sem_eq_zero_of_no_sems (by decide) r.2⟩) (Cert.MlpDaRefIdeal.Value.run (F := Ideal) m ρ)

/-- Kernel and reference end with the same gradient. -/
theorem algebraic_MlpDa : Cert.algebraic_MlpDaIdeal_MlpDaRefIdeal := by
  intro m ρ m' ρ' _ hagree
  refine ⟨fun c => Cert.MlpDaIdeal.Grad.REF (m ((c : Thread Cert.MlpDaIdeal.nD Cert.MlpDaIdeal.τ).loc Cert.MlpDaIdeal.main_arg0)) (m ((c : Thread Cert.MlpDaIdeal.nD Cert.MlpDaIdeal.τ).loc Cert.MlpDaIdeal.main_arg1)) (m ((c : Thread Cert.MlpDaIdeal.nD Cert.MlpDaIdeal.τ).loc Cert.MlpDaIdeal.main_arg2)) (m ((c : Thread Cert.MlpDaIdeal.nD Cert.MlpDaIdeal.τ).loc Cert.MlpDaIdeal.main_arg3)), ?_, ?_⟩
  · exact (θ_run Cert.MlpDaIdeal.defs _ _).mono (fun _ h c => ⟨(h c).1.trans (Cert.MlpDaIdeal.Grad.final m c), (h c).2⟩)
      (Cert.MlpDaIdeal.Value.run_blocks (F := Ideal) m ρ)
  · refine (θ_run Cert.MlpDaRefIdeal.defs _ _).mono (fun _ h c => ⟨(h c).1.trans ?_, (h c).2⟩)
      (Cert.MlpDaRefIdeal.Value.run (F := Ideal) m' ρ')
    rw [(hagree c).1, (hagree c).2.1, (hagree c).2.2.1, (hagree c).2.2.2]
    rfl

end Cert.Proof

end
-- ==== Proof.KvCombine.lean ====
/- The window gradient: `kv_combine`'s two results are the reference's. -/
module

public import proofs.«01_k».proof.Defs
public import proofs.«01_k».proof.Proof.Gen.KvCombine.Frame
public import proofs.«01_k».proof.Proof.Gen.KvCombineIdeal.Value
public import proofs.«01_k».proof.Proof.Gen.KvCombineRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KvCombineIdeal.Grad

open Cert.KvCombineIdeal Cert.KvCombineIdeal.Gen
open Cert.KvCombineRefIdeal (S16x256x512 S15x128x512 S_ S1024 S512)

variable (m : (ℓ : Loc nD τ sig) → Buf (Elt Ideal) ℓ)

/-- The two argument arrays of device `c`: the windows' gradients at the block before and at the block itself. -/
abbrev aPrev (c : Dev nD) : FVec Ideal S16x128x512 .f32 := m ((c : Thread nD τ).loc main_arg0)
abbrev aCur (c : Dev nD) : FVec Ideal S16x128x512 .f32 := m ((c : Thread nD τ).loc main_arg1)

/-- The rows' gradient in blocks, as the reference spells it: the block's own part, and the next window's part of it. -/
def T (p q : FVec Ideal S16x128x512 .f32) : FVec Ideal S16x128x512 .f32 :=
  addf (extractStridedSlice S16x128x512 ![0, 128, 0] (concatenate S16x256x512 1 [⟨S16x128x512, p⟩, ⟨S16x128x512, q⟩] Cert.KvCombineRefIdeal.Gen.concatenates_S16x128x512_S16x128x512_S16x256x512_d1) Cert.KvCombineRefIdeal.Gen.slices_S16x256x512_S16x128x512_0_128_0)
    (pad S16x128x512 ![0, 0, 0] ![1, 0, 0] ![0, 0, 0] (extractStridedSlice S15x128x512 ![1, 0, 0] (extractStridedSlice S16x128x512 ![0, 0, 0] (concatenate S16x256x512 1 [⟨S16x128x512, p⟩, ⟨S16x128x512, q⟩] Cert.KvCombineRefIdeal.Gen.concatenates_S16x128x512_S16x128x512_S16x256x512_d1) Cert.KvCombineRefIdeal.Gen.slices_S16x256x512_S16x128x512_0_0_0) Cert.KvCombineRefIdeal.Gen.slices_S16x128x512_S15x128x512_1_0_0) (constant S_ .f32 0x00000000#32) Cert.KvCombineRefIdeal.Gen.pads_S15x128x512_S16x128x512_010_000_000 Cert.KvCombineRefIdeal.Gen.h_S_)

/-- The two results, as the reference spells them. -/
def DKV (p q : FVec Ideal S16x128x512 .f32) : FVec Ideal S2048x512 .bf16 :=
  truncf .bf16 (shapeCast _ (T p q) Cert.KvCombineRefIdeal.Gen.shapeCasts_S16x128x512_S2048x512) Cert.KvCombineRefIdeal.Gen.bitsLt_bf16_f32
def DB (p q : FVec Ideal S16x128x512 .f32) : FVec Ideal S1x1024 .f32 :=
  shapeCast _ (pad S1024 ![0] ![512] ![0] (Host.reduceAdd (shapeCast _ (Host.reduceAdd (shapeCast _ (T p q) Cert.KvCombineRefIdeal.Gen.shapeCasts_S16x128x512_S2048x512) (constant S_ .f32 0x00000000#32) Cert.KvCombineRefIdeal.Gen.reducesTo_S2048x512_S512_d0 Cert.KvCombineRefIdeal.Gen.h_S_) Cert.KvCombineRefIdeal.Gen.shapeCasts_S512_S1x512) (constant S_ .f32 0x00000000#32) Cert.KvCombineRefIdeal.Gen.reducesTo_S1x512_S512_d0 Cert.KvCombineRefIdeal.Gen.h_S_) (sitofp .f32 (constantI S_ 32 0#32)) Cert.KvCombineRefIdeal.Gen.pads_S512_S1024_05120 Cert.KvCombineRefIdeal.Gen.h_S_) Cert.KvCombineRefIdeal.Gen.shapeCasts_S1024_S1x1024

/-- The rows' gradient at an index. -/
theorem T_at (p q : FVec Ideal S16x128x512 .f32) (b : Fin 16) (i : Fin 128) (j : Fin 512) (h : b.val + 1 < 16) :
    T p q (ix3 b i j) = q (ix3 b i j) + p (ix3 ⟨b.val + 1, h⟩ i j) := by
  pointwise [T]
  rw [dif_pos (by omega)]
  simp only [Nat.add_comm 1]

theorem T_last (p q : FVec Ideal S16x128x512 .f32) (i : Fin 128) (j : Fin 512) :
    T p q (ix3 15 i j) = q (ix3 15 i j) := by
  pointwise [T]

theorem DKV_at (p q : FVec Ideal S16x128x512 .f32) (i : Fin 2048) (j : Fin 512) :
    (DKV p q : S2048x512.Idx → EReal) (ix2 i j) = (T p q : S16x128x512.Idx → EReal) (ix3 ⟨i.val / 128, by omega⟩ ⟨i.val % 128, by omega⟩ j) := by
  pointwise [DKV]

theorem DB_left (p q : FVec Ideal S16x128x512 .f32) (j : Fin 512) :
    (DB p q : S1x1024.Idx → EReal) (ix2 0 ⟨j.val, by omega⟩) = ∑ k : Fin 2048, T p q (ix3 ⟨k.val / 128, by omega⟩ ⟨k.val % 128, by omega⟩ j) := by
  pointwise [DB]
  exact Fin.sum_univ_one _

theorem DB_right (p q : FVec Ideal S16x128x512 .f32) (j : Fin 512) :
    (DB p q : S1x1024.Idx → EReal) (ix2 0 ⟨512 + j.val, by omega⟩) = 0 := by
  pointwise [DB]
  exact (show (((0#32 : BitVec 32).toInt : ℝ) : EReal) = 0 from by simp)

/-- Every window's block is its whole array. -/
theorem idx : ∀ t : Fin cfg0.N, win0_0.index t = ![0, 0, 0] ∧ win0_1.index t = ![0, 0, 0] ∧ win0_2.index t = ![0, 0] ∧ win0_3.index t = ![0, 0] :=
  (by decide +kernel : ∀ t : Fin grid0.N, _)
theorem blk0 (c : Dev nD) (t : Fin cfg0.N) : iblk m c 0 t = aCur m c := by
  funext i
  idx_vars i
  blk_ext [iblk, V, idx t]
theorem blk1 (c : Dev nD) (t : Fin cfg0.N) : iblk m c 1 t = aPrev m c := by
  funext i
  idx_vars i
  blk_ext [iblk, V, idx t]

/-- Block `b` of an argument, and rows `128 * b` to `128 * b + 127` of the result. -/
abbrev rIn (b : Nat) (h : b < 16) : Rect S16x128x512 :=
  Rect.unit (s := S16x128x512) ![b, 0, 0] S1x128x512.size (fun a => by fin_cases a <;> simp [S16x128x512, S1x128x512] <;> omega)
abbrev rOut (b : Nat) (h : b < 16) : Rect S2048x512 :=
  Rect.unit (s := S2048x512) ![128 * b, 0] S128x512.size (fun a => by fin_cases a <;> simp [S2048x512, S128x512] <;> omega)

/-- A block's sum, rounded, is the result's rows. -/
theorem piece (p q : FVec Ideal S16x128x512 .f32) (b : Nat) (h : b + 1 < 16) (x : S128x512.Idx) :
    (k0_pay5 (F := Ideal) (View.ld q (rIn b (by omega))) (View.ld p (rIn (b + 1) h)) : S128x512.Idx → EReal) x
      = (DKV p q : S2048x512.Idx → EReal) ((rOut b (by omega)).emb x) := by
  idx_vars x
  rw [show (rOut b (by omega)).emb (ix2 x0 x1) = (ix2 ⟨128 * b + x0.val, by omega⟩ x1 : S2048x512.Idx) from by blk_ext]
  rw [DKV_at]
  pointwise [k0_pay5, k0_pay4]
  rw [show T p q (ix3 ⟨(128 * b + x0.val) / 128, by omega⟩ ⟨(128 * b + x0.val) % 128, by omega⟩ x1) = T p q (ix3 ⟨b, by omega⟩ x0 x1)
    from congrArg _ (congrArg₂ (fun i k => ix3 i k x1) (Fin.ext (show _ / 128 = b by omega)) (Fin.ext (show _ % 128 = x0.val by omega))), T_at p q ⟨b, by omega⟩ x0 x1 h]

/-- The last block, which no window follows. -/
theorem piece_last (p q : FVec Ideal S16x128x512 .f32) (x : S128x512.Idx) :
    (k0_pay2 (F := Ideal) (View.ld q (rIn 15 (by omega))) : S128x512.Idx → EReal) x
      = (DKV p q : S2048x512.Idx → EReal) ((rOut 15 (by omega)).emb x) := by
  idx_vars x
  rw [show (rOut 15 (by omega)).emb (ix2 x0 x1) = (ix2 ⟨1920 + x0.val, by omega⟩ x1 : S2048x512.Idx) from by blk_ext]
  rw [DKV_at, show T p q (ix3 ⟨(1920 + x0.val) / 128, by omega⟩ ⟨(1920 + x0.val) % 128, by omega⟩ x1) = T p q (ix3 15 x0 x1)
    from congrArg _ (congrArg₂ (fun i k => ix3 i k x1) (Fin.ext (show _ / 128 = 15 by omega)) (Fin.ext (show _ % 128 = x0.val by omega))), T_last]
  pointwise [k0_pay2, k0_pay1]

/-- The first result: sixteen stores tile it. -/
theorem out2 (p q : FVec Ideal S16x128x512 .f32) : out0_2 (F := Ideal) q p = DKV p q := by
  funext y
  unfold out0_2
  refine View.canon_append_of_piecesOf (Val := Elt Ideal) (DKV p q) [] [_,_,_,_,_,_,_,_,_,_,_,_,_,_,_,_] ?_ y (cover0_2 _ _ _ _ _ _ _ _ _ _ _ _ _ _ _ _ y)
  exact ⟨fun x => piece_last p q x, fun x => piece p q 14 (by omega) x, fun x => piece p q 13 (by omega) x, fun x => piece p q 12 (by omega) x, fun x => piece p q 11 (by omega) x, fun x => piece p q 10 (by omega) x, fun x => piece p q 9 (by omega) x, fun x => piece p q 8 (by omega) x, fun x => piece p q 7 (by omega) x, fun x => piece p q 6 (by omega) x, fun x => piece p q 5 (by omega) x, fun x => piece p q 4 (by omega) x, fun x => piece p q 3 (by omega) x, fun x => piece p q 2 (by omega) x, fun x => piece p q 1 (by omega) x, fun x => piece p q 0 (by omega) x, trivial⟩

/-- A sum over sixteen, term by term. -/
theorem sum16 (f : Fin 16 → EReal) : ∑ b, f b = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A block's column sum. -/
theorem row (p q : FVec Ideal S16x128x512 .f32) (b b' : Fin 16) (hb : b.val + 1 = b'.val) (j : Fin 512) :
    ∑ x : Fin 128, T p q (ix3 b x j) = ∑ x : Fin 128, (q (ix3 b x j) + p (ix3 b' x j)) :=
  Finset.sum_congr rfl fun x _ => (T_at p q b x j (by omega)).trans (by rw [show (⟨b.val + 1, by omega⟩ : Fin 16) = b' from Fin.ext hb])

/-- The second result: the columns summed over all rows, beside zeros. -/
theorem out3_left (p q : FVec Ideal S16x128x512 .f32) (j : Fin 512) :
    (out0_3 (F := Ideal) q p : S1x1024.Idx → EReal) (ix2 0 ⟨j.val, by omega⟩) = ∑ k : Fin 2048, T p q (ix3 ⟨k.val / 128, by omega⟩ ⟨k.val % 128, by omega⟩ j) := by
  rw [← Fin.sum_mul_add_congr (S := 16) (n := 128) (F := fun b x => T p q (ix3 b x j)) (fun b x _ => congrArg _
    (congrArg₂ (fun i k => ix3 i k j) (Fin.ext (by simp; omega)) (Fin.ext (by simp; omega)))), sum16,
    row p q 0 1 rfl, row p q 1 2 rfl, row p q 2 3 rfl, row p q 3 4 rfl, row p q 4 5 rfl, row p q 5 6 rfl, row p q 6 7 rfl, row p q 7 8 rfl, row p q 8 9 rfl, row p q 9 10 rfl, row p q 10 11 rfl, row p q 11 12 rfl, row p q 12 13 rfl, row p q 13 14 rfl, row p q 14 15 rfl,
    Finset.sum_congr rfl fun x _ => T_last p q x j]
  unfold out0_3
  frame_out
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]

theorem out3_right (p q : FVec Ideal S16x128x512 .f32) (j : Fin 512) :
    (out0_3 (F := Ideal) q p : S1x1024.Idx → EReal) (ix2 0 ⟨512 + j.val, by omega⟩) = 0 := by
  unfold out0_3
  frame_out
  pointwise [k0_pay3]

theorem out3 (p q : FVec Ideal S16x128x512 .f32) : out0_3 (F := Ideal) q p = DB p q := by
  funext y
  idx_vars y
  obtain rfl : y0 = 0 := Subsingleton.elim _ _
  by_cases h : y1.val < 512
  · exact (out3_left p q ⟨y1.val, h⟩).trans (DB_left p q ⟨y1.val, h⟩).symm
  · obtain ⟨j, hj⟩ : ∃ j : Fin 512, y1 = ⟨512 + j.val, by omega⟩ := ⟨⟨y1.val - 512, by omega⟩, Fin.ext (by simp; omega)⟩
    rw [hj]
    exact (out3_right p q j).trans (DB_right p q j).symm

/-- The two results after the run. -/
theorem final_dkv (c : Dev nD) : (dats m 0 c).arrAt 2 (cfgs 0).N = DKV (aPrev m c) (aCur m c) := by
  refine (dats m 0 c).arrAt_eq_of_covers 2 _ (by decide +kernel) fun t _ y => ?_
  blk_simp
  rw [after0_2, blk0, blk1, out2]
  idx_vars y
  blk_ext [idx t]

theorem final_db (c : Dev nD) : (dats m 0 c).arrAt 3 (cfgs 0).N = DB (aPrev m c) (aCur m c) := by
  refine (dats m 0 c).arrAt_eq_of_covers 3 _ (by decide +kernel) fun t _ y => ?_
  blk_simp
  rw [after0_3, blk0, blk1, out3]
  idx_vars y
  blk_ext [idx t]

end Cert.KvCombineIdeal.Grad

namespace Cert.Proof

theorem frame_KvCombine : Cert.quiescent_KvCombine := fun m ρ _ => Cert.KvCombine.Gen.frame m ρ
theorem frame_KvCombineIdeal : Cert.quiescent_KvCombineIdeal := fun m ρ _ => Cert.KvCombineIdeal.Gen.frame m ρ
/-- The reference's frame: its run leaves the arguments, and it declares no semaphore. -/
theorem frame_KvCombineRefIdeal : Cert.quiescent_KvCombineRefIdeal := fun m ρ _ =>
  (θ_run Cert.KvCombineRefIdeal.defs _ _).mono (fun r h => ⟨fun c => (h c).2.2,
      Idealize.ShloMosaic.sem_eq_zero_of_no_sems (by decide) r.2⟩) (Cert.KvCombineRefIdeal.Value.run (F := Ideal) m ρ)

open Cert.KvCombineIdeal.Grad in
/-- Kernel and reference end with the same two gradients. -/
theorem algebraic_KvCombine : Cert.algebraic_KvCombineIdeal_KvCombineRefIdeal := by
  intro m ρ m' ρ' _ hagree
  refine ⟨fun c => DKV (aPrev m c) (aCur m c), fun c => DB (aPrev m c) (aCur m c), ?_, ?_⟩
  · exact (θ_run Cert.KvCombineIdeal.defs _ _).mono (fun _ h c => ⟨(h c).1.trans (final_dkv m c), (h c).2.1.trans (final_db m c), (h c).2.2⟩)
      (Cert.KvCombineIdeal.Value.run_blocks (F := Ideal) m ρ)
  · refine (θ_run Cert.KvCombineRefIdeal.defs _ _).mono (fun _ h c => ⟨(h c).1.trans ?_, (h c).2.1.trans ?_, (h c).2.2⟩)
      (Cert.KvCombineRefIdeal.Value.run (F := Ideal) m' ρ')
    all_goals
      rw [(hagree c).1, (hagree c).2]
      rfl

end Cert.Proof

end
-- ==== Proof.Norm.lean ====
/- RMSNorm's gradient: what reverse mode gives for `x * rsqrt(mean(x * x) + eps)` is the kernels' closed form, on rows of real numbers. -/
module

public import Idealize.ShloMosaic.Lib.Pipeline.ValueKit
public import Idealize.ShloMosaic.Lib.Pointwise
public import proofs.«01_k».proof.Proof.Finite

@[expose] public section

set_option maxRecDepth 16384

noncomputable section

open Idealize.ShloMosaic Idealize.ShloMosaic.TcCoe

namespace Cert.Norm

open Cert.Finite

/-- The row length and the variance's offset, as printed. -/
abbrev cN : EReal := Ideal.ofBits .f32 0x44800000#32
abbrev cE : EReal := Ideal.ofBits .f32 0x3727C5AC#32
theorem cN_eq : cN = ((1024 : ℝ) : EReal) := by simp [cN, Ideal.ofBits, Ideal.ieee]; norm_cast; norm_num
theorem cE_eq : ∃ e : ℝ, 0 < e ∧ cE = (e : EReal) := by
  refine ⟨_, ?_, by simp [cE, Ideal.ofBits, Ideal.ieee]; rfl⟩
  positivity
theorem cH_eq : Ideal.ofBits .f32 0xBF000000#32 = ((-(1/2) : ℝ) : EReal) := by
  simp [Ideal.ofBits, Ideal.ieee]; norm_cast; norm_num

/-- A row's mean square plus the offset, its inverse square root, and the row's closed gradient for the scaled cotangent `d`. -/
def S (x : Fin 1024 → EReal) : EReal := Ideal.div (∑ k, x k * x k) cN + cE
def R (x : Fin 1024 → EReal) : EReal := Ideal.rsqrt (S x)
def rowK (x d : Fin 1024 → EReal) (j : Fin 1024) : EReal :=
  R x * (d j - x j * R x * Ideal.div (∑ k, d k * (x k * R x)) cN)

/-- What reverse mode sends back through the mean. -/
def C (x d : Fin 1024 → EReal) : EReal :=
  Ideal.div ((∑ k, x k * d k) * (Ideal.ofBits .f32 0xBF000000#32 * Ideal.div (R x) (S x))) cN

theorem S_coe (x : Fin 1024 → ℝ) : ∃ s : ℝ, 0 < s ∧ S (fun k => (x k : EReal)) = (s : EReal) := by
  obtain ⟨e, he, hE⟩ := cE_eq
  refine ⟨(∑ k, x k * x k) * (1 / 1024) + e, ?_, ?_⟩
  · have : 0 ≤ ∑ k, x k * x k := Finset.sum_nonneg fun k _ => mul_self_nonneg _
    positivity
  · unfold S
    rw [cN_eq, Ideal.div_coe (by norm_num), hE]
    simp only [← EReal.coe_mul, ← coe_sum, ← EReal.coe_add]

theorem R_coe (x : Fin 1024 → ℝ) : ∃ r s : ℝ, 0 < s ∧ r * r = 1 / s ∧ R (fun k => (x k : EReal)) = (r : EReal) ∧ S (fun k => (x k : EReal)) = (s : EReal) := by
  obtain ⟨s, hs, hS⟩ := S_coe x
  refine ⟨(Real.sqrt s)⁻¹, s, hs, ?_, ?_, hS⟩
  · rw [← mul_inv, Real.mul_self_sqrt hs.le, one_div]
  · unfold R
    rw [hS, Ideal.rsqrt_coe, if_neg (not_lt.mpr hs.le), if_neg hs.ne']

/-- The closed gradient is a real number. -/
theorem rowK_coe (x d : Fin 1024 → ℝ) (j : Fin 1024) : ∃ r : ℝ, rowK (fun k => (x k : EReal)) (fun k => (d k : EReal)) j = (r : EReal) := by
  obtain ⟨r, s, hs, hr, hR, hS⟩ := R_coe x
  refine ⟨r * (d j - x j * r * ((∑ k, d k * (x k * r)) * (1 / 1024))), ?_⟩
  unfold rowK
  rw [hR, cN_eq, Ideal.div_coe (by norm_num)]
  simp only [← EReal.coe_mul, ← coe_sum, ← EReal.coe_sub]

/-- Reverse mode's three terms add up to the closed gradient. -/
theorem row_eq (x d : Fin 1024 → ℝ) (j : Fin 1024) :
    (d j : EReal) * R (fun k => (x k : EReal)) + (x j * C (fun k => (x k : EReal)) (fun k => (d k : EReal))
        + C (fun k => (x k : EReal)) (fun k => (d k : EReal)) * x j)
      = rowK (fun k => (x k : EReal)) (fun k => (d k : EReal)) j := by
  obtain ⟨r, s, hs, hr, hR, hS⟩ := R_coe x
  unfold rowK C
  rw [hR, hS, cN_eq, cH_eq, Ideal.div_coe hs.ne', Ideal.div_coe (by norm_num), Ideal.div_coe (by norm_num)]
  simp only [← EReal.coe_mul, ← coe_sum, ← EReal.coe_sub, ← EReal.coe_add]
  congr 1
  have e : ∑ k, d k * (x k * r) = (∑ k, x k * d k) * r := by
    rw [Finset.sum_mul]; exact Finset.sum_congr rfl fun k _ => by ring
  rw [e, ← hr]
  ring

/-- The closed gradient is additive in the cotangent. -/
theorem rowK_add (x d d' : Fin 1024 → ℝ) (j : Fin 1024) :
    rowK (fun k => (x k : EReal)) (fun k => (d k : EReal) + (d' k : EReal)) j
      = rowK (fun k => (x k : EReal)) (fun k => (d k : EReal)) j + rowK (fun k => (x k : EReal)) (fun k => (d' k : EReal)) j := by
  obtain ⟨r, s, hs, hr, hR, hS⟩ := R_coe x
  unfold rowK
  simp only [hR, cN_eq, Ideal.div_coe (show (1024 : ℝ) ≠ 0 by norm_num)]
  simp only [← EReal.coe_mul, ← EReal.coe_add, ← coe_sum, ← EReal.coe_sub]
  congr 1
  have e : ∑ k, (d k + d' k) * (x k * r) = ∑ k, d k * (x k * r) + ∑ k, d' k * (x k * r) := by
    rw [← Finset.sum_add_distrib]; exact Finset.sum_congr rfl fun k _ => by ring
  rw [e]
  ring

/-- The shapes of the rows' arrays. -/
abbrev A2 : Shape := ⟨2, ![2048, 1024]⟩
abbrev A1 : Shape := ⟨2, ![2048, 1]⟩
abbrev A0 : Shape := ⟨1, ![2048]⟩
abbrev V1 : Shape := ⟨2, ![1, 1024]⟩
abbrev V0 : Shape := ⟨1, ![1024]⟩
abbrev E0 : Shape := ⟨0, ![]⟩

theorem b10 : A1.BroadcastsInDim A2 (![0, 1] : Fin 2 → Fin A2.rank) := by decide
theorem b01 : A0.BroadcastsInDim A1 (![0] : Fin 1 → Fin A1.rank) := by decide
theorem b02 : A0.BroadcastsInDim A2 (![0] : Fin 1 → Fin A2.rank) := by decide
theorem bE1 : E0.BroadcastsInDim A1 (![] : Fin 0 → Fin A1.rank) := by decide
theorem bV : V0.BroadcastsInDim V1 (![1] : Fin 1 → Fin V1.rank) := by decide
theorem bVA : V1.BroadcastsInDim A2 (![0, 1] : Fin 2 → Fin A2.rank) := by decide
theorem r21 : A2.ReducesTo [1] A0 := by decide
theorem r20 : A2.ReducesTo [0] V0 := by decide
theorem r11 : A1.ReducesTo [1] A0 := by decide
theorem rV : V1.ReducesTo [0] V0 := by decide
theorem sA : A0.ShapeCasts A1 := by decide
theorem sV : V0.ShapeCasts V1 := by decide
theorem hE : 0 < E0.numel := by decide

abbrev z : FVec Ideal E0 .f32 := constant E0 .f32 0x00000000#32
abbrev col (w : BitVec 32) : FVec Ideal A1 .f32 := broadcastInDim A1 ![] bE1 (constant E0 .f32 w)

/-- The rows' mean squares plus the offset and their inverse square roots, as the reference spells them. -/
def ms (x : FVec Ideal A2 .f32) : FVec Ideal A1 .f32 :=
  addf (Host.divf (broadcastInDim A1 ![0] b01 (Host.reduceAdd (mulf x x) z r21 hE)) (col 0x44800000#32)) (col 0x3727C5AC#32)
def inv (x : FVec Ideal A2 .f32) : FVec Ideal A1 .f32 := Host.rsqrt (ms x)
/-- The normalised rows, a vector on every row, and what reverse mode sends through the mean. -/
def hat (x : FVec Ideal A2 .f32) : FVec Ideal A2 .f32 := mulf x (broadcastInDim A2 ![0, 1] b10 (inv x))
abbrev rowvec (g : FVec Ideal V0 .f32) : FVec Ideal A2 .f32 := broadcastInDim A2 ![0, 1] bVA (broadcastInDim V1 ![1] bV g)
def coef (x d : FVec Ideal A2 .f32) : FVec Ideal A0 .f32 :=
  Host.reduceAdd (Host.divf (mulf (shapeCast A1 (Host.reduceAdd (mulf x d) z r21 hE) sA) (mulf (col 0xBF000000#32) (Host.divf (inv x) (ms x))))
    (col 0x44800000#32)) z r11 hE
/-- The sum of an array's columns, as one row. -/
def colsum (x : FVec Ideal A2 .f32) : FVec Ideal V1 .f32 :=
  shapeCast V1 (Host.reduceAdd (shapeCast V1 (Host.reduceAdd x z r20 hE) sV) z rV hE) sV

/-- The same arrays at an index. -/
theorem ms_at (x : FVec Ideal A2 .f32) (i : Fin 2048) : ms x (ix2 i 0) = S fun k => x (ix2 i k) := by
  pointwise [ms, S]
theorem inv_at (x : FVec Ideal A2 .f32) (i : Fin 2048) : inv x (ix2 i 0) = R fun k => x (ix2 i k) := by
  rw [R, ← ms_at]; pointwise [inv]
theorem hat_at (x : FVec Ideal A2 .f32) (i : Fin 2048) (j : Fin 1024) : hat x (ix2 i j) = x (ix2 i j) * R fun k => x (ix2 i k) := by
  rw [← inv_at]; pointwise [hat]
theorem coef_at (x d : FVec Ideal A2 .f32) (i : Fin 2048) : coef x d (ix1 i) = C (fun k => x (ix2 i k)) (fun k => d (ix2 i k)) := by
  unfold C
  rw [← ms_at, ← inv_at]; pointwise [coef]
  exact Fin.sum_univ_one _
theorem colsum_at (x : FVec Ideal A2 .f32) (j : Fin 1024) : colsum x (ix2 0 j) = ∑ k : Fin 2048, x (ix2 k j) := by
  pointwise [colsum]
  exact Fin.sum_univ_one _

/-- Reverse mode's gradient of the rows, its three terms added to what has come back by other paths. -/
def back (h x d : FVec Ideal A2 .f32) : FVec Ideal A2 .f32 :=
  addf (addf (addf h (mulf d (broadcastInDim A2 ![0, 1] b10 (inv x)))) (mulf x (broadcastInDim A2 ![0] b02 (coef x d))))
    (mulf (broadcastInDim A2 ![0] b02 (coef x d)) x)

/-- On real rows it is the closed gradient, added to the rest. -/
theorem back_at (h x d : FVec Ideal A2 .f32) (hx : IsReal (x : A2.Idx → EReal)) (hd : IsReal (d : A2.Idx → EReal)) (i : Fin 2048) (j : Fin 1024) :
    back h x d (ix2 i j) = h (ix2 i j) + rowK (fun k => x (ix2 i k)) (fun k => d (ix2 i k)) j := by
  have e : back h x d (ix2 i j) = h (ix2 i j) + d (ix2 i j) * inv x (ix2 i 0) + x (ix2 i j) * coef x d (ix1 i) + coef x d (ix1 i) * x (ix2 i j) := by
    pointwise [back]
  rw [e, inv_at, coef_at]
  obtain ⟨x', rfl⟩ := hx
  obtain ⟨d', rfl⟩ := hd
  rw [← row_eq (fun k => x' (ix2 i k)) (fun k => d' (ix2 i k)) j, add_assoc, add_assoc]

/-- The same with nothing to add to. -/
def back0 (x d : FVec Ideal A2 .f32) : FVec Ideal A2 .f32 :=
  addf (addf (mulf d (broadcastInDim A2 ![0, 1] b10 (inv x))) (mulf x (broadcastInDim A2 ![0] b02 (coef x d))))
    (mulf (broadcastInDim A2 ![0] b02 (coef x d)) x)

theorem back0_at (x d : FVec Ideal A2 .f32) (hx : IsReal (x : A2.Idx → EReal)) (hd : IsReal (d : A2.Idx → EReal)) (i : Fin 2048) (j : Fin 1024) :
    back0 x d (ix2 i j) = rowK (fun k => x (ix2 i k)) (fun k => d (ix2 i k)) j := by
  have e : back0 x d (ix2 i j) = d (ix2 i j) * inv x (ix2 i 0) + x (ix2 i j) * coef x d (ix1 i) + coef x d (ix1 i) * x (ix2 i j) := by
    pointwise [back0]
  rw [e, inv_at, coef_at]
  obtain ⟨x', rfl⟩ := hx
  obtain ⟨d', rfl⟩ := hd
  rw [← row_eq (fun k => x' (ix2 i k)) (fun k => d' (ix2 i k)) j, add_assoc]

/-- Normalised rows of real numbers are real. -/
theorem hat_real (x : FVec Ideal A2 .f32) (hx : IsReal (x : A2.Idx → EReal)) : IsReal (hat x : A2.Idx → EReal) := by
  obtain ⟨x', rfl⟩ := hx
  refine isReal_of_ne fun i => ?_
  idx_vars i
  obtain ⟨r, s, hs, hr, hR, hS⟩ := R_coe fun k => x' (ix2 i0 k)
  rw [hat_at, hR, ← EReal.coe_mul]
  exact ⟨EReal.coe_ne_top _, EReal.coe_ne_bot _⟩

end Cert.Norm

end
-- ==== Proof.MlpDn.lean ====
/- The product with `w_in` and RMSNorm's gradient: `mlp_dn`'s four results are the reference's. -/
module

public import proofs.«01_k».proof.Defs
public import proofs.«01_k».proof.Proof.Gen.MlpDn.Frame
public import proofs.«01_k».proof.Proof.Gen.MlpDnIdeal.Value
public import proofs.«01_k».proof.Proof.Gen.MlpDnRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MlpDnIdeal.Grad

open Cert.MlpDnIdeal Cert.MlpDnIdeal.Gen Cert.Finite Cert.Norm

variable (m : (ℓ : Loc nD τ sig) → Buf (Elt Ideal) ℓ)

/-- The six argument arrays of device `c`: the residual rows, the bias added to them, the gain, the product's matrix, and the two cotangents. -/
abbrev aH (c : Dev nD) : FVec Ideal S2048x1024 .f32 := m ((c : Thread nD τ).loc main_arg0)
abbrev aB (c : Dev nD) : FVec Ideal S1024 .f32 := m ((c : Thread nD τ).loc main_arg1)
abbrev aG (c : Dev nD) : FVec Ideal S1024 .f32 := m ((c : Thread nD τ).loc main_arg2)
abbrev aW (c : Dev nD) : FVec Ideal S1024x4096 .f32 := m ((c : Thread nD τ).loc main_arg3)
abbrev aA (c : Dev nD) : FVec Ideal S2048x4096 .f32 := m ((c : Thread nD τ).loc main_arg4)
abbrev aD (c : Dev nD) : FVec Ideal S2048x1024 .f32 := m ((c : Thread nD τ).loc main_arg5)

/-- The normalised rows' input, the product's cotangent, and the same scaled by the gain. -/
def X (h : FVec Ideal S2048x1024 .f32) (b : FVec Ideal S1024 .f32) : FVec Ideal S2048x1024 .f32 := addf h (rowvec b)
def D (w : FVec Ideal S1024x4096 .f32) (a : FVec Ideal S2048x4096 .f32) : FVec Ideal S2048x1024 .f32 :=
  Host.dotGeneral Cert.MlpDnRefIdeal.dot_S2048x4096_S1024x4096_S2048x1024_1_1_0_0_n_n none a w
def DG (w : FVec Ideal S1024x4096 .f32) (a : FVec Ideal S2048x4096 .f32) (g : FVec Ideal S1024 .f32) : FVec Ideal S2048x1024 .f32 := mulf (D w a) (rowvec g)

/-- The reference's results: the rows' gradient, its column sums, and the gain's gradient. -/
abbrev DX (c : Dev nD) : FVec Ideal S2048x1024 .f32 := back (aD m c) (X (aH m c) (aB m c)) (DG (aW m c) (aA m c) (aG m c))
abbrev DGain (c : Dev nD) : FVec Ideal S2048x1024 .f32 := mulf (hat (X (aH m c) (aB m c))) (D (aW m c) (aA m c))

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- What the region finds in the arrays it reads. -/
theorem V_a (c : Dev nD) : V m c main_v0 = aA m c := by unfold V; after_results; rfl
theorem V_w (c : Dev nD) : V m c main_v1 = aW m c := by unfold V; after_results; rfl
theorem V_x (c : Dev nD) : V m c main_v4 = X (aH m c) (aB m c) := by unfold V; after_results; rfl
theorem V_d (c : Dev nD) : V m c main_arg5 = aD m c := by unfold V; after_results
theorem V_g (c : Dev nD) (k : Fin 1024) : (V m c main_v5 : S1x1024.Idx → EReal) (ix2 0 k) = aG m c (ix1 k) := by
  have e : V m c main_v5 = shapeCast S1x1024 (aG m c) shapeCasts_S1024_S1x1024 := by unfold V; after_results; rfl
  rw [e]; pointwise

/-- The blocks at point `t`, read at an index. -/
theorem blk0 (c : Dev nD) (t : Fin cfg0.N) (i : Fin 512) (k : Fin 4096) (h : t.val * 512 + i.val < 2048) :
    iblk m c 0 t (ix2 i k) = aA m c (ix2 ⟨t.val * 512 + i.val, h⟩ k) := by
  refine Eq.trans (b := V m c main_v0 (((cfg0.win 0).blk t).view.emb (ix2 i k))) rfl ?_
  rw [V_a]
  blk_ext [idx t]
theorem blk1 (c : Dev nD) (t : Fin cfg0.N) (i : Fin 1024) (k : Fin 4096) : iblk m c 1 t (ix2 i k) = aW m c (ix2 i k) := by
  refine Eq.trans (b := V m c main_v1 (((cfg0.win 1).blk t).view.emb (ix2 i k))) rfl ?_
  rw [V_w]
  blk_ext [idx t]
theorem blk2 (c : Dev nD) (t : Fin cfg0.N) (i : Fin 512) (k : Fin 1024) (h : t.val * 512 + i.val < 2048) :
    iblk m c 2 t (ix2 i k) = X (aH m c) (aB m c) (ix2 ⟨t.val * 512 + i.val, h⟩ k) := by
  refine Eq.trans (b := V m c main_v4 (((cfg0.win 2).blk t).view.emb (ix2 i k))) rfl ?_
  rw [V_x]
  blk_ext [idx t]
theorem blk3 (c : Dev nD) (t : Fin cfg0.N) (i : Fin 512) (k : Fin 1024) (h : t.val * 512 + i.val < 2048) :
    iblk m c 3 t (ix2 i k) = aD m c (ix2 ⟨t.val * 512 + i.val, h⟩ k) := by
  refine Eq.trans (b := V m c main_arg5 (((cfg0.win 3).blk t).view.emb (ix2 i k))) rfl ?_
  rw [V_d]
  blk_ext [idx t]
theorem blk4 (c : Dev nD) (t : Fin cfg0.N) (k : Fin 1024) : iblk m c 4 t (ix2 0 k) = aG m c (ix1 k) := by
  refine Eq.trans (b := (V m c main_v5 : S1x1024.Idx → EReal) (((cfg0.win 4).blk t).view.emb (ix2 0 k))) rfl ?_
  rw [show ((cfg0.win 4).blk t).view.emb (ix2 0 k) = (ix2 0 k : S1x1024.Idx) from by blk_ext [idx t], V_g]

/-- The body's named values at an index. -/
theorem pay6_at (v0 : FVec Ideal S512x4096 .bf16) (v2 : FVec Ideal S1024x4096 .bf16) (i : Fin 512) (j : Fin 1024) :
    (k0_pay6 (F := Ideal) v0 v2 : S512x1024.Idx → EReal) (ix2 i j) = ∑ k : Fin 4096, (v0 : S512x4096.Idx → EReal) (ix2 i k) * (v2 : S1024x4096.Idx → EReal) (ix2 j k) := by
  pointwise [k0_pay6]
theorem pay8_at (v5 : FVec Ideal S512x1024 .f32) (i : Fin 512) : (k0_pay8 (F := Ideal) v5 : S512x1.Idx → EReal) (ix2 i 0) = R fun k => v5 (ix2 i k) := by
  pointwise [k0_pay8, k0_pay7, R, S]
theorem pay9_at (v5 : FVec Ideal S512x1024 .f32) (i : Fin 512) (j : Fin 1024) :
    (k0_pay9 (F := Ideal) v5 : S512x1024.Idx → EReal) (ix2 i j) = v5 (ix2 i j) * R fun k => v5 (ix2 i k) := by
  rw [← pay8_at]; pointwise [k0_pay9, k0_pay7]
theorem pay10_at (v0 : FVec Ideal S512x4096 .bf16) (v2 : FVec Ideal S1024x4096 .bf16) (v5 v7 : FVec Ideal S512x1024 .f32) (v8 : FVec Ideal S1x1024 .f32)
    (i : Fin 512) (j : Fin 1024) :
    (k0_pay10 (F := Ideal) v0 v2 v5 v7 v8 : S512x1024.Idx → EReal) (ix2 i j) = rowK (fun k => v5 (ix2 i k)) (fun k => (k0_pay6 (F := Ideal) v0 v2 : S512x1024.Idx → EReal) (ix2 i k) * v8 (ix2 0 k)) j + v7 (ix2 i j) := by
  unfold rowK
  pointwise [k0_pay10, pay8_at, pay9_at]
theorem pay11_at (v0 : FVec Ideal S512x4096 .bf16) (v2 : FVec Ideal S1024x4096 .bf16) (v5 : FVec Ideal S512x1024 .f32) (j : Fin 1024) :
    (k0_pay11 (F := Ideal) v0 v2 v5 : S1x1024.Idx → EReal) (ix2 0 j) = ∑ k : Fin 512, (k0_pay6 (F := Ideal) v0 v2 : S512x1024.Idx → EReal) (ix2 k j) * (v5 (ix2 k j) * R fun l => v5 (ix2 k l)) := by
  pointwise [k0_pay11, pay9_at]
theorem pay4_at (v0 : FVec Ideal S512x4096 .bf16) (v2 : FVec Ideal S1024x4096 .bf16) (v5 v7 : FVec Ideal S512x1024 .f32) (v8 a : FVec Ideal S1x1024 .f32)
    (j : Fin 1024) :
    k0_pay4 (k0_pay12 v0 v2 v5 v7 v8) a (ix2 0 j) = a (ix2 0 j) + ∑ k : Fin 512, (k0_pay10 (F := Ideal) v0 v2 v5 v7 v8 : S512x1024.Idx → EReal) (ix2 k j) := by
  pointwise [k0_pay4, k0_pay12]
theorem pay5_at (v a : FVec Ideal S1x1024 .f32) (j : Fin 1024) : k0_pay5 v a (ix2 0 j) = a (ix2 0 j) + v (ix2 0 j) := by
  pointwise [k0_pay5]

/-- The scaled cotangent, and the rows, are real. -/
theorem D_at (w : FVec Ideal S1024x4096 .f32) (a : FVec Ideal S2048x4096 .f32) (i : Fin 2048) (j : Fin 1024) :
    D w a (ix2 i j) = ∑ k : Fin 4096, a (ix2 i k) * w (ix2 j k) := by
  pointwise [D]
theorem DG_at (w : FVec Ideal S1024x4096 .f32) (a : FVec Ideal S2048x4096 .f32) (g : FVec Ideal S1024 .f32) (i : Fin 2048) (j : Fin 1024) :
    DG w a g (ix2 i j) = D w a (ix2 i j) * g (ix1 j) := by
  pointwise [DG]
theorem X_real (h : FVec Ideal S2048x1024 .f32) (b : FVec Ideal S1024 .f32) (hh : IsReal (h : S2048x1024.Idx → EReal)) (hb : IsReal (b : S1024.Idx → EReal)) :
    IsReal (X h b : S2048x1024.Idx → EReal) := by
  obtain ⟨h', rfl⟩ := hh
  obtain ⟨b', rfl⟩ := hb
  refine ⟨fun i => h' i + b' (ix1 (i 1)), funext fun i => ?_⟩
  idx_vars i
  pointwise [X]
  rw [EReal.coe_add]
theorem DG_real (w : FVec Ideal S1024x4096 .f32) (a : FVec Ideal S2048x4096 .f32) (g : FVec Ideal S1024 .f32) (hw : IsReal (w : S1024x4096.Idx → EReal))
    (ha : IsReal (a : S2048x4096.Idx → EReal)) (hg : IsReal (g : S1024.Idx → EReal)) : IsReal (DG w a g : S2048x1024.Idx → EReal) := by
  obtain ⟨w', rfl⟩ := hw
  obtain ⟨a', rfl⟩ := ha
  obtain ⟨g', rfl⟩ := hg
  refine ⟨fun i => (∑ k : Fin 4096, a' (ix2 (i 0) k) * w' (ix2 (i 1) k)) * g' (ix1 (i 1)), funext fun i => ?_⟩
  idx_vars i
  rw [DG_at, D_at, EReal.coe_mul, coe_sum]
  simp only [EReal.coe_mul]

/-- The product of the blocks at point `t` is the reference's product. -/
theorem acc_at (c : Dev nD) (t : Fin cfg0.N) (i : Fin 512) (j : Fin 1024) (h : t.val * 512 + i.val < 2048) :
    (k0_pay6 (F := Ideal) (iblk m c 0 t) (iblk m c 1 t) : S512x1024.Idx → EReal) (ix2 i j) = D (aW m c) (aA m c) (ix2 ⟨t.val * 512 + i.val, h⟩ j) := by
  rw [pay6_at, D_at]
  exact Finset.sum_congr rfl fun k _ => congrArg₂ _ (blk0 m c t i k h) (blk1 m c t j k)

/-- What holds of device `c`'s arguments. -/
def Finite (c : Dev nD) : Prop := IsReal (aH m c : S2048x1024.Idx → EReal) ∧ IsReal (aB m c : S1024.Idx → EReal) ∧ IsReal (aG m c : S1024.Idx → EReal)
  ∧ IsReal (aW m c : S1024x4096.Idx → EReal) ∧ IsReal (aA m c : S2048x4096.Idx → EReal)

/-- The body's rows at point `t` are the reference's. -/
theorem dx_at (c : Dev nD) (hr : Finite m c) (t : Fin cfg0.N) (i : Fin 512) (j : Fin 1024) (h : t.val * 512 + i.val < 2048) :
    (k0_pay10 (F := Ideal) (iblk m c 0 t) (iblk m c 1 t) (iblk m c 2 t) (iblk m c 3 t) (iblk m c 4 t) : S512x1024.Idx → EReal) (ix2 i j) = DX m c (ix2 ⟨t.val * 512 + i.val, h⟩ j) := by
  rw [pay10_at, DX, back_at _ _ _ (X_real _ _ hr.1 hr.2.1) (DG_real _ _ _ hr.2.2.2.1 hr.2.2.2.2 hr.2.2.1), blk3 m c t i j h, add_comm]
  congr 3 <;> funext k
  · exact blk2 m c t i k h
  · rw [acc_at m c t i k h, blk4, DG_at]

/-- The gain's gradient, row by row. -/
theorem gain_at (c : Dev nD) (t : Fin cfg0.N) (i : Fin 512) (j : Fin 1024) (h : t.val * 512 + i.val < 2048) (x : S512x1024.Idx → EReal)
    (hx : ∀ k, x (ix2 i k) = X (aH m c) (aB m c) (ix2 ⟨t.val * 512 + i.val, h⟩ k)) :
    (k0_pay6 (F := Ideal) (iblk m c 0 t) (iblk m c 1 t) : S512x1024.Idx → EReal) (ix2 i j) * (x (ix2 i j) * R fun l => x (ix2 i l))
      = DGain m c (ix2 ⟨t.val * 512 + i.val, h⟩ j) := by
  have e : DGain m c (ix2 ⟨t.val * 512 + i.val, h⟩ j) = hat (X (aH m c) (aB m c)) (ix2 ⟨t.val * 512 + i.val, h⟩ j) * D (aW m c) (aA m c) (ix2 ⟨t.val * 512 + i.val, h⟩ j) := rfl
  rw [e, acc_at m c t i j h, hat_at, mul_comm]
  simp only [hx]

/-- The first two results after the run: the rows' gradient, and the same rounded. -/
theorem final_dx (c : Dev nD) (hr : Finite m c) : (dats m 0 c).arrAt 5 (cfgs 0).N = DX m c := by
  refine (dats m 0 c).arrAt_eq_of_covers 5 _ (by decide +kernel) fun t _ y => ?_
  blk_simp
  idx_vars y
  have ht : t.val < 4 := lt_of_lt_of_eq t.isLt N_0
  have h : t.val * 512 + y0.val < 2048 := by omega
  rw [after0_5, show ((cfg0.win 5).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

theorem final_dxb (c : Dev nD) (hr : Finite m c) : (dats m 0 c).arrAt 6 (cfgs 0).N = truncf .bf16 (DX m c) Cert.MlpDnRefIdeal.Gen.bitsLt_bf16_f32 := by
  refine (dats m 0 c).arrAt_eq_of_covers 6 _ (by decide +kernel) fun t _ y => ?_
  blk_simp
  idx_vars y
  have ht : t.val < 4 := lt_of_lt_of_eq t.isLt N_0
  have h : t.val * 512 + y0.val < 2048 := by omega
  rw [after0_6, show ((cfg0.win 6).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

/-- A column of an array, summed over the rows of point `p`'s block. -/
def part (G : FVec Ideal S2048x1024 .f32) (p : Fin cfg0.N) (j : S1x1024.Idx) : EReal :=
  ∑ k : Fin 512, G (ix2 ⟨p.val * 512 + k.val, by have : p.val < 4 := lt_of_lt_of_eq p.isLt N_0; omega⟩ (j 1))

/-- One point's addition to the two rows of sums. -/
theorem add7 (c : Dev nD) (hr : Finite m c) (t : Fin cfg0.N) (a : FVec Ideal S1x1024 .f32) (j : S1x1024.Idx) :
    (k0_pay4 (k0_pay12 (iblk m c 0 t) (iblk m c 1 t) (iblk m c 2 t) (iblk m c 3 t) (iblk m c 4 t)) a : S1x1024.Idx → EReal) j
      = a j + part (DX m c) t j := by
  have ht : t.val < 4 := lt_of_lt_of_eq t.isLt N_0
  idx_vars j
  obtain rfl : j0 = 0 := Subsingleton.elim _ _
  exact (pay4_at _ _ _ _ _ _ _).trans (congrArg₂ _ rfl (Finset.sum_congr rfl fun k _ => dx_at m c hr t k j1 (by omega)))
theorem add8 (c : Dev nD) (t : Fin cfg0.N) (a : FVec Ideal S1x1024 .f32) (j : S1x1024.Idx) :
    (k0_pay5 (k0_pay11 (iblk m c 0 t) (iblk m c 1 t) (iblk m c 2 t)) a : S1x1024.Idx → EReal) j = a j + part (DGain m c) t j := by
  have ht : t.val < 4 := lt_of_lt_of_eq t.isLt N_0
  idx_vars j
  obtain rfl : j0 = 0 := Subsingleton.elim _ _
  exact (pay5_at _ _ _).trans (congrArg₂ _ rfl ((pay11_at _ _ _ _).trans (Finset.sum_congr rfl fun k _ => gain_at m c t k j1 (by omega) _ fun l => blk2 m c t k l _)))

/-- At the first point each row of sums holds that point's part; at every later one the part is added. -/
theorem reset7 (c : Dev nD) (hr : Finite m c) (t : Fin cfg0.N) (h : t.val % 4 = 0) (j : S1x1024.Idx) :
    ((outsAt0 m c t.val t.isLt).2.2.1 : S1x1024.Idx → EReal) j = 0 + part (DX m c) t j := by
  rw [outsAt0_A m c t h]; frame_out
  exact (add7 m c hr t _ j).trans (congrArg₂ _ (by pointwise [k0_pay2]) rfl)
theorem step7 (c : Dev nD) (hr : Finite m c) (t : Fin cfg0.N) (h : ¬t.val % 4 = 0) (j : S1x1024.Idx) :
    ((outsAt0 m c t.val t.isLt).2.2.1 : S1x1024.Idx → EReal) j
      = (outsAt0 m c (t.val - 1) (Nat.lt_of_le_of_lt (Nat.sub_le _ _) t.isLt)).2.2.1 j + part (DX m c) t j := by
  rw [outsAt0_B m c t h]; frame_out
  exact add7 m c hr t _ j
theorem reset8 (c : Dev nD) (t : Fin cfg0.N) (h : t.val % 4 = 0) (j : S1x1024.Idx) :
    ((outsAt0 m c t.val t.isLt).2.2.2 : S1x1024.Idx → EReal) j = 0 + part (DGain m c) t j := by
  rw [outsAt0_A m c t h]; frame_out
  exact (add8 m c t _ j).trans (congrArg₂ _ (by pointwise [k0_pay3]) rfl)
theorem step8 (c : Dev nD) (t : Fin cfg0.N) (h : ¬t.val % 4 = 0) (j : S1x1024.Idx) :
    ((outsAt0 m c t.val t.isLt).2.2.2 : S1x1024.Idx → EReal) j
      = (outsAt0 m c (t.val - 1) (Nat.lt_of_le_of_lt (Nat.sub_le _ _) t.isLt)).2.2.2 j + part (DGain m c) t j := by
  rw [outsAt0_B m c t h]; frame_out
  exact add8 m c t _ j

/-- The last two results after the run. -/
theorem final_colsum (c : Dev nD) (hr : Finite m c) : (dats m 0 c).arrAt 7 (cfgs 0).N = colsum (DX m c) := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => 0) (fun p j => part (DX m c) p j)
    (fun t h j => reset7 m c hr t h j) (fun t h j => step7 m c hr t h j) (le_of_eq N_0) t0_3 rfl j, zero_add]
  idx_vars j
  obtain rfl : j0 = 0 := Subsingleton.elim _ _
  rw [colsum_at]
  exact Fin.sum_mul_add_congr fun s k hl => rfl

theorem final_dg (c : Dev nD) : (dats m 0 c).arrAt 8 (cfgs 0).N = colsum (DGain m c) := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => 0) (fun p j => part (DGain m c) p j)
    (fun t h j => reset8 m c t h j) (fun t h j => step8 m c t h j) (le_of_eq N_0) t0_3 rfl j, zero_add]
  idx_vars j
  obtain rfl : j0 = 0 := Subsingleton.elim _ _
  rw [colsum_at]
  exact Fin.sum_mul_add_congr fun s k hl => rfl

end Cert.MlpDnIdeal.Grad

namespace Cert.Proof

/-- The precondition's side conditions on shapes. -/
instance facts_finite_mlpdn : Cert.Pre_finite_mlpdn.Facts where
  bcast_S_S2048x1024 := by decide
  reducesTo_S2048x1024_S_d0_1 := by decide
  h_S_ := by decide
  bcast_S_S1024 := by decide
  reducesTo_S1024_S_d0 := by decide
  bcast_S_S1024x4096 := by decide
  reducesTo_S1024x4096_S_d0_1 := by decide
  bcast_S_S2048x4096 := by decide
  reducesTo_S2048x4096_S_d0_1 := by decide

theorem frame_MlpDn : Cert.quiescent_MlpDn := fun m ρ _ => Cert.MlpDn.Gen.frame m ρ
theorem frame_MlpDnIdeal : Cert.quiescent_MlpDnIdeal := fun m ρ _ => Cert.MlpDnIdeal.Gen.frame m ρ
/-- The reference's frame: its run leaves the arguments, and it declares no semaphore. -/
theorem frame_MlpDnRefIdeal : Cert.quiescent_MlpDnRefIdeal := fun m ρ _ =>
  (θ_run Cert.MlpDnRefIdeal.defs _ _).mono (fun r h => ⟨fun c => (h c).2.2.2.2,
      Idealize.ShloMosaic.sem_eq_zero_of_no_sems (by decide) r.2⟩) (Cert.MlpDnRefIdeal.Value.run (F := Ideal) m ρ)

/-- What the precondition says: the five arrays are real. -/
theorem finite_mlpdn_real (m : (ℓ : Loc Cert.MlpDnIdeal.nD Cert.MlpDnIdeal.τ Cert.MlpDnIdeal.sig) → Buf (Elt Ideal) ℓ)
    (h : Cert.Pre_MlpDnIdeal_finite_mlpdn m) (c : Dev Cert.MlpDnIdeal.nD) : Cert.MlpDnIdeal.Grad.Finite m c := by
  have e := congrFun (h c) (fun a => a.elim0)
  obtain ⟨e, e5⟩ := Cert.Finite.andi_eq_one e
  obtain ⟨e, e4⟩ := Cert.Finite.andi_eq_one e
  obtain ⟨e, e3⟩ := Cert.Finite.andi_eq_one e
  obtain ⟨e1, e2⟩ := Cert.Finite.andi_eq_one e
  exact ⟨Cert.Finite.isReal_of_all _ _ _ _ _ _ _ e1, Cert.Finite.isReal_of_all _ _ _ _ _ _ _ e2, Cert.Finite.isReal_of_all _ _ _ _ _ _ _ e3,
    Cert.Finite.isReal_of_all _ _ _ _ _ _ _ e4, Cert.Finite.isReal_of_all _ _ _ _ _ _ _ e5⟩

open Cert.MlpDnIdeal.Grad in
/-- Kernel and reference end with the same four results. -/
theorem algebraic_MlpDn : Cert.algebraic_MlpDnIdeal_MlpDnRefIdeal_pre_finite_mlpdn := by
  intro m ρ m' ρ' hpre hagree
  refine ⟨fun c => DX m c, fun c => truncf .bf16 (DX m c) Cert.MlpDnRefIdeal.Gen.bitsLt_bf16_f32, fun c => Cert.Norm.colsum (DX m c), fun c => Cert.Norm.colsum (DGain m c), ?_, ?_⟩
  · refine (θ_run Cert.MlpDnIdeal.defs _ _).mono (fun _ h c => ?_) (Cert.MlpDnIdeal.Value.run_blocks (F := Ideal) m ρ)
    have hr := finite_mlpdn_real m hpre c
    exact ⟨(h c).1.trans (final_dx m c hr), (h c).2.1.trans (final_dxb m c hr), (h c).2.2.1.trans (final_colsum m c hr), (h c).2.2.2.1.trans (final_dg m c), (h c).2.2.2.2⟩
  · refine (θ_run Cert.MlpDnRefIdeal.defs _ _).mono (fun _ h c => ⟨(h c).1.trans ?_, (h c).2.1.trans ?_, (h c).2.2.1.trans ?_, (h c).2.2.2.1.trans ?_, (h c).2.2.2.2⟩)
      (Cert.MlpDnRefIdeal.Value.run (F := Ideal) m' ρ')
    all_goals
      obtain ⟨h0, h1, h2, h3, h4, h5⟩ := hagree c
      simp only [Cert.MlpDnRefIdeal.Value.res_main_v41, Cert.MlpDnRefIdeal.Value.res_main_v45, Cert.MlpDnRefIdeal.Value.res_main_v46]
      rw [h0, h1, h3, h4]
      try rw [h2, h5]
      rfl

end Cert.Proof

end
-- ==== Proof.AttnDn.lean ====
/- The product with `w_q` and RMSNorm's gradient for two gains: `attn_dn`'s four results are the reference's. -/
module

public import proofs.«01_k».proof.Defs
public import proofs.«01_k».proof.Proof.Gen.AttnDn.Frame
public import proofs.«01_k».proof.Proof.Gen.AttnDnIdeal.Value
public import proofs.«01_k».proof.Proof.Gen.AttnDnRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.AttnDnIdeal.Grad

open Cert.AttnDnIdeal Cert.AttnDnIdeal.Gen Cert.Finite Cert.Norm

variable (m : (ℓ : Loc nD τ sig) → Buf (Elt Ideal) ℓ)

/-- The eight argument arrays of device `c`: the residual rows, the two gains, the two matrices, and the three cotangents. -/
abbrev aH (c : Dev nD) : FVec Ideal S2048x1024 .f32 := m ((c : Thread nD τ).loc main_arg0)
abbrev aM (c : Dev nD) : FVec Ideal S1024 .f32 := m ((c : Thread nD τ).loc main_arg1)
abbrev aK (c : Dev nD) : FVec Ideal S1024 .f32 := m ((c : Thread nD τ).loc main_arg2)
abbrev aWq (c : Dev nD) : FVec Ideal S1024x1024 .f32 := m ((c : Thread nD τ).loc main_arg3)
abbrev aWk (c : Dev nD) : FVec Ideal S1024x512 .f32 := m ((c : Thread nD τ).loc main_arg4)
abbrev aQ (c : Dev nD) : FVec Ideal S2048x1024 .f32 := m ((c : Thread nD τ).loc main_arg5)
abbrev aV (c : Dev nD) : FVec Ideal S2048x512 .f32 := m ((c : Thread nD τ).loc main_arg6)
abbrev aD (c : Dev nD) : FVec Ideal S2048x1024 .f32 := m ((c : Thread nD τ).loc main_arg7)

/-- The two products' cotangents, and each scaled by its gain. -/
def DQ (w : FVec Ideal S1024x1024 .f32) (a : FVec Ideal S2048x1024 .f32) : FVec Ideal S2048x1024 .f32 :=
  Host.dotGeneral Cert.AttnDnRefIdeal.dot_S2048x1024_S1024x1024_S2048x1024_1_1_0_0_n_n none a w
def DK (w : FVec Ideal S1024x512 .f32) (a : FVec Ideal S2048x512 .f32) : FVec Ideal S2048x1024 .f32 :=
  Host.dotGeneral Cert.AttnDnRefIdeal.dot_S2048x512_S1024x512_S2048x1024_1_1_0_0_n_n none a w
def scaled (d : FVec Ideal S2048x1024 .f32) (g : FVec Ideal S1024 .f32) : FVec Ideal S2048x1024 .f32 := mulf d (rowvec g)

/-- The reference's results: the rows' gradient, and each gain's before its rows are added. -/
abbrev DX (c : Dev nD) : FVec Ideal S2048x1024 .f32 :=
  back (back (aD m c) (aH m c) (scaled (DK (aWk m c) (aV m c)) (aK m c))) (aH m c) (scaled (DQ (aWq m c) (aQ m c)) (aM m c))
abbrev DMix (c : Dev nD) : FVec Ideal S2048x1024 .f32 := mulf (hat (aH m c)) (DQ (aWq m c) (aQ m c))
abbrev DKv (c : Dev nD) : FVec Ideal S2048x1024 .f32 := mulf (hat (aH m c)) (DK (aWk m c) (aV m c))

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- What the region finds in the arrays it reads. -/
theorem V_q (c : Dev nD) : V m c main_v1 = aQ m c := by unfold V; after_results; rfl
theorem V_w (c : Dev nD) : V m c main_v2 = aWq m c := by unfold V; after_results; rfl
theorem V_h (c : Dev nD) : V m c main_arg0 = aH m c := by unfold V; after_results
theorem V_d (c : Dev nD) : V m c main_arg7 = aD m c := by unfold V; after_results
theorem V_k (c : Dev nD) : V m c main_v0 = DK (aWk m c) (aV m c) := by unfold V; after_results; rfl
theorem V_gm (c : Dev nD) (k : Fin 1024) : (V m c main_v3 : S1x1024.Idx → EReal) (ix2 0 k) = aM m c (ix1 k) := by
  have e : V m c main_v3 = shapeCast S1x1024 (aM m c) shapeCasts_S1024_S1x1024 := by unfold V; after_results; rfl
  rw [e]; pointwise
theorem V_gk (c : Dev nD) (k : Fin 1024) : (V m c main_v4 : S1x1024.Idx → EReal) (ix2 0 k) = aK m c (ix1 k) := by
  have e : V m c main_v4 = shapeCast S1x1024 (aK m c) shapeCasts_S1024_S1x1024 := by unfold V; after_results; rfl
  rw [e]; pointwise

/-- The blocks at point `t`, read at an index. -/
theorem blk0 (c : Dev nD) (t : Fin cfg0.N) (i : Fin 512) (k : Fin 1024) (h : t.val * 512 + i.val < 2048) :
    iblk m c 0 t (ix2 i k) = aQ m c (ix2 ⟨t.val * 512 + i.val, h⟩ k) := by
  refine Eq.trans (b := V m c main_v1 (((cfg0.win 0).blk t).view.emb (ix2 i k))) rfl ?_
  rw [V_q]
  blk_ext [idx t]
theorem blk2 (c : Dev nD) (t : Fin cfg0.N) (i : Fin 512) (k : Fin 1024) (h : t.val * 512 + i.val < 2048) :
    iblk m c 2 t (ix2 i k) = aH m c (ix2 ⟨t.val * 512 + i.val, h⟩ k) := by
  refine Eq.trans (b := V m c main_arg0 (((cfg0.win 2).blk t).view.emb (ix2 i k))) rfl ?_
  rw [V_h]
  blk_ext [idx t]
theorem blk3 (c : Dev nD) (t : Fin cfg0.N) (i : Fin 512) (k : Fin 1024) (h : t.val * 512 + i.val < 2048) :
    iblk m c 3 t (ix2 i k) = aD m c (ix2 ⟨t.val * 512 + i.val, h⟩ k) := by
  refine Eq.trans (b := V m c main_arg7 (((cfg0.win 3).blk t).view.emb (ix2 i k))) rfl ?_
  rw [V_d]
  blk_ext [idx t]
theorem blk4 (c : Dev nD) (t : Fin cfg0.N) (i : Fin 512) (k : Fin 1024) (h : t.val * 512 + i.val < 2048) :
    iblk m c 4 t (ix2 i k) = DK (aWk m c) (aV m c) (ix2 ⟨t.val * 512 + i.val, h⟩ k) := by
  refine Eq.trans (b := V m c main_v0 (((cfg0.win 4).blk t).view.emb (ix2 i k))) rfl ?_
  rw [V_k]
  blk_ext [idx t]
theorem blk1 (c : Dev nD) (t : Fin cfg0.N) (i : Fin 1024) (k : Fin 1024) : iblk m c 1 t (ix2 i k) = aWq m c (ix2 i k) := by
  refine Eq.trans (b := V m c main_v2 (((cfg0.win 1).blk t).view.emb (ix2 i k))) rfl ?_
  rw [V_w]
  blk_ext [idx t]
theorem blk5 (c : Dev nD) (t : Fin cfg0.N) (k : Fin 1024) : iblk m c 5 t (ix2 0 k) = aM m c (ix1 k) := by
  refine Eq.trans (b := (V m c main_v3 : S1x1024.Idx → EReal) (((cfg0.win 5).blk t).view.emb (ix2 0 k))) rfl ?_
  rw [show ((cfg0.win 5).blk t).view.emb (ix2 0 k) = (ix2 0 k : S1x1024.Idx) from by blk_ext [idx t], V_gm]
theorem blk6 (c : Dev nD) (t : Fin cfg0.N) (k : Fin 1024) : iblk m c 6 t (ix2 0 k) = aK m c (ix1 k) := by
  refine Eq.trans (b := (V m c main_v4 : S1x1024.Idx → EReal) (((cfg0.win 6).blk t).view.emb (ix2 0 k))) rfl ?_
  rw [show ((cfg0.win 6).blk t).view.emb (ix2 0 k) = (ix2 0 k : S1x1024.Idx) from by blk_ext [idx t], V_gk]

/-- The body's named values at an index. -/
theorem pay7_at (v0 : FVec Ideal S512x1024 .bf16) (v2 : FVec Ideal S1024x1024 .bf16) (i : Fin 512) (j : Fin 1024) :
    (k0_pay7 (F := Ideal) v0 v2 : S512x1024.Idx → EReal) (ix2 i j) = ∑ k : Fin 1024, (v0 : S512x1024.Idx → EReal) (ix2 i k) * (v2 : S1024x1024.Idx → EReal) (ix2 j k) := by
  pointwise [k0_pay7]
theorem pay9_at (v5 : FVec Ideal S512x1024 .f32) (i : Fin 512) : (k0_pay9 (F := Ideal) v5 : S512x1.Idx → EReal) (ix2 i 0) = R fun k => v5 (ix2 i k) := by
  pointwise [k0_pay9, R, S]
theorem pay10_at (v5 : FVec Ideal S512x1024 .f32) (i : Fin 512) (j : Fin 1024) :
    (k0_pay10 (F := Ideal) v5 : S512x1024.Idx → EReal) (ix2 i j) = v5 (ix2 i j) * R fun k => v5 (ix2 i k) := by
  rw [← pay9_at]; pointwise [k0_pay10]
theorem pay11_at (v0 : FVec Ideal S512x1024 .bf16) (v2 : FVec Ideal S1024x1024 .bf16) (v7 : FVec Ideal S512x1024 .f32) (v9 v11 : FVec Ideal S1x1024 .f32)
    (i : Fin 512) (j : Fin 1024) : (k0_pay11 (F := Ideal) v0 v2 v7 v9 v11 : S512x1024.Idx → EReal) (ix2 i j)
      = (k0_pay7 (F := Ideal) v0 v2 : S512x1024.Idx → EReal) (ix2 i j) * v9 (ix2 0 j) + v7 (ix2 i j) * v11 (ix2 0 j) := by
  pointwise [k0_pay11, k0_pay8]
theorem pay1_at (v0 : FVec Ideal S512x1024 .bf16) (v2 : FVec Ideal S1024x1024 .bf16) (v5 v6 v7 : FVec Ideal S512x1024 .f32) (v9 v11 : FVec Ideal S1x1024 .f32)
    (i : Fin 512) (j : Fin 1024) :
    (k0_pay1 (F := Ideal) v6 (k0_pay9 v5) (k0_pay11 v0 v2 v7 v9 v11) (k0_pay12 v0 v2 v5 v7 v9 v11) : S512x1024.Idx → EReal) (ix2 i j)
      = rowK (fun k => v5 (ix2 i k)) (fun k => (k0_pay11 (F := Ideal) v0 v2 v7 v9 v11 : S512x1024.Idx → EReal) (ix2 i k)) j + v6 (ix2 i j) := by
  unfold rowK
  pointwise [k0_pay1, k0_pay12, pay9_at, pay10_at]
theorem pay5_at (v0 : FVec Ideal S512x1024 .bf16) (v2 : FVec Ideal S1024x1024 .bf16) (v5 : FVec Ideal S512x1024 .f32) (a : FVec Ideal S1x1024 .f32) (j : Fin 1024) :
    (k0_pay5 (F := Ideal) (k0_pay7 v0 v2) (k0_pay10 v5) a : S1x1024.Idx → EReal) (ix2 0 j)
      = a (ix2 0 j) + ∑ k : Fin 512, (k0_pay7 (F := Ideal) v0 v2 : S512x1024.Idx → EReal) (ix2 k j) * (v5 (ix2 k j) * R fun l => v5 (ix2 k l)) := by
  pointwise [k0_pay5, pay10_at]
theorem pay6_at (v5 v7 : FVec Ideal S512x1024 .f32) (a : FVec Ideal S1x1024 .f32) (j : Fin 1024) :
    (k0_pay6 (F := Ideal) (k0_pay8 v7) (k0_pay10 v5) a : S1x1024.Idx → EReal) (ix2 0 j)
      = a (ix2 0 j) + ∑ k : Fin 512, v7 (ix2 k j) * (v5 (ix2 k j) * R fun l => v5 (ix2 k l)) := by
  pointwise [k0_pay6, k0_pay8, pay10_at]

/-- The scaled cotangents are real. -/
theorem DQ_at (w : FVec Ideal S1024x1024 .f32) (a : FVec Ideal S2048x1024 .f32) (i : Fin 2048) (j : Fin 1024) :
    DQ w a (ix2 i j) = ∑ k : Fin 1024, a (ix2 i k) * w (ix2 j k) := by
  pointwise [DQ]
theorem DK_at (w : FVec Ideal S1024x512 .f32) (a : FVec Ideal S2048x512 .f32) (i : Fin 2048) (j : Fin 1024) :
    DK w a (ix2 i j) = ∑ k : Fin 512, a (ix2 i k) * w (ix2 j k) := by
  pointwise [DK]
theorem scaled_at (d : FVec Ideal S2048x1024 .f32) (g : FVec Ideal S1024 .f32) (i : Fin 2048) (j : Fin 1024) :
    scaled d g (ix2 i j) = d (ix2 i j) * g (ix1 j) := by
  pointwise [scaled]
theorem scaled_real (d : FVec Ideal S2048x1024 .f32) (g : FVec Ideal S1024 .f32) (hd : IsReal (d : S2048x1024.Idx → EReal)) (hg : IsReal (g : S1024.Idx → EReal)) :
    IsReal (scaled d g : S2048x1024.Idx → EReal) := by
  obtain ⟨d', rfl⟩ := hd
  obtain ⟨g', rfl⟩ := hg
  refine ⟨fun i => d' i * g' (ix1 (i 1)), funext fun i => ?_⟩
  idx_vars i
  rw [scaled_at, EReal.coe_mul]
theorem DQ_real (w : FVec Ideal S1024x1024 .f32) (a : FVec Ideal S2048x1024 .f32) (hw : IsReal (w : S1024x1024.Idx → EReal)) (ha : IsReal (a : S2048x1024.Idx → EReal)) :
    IsReal (DQ w a : S2048x1024.Idx → EReal) := by
  obtain ⟨w', rfl⟩ := hw
  obtain ⟨a', rfl⟩ := ha
  refine ⟨fun i => ∑ k : Fin 1024, a' (ix2 (i 0) k) * w' (ix2 (i 1) k), funext fun i => ?_⟩
  idx_vars i
  rw [DQ_at, coe_sum]
  simp only [EReal.coe_mul]
theorem DK_real (w : FVec Ideal S1024x512 .f32) (a : FVec Ideal S2048x512 .f32) (hw : IsReal (w : S1024x512.Idx → EReal)) (ha : IsReal (a : S2048x512.Idx → EReal)) :
    IsReal (DK w a : S2048x1024.Idx → EReal) := by
  obtain ⟨w', rfl⟩ := hw
  obtain ⟨a', rfl⟩ := ha
  refine ⟨fun i => ∑ k : Fin 512, a' (ix2 (i 0) k) * w' (ix2 (i 1) k), funext fun i => ?_⟩
  idx_vars i
  rw [DK_at, coe_sum]
  simp only [EReal.coe_mul]

/-- The product of the blocks at point `t` is the reference's product. -/
theorem acc_at (c : Dev nD) (t : Fin cfg0.N) (i : Fin 512) (j : Fin 1024) (h : t.val * 512 + i.val < 2048) :
    (k0_pay7 (F := Ideal) (iblk m c 0 t) (iblk m c 1 t) : S512x1024.Idx → EReal) (ix2 i j) = DQ (aWq m c) (aQ m c) (ix2 ⟨t.val * 512 + i.val, h⟩ j) := by
  rw [pay7_at, DQ_at]
  exact Finset.sum_congr rfl fun k _ => congrArg₂ _ (blk0 m c t i k h) (blk1 m c t j k)

/-- What holds of device `c`'s arguments. -/
def Finite (c : Dev nD) : Prop := IsReal (aH m c : S2048x1024.Idx → EReal) ∧ IsReal (aM m c : S1024.Idx → EReal) ∧ IsReal (aK m c : S1024.Idx → EReal)
  ∧ IsReal (aWq m c : S1024x1024.Idx → EReal) ∧ IsReal (aWk m c : S1024x512.Idx → EReal) ∧ IsReal (aQ m c : S2048x1024.Idx → EReal)
  ∧ IsReal (aV m c : S2048x512.Idx → EReal)

/-- The reference's rows at an index: one closed gradient for the sum of the two cotangents. -/
theorem DX_at (c : Dev nD) (hr : Finite m c) (i : Fin 2048) (j : Fin 1024) :
    DX m c (ix2 i j) = rowK (fun k => aH m c (ix2 i k)) (fun k => DQ (aWq m c) (aQ m c) (ix2 i k) * aM m c (ix1 k) + DK (aWk m c) (aV m c) (ix2 i k) * aK m c (ix1 k)) j
      + aD m c (ix2 i j) := by
  obtain ⟨hH, hM, hK, hWq, hWk, hQ, hV⟩ := hr
  have hq := scaled_real _ _ (DQ_real _ _ hWq hQ) hM
  have hk := scaled_real _ _ (DK_real _ _ hWk hV) hK
  rw [DX, back_at _ _ _ hH hq, back_at _ _ _ hH hk]
  simp only [← scaled_at]
  obtain ⟨x, hx⟩ := hH
  obtain ⟨q, hq⟩ := hq
  obtain ⟨k, hk⟩ := hk
  rw [hx, hq, hk, rowK_add (fun l => x (ix2 i l)) (fun l => q (ix2 i l)) (fun l => k (ix2 i l)) j]
  ac_rfl

/-- The body's rows at point `t` are the reference's. -/
theorem dx_at (c : Dev nD) (hr : Finite m c) (t : Fin cfg0.N) (i : Fin 512) (j : Fin 1024) (h : t.val * 512 + i.val < 2048) :
    (k0_pay1 (F := Ideal) (iblk m c 3 t) (k0_pay9 (iblk m c 2 t)) (k0_pay11 (iblk m c 0 t) (iblk m c 1 t) (iblk m c 4 t) (iblk m c 5 t) (iblk m c 6 t)) (k0_pay12 (iblk m c 0 t) (iblk m c 1 t) (iblk m c 2 t) (iblk m c 4 t) (iblk m c 5 t) (iblk m c 6 t)) : S512x1024.Idx → EReal) (ix2 i j)
      = DX m c (ix2 ⟨t.val * 512 + i.val, h⟩ j) := by
  rw [pay1_at, DX_at m c hr, blk3 m c t i j h]
  congr 2 <;> funext k
  · exact blk2 m c t i k h
  · rw [pay11_at, acc_at m c t i k h, blk4 m c t i k h, blk5, blk6]

/-- The gains' gradients, row by row. -/
theorem gain_at (d : EReal) (H D : FVec Ideal S2048x1024 .f32) (i : Fin 512) (i' : Fin 2048) (j : Fin 1024) (x : S512x1024.Idx → EReal)
    (hx : ∀ k, x (ix2 i k) = H (ix2 i' k)) (hd : d = D (ix2 i' j)) :
    d * (x (ix2 i j) * R fun l => x (ix2 i l)) = (mulf (hat H) D : FVec Ideal S2048x1024 .f32) (ix2 i' j) := by
  rw [show (mulf (hat H) D : FVec Ideal S2048x1024 .f32) (ix2 i' j) = hat H (ix2 i' j) * D (ix2 i' j) from rfl, hat_at, mul_comm, hd]
  simp only [hx]

/-- The first two results after the run: the rows' gradient, and the same rounded. -/
theorem final_dx (c : Dev nD) (hr : Finite m c) : (dats m 0 c).arrAt 7 (cfgs 0).N = DX m c := by
  refine (dats m 0 c).arrAt_eq_of_covers 7 _ (by decide +kernel) fun t _ y => ?_
  blk_simp
  idx_vars y
  have ht : t.val < 4 := lt_of_lt_of_eq t.isLt N_0
  have h : t.val * 512 + y0.val < 2048 := by omega
  rw [after0_7, show ((cfg0.win 7).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

theorem final_dxb (c : Dev nD) (hr : Finite m c) : (dats m 0 c).arrAt 8 (cfgs 0).N = truncf .bf16 (DX m c) Cert.AttnDnRefIdeal.Gen.bitsLt_bf16_f32 := by
  refine (dats m 0 c).arrAt_eq_of_covers 8 _ (by decide +kernel) fun t _ y => ?_
  blk_simp
  idx_vars y
  have ht : t.val < 4 := lt_of_lt_of_eq t.isLt N_0
  have h : t.val * 512 + y0.val < 2048 := by omega
  rw [after0_8, show ((cfg0.win 8).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

/-- A column of an array, summed over the rows of point `p`'s block. -/
def part (G : FVec Ideal S2048x1024 .f32) (p : Fin cfg0.N) (j : S1x1024.Idx) : EReal :=
  ∑ k : Fin 512, G (ix2 ⟨p.val * 512 + k.val, by have : p.val < 4 := lt_of_lt_of_eq p.isLt N_0; omega⟩ (j 1))

/-- One point's addition to the two rows of sums. -/
theorem add9 (c : Dev nD) (t : Fin cfg0.N) (a : FVec Ideal S1x1024 .f32) (j : S1x1024.Idx) :
    (k0_pay5 (F := Ideal) (k0_pay7 (iblk m c 0 t) (iblk m c 1 t)) (k0_pay10 (iblk m c 2 t)) a : S1x1024.Idx → EReal) j = a j + part (DMix m c) t j := by
  have ht : t.val < 4 := lt_of_lt_of_eq t.isLt N_0
  idx_vars j
  obtain rfl : j0 = 0 := Subsingleton.elim _ _
  exact (pay5_at _ _ _ _ _).trans (congrArg₂ _ rfl (Finset.sum_congr rfl fun k _ =>
    gain_at _ _ _ _ ⟨t.val * 512 + k.val, by omega⟩ _ _ (fun l => blk2 m c t k l _) (acc_at m c t k j1 _)))
theorem add10 (c : Dev nD) (t : Fin cfg0.N) (a : FVec Ideal S1x1024 .f32) (j : S1x1024.Idx) :
    (k0_pay6 (F := Ideal) (k0_pay8 (iblk m c 4 t)) (k0_pay10 (iblk m c 2 t)) a : S1x1024.Idx → EReal) j = a j + part (DKv m c) t j := by
  have ht : t.val < 4 := lt_of_lt_of_eq t.isLt N_0
  idx_vars j
  obtain rfl : j0 = 0 := Subsingleton.elim _ _
  exact (pay6_at _ _ _ _).trans (congrArg₂ _ rfl (Finset.sum_congr rfl fun k _ =>
    gain_at _ _ _ _ ⟨t.val * 512 + k.val, by omega⟩ _ _ (fun l => blk2 m c t k l _) (blk4 m c t k j1 _)))

/-- At the first point each row of sums holds that point's part; at every later one the part is added. -/
theorem reset9 (c : Dev nD) (t : Fin cfg0.N) (h : t.val % 4 = 0) (j : S1x1024.Idx) :
    ((outsAt0 m c t.val t.isLt).2.2.1 : S1x1024.Idx → EReal) j = 0 + part (DMix m c) t j := by
  rw [outsAt0_A m c t h]; frame_out
  exact (add9 m c t _ j).trans (congrArg₂ _ (by pointwise [k0_pay3]) rfl)
theorem step9 (c : Dev nD) (t : Fin cfg0.N) (h : ¬t.val % 4 = 0) (j : S1x1024.Idx) :
    ((outsAt0 m c t.val t.isLt).2.2.1 : S1x1024.Idx → EReal) j
      = (outsAt0 m c (t.val - 1) (Nat.lt_of_le_of_lt (Nat.sub_le _ _) t.isLt)).2.2.1 j + part (DMix m c) t j := by
  rw [outsAt0_B m c t h]; frame_out
  exact add9 m c t _ j
theorem final9 (c : Dev nD) : (dats m 0 c).arrAt 9 (cfgs 0).N = colsum (DMix m c) := by
  refine (dats m 0 c).arrAt_eq_of_after_last 9 t0_3 (by decide +kernel) _ fun j => ?_
  blk_simp
  rw [after0_9, Pipeline.eq_sum_fin_of_reset_step_apply_last (fun n h => (outsAt0 m c n h).2.2.1) 4 (fun _ => 0) (fun p j => part (DMix m c) p j)
    (fun t h j => reset9 m c t h j) (fun t h j => step9 m c t h j) (le_of_eq N_0) t0_3 rfl j, zero_add]
  idx_vars j
  obtain rfl : j0 = 0 := Subsingleton.elim _ _
  rw [colsum_at]
  exact Fin.sum_mul_add_congr fun s k hl => rfl
theorem reset10 (c : Dev nD) (t : Fin cfg0.N) (h : t.val % 4 = 0) (j : S1x1024.Idx) :
    ((outsAt0 m c t.val t.isLt).2.2.2 : S1x1024.Idx → EReal) j = 0 + part (DKv m c) t j := by
  rw [outsAt0_A m c t h]; frame_out
  exact (add10 m c t _ j).trans (congrArg₂ _ (by pointwise [k0_pay4]) rfl)
theorem step10 (c : Dev nD) (t : Fin cfg0.N) (h : ¬t.val % 4 = 0) (j : S1x1024.Idx) :
    ((outsAt0 m c t.val t.isLt).2.2.2 : S1x1024.Idx → EReal) j
      = (outsAt0 m c (t.val - 1) (Nat.lt_of_le_of_lt (Nat.sub_le _ _) t.isLt)).2.2.2 j + part (DKv m c) t j := by
  rw [outsAt0_B m c t h]; frame_out
  exact add10 m c t _ j
theorem final10 (c : Dev nD) : (dats m 0 c).arrAt 10 (cfgs 0).N = colsum (DKv m c) := by
  refine (dats m 0 c).arrAt_eq_of_after_last 10 t0_3 (by decide +kernel) _ fun j => ?_
  blk_simp
  rw [after0_10, Pipeline.eq_sum_fin_of_reset_step_apply_last (fun n h => (outsAt0 m c n h).2.2.2) 4 (fun _ => 0) (fun p j => part (DKv m c) p j)
    (fun t h j => reset10 m c t h j) (fun t h j => step10 m c t h j) (le_of_eq N_0) t0_3 rfl j, zero_add]
  idx_vars j
  obtain rfl : j0 = 0 := Subsingleton.elim _ _
  rw [colsum_at]
  exact Fin.sum_mul_add_congr fun s k hl => rfl

end Cert.AttnDnIdeal.Grad

namespace Cert.Proof

/-- The precondition's side conditions on shapes. -/
instance facts_finite_attndn : Cert.Pre_finite_attndn.Facts where
  bcast_S_S2048x1024 := by decide
  reducesTo_S2048x1024_S_d0_1 := by decide
  h_S_ := by decide
  bcast_S_S1024 := by decide
  reducesTo_S1024_S_d0 := by decide
  bcast_S_S1024x1024 := by decide
  reducesTo_S1024x1024_S_d0_1 := by decide
  bcast_S_S1024x512 := by decide
  reducesTo_S1024x512_S_d0_1 := by decide
  bcast_S_S2048x512 := by decide
  reducesTo_S2048x512_S_d0_1 := by decide

theorem frame_AttnDn : Cert.quiescent_AttnDn := fun m ρ _ => Cert.AttnDn.Gen.frame m ρ
theorem frame_AttnDnIdeal : Cert.quiescent_AttnDnIdeal := fun m ρ _ => Cert.AttnDnIdeal.Gen.frame m ρ
/-- The reference's frame: its run leaves the arguments, and it declares no semaphore. -/
theorem frame_AttnDnRefIdeal : Cert.quiescent_AttnDnRefIdeal := fun m ρ _ =>
  (θ_run Cert.AttnDnRefIdeal.defs _ _).mono (fun r h => ⟨fun c => (h c).2.2.2.2,
      Idealize.ShloMosaic.sem_eq_zero_of_no_sems (by decide) r.2⟩) (Cert.AttnDnRefIdeal.Value.run (F := Ideal) m ρ)

/-- What the precondition says: the seven arrays are real. -/
theorem finite_attndn_real (m : (ℓ : Loc Cert.AttnDnIdeal.nD Cert.AttnDnIdeal.τ Cert.AttnDnIdeal.sig) → Buf (Elt Ideal) ℓ)
    (h : Cert.Pre_AttnDnIdeal_finite_attndn m) (c : Dev Cert.AttnDnIdeal.nD) : Cert.AttnDnIdeal.Grad.Finite m c := by
  have e := congrFun (h c) (fun a => a.elim0)
  obtain ⟨e, e7⟩ := Cert.Finite.andi_eq_one e
  obtain ⟨e, e6⟩ := Cert.Finite.andi_eq_one e
  obtain ⟨e, e5⟩ := Cert.Finite.andi_eq_one e
  obtain ⟨e, e4⟩ := Cert.Finite.andi_eq_one e
  obtain ⟨e, e3⟩ := Cert.Finite.andi_eq_one e
  obtain ⟨e1, e2⟩ := Cert.Finite.andi_eq_one e
  exact ⟨Cert.Finite.isReal_of_all _ _ _ _ _ _ _ e1, Cert.Finite.isReal_of_all _ _ _ _ _ _ _ e2, Cert.Finite.isReal_of_all _ _ _ _ _ _ _ e3,
    Cert.Finite.isReal_of_all _ _ _ _ _ _ _ e4, Cert.Finite.isReal_of_all _ _ _ _ _ _ _ e5, Cert.Finite.isReal_of_all _ _ _ _ _ _ _ e6,
    Cert.Finite.isReal_of_all _ _ _ _ _ _ _ e7⟩

open Cert.AttnDnIdeal.Grad in
set_option maxHeartbeats 1600000 in
/-- Kernel and reference end with the same four results. -/
theorem algebraic_AttnDn : Cert.algebraic_AttnDnIdeal_AttnDnRefIdeal_pre_finite_attndn := by
  intro m ρ m' ρ' hpre hagree
  refine ⟨fun c => DX m c, fun c => truncf .bf16 (DX m c) Cert.AttnDnRefIdeal.Gen.bitsLt_bf16_f32, fun c => Cert.Norm.colsum (DMix m c), fun c => Cert.Norm.colsum (DKv m c), ?_, ?_⟩
  · refine (θ_run Cert.AttnDnIdeal.defs _ _).mono (fun _ h c => ?_) (Cert.AttnDnIdeal.Value.run_blocks (F := Ideal) m ρ)
    have hr := finite_attndn_real m hpre c
    exact ⟨(h c).1.trans (final_dx m c hr), (h c).2.1.trans (final_dxb m c hr), (h c).2.2.1.trans (final9 m c), (h c).2.2.2.1.trans (final10 m c), (h c).2.2.2.2⟩
  · refine (θ_run Cert.AttnDnRefIdeal.defs _ _).mono (fun _ h c => ⟨(h c).1.trans ?_, (h c).2.1.trans ?_, (h c).2.2.1.trans ?_, (h c).2.2.2.1.trans ?_, (h c).2.2.2.2⟩)
      (Cert.AttnDnRefIdeal.Value.run (F := Ideal) m' ρ')
    all_goals
      obtain ⟨h0, h1, h2, h3, h4, h5, h6, h7⟩ := hagree c
      simp only [Cert.AttnDnRefIdeal.Value.res_main_v77, Cert.AttnDnRefIdeal.Value.res_main_v78]
      rewrite [h0]
      first | rewrite [h1, h2, h3, h4, h5, h6, h7] | rewrite [h3, h5] | rewrite [h4, h6]
      dsimp only [DX, DMix, DKv, scaled, DQ, DK, Cert.Norm.back, Cert.Norm.colsum, Cert.Norm.coef, Cert.Norm.hat, Cert.Norm.inv, Cert.Norm.ms]

end Cert.Proof

end
-- ==== Proof.Loss.lean ====
/- The loss head: the product with `w_out`, the final norm, the loss and its gradients; `mlp_out1`'s four results are the reference's. -/
module

public import proofs.«01_k».proof.Defs
public import proofs.«01_k».proof.Proof.Gen.LossHead.Frame
public import proofs.«01_k».proof.Proof.Gen.LossHeadIdeal.Value
public import proofs.«01_k».proof.Proof.Gen.LossRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.LossHeadIdeal.Grad

open Cert.LossHeadIdeal Cert.LossHeadIdeal.Gen Cert.Finite Cert.Norm

variable (m : (ℓ : Loc nD τ sig) → Buf (Elt Ideal) ℓ)

/-- The five argument arrays of device `c`: the residual rows, the activation, the matrix, the gain and the target. -/
abbrev aH (c : Dev nD) : FVec Ideal S2048x1024 .f32 := m ((c : Thread nD τ).loc main_arg0)
abbrev aR (c : Dev nD) : FVec Ideal S2048x4096 .f32 := m ((c : Thread nD τ).loc main_arg1)
abbrev aW (c : Dev nD) : FVec Ideal S4096x1024 .f32 := m ((c : Thread nD τ).loc main_arg2)
abbrev aG (c : Dev nD) : FVec Ideal S1024 .f32 := m ((c : Thread nD τ).loc main_arg3)
abbrev aT (c : Dev nD) : FVec Ideal S2048x1024 .f32 := m ((c : Thread nD τ).loc main_arg4)

/-- The rows after the last layer, the final norm's difference from the target, its cotangent, and that times the gain. -/
abbrev X (c : Dev nD) : FVec Ideal S2048x1024 .f32 :=
  addf (aH m c) (Host.dotGeneral Cert.LossRefIdeal.dot_S2048x4096_S4096x1024_S2048x1024_1_0_0_1_n_n none (aR m c) (aW m c))
abbrev Er (c : Dev nD) : FVec Ideal S2048x1024 .f32 := subf (mulf (hat (X m c)) (rowvec (aG m c))) (aT m c)
def half : FVec Ideal Cert.LossRefIdeal.S2048 .f32 :=
  Host.divf (broadcastInDim Cert.LossRefIdeal.S2048 ![] Cert.LossRefIdeal.Gen.bcast_S_S2048 (mulf (constant Cert.LossRefIdeal.S_ .f32 0x3F000000#32) (constant Cert.LossRefIdeal.S_ .f32 0x3F800000#32)))
    (broadcastInDim Cert.LossRefIdeal.S2048 ![] Cert.LossRefIdeal.Gen.bcast_S_S2048 (constant Cert.LossRefIdeal.S_ .f32 0x44800000#32))
def cot (e : FVec Ideal S2048x1024 .f32) : FVec Ideal S2048x1024 .f32 :=
  mulf (broadcastInDim S2048x1024 ![0] Cert.LossRefIdeal.Gen.bcast_S2048_S2048x1024_0 half)
    (mulf (broadcastInDim S2048x1024 ![] Cert.LossRefIdeal.Gen.bcast_S_S2048x1024 (constant Cert.LossRefIdeal.S_ .f32 0x40000000#32)) e)
abbrev D (c : Dev nD) : FVec Ideal S2048x1024 .f32 := mulf (cot (Er m c)) (rowvec (aG m c))
/-- The mean square of each row, and half its sum over the rows in every column. -/
def msq (e : FVec Ideal S2048x1024 .f32) : FVec Ideal Cert.LossRefIdeal.S2048 .f32 :=
  Host.divf (Host.reduceAdd (mulf e e) (constant Cert.LossRefIdeal.S_ .f32 0x00000000#32) Cert.LossRefIdeal.Gen.reducesTo_S2048x1024_S2048_d1 Cert.LossRefIdeal.Gen.h_S_)
    (broadcastInDim Cert.LossRefIdeal.S2048 ![] Cert.LossRefIdeal.Gen.bcast_S_S2048 (constant Cert.LossRefIdeal.S_ .f32 0x44800000#32))
def loss (q : FVec Ideal Cert.LossRefIdeal.S2048 .f32) : FVec Ideal S1x1024 .f32 :=
  broadcastInDim S1x1024 ![] Cert.LossRefIdeal.Gen.bcast_S_S1x1024 (mulf (constant Cert.LossRefIdeal.S_ .f32 0x3F000000#32)
    (Host.reduceAdd q (constant Cert.LossRefIdeal.S_ .f32 0x00000000#32) Cert.LossRefIdeal.Gen.reducesTo_S2048_S_d0 Cert.LossRefIdeal.Gen.h_S_))

/-- The reference's results: the rows' gradient, and the gain's before its rows are added. -/
abbrev DX (c : Dev nD) : FVec Ideal S2048x1024 .f32 := back0 (X m c) (D m c)
abbrev DGain (c : Dev nD) : FVec Ideal S2048x1024 .f32 := mulf (hat (X m c)) (cot (Er m c))

/-- Every window's block index at every point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- What the region finds in the arrays it reads. -/
theorem V_r (c : Dev nD) : V m c main_v0 = aR m c := by unfold V; after_results; rfl
theorem V_w (c : Dev nD) : V m c main_v1 = aW m c := by unfold V; after_results; rfl
theorem V_h (c : Dev nD) : V m c main_arg0 = aH m c := by unfold V; after_results
theorem V_t (c : Dev nD) : V m c main_arg4 = aT m c := by unfold V; after_results
theorem V_g (c : Dev nD) (k : Fin 1024) : (V m c main_v2 : S1x1024.Idx → EReal) (ix2 0 k) = aG m c (ix1 k) := by
  have e : V m c main_v2 = shapeCast S1x1024 (aG m c) shapeCasts_S1024_S1x1024 := by unfold V; after_results; rfl
  rw [e]; pointwise

/-- The blocks at point `t`, read at an index. -/
theorem blk0 (c : Dev nD) (t : Fin cfg0.N) (i : Fin 512) (k : Fin 4096) (h : t.val * 512 + i.val < 2048) :
    iblk m c 0 t (ix2 i k) = aR m c (ix2 ⟨t.val * 512 + i.val, h⟩ k) := by
  refine Eq.trans (b := V m c main_v0 (((cfg0.win 0).blk t).view.emb (ix2 i k))) rfl ?_
  rw [V_r]
  blk_ext [idx t]
theorem blk2 (c : Dev nD) (t : Fin cfg0.N) (i : Fin 512) (k : Fin 1024) (h : t.val * 512 + i.val < 2048) :
    iblk m c 2 t (ix2 i k) = aH m c (ix2 ⟨t.val * 512 + i.val, h⟩ k) := by
  refine Eq.trans (b := V m c main_arg0 (((cfg0.win 2).blk t).view.emb (ix2 i k))) rfl ?_
  rw [V_h]
  blk_ext [idx t]
theorem blk3 (c : Dev nD) (t : Fin cfg0.N) (i : Fin 512) (k : Fin 1024) (h : t.val * 512 + i.val < 2048) :
    iblk m c 3 t (ix2 i k) = aT m c (ix2 ⟨t.val * 512 + i.val, h⟩ k) := by
  refine Eq.trans (b := V m c main_arg4 (((cfg0.win 3).blk t).view.emb (ix2 i k))) rfl ?_
  rw [V_t]
  blk_ext [idx t]
theorem blk1 (c : Dev nD) (t : Fin cfg0.N) (i : Fin 4096) (k : Fin 1024) : iblk m c 1 t (ix2 i k) = aW m c (ix2 i k) := by
  refine Eq.trans (b := V m c main_v1 (((cfg0.win 1).blk t).view.emb (ix2 i k))) rfl ?_
  rw [V_w]
  blk_ext [idx t]
theorem blk4 (c : Dev nD) (t : Fin cfg0.N) (k : Fin 1024) : iblk m c 4 t (ix2 0 k) = aG m c (ix1 k) := by
  refine Eq.trans (b := (V m c main_v2 : S1x1024.Idx → EReal) (((cfg0.win 4).blk t).view.emb (ix2 0 k))) rfl ?_
  rw [show ((cfg0.win 4).blk t).view.emb (ix2 0 k) = (ix2 0 k : S1x1024.Idx) from by blk_ext [idx t], V_g]

/-- The body's named values at an index. -/
theorem pay7_at (v0 : FVec Ideal S512x4096 .bf16) (v2 : FVec Ideal S4096x1024 .bf16) (v5 : FVec Ideal S512x1024 .f32) (i : Fin 512) (j : Fin 1024) :
    (k0_pay7 (F := Ideal) v0 v2 v5 : S512x1024.Idx → EReal) (ix2 i j)
      = v5 (ix2 i j) + ∑ k : Fin 4096, (v0 : S512x4096.Idx → EReal) (ix2 i k) * (v2 : S4096x1024.Idx → EReal) (ix2 k j) := by
  pointwise [k0_pay7]
theorem pay8_at (v0 : FVec Ideal S512x4096 .bf16) (v2 : FVec Ideal S4096x1024 .bf16) (v5 : FVec Ideal S512x1024 .f32) (i : Fin 512) : (k0_pay8 (F := Ideal) v0 v2 v5 : S512x1.Idx → EReal) (ix2 i 0) = R fun k => (k0_pay7 (F := Ideal) v0 v2 v5 : S512x1024.Idx → EReal) (ix2 i k) := by
  pointwise [k0_pay8, R, S]
theorem pay9_at (v0 : FVec Ideal S512x4096 .bf16) (v2 : FVec Ideal S4096x1024 .bf16) (v5 : FVec Ideal S512x1024 .f32) (i : Fin 512) (j : Fin 1024) :
    (k0_pay9 (F := Ideal) v0 v2 v5 : S512x1024.Idx → EReal) (ix2 i j) = (k0_pay7 (F := Ideal) v0 v2 v5 : S512x1024.Idx → EReal) (ix2 i j) * R fun k => (k0_pay7 (F := Ideal) v0 v2 v5 : S512x1024.Idx → EReal) (ix2 i k) := by
  rw [← pay8_at]; pointwise [k0_pay9]
theorem pay10_at (v0 : FVec Ideal S512x4096 .bf16) (v2 : FVec Ideal S4096x1024 .bf16) (v5 : FVec Ideal S512x1024 .f32) (v6 : FVec Ideal S512x1024 .f32) (v7 : FVec Ideal S1x1024 .f32) (i : Fin 512) (j : Fin 1024) :
    (k0_pay10 (F := Ideal) v0 v2 v5 v6 v7 : S512x1024.Idx → EReal) (ix2 i j) = (k0_pay9 (F := Ideal) v0 v2 v5 : S512x1024.Idx → EReal) (ix2 i j) * v7 (ix2 0 j) - v6 (ix2 i j) := by
  pointwise [k0_pay10, k0_pay6]
theorem pay11_at (v0 : FVec Ideal S512x4096 .bf16) (v2 : FVec Ideal S4096x1024 .bf16) (v5 : FVec Ideal S512x1024 .f32) (v6 : FVec Ideal S512x1024 .f32) (v7 : FVec Ideal S1x1024 .f32) (i : Fin 512) (j : Fin 1024) :
    (k0_pay11 (F := Ideal) v0 v2 v5 v6 v7 : S512x1024.Idx → EReal) (ix2 i j) = (k0_pay10 (F := Ideal) v0 v2 v5 v6 v7 : S512x1024.Idx → EReal) (ix2 i j) * Ideal.ofBits .f32 0x3A800000#32 := by
  pointwise [k0_pay11]
theorem pay12_at (v0 : FVec Ideal S512x4096 .bf16) (v2 : FVec Ideal S4096x1024 .bf16) (v5 : FVec Ideal S512x1024 .f32) (v6 : FVec Ideal S512x1024 .f32) (v7 : FVec Ideal S1x1024 .f32) (i : Fin 512) (j : Fin 1024) :
    (k0_pay12 (F := Ideal) v0 v2 v5 v6 v7 : S512x1024.Idx → EReal) (ix2 i j)
      = rowK (fun k => (k0_pay7 (F := Ideal) v0 v2 v5 : S512x1024.Idx → EReal) (ix2 i k)) (fun k => (k0_pay11 (F := Ideal) v0 v2 v5 v6 v7 : S512x1024.Idx → EReal) (ix2 i k) * v7 (ix2 0 k)) j := by
  unfold rowK
  pointwise [k0_pay12, k0_pay6, pay8_at, pay9_at]
theorem pay13_at (v0 : FVec Ideal S512x4096 .bf16) (v2 : FVec Ideal S4096x1024 .bf16) (v5 : FVec Ideal S512x1024 .f32) (v6 : FVec Ideal S512x1024 .f32) (v7 : FVec Ideal S1x1024 .f32) (i : Fin 512) :
    (k0_pay13 (F := Ideal) v0 v2 v5 v6 v7 : S512x1.Idx → EReal) (ix2 i 0)
      = ∑ k : Fin 1024, (k0_pay10 (F := Ideal) v0 v2 v5 v6 v7 : S512x1024.Idx → EReal) (ix2 i k) * (k0_pay10 (F := Ideal) v0 v2 v5 v6 v7 : S512x1024.Idx → EReal) (ix2 i k) := by
  pointwise [k0_pay13]
theorem pay4_at (v : FVec Ideal S512x1 .f32) (a : FVec Ideal S1x1024 .f32) (j : Fin 1024) :
    (k0_pay4 (F := Ideal) v a : S1x1024.Idx → EReal) (ix2 0 j) = a (ix2 0 j) + Ideal.ofBits .f32 0x3F000000#32 * ∑ k : Fin 512, Ideal.div (v (ix2 k 0)) cN := by
  pointwise [k0_pay4]
  simp only [Fin.sum_univ_one]
theorem pay5_at (x y : FVec Ideal S512x1024 .f32) (a : FVec Ideal S1x1024 .f32) (j : Fin 1024) :
    (k0_pay5 (F := Ideal) x y a : S1x1024.Idx → EReal) (ix2 0 j) = a (ix2 0 j) + ∑ k : Fin 512, y (ix2 k j) * x (ix2 k j) := by
  pointwise [k0_pay5]

/-- The reference's parts at an index. -/
theorem X_at (c : Dev nD) (i : Fin 2048) (j : Fin 1024) :
    X m c (ix2 i j) = aH m c (ix2 i j) + ∑ k : Fin 4096, aR m c (ix2 i k) * aW m c (ix2 k j) := by
  pointwise [X]
theorem Er_at (c : Dev nD) (i : Fin 2048) (j : Fin 1024) :
    Er m c (ix2 i j) = hat (X m c) (ix2 i j) * aG m c (ix1 j) - aT m c (ix2 i j) := by
  pointwise [Er]
theorem half_at (i : Fin 2048) : half (ix1 i) * Ideal.ofBits .f32 0x40000000#32 = Ideal.ofBits .f32 0x3A800000#32 := by
  have e : half (ix1 i) = Ideal.div (Ideal.ofBits .f32 0x3F000000#32 * Ideal.ofBits .f32 0x3F800000#32) cN := by
    pointwise [half]
  have h1 : Ideal.ofBits .f32 0x3F000000#32 = ((1 / 2 : ℝ) : EReal) := by simp [Ideal.ofBits, Ideal.ieee]; norm_cast; norm_num
  have h2 : Ideal.ofBits .f32 0x3F800000#32 = ((1 : ℝ) : EReal) := by simp [Ideal.ofBits, Ideal.ieee]; norm_cast; norm_num
  have h3 : Ideal.ofBits .f32 0x40000000#32 = ((2 : ℝ) : EReal) := by simp [Ideal.ofBits, Ideal.ieee]; norm_cast; norm_num
  have h4 : Ideal.ofBits .f32 0x3A800000#32 = ((1 / 1024 : ℝ) : EReal) := by simp [Ideal.ofBits, Ideal.ieee]; norm_cast; norm_num
  rw [e, h1, h2, h3, h4, cN_eq, Ideal.div_coe (by norm_num)]
  simp only [← EReal.coe_mul]
  norm_num
theorem cot_at (e : FVec Ideal S2048x1024 .f32) (i : Fin 2048) (j : Fin 1024) :
    cot e (ix2 i j) = e (ix2 i j) * Ideal.ofBits .f32 0x3A800000#32 := by
  have h : cot e (ix2 i j) = half (ix1 i) * (Ideal.ofBits .f32 0x40000000#32 * e (ix2 i j)) := by pointwise [cot]
  rw [h, ← mul_assoc, half_at, mul_comm]
theorem msq_at (e : FVec Ideal S2048x1024 .f32) (i : Fin 2048) : msq e (ix1 i) = Ideal.div (∑ k : Fin 1024, e (ix2 i k) * e (ix2 i k)) cN := by
  pointwise [msq]
theorem loss_at (q : FVec Ideal Cert.LossRefIdeal.S2048 .f32) (j : Fin 1024) :
    loss q (ix2 0 j) = Ideal.ofBits .f32 0x3F000000#32 * ∑ i : Fin 2048, q (ix1 i) := by
  pointwise [loss]

/-- What holds of device `c`'s arguments. -/
def Finite (c : Dev nD) : Prop := IsReal (aH m c : S2048x1024.Idx → EReal) ∧ IsReal (aR m c : S2048x4096.Idx → EReal)
  ∧ IsReal (aW m c : S4096x1024.Idx → EReal) ∧ IsReal (aG m c : S1024.Idx → EReal) ∧ IsReal (aT m c : S2048x1024.Idx → EReal)

theorem X_real (c : Dev nD) (hr : Finite m c) : IsReal (X m c : S2048x1024.Idx → EReal) := by
  obtain ⟨⟨h, hh⟩, ⟨r, hr⟩, ⟨w, hw⟩, -, -⟩ := hr
  refine ⟨fun i => h i + ∑ k : Fin 4096, r (ix2 (i 0) k) * w (ix2 k (i 1)), funext fun i => ?_⟩
  idx_vars i
  rw [X_at, hh, hr, hw, EReal.coe_add, coe_sum]
  simp only [EReal.coe_mul]
theorem Er_real (c : Dev nD) (hr : Finite m c) : IsReal (Er m c : S2048x1024.Idx → EReal) := by
  obtain ⟨x, hx⟩ := hat_real _ (X_real m c hr)
  obtain ⟨-, -, -, ⟨g, hg⟩, ⟨t, ht⟩⟩ := hr
  refine ⟨fun i => x i * g (ix1 (i 1)) - t i, funext fun i => ?_⟩
  idx_vars i
  rw [Er_at, hx, hg, ht, EReal.coe_sub, EReal.coe_mul]
theorem D_real (c : Dev nD) (hr : Finite m c) : IsReal (D m c : S2048x1024.Idx → EReal) := by
  obtain ⟨e, he⟩ := Er_real m c hr
  obtain ⟨-, -, -, ⟨g, hg⟩, -⟩ := hr
  refine ⟨fun i => e i * (1 / 1024) * g (ix1 (i 1)), funext fun i => ?_⟩
  idx_vars i
  have h : D m c (ix2 i0 i1) = cot (Er m c) (ix2 i0 i1) * aG m c (ix1 i1) := by pointwise [D]
  have h4 : Ideal.ofBits .f32 0x3A800000#32 = ((1 / 1024 : ℝ) : EReal) := by simp [Ideal.ofBits, Ideal.ieee]; norm_cast; norm_num
  rw [h, cot_at, he, hg, h4, EReal.coe_mul, EReal.coe_mul]
theorem msq_real (c : Dev nD) (hr : Finite m c) : IsReal (msq (Er m c) : Cert.LossRefIdeal.S2048.Idx → EReal) := by
  obtain ⟨e, he⟩ := Er_real m c hr
  refine ⟨fun i => (∑ k : Fin 1024, e (ix2 (i 0) k) * e (ix2 (i 0) k)) * (1 / 1024), funext fun i => ?_⟩
  idx_vars i
  rw [msq_at, he, cN_eq, Ideal.div_coe (by norm_num)]
  simp only [← EReal.coe_mul, ← coe_sum]

/-- The body's values at point `t` are the reference's, row by row. -/
theorem x_at (c : Dev nD) (t : Fin cfg0.N) (i : Fin 512) (j : Fin 1024) (h : t.val * 512 + i.val < 2048) :
    (k0_pay7 (F := Ideal) (iblk m c 0 t) (iblk m c 1 t) (iblk m c 2 t) : S512x1024.Idx → EReal) (ix2 i j) = X m c (ix2 ⟨t.val * 512 + i.val, h⟩ j) := by
  rw [pay7_at, X_at, blk2 m c t i j h]
  exact congrArg₂ _ rfl (Finset.sum_congr rfl fun k _ => congrArg₂ _ (blk0 m c t i k h) (blk1 m c t k j))
theorem xh_at (c : Dev nD) (t : Fin cfg0.N) (i : Fin 512) (j : Fin 1024) (h : t.val * 512 + i.val < 2048) :
    (k0_pay9 (F := Ideal) (iblk m c 0 t) (iblk m c 1 t) (iblk m c 2 t) : S512x1024.Idx → EReal) (ix2 i j) = hat (X m c) (ix2 ⟨t.val * 512 + i.val, h⟩ j) := by
  rw [pay9_at, hat_at]
  simp only [x_at m c t i _ h]
theorem e_at (c : Dev nD) (t : Fin cfg0.N) (i : Fin 512) (j : Fin 1024) (h : t.val * 512 + i.val < 2048) :
    (k0_pay10 (F := Ideal) (iblk m c 0 t) (iblk m c 1 t) (iblk m c 2 t) (iblk m c 3 t) (iblk m c 4 t) : S512x1024.Idx → EReal) (ix2 i j) = Er m c (ix2 ⟨t.val * 512 + i.val, h⟩ j) := by
  rw [pay10_at, Er_at, xh_at m c t i j h, blk3 m c t i j h, blk4]
theorem dy_at (c : Dev nD) (t : Fin cfg0.N) (i : Fin 512) (j : Fin 1024) (h : t.val * 512 + i.val < 2048) :
    (k0_pay11 (F := Ideal) (iblk m c 0 t) (iblk m c 1 t) (iblk m c 2 t) (iblk m c 3 t) (iblk m c 4 t) : S512x1024.Idx → EReal) (ix2 i j) = cot (Er m c) (ix2 ⟨t.val * 512 + i.val, h⟩ j) := by
  rw [pay11_at, cot_at, e_at m c t i j h]
theorem dx_at (c : Dev nD) (hr : Finite m c) (t : Fin cfg0.N) (i : Fin 512) (j : Fin 1024) (h : t.val * 512 + i.val < 2048) :
    (k0_pay12 (F := Ideal) (iblk m c 0 t) (iblk m c 1 t) (iblk m c 2 t) (iblk m c 3 t) (iblk m c 4 t) : S512x1024.Idx → EReal) (ix2 i j) = DX m c (ix2 ⟨t.val * 512 + i.val, h⟩ j) := by
  rw [pay12_at, DX, back0_at _ _ (X_real m c hr) (D_real m c hr)]
  congr 1 <;> funext k
  · exact x_at m c t i k h
  · rw [dy_at m c t i k h, blk4, show D m c (ix2 ⟨t.val * 512 + i.val, h⟩ k) = cot (Er m c) (ix2 ⟨t.val * 512 + i.val, h⟩ k) * aG m c (ix1 k) from by pointwise [D]]

/-- The first two results after the run: the rows' gradient, and the same rounded. -/
theorem final_dx (c : Dev nD) (hr : Finite m c) : (dats m 0 c).arrAt 5 (cfgs 0).N = DX m c := by
  refine (dats m 0 c).arrAt_eq_of_covers 5 _ (by decide +kernel) fun t _ y => ?_
  blk_simp
  idx_vars y
  have ht : t.val < 4 := lt_of_lt_of_eq t.isLt N_0
  have h : t.val * 512 + y0.val < 2048 := by omega
  rw [after0_5, show ((cfg0.win 5).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

theorem final_dxb (c : Dev nD) (hr : Finite m c) : (dats m 0 c).arrAt 6 (cfgs 0).N = truncf .bf16 (DX m c) Cert.LossRefIdeal.Gen.bitsLt_bf16_f32 := by
  refine (dats m 0 c).arrAt_eq_of_covers 6 _ (by decide +kernel) fun t _ y => ?_
  blk_simp
  idx_vars y
  have ht : t.val < 4 := lt_of_lt_of_eq t.isLt N_0
  have h : t.val * 512 + y0.val < 2048 := by omega
  rw [after0_6, show ((cfg0.win 6).blk t).view.emb (ix2 y0 y1) = (ix2 ⟨t.val * 512 + y0.val, h⟩ y1 : S2048x1024.Idx) from by blk_ext [idx t]]
  by_cases h0 : t.val % 4 = 0
  · rw [outsAt0_A m c t h0]; frame_out
    exact dx_at m c hr t y0 y1 h
  · rw [outsAt0_B m c t h0]; frame_out
    exact dx_at m c hr t y0 y1 h

/-- A point's part of each row of sums: half its rows' mean squares in every column, and the gain's rows. -/
def lossPart (q : FVec Ideal Cert.LossRefIdeal.S2048 .f32) (p : Fin cfg0.N) : EReal :=
  Ideal.ofBits .f32 0x3F000000#32 * ∑ k : Fin 512, q (ix1 ⟨p.val * 512 + k.val, by have : p.val < 4 := lt_of_lt_of_eq p.isLt N_0; omega⟩)
def gainPart (G : FVec Ideal S2048x1024 .f32) (p : Fin cfg0.N) (j : S1x1024.Idx) : EReal :=
  ∑ k : Fin 512, G (ix2 ⟨p.val * 512 + k.val, by have : p.val < 4 := lt_of_lt_of_eq p.isLt N_0; omega⟩ (j 1))

/-- The parts of a real array add up to the whole. -/
theorem lossPart_sum (q : FVec Ideal Cert.LossRefIdeal.S2048 .f32) (hq : IsReal (q : Cert.LossRefIdeal.S2048.Idx → EReal)) (n : Fin 4 → Fin cfg0.N) (hn : ∀ s, (n s).val = s.val) :
    ∑ s : Fin 4, lossPart q (n s) = Ideal.ofBits .f32 0x3F000000#32 * ∑ i : Fin 2048, q (ix1 i) := by
  obtain ⟨q, rfl⟩ := hq
  have h1 : Ideal.ofBits .f32 0x3F000000#32 = ((1 / 2 : ℝ) : EReal) := by simp [Ideal.ofBits, Ideal.ieee]; norm_cast; norm_num
  have e : ∑ i : Fin 2048, q (ix1 i) = ∑ s : Fin 4, ∑ k : Fin 512, q (ix1 ⟨(n s).val * 512 + k.val, by rw [hn]; omega⟩) :=
    (Fin.sum_mul_add_congr fun s k hl => by simp only [hn]).symm
  simp only [lossPart, h1, ← EReal.coe_mul, ← coe_sum, e, Finset.mul_sum]

/-- One point's addition to the two rows of sums. -/
theorem add7 (c : Dev nD) (t : Fin cfg0.N) (a : FVec Ideal S1x1024 .f32) (j : S1x1024.Idx) :
    (k0_pay4 (F := Ideal) (k0_pay13 (iblk m c 0 t) (iblk m c 1 t) (iblk m c 2 t) (iblk m c 3 t) (iblk m c 4 t)) a : S1x1024.Idx → EReal) j = a j + lossPart (msq (Er m c)) t := by
  have ht : t.val < 4 := lt_of_lt_of_eq t.isLt N_0
  idx_vars j
  obtain rfl : j0 = 0 := Subsingleton.elim _ _
  refine (pay4_at _ _ _).trans (congrArg₂ _ rfl (congrArg₂ _ rfl (Finset.sum_congr rfl fun k _ => ?_)))
  rw [msq_at, pay13_at]
  simp only [e_at m c t k _ (show t.val * 512 + k.val < 2048 by omega)]
theorem add8 (c : Dev nD) (t : Fin cfg0.N) (a : FVec Ideal S1x1024 .f32) (j : S1x1024.Idx) :
    (k0_pay5 (F := Ideal) (k0_pay9 (iblk m c 0 t) (iblk m c 1 t) (iblk m c 2 t)) (k0_pay11 (iblk m c 0 t) (iblk m c 1 t) (iblk m c 2 t) (iblk m c 3 t) (iblk m c 4 t)) a : S1x1024.Idx → EReal) j = a j + gainPart (DGain m c) t j := by
  have ht : t.val < 4 := lt_of_lt_of_eq t.isLt N_0
  idx_vars j
  obtain rfl : j0 = 0 := Subsingleton.elim _ _
  refine (pay5_at _ _ _ _).trans (congrArg₂ _ rfl (Finset.sum_congr rfl fun k _ => ?_))
  rw [dy_at m c t k j1 (by omega), xh_at m c t k j1 (by omega), mul_comm]
  rfl

/-- At the first point each row of sums holds that point's part; at every later one the part is added. -/
theorem reset7 (c : Dev nD) (t : Fin cfg0.N) (h : t.val % 4 = 0) (j : S1x1024.Idx) :
    ((outsAt0 m c t.val t.isLt).2.2.1 : S1x1024.Idx → EReal) j = 0 + lossPart (msq (Er m c)) t := by
  rw [outsAt0_A m c t h]; frame_out
  exact (add7 m c t _ j).trans (congrArg₂ _ (by pointwise [k0_pay2]) rfl)
theorem step7 (c : Dev nD) (t : Fin cfg0.N) (h : ¬t.val % 4 = 0) (j : S1x1024.Idx) :
    ((outsAt0 m c t.val t.isLt).2.2.1 : S1x1024.Idx → EReal) j
      = (outsAt0 m c (t.val - 1) (Nat.lt_of_le_of_lt (Nat.sub_le _ _) t.isLt)).2.2.1 j + lossPart (msq (Er m c)) t := by
  rw [outsAt0_B m c t h]; frame_out
  exact add7 m c t _ j
theorem reset8 (c : Dev nD) (t : Fin cfg0.N) (h : t.val % 4 = 0) (j : S1x1024.Idx) :
    ((outsAt0 m c t.val t.isLt).2.2.2 : S1x1024.Idx → EReal) j = 0 + gainPart (DGain m c) t j := by
  rw [outsAt0_A m c t h]; frame_out
  exact (add8 m c t _ j).trans (congrArg₂ _ (by pointwise [k0_pay3]) rfl)
theorem step8 (c : Dev nD) (t : Fin cfg0.N) (h : ¬t.val % 4 = 0) (j : S1x1024.Idx) :
    ((outsAt0 m c t.val t.isLt).2.2.2 : S1x1024.Idx → EReal) j
      = (outsAt0 m c (t.val - 1) (Nat.lt_of_le_of_lt (Nat.sub_le _ _) t.isLt)).2.2.2 j + gainPart (DGain m c) t j := by
  rw [outsAt0_B m c t h]; frame_out
  exact add8 m c t _ j
theorem final7 (c : Dev nD) (hr : Finite m c) : (dats m 0 c).arrAt 7 (cfgs 0).N = loss (msq (Er m c)) := by
  refine (dats m 0 c).arrAt_eq_of_after_last 7 t0_3 (by decide +kernel) _ fun j => ?_
  blk_simp
  rw [after0_7, Pipeline.eq_sum_fin_of_reset_step_apply_last (fun n h => (outsAt0 m c n h).2.2.1) 4 (fun _ => 0) (fun p j => lossPart (msq (Er m c)) p)
    (fun t h j => reset7 m c t h j) (fun t h j => step7 m c t h j) (le_of_eq N_0) t0_3 rfl j, zero_add]
  idx_vars j
  obtain rfl : j0 = 0 := Subsingleton.elim _ _
  rw [loss_at]
  exact lossPart_sum _ (msq_real m c hr) _ fun _ => rfl
theorem final8 (c : Dev nD) : (dats m 0 c).arrAt 8 (cfgs 0).N = colsum (DGain m c) := by
  refine (dats m 0 c).arrAt_eq_of_after_last 8 t0_3 (by decide +kernel) _ fun j => ?_
  blk_simp
  rw [after0_8, Pipeline.eq_sum_fin_of_reset_step_apply_last (fun n h => (outsAt0 m c n h).2.2.2) 4 (fun _ => 0) (fun p j => gainPart (DGain m c) p j)
    (fun t h j => reset8 m c t h j) (fun t h j => step8 m c t h j) (le_of_eq N_0) t0_3 rfl j, zero_add]
  idx_vars j
  obtain rfl : j0 = 0 := Subsingleton.elim _ _
  rw [colsum_at]
  exact Fin.sum_mul_add_congr fun s k hl => rfl

end Cert.LossHeadIdeal.Grad

namespace Cert.Proof

/-- The precondition's side conditions on shapes. -/
instance facts_finite_loss : Cert.Pre_finite_loss.Facts where
  bcast_S_S2048x1024 := by decide
  reducesTo_S2048x1024_S_d0_1 := by decide
  h_S_ := by decide
  bcast_S_S2048x4096 := by decide
  reducesTo_S2048x4096_S_d0_1 := by decide
  bcast_S_S4096x1024 := by decide
  reducesTo_S4096x1024_S_d0_1 := by decide
  bcast_S_S1024 := by decide
  reducesTo_S1024_S_d0 := by decide

theorem frame_LossHead : Cert.quiescent_LossHead := fun m ρ _ => Cert.LossHead.Gen.frame m ρ
theorem frame_LossHeadIdeal : Cert.quiescent_LossHeadIdeal := fun m ρ _ => Cert.LossHeadIdeal.Gen.frame m ρ
/-- The reference's frame: its run leaves the arguments, and it declares no semaphore. -/
theorem frame_LossRefIdeal : Cert.quiescent_LossRefIdeal := fun m ρ _ =>
  (θ_run Cert.LossRefIdeal.defs _ _).mono (fun r h => ⟨fun c => (h c).2.2.2.2,
      Idealize.ShloMosaic.sem_eq_zero_of_no_sems (by decide) r.2⟩) (Cert.LossRefIdeal.Value.run (F := Ideal) m ρ)

/-- What the precondition says: the five arrays are real. -/
theorem finite_loss_real (m : (ℓ : Loc Cert.LossHeadIdeal.nD Cert.LossHeadIdeal.τ Cert.LossHeadIdeal.sig) → Buf (Elt Ideal) ℓ)
    (h : Cert.Pre_LossHeadIdeal_finite_loss m) (c : Dev Cert.LossHeadIdeal.nD) : Cert.LossHeadIdeal.Grad.Finite m c := by
  have e := congrFun (h c) (fun a => a.elim0)
  obtain ⟨e, e5⟩ := Cert.Finite.andi_eq_one e
  obtain ⟨e, e4⟩ := Cert.Finite.andi_eq_one e
  obtain ⟨e, e3⟩ := Cert.Finite.andi_eq_one e
  obtain ⟨e1, e2⟩ := Cert.Finite.andi_eq_one e
  exact ⟨Cert.Finite.isReal_of_all _ _ _ _ _ _ _ e1, Cert.Finite.isReal_of_all _ _ _ _ _ _ _ e2, Cert.Finite.isReal_of_all _ _ _ _ _ _ _ e3,
    Cert.Finite.isReal_of_all _ _ _ _ _ _ _ e4, Cert.Finite.isReal_of_all _ _ _ _ _ _ _ e5⟩

open Cert.LossHeadIdeal.Grad in
/-- Kernel and reference end with the same four results. -/
theorem algebraic_Loss : Cert.algebraic_LossHeadIdeal_LossRefIdeal_pre_finite_loss := by
  intro m ρ m' ρ' hpre hagree
  refine ⟨fun c => DX m c, fun c => truncf .bf16 (DX m c) Cert.LossRefIdeal.Gen.bitsLt_bf16_f32, fun c => loss (msq (Er m c)), fun c => Cert.Norm.colsum (DGain m c), ?_, ?_⟩
  · refine (θ_run Cert.LossHeadIdeal.defs _ _).mono (fun _ h c => ?_) (Cert.LossHeadIdeal.Value.run_blocks (F := Ideal) m ρ)
    have hr := finite_loss_real m hpre c
    exact ⟨(h c).1.trans (final_dx m c hr), (h c).2.1.trans (final_dxb m c hr), (h c).2.2.1.trans (final7 m c hr), (h c).2.2.2.1.trans (final8 m c), (h c).2.2.2.2⟩
  · refine (θ_run Cert.LossRefIdeal.defs _ _).mono (fun _ h c => ⟨(h c).1.trans ?_, (h c).2.1.trans ?_, (h c).2.2.1.trans ?_, (h c).2.2.2.1.trans ?_, (h c).2.2.2.2⟩)
      (Cert.LossRefIdeal.Value.run (F := Ideal) m' ρ')
    all_goals
      obtain ⟨h0, h1, h2, h3, h4⟩ := hagree c
      simp only [Cert.LossRefIdeal.Value.res_main_v52, Cert.LossRefIdeal.Value.res_main_v53]
      rewrite [h0, h1, h2, h3, h4]
      dsimp only [DX, DGain, D, Er, X, loss, msq, cot, half, Cert.Norm.back0, Cert.Norm.colsum, Cert.Norm.coef, Cert.Norm.hat, Cert.Norm.inv, Cert.Norm.ms]

end Cert.Proof

end
-- ==== Proof.S5Real.lean ====
/- The gradient of the state space's discretisation at one state: the kernel's closed form and reverse mode's sum of terms are one number. -/
module

public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.Discretise

open Idealize.ShloMosaic Cert.Finite

/-- The bound on the real part, and one. -/
abbrev cL : EReal := Ideal.ofBits .f32 0xB8D1B717#32
abbrev c1 : EReal := Ideal.ofBits .f32 0x3F800000#32
theorem c1_eq : c1 = ((1 : ℝ) : EReal) := by simp [c1, Ideal.ofBits, Ideal.ieee]; norm_cast; norm_num
theorem cL_eq : ∃ l : ℝ, l < 0 ∧ cL = (l : EReal) := by
  refine ⟨_, ?_, by simp [cL, Ideal.ofBits, Ideal.ieee]; rfl⟩
  norm_num

/-- What both sides compute from the parameters of one state: the clipped real part, the step, the exponential's modulus, the
    angle's cosine and sine, the discretised pole, the squared modulus of the pole, and the input factor's numerators and itself. -/
def L (a : EReal) : EReal := min a cL
def dt (T : EReal) : EReal := Ideal.exp T
def ex (a T : EReal) : EReal := Ideal.exp (L a * dt T)
def co (b T : EReal) : EReal := Ideal.cos (b * dt T)
def si (b T : EReal) : EReal := Ideal.sin (b * dt T)
def lbr (a b T : EReal) : EReal := ex a T * co b T
def lbi (a b T : EReal) : EReal := ex a T * si b T
def N (a b : EReal) : EReal := L a * L a + b * b
def nr (a b T : EReal) : EReal := (lbr a b T - c1) * L a + lbi a b T * b
def ni (a b T : EReal) : EReal := lbi a b T * L a - (lbr a b T - c1) * b
def fr (a b T : EReal) : EReal := Ideal.div (nr a b T) (N a b)
def fi (a b T : EReal) : EReal := Ideal.div (ni a b T) (N a b)

/-- The kernel's: the factor over the pole, and the cotangents of the discretised pole and of its logarithm. -/
def qr (a b T : EReal) : EReal := Ideal.div (fr a b T * L a + fi a b T * b) (N a b)
def qi (a b T : EReal) : EReal := Ideal.div (fi a b T * L a - fr a b T * b) (N a b)
def gr (a b p q u : EReal) : EReal := u + Ideal.div (p * L a - q * b) (N a b)
def gi (a b p q w : EReal) : EReal := w + Ideal.div (p * b + q * L a) (N a b)
def zr (a b T p q u w : EReal) : EReal := gr a b p q u * lbr a b T + gi a b p q w * lbi a b T
def zi (a b T p q u w : EReal) : EReal := gi a b p q w * lbr a b T - gr a b p q u * lbi a b T
def kerA (a b T p q u w : EReal) : EReal := (0 - (p * qr a b T + q * qi a b T)) + zr a b T p q u w * dt T
def kerB (a b T p q u w : EReal) : EReal := (0 - (q * qr a b T - p * qi a b T)) + zi a b T p q u w * dt T
def kerT (a b T p q u w : EReal) : EReal := zr a b T p q u w * L a + zi a b T p q u w * b

/-- Reverse mode's: through the quotients' denominator, the discretised pole's two parts, and their four products. -/
def den (a b T p q : EReal) : EReal :=
  -(q * Ideal.div c1 (N a b * N a b) * ni a b T) + -(p * Ideal.div c1 (N a b * N a b) * nr a b T)
def vi (a b p q w : EReal) : EReal := w + Ideal.div q (N a b) * L a + Ideal.div p (N a b) * b
def vr (a b p q u : EReal) : EReal := u + -Ideal.div q (N a b) * b + Ideal.div p (N a b) * L a
def t1 (a b T p q w : EReal) : EReal := ex a T * vi a b p q w * co b T
def t2 (a b T p q w : EReal) : EReal := vi a b p q w * si b T * ex a T
def t3 (a b T p q u : EReal) : EReal := -(ex a T * vr a b p q u) * si b T
def t4 (a b T p q u : EReal) : EReal := vr a b p q u * co b T * ex a T
def refA (a b T p q u w : EReal) : EReal :=
  lbi a b T * Ideal.div q (N a b) + (lbr a b T - c1) * Ideal.div p (N a b) + L a * den a b T p q + den a b T p q * L a
    + t2 a b T p q w * dt T + t4 a b T p q u * dt T
def refB (a b T p q u w : EReal) : EReal :=
  (lbr a b T - c1) * -Ideal.div q (N a b) + lbi a b T * Ideal.div p (N a b) + b * den a b T p q + den a b T p q * b
    + t1 a b T p q w * dt T + t3 a b T p q u * dt T

/-- The clipped real part is a negative real, so the squared modulus is positive. -/
theorem L_coe (a : ℝ) : ∃ l : ℝ, l < 0 ∧ L a = (l : EReal) := by
  obtain ⟨l, hl, e⟩ := cL_eq
  exact ⟨min a l, lt_of_le_of_lt (min_le_right _ _) hl, by rw [L, e]; exact (EReal.coe_strictMono.monotone.map_min (a := a) (b := l)).symm⟩

/-- Real arguments: the two sides agree, term for term of the sum over the states too. -/
theorem refA_eq (a b T p q u w : ℝ) : refA a b T p q u w = kerA a b T p q u w := by
  obtain ⟨l, hl, e⟩ := L_coe a
  have h : l * l + b * b ≠ 0 := (add_pos_of_pos_of_nonneg (mul_pos_of_neg_of_neg hl hl) (mul_self_nonneg b)).ne'
  have h2 : (l * l + b * b) * (l * l + b * b) ≠ 0 := mul_ne_zero h h
  simp only [refA, kerA, den, t2, t4, vi, vr, zr, zi, gr, gi, qr, qi, fr, fi, nr, ni, N, lbr, lbi, ex, co, si, dt, e, c1_eq, Ideal.exp_coe,
    Ideal.cos_coe, Ideal.sin_coe, ← EReal.coe_mul, ← EReal.coe_add, ← EReal.coe_sub, ← EReal.coe_neg, ← EReal.coe_zero, Ideal.div_coe h, Ideal.div_coe h2]
  congr 1
  field_simp
  ring
theorem refB_eq (a b T p q u w : ℝ) : refB a b T p q u w = kerB a b T p q u w := by
  obtain ⟨l, hl, e⟩ := L_coe a
  have h : l * l + b * b ≠ 0 := (add_pos_of_pos_of_nonneg (mul_pos_of_neg_of_neg hl hl) (mul_self_nonneg b)).ne'
  have h2 : (l * l + b * b) * (l * l + b * b) ≠ 0 := mul_ne_zero h h
  simp only [refB, kerB, den, t1, t3, vi, vr, zr, zi, gr, gi, qr, qi, fr, fi, nr, ni, N, lbr, lbi, ex, co, si, dt, e, c1_eq, Ideal.exp_coe,
    Ideal.cos_coe, Ideal.sin_coe, ← EReal.coe_mul, ← EReal.coe_add, ← EReal.coe_sub, ← EReal.coe_neg, ← EReal.coe_zero, Ideal.div_coe h, Ideal.div_coe h2]
  congr 1
  field_simp
  ring

/-- One state's part of the step's gradient. -/
theorem refT_eq (a b T p q u w : ℝ) : b * t1 a b T p q w + L a * t2 a b T p q w + b * t3 a b T p q u + L a * t4 a b T p q u
    = kerT a b T p q u w := by
  obtain ⟨l, hl, e⟩ := L_coe a
  have h : l * l + b * b ≠ 0 := (add_pos_of_pos_of_nonneg (mul_pos_of_neg_of_neg hl hl) (mul_self_nonneg b)).ne'
  simp only [t1, t2, t3, t4, kerT, vi, vr, zr, zi, gr, gi, N, lbr, lbi, ex, co, si, dt, e, Ideal.exp_coe,
    Ideal.cos_coe, Ideal.sin_coe, ← EReal.coe_mul, ← EReal.coe_add, ← EReal.coe_sub, ← EReal.coe_neg, Ideal.div_coe h]
  congr 1
  field_simp
  ring

/-- The same for extended reals that are real numbers. -/
def IsR (x : EReal) : Prop := ∃ r : ℝ, x = r
theorem refA_of_real (a b T p q u w : EReal) (ha : IsR a) (hb : IsR b) (hT : IsR T) (hp : IsR p) (hq : IsR q) (hu : IsR u) (hw : IsR w) :
    refA a b T p q u w = kerA a b T p q u w := by
  obtain ⟨a, rfl⟩ := ha; obtain ⟨b, rfl⟩ := hb; obtain ⟨T, rfl⟩ := hT; obtain ⟨p, rfl⟩ := hp
  obtain ⟨q, rfl⟩ := hq; obtain ⟨u, rfl⟩ := hu; obtain ⟨w, rfl⟩ := hw
  exact refA_eq a b T p q u w
theorem refB_of_real (a b T p q u w : EReal) (ha : IsR a) (hb : IsR b) (hT : IsR T) (hp : IsR p) (hq : IsR q) (hu : IsR u) (hw : IsR w) :
    refB a b T p q u w = kerB a b T p q u w := by
  obtain ⟨a, rfl⟩ := ha; obtain ⟨b, rfl⟩ := hb; obtain ⟨T, rfl⟩ := hT; obtain ⟨p, rfl⟩ := hp
  obtain ⟨q, rfl⟩ := hq; obtain ⟨u, rfl⟩ := hu; obtain ⟨w, rfl⟩ := hw
  exact refB_eq a b T p q u w
theorem refT_of_real (a b p q u w : Fin 64 → EReal) (T : EReal) (ha : ∀ s, IsR (a s)) (hb : ∀ s, IsR (b s)) (hT : IsR T) (hp : ∀ s, IsR (p s))
    (hq : ∀ s, IsR (q s)) (hu : ∀ s, IsR (u s)) (hw : ∀ s, IsR (w s)) :
    ∑ s, b s * t1 (a s) (b s) T (p s) (q s) (w s) + ∑ s, L (a s) * t2 (a s) (b s) T (p s) (q s) (w s)
      + ∑ s, b s * t3 (a s) (b s) T (p s) (q s) (u s) + ∑ s, L (a s) * t4 (a s) (b s) T (p s) (q s) (u s)
      = ∑ s, kerT (a s) (b s) T (p s) (q s) (u s) (w s) := by
  rw [← Finset.sum_add_distrib, ← Finset.sum_add_distrib, ← Finset.sum_add_distrib]
  refine Finset.sum_congr rfl fun s _ => ?_
  obtain ⟨a', ea⟩ := ha s; obtain ⟨b', eb⟩ := hb s; obtain ⟨T, rfl⟩ := hT; obtain ⟨p', ep⟩ := hp s
  obtain ⟨q', eq⟩ := hq s; obtain ⟨u', eu⟩ := hu s; obtain ⟨w', ew⟩ := hw s
  rw [ea, eb, ep, eq, eu, ew]
  exact refT_eq a' b' T p' q' u' w'
theorem isR_of {ι : Type*} {x : ι → EReal} (h : IsReal x) (i : ι) : IsR (x i) := by
  obtain ⟨r, rfl⟩ := h
  exact ⟨r i, rfl⟩

end Cert.Discretise

end
-- ==== Proof.S5Param.lean ====
/- The gradient of the state space's discretisation: the seven results of `s5_param_bwd` are the reference's. -/
module

public import proofs.«01_k».proof.Defs
public import proofs.«01_k».proof.Proof.Gen.S5Param.Frame
public import proofs.«01_k».proof.Proof.Gen.S5ParamIdeal.Frame
public import proofs.«01_k».proof.Proof.Gen.S5ParamRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.S5Real

@[expose] public section

set_option maxRecDepth 16384

noncomputable section

open Idealize.ShloMosaic Idealize.ShloMosaic.TcCoe Idealize.SL.Sem
open Idealize.ShloMosaic.Pipeline (Dat)

namespace Cert.S5ParamIdeal.Grad

open Cert.S5ParamIdeal Cert.S5ParamIdeal.Gen Cert.Finite Cert.Discretise

variable (m : (ℓ : Loc nD τ sig) → Buf (Elt Ideal) ℓ)

/-- The thirteen argument arrays of device `c`: the pole's two parts, the step's logarithm, the two matrices in pairs, and the
    cotangents of the discretised pole and of the two matrices. -/
abbrev aA (c : Dev nD) : FVec Ideal S64x64 .f32 := m ((c : Thread nD τ).loc main_arg0)
abbrev aB (c : Dev nD) : FVec Ideal S64x64 .f32 := m ((c : Thread nD τ).loc main_arg1)
abbrev aT (c : Dev nD) : FVec Ideal S64 .f32 := m ((c : Thread nD τ).loc main_arg2)
abbrev aBr (c : Dev nD) : FVec Ideal S64x64x16 .f32 := m ((c : Thread nD τ).loc main_arg3)
abbrev aBi (c : Dev nD) : FVec Ideal S64x64x16 .f32 := m ((c : Thread nD τ).loc main_arg4)
abbrev aU (c : Dev nD) : FVec Ideal S64x64 .f32 := m ((c : Thread nD τ).loc main_arg7)
abbrev aW (c : Dev nD) : FVec Ideal S64x64 .f32 := m ((c : Thread nD τ).loc main_arg8)
abbrev aGr (c : Dev nD) : FVec Ideal S64x64x16 .f32 := m ((c : Thread nD τ).loc main_arg9)
abbrev aGi (c : Dev nD) : FVec Ideal S64x64x16 .f32 := m ((c : Thread nD τ).loc main_arg10)
abbrev aHr (c : Dev nD) : FVec Ideal S64x16x64 .f32 := m ((c : Thread nD τ).loc main_arg11)
abbrev aHi (c : Dev nD) : FVec Ideal S64x16x64 .f32 := m ((c : Thread nD τ).loc main_arg12)

/-- The cotangent of the input factor of a state: its two parts, summed over the inputs. -/
def P (br bi gr gi : FVec Ideal S64x64x16 .f32) (g s : Fin 64) : EReal := ∑ k : Fin 16, (gr (ix3 g s k) * br (ix3 g s k) + gi (ix3 g s k) * bi (ix3 g s k))
def Q (br bi gr gi : FVec Ideal S64x64x16 .f32) (g s : Fin 64) : EReal := ∑ k : Fin 16, (gi (ix3 g s k) * br (ix3 g s k) - gr (ix3 g s k) * bi (ix3 g s k))
/-- The clip's derivative: one where the pole's real part lies below the bound, a half on it, nothing above. -/
def mask (a : EReal) : EReal :=
  if a < cL then 1 else if a = cL then Ideal.ofBits .f32 0x3F000000#32 else 0

/-- The seven results. -/
def DA (c : Dev nD) : FVec Ideal S64x1x64 .f32 := fun i =>
  kerA (aA m c (ix2 (i 0) (i 2))) (aB m c (ix2 (i 0) (i 2))) (aT m c (ix1 (i 0))) (P (aBr m c) (aBi m c) (aGr m c) (aGi m c) (i 0) (i 2))
    (Q (aBr m c) (aBi m c) (aGr m c) (aGi m c) (i 0) (i 2)) (aU m c (ix2 (i 0) (i 2))) (aW m c (ix2 (i 0) (i 2))) * mask (aA m c (ix2 (i 0) (i 2)))
def DB (c : Dev nD) : FVec Ideal S64x1x64 .f32 := fun i =>
  kerB (aA m c (ix2 (i 0) (i 2))) (aB m c (ix2 (i 0) (i 2))) (aT m c (ix1 (i 0))) (P (aBr m c) (aBi m c) (aGr m c) (aGi m c) (i 0) (i 2))
    (Q (aBr m c) (aBi m c) (aGr m c) (aGi m c) (i 0) (i 2)) (aU m c (ix2 (i 0) (i 2))) (aW m c (ix2 (i 0) (i 2)))
def DT (c : Dev nD) : FVec Ideal S64x1x1 .f32 := fun i =>
  (∑ s : Fin 64, kerT (aA m c (ix2 (i 0) s)) (aB m c (ix2 (i 0) s)) (aT m c (ix1 (i 0))) (P (aBr m c) (aBi m c) (aGr m c) (aGi m c) (i 0) s)
    (Q (aBr m c) (aBi m c) (aGr m c) (aGi m c) (i 0) s) (aU m c (ix2 (i 0) s)) (aW m c (ix2 (i 0) s))) * dt (aT m c (ix1 (i 0)))
def DBr (c : Dev nD) : FVec Ideal S64x16x64 .f32 := fun i =>
  fr (aA m c (ix2 (i 0) (i 2))) (aB m c (ix2 (i 0) (i 2))) (aT m c (ix1 (i 0))) * aGr m c (ix3 (i 0) (i 2) (i 1))
    + fi (aA m c (ix2 (i 0) (i 2))) (aB m c (ix2 (i 0) (i 2))) (aT m c (ix1 (i 0))) * aGi m c (ix3 (i 0) (i 2) (i 1))
def DBi (c : Dev nD) : FVec Ideal S64x16x64 .f32 := fun i =>
  fr (aA m c (ix2 (i 0) (i 2))) (aB m c (ix2 (i 0) (i 2))) (aT m c (ix1 (i 0))) * aGi m c (ix3 (i 0) (i 2) (i 1))
    - fi (aA m c (ix2 (i 0) (i 2))) (aB m c (ix2 (i 0) (i 2))) (aT m c (ix1 (i 0))) * aGr m c (ix3 (i 0) (i 2) (i 1))
def DCr (c : Dev nD) : FVec Ideal S64x16x64 .f32 := aHr m c
def DCi (c : Dev nD) : FVec Ideal S64x16x64 .f32 := fun i => -aHi m c i

/-- What the region finds in the arrays it reads: the four matrices' cotangents in one array, and the pole's two in slices of another. -/
def mats (gr gi : FVec Ideal S64x64x16 .f32) (hr hi : FVec Ideal S64x16x64 .f32) : FVec Ideal S2048x128 .f32 :=
  concatenate S2048x128 0 [⟨S1024x128, concatenate S1024x128 1 [⟨S1024x64, shapeCast S1024x64 (transpose S64x16x64 [0, 2, 1] gr transposes_S64x64x16_S64x16x64_0_2_1) shapeCasts_S64x16x64_S1024x64⟩,
      ⟨S1024x64, shapeCast S1024x64 (transpose S64x16x64 [0, 2, 1] gi transposes_S64x64x16_S64x16x64_0_2_1) shapeCasts_S64x16x64_S1024x64⟩] concatenates_S1024x64_S1024x64_S1024x128_d1⟩,
    ⟨S1024x128, concatenate S1024x128 1 [⟨S1024x64, shapeCast S1024x64 hr shapeCasts_S64x16x64_S1024x64⟩,
      ⟨S1024x64, shapeCast S1024x64 hi shapeCasts_S64x16x64_S1024x64⟩] concatenates_S1024x64_S1024x64_S1024x128_d1⟩] concatenates_S1024x128_S1024x128_S2048x128_d0
def lams (u w : FVec Ideal S64x64 .f32) : FVec Ideal S64x128 .f32 :=
  concatenate S64x128 0 [⟨S32x128, shapeCast S32x128 u shapeCasts_S64x64_S32x128⟩, ⟨S32x128, shapeCast S32x128 w shapeCasts_S64x64_S32x128⟩] concatenates_S32x128_S32x128_S64x128_d0
theorem V_mats (c : Dev nD) : V m c main_v8 = mats (aGr m c) (aGi m c) (aHr m c) (aHi m c) := by unfold V; after_results; rfl
theorem V_u (c : Dev nD) : V m c main_v13 = shapeCast S64x1x64 (extractStridedSlice S32x128 ![0, 0] (lams (aU m c) (aW m c)) slices_S64x128_S32x128_0_0) shapeCasts_S32x128_S64x1x64 := by
  unfold V; after_results; rfl
theorem V_w (c : Dev nD) : V m c main_v15 = shapeCast S64x1x64 (extractStridedSlice S32x128 ![32, 0] (lams (aU m c) (aW m c)) slices_S64x128_S32x128_32_0) shapeCasts_S32x128_S64x1x64 := by
  unfold V; after_results; rfl
theorem V_a (c : Dev nD) : V m c main_v16 = broadcastInDim S64x1x64 ![0, 2] bcast_S64x64_S64x1x64_0_2 (aA m c) := by unfold V; after_results
theorem V_b (c : Dev nD) : V m c main_v17 = broadcastInDim S64x1x64 ![0, 2] bcast_S64x64_S64x1x64_0_2 (aB m c) := by unfold V; after_results
theorem V_t (c : Dev nD) : V m c main_v18 = broadcastInDim S64x1x1 ![0] bcast_S64_S64x1x1_0 (aT m c) := by unfold V; after_results
theorem V_br (c : Dev nD) : V m c main_v19 = transpose S64x16x64 [0, 2, 1] (aBr m c) transposes_S64x64x16_S64x16x64_0_2_1 := by unfold V; after_results
theorem V_bi (c : Dev nD) : V m c main_v20 = transpose S64x16x64 [0, 2, 1] (aBi m c) transposes_S64x64x16_S64x16x64_0_2_1 := by unfold V; after_results

/-- The four matrices' cotangents where the body reads them. -/
theorem mats_gr (gr gi : FVec Ideal S64x64x16 .f32) (hr hi : FVec Ideal S64x16x64 .f32) (g : Fin 64) (k : Fin 16) (s : Fin 64) (h : g.val * 16 + k.val < 2048) :
    mats gr gi hr hi (ix2 ⟨g.val * 16 + k.val, h⟩ ⟨s.val, by omega⟩) = gr (ix3 g s k) := by
  pointwise [mats]
  rw [dif_pos (by omega)]
theorem mats_gi (gr gi : FVec Ideal S64x64x16 .f32) (hr hi : FVec Ideal S64x16x64 .f32) (g : Fin 64) (k : Fin 16) (s : Fin 64) (h : g.val * 16 + k.val < 2048) :
    mats gr gi hr hi (ix2 ⟨g.val * 16 + k.val, h⟩ ⟨64 + s.val, by omega⟩) = gi (ix3 g s k) := by
  pointwise [mats]
  rw [dif_pos (by omega)]
theorem mats_hr (gr gi : FVec Ideal S64x64x16 .f32) (hr hi : FVec Ideal S64x16x64 .f32) (g : Fin 64) (k : Fin 16) (s : Fin 64) (h : 1024 + (g.val * 16 + k.val) < 2048) :
    mats gr gi hr hi (ix2 ⟨1024 + (g.val * 16 + k.val), h⟩ ⟨s.val, by omega⟩) = hr (ix3 g k s) := by
  pointwise [mats]
theorem mats_hi (gr gi : FVec Ideal S64x64x16 .f32) (hr hi : FVec Ideal S64x16x64 .f32) (g : Fin 64) (k : Fin 16) (s : Fin 64) (h : 1024 + (g.val * 16 + k.val) < 2048) :
    mats gr gi hr hi (ix2 ⟨1024 + (g.val * 16 + k.val), h⟩ ⟨64 + s.val, by omega⟩) = hi (ix3 g k s) := by
  pointwise [mats]
theorem V_u_at (c : Dev nD) (g s : Fin 64) : (V m c main_v13 : S64x1x64.Idx → EReal) (ix3 g 0 s) = aU m c (ix2 g s) := by
  rw [V_u]; pointwise [lams]
  rw [dif_pos (by omega)]
theorem V_w_at (c : Dev nD) (g s : Fin 64) : (V m c main_v15 : S64x1x64.Idx → EReal) (ix3 g 0 s) = aW m c (ix2 g s) := by
  rw [V_w]; pointwise [lams]

/-- Every window's block index at the one point, and the blocks there, read at an index. -/
theorem idx : ∀ t : Fin cfg0.N, win0_0.index t = ![0, 0] ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0]
    ∧ win0_8.index t = ![0, 0, 0] ∧ win0_9.index t = ![0, 0, 0] ∧ win0_10.index t = ![0, 0, 0] ∧ win0_11.index t = ![0, 0, 0]
    ∧ win0_12.index t = ![0, 0, 0] ∧ win0_13.index t = ![0, 0, 0] ∧ win0_14.index t = ![0, 0, 0] :=
  (by decide +kernel : ∀ t : Fin grid0.N, _)
theorem blk0 (c : Dev nD) (t : Fin cfg0.N) : iblk m c 0 t = mats (aGr m c) (aGi m c) (aHr m c) (aHi m c) := by
  rw [← V_mats]
  funext i
  refine Eq.trans (b := V m c main_v8 (((cfg0.win 0).blk t).view.emb i)) rfl (congrArg _ ?_)
  blk_simp
  idx_vars i
  blk_ext [idx t]
theorem blk1 (c : Dev nD) (t : Fin cfg0.N) (g s : Fin 64) : (iblk m c 1 t : S64x1x64.Idx → EReal) (ix3 g 0 s) = aU m c (ix2 g s) := by
  rw [← V_u_at]
  refine Eq.trans (b := (V m c main_v13 : S64x1x64.Idx → EReal) (((cfg0.win 1).blk t).view.emb (ix3 g 0 s))) rfl (congrArg _ ?_)
  blk_ext [idx t]
theorem blk2 (c : Dev nD) (t : Fin cfg0.N) (g s : Fin 64) : (iblk m c 2 t : S64x1x64.Idx → EReal) (ix3 g 0 s) = aW m c (ix2 g s) := by
  rw [← V_w_at]
  refine Eq.trans (b := (V m c main_v15 : S64x1x64.Idx → EReal) (((cfg0.win 2).blk t).view.emb (ix3 g 0 s))) rfl (congrArg _ ?_)
  blk_ext [idx t]
theorem blk3 (c : Dev nD) (t : Fin cfg0.N) (g s : Fin 64) : (iblk m c 3 t : S64x1x64.Idx → EReal) (ix3 g 0 s) = aA m c (ix2 g s) := by
  refine Eq.trans (b := (V m c main_v16 : S64x1x64.Idx → EReal) (((cfg0.win 3).blk t).view.emb (ix3 g 0 s))) rfl ?_
  rw [show ((cfg0.win 3).blk t).view.emb (ix3 g 0 s) = (ix3 g 0 s : S64x1x64.Idx) from by blk_ext [idx t], V_a]
  pointwise
theorem blk4 (c : Dev nD) (t : Fin cfg0.N) (g s : Fin 64) : (iblk m c 4 t : S64x1x64.Idx → EReal) (ix3 g 0 s) = aB m c (ix2 g s) := by
  refine Eq.trans (b := (V m c main_v17 : S64x1x64.Idx → EReal) (((cfg0.win 4).blk t).view.emb (ix3 g 0 s))) rfl ?_
  rw [show ((cfg0.win 4).blk t).view.emb (ix3 g 0 s) = (ix3 g 0 s : S64x1x64.Idx) from by blk_ext [idx t], V_b]
  pointwise
theorem blk5 (c : Dev nD) (t : Fin cfg0.N) (g : Fin 64) : (iblk m c 5 t : S64x1x1.Idx → EReal) (ix3 g 0 0) = aT m c (ix1 g) := by
  refine Eq.trans (b := (V m c main_v18 : S64x1x1.Idx → EReal) (((cfg0.win 5).blk t).view.emb (ix3 g 0 0))) rfl ?_
  rw [show ((cfg0.win 5).blk t).view.emb (ix3 g 0 0) = (ix3 g 0 0 : S64x1x1.Idx) from by blk_ext [idx t], V_t]
  pointwise
theorem blk6 (c : Dev nD) (t : Fin cfg0.N) (g : Fin 64) (k : Fin 16) (s : Fin 64) : (iblk m c 6 t : S64x16x64.Idx → EReal) (ix3 g k s) = aBr m c (ix3 g s k) := by
  refine Eq.trans (b := (V m c main_v19 : S64x16x64.Idx → EReal) (((cfg0.win 6).blk t).view.emb (ix3 g k s))) rfl ?_
  rw [show ((cfg0.win 6).blk t).view.emb (ix3 g k s) = (ix3 g k s : S64x16x64.Idx) from by blk_ext [idx t], V_br]
  pointwise
theorem blk7 (c : Dev nD) (t : Fin cfg0.N) (g : Fin 64) (k : Fin 16) (s : Fin 64) : (iblk m c 7 t : S64x16x64.Idx → EReal) (ix3 g k s) = aBi m c (ix3 g s k) := by
  refine Eq.trans (b := (V m c main_v20 : S64x16x64.Idx → EReal) (((cfg0.win 7).blk t).view.emb (ix3 g k s))) rfl ?_
  rw [show ((cfg0.win 7).blk t).view.emb (ix3 g k s) = (ix3 g k s : S64x16x64.Idx) from by blk_ext [idx t], V_bi]
  pointwise

/-- The body's named values at a state, from the blocks it loads. -/
theorem pay4_at (v : FVec Ideal S64x1x64 .f32) (g s : Fin 64) : (k0_pay4 (F := Ideal) v : S64x1x64.Idx → EReal) (ix3 g 0 s) = v (ix3 g 0 s) := by
  pointwise [k0_pay4]
theorem pay5_at (v : FVec Ideal S64x1x64 .f32) (g s : Fin 64) : (k0_pay5 (F := Ideal) v : S64x1x64.Idx → EReal) (ix3 g 0 s) = L (v (ix3 g 0 s)) := by
  pointwise [k0_pay5, L, cL]
theorem pay6_at (v : FVec Ideal S64x1x1 .f32) (g : Fin 64) : (k0_pay6 (F := Ideal) v : S64x1x1.Idx → EReal) (ix3 g 0 0) = dt (v (ix3 g 0 0)) := by
  pointwise [k0_pay6, dt]
theorem pay7_at (a : FVec Ideal S64x1x64 .f32) (v : FVec Ideal S64x1x1 .f32) (g s : Fin 64) :
    (k0_pay7 (F := Ideal) a v : S64x1x64.Idx → EReal) (ix3 g 0 s) = ex (a (ix3 g 0 s)) (v (ix3 g 0 0)) := by
  pointwise [k0_pay7, pay5_at, pay6_at, ex]
theorem pay9_at (a b : FVec Ideal S64x1x64 .f32) (v : FVec Ideal S64x1x1 .f32) (g s : Fin 64) :
    (k0_pay9 (F := Ideal) a b v : S64x1x64.Idx → EReal) (ix3 g 0 s) = lbr (a (ix3 g 0 s)) (b (ix3 g 0 s)) (v (ix3 g 0 0)) := by
  pointwise [k0_pay9, k0_pay8, pay4_at, pay6_at, pay7_at, lbr, co]
theorem pay10_at (a b : FVec Ideal S64x1x64 .f32) (v : FVec Ideal S64x1x1 .f32) (g s : Fin 64) :
    (k0_pay10 (F := Ideal) a b v : S64x1x64.Idx → EReal) (ix3 g 0 s) = lbi (a (ix3 g 0 s)) (b (ix3 g 0 s)) (v (ix3 g 0 0)) := by
  pointwise [k0_pay10, k0_pay8, pay4_at, pay6_at, pay7_at, lbi, si]
theorem pay11_at (a b : FVec Ideal S64x1x64 .f32) (g s : Fin 64) :
    (k0_pay11 (F := Ideal) a b : S64x1x64.Idx → EReal) (ix3 g 0 s) = N (a (ix3 g 0 s)) (b (ix3 g 0 s)) := by
  pointwise [k0_pay11, pay4_at, pay5_at, N]
theorem pay12_at (a b : FVec Ideal S64x1x64 .f32) (v : FVec Ideal S64x1x1 .f32) (g s : Fin 64) :
    (k0_pay12 (F := Ideal) a b v : S64x1x64.Idx → EReal) (ix3 g 0 s) = fr (a (ix3 g 0 s)) (b (ix3 g 0 s)) (v (ix3 g 0 0)) := by
  pointwise [k0_pay12, pay4_at, pay5_at, pay9_at, pay10_at, pay11_at, fr, nr, c1]
theorem pay13_at (a b : FVec Ideal S64x1x64 .f32) (v : FVec Ideal S64x1x1 .f32) (g s : Fin 64) :
    (k0_pay13 (F := Ideal) a b v : S64x1x64.Idx → EReal) (ix3 g 0 s) = fi (a (ix3 g 0 s)) (b (ix3 g 0 s)) (v (ix3 g 0 0)) := by
  pointwise [k0_pay13, pay4_at, pay5_at, pay9_at, pay10_at, pay11_at, fi, ni, c1]
theorem pay22_at (v35 v38 v49 v51 : FVec Ideal S64x16x64 .f32) (g s : Fin 64) :
    (k0_pay22 (F := Ideal) v35 v38 v49 v51 : S64x1x64.Idx → EReal) (ix3 g 0 s) = ∑ k : Fin 16, (v35 (ix3 g k s) * v49 (ix3 g k s) + v38 (ix3 g k s) * v51 (ix3 g k s)) := by
  pointwise [k0_pay22, k0_pay18, k0_pay19]
theorem pay23_at (v35 v38 v49 v51 : FVec Ideal S64x16x64 .f32) (g s : Fin 64) :
    (k0_pay23 (F := Ideal) v35 v38 v49 v51 : S64x1x64.Idx → EReal) (ix3 g 0 s) = ∑ k : Fin 16, (v38 (ix3 g k s) * v49 (ix3 g k s) - v35 (ix3 g k s) * v51 (ix3 g k s)) := by
  pointwise [k0_pay23, k0_pay18, k0_pay19]

/-- The four parts of the array of the matrices' cotangents, as the body reads them. -/
theorem pay14_at (gr gi : FVec Ideal S64x64x16 .f32) (hr hi : FVec Ideal S64x16x64 .f32) (g : Fin 64) (k : Fin 16) (s : Fin 64) :
    (k0_pay14 (F := Ideal) (View.ld (mats gr gi hr hi) r0_2) : S64x16x64.Idx → EReal) (ix3 g k s) = gr (ix3 g s k) := by
  rw [← mats_gr gr gi hr hi g k s (by omega)]
  pointwise [k0_pay14]
theorem pay15_at (gr gi : FVec Ideal S64x64x16 .f32) (hr hi : FVec Ideal S64x16x64 .f32) (g : Fin 64) (k : Fin 16) (s : Fin 64) :
    (k0_pay15 (F := Ideal) (View.ld (mats gr gi hr hi) r0_3) : S64x16x64.Idx → EReal) (ix3 g k s) = gi (ix3 g s k) := by
  rw [← mats_gi gr gi hr hi g k s (by omega)]
  pointwise [k0_pay15]
theorem pay16_at (gr gi : FVec Ideal S64x64x16 .f32) (hr hi : FVec Ideal S64x16x64 .f32) (g : Fin 64) (k : Fin 16) (s : Fin 64) :
    (k0_pay16 (F := Ideal) (View.ld (mats gr gi hr hi) r0_4) : S64x16x64.Idx → EReal) (ix3 g k s) = hr (ix3 g k s) := by
  rw [← mats_hr gr gi hr hi g k s (by omega)]
  pointwise [k0_pay16]
theorem pay17_at (gr gi : FVec Ideal S64x64x16 .f32) (hr hi : FVec Ideal S64x16x64 .f32) (g : Fin 64) (k : Fin 16) (s : Fin 64) :
    (k0_pay17 (F := Ideal) (View.ld (mats gr gi hr hi) r0_6) : S64x16x64.Idx → EReal) (ix3 g k s) = -hi (ix3 g k s) := by
  rw [← mats_hi gr gi hr hi g k s (by omega)]
  pointwise [k0_pay17]
  rw [zero_sub]

/-- A whole block read. -/
theorem ld_s (x : Vec Ideal S64x1x64 .f32) : View.ld (Val := Elt Ideal) (e' := .f32) x r0_0 = x := View.ld_unit_lit _ x (by decide)
theorem ld_t (x : Vec Ideal S64x1x1 .f32) : View.ld (Val := Elt Ideal) (e' := .f32) x r0_1 = x := View.ld_unit_lit _ x (by decide)
theorem ld_k (x : Vec Ideal S64x16x64 .f32) : View.ld (Val := Elt Ideal) (e' := .f32) x r0_5 = x := View.ld_unit_lit _ x (by decide)

section
variable (c : Dev nD) (t : Fin cfg0.N) (g s : Fin 64) (k : Fin 16)

/-- The values the body computes once, at the run's blocks. -/
theorem n35 : (k0_pay35 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = aB m c (ix2 g s) := by
  rw [k0_pay35, ld_s, pay4_at, blk4]
theorem n36 : (k0_pay36 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = L (aA m c (ix2 g s)) := by
  rw [k0_pay36, ld_s, pay5_at, blk3]
theorem n37 : (k0_pay37 (F := Ideal) (iblk m c 0 t) (iblk m c 1 t) (iblk m c 2 t) (iblk m c 3 t) (iblk m c 4 t) (iblk m c 5 t) (iblk m c 6 t) (iblk m c 7 t) : S64x1x1.Idx → EReal) (ix3 g 0 0) = dt (aT m c (ix1 g)) := by
  rw [k0_pay37, ld_t, pay6_at, blk5]
theorem n38 : (k0_pay38 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = lbr (aA m c (ix2 g s)) (aB m c (ix2 g s)) (aT m c (ix1 g)) := by
  rw [k0_pay38, ld_s, ld_s, ld_t, pay9_at, blk3, blk4, blk5]
theorem n39 : (k0_pay39 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = lbi (aA m c (ix2 g s)) (aB m c (ix2 g s)) (aT m c (ix1 g)) := by
  rw [k0_pay39, ld_s, ld_s, ld_t, pay10_at, blk3, blk4, blk5]
theorem n41 : (k0_pay41 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = fr (aA m c (ix2 g s)) (aB m c (ix2 g s)) (aT m c (ix1 g)) := by
  rw [k0_pay41, ld_s, ld_s, ld_t, pay12_at, blk3, blk4, blk5]
theorem n42 : (k0_pay42 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = fi (aA m c (ix2 g s)) (aB m c (ix2 g s)) (aT m c (ix1 g)) := by
  rw [k0_pay42, ld_s, ld_s, ld_t, pay13_at, blk3, blk4, blk5]
theorem n40 : (k0_pay40 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = N (aA m c (ix2 g s)) (aB m c (ix2 g s)) := by
  rw [k0_pay40, ld_s, ld_s, pay11_at, blk3, blk4]
theorem n43 : (k0_pay43 (F := Ideal) (iblk m c 0 t) (iblk m c 1 t) (iblk m c 2 t) (iblk m c 3 t) (iblk m c 4 t) (iblk m c 5 t) (iblk m c 6 t) (iblk m c 7 t) : S64x16x64.Idx → EReal) (ix3 g k s) = aGr m c (ix3 g s k) := by
  rw [k0_pay43, blk0, pay14_at]
theorem n44 : (k0_pay44 (F := Ideal) (iblk m c 0 t) (iblk m c 1 t) (iblk m c 2 t) (iblk m c 3 t) (iblk m c 4 t) (iblk m c 5 t) (iblk m c 6 t) (iblk m c 7 t) : S64x16x64.Idx → EReal) (ix3 g k s) = aGi m c (ix3 g s k) := by
  rw [k0_pay44, blk0, pay15_at]
theorem n45 : (k0_pay45 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = P (aBr m c) (aBi m c) (aGr m c) (aGi m c) g s := by
  rw [k0_pay45, ld_k, ld_k, pay22_at]
  simp only [n43, n44, blk6, blk7, P]
theorem n46 : (k0_pay46 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = Q (aBr m c) (aBi m c) (aGr m c) (aGi m c) g s := by
  rw [k0_pay46, ld_k, ld_k, pay23_at]
  simp only [n43, n44, blk6, blk7, Q]
theorem n47 : (k0_pay47 (F := Ideal) (iblk m c 0 t) (iblk m c 1 t) (iblk m c 2 t) (iblk m c 3 t) (iblk m c 4 t) (iblk m c 5 t) (iblk m c 6 t) (iblk m c 7 t) : S64x1x64.Idx → EReal) (ix3 g 0 s) = zi (aA m c (ix2 g s)) (aB m c (ix2 g s)) (aT m c (ix1 g)) (P (aBr m c) (aBi m c) (aGr m c) (aGi m c) g s) (Q (aBr m c) (aBi m c) (aGr m c) (aGi m c) g s) (aU m c (ix2 g s)) (aW m c (ix2 g s)) := by
  rw [k0_pay47, ld_s, ld_s]
  pointwise [k0_pay30, k0_pay27, k0_pay28, n35, n36, n38, n39, n40, n45, n46, blk1, blk2, zi, gi, gr]

end

/-- The arrays after the run. -/
theorem final8 (c : Dev nD) : (dats m 0 c).arrAt 8 (cfgs 0).N = DA m c := by
  refine (dats m 0 c).arrAt_eq_of_covers 8 _ (by decide +kernel) fun t _ y => ?_
  blk_simp
  idx_vars y
  obtain rfl : y1 = 0 := Subsingleton.elim _ _
  rw [after0_8, show ((cfg0.win 8).blk t).view.emb (ix3 y0 0 y2) = (ix3 y0 0 y2 : S64x1x64.Idx) from by blk_ext [idx t]]
  frame_out
  pointwise [k0_pay1, k0_pay32, k0_pay29, k0_pay27, k0_pay28, k0_pay24, k0_pay25, k0_pay31, k0_pay33, k0_pay34, n35, n36, n37, n38, n39, n40, n41, n42, n43, n44, n45, n46, n47, blk1, blk2, blk3]
  rfl
theorem final9 (c : Dev nD) : (dats m 0 c).arrAt 9 (cfgs 0).N = DB m c := by
  refine (dats m 0 c).arrAt_eq_of_covers 9 _ (by decide +kernel) fun t _ y => ?_
  blk_simp
  idx_vars y
  obtain rfl : y1 = 0 := Subsingleton.elim _ _
  rw [after0_9, show ((cfg0.win 9).blk t).view.emb (ix3 y0 0 y2) = (ix3 y0 0 y2 : S64x1x64.Idx) from by blk_ext [idx t]]
  frame_out
  pointwise [k0_pay2, k0_pay26, k0_pay24, k0_pay25, n35, n36, n37, n38, n39, n40, n41, n42, n43, n44, n45, n46, n47, blk1, blk2, blk3]
  rfl
theorem final10 (c : Dev nD) : (dats m 0 c).arrAt 10 (cfgs 0).N = DT m c := by
  refine (dats m 0 c).arrAt_eq_of_covers 10 _ (by decide +kernel) fun t _ y => ?_
  blk_simp
  idx_vars y
  obtain rfl : y1 = 0 := Subsingleton.elim _ _
  obtain rfl : y2 = 0 := Subsingleton.elim _ _
  rw [after0_10, show ((cfg0.win 10).blk t).view.emb (ix3 y0 0 0) = (ix3 y0 0 0 : S64x1x1.Idx) from by blk_ext [idx t]]
  frame_out
  pointwise [k0_pay3, k0_pay29, k0_pay27, k0_pay28, n35, n36, n37, n38, n39, n40, n41, n42, n43, n44, n45, n46, n47, blk1, blk2, blk3]
  rfl
theorem final11 (c : Dev nD) : (dats m 0 c).arrAt 11 (cfgs 0).N = DBr m c := by
  refine (dats m 0 c).arrAt_eq_of_covers 11 _ (by decide +kernel) fun t _ y => ?_
  blk_simp
  idx_vars y
  rw [after0_11, show ((cfg0.win 11).blk t).view.emb (ix3 y0 y1 y2) = (ix3 y0 y1 y2 : S64x16x64.Idx) from by blk_ext [idx t]]
  frame_out
  pointwise [k0_pay20, n35, n36, n37, n38, n39, n40, n41, n42, n43, n44, n45, n46, n47, blk1, blk2, blk3]
  rfl
theorem final12 (c : Dev nD) : (dats m 0 c).arrAt 12 (cfgs 0).N = DBi m c := by
  refine (dats m 0 c).arrAt_eq_of_covers 12 _ (by decide +kernel) fun t _ y => ?_
  blk_simp
  idx_vars y
  rw [after0_12, show ((cfg0.win 12).blk t).view.emb (ix3 y0 y1 y2) = (ix3 y0 y1 y2 : S64x16x64.Idx) from by blk_ext [idx t]]
  frame_out
  pointwise [k0_pay21, n35, n36, n37, n38, n39, n40, n41, n42, n43, n44, n45, n46, n47, blk1, blk2, blk3]
  rfl
theorem final13 (c : Dev nD) : (dats m 0 c).arrAt 13 (cfgs 0).N = DCr m c := by
  refine (dats m 0 c).arrAt_eq_of_covers 13 _ (by decide +kernel) fun t _ y => ?_
  blk_simp
  idx_vars y
  rw [after0_13, show ((cfg0.win 13).blk t).view.emb (ix3 y0 y1 y2) = (ix3 y0 y1 y2 : S64x16x64.Idx) from by blk_ext [idx t]]
  frame_out
  rw [blk0, pay16_at]; rfl
theorem final14 (c : Dev nD) : (dats m 0 c).arrAt 14 (cfgs 0).N = DCi m c := by
  refine (dats m 0 c).arrAt_eq_of_covers 14 _ (by decide +kernel) fun t _ y => ?_
  blk_simp
  idx_vars y
  rw [after0_14, show ((cfg0.win 14).blk t).view.emb (ix3 y0 y1 y2) = (ix3 y0 y1 y2 : S64x16x64.Idx) from by blk_ext [idx t]]
  frame_out
  rw [blk0, pay17_at]; rfl

end Cert.S5ParamIdeal.Grad

end
-- ==== Proof.S5ParamRef.lean ====
/- The reference's gradient of the state space's discretisation, read at a state, and the claim that `s5_param_bwd` computes it. -/
module

public import proofs.«01_k».proof.Proof.S5Param

@[expose] public section

set_option maxRecDepth 16384

noncomputable section

open Idealize.ShloMosaic Idealize.ShloMosaic.TcCoe Idealize.SL.Sem
open Idealize.ShloMosaic.Pipeline (Dat)

namespace Cert.S5ParamRefIdeal.Grad

open Cert.S5ParamRefIdeal Cert.S5ParamRefIdeal.Gen Cert.S5ParamRefIdeal.Value Cert.Finite Cert.Discretise

variable (V0 : Valuation τ sig (Elt Ideal)) (g s : Fin 64) (k : Fin 16)

/-- The argument arrays. -/
abbrev xA : FVec Ideal S64x64 .f32 := V0 (Proc.devRef .tc main_arg0)
abbrev xB : FVec Ideal S64x64 .f32 := V0 (Proc.devRef .tc main_arg1)
abbrev xT : FVec Ideal S64 .f32 := V0 (Proc.devRef .tc main_arg2)
abbrev xBr : FVec Ideal S64x64x16 .f32 := V0 (Proc.devRef .tc main_arg3)
abbrev xBi : FVec Ideal S64x64x16 .f32 := V0 (Proc.devRef .tc main_arg4)
abbrev xU : FVec Ideal S64x64 .f32 := V0 (Proc.devRef .tc main_arg7)
abbrev xW : FVec Ideal S64x64 .f32 := V0 (Proc.devRef .tc main_arg8)
abbrev xGr : FVec Ideal S64x64x16 .f32 := V0 (Proc.devRef .tc main_arg9)
abbrev xGi : FVec Ideal S64x64x16 .f32 := V0 (Proc.devRef .tc main_arg10)
/-- The cotangent of a state's input factor. -/
abbrev p : EReal := Cert.S5ParamIdeal.Grad.P (xBr V0) (xBi V0) (xGr V0) (xGi V0) g s
abbrev q : EReal := Cert.S5ParamIdeal.Grad.Q (xBr V0) (xBi V0) (xGr V0) (xGi V0) g s

/-- Each named value at a state. -/
theorem v1_at : (res_main_v1 V0 : S64x64.Idx → EReal) (ix2 g s) = L (xA V0 (ix2 g s)) := by
  pointwise [res_main_v1, L, cL]
theorem v11_at : (res_main_v11 V0 : S64.Idx → EReal) (ix1 g) = dt (xT V0 (ix1 g)) := by
  pointwise [res_main_v11, dt]
theorem v12_at : (res_main_v12 V0 : S64x1.Idx → EReal) (ix2 g 0) = dt (xT V0 (ix1 g)) := by
  pointwise [res_main_v12, v11_at]
theorem v15_at : (res_main_v15 V0 : S64x64.Idx → EReal) (ix2 g s) = ex (xA V0 (ix2 g s)) (xT V0 (ix1 g)) := by
  pointwise [res_main_v15, v1_at, v12_at, ex]
theorem v23_at : (res_main_v23 V0 : S64x64.Idx → EReal) (ix2 g s) = ex (xA V0 (ix2 g s)) (xT V0 (ix1 g)) := by
  pointwise [res_main_v23, v1_at, v12_at, ex]
theorem v17_at : (res_main_v17 V0 : S64x64.Idx → EReal) (ix2 g s) = xB V0 (ix2 g s) * dt (xT V0 (ix1 g)) := by
  pointwise [res_main_v17, v12_at]
theorem v25_at : (res_main_v25 V0 : S64x64.Idx → EReal) (ix2 g s) = xB V0 (ix2 g s) * dt (xT V0 (ix1 g)) := by
  pointwise [res_main_v25, v12_at]
theorem v18_at : (res_main_v18 V0 : S64x64.Idx → EReal) (ix2 g s) = co (xB V0 (ix2 g s)) (xT V0 (ix1 g)) := by
  pointwise [res_main_v18, v17_at, co]
theorem v20_at : (res_main_v20 V0 : S64x64.Idx → EReal) (ix2 g s) = lbr (xA V0 (ix2 g s)) (xB V0 (ix2 g s)) (xT V0 (ix1 g)) := by
  pointwise [res_main_v20, v15_at, v18_at, lbr]
theorem v26_at : (res_main_v26 V0 : S64x64.Idx → EReal) (ix2 g s) = si (xB V0 (ix2 g s)) (xT V0 (ix1 g)) := by
  pointwise [res_main_v26, v25_at, si]
theorem v28_at : (res_main_v28 V0 : S64x64.Idx → EReal) (ix2 g s) = lbi (xA V0 (ix2 g s)) (xB V0 (ix2 g s)) (xT V0 (ix1 g)) := by
  pointwise [res_main_v28, v23_at, v26_at, lbi]
theorem v31_at : (res_main_v31 V0 : S64x64.Idx → EReal) (ix2 g s) = N (xA V0 (ix2 g s)) (xB V0 (ix2 g s)) := by
  pointwise [res_main_v31, v1_at, N]
theorem v33_at : (res_main_v33 V0 : S64x64.Idx → EReal) (ix2 g s) = lbr (xA V0 (ix2 g s)) (xB V0 (ix2 g s)) (xT V0 (ix1 g)) - c1 := by
  pointwise [res_main_v33, v20_at, c1]
theorem v44_at : (res_main_v44 V0 : S64x64.Idx → EReal) (ix2 g s) = lbr (xA V0 (ix2 g s)) (xB V0 (ix2 g s)) (xT V0 (ix1 g)) - c1 := by
  pointwise [res_main_v44, v20_at, c1]
theorem v36_at : (res_main_v36 V0 : S64x64.Idx → EReal) (ix2 g s) = nr (xA V0 (ix2 g s)) (xB V0 (ix2 g s)) (xT V0 (ix1 g)) := by
  pointwise [res_main_v36, v33_at, v1_at, v28_at, nr]
theorem v46_at : (res_main_v46 V0 : S64x64.Idx → EReal) (ix2 g s) = ni (xA V0 (ix2 g s)) (xB V0 (ix2 g s)) (xT V0 (ix1 g)) := by
  pointwise [res_main_v46, v44_at, v1_at, v28_at, ni]
theorem v41_at : (res_main_v41 V0 : S64x64x1.Idx → EReal) (ix3 g s 0) = fr (xA V0 (ix2 g s)) (xB V0 (ix2 g s)) (xT V0 (ix1 g)) := by
  pointwise [res_main_v41, v36_at, v31_at, fr]
theorem v51_at : (res_main_v51 V0 : S64x64x1.Idx → EReal) (ix3 g s 0) = fi (xA V0 (ix2 g s)) (xB V0 (ix2 g s)) (xT V0 (ix1 g)) := by
  pointwise [res_main_v51, v46_at, v31_at, fi]
theorem v64_at : (res_main_v64 V0 : S64x64x16.Idx → EReal) (ix3 g s k) = xGi V0 (ix3 g s k) := by
  pointwise [res_main_v64]
theorem v65_at : (res_main_v65 V0 : S64x64x16.Idx → EReal) (ix3 g s k) = xGi V0 (ix3 g s k) := by
  pointwise [res_main_v65]
theorem v76_at : (res_main_v76 V0 : S64x64x16.Idx → EReal) (ix3 g s k) = xGr V0 (ix3 g s k) := by
  pointwise [res_main_v76]
theorem v77_at : (res_main_v77 V0 : S64x64x16.Idx → EReal) (ix3 g s k) = -xGr V0 (ix3 g s k) := by
  pointwise [res_main_v77]
theorem v92_at : (res_main_v92 V0 : S64x64.Idx → EReal) (ix2 g s) = q V0 g s := by
  pointwise [res_main_v92, v65_at, v77_at]
  rw [q, Cert.S5ParamIdeal.Grad.Q]
  simp only [sub_eq_add_neg, Finset.sum_add_distrib, EReal.neg_mul, Fin.sum_univ_one]
theorem v104_at : (res_main_v104 V0 : S64x64.Idx → EReal) (ix2 g s) = p V0 g s := by
  pointwise [res_main_v104, v64_at, v76_at]
  rw [p, Cert.S5ParamIdeal.Grad.P]
  simp only [Finset.sum_add_distrib, Fin.sum_univ_one]
  exact add_comm (_ : EReal) _
theorem v96_at : (res_main_v96 V0 : S64x64.Idx → EReal) (ix2 g s) = Ideal.div (q V0 g s) (N (xA V0 (ix2 g s)) (xB V0 (ix2 g s))) := by
  pointwise [res_main_v96, v92_at, v31_at]
theorem v97_at : (res_main_v97 V0 : S64x64.Idx → EReal) (ix2 g s) = -Ideal.div (q V0 g s) (N (xA V0 (ix2 g s)) (xB V0 (ix2 g s))) := by
  pointwise [res_main_v97, v96_at]
theorem v108_at : (res_main_v108 V0 : S64x64.Idx → EReal) (ix2 g s) = den (xA V0 (ix2 g s)) (xB V0 (ix2 g s)) (xT V0 (ix1 g)) (p V0 g s) (q V0 g s) := by
  pointwise [res_main_v108, v92_at, v104_at, v31_at, v36_at, v46_at, den, c1]
theorem v109_at : (res_main_v109 V0 : S64x64.Idx → EReal) (ix2 g s) = Ideal.div (p V0 g s) (N (xA V0 (ix2 g s)) (xB V0 (ix2 g s))) := by
  pointwise [res_main_v109, v104_at, v31_at]
theorem v113_at : (res_main_v113 V0 : S64x64.Idx → EReal) (ix2 g s) = vi (xA V0 (ix2 g s)) (xB V0 (ix2 g s)) (p V0 g s) (q V0 g s) (xW V0 (ix2 g s)) := by
  pointwise [res_main_v113, v96_at, v1_at, v109_at, vi]
theorem v117_at : (res_main_v117 V0 : S64x64.Idx → EReal) (ix2 g s) = vr (xA V0 (ix2 g s)) (xB V0 (ix2 g s)) (p V0 g s) (q V0 g s) (xU V0 (ix2 g s)) := by
  pointwise [res_main_v117, v97_at, v1_at, v109_at, vr]
theorem v128_at : (res_main_v128 V0 : S64x64.Idx → EReal) (ix2 g s) = t1 (xA V0 (ix2 g s)) (xB V0 (ix2 g s)) (xT V0 (ix1 g)) (p V0 g s) (q V0 g s) (xW V0 (ix2 g s)) := by
  pointwise [res_main_v128, v23_at, v113_at, v25_at, t1, co]
theorem v135_at : (res_main_v135 V0 : S64x64.Idx → EReal) (ix2 g s) = t2 (xA V0 (ix2 g s)) (xB V0 (ix2 g s)) (xT V0 (ix1 g)) (p V0 g s) (q V0 g s) (xW V0 (ix2 g s)) := by
  pointwise [res_main_v135, v23_at, v113_at, v26_at, t2]
theorem v146_at : (res_main_v146 V0 : S64x64.Idx → EReal) (ix2 g s) = t3 (xA V0 (ix2 g s)) (xB V0 (ix2 g s)) (xT V0 (ix1 g)) (p V0 g s) (q V0 g s) (xU V0 (ix2 g s)) := by
  pointwise [res_main_v146, v15_at, v117_at, v17_at, t3, si]
theorem v154_at : (res_main_v154 V0 : S64x64.Idx → EReal) (ix2 g s) = t4 (xA V0 (ix2 g s)) (xB V0 (ix2 g s)) (xT V0 (ix1 g)) (p V0 g s) (q V0 g s) (xU V0 (ix2 g s)) := by
  pointwise [res_main_v154, v15_at, v117_at, v18_at, t4]

section
open Cert.S5ParamIdeal.Grad
variable (m : (ℓ : Loc Cert.S5ParamIdeal.nD Cert.S5ParamIdeal.τ Cert.S5ParamIdeal.sig) → Buf (Elt Ideal) ℓ) (c : Dev Cert.S5ParamIdeal.nD)

/-- The reference's arguments are the kernel's. -/
def Agree : Prop := xA V0 = aA m c ∧ xB V0 = aB m c ∧ xT V0 = aT m c ∧ xBr V0 = aBr m c ∧ xBi V0 = aBi m c ∧ xU V0 = aU m c ∧ xW V0 = aW m c
  ∧ xGr V0 = aGr m c ∧ xGi V0 = aGi m c

/-- The arrays of parameters and cotangents are real. -/
def Real : Prop := IsReal (aA m c : S64x64.Idx → EReal) ∧ IsReal (aB m c : S64x64.Idx → EReal) ∧ IsReal (aT m c : S64.Idx → EReal)
  ∧ IsReal (aBr m c : S64x64x16.Idx → EReal) ∧ IsReal (aBi m c : S64x64x16.Idx → EReal) ∧ IsReal (aU m c : S64x64.Idx → EReal)
  ∧ IsReal (aW m c : S64x64.Idx → EReal) ∧ IsReal (aGr m c : S64x64x16.Idx → EReal) ∧ IsReal (aGi m c : S64x64x16.Idx → EReal)

variable {m c}

/-- Then so is the cotangent of every state's input factor. -/
theorem P_real (h : Real m c) : IsR (P (aBr m c) (aBi m c) (aGr m c) (aGi m c) g s) := by
  obtain ⟨-, -, -, ⟨br, hbr⟩, ⟨bi, hbi⟩, -, -, ⟨gr, hgr⟩, ⟨gi, hgi⟩⟩ := h
  refine ⟨∑ k : Fin 16, (gr (ix3 g s k) * br (ix3 g s k) + gi (ix3 g s k) * bi (ix3 g s k)), ?_⟩
  rw [P, hbr, hbi, hgr, hgi, coe_sum]
  simp only [EReal.coe_add, EReal.coe_mul]
theorem Q_real (h : Real m c) : IsR (Q (aBr m c) (aBi m c) (aGr m c) (aGi m c) g s) := by
  obtain ⟨-, -, -, ⟨br, hbr⟩, ⟨bi, hbi⟩, -, -, ⟨gr, hgr⟩, ⟨gi, hgi⟩⟩ := h
  refine ⟨∑ k : Fin 16, (gi (ix3 g s k) * br (ix3 g s k) - gr (ix3 g s k) * bi (ix3 g s k)), ?_⟩
  rw [Q, hbr, hbi, hgr, hgi, coe_sum]
  simp only [EReal.coe_sub, EReal.coe_mul]

theorem c1_one : c1 = 1 := by rw [c1_eq]; exact EReal.coe_one
theorem DA_at : DA m c (ix3 g 0 s) = kerA (aA m c (ix2 g s)) (aB m c (ix2 g s)) (aT m c (ix1 g)) (P (aBr m c) (aBi m c) (aGr m c) (aGi m c) g s)
    (Q (aBr m c) (aBi m c) (aGr m c) (aGi m c) g s) (aU m c (ix2 g s)) (aW m c (ix2 g s)) * mask (aA m c (ix2 g s)) := rfl
theorem DB_at : DB m c (ix3 g 0 s) = kerB (aA m c (ix2 g s)) (aB m c (ix2 g s)) (aT m c (ix1 g)) (P (aBr m c) (aBi m c) (aGr m c) (aGi m c) g s)
    (Q (aBr m c) (aBi m c) (aGr m c) (aGi m c) g s) (aU m c (ix2 g s)) (aW m c (ix2 g s)) := rfl

/-- Result `DA` is the reference's. -/
theorem ref_DA (e : Agree V0 m c) (h : Real m c) : (broadcastInDim S64x1x64 ![0, 2] bcast_S64x64_S64x1x64_0_2 (mulf (addf (addf (addf (addf (addf (mulf (res_main_v28 V0) (res_main_v96 V0)) (mulf (res_main_v33 V0) (res_main_v109 V0))) (mulf (res_main_v1 V0) (res_main_v108 V0))) (mulf (res_main_v108 V0) (res_main_v1 V0))) (mulf (res_main_v135 V0) (broadcastInDim S64x64 ![0, 1] bcast_S64x1_S64x64_0_1 (res_main_v12 V0)))) (mulf (res_main_v154 V0) (broadcastInDim S64x64 ![0, 1] bcast_S64x1_S64x64_0_1 (res_main_v12 V0)))) (select (cmpf .ogt (broadcastInDim S64x64 ![] bcast_S_S64x64 (constant S_ .f32 0xB8D1B717#32)) (xA V0)) (broadcastInDim S64x64 ![] bcast_S_S64x64 (constant S_ .f32 0x3F800000#32)) (select (cmpf .oeq (broadcastInDim S64x64 ![] bcast_S_S64x64 (constant S_ .f32 0xB8D1B717#32)) (xA V0)) (broadcastInDim S64x64 ![] bcast_S_S64x64 (constant S_ .f32 0x3F000000#32)) (broadcastInDim S64x64 ![] bcast_S_S64x64 (constant S_ .f32 0x00000000#32))))) : FVec Ideal S64x1x64 .f32) = DA m c := by
  funext i
  idx_vars i
  obtain rfl : i1 = 0 := Subsingleton.elim _ _
  obtain ⟨eA, eB, eT, eBr, eBi, eU, eW, eGr, eGi⟩ := e
  have hp := fun s => P_real i0 s h
  have hq := fun s => Q_real i0 s h
  obtain ⟨hA, hB, hT, -, -, hU, hW, -, -⟩ := h
  pointwise [v28_at, v96_at, v33_at, v109_at, v1_at, v108_at, v135_at, v12_at, v154_at, v44_at, v97_at, v128_at, v146_at, v11_at]
  simp only [Fin.sum_univ_one, p, q, eA, eB, eT, eBr, eBi, eU, eW, eGr, eGi]
  rw [DA_at, ← refA_of_real _ _ _ _ _ _ _ (isR_of hA _) (isR_of hB _) (isR_of hT _) (hp _) (hq _) (isR_of hU _) (isR_of hW _), refA, mask, c1_one]
  simp only [eq_comm (a := cL)]
/-- Result `DB` is the reference's. -/
theorem ref_DB (e : Agree V0 m c) (h : Real m c) : (broadcastInDim S64x1x64 ![0, 2] bcast_S64x64_S64x1x64_0_2 (addf (addf (addf (addf (addf (mulf (res_main_v44 V0) (res_main_v97 V0)) (mulf (res_main_v28 V0) (res_main_v109 V0))) (mulf (xB V0) (res_main_v108 V0))) (mulf (res_main_v108 V0) (xB V0))) (mulf (res_main_v128 V0) (broadcastInDim S64x64 ![0, 1] bcast_S64x1_S64x64_0_1 (res_main_v12 V0)))) (mulf (res_main_v146 V0) (broadcastInDim S64x64 ![0, 1] bcast_S64x1_S64x64_0_1 (res_main_v12 V0)))) : FVec Ideal S64x1x64 .f32) = DB m c := by
  funext i
  idx_vars i
  obtain rfl : i1 = 0 := Subsingleton.elim _ _
  obtain ⟨eA, eB, eT, eBr, eBi, eU, eW, eGr, eGi⟩ := e
  have hp := fun s => P_real i0 s h
  have hq := fun s => Q_real i0 s h
  obtain ⟨hA, hB, hT, -, -, hU, hW, -, -⟩ := h
  pointwise [v28_at, v96_at, v33_at, v109_at, v1_at, v108_at, v135_at, v12_at, v154_at, v44_at, v97_at, v128_at, v146_at, v11_at]
  simp only [Fin.sum_univ_one, p, q, eA, eB, eT, eBr, eBi, eU, eW, eGr, eGi]
  rw [DB_at, ← refB_of_real _ _ _ _ _ _ _ (isR_of hA _) (isR_of hB _) (isR_of hT _) (hp _) (hq _) (isR_of hU _) (isR_of hW _), refB, c1_one]
/-- Result `DT` is the reference's. -/
theorem ref_DT (e : Agree V0 m c) (h : Real m c) : (broadcastInDim S64x1x1 ![0] bcast_S64_S64x1x1_0 (mulf (Host.reduceAdd (addf (addf (addf (shapeCast _ (Host.reduceAdd (mulf (xB V0) (res_main_v128 V0)) (constant S_ .f32 0x00000000#32) reducesTo_S64x64_S64_d1 h_S_) shapeCasts_S64_S64x1) (shapeCast _ (Host.reduceAdd (mulf (res_main_v1 V0) (res_main_v135 V0)) (constant S_ .f32 0x00000000#32) reducesTo_S64x64_S64_d1 h_S_) shapeCasts_S64_S64x1)) (shapeCast _ (Host.reduceAdd (mulf (xB V0) (res_main_v146 V0)) (constant S_ .f32 0x00000000#32) reducesTo_S64x64_S64_d1 h_S_) shapeCasts_S64_S64x1)) (shapeCast _ (Host.reduceAdd (mulf (res_main_v1 V0) (res_main_v154 V0)) (constant S_ .f32 0x00000000#32) reducesTo_S64x64_S64_d1 h_S_) shapeCasts_S64_S64x1)) (constant S_ .f32 0x00000000#32) reducesTo_S64x1_S64_d1 h_S_) (res_main_v11 V0)) : FVec Ideal S64x1x1 .f32) = DT m c := by
  funext i
  idx_vars i
  obtain rfl : i1 = 0 := Subsingleton.elim _ _
  obtain rfl : i2 = 0 := Subsingleton.elim _ _
  obtain ⟨eA, eB, eT, eBr, eBi, eU, eW, eGr, eGi⟩ := e
  have hp := fun s => P_real i0 s h
  have hq := fun s => Q_real i0 s h
  obtain ⟨hA, hB, hT, -, -, hU, hW, -, -⟩ := h
  pointwise [v28_at, v96_at, v33_at, v109_at, v1_at, v108_at, v135_at, v12_at, v154_at, v44_at, v97_at, v128_at, v146_at, v11_at]
  simp only [Fin.sum_univ_one, p, q, eA, eB, eT, eBr, eBi, eU, eW, eGr, eGi]
  exact congrArg (· * dt _) (refT_of_real _ _ _ _ _ _ _ (fun _ => isR_of hA _) (fun _ => isR_of hB _) (isR_of hT _) hp hq (fun _ => isR_of hU _) fun _ => isR_of hW _)
/-- Result `DBr` is the reference's. -/
theorem ref_DBr (e : Agree V0 m c) : (transpose S64x16x64 [0, 2, 1] (addf (mulf (broadcastInDim S64x64x16 ![0, 1, 2] bcast_S64x64x1_S64x64x16_0_1_2 (res_main_v51 V0)) (res_main_v65 V0)) (mulf (broadcastInDim S64x64x16 ![0, 1, 2] bcast_S64x64x1_S64x64x16_0_1_2 (res_main_v41 V0)) (res_main_v76 V0))) transposes_S64x64x16_S64x16x64_0_2_1 : FVec Ideal S64x16x64 .f32) = DBr m c := by
  funext i
  idx_vars i
  obtain ⟨eA, eB, eT, eBr, eBi, eU, eW, eGr, eGi⟩ := e
  pointwise [v41_at, v51_at, v65_at, v76_at]
  simp only [Fin.sum_univ_one, p, q, eA, eB, eT, eBr, eBi, eU, eW, eGr, eGi]
  exact add_comm _ _
/-- Result `DBi` is the reference's. -/
theorem ref_DBi (e : Agree V0 m c) : (transpose S64x16x64 [0, 2, 1] (addf (mulf (broadcastInDim S64x64x16 ![0, 1, 2] bcast_S64x64x1_S64x64x16_0_1_2 (res_main_v41 V0)) (res_main_v64 V0)) (mulf (broadcastInDim S64x64x16 ![0, 1, 2] bcast_S64x64x1_S64x64x16_0_1_2 (res_main_v51 V0)) (res_main_v77 V0))) transposes_S64x64x16_S64x16x64_0_2_1 : FVec Ideal S64x16x64 .f32) = DBi m c := by
  funext i
  idx_vars i
  obtain ⟨eA, eB, eT, eBr, eBi, eU, eW, eGr, eGi⟩ := e
  pointwise [v41_at, v51_at, v64_at, v77_at]
  simp only [Fin.sum_univ_one, p, q, eA, eB, eT, eBr, eBi, eU, eW, eGr, eGi]
  rw [mul_neg, ← sub_eq_add_neg]; rfl

end

end Cert.S5ParamRefIdeal.Grad

namespace Cert.Proof

/-- The precondition's side conditions on shapes. -/
instance facts_finite_pbwd : Cert.Pre_finite_pbwd.Facts where
  bcast_S_S64x64 := by decide
  reducesTo_S64x64_S_d0_1 := by decide
  h_S_ := by decide
  bcast_S_S64 := by decide
  reducesTo_S64_S_d0 := by decide
  bcast_S_S64x64x16 := by decide
  reducesTo_S64x64x16_S_d0_1_2 := by decide

theorem frame_S5Param : Cert.quiescent_S5Param := fun m ρ _ => Cert.S5Param.Gen.frame m ρ
theorem frame_S5ParamIdeal : Cert.quiescent_S5ParamIdeal := fun m ρ _ => Cert.S5ParamIdeal.Gen.frame m ρ
/-- The reference's frame: its run leaves the arguments, and it declares no semaphore. -/
theorem frame_S5ParamRefIdeal : Cert.quiescent_S5ParamRefIdeal := fun m ρ _ =>
  (θ_run Cert.S5ParamRefIdeal.defs _ _).mono (fun r h => ⟨fun c => (h c).2.2.2.2.2.2.2,
      Idealize.ShloMosaic.sem_eq_zero_of_no_sems (by decide) r.2⟩) (Cert.S5ParamRefIdeal.Value.run (F := Ideal) m ρ)

open Cert.S5ParamIdeal.Grad Cert.S5ParamRefIdeal.Grad

/-- What the precondition says: nine arrays are real. -/
theorem finite_pbwd_real (m : (ℓ : Loc Cert.S5ParamIdeal.nD Cert.S5ParamIdeal.τ Cert.S5ParamIdeal.sig) → Buf (Elt Ideal) ℓ)
    (h : Cert.Pre_S5ParamIdeal_finite_pbwd m) (c : Dev Cert.S5ParamIdeal.nD) : Cert.S5ParamRefIdeal.Grad.Real m c := by
  have e := congrFun (h c) (fun a => a.elim0)
  obtain ⟨e, e9⟩ := Cert.Finite.andi_eq_one e
  obtain ⟨e, e8⟩ := Cert.Finite.andi_eq_one e
  obtain ⟨e, e7⟩ := Cert.Finite.andi_eq_one e
  obtain ⟨e, e6⟩ := Cert.Finite.andi_eq_one e
  obtain ⟨e, e5⟩ := Cert.Finite.andi_eq_one e
  obtain ⟨e, e4⟩ := Cert.Finite.andi_eq_one e
  obtain ⟨e, e3⟩ := Cert.Finite.andi_eq_one e
  obtain ⟨e1, e2⟩ := Cert.Finite.andi_eq_one e
  exact ⟨Cert.Finite.isReal_of_all _ _ _ _ _ _ _ e1, Cert.Finite.isReal_of_all _ _ _ _ _ _ _ e2, Cert.Finite.isReal_of_all _ _ _ _ _ _ _ e3,
    Cert.Finite.isReal_of_all _ _ _ _ _ _ _ e4, Cert.Finite.isReal_of_all _ _ _ _ _ _ _ e5, Cert.Finite.isReal_of_all _ _ _ _ _ _ _ e6,
    Cert.Finite.isReal_of_all _ _ _ _ _ _ _ e7, Cert.Finite.isReal_of_all _ _ _ _ _ _ _ e8, Cert.Finite.isReal_of_all _ _ _ _ _ _ _ e9⟩

/-- Kernel and reference end with the same seven results. -/
theorem algebraic_S5Param : Cert.algebraic_S5ParamIdeal_S5ParamRefIdeal_pre_finite_pbwd := by
  intro m ρ m' ρ' hpre hagree
  refine ⟨fun c => DA m c, fun c => DB m c, fun c => DT m c, fun c => DBr m c, fun c => DBi m c, fun c => DCr m c, fun c => DCi m c, ?_, ?_⟩
  · refine (θ_run Cert.S5ParamIdeal.defs _ _).mono (fun r h c => ?_)
      (θ_run_and (Cert.S5ParamIdeal.Gen.run_main (F := Ideal) m ρ) (Cert.S5ParamIdeal.Gen.unchanged (F := Ideal) m ρ))
    exact ⟨((h.1 c).1 8).trans (final8 m c), ((h.1 c).1 9).trans (final9 m c), ((h.1 c).1 10).trans (final10 m c), ((h.1 c).1 11).trans (final11 m c),
      ((h.1 c).1 12).trans (final12 m c), ((h.1 c).1 13).trans (final13 m c), ((h.1 c).1 14).trans (final14 m c), h.2 c⟩
  · refine (θ_run Cert.S5ParamRefIdeal.defs _ _).mono (fun _ h c => ?_) (Cert.S5ParamRefIdeal.Value.run (F := Ideal) m' ρ')
    have hr := finite_pbwd_real m hpre c
    obtain ⟨h0, h1, h2, h3, h4, h5, h6, h7, h8, h9, h10, h11, h12⟩ := hagree c
    have e : Agree (StableHlo.launchContents m' c) m c := ⟨h0, h1, h2, h3, h4, h7, h8, h9, h10⟩
    have e12 : (Host.negf (m' (c.tc.loc Cert.S5ParamRefIdeal.main_arg12)) : FVec Ideal _ .f32) = DCi m c := by rewrite [h12]; rfl
    exact ⟨(h c).1.trans (ref_DA (StableHlo.launchContents m' c) e hr), (h c).2.1.trans (ref_DB (StableHlo.launchContents m' c) e hr), (h c).2.2.1.trans (ref_DT (StableHlo.launchContents m' c) e hr), (h c).2.2.2.1.trans (ref_DBr (StableHlo.launchContents m' c) e),
      (h c).2.2.2.2.1.trans (ref_DBi (StableHlo.launchContents m' c) e), (h c).2.2.2.2.2.1.trans h11, (h c).2.2.2.2.2.2.1.trans e12, (h c).2.2.2.2.2.2.2⟩

end Cert.Proof

end
-- ==== Proof.AttnHead.lean ====
/- The body of `attn_bwd`: one key and value head's part of it as named functions of the slices it reads, and what a point leaves in each output block as those functions at the four heads. -/
module

public import proofs.«01_k».proof.Defs
public import proofs.«01_k».proof.Proof.Gen.AttnBwdIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnBwdIdeal.Grad

open Cert.AttnBwdIdeal Cert.AttnBwdIdeal.Gen

/-- What the part of one key and value head reads: four query heads' slices of `q` and of the cotangent, the head's slices
    of the block of keys and values before and of the block itself, and four sinks. -/
structure Head where
  (q0 q1 q2 q3 d0 d1 d2 d3 kp kc vp vc : FVec Ideal S128x64 .bf16)
  (s0 s1 s2 s3 : Elt Ideal .f32)

namespace Head
variable (i : grid0.Coords) (h : Head)
/-- The four heads' queries, and their cotangents, one under another. -/
def q : FVec Ideal S512x64 .bf16 := k0_pay6 h.q0 h.q1 h.q2 h.q3
def o : FVec Ideal S512x64 .bf16 := k0_pay9 (k0_pay7 h.d0) (k0_pay8 h.d1) h.d2 h.d3
def kp' : FVec Ideal S128x64 .bf16 := k0_pay10 h.kp
def kc' : FVec Ideal S128x64 .bf16 := k0_pay11 h.kc
def vp' : FVec Ideal S128x64 .bf16 := k0_pay12 h.vp
def vc' : FVec Ideal S128x64 .bf16 := k0_pay13 h.vc
/-- The rows' sinks. -/
def sk : FVec Ideal S512x1 .f32 := k0_pay17 k0_pay14 k0_pay15 k0_pay16 h.s0 h.s1 h.s2 h.s3
/-- The masked scores of the block before and of the block itself, the number each row's exponents are shifted by. -/
def xp : FVec Ideal S512x128 .f32 := k0_pay18 (k0_pay3 i) h.q h.kp'
def xc : FVec Ideal S512x128 .f32 := k0_pay19 k0_pay4 h.q h.kc'
def mx : FVec Ideal S512x1 .f32 := k0_pay20 (k0_pay3 i) k0_pay4 h.q h.kp' h.kc' k0_pay14 k0_pay15 k0_pay16 h.s0 h.s1 h.s2 h.s3
/-- The exponentials of the scores and of the sinks, and the first's sum. -/
def ep : FVec Ideal S512x128 .f32 := k0_pay21 (k0_pay3 i) k0_pay4 h.q h.kp' h.kc' k0_pay14 k0_pay15 k0_pay16 h.s0 h.s1 h.s2 h.s3
def ec : FVec Ideal S512x128 .f32 := k0_pay22 (k0_pay3 i) k0_pay4 h.q h.kp' h.kc' k0_pay14 k0_pay15 k0_pay16 h.s0 h.s1 h.s2 h.s3
def es : FVec Ideal S512x1 .f32 := k0_pay23 (k0_pay3 i) k0_pay4 h.q h.kp' h.kc' k0_pay14 k0_pay15 k0_pay16 h.s0 h.s1 h.s2 h.s3
def zp : FVec Ideal S512 .f32 := k0_pay24 (k0_pay3 i) k0_pay4 h.q h.kp' h.kc' k0_pay14 k0_pay15 k0_pay16 h.s0 h.s1 h.s2 h.s3
/-- The reciprocal of the denominator, the two halves of the softmax, of the scores' gradient, and the sinks' gradient's terms. -/
def rz : FVec Ideal S512x1 .f32 := k0_pay25 (h.ec i) (h.es i) (h.zp i)
def pp : FVec Ideal S512x128 .f32 := k0_pay26 (h.ep i) (h.ec i) (h.es i) (h.zp i)
def pc : FVec Ideal S512x128 .f32 := k0_pay27 (h.ec i) (h.es i) (h.zp i)
def gp : FVec Ideal S512x128 .f32 := k0_pay28 h.o h.vp'
def gc : FVec Ideal S512x128 .f32 := k0_pay29 h.o h.vc'
def ar : FVec Ideal S512x1 .f32 := k0_pay30 h.o h.vp' h.vc' (h.ep i) (h.ec i) (h.es i) (h.zp i)
def sp : FVec Ideal S512x128 .bf16 := k0_pay31 h.o h.vp' h.vc' (h.ep i) (h.ec i) (h.es i) (h.zp i)
def sc : FVec Ideal S512x128 .bf16 := k0_pay32 h.o h.vp' h.vc' (h.ep i) (h.ec i) (h.es i) (h.zp i)
def dz : FVec Ideal S512x1 .f32 := k0_pay33 h.o h.vp' h.vc' (h.ep i) (h.ec i) (h.es i) (h.zp i)
/-- The head's part of each gradient: the queries', the keys' and the values' of the two blocks. -/
def dq : FVec Ideal S128x256 .f32 := k0_pay40 h.kp' h.kc' (h.sp i) (h.sc i)
def dkp : FVec Ideal S128x64 .f32 := k0_pay41 h.q (h.sp i)
def dkc : FVec Ideal S128x64 .f32 := k0_pay42 h.q (h.sc i)
def dvp : FVec Ideal S128x64 .f32 := k0_pay43 h.o (h.pp i)
def dvc : FVec Ideal S128x64 .f32 := k0_pay44 h.o (h.pc i)
end Head

/-- One query head's sink: the negated sum of its rows' terms, added into its column. -/
def sinkAdd (acc : FVec Ideal S1x1024 .f32) (j g : BitVec 32) (w : FVec Ideal S512x1 .f32) : FVec Ideal S1x1024 .f32 :=
  addf acc (select (cmpi .eq (iota .tc S1x1024 32 [1] iota_S1x1024_d1_w32) (broadcast S1x1024 j))
    (broadcast S1x1024 (Scalar.subf (Scalar.ofBits (F := Ideal) .f32 0x00000000#32)
      (extractAt ![0, 0, 0] (shapeCast S1x1x1 (multiReduction .add [1, 2] S1 (shapeCast S1x512x1
        (select (cmpi .eq k0_pay14 (broadcast S512x1 g)) w (broadcast S512x1 (Scalar.ofBits (F := Ideal) .f32 0x00000000#32))) shapeCasts_S512x1_S1x512x1)
        0x00000000#32 reduces_S1x512x1_S1 (.inl rfl) rfl) shapeCasts_S1_S1x1x1) inpos_S1x1x1_p0_0_0)))
    (broadcast S1x1024 (Scalar.ofBits (F := Ideal) .f32 0x00000000#32)))
/-- One key and value head's four query heads' sinks. -/
def sinkAdd4 (acc : FVec Ideal S1x1024 .f32) (j0 j1 j2 j3 : BitVec 32) (w : FVec Ideal S512x1 .f32) : FVec Ideal S1x1024 .f32 :=
  sinkAdd (sinkAdd (sinkAdd (sinkAdd acc j0 0#32 w) j1 1#32 w) j2 2#32 w) j3 3#32 w

/-- A slice of 64 columns of a block of `q` or of the cotangent, of a block of keys and values, and one sink. -/
def ldq (x : FVec Ideal S128x1024 .bf16) (o : ℕ) (h : ∀ a, (![0, o] : Fin 2 → ℕ) a + S128x64.size a ≤ S128x1024.size a) : FVec Ideal S128x64 .bf16 :=
  View.ld (Val := Elt Ideal) (e' := .bf16) x (Rect.unit (s := S128x1024) ![0, o] S128x64.size h)
def ldk (x : FVec Ideal S128x512 .bf16) (o : ℕ) (h : ∀ a, (![0, o] : Fin 2 → ℕ) a + S128x64.size a ≤ S128x512.size a) : FVec Ideal S128x64 .bf16 :=
  View.ld (Val := Elt Ideal) (e' := .bf16) x (Rect.unit (s := S128x512) ![0, o] S128x64.size h)
theorem inq (k g : Fin 4) : ∀ a, (![0, k.val * 256 + g.val * 64] : Fin 2 → ℕ) a + S128x64.size a ≤ S128x1024.size a := by
  revert k g; decide
theorem ink (e : Fin 2) (k : Fin 4) : ∀ a, (![0, e.val * 256 + k.val * 64] : Fin 2 → ℕ) a + S128x64.size a ≤ S128x512.size a := by
  revert e k; decide

def lds (x : FVec Ideal S16 .f32) (o : ℕ) (h : ∀ a, (![o] : Fin 1 → ℕ) a + S1.size a ≤ S16.size a) : Elt Ideal .f32 :=
  View.ld (Val := Elt Ideal) (e' := .f32) x (Rect.unit (s := S16) ![o] S1.size h) (Shape.Idx.first (s := S1) (by decide))
theorem ins (k g : Fin 4) : ∀ a, (![k.val * 4 + g.val] : Fin 1 → ℕ) a + S1.size a ≤ S16.size a := by
  revert k g; decide

/-- What the part of head `k` reads of the five blocks. -/
def hd (x0 : FVec Ideal S16 .f32) (x1 : FVec Ideal S128x1024 .bf16) (x2 x3 : FVec Ideal S128x512 .bf16) (x4 : FVec Ideal S128x1024 .bf16) (k : Fin 4) : Head :=
  { q0 := ldq x1 _ (inq k 0), q1 := ldq x1 _ (inq k 1), q2 := ldq x1 _ (inq k 2), q3 := ldq x1 _ (inq k 3)
    d0 := ldq x4 _ (inq k 0), d1 := ldq x4 _ (inq k 1), d2 := ldq x4 _ (inq k 2), d3 := ldq x4 _ (inq k 3)
    kp := ldk x2 _ (ink 0 k), kc := ldk x3 _ (ink 0 k), vp := ldk x2 _ (ink 1 k), vc := ldk x3 _ (ink 1 k)
    s0 := lds x0 _ (ins k 0), s1 := lds x0 _ (ins k 1), s2 := lds x0 _ (ins k 2), s3 := lds x0 _ (ins k 3) }

variable (m : (ℓ : Loc nD τ sig) → Buf (Elt Ideal) ℓ)
/-- Head `k` at point `t`. -/
abbrev hdAt (c : Dev nD) (t : Fin cfg0.N) (k : Fin 4) : Head := hd (iblk m c 0 t) (iblk m c 1 t) (iblk m c 2 t) (iblk m c 3 t) (iblk m c 4 t) k

theorem ext2 {a b : ℕ} {i : (⟨2, ![a, b]⟩ : Shape).Idx} {u : Fin a} {v : Fin b} (h0 : (i 0).val = u.val) (h1 : (i 1).val = v.val) : i = ix2 u v := by
  funext e
  match e with
  | 0 => exact Fin.ext h0
  | 1 => exact Fin.ext h1
theorem ldq_at (x : FVec Ideal S128x1024 .bf16) (k g : Fin 4) (y : Fin 128) (d : Fin 64) :
    (ldq x _ (inq k g) : S128x64.Idx → EReal) (ix2 y d) = (x : S128x1024.Idx → EReal) (ix2 y ⟨k.val * 256 + g.val * 64 + d.val, by omega⟩) := by
  refine congrArg (x : S128x1024.Idx → EReal) (ext2 ?_ ?_)
  · rw [Rect.idx_unit_val]; show 0 + y.val = y.val; omega
  · rw [Rect.idx_unit_val]; rfl
theorem ldk_at (x : FVec Ideal S128x512 .bf16) (e : Fin 2) (k : Fin 4) (y : Fin 128) (d : Fin 64) :
    (ldk x _ (ink e k) : S128x64.Idx → EReal) (ix2 y d) = (x : S128x512.Idx → EReal) (ix2 y ⟨e.val * 256 + k.val * 64 + d.val, by omega⟩) := by
  refine congrArg (x : S128x512.Idx → EReal) (ext2 ?_ ?_)
  · rw [Rect.idx_unit_val]; show 0 + y.val = y.val; omega
  · rw [Rect.idx_unit_val]; rfl
theorem lds_at (x : FVec Ideal S16 .f32) (k g : Fin 4) : (lds x _ (ins k g) : EReal) = (x : S16.Idx → EReal) (ix1 ⟨k.val * 4 + g.val, by omega⟩) := by
  refine congrArg (x : S16.Idx → EReal) (funext fun a => ?_)
  obtain rfl : a = 0 := Subsingleton.elim _ _
  exact Fin.ext (by rw [Rect.idx_unit_val]; rfl)

/-- The sinks' gradient of a point, over all sixteen query heads. -/
def sinkAll (i : grid0.Coords) (h : Fin 4 → Head) : FVec Ideal S1x1024 .f32 :=
  sinkAdd4 (sinkAdd4 (sinkAdd4 (sinkAdd4 k0_pay5 0#32 1#32 2#32 3#32 ((h 0).dz i)) 4#32 5#32 6#32 7#32 ((h 1).dz i)) 8#32 9#32 10#32 11#32 ((h 2).dz i))
    12#32 13#32 14#32 15#32 ((h 3).dz i)

/-- A buffer a block was put in, read back, is the block. -/
theorem rb0 (c : Dev nD) (t : Fin cfg0.N) : (ms0_0 t).view.read (Elt Ideal) ((hs0_0 t).unread (iblk m c 0 t)) = iblk m c 0 t := (hs0_0 t).read_unread _
theorem rb1 (c : Dev nD) (t : Fin cfg0.N) : (ms0_1 t).view.read (Elt Ideal) ((hs0_1 t).unread (iblk m c 1 t)) = iblk m c 1 t := (hs0_1 t).read_unread _
theorem rb2 (c : Dev nD) (t : Fin cfg0.N) : (ms0_2 t).view.read (Elt Ideal) ((hs0_2 t).unread (iblk m c 2 t)) = iblk m c 2 t := (hs0_2 t).read_unread _
theorem rb3 (c : Dev nD) (t : Fin cfg0.N) : (ms0_3 t).view.read (Elt Ideal) ((hs0_3 t).unread (iblk m c 3 t)) = iblk m c 3 t := (hs0_3 t).read_unread _
theorem rb4 (c : Dev nD) (t : Fin cfg0.N) : (ms0_4 t).view.read (Elt Ideal) ((hs0_4 t).unread (iblk m c 4 t)) = iblk m c 4 t := (hs0_4 t).read_unread _

end Cert.AttnBwdIdeal.Grad

end
-- ==== Proof.AttnReal.lean ====
/- One row of a masked softmax with a sink, and its gradient, over the real numbers: the quotients, and what they become when every exponent is shifted by one number. -/
module

public import proofs.«01_k».proof.Proof.Finite

@[expose] public section

set_option maxRecDepth 16384

noncomputable section

open Idealize.ShloMosaic Idealize.ShloMosaic.TcCoe Idealize.SL.Sem
open Idealize.ShloMosaic.Pipeline (Dat)

namespace Cert.Attend

open Cert.Finite

variable (ok : Fin 256 → Prop) [DecidablePred ok] (x x' : Fin 256 → ℝ) (z : ℝ) (g g' : Fin 256 → ℝ) (m : ℝ)

/-- The exponential of a score the mask admits. -/
def E (j : Fin 256) : ℝ := if ok j then Real.exp (x j) else 0
/-- The softmax's denominator: the admitted scores' exponentials and the sink's. -/
def Z : ℝ := ∑ j, E ok x j + Real.exp z
/-- The softmax. -/
def P (j : Fin 256) : ℝ := E ok x j / Z ok x z
/-- The softmax's inner product with the cotangent. -/
def A : ℝ := ∑ j, P ok x z j * g j
/-- The gradient with respect to a score, times the scores' scale. -/
def S (j : Fin 256) : ℝ := P ok x z j * (g j - A ok x z g) * (1 / 8)
/-- The gradient with respect to the sink. -/
def D : ℝ := -(Real.exp z / Z ok x z * A ok x z g)

theorem E_nonneg (j : Fin 256) : 0 ≤ E ok x j := by unfold E; split <;> positivity
theorem Z_pos : 0 < Z ok x z := add_pos_of_nonneg_of_pos (Finset.sum_nonneg fun j _ => E_nonneg ok x j) (Real.exp_pos z)
theorem E_off {j : Fin 256} (h : ¬ok j) : E ok x j = 0 := if_neg h
theorem P_off {j : Fin 256} (h : ¬ok j) : P ok x z j = 0 := by rw [P, E_off ok x h, zero_div]
theorem S_off {j : Fin 256} (h : ¬ok j) : S ok x z g j = 0 := by rw [S, P_off ok x z h, zero_mul, zero_mul]

/-- Scores and cotangents matter only where the mask admits them. -/
theorem P_congr (h : ∀ j, ok j → x j = x' j) : P ok x z = P ok x' z := by
  have e : E ok x = E ok x' := funext fun j => by
    unfold E; split
    · rw [h j ‹_›]
    · rfl
  funext j; rw [P, P, Z, Z, e]
theorem Z_congr (h : ∀ j, ok j → x j = x' j) : Z ok x z = Z ok x' z := by
  have e : E ok x = E ok x' := funext fun j => by
    unfold E; split
    · rw [h j ‹_›]
    · rfl
  rw [Z, Z, e]
theorem A_congr (h : ∀ j, ok j → x j = x' j) (hg : ∀ j, ok j → g j = g' j) : A ok x z g = A ok x' z g' := by
  unfold A; rw [P_congr ok x x' z h]
  refine Finset.sum_congr rfl fun j _ => ?_
  by_cases hj : ok j
  · rw [hg j hj]
  · rw [P_off ok x' z hj, zero_mul, zero_mul]
theorem S_congr (h : ∀ j, ok j → x j = x' j) (hg : ∀ j, ok j → g j = g' j) : S ok x z g = S ok x' z g' := by
  funext j
  by_cases hj : ok j
  · rw [S, S, P_congr ok x x' z h, A_congr ok x x' z g g' h hg, hg j hj]
  · rw [S_off ok x z g hj, S_off ok x' z g' hj]
theorem D_congr (h : ∀ j, ok j → x j = x' j) (hg : ∀ j, ok j → g j = g' j) : D ok x z g = D ok x' z g' := by
  rw [D, D, Z_congr ok x x' z h, A_congr ok x x' z g g' h hg]

/-- The exponential of a shifted masked score. -/
theorem exp_shift (j : Fin 256) : Ideal.exp ((if ok j then (x j : EReal) else ⊥) - (m : EReal)) = ((E ok x j * Real.exp (-m) : ℝ) : EReal) := by
  unfold E; split
  · rw [← EReal.coe_sub, Ideal.exp_coe, sub_eq_add_neg, Real.exp_add]
  · rw [EReal.bot_sub, Ideal.exp_bot, zero_mul, EReal.coe_zero]
theorem exp_sink : Ideal.exp ((z : EReal) - (m : EReal)) = ((Real.exp z * Real.exp (-m) : ℝ) : EReal) := by
  rw [← EReal.coe_sub, Ideal.exp_coe, sub_eq_add_neg, Real.exp_add]
/-- The shifted denominator. -/
theorem den_shift : ∑ j, E ok x j * Real.exp (-m) + Real.exp z * Real.exp (-m) = Z ok x z * Real.exp (-m) := by
  rw [← Finset.sum_mul, ← add_mul, Z]
theorem den_ne : Z ok x z * Real.exp (-m) ≠ 0 := mul_ne_zero (Z_pos ok x z).ne' (Real.exp_pos _).ne'
theorem P_shift (j : Fin 256) : E ok x j * Real.exp (-m) * (1 / (Z ok x z * Real.exp (-m))) = P ok x z j := by
  have h1 := (Z_pos ok x z).ne'
  have h2 := (Real.exp_pos (-m)).ne'
  rw [P]; field_simp

/-- The gradient that reaches the denominator. -/
theorem A_shift : -∑ j, g j * (1 / (Z ok x z * Real.exp (-m) * (Z ok x z * Real.exp (-m)))) * (E ok x j * Real.exp (-m)) = -(A ok x z g / (Z ok x z * Real.exp (-m))) := by
  have h1 := (Z_pos ok x z).ne'
  have h2 := (Real.exp_pos (-m)).ne'
  rw [A, Finset.sum_div]
  congr 1
  refine Finset.sum_congr rfl fun j _ => ?_
  rw [P]; field_simp
theorem D_shift : -(A ok x z g / (Z ok x z * Real.exp (-m))) * (Real.exp z * Real.exp (-m)) = D ok x z g := by
  have h1 := (Z_pos ok x z).ne'
  have h2 := (Real.exp_pos (-m)).ne'
  rw [D]; field_simp
theorem S_shift (j : Fin 256) : (g j * (1 / (Z ok x z * Real.exp (-m))) + -(A ok x z g / (Z ok x z * Real.exp (-m)))) * (E ok x j * Real.exp (-m))
    = P ok x z j * (g j - A ok x z g) := by
  have h1 := (Z_pos ok x z).ne'
  have h2 := (Real.exp_pos (-m)).ne'
  rw [P]; field_simp; ring
/-- No gradient reaches the number the exponents are shifted by. -/
theorem shift_zero : -D ok x z g + ∑ j, -(P ok x z j * (g j - A ok x z g)) = 0 := by
  have h1 := (Z_pos ok x z).ne'
  have e : ∑ j, P ok x z j = 1 - Real.exp z / Z ok x z := by
    have : ∑ j, P ok x z j = (∑ j, E ok x j) / Z ok x z := by simp only [P]; rw [Finset.sum_div]
    rw [this, eq_sub_iff_add_eq, ← add_div, ← Z, div_self h1]
  have e2 : ∑ j, -(P ok x z j * (g j - A ok x z g)) = -(A ok x z g) + (∑ j, P ok x z j) * A ok x z g := by
    rw [Finset.sum_neg_distrib]
    simp only [mul_sub]
    rw [Finset.sum_sub_distrib, ← Finset.sum_mul]
    rw [show ∑ j, P ok x z j * g j = A ok x z g from rfl]; ring
  rw [e2, e, D]; ring

/-- The two halves of a row. -/
def lo (j : Fin 128) : Fin 256 := ⟨j.val, by omega⟩
def hi (j : Fin 128) : Fin 256 := ⟨128 + j.val, by omega⟩
theorem sum_halves {M : Type*} [AddCommMonoid M] (f : Fin 256 → M) : ∑ j, f j = ∑ j, f (lo j) + ∑ j, f (hi j) :=
  Fin.sum_univ_add (a := 128) (b := 128) f

/-- The greatest of finitely many numbers below `⊤` and a real number is a real number. -/
theorem fold_max_lt {n : ℕ} (f : Fin n → EReal) (h : ∀ j, f j ≠ ⊤) : Finset.univ.fold max ⊥ f ≠ ⊤ := by
  have e : Finset.univ.fold max ⊥ f = Finset.univ.sup f := rfl
  rw [e, ← lt_top_iff_ne_top, Finset.sup_lt_iff bot_lt_top]
  exact fun j _ => lt_top_iff_ne_top.mpr (h j)
theorem max_real (a : EReal) (h : a ≠ ⊤) (z : ℝ) : ∃ m : ℝ, max a (z : EReal) = m := by
  refine ⟨(max a (z : EReal)).toReal, (EReal.coe_toReal ?_ ?_).symm⟩
  · exact (max_lt (lt_top_iff_ne_top.mpr h) (EReal.coe_lt_top z)).ne
  · exact ((EReal.bot_lt_coe z).trans_le (le_max_right _ _)).ne'
/-- The greatest is one of the numbers. -/
theorem fold_max_mem {n : ℕ} [NeZero n] (f : Fin n → EReal) : ∃ j, f j = Finset.univ.fold max ⊥ f := by
  obtain ⟨j, -, h⟩ := Finset.exists_mem_eq_sup Finset.univ Finset.univ_nonempty f
  exact ⟨j, h.symm⟩

end Cert.Attend

end
-- ==== Proof.AttnSpec.lean ====
/- The windowed attention's gradients over the real numbers, as sums over the blocks, rows, heads and columns. -/
module

public import proofs.«01_k».proof.Proof.AttnReal

@[expose] public section

set_option maxRecDepth 16384

noncomputable section

open Idealize.ShloMosaic Idealize.ShloMosaic.TcCoe Idealize.SL.Sem
open Idealize.ShloMosaic.Pipeline (Dat)

namespace Cert.Attend

/-- Queries and cotangents by block, row, key head, query head of it and column; each block's window of keys and values; sinks. -/
structure Data where
  q : Fin 16 → Fin 128 → Fin 4 → Fin 4 → Fin 64 → ℝ
  K : Fin 16 → Fin 256 → Fin 4 → Fin 64 → ℝ
  W : Fin 16 → Fin 256 → Fin 4 → Fin 64 → ℝ
  z : Fin 4 → Fin 4 → ℝ
  o : Fin 16 → Fin 128 → Fin 4 → Fin 4 → Fin 64 → ℝ

/-- Row `y` of block `n` sees place `j` of its window. -/
def ok (n : Fin 16) (y : Fin 128) (j : Fin 256) : Prop := (y.val < j.val ∧ j.val ≤ y.val + 128) ∧ 128 ≤ n.val * 128 + j.val
instance (n : Fin 16) (y : Fin 128) : DecidablePred (ok n y) := fun j => by unfold ok; infer_instance

namespace Data
variable (a b : Data) (n : Fin 16) (k g : Fin 4) (y : Fin 128)
/-- Scores and the softmax's cotangent. -/
def x (j : Fin 256) : ℝ := (∑ d, a.K n j k d * a.q n y k g d) * (1 / 8)
def c (j : Fin 256) : ℝ := ∑ d, a.o n y k g d * a.W n j k d
/-- The softmax, the scores' scaled gradient and the sink's. -/
def p (j : Fin 256) : ℝ := P (ok n y) (a.x n k g y) (a.z k g) j
def s (j : Fin 256) : ℝ := S (ok n y) (a.x n k g y) (a.z k g) (a.c n k g y) j
def dsink : ℝ := D (ok n y) (a.x n k g y) (a.z k g) (a.c n k g y)
/-- The gradients of the queries, of the window's keys and values, and of the sinks. -/
def dq (d : Fin 64) : ℝ := ∑ j, a.s n k g y j * a.K n j k d
def dk (j : Fin 256) (d : Fin 64) : ℝ := ∑ y, ∑ g, a.s n k g y j * a.q n y k g d
def dv (j : Fin 256) (d : Fin 64) : ℝ := ∑ y, ∑ g, a.p n k g y j * a.o n y k g d
def dz : ℝ := ∑ n, ∑ y, a.dsink n k g y

/-- The results: the queries' gradient, the bias's, the two blocks' of the keys' and values' (`f` the half's places), the sinks' (sixteen columns of the row). -/
def outQ (i : Fin 2048) (c : Fin 1024) : ℝ := a.dq ⟨i.val / 128, by omega⟩ ⟨c.val / 256, by omega⟩ ⟨c.val / 64 % 4, by omega⟩ ⟨i.val % 128, by omega⟩ ⟨c.val % 64, by omega⟩
def outB (c : Fin 1024) : ℝ := ∑ i, a.outQ i c
def outW (f : Fin 128 → Fin 256) (n : Fin 16) (y : Fin 128) (c : Fin 512) : ℝ :=
  if h : c.val < 256 then a.dk n ⟨c.val / 64, by omega⟩ (f y) ⟨c.val % 64, by omega⟩ else a.dv n ⟨(c.val - 256) / 64, by omega⟩ (f y) ⟨(c.val - 256) % 64, by omega⟩
def outZ (c : Fin 1024) : ℝ := if h : c.val < 16 then a.dz ⟨c.val / 4, by omega⟩ ⟨c.val % 4, by omega⟩ else 0

/-- Two data that differ in window places no row sees only. -/
structure Same : Prop where
  q : a.q = b.q
  z : a.z = b.z
  o : a.o = b.o
  K : ∀ n j, 128 ≤ n.val * 128 + j.val → a.K n j = b.K n j
  W : ∀ n j, 128 ≤ n.val * 128 + j.val → a.W n j = b.W n j

variable {a b} (h : Same a b)
include h
theorem x_same (j : Fin 256) (hj : ok n y j) : a.x n k g y j = b.x n k g y j := by
  unfold x; rw [h.q, h.K n j hj.2]
theorem c_same (j : Fin 256) (hj : ok n y j) : a.c n k g y j = b.c n k g y j := by
  unfold c; rw [h.o, h.W n j hj.2]
theorem p_same : a.p n k g y = b.p n k g y := by
  funext j; unfold p; rw [P_congr _ _ _ _ (x_same n k g y h), h.z]
theorem s_same : a.s n k g y = b.s n k g y := by
  funext j; unfold s; rw [S_congr _ _ _ _ _ _ (x_same n k g y h) (c_same n k g y h), h.z]
theorem dsink_same : a.dsink n k g y = b.dsink n k g y := by
  unfold dsink; rw [D_congr _ _ _ _ _ _ (x_same n k g y h) (c_same n k g y h), h.z]
theorem dq_same : a.dq n k g y = b.dq n k g y := by
  funext d; unfold dq; rw [s_same n k g y h]
  refine Finset.sum_congr rfl fun j _ => ?_
  by_cases hj : ok n y j
  · rw [h.K n j hj.2]
  · rw [show b.s n k g y j = 0 from S_off _ _ _ _ hj, zero_mul, zero_mul]
theorem dk_same : a.dk n k = b.dk n k := by
  funext j d; unfold dk; simp only [s_same _ _ _ _ h, h.q]
theorem dv_same : a.dv n k = b.dv n k := by
  funext j d; unfold dv; simp only [p_same _ _ _ _ h, h.o]
theorem dz_same : a.dz k g = b.dz k g := by
  unfold dz; simp only [dsink_same _ _ _ _ h]
end Data

/-- The reference's windows: the block before (zeros at the first) and the block itself. -/
def data (qp : Fin 2048 → Fin 1024 → ℝ) (b : Fin 1024 → ℝ) (kv : Fin 2048 → Fin 512 → ℝ) (z : Fin 16 → ℝ) (o : Fin 2048 → Fin 1024 → ℝ) : Data where
  q n y k g d := qp ⟨n.val * 128 + y.val, by omega⟩ ⟨k.val * 256 + g.val * 64 + d.val, by omega⟩ + b ⟨k.val * 256 + g.val * 64 + d.val, by omega⟩
  K n j k d := if h : j.val < 128 then if h' : n.val < 1 then 0 else kv ⟨(n.val - 1) * 128 + j.val, by omega⟩ ⟨k.val * 64 + d.val, by omega⟩
    else kv ⟨n.val * 128 + (j.val - 128), by omega⟩ ⟨k.val * 64 + d.val, by omega⟩
  W n j k d := if h : j.val < 128 then if h' : n.val < 1 then 0 else kv ⟨(n.val - 1) * 128 + j.val, by omega⟩ ⟨256 + (k.val * 64 + d.val), by omega⟩
    else kv ⟨n.val * 128 + (j.val - 128), by omega⟩ ⟨256 + (k.val * 64 + d.val), by omega⟩
  z k g := z ⟨k.val * 4 + g.val, by omega⟩
  o n y k g d := o ⟨n.val * 128 + y.val, by omega⟩ ⟨k.val * 256 + g.val * 64 + d.val, by omega⟩

/-- The kernel's windows: at the first block the block itself stands for the one before. -/
def kdata (qp : Fin 2048 → Fin 1024 → ℝ) (b : Fin 1024 → ℝ) (kv : Fin 2048 → Fin 512 → ℝ) (z : Fin 16 → ℝ) (o : Fin 2048 → Fin 1024 → ℝ) : Data where
  q := (data qp b kv z o).q
  K n j k d := if h : j.val < 128 then kv ⟨(n.val - 1) * 128 + j.val, by omega⟩ ⟨k.val * 64 + d.val, by omega⟩
    else kv ⟨n.val * 128 + (j.val - 128), by omega⟩ ⟨k.val * 64 + d.val, by omega⟩
  W n j k d := if h : j.val < 128 then kv ⟨(n.val - 1) * 128 + j.val, by omega⟩ ⟨256 + (k.val * 64 + d.val), by omega⟩
    else kv ⟨n.val * 128 + (j.val - 128), by omega⟩ ⟨256 + (k.val * 64 + d.val), by omega⟩
  z := (data qp b kv z o).z
  o := (data qp b kv z o).o

theorem same (qp : Fin 2048 → Fin 1024 → ℝ) (b : Fin 1024 → ℝ) (kv : Fin 2048 → Fin 512 → ℝ) (z : Fin 16 → ℝ) (o : Fin 2048 → Fin 1024 → ℝ) :
    Data.Same (kdata qp b kv z o) (data qp b kv z o) where
  q := rfl
  z := rfl
  o := rfl
  K n j hj := by
    funext k d; dsimp only [kdata, data]
    by_cases h1 : j.val < 128
    · rw [dif_pos h1, dif_pos h1, dif_neg (by omega)]
    · rw [dif_neg h1, dif_neg h1]
  W n j hj := by
    funext k d; dsimp only [kdata, data]
    by_cases h1 : j.val < 128
    · rw [dif_pos h1, dif_pos h1, dif_neg (by omega)]
    · rw [dif_neg h1, dif_neg h1]

end Cert.Attend

end
-- ==== Proof.AttnAt.lean ====
/- The body of `attn_bwd` over real numbers: each named function of a head at an index is a real number of the specification. -/
module

public import proofs.«01_k».proof.Proof.AttnHead
public import proofs.«01_k».proof.Proof.AttnSpec

@[expose] public section

set_option maxRecDepth 16384

noncomputable section

open Idealize.ShloMosaic Idealize.ShloMosaic.TcCoe Idealize.SL.Sem
open Idealize.ShloMosaic.Pipeline (Dat)

namespace Cert.AttnBwdIdeal.Grad

open Cert.AttnBwdIdeal Cert.AttnBwdIdeal.Gen Cert.Attend Cert.Finite

set_option maxHeartbeats 4000000

/-- Row `y` of query head `g` among the 512 rows of a key head. -/
def row (g : Fin 4) (y : Fin 128) : Fin 512 := ⟨y.val + 128 * g.val, by omega⟩
theorem sum_rows {M : Type*} [AddCommMonoid M] (f : Fin 512 → M) : ∑ r, f r = ∑ y, ∑ g, f (row g y) := by
  rw [Finset.sum_comm, ← (finProdFinEquiv (m := 4) (n := 128)).sum_comp f, Fintype.sum_prod_type]
  rfl

/-- The masks' integers. -/
theorem pay2_at (r : Fin 512) (j : Fin 128) : (k0_pay2 : S512x128.Idx → BitVec 32) (ix2 r j) = BitVec.ofNat 32 (r.val % 128) := by
  pointwise [k0_pay2]
  revert r; decide +kernel
theorem pay14_at (r : Fin 512) : (k0_pay14 : S512x1.Idx → BitVec 32) (ix2 r 0) = BitVec.ofNat 32 (r.val / 128) := by
  pointwise [k0_pay14]
  revert r; decide +kernel
theorem sle_at : ∀ (y j : Fin 128), IntOp.cmpi .sle (BitVec.ofNat 32 j.val) (BitVec.ofNat 32 y.val) = BitVec.ofBool (decide (j.val ≤ y.val)) := by decide +kernel
theorem sgt_at : ∀ (y j : Fin 128), IntOp.cmpi .sgt (BitVec.ofNat 32 j.val) (BitVec.ofNat 32 y.val) = BitVec.ofBool (decide (y.val < j.val)) := by decide +kernel
theorem pos_at : ∀ n : Fin 16, IntOp.cmpi .sgt (BitVec.ofNat 32 n.val) 0#32 = BitVec.ofBool (decide (0 < n.val)) := by decide +kernel
theorem eq_at {N : ℕ} (hN : N < 2 ^ 32) (a b : Fin N) : IntOp.cmpi .eq (BitVec.ofNat 32 a.val) (BitVec.ofNat 32 b.val) = BitVec.ofBool (decide (a = b)) := by
  have e : (BitVec.ofNat 32 a.val = BitVec.ofNat 32 b.val) ↔ a = b := by
    constructor
    · intro h
      have := congrArg BitVec.toNat h
      simp only [BitVec.toNat_ofNat] at this
      rw [Nat.mod_eq_of_lt (by omega), Nat.mod_eq_of_lt (by omega)] at this
      exact Fin.ext this
    · rintro rfl; rfl
  show BitVec.ofBool (BitVec.ofNat 32 a.val == BitVec.ofNat 32 b.val) = _
  congr 1
  rw [Bool.eq_iff_iff, beq_iff_eq, decide_eq_true_iff]
  exact e
theorem andi_bool (p q : Prop) [Decidable p] [Decidable q] : IntOp.andi (BitVec.ofBool (decide p)) (BitVec.ofBool (decide q)) = BitVec.ofBool (decide (p ∧ q)) := by
  by_cases h : p <;> by_cases h' : q <;> simp [h, h'] <;> rfl
theorem sel_bool (p : Prop) [Decidable p] (x y : EReal) : Scalar.select (α := EReal) (BitVec.ofBool (decide p)) x y = if p then x else y := by
  by_cases h : p <;> simp [h, Scalar.select]

theorem eighth : (Ideal.ofBits .f32 0x3E000000#32 : EReal) = ((1 / 8 : ℝ) : EReal) := by
  simp [Ideal.ofBits, Ideal.ieee]; norm_cast; norm_num

variable {i : grid0.Coords} {n : Fin 16} (hn : (i 0).val = n.val) {k : Fin 4} (g : Fin 4) (y j : Fin 128) (d : Fin 64) {h : Head} {a : Data}

include hn in
/-- A row sees a place of the block before, and one of its own block. -/
theorem maskp : (k0_pay3 i : S512x128.Idx → BitVec 1) (ix2 (row g y) j) = BitVec.ofBool (decide (ok n y (lo j))) := by
  have e : (k0_pay2 : S512x128.Idx → BitVec 32) (ix2 (row g y) j) = BitVec.ofNat 32 y.val := by
    rw [pay2_at, show (row g y).val % 128 = y.val from by show (y.val + 128 * g.val) % 128 = y.val; omega]
  have e2 : ok n y (lo j) ↔ y.val < j.val ∧ 0 < n.val := by unfold ok lo; dsimp only; have := j.isLt; have := y.isLt; omega
  refine Eq.trans ?_ ((andi_bool (y.val < j.val) (0 < n.val)).trans (congrArg BitVec.ofBool (Bool.decide_congr e2.symm)))
  rw [← sgt_at, ← pos_at, ← hn]
  pointwise [k0_pay3, e]
  rfl
theorem maskc : (k0_pay4 : S512x128.Idx → BitVec 1) (ix2 (row g y) j) = BitVec.ofBool (decide (ok n y (hi j))) := by
  have e : (k0_pay2 : S512x128.Idx → BitVec 32) (ix2 (row g y) j) = BitVec.ofNat 32 y.val := by
    rw [pay2_at, show (row g y).val % 128 = y.val from by show (y.val + 128 * g.val) % 128 = y.val; omega]
  have e2 : ok n y (hi j) ↔ j.val ≤ y.val := by unfold ok hi; dsimp only; have := j.isLt; have := y.isLt; omega
  refine Eq.trans ?_ (congrArg BitVec.ofBool (Bool.decide_congr e2.symm))
  rw [← sle_at]
  pointwise [k0_pay4, e]

/-- What a head reads are the real numbers of block `n` and key head `k`. -/
structure IsReal (h : Head) (a : Data) (n : Fin 16) (k : Fin 4) : Prop where
  q : ∀ g y d, (h.q : S512x64.Idx → EReal) (ix2 (row g y) d) = ((a.q n y k g d : ℝ) : EReal)
  o : ∀ g y d, (h.o : S512x64.Idx → EReal) (ix2 (row g y) d) = ((a.o n y k g d : ℝ) : EReal)
  kp : ∀ j d, (h.kp' : S128x64.Idx → EReal) (ix2 j d) = ((a.K n (lo j) k d : ℝ) : EReal)
  kc : ∀ j d, (h.kc' : S128x64.Idx → EReal) (ix2 j d) = ((a.K n (hi j) k d : ℝ) : EReal)
  vp : ∀ j d, (h.vp' : S128x64.Idx → EReal) (ix2 j d) = ((a.W n (lo j) k d : ℝ) : EReal)
  vc : ∀ j d, (h.vc' : S128x64.Idx → EReal) (ix2 j d) = ((a.W n (hi j) k d : ℝ) : EReal)
  sk : ∀ g y, (h.sk : S512x1.Idx → EReal) (ix2 (row g y) 0) = ((a.z k g : ℝ) : EReal)

variable (R : IsReal h a n k)
include R

include hn in
/-- The masked scores and the softmax's cotangent. -/
theorem xp_at : (h.xp i : S512x128.Idx → EReal) (ix2 (row g y) j) = if ok n y (lo j) then ((a.x n k g y (lo j) : ℝ) : EReal) else ⊥ := by
  pointwise [Head.xp, k0_pay18]
  rw [maskp hn, sel_bool]
  simp only [R.q, R.kp, eighth, ← EReal.coe_mul, ← coe_sum, Data.x, mul_comm]
  rfl
theorem xc_at : (h.xc : S512x128.Idx → EReal) (ix2 (row g y) j) = if ok n y (hi j) then ((a.x n k g y (hi j) : ℝ) : EReal) else ⊥ := by
  pointwise [Head.xc, k0_pay19]
  rw [maskc (n := n), sel_bool]
  simp only [R.q, R.kc, eighth, ← EReal.coe_mul, ← coe_sum, Data.x, mul_comm]
  rfl
theorem gp_at : (h.gp : S512x128.Idx → EReal) (ix2 (row g y) j) = ((a.c n k g y (lo j) : ℝ) : EReal) := by
  pointwise [Head.gp, k0_pay28]
  simp only [R.o, R.vp, ← EReal.coe_mul, ← coe_sum, Data.c]
theorem gc_at : (h.gc : S512x128.Idx → EReal) (ix2 (row g y) j) = ((a.c n k g y (hi j) : ℝ) : EReal) := by
  pointwise [Head.gc, k0_pay29]
  simp only [R.o, R.vc, ← EReal.coe_mul, ← coe_sum, Data.c]
include hn
/-- The number a row's exponents are shifted by is real. -/
theorem mx_real : ∃ r : ℝ, (h.mx i : S512x1.Idx → EReal) (ix2 (row g y) 0) = (r : EReal) := by
  have e : (h.mx i : S512x1.Idx → EReal) (ix2 (row g y) 0)
      = max (max (Finset.univ.fold max ⊥ fun j => (h.xp i : S512x128.Idx → EReal) (ix2 (row g y) j)) (Finset.univ.fold max ⊥ fun j => (h.xc : S512x128.Idx → EReal) (ix2 (row g y) j)))
        ((h.sk : S512x1.Idx → EReal) (ix2 (row g y) 0)) := by
    pointwise [Head.mx, k0_pay20]
    rw [show (Ideal.ofBits .f32 0xFF800000#32 : EReal) = ⊥ from by simp [Ideal.ofBits, Ideal.ieee]]
    rfl
  rw [e, R.sk]
  refine max_real _ (max_lt (lt_top_iff_ne_top.mpr (fold_max_lt _ fun j => ?_)) (lt_top_iff_ne_top.mpr (fold_max_lt _ fun j => ?_))).ne _
  · rw [xp_at hn g y j R]; split_ifs <;> simp
  · rw [xc_at g y j R]; split_ifs <;> simp

variable {r : ℝ} (hr : (h.mx i : S512x1.Idx → EReal) (ix2 (row g y) 0) = (r : EReal))
include hr
/-- The exponentials. -/
theorem ep_at : (h.ep i : S512x128.Idx → EReal) (ix2 (row g y) j) = ((E (ok n y) (a.x n k g y) (lo j) * Real.exp (-r) : ℝ) : EReal) := by
  refine Eq.trans ?_ (exp_shift (ok n y) (a.x n k g y) r (lo j))
  rw [← xp_at hn g y j R, ← hr]
  pointwise [Head.ep, k0_pay21]
  rfl
theorem ec_at : (h.ec i : S512x128.Idx → EReal) (ix2 (row g y) j) = ((E (ok n y) (a.x n k g y) (hi j) * Real.exp (-r) : ℝ) : EReal) := by
  refine Eq.trans ?_ (exp_shift (ok n y) (a.x n k g y) r (hi j))
  rw [← xc_at g y j R, ← hr]
  pointwise [Head.ec, k0_pay22]
  rfl
omit hn in
theorem es_at : (h.es i : S512x1.Idx → EReal) (ix2 (row g y) 0) = ((Real.exp (a.z k g) * Real.exp (-r) : ℝ) : EReal) := by
  refine Eq.trans ?_ (exp_sink (a.z k g) r)
  rw [← R.sk g y, ← hr]
  pointwise [Head.es, k0_pay23]
  rfl
theorem zp_at : (h.zp i : S512.Idx → EReal) (ix1 (row g y)) = ((∑ j, E (ok n y) (a.x n k g y) (lo j) * Real.exp (-r) : ℝ) : EReal) := by
  rw [coe_sum]
  refine Eq.trans ?_ (congrArg (fun f : Fin 128 → EReal => ∑ j, f j) (funext fun j => ep_at hn g y j R hr))
  pointwise [Head.zp, k0_pay24]
  rfl
/-- The reciprocal of the denominator. -/
theorem rz_at : (h.rz i : S512x1.Idx → EReal) (ix2 (row g y) 0) = ((1 / (Z (ok n y) (a.x n k g y) (a.z k g) * Real.exp (-r)) : ℝ) : EReal) := by
  pointwise [Head.rz, k0_pay25]
  rw [zp_at hn g y R hr, es_at g y R hr]
  simp only [ec_at hn g y _ R hr]
  rw [← coe_sum, ← EReal.coe_add, ← EReal.coe_add, ← sum_halves (fun j => E (ok n y) (a.x n k g y) j * Real.exp (-r)), den_shift, Ideal.div_coe (den_ne _ _ _ _), one_mul]
omit hr
/-- The softmax. -/
theorem pp_at : (h.pp i : S512x128.Idx → EReal) (ix2 (row g y) j) = ((a.p n k g y (lo j) : ℝ) : EReal) := by
  obtain ⟨r, hr⟩ := mx_real hn g y R
  have e : (h.pp i : S512x128.Idx → EReal) (ix2 (row g y) j) = (h.ep i : S512x128.Idx → EReal) (ix2 (row g y) j) * (h.rz i : S512x1.Idx → EReal) (ix2 (row g y) 0) := by
    pointwise [Head.pp, k0_pay26]; rfl
  rw [e, ep_at hn g y j R hr, rz_at hn g y R hr, ← EReal.coe_mul, P_shift]; rfl
theorem pc_at : (h.pc i : S512x128.Idx → EReal) (ix2 (row g y) j) = ((a.p n k g y (hi j) : ℝ) : EReal) := by
  obtain ⟨r, hr⟩ := mx_real hn g y R
  have e : (h.pc i : S512x128.Idx → EReal) (ix2 (row g y) j) = (h.ec i : S512x128.Idx → EReal) (ix2 (row g y) j) * (h.rz i : S512x1.Idx → EReal) (ix2 (row g y) 0) := by
    pointwise [Head.pc, k0_pay27]; rfl
  rw [e, ec_at hn g y j R hr, rz_at hn g y R hr, ← EReal.coe_mul, P_shift]; rfl
/-- The softmax's inner product with the cotangent. -/
theorem ar_at : (h.ar i : S512x1.Idx → EReal) (ix2 (row g y) 0) = ((A (ok n y) (a.x n k g y) (a.z k g) (a.c n k g y) : ℝ) : EReal) := by
  have e : (h.ar i : S512x1.Idx → EReal) (ix2 (row g y) 0)
      = ∑ j : Fin 128, ((h.pp i : S512x128.Idx → EReal) (ix2 (row g y) j) * (h.gp : S512x128.Idx → EReal) (ix2 (row g y) j) : EReal)
        + ∑ j : Fin 128, ((h.pc i : S512x128.Idx → EReal) (ix2 (row g y) j) * (h.gc : S512x128.Idx → EReal) (ix2 (row g y) j) : EReal) := by
    pointwise [Head.ar, k0_pay30]; rfl
  rw [e, A, sum_halves]
  simp only [pp_at hn g y _ R, pc_at hn g y _ R, gp_at g y _ R, gc_at g y _ R, ← EReal.coe_mul]
  rw [← coe_sum, ← coe_sum, ← EReal.coe_add]; rfl
/-- The scores' gradient. -/
theorem sp_at : (h.sp i : S512x128.Idx → EReal) (ix2 (row g y) j) = ((a.s n k g y (lo j) : ℝ) : EReal) := by
  have e : (h.sp i : S512x128.Idx → EReal) (ix2 (row g y) j)
      = (h.pp i : S512x128.Idx → EReal) (ix2 (row g y) j) * ((h.gp : S512x128.Idx → EReal) (ix2 (row g y) j) - (h.ar i : S512x1.Idx → EReal) (ix2 (row g y) 0)) * Ideal.ofBits .f32 0x3E000000#32 := by
    pointwise [Head.sp, k0_pay31]; rfl
  rw [e, pp_at hn g y j R, gp_at g y j R, ar_at hn g y R, eighth, ← EReal.coe_sub, ← EReal.coe_mul, ← EReal.coe_mul]; rfl
theorem sc_at : (h.sc i : S512x128.Idx → EReal) (ix2 (row g y) j) = ((a.s n k g y (hi j) : ℝ) : EReal) := by
  have e : (h.sc i : S512x128.Idx → EReal) (ix2 (row g y) j)
      = (h.pc i : S512x128.Idx → EReal) (ix2 (row g y) j) * ((h.gc : S512x128.Idx → EReal) (ix2 (row g y) j) - (h.ar i : S512x1.Idx → EReal) (ix2 (row g y) 0)) * Ideal.ofBits .f32 0x3E000000#32 := by
    pointwise [Head.sc, k0_pay32]; rfl
  rw [e, pc_at hn g y j R, gc_at g y j R, ar_at hn g y R, eighth, ← EReal.coe_sub, ← EReal.coe_mul, ← EReal.coe_mul]; rfl
/-- The sinks' gradient's terms, with the opposite sign. -/
theorem dz_at : (h.dz i : S512x1.Idx → EReal) (ix2 (row g y) 0) = ((-a.dsink n k g y : ℝ) : EReal) := by
  obtain ⟨r, hr⟩ := mx_real hn g y R
  have e : (h.dz i : S512x1.Idx → EReal) (ix2 (row g y) 0)
      = (h.es i : S512x1.Idx → EReal) (ix2 (row g y) 0) * (h.rz i : S512x1.Idx → EReal) (ix2 (row g y) 0) * (h.ar i : S512x1.Idx → EReal) (ix2 (row g y) 0) := by
    pointwise [Head.dz, k0_pay33]; rfl
  rw [e, es_at g y R hr, rz_at hn g y R hr, ar_at hn g y R, ← EReal.coe_mul, ← EReal.coe_mul]
  refine congrArg Real.toEReal ?_
  have h1 := (Z_pos (ok n y) (a.x n k g y) (a.z k g)).ne'
  have h2 := (Real.exp_pos (-r)).ne'
  rw [Data.dsink, D, neg_neg]; field_simp
/-- The queries' gradient. -/
theorem dq_half {x : Fin 512} {e : Fin 64} (hx : x = row g y) (he : e = d) :
    (∑ j : Fin 128, ((h.sp i : S512x128.Idx → EReal) (ix2 x j) * (h.kp' : S128x64.Idx → EReal) (ix2 j e) : EReal)
      + ∑ j : Fin 128, ((h.sc i : S512x128.Idx → EReal) (ix2 x j) * (h.kc' : S128x64.Idx → EReal) (ix2 j e) : EReal) : EReal) = ((a.dq n k g y d : ℝ) : EReal) := by
  subst hx he
  rw [Data.dq, sum_halves]
  simp only [sp_at hn g y _ R, sc_at hn g y _ R, R.kp, R.kc, ← EReal.coe_mul]
  rw [← coe_sum, ← coe_sum, ← EReal.coe_add]
theorem dq_at (c : Fin 256) (hc : c.val = g.val * 64 + d.val) : (h.dq i : S128x256.Idx → EReal) (ix2 y c) = ((a.dq n k g y d : ℝ) : EReal) := by
  pointwise [Head.dq, k0_pay40]
  have hg : g.val = 0 ∨ g.val = 1 ∨ g.val = 2 ∨ g.val = 3 := by omega
  rcases hg with hg | hg | hg | hg
  · rw [dif_pos (by omega)]; exact dq_half hn g y d R (Fin.ext (by simp only [row]; omega)) (Fin.ext (by simp only; omega))
  · rw [dif_neg (by omega), dif_pos (by omega)]; exact dq_half hn g y d R (Fin.ext (by simp only [row]; omega)) (Fin.ext (by simp only; omega))
  · rw [dif_neg (by omega), dif_neg (by omega), dif_pos (by omega)]; exact dq_half hn g y d R (Fin.ext (by simp only [row]; omega)) (Fin.ext (by simp only; omega))
  · rw [dif_neg (by omega), dif_neg (by omega), dif_neg (by omega)]; exact dq_half hn g y d R (Fin.ext (by simp only [row]; omega)) (Fin.ext (by simp only; omega))
/-- The keys' and the values' gradients. -/
theorem dkp_at : (h.dkp i : S128x64.Idx → EReal) (ix2 j d) = ((a.dk n k (lo j) d : ℝ) : EReal) := by
  pointwise [Head.dkp, k0_pay41]
  refine (sum_rows _).trans ?_
  simp only [sp_at hn _ _ _ R, R.q, ← EReal.coe_mul, ← coe_sum, Data.dk]
theorem dkc_at : (h.dkc i : S128x64.Idx → EReal) (ix2 j d) = ((a.dk n k (hi j) d : ℝ) : EReal) := by
  pointwise [Head.dkc, k0_pay42]
  refine (sum_rows _).trans ?_
  simp only [sc_at hn _ _ _ R, R.q, ← EReal.coe_mul, ← coe_sum, Data.dk]
theorem dvp_at : (h.dvp i : S128x64.Idx → EReal) (ix2 j d) = ((a.dv n k (lo j) d : ℝ) : EReal) := by
  pointwise [Head.dvp, k0_pay43]
  refine (sum_rows _).trans ?_
  simp only [pp_at hn _ _ _ R, R.o, ← EReal.coe_mul, ← coe_sum, Data.dv]
theorem dvc_at : (h.dvc i : S128x64.Idx → EReal) (ix2 j d) = ((a.dv n k (hi j) d : ℝ) : EReal) := by
  pointwise [Head.dvc, k0_pay44]
  refine (sum_rows _).trans ?_
  simp only [pc_at hn _ _ _ R, R.o, ← EReal.coe_mul, ← coe_sum, Data.dv]

end Cert.AttnBwdIdeal.Grad

end
-- ==== Proof.AttnFin.lean ====
/- The outputs' blocks of `attn_bwd` over real numbers: the heads side by side, the sums of columns, the sixteen sinks; and what the heads read of real blocks. -/
module

public import proofs.«01_k».proof.Proof.AttnAt

@[expose] public section

set_option maxRecDepth 16384

noncomputable section

open Idealize.ShloMosaic Idealize.ShloMosaic.TcCoe Idealize.SL.Sem
open Idealize.ShloMosaic.Pipeline (Dat)

namespace Cert.AttnBwdIdeal.Grad

open Cert.AttnBwdIdeal Cert.AttnBwdIdeal.Gen Cert.Attend Cert.Finite

set_option maxHeartbeats 4000000

/-- The four heads' columns side by side. -/
theorem ap {K : ℕ} {s : Shape} (X : Fin K → s.Idx → EReal) {k k' : Fin K} (hk : k.val = k'.val) {e e' : s.Idx} (he : e = e') : X k e = X k' e' := by
  obtain rfl := Fin.ext hk; rw [he]
theorem pay150_at (X : Fin 4 → S128x256.Idx → EReal) (y : Fin 128) (c : Fin 1024) :
    (k0_pay150 (F := Ideal) (X 0) (X 1) (X 2) (X 3) : S128x1024.Idx → EReal) (ix2 y c) = X ⟨c.val / 256, by omega⟩ (ix2 y ⟨c.val % 256, by omega⟩) := by
  pointwise [k0_pay150]
  split_ifs <;> first
    | (exfalso; omega)
    | exact ap X (by first | omega | (simp only; omega) | (simp; omega)) (congrArg (ix2 y) (Fin.ext (by first | omega | (simp only; omega) | (simp; omega))))
theorem pay151_at (X : Fin 4 → S128x256.Idx → EReal) (y : Fin 128) (c : Fin 1024) :
    (k0_pay151 (F := Ideal) (X 0) (X 1) (X 2) (X 3) : S128x1024.Idx → EReal) (ix2 y c) = X ⟨c.val / 256, by omega⟩ (ix2 y ⟨c.val % 256, by omega⟩) := by
  refine Eq.trans ?_ (pay150_at X y c)
  pointwise [k0_pay151]
theorem pay156_at (X : Fin 4 → S128x256.Idx → EReal) (v : FVec Ideal S1x1024 .f32) (c : Fin 1024) :
    (k0_pay156 (F := Ideal) (X 0) (X 1) (X 2) (X 3) v : S1x1024.Idx → EReal) (ix2 0 c) = (v : S1x1024.Idx → EReal) (ix2 0 c) + ∑ y : Fin 128, X ⟨c.val / 256, by omega⟩ (ix2 y ⟨c.val % 256, by omega⟩) := by
  simp only [← pay150_at]
  pointwise [k0_pay156]
/-- The heads' keys' columns, then their values'. -/
theorem pay152_at (X Y : Fin 4 → S128x64.Idx → EReal) (y : Fin 128) (c : Fin 512) :
    (k0_pay152 (F := Ideal) (X 0) (Y 0) (X 1) (Y 1) (X 2) (Y 2) (X 3) (Y 3) : S1x128x512.Idx → EReal) (ix3 0 y c)
      = if h : c.val < 256 then X ⟨c.val / 64, by omega⟩ (ix2 y ⟨c.val % 64, by omega⟩) else Y ⟨(c.val - 256) / 64, by omega⟩ (ix2 y ⟨(c.val - 256) % 64, by omega⟩) := by
  pointwise [k0_pay152]
  split_ifs <;> first
    | (exfalso; omega)
    | (rw [dif_pos (by omega)]; exact ap X (by first | omega | (simp only; omega) | (simp; omega)) (congrArg (ix2 y) (Fin.ext (by first | omega | (simp only; omega) | (simp; omega)))))
    | (rw [dif_neg (by omega)]; exact ap Y (by first | omega | (simp only; omega) | (simp; omega)) (congrArg (ix2 y) (Fin.ext (by first | omega | (simp only; omega) | (simp; omega)))))
theorem pay153_at (X Y : Fin 4 → S128x64.Idx → EReal) (o : FVec Ideal S512x64 .bf16) (p : FVec Ideal S512x128 .f32)
    (hY : (k0_pay44 (F := Ideal) o p : S128x64.Idx → EReal) = Y 3) (y : Fin 128) (c : Fin 512) :
    (k0_pay153 (F := Ideal) (X 0) (Y 0) (X 1) (Y 1) (X 2) (Y 2) o (X 3) (truncf .bf16 p bitsLt_bf16_f32) : S1x128x512.Idx → EReal) (ix3 0 y c)
      = if h : c.val < 256 then X ⟨c.val / 64, by omega⟩ (ix2 y ⟨c.val % 64, by omega⟩) else Y ⟨(c.val - 256) / 64, by omega⟩ (ix2 y ⟨(c.val - 256) % 64, by omega⟩) := by
  refine Eq.trans ?_ (pay152_at X Y y c)
  rw [← hY]
  rfl

theorem sink_close {A S : EReal} (p : Prop) [Decidable p] (v : BitVec 1) (hv : v = BitVec.ofBool (decide p)) {α s : ℝ} (hA : A = (α : EReal)) (hS : S = (s : EReal)) :
    A + Scalar.select v (0 - S) 0 = ((α + if p then -s else 0 : ℝ) : EReal) := by
  rw [hv, sel_bool, hA, hS]
  by_cases hp : p
  · simp only [hp, decide_true, if_true]; rw [EReal.coe_add, EReal.coe_neg, zero_sub]
  · simp [hp]
theorem ldk_congr (x : FVec Ideal S128x512 .bf16) {e e' : ℕ} (h : e = e') (p) (p') : ldk x e p = ldk x e' p' := by subst h; rfl
/-- One query head's sink's sum, in its column. -/
theorem sinkAdd_at (acc : FVec Ideal S1x1024 .f32) (j : Fin 1024) (g : Fin 4) (w : FVec Ideal S512x1 .f32) (c : Fin 1024) (α : ℝ) (ω : Fin 4 → Fin 128 → ℝ)
    (ha : (acc : S1x1024.Idx → EReal) (ix2 0 c) = (α : EReal)) (hw : ∀ g y, (w : S512x1.Idx → EReal) (ix2 (row g y) 0) = (ω g y : EReal)) :
    (sinkAdd acc (BitVec.ofNat 32 j.val) (BitVec.ofNat 32 g.val) w : S1x1024.Idx → EReal) (ix2 0 c) = ((α + if c = j then -∑ y, ω g y else 0 : ℝ) : EReal) := by
  have e : (∑ r : Fin 512, Scalar.select (α := EReal) (IntOp.cmpi .eq ((k0_pay14 : S512x1.Idx → BitVec 32) (ix2 r 0)) (BitVec.ofNat 32 g.val)) ((w : S512x1.Idx → EReal) (ix2 r 0)) 0 : EReal)
      = ((∑ y, ω g y : ℝ) : EReal) := by
    rw [sum_rows, coe_sum]
    refine Finset.sum_congr rfl fun y _ => ?_
    have e1 : ∀ g' : Fin 4, (k0_pay14 : S512x1.Idx → BitVec 32) (ix2 (row g' y) 0) = BitVec.ofNat 32 g'.val := fun g' => by
      rw [pay14_at, show (row g' y).val / 128 = g'.val from by show (y.val + 128 * g'.val) / 128 = g'.val; omega]
    simp only [e1, eq_at (N := 4) (by norm_num), sel_bool, hw]
    rw [Finset.sum_ite_eq' Finset.univ g, if_pos (Finset.mem_univ _)]
  pointwise [sinkAdd]
  exact sink_close _ _ (eq_at (by norm_num) c j) ha ((Finset.sum_congr rfl fun r _ => Fin.sum_univ_one _).trans e)
/-- Of the sixteen columns one is the query head's. -/
theorem sum16 (σ : Fin 4 → Fin 4 → ℝ) (c : Fin 1024) :
    0 + (if c = 0 then σ 0 0 else 0) + (if c = 1 then σ 0 1 else 0) + (if c = 2 then σ 0 2 else 0) + (if c = 3 then σ 0 3 else 0) + (if c = 4 then σ 1 0 else 0) + (if c = 5 then σ 1 1 else 0) + (if c = 6 then σ 1 2 else 0) + (if c = 7 then σ 1 3 else 0) + (if c = 8 then σ 2 0 else 0) + (if c = 9 then σ 2 1 else 0) + (if c = 10 then σ 2 2 else 0) + (if c = 11 then σ 2 3 else 0) + (if c = 12 then σ 3 0 else 0) + (if c = 13 then σ 3 1 else 0) + (if c = 14 then σ 3 2 else 0) + (if c = 15 then σ 3 3 else 0) = if h : c.val < 16 then σ ⟨c.val / 4, by omega⟩ ⟨c.val % 4, by omega⟩ else 0 := by
  by_cases h : c.val < 16
  · rw [dif_pos h]
    obtain ⟨c, hc⟩ := c
    simp only at h
    interval_cases c <;> simp [Fin.ext_iff] <;> rfl
  · rw [dif_neg h]
    have hne : ∀ j : Fin 1024, j.val < 16 → c ≠ j := fun j hj e => h (e ▸ hj)
    simp only [hne 0 (by decide), hne 1 (by decide), hne 2 (by decide), hne 3 (by decide), hne 4 (by decide), hne 5 (by decide), hne 6 (by decide), hne 7 (by decide), hne 8 (by decide), hne 9 (by decide), hne 10 (by decide), hne 11 (by decide), hne 12 (by decide), hne 13 (by decide), hne 14 (by decide), hne 15 (by decide), if_false, add_zero]
theorem sinkAll_at {i : grid0.Coords} (h : Fin 4 → Head) (ω : Fin 4 → Fin 4 → Fin 128 → ℝ)
    (hw : ∀ k g y, ((h k).dz i : S512x1.Idx → EReal) (ix2 (row g y) 0) = ((-ω k g y : ℝ) : EReal)) (c : Fin 1024) :
    (sinkAll i h : S1x1024.Idx → EReal) (ix2 0 c) = ((if h : c.val < 16 then ∑ y, ω ⟨c.val / 4, by omega⟩ ⟨c.val % 4, by omega⟩ y else 0 : ℝ) : EReal) := by
  have s := (show (k0_pay5 (F := Ideal) : S1x1024.Idx → EReal) (ix2 0 c) = ((0 : ℝ) : EReal) from by pointwise [k0_pay5]; rfl)
  replace s := sinkAdd_at _ 0 0 ((h 0).dz i) c _ _ s (hw 0)
  replace s := sinkAdd_at _ 1 1 ((h 0).dz i) c _ _ s (hw 0)
  replace s := sinkAdd_at _ 2 2 ((h 0).dz i) c _ _ s (hw 0)
  replace s := sinkAdd_at _ 3 3 ((h 0).dz i) c _ _ s (hw 0)
  replace s := sinkAdd_at _ 4 0 ((h 1).dz i) c _ _ s (hw 1)
  replace s := sinkAdd_at _ 5 1 ((h 1).dz i) c _ _ s (hw 1)
  replace s := sinkAdd_at _ 6 2 ((h 1).dz i) c _ _ s (hw 1)
  replace s := sinkAdd_at _ 7 3 ((h 1).dz i) c _ _ s (hw 1)
  replace s := sinkAdd_at _ 8 0 ((h 2).dz i) c _ _ s (hw 2)
  replace s := sinkAdd_at _ 9 1 ((h 2).dz i) c _ _ s (hw 2)
  replace s := sinkAdd_at _ 10 2 ((h 2).dz i) c _ _ s (hw 2)
  replace s := sinkAdd_at _ 11 3 ((h 2).dz i) c _ _ s (hw 2)
  replace s := sinkAdd_at _ 12 0 ((h 3).dz i) c _ _ s (hw 3)
  replace s := sinkAdd_at _ 13 1 ((h 3).dz i) c _ _ s (hw 3)
  replace s := sinkAdd_at _ 14 2 ((h 3).dz i) c _ _ s (hw 3)
  replace s := sinkAdd_at _ 15 3 ((h 3).dz i) c _ _ s (hw 3)
  refine s.trans (congrArg Real.toEReal ?_)
  simp only [Finset.sum_neg_distrib, neg_neg]
  exact sum16 (fun k g => ∑ y, ω k g y) c

/-- What the heads read of real blocks is real. -/
theorem hd_real (a : Data) (n : Fin 16) (x0 : FVec Ideal S16 .f32) (x1 : FVec Ideal S128x1024 .bf16) (x2 x3 : FVec Ideal S128x512 .bf16) (x4 : FVec Ideal S128x1024 .bf16)
    (h0 : ∀ k g : Fin 4, (x0 : S16.Idx → EReal) (ix1 ⟨k.val * 4 + g.val, by omega⟩) = ((a.z k g : ℝ) : EReal))
    (h1 : ∀ (y : Fin 128) (k g : Fin 4) (d : Fin 64), (x1 : S128x1024.Idx → EReal) (ix2 y ⟨k.val * 256 + g.val * 64 + d.val, by omega⟩) = ((a.q n y k g d : ℝ) : EReal))
    (h2 : ∀ (y : Fin 128) (k : Fin 4) (d : Fin 64), (x2 : S128x512.Idx → EReal) (ix2 y ⟨0 * 256 + k.val * 64 + d.val, by omega⟩) = ((a.K n (lo y) k d : ℝ) : EReal))
    (h2' : ∀ (y : Fin 128) (k : Fin 4) (d : Fin 64), (x2 : S128x512.Idx → EReal) (ix2 y ⟨1 * 256 + k.val * 64 + d.val, by omega⟩) = ((a.W n (lo y) k d : ℝ) : EReal))
    (h3 : ∀ (y : Fin 128) (k : Fin 4) (d : Fin 64), (x3 : S128x512.Idx → EReal) (ix2 y ⟨0 * 256 + k.val * 64 + d.val, by omega⟩) = ((a.K n (hi y) k d : ℝ) : EReal))
    (h3' : ∀ (y : Fin 128) (k : Fin 4) (d : Fin 64), (x3 : S128x512.Idx → EReal) (ix2 y ⟨1 * 256 + k.val * 64 + d.val, by omega⟩) = ((a.W n (hi y) k d : ℝ) : EReal))
    (h4 : ∀ (y : Fin 128) (k g : Fin 4) (d : Fin 64), (x4 : S128x1024.Idx → EReal) (ix2 y ⟨k.val * 256 + g.val * 64 + d.val, by omega⟩) = ((a.o n y k g d : ℝ) : EReal))
    (k : Fin 4) : IsReal (hd x0 x1 x2 x3 x4 k) a n k where
  q g y d := by
    pointwise [Head.q, k0_pay6, hd]
    have hg : g.val = 0 ∨ g.val = 1 ∨ g.val = 2 ∨ g.val = 3 := by omega
    rcases hg with hg | hg | hg | hg
    · obtain rfl : g = 0 := Fin.ext hg
      rw [dif_pos (by simp only [row]; omega)]; exact (ldq_at x1 k 0 _ d).trans ((congrArg (fun y' => (x1 : S128x1024.Idx → EReal) (ix2 y' _)) (Fin.ext (by simp [row]))).trans (h1 y k 0 d))
    · obtain rfl : g = 1 := Fin.ext hg
      rw [dif_neg (by simp only [row]; omega), dif_pos (by simp only [row]; omega)]; exact (ldq_at x1 k 1 _ d).trans ((congrArg (fun y' => (x1 : S128x1024.Idx → EReal) (ix2 y' _)) (Fin.ext (by simp [row]))).trans (h1 y k 1 d))
    · obtain rfl : g = 2 := Fin.ext hg
      rw [dif_neg (by simp only [row]; omega), dif_neg (by simp only [row]; omega), dif_pos (by simp only [row]; omega)]; exact (ldq_at x1 k 2 _ d).trans ((congrArg (fun y' => (x1 : S128x1024.Idx → EReal) (ix2 y' _)) (Fin.ext (by simp [row]))).trans (h1 y k 2 d))
    · obtain rfl : g = 3 := Fin.ext hg
      rw [dif_neg (by simp only [row]; omega), dif_neg (by simp only [row]; omega), dif_neg (by simp only [row]; omega)]; exact (ldq_at x1 k 3 _ d).trans ((congrArg (fun y' => (x1 : S128x1024.Idx → EReal) (ix2 y' _)) (Fin.ext (by simp [row]))).trans (h1 y k 3 d))
  o g y d := by
    pointwise [Head.o, k0_pay9, k0_pay7, k0_pay8, hd]
    have hg : g.val = 0 ∨ g.val = 1 ∨ g.val = 2 ∨ g.val = 3 := by omega
    rcases hg with hg | hg | hg | hg
    · obtain rfl : g = 0 := Fin.ext hg
      rw [dif_pos (by simp only [row]; omega)]; exact (ldq_at x4 k 0 _ d).trans ((congrArg (fun y' => (x4 : S128x1024.Idx → EReal) (ix2 y' _)) (Fin.ext (by simp [row]))).trans (h4 y k 0 d))
    · obtain rfl : g = 1 := Fin.ext hg
      rw [dif_neg (by simp only [row]; omega), dif_pos (by simp only [row]; omega)]; exact (ldq_at x4 k 1 _ d).trans ((congrArg (fun y' => (x4 : S128x1024.Idx → EReal) (ix2 y' _)) (Fin.ext (by simp [row]))).trans (h4 y k 1 d))
    · obtain rfl : g = 2 := Fin.ext hg
      rw [dif_neg (by simp only [row]; omega), dif_neg (by simp only [row]; omega), dif_pos (by simp only [row]; omega)]; exact (ldq_at x4 k 2 _ d).trans ((congrArg (fun y' => (x4 : S128x1024.Idx → EReal) (ix2 y' _)) (Fin.ext (by simp [row]))).trans (h4 y k 2 d))
    · obtain rfl : g = 3 := Fin.ext hg
      rw [dif_neg (by simp only [row]; omega), dif_neg (by simp only [row]; omega), dif_neg (by simp only [row]; omega)]; exact (ldq_at x4 k 3 _ d).trans ((congrArg (fun y' => (x4 : S128x1024.Idx → EReal) (ix2 y' _)) (Fin.ext (by simp [row]))).trans (h4 y k 3 d))
  kp j d := by
    pointwise [Head.kp', k0_pay10, hd]
    exact (congrFun (ldk_congr x2 (by simp) _ _) _).trans ((ldk_at x2 0 k j d).trans (h2 j k d))
  kc j d := by
    pointwise [Head.kc', k0_pay11, hd]
    exact (congrFun (ldk_congr x3 (by simp) _ _) _).trans ((ldk_at x3 0 k j d).trans (h3 j k d))
  vp j d := by
    pointwise [Head.vp', k0_pay12, hd]
    exact (ldk_at x2 1 k j d).trans (h2' j k d)
  vc j d := by
    pointwise [Head.vc', k0_pay13, hd]
    exact (ldk_at x3 1 k j d).trans (h3' j k d)
  sk g y := by
    pointwise [Head.sk, k0_pay17, k0_pay15, k0_pay16, hd]
    rw [pay14_at, show (row g y).val / 128 = g.val from by show (y.val + 128 * g.val) / 128 = g.val; omega]
    have hg : g.val = 0 ∨ g.val = 1 ∨ g.val = 2 ∨ g.val = 3 := by omega
    rcases hg with hg | hg | hg | hg
    · obtain rfl : g = 0 := Fin.ext hg
      exact (lds_at x0 k 0).trans (h0 k 0)
    · obtain rfl : g = 1 := Fin.ext hg
      exact (lds_at x0 k 1).trans (h0 k 1)
    · obtain rfl : g = 2 := Fin.ext hg
      exact (lds_at x0 k 2).trans (h0 k 2)
    · obtain rfl : g = 3 := Fin.ext hg
      exact (lds_at x0 k 3).trans (h0 k 3)

end Cert.AttnBwdIdeal.Grad

end
-- ==== Proof.AttnOut.lean ====
/- What a point of `attn_bwd`'s grid leaves in each output block: the named functions of the four heads. -/
module

public import proofs.«01_k».proof.Proof.AttnHead

@[expose] public section

set_option maxRecDepth 16384

noncomputable section

open Idealize.ShloMosaic Idealize.ShloMosaic.TcCoe Idealize.SL.Sem
open Idealize.ShloMosaic.Pipeline (Dat)

namespace Cert.AttnBwdIdeal.Grad

open Cert.AttnBwdIdeal Cert.AttnBwdIdeal.Gen

variable (m : (ℓ : Loc nD τ sig) → Buf (Elt Ideal) ℓ)

set_option maxHeartbeats 4000000

/-- The first point: the queries' gradient, its column sums, the two blocks of the keys' and values', the sinks'. -/
theorem out5A (c : Dev nD) (t : Fin cfg0.N) (h0 : t.val % 16 = 0) : (outsAt0 m c t.val t.isLt).1 = k0_pay151 ((hdAt m c t 0).dq (grid0.coords t)) ((hdAt m c t 1).dq (grid0.coords t)) ((hdAt m c t 2).dq (grid0.coords t)) ((hdAt m c t 3).dq (grid0.coords t)) := by
  rw [outsAt0_A m c t h0]
  frame_out
  repeat (first | rw [rb0] | rw [rb1] | rw [rb2] | rw [rb3] | rw [rb4])
  sl_kernel_rfl
theorem out6A (c : Dev nD) (t : Fin cfg0.N) (h0 : t.val % 16 = 0) : (outsAt0 m c t.val t.isLt).2.1 = k0_pay156 ((hdAt m c t 0).dq (grid0.coords t)) ((hdAt m c t 1).dq (grid0.coords t)) ((hdAt m c t 2).dq (grid0.coords t)) ((hdAt m c t 3).dq (grid0.coords t)) (k0_pay154 (F := Ideal)) := by
  rw [outsAt0_A m c t h0]
  frame_out
  repeat (first | rw [rb0] | rw [rb1] | rw [rb2] | rw [rb3] | rw [rb4])
  sl_kernel_rfl
theorem out7A (c : Dev nD) (t : Fin cfg0.N) (h0 : t.val % 16 = 0) : (outsAt0 m c t.val t.isLt).2.2.1 = k0_pay152 ((hdAt m c t 0).dkp (grid0.coords t)) ((hdAt m c t 0).dvp (grid0.coords t)) ((hdAt m c t 1).dkp (grid0.coords t)) ((hdAt m c t 1).dvp (grid0.coords t)) ((hdAt m c t 2).dkp (grid0.coords t)) ((hdAt m c t 2).dvp (grid0.coords t)) ((hdAt m c t 3).dkp (grid0.coords t)) ((hdAt m c t 3).dvp (grid0.coords t)) := by
  rw [outsAt0_A m c t h0]
  frame_out
  repeat (first | rw [rb0] | rw [rb1] | rw [rb2] | rw [rb3] | rw [rb4])
  sl_kernel_rfl
theorem out8A (c : Dev nD) (t : Fin cfg0.N) (h0 : t.val % 16 = 0) : (outsAt0 m c t.val t.isLt).2.2.2.1 = k0_pay153 ((hdAt m c t 0).dkc (grid0.coords t)) ((hdAt m c t 0).dvc (grid0.coords t)) ((hdAt m c t 1).dkc (grid0.coords t)) ((hdAt m c t 1).dvc (grid0.coords t)) ((hdAt m c t 2).dkc (grid0.coords t)) ((hdAt m c t 2).dvc (grid0.coords t)) (hdAt m c t 3).o ((hdAt m c t 3).dkc (grid0.coords t)) (truncf .bf16 ((hdAt m c t 3).pc (grid0.coords t)) bitsLt_bf16_f32) := by
  rw [outsAt0_A m c t h0]
  frame_out
  repeat (first | rw [rb0] | rw [rb1] | rw [rb2] | rw [rb3] | rw [rb4])
  sl_kernel_rfl
theorem out9A (c : Dev nD) (t : Fin cfg0.N) (h0 : t.val % 16 = 0) : (outsAt0 m c t.val t.isLt).2.2.2.2 = k0_pay1 (sinkAll (grid0.coords t) (hdAt m c t)) (k0_pay155 (F := Ideal)) := by
  rw [outsAt0_A m c t h0]
  frame_out
  repeat (first | rw [rb0] | rw [rb1] | rw [rb2] | rw [rb3] | rw [rb4])
  sl_kernel_rfl
/-- The other points: the same, the two sums added to the point before. -/
theorem out5B (c : Dev nD) (t : Fin cfg0.N) (h0 : ¬t.val % 16 = 0) : (outsAt0 m c t.val t.isLt).1 = k0_pay151 ((hdAt m c t 0).dq (grid0.coords t)) ((hdAt m c t 1).dq (grid0.coords t)) ((hdAt m c t 2).dq (grid0.coords t)) ((hdAt m c t 3).dq (grid0.coords t)) := by
  rw [outsAt0_B m c t h0]
  frame_out
  repeat (first | rw [rb0] | rw [rb1] | rw [rb2] | rw [rb3] | rw [rb4])
  sl_kernel_rfl
theorem out6B (c : Dev nD) (t : Fin cfg0.N) (h0 : ¬t.val % 16 = 0) : (outsAt0 m c t.val t.isLt).2.1 = k0_pay156 ((hdAt m c t 0).dq (grid0.coords t)) ((hdAt m c t 1).dq (grid0.coords t)) ((hdAt m c t 2).dq (grid0.coords t)) ((hdAt m c t 3).dq (grid0.coords t)) (outsAt0 m c (t.val - 1) (Nat.lt_of_le_of_lt (Nat.sub_le _ _) t.isLt)).2.1 := by
  rw [outsAt0_B m c t h0]
  frame_out
  repeat (first | rw [rb0] | rw [rb1] | rw [rb2] | rw [rb3] | rw [rb4])
  sl_kernel_rfl
theorem out7B (c : Dev nD) (t : Fin cfg0.N) (h0 : ¬t.val % 16 = 0) : (outsAt0 m c t.val t.isLt).2.2.1 = k0_pay152 ((hdAt m c t 0).dkp (grid0.coords t)) ((hdAt m c t 0).dvp (grid0.coords t)) ((hdAt m c t 1).dkp (grid0.coords t)) ((hdAt m c t 1).dvp (grid0.coords t)) ((hdAt m c t 2).dkp (grid0.coords t)) ((hdAt m c t 2).dvp (grid0.coords t)) ((hdAt m c t 3).dkp (grid0.coords t)) ((hdAt m c t 3).dvp (grid0.coords t)) := by
  rw [outsAt0_B m c t h0]
  frame_out
  repeat (first | rw [rb0] | rw [rb1] | rw [rb2] | rw [rb3] | rw [rb4])
  sl_kernel_rfl
theorem out8B (c : Dev nD) (t : Fin cfg0.N) (h0 : ¬t.val % 16 = 0) : (outsAt0 m c t.val t.isLt).2.2.2.1 = k0_pay153 ((hdAt m c t 0).dkc (grid0.coords t)) ((hdAt m c t 0).dvc (grid0.coords t)) ((hdAt m c t 1).dkc (grid0.coords t)) ((hdAt m c t 1).dvc (grid0.coords t)) ((hdAt m c t 2).dkc (grid0.coords t)) ((hdAt m c t 2).dvc (grid0.coords t)) (hdAt m c t 3).o ((hdAt m c t 3).dkc (grid0.coords t)) (truncf .bf16 ((hdAt m c t 3).pc (grid0.coords t)) bitsLt_bf16_f32) := by
  rw [outsAt0_B m c t h0]
  frame_out
  repeat (first | rw [rb0] | rw [rb1] | rw [rb2] | rw [rb3] | rw [rb4])
  sl_kernel_rfl
theorem out9B (c : Dev nD) (t : Fin cfg0.N) (h0 : ¬t.val % 16 = 0) : (outsAt0 m c t.val t.isLt).2.2.2.2 = k0_pay1 (sinkAll (grid0.coords t) (hdAt m c t)) (outsAt0 m c (t.val - 1) (Nat.lt_of_le_of_lt (Nat.sub_le _ _) t.isLt)).2.2.2.2 := by
  rw [outsAt0_B m c t h0]
  frame_out
  repeat (first | rw [rb0] | rw [rb1] | rw [rb2] | rw [rb3] | rw [rb4])
  sl_kernel_rfl

end Cert.AttnBwdIdeal.Grad

end
-- ==== Proof.AttnRef.lean ====
/- The windowed attention's reference gradient over real arguments: each named value at an index is a real number of the specification. -/
module

public import proofs.«01_k».proof.Proof.Gen.AttnRefIdeal.Run
public import proofs.«01_k».proof.Proof.AttnSpec
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attend

open Cert.Finite

/-- The two masks on thirty-two bit integers: the row sees at most 128 places, its own the last; no place before the sequence. -/
theorem mask1 : ∀ (y : Fin 128) (j : Fin 256),
    Scalar.andi (Scalar.cmpi .sge (Scalar.subi (Scalar.addi (BitVec.ofNat 32 y.val) 128#32) (BitVec.ofNat 32 j.val)) 0#32)
      (Scalar.cmpi .slt (Scalar.subi (Scalar.addi (BitVec.ofNat 32 y.val) 128#32) (BitVec.ofNat 32 j.val)) 128#32)
      = BitVec.ofBool (decide (y.val < j.val ∧ j.val ≤ y.val + 128)) := by decide +kernel
theorem mask2 : ∀ (n : Fin 16) (j : Fin 256),
    Scalar.cmpi .sge (Scalar.addi (Scalar.muli (Scalar.subi (BitVec.ofNat 32 n.val) 1#32) 128#32) (BitVec.ofNat 32 j.val)) 0#32
      = BitVec.ofBool (decide (128 ≤ n.val * 128 + j.val)) := by decide +kernel
theorem select_ofBool (p : Prop) [Decidable p] (x y : EReal) : Scalar.select (α := EReal) (BitVec.ofBool (decide p)) x y = if p then x else y := by
  by_cases h : p <;> simp [h, Scalar.select]
theorem andi_ofBool (p q : Prop) [Decidable p] [Decidable q] : Scalar.andi (BitVec.ofBool (decide p)) (BitVec.ofBool (decide q)) = BitVec.ofBool (decide (p ∧ q)) := by
  by_cases h : p <;> by_cases h' : q <;> simp [h, h'] <;> rfl
theorem bot_bits : (Ideal.ofBits .f32 0xFF800000#32 : EReal) = ⊥ := by simp [Ideal.ofBits, Ideal.ieee]
theorem eighth_bits : (Ideal.ofBits .f32 0x3E000000#32 : EReal) = ((1 / 8 : ℝ) : EReal) := by
  simp [Ideal.ofBits, Ideal.ieee]; norm_cast; norm_num
theorem sum_add {n : ℕ} (f : Fin n → ℝ) (a : ℝ) : (∑ j, (f j : EReal)) + (a : EReal) = ((∑ j, f j + a : ℝ) : EReal) := by
  rw [EReal.coe_add, coe_sum]
theorem neg_sum {n : ℕ} (f : Fin n → ℝ) : -(∑ j, (f j : EReal)) = ((-∑ j, f j : ℝ) : EReal) := by
  rw [EReal.coe_neg, coe_sum]
/-- A sum of zeros and ones, a one among them, is not zero. -/
theorem sum_ne {n : ℕ} (f : Fin n → EReal) (j : Fin n) (h : f j = 1) (h0 : ∀ j, 0 ≤ f j) : ∑ j, f j ≠ 0 := by
  have h2 : (1 : EReal) ≤ ∑ j, f j := by
    rw [← h]
    exact Finset.single_le_sum (fun j _ => h0 j) (Finset.mem_univ j)
  exact (lt_of_lt_of_le (by simp) h2).ne'

end Cert.Attend

namespace Cert.AttnRefIdeal.Grad

open Cert.AttnRefIdeal Cert.AttnRefIdeal.Gen Cert.AttnRefIdeal.Value Cert.Attend Cert.Finite

set_option maxHeartbeats 4000000

variable (V0 : Valuation τ sig (Elt Ideal))
  (qp : Fin 2048 → Fin 1024 → ℝ) (b : Fin 1024 → ℝ) (kv : Fin 2048 → Fin 512 → ℝ) (z : Fin 16 → ℝ) (o : Fin 2048 → Fin 1024 → ℝ)

/-- The arguments are these real arrays. -/
structure Args : Prop where
  hq : ∀ i c, (V0 (Proc.devRef .tc main_arg0) : S2048x1024.Idx → EReal) (ix2 i c) = (qp i c : EReal)
  hb : ∀ c, (V0 (Proc.devRef .tc main_arg1) : S1024.Idx → EReal) (ix1 c) = (b c : EReal)
  hkv : ∀ i c, (V0 (Proc.devRef .tc main_arg2) : S2048x512.Idx → EReal) (ix2 i c) = (kv i c : EReal)
  hz : ∀ c, (V0 (Proc.devRef .tc main_arg3) : S16.Idx → EReal) (ix1 c) = (z c : EReal)
  ho : ∀ i c, (V0 (Proc.devRef .tc main_arg4) : S2048x1024.Idx → EReal) (ix2 i c) = (o i c : EReal)

variable {V0 qp b kv z o} (H : Args V0 qp b kv z o) (n : Fin 16) (k g : Fin 4) (y : Fin 128)
include H

theorem v7_at (j : Fin 256) (d : Fin 64) : (res_main_v7 V0 : S16x256x4x64.Idx → EReal) (ix4 n j k d) = (((data qp b kv z o).K n j k d : ℝ) : EReal) := by
  pointwise [res_main_v7, res_main_v2]
  simp only [H.hkv, data]
  split_ifs <;> first | rfl | simp
theorem v13_at (j : Fin 256) (d : Fin 64) : (res_main_v13 V0 : S16x256x4x64.Idx → EReal) (ix4 n j k d) = (((data qp b kv z o).W n j k d : ℝ) : EReal) := by
  pointwise [res_main_v13, res_main_v8]
  simp only [H.hkv, data]
  split_ifs <;> first | rfl | simp
theorem v17_at (d : Fin 64) : (res_main_v17 V0 : S16x128x4x4x64.Idx → EReal) (ix5 n y k g d) = (((data qp b kv z o).q n y k g d : ℝ) : EReal) := by
  pointwise [res_main_v17]
  simp only [H.hq, H.hb, data, EReal.coe_add]
omit H in
theorem v54_at (j : Fin 256) : (res_main_v54 V0 : S16x4x4x128x256.Idx → BitVec 1) (ix5 n k g y j) = BitVec.ofBool (decide (ok n y j)) := by
  refine Eq.trans ?_ ((congrArg₂ Scalar.andi (mask1 y j) (mask2 n j)).trans (andi_ofBool _ _))
  pointwise [res_main_v54, res_main_v26, res_main_v21]
  rfl
/-- The masked scores. -/
theorem v57_at (j : Fin 256) : (res_main_v57 V0 : S16x4x4x128x256.Idx → EReal) (ix5 n k g y j) = if ok n y j then (((data qp b kv z o).x n k g y j : ℝ) : EReal) else ⊥ := by
  pointwise [res_main_v57]
  rw [v54_at, select_ofBool]
  simp only [v7_at H, v17_at H, bot_bits, eighth_bits, ← EReal.coe_mul, coe_sum]
  rfl
theorem v107_at (j : Fin 256) : (res_main_v107 V0 : S16x4x4x128x256.Idx → EReal) (ix5 n k g y j) = (((data qp b kv z o).c n k g y j : ℝ) : EReal) := by
  pointwise [res_main_v107, res_main_v106]
  simp only [v13_at H, H.ho, ← EReal.coe_mul, coe_sum]
  rfl

omit H in
/-- The greatest over a row is reached in it. -/
theorem sup_mem (X : S16x4x4x128x256.Idx → EReal) :
    ∃ j : Fin 256, X (ix5 n k g y j) = (Finset.univ.filter fun i => reducesTo_S16x4x4x128x256_S16x4x4x128_d4.drop i = ix4 n k g y).sup X := by
  have d : ∀ j : Fin 256, reducesTo_S16x4x4x128x256_S16x4x4x128_d4.drop (ix5 n k g y j) = ix4 n k g y := fun j => by
    funext a; fin_cases a <;> rfl
  obtain ⟨i, hi, he⟩ := Finset.exists_mem_eq_sup (Finset.univ.filter fun i => reducesTo_S16x4x4x128x256_S16x4x4x128_d4.drop i = ix4 n k g y)
    ⟨ix5 n k g y 0, Finset.mem_filter.mpr ⟨Finset.mem_univ _, d 0⟩⟩ X
  have hd := (Finset.mem_filter.mp hi).2
  rw [he]
  refine ⟨i 4, congrArg X (funext fun a => ?_)⟩
  fin_cases a
  · exact (congrFun hd 0).symm
  · exact (congrFun hd 1).symm
  · exact (congrFun hd 2).symm
  · exact (congrFun hd 3).symm
  · rfl
omit H in
/-- The row's greatest masked score is one of them. -/
theorem v59_mem : ∃ j : Fin 256, (res_main_v57 V0 : S16x4x4x128x256.Idx → EReal) (ix5 n k g y j) = (res_main_v59 V0 : S16x4x4x128.Idx → EReal) (ix4 n k g y) := by
  obtain ⟨j, hj⟩ := sup_mem n k g y (res_main_v57 V0 : S16x4x4x128x256.Idx → EReal)
  refine ⟨j, hj.trans ?_⟩
  pointwise [res_main_v59]
  rw [bot_bits]; rfl
theorem v65_at : (res_main_v65 V0 : S1x4x4x1.Idx → EReal) (ix4 0 k g 0) = (((data qp b kv z o).z k g : ℝ) : EReal) := by
  pointwise [res_main_v65, res_main_v33]
  exact H.hz _
omit H in
theorem max_at (A : FVec Ideal S16x4x4x128 .f32) (B : FVec Ideal S1x4x4x1 .f32) :
    (maximumf A (broadcastInDim S16x4x4x128 ![0, 1, 2, 3] bcast_S1x4x4x1_S16x4x4x128_0_1_2_3 B) : S16x4x4x128.Idx → EReal) (ix4 n k g y)
      = max ((A : S16x4x4x128.Idx → EReal) (ix4 n k g y)) ((B : S1x4x4x1.Idx → EReal) (ix4 0 k g 0)) := by
  pointwise
/-- The number a row's exponents are shifted by is real. -/
theorem v67_real : ∃ r : ℝ, (res_main_v67 V0 : S16x4x4x128.Idx → EReal) (ix4 n k g y) = (r : EReal) := by
  unfold res_main_v67
  rw [max_at, v65_at H]
  refine max_real _ ?_ _
  obtain ⟨j, hj⟩ := v59_mem (V0 := V0) n k g y
  rw [← hj, v57_at H]
  split_ifs <;> simp

theorem v89_at {r : ℝ} (h : (res_main_v67 V0 : S16x4x4x128.Idx → EReal) (ix4 n k g y) = (r : EReal)) (j : Fin 256) :
    (res_main_v89 V0 : S16x4x4x128x256.Idx → EReal) (ix5 n k g y j) = ((E (ok n y) ((data qp b kv z o).x n k g y) j * Real.exp (-r) : ℝ) : EReal) := by
  refine Eq.trans ?_ (exp_shift (ok n y) ((data qp b kv z o).x n k g y) r j)
  pointwise [res_main_v89]
  rw [h, v57_at H]
theorem v94_at {r : ℝ} (h : (res_main_v67 V0 : S16x4x4x128.Idx → EReal) (ix4 n k g y) = (r : EReal)) :
    (res_main_v94 V0 : S16x4x4x128.Idx → EReal) (ix4 n k g y) = ((Real.exp ((data qp b kv z o).z k g) * Real.exp (-r) : ℝ) : EReal) := by
  refine Eq.trans ?_ (exp_sink ((data qp b kv z o).z k g) r)
  pointwise [res_main_v94, res_main_v33]
  rw [h, H.hz]; rfl
theorem v96_at {r : ℝ} (h : (res_main_v67 V0 : S16x4x4x128.Idx → EReal) (ix4 n k g y) = (r : EReal)) :
    (res_main_v96 V0 : S16x4x4x128x1.Idx → EReal) (ix5 n k g y 0) = ((Z (ok n y) ((data qp b kv z o).x n k g y) ((data qp b kv z o).z k g) * Real.exp (-r) : ℝ) : EReal) := by
  rw [← den_shift]
  pointwise [res_main_v96]
  simp only [v89_at H n k g y h, v94_at H n k g y h]
  exact sum_add _ _
theorem v98_at (j : Fin 256) : (res_main_v98 V0 : S16x4x4x128x256.Idx → EReal) (ix5 n k g y j) = (((data qp b kv z o).p n k g y j : ℝ) : EReal) := by
  obtain ⟨r, h⟩ := v67_real H n k g y
  pointwise [res_main_v98]
  rw [v89_at H n k g y h, v96_at H n k g y h, Ideal.div_coe (den_ne _ _ _ _), ← EReal.coe_mul, P_shift]; rfl
theorem v118_at {r : ℝ} (h : (res_main_v67 V0 : S16x4x4x128.Idx → EReal) (ix4 n k g y) = (r : EReal)) :
    (res_main_v118 V0 : S16x4x4x128.Idx → EReal) (ix4 n k g y) = ((-(A (ok n y) ((data qp b kv z o).x n k g y) ((data qp b kv z o).z k g) ((data qp b kv z o).c n k g y) / (Z (ok n y) ((data qp b kv z o).x n k g y) ((data qp b kv z o).z k g) * Real.exp (-r))) : ℝ) : EReal) := by
  rw [← A_shift]
  pointwise [res_main_v118]
  simp only [v89_at H n k g y h, v96_at H n k g y h, v107_at H, ← EReal.coe_mul]
  rw [Ideal.div_coe (mul_ne_zero (den_ne _ _ _ _) (den_ne _ _ _ _))]
  simp only [one_mul, ← EReal.coe_mul, Finset.sum_const, Finset.card_univ, Fintype.card_fin, one_smul]
  exact neg_sum _
theorem v119_at : (res_main_v119 V0 : S16x4x4x128.Idx → EReal) (ix4 n k g y) = (((data qp b kv z o).dsink n k g y : ℝ) : EReal) := by
  obtain ⟨r, h⟩ := v67_real H n k g y
  pointwise [res_main_v119]
  rw [v118_at H n k g y h, v94_at H n k g y h, ← EReal.coe_mul, D_shift]; rfl
theorem v127_at (j : Fin 256) : (res_main_v127 V0 : S16x4x4x128x256.Idx → EReal) (ix5 n k g y j)
    = (((data qp b kv z o).p n k g y j * ((data qp b kv z o).c n k g y j - A (ok n y) ((data qp b kv z o).x n k g y) ((data qp b kv z o).z k g) ((data qp b kv z o).c n k g y)) : ℝ) : EReal) := by
  obtain ⟨r, h⟩ := v67_real H n k g y
  pointwise [res_main_v127]
  rw [v118_at H n k g y h, v89_at H n k g y h, v96_at H n k g y h, v107_at H, Ideal.div_coe (den_ne _ _ _ _), ← EReal.coe_mul, ← EReal.coe_add, ← EReal.coe_mul, S_shift]; rfl
/-- Nothing reaches the shift. -/
theorem v132_zero : (res_main_v132 V0 : FVec Ideal S16x4x4x128 .f32) = fun _ => (0 : EReal) := by
  funext i; idx_vars i
  refine Eq.trans ?_ (congrArg Real.toEReal (shift_zero (ok i0 i3) ((data qp b kv z o).x i0 i1 i2 i3) ((data qp b kv z o).z i1 i2) ((data qp b kv z o).c i0 i1 i2 i3)))
  pointwise [res_main_v132]
  simp only [v119_at H, v127_at H, ← EReal.coe_neg, coe_sum, ← EReal.coe_add, Finset.sum_const, Finset.card_univ, Fintype.card_fin, one_smul]
  rfl
theorem mul_zero (X : FVec Ideal S16x4x4x128 .f32) : mulf (res_main_v132 V0 : FVec Ideal S16x4x4x128 .f32) X = fun _ => (0 : EReal) := by
  rw [v132_zero H]
  funext i
  exact zero_mul (X i : EReal)
theorem v63_at (j : Fin 256) : (res_main_v63 V0 : S16x4x4x128x256.Idx → EReal) (ix5 n k g y j)
    = if (res_main_v57 V0 : S16x4x4x128x256.Idx → EReal) (ix5 n k g y j) = (res_main_v59 V0 : S16x4x4x128.Idx → EReal) (ix4 n k g y) then (1 : EReal) else 0 := by
  pointwise [res_main_v63]
  split_ifs with h
  · rw [decide_eq_true h]; simp [FloatOps.uitofp] <;> rfl
  · rw [decide_eq_false h]; simp [FloatOps.uitofp] <;> rfl
theorem count_ne : (∑ j : Fin 256, ((res_main_v63 V0 : S16x4x4x128x256.Idx → EReal) (ix5 n k g y j) : EReal) : EReal) ≠ 0 := by
  obtain ⟨j, hj⟩ := v59_mem (V0 := V0) n k g y
  refine sum_ne (fun j => ((res_main_v63 V0 : S16x4x4x128x256.Idx → EReal) (ix5 n k g y j) : EReal)) j ((v63_at H n k g y j).trans (if_pos hj)) fun j => ?_
  refine le_of_le_of_eq ?_ (v63_at H n k g y j).symm
  split_ifs <;> simp
theorem div_zero : (Host.divf (fun _ => (0 : EReal) : FVec Ideal S16x4x4x128 .f32) (Host.reduceAdd (res_main_v63 V0) (constant S_ .f32 0x00000000#32) reducesTo_S16x4x4x128x256_S16x4x4x128_d4 h_S_) : FVec Ideal S16x4x4x128 .f32) = fun _ => (0 : EReal) := by
  funext i; idx_vars i
  pointwise
  have := count_ne H i0 i1 i2 i3
  exact (if_neg this).trans (zero_mul _)
theorem v148_at (j : Fin 256) : (res_main_v148 V0 : S16x4x256x128x4.Idx → EReal) (ix5 n k j y g) = (((data qp b kv z o).s n k g y j : ℝ) : EReal) := by
  unfold res_main_v148
  rw [mul_zero H, div_zero H]
  pointwise
  rw [v54_at, select_ofBool, v127_at H, eighth_bits]
  split_ifs with h
  · simp only [zero_mul, add_zero, ← EReal.coe_mul]; rfl
  · simp [Data.s, S_off _ _ _ _ h]
theorem v155_at (n : Fin 16) (y : Fin 128) (k g : Fin 4) (d : Fin 64) (i : Fin 2048) (c : Fin 1024) (hi : i.val = n.val * 128 + y.val) (hc : c.val = k.val * 256 + g.val * 64 + d.val) :
    (res_main_v155 V0 : S2048x1024.Idx → EReal) (ix2 i c) = (((data qp b kv z o).dq n k g y d : ℝ) : EReal) := by
  pointwise [res_main_v155]
  rw [show (⟨i.val / 128, by omega⟩ : Fin 16) = n from Fin.ext (by simp only; omega), show (⟨i.val % 128, by omega⟩ : Fin 128) = y from Fin.ext (by simp only; omega),
    show (⟨c.val / 256, by omega⟩ : Fin 4) = k from Fin.ext (by simp only; omega), show (⟨c.val / 64 % 4, by omega⟩ : Fin 4) = g from Fin.ext (by simp only; omega),
    show (⟨c.val % 64, by omega⟩ : Fin 64) = d from Fin.ext (by simp only; omega)]
  simp only [v148_at H, v7_at H, ← EReal.coe_mul, coe_sum]
  rfl
theorem v152_at (j : Fin 256) (d : Fin 64) : (res_main_v152 V0 : S16x256x4x64.Idx → EReal) (ix4 n j k d) = (((data qp b kv z o).dk n k j d : ℝ) : EReal) := by
  pointwise [res_main_v152]
  simp only [v148_at H, v17_at H, ← EReal.coe_mul, coe_sum]
  rfl
theorem v109_at (j : Fin 256) (d : Fin 64) : (res_main_v109 V0 : S16x256x4x64.Idx → EReal) (ix4 n j k d) = (((data qp b kv z o).dv n k j d : ℝ) : EReal) := by
  pointwise [res_main_v109, res_main_v106]
  simp only [v98_at H, H.ho, ← EReal.coe_mul, coe_sum]
  rw [Finset.sum_comm]
  simp only [Data.dv, mul_comm]
  rfl

omit H in
/-- A sum over the first and the last axis. -/
theorem red_sum (X : S16x4x4x128.Idx → EReal) : Ideal.hostReduceAdd reducesTo_S16x4x4x128_S4x4_d0_3 X 0 (ix2 k g) = ∑ n : Fin 16, ∑ y : Fin 128, X (ix4 n k g y) := by
  have e : ∑ n : Fin 16, ∑ y : Fin 128, X (ix4 n k g y) = ∑ p : Fin 16 × Fin 128, X (ix4 p.1 k g p.2) := (Fintype.sum_prod_type fun p : Fin 16 × Fin 128 => X (ix4 p.1 k g p.2)).symm
  rw [e]
  refine (zero_add _).trans ?_
  refine Finset.sum_bij' (fun i _ => ((i 0 : Fin 16), (i 3 : Fin 128))) (fun p _ => (ix4 p.1 k g p.2 : S16x4x4x128.Idx)) (fun _ _ => Finset.mem_univ _) ?_ ?_ (fun _ _ => rfl) ?_
  · exact fun p _ => Finset.mem_filter.mpr ⟨Finset.mem_univ _, funext fun a => by fin_cases a <;> rfl⟩
  · intro i hi
    have hd := (Finset.mem_filter.mp hi).2
    funext a; fin_cases a
    · rfl
    · exact (congrFun hd 0).symm
    · exact (congrFun hd 1).symm
    · rfl
  · intro i hi
    have hd := (Finset.mem_filter.mp hi).2
    refine congrArg X (funext fun a => ?_)
    fin_cases a
    · rfl
    · exact congrFun hd 0
    · exact congrFun hd 1
    · rfl
omit H in
theorem red_one (X : S1x4x4x1.Idx → EReal) : Ideal.hostReduceAdd reducesTo_S1x4x4x1_S4x4_d0_3 X 0 (ix2 k g) = X (ix4 0 k g 0) := by
  refine (zero_add _).trans ?_
  refine (Finset.sum_eq_single (ix4 0 k g 0 : S1x4x4x1.Idx) ?_ ?_)
  · intro i hi h
    have hd := (Finset.mem_filter.mp hi).2
    refine absurd (funext fun a => ?_) h
    fin_cases a
    · exact Subsingleton.elim (α := Fin 1) _ _
    · exact congrFun hd 0
    · exact congrFun hd 1
    · exact Subsingleton.elim (α := Fin 1) _ _
  · intro h
    refine (h (Finset.mem_filter.mpr ⟨Finset.mem_univ _, funext fun a => ?_⟩)).elim
    fin_cases a <;> rfl

/-- The five results. -/
theorem res_q : (truncf .bf16 (res_main_v155 V0) bitsLt_bf16_f32 : FVec Ideal S2048x1024 .bf16) = fun i => (((data qp b kv z o).outQ (i 0) (i 1) : ℝ) : EReal) := by
  funext i; idx_vars i
  pointwise
  exact v155_at H _ _ _ _ _ i0 i1 (by simp only; omega) (by simp only; omega)
theorem res_b : (shapeCast _ (Host.reduceAdd (shapeCast _ (Host.reduceAdd (res_main_v155 V0) (constant S_ .f32 0x00000000#32) reducesTo_S2048x1024_S1024_d0 h_S_) shapeCasts_S1024_S1x1024) (constant S_ .f32 0x00000000#32) reducesTo_S1x1024_S1024_d0 h_S_) shapeCasts_S1024_S1x1024 : FVec Ideal S1x1024 .f32) = fun i => (((data qp b kv z o).outB (i 1) : ℝ) : EReal) := by
  funext i; idx_vars i
  pointwise
  simp only [Fin.sum_univ_one]
  rw [Data.outB, coe_sum]
  exact congrArg (fun f : Fin 2048 → EReal => ∑ x, f x) (funext fun x => v155_at H ⟨x.val / 128, by omega⟩ ⟨x.val % 128, by omega⟩ ⟨i1.val / 256, by omega⟩ ⟨i1.val / 64 % 4, by omega⟩ ⟨i1.val % 64, by omega⟩ x i1 (by simp only; omega) (by simp only; omega))
theorem res_p : (concatenate S16x128x512 2 [⟨S16x128x256, (shapeCast _ (extractStridedSlice S16x128x4x64 ![0, 0, 0, 0] (res_main_v152 V0) slices_S16x256x4x64_S16x128x4x64_0_0_0_0) shapeCasts_S16x128x4x64_S16x128x256)⟩, ⟨S16x128x256, (shapeCast _ (extractStridedSlice S16x128x4x64 ![0, 0, 0, 0] (res_main_v109 V0) slices_S16x256x4x64_S16x128x4x64_0_0_0_0) shapeCasts_S16x128x4x64_S16x128x256)⟩] concatenates_S16x128x256_S16x128x256_S16x128x512_d2 : FVec Ideal S16x128x512 .f32) = fun i => (((data qp b kv z o).outW lo (i 0) (i 1) (i 2) : ℝ) : EReal) := by
  funext i; idx_vars i
  pointwise
  simp only [Data.outW]
  by_cases h : i2.val < 256
  · simp only [h, dite_true]; exact v152_at H _ _ _ _
  · simp only [h, dite_false]; exact v109_at H _ _ _ _
theorem res_c : (concatenate S16x128x512 2 [⟨S16x128x256, (shapeCast _ (extractStridedSlice S16x128x4x64 ![0, 128, 0, 0] (res_main_v152 V0) slices_S16x256x4x64_S16x128x4x64_0_128_0_0) shapeCasts_S16x128x4x64_S16x128x256)⟩, ⟨S16x128x256, (shapeCast _ (extractStridedSlice S16x128x4x64 ![0, 128, 0, 0] (res_main_v109 V0) slices_S16x256x4x64_S16x128x4x64_0_128_0_0) shapeCasts_S16x128x4x64_S16x128x256)⟩] concatenates_S16x128x256_S16x128x256_S16x128x512_d2 : FVec Ideal S16x128x512 .f32) = fun i => (((data qp b kv z o).outW hi (i 0) (i 1) (i 2) : ℝ) : EReal) := by
  funext i; idx_vars i
  pointwise
  simp only [Data.outW]
  by_cases h : i2.val < 256
  · simp only [h, dite_true]; exact v152_at H _ _ _ _
  · simp only [h, dite_false]; exact v109_at H _ _ _ _
theorem res_z : (shapeCast _ (pad S1024 ![0] ![1008] ![0] (shapeCast _ (Host.reduceAdd (addf (broadcastInDim S4x4x1 ![0, 1] bcast_S4x4_S4x4x1_0_1 (Host.reduceAdd (shapeCast _ (Host.reduceAdd (res_main_v119 V0) (constant S_ .f32 0x00000000#32) reducesTo_S16x4x4x128_S4x4_d0_3 h_S_) shapeCasts_S4x4_S1x4x4x1) (constant S_ .f32 0x00000000#32) reducesTo_S1x4x4x1_S4x4_d0_3 h_S_)) (broadcastInDim S4x4x1 ![0, 1] bcast_S4x4_S4x4x1_0_1 (Host.reduceAdd (shapeCast _ (Host.reduceAdd (mulf (res_main_v132 V0) (select (cmpf .ogt (broadcastInDim S16x4x4x128 ![0, 1, 2, 3] bcast_S1x4x4x1_S16x4x4x128_0_1_2_3 (res_main_v65 V0)) (res_main_v59 V0)) (broadcastInDim S16x4x4x128 ![] bcast_S_S16x4x4x128 (constant S_ .f32 0x3F800000#32)) (select (cmpf .oeq (broadcastInDim S16x4x4x128 ![0, 1, 2, 3] bcast_S1x4x4x1_S16x4x4x128_0_1_2_3 (res_main_v65 V0)) (res_main_v59 V0)) (broadcastInDim S16x4x4x128 ![] bcast_S_S16x4x4x128 (constant S_ .f32 0x3F000000#32)) (broadcastInDim S16x4x4x128 ![] bcast_S_S16x4x4x128 (constant S_ .f32 0x00000000#32))))) (constant S_ .f32 0x00000000#32) reducesTo_S16x4x4x128_S4x4_d0_3 h_S_) shapeCasts_S4x4_S1x4x4x1) (constant S_ .f32 0x00000000#32) reducesTo_S1x4x4x1_S4x4_d0_3 h_S_))) (constant S_ .f32 0x00000000#32) reducesTo_S4x4x1_S4x4_d2 h_S_) shapeCasts_S4x4_S16) (sitofp .f32 (constantI S_ 32 0#32)) pads_S16_S1024_010080 h_S_) shapeCasts_S1024_S1x1024 : FVec Ideal S1x1024 .f32) = fun i => (((data qp b kv z o).outZ (i 1) : ℝ) : EReal) := by
  rw [mul_zero H]
  funext i; idx_vars i
  pointwise
  simp only [Fin.sum_univ_one, red_one, Data.outZ]
  pointwise
  by_cases h : i1.val < 16
  · simp only [h, dite_true]
    refine (congrArg₂ (· + ·) (red_sum _ _ _) (red_sum _ _ _)).trans ?_
    simp only [v119_at H, Data.dz, coe_sum, Finset.sum_const_zero, add_zero]
  · simp only [h, dite_false]
    simp [FloatOps.sitofp]

end Cert.AttnRefIdeal.Grad

end
-- ==== Proof.Attn.lean ====
/- The attention's backward pass: `attn_bwd`'s five results are the reference's. -/
module

public import proofs.«01_k».proof.Defs
public import proofs.«01_k».proof.Proof.Gen.AttnBwd.Frame
public import proofs.«01_k».proof.Proof.Gen.AttnBwdIdeal.Value
public import proofs.«01_k».proof.Proof.Gen.AttnRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack
public import proofs.«01_k».proof.Proof.AttnFin
public import proofs.«01_k».proof.Proof.AttnOut
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.AttnBwdIdeal.Grad

open Cert.AttnBwdIdeal Cert.AttnBwdIdeal.Gen Cert.Attend Cert.Finite

set_option maxHeartbeats 4000000

variable (m : (ℓ : Loc nD τ sig) → Buf (Elt Ideal) ℓ)

/-- The five argument arrays of device `c`: the queries before their bias, the bias, keys and values, sinks, the output's cotangent. -/
abbrev aQ (c : Dev nD) : FVec Ideal S2048x1024 .f32 := m ((c : Thread nD τ).loc main_arg0)
abbrev aB (c : Dev nD) : FVec Ideal S1024 .f32 := m ((c : Thread nD τ).loc main_arg1)
abbrev aKV (c : Dev nD) : FVec Ideal S2048x512 .f32 := m ((c : Thread nD τ).loc main_arg2)
abbrev aZ (c : Dev nD) : FVec Ideal S16 .f32 := m ((c : Thread nD τ).loc main_arg3)
abbrev aO (c : Dev nD) : FVec Ideal S2048x1024 .f32 := m ((c : Thread nD τ).loc main_arg4)

/-- Every window's block index at every point, and the point's coordinate. -/
theorem idx : ∀ t : Fin cfg0.N, win0_0.index t = ![0] ∧ win0_1.index t = ![t.val, 0] ∧ win0_2.index t = ![t.val - 1, 0]
    ∧ win0_3.index t = ![t.val, 0] ∧ win0_4.index t = ![t.val, 0] ∧ win0_5.index t = ![t.val, 0] ∧ win0_6.index t = ![0, 0]
    ∧ win0_7.index t = ![t.val, 0, 0] ∧ win0_8.index t = ![t.val, 0, 0] ∧ win0_9.index t = ![0, 0] :=
  (by decide +kernel : ∀ t : Fin grid0.N, _)
theorem coord : ∀ t : Fin cfg0.N, (grid0.coords t 0).val = t.val := (by decide +kernel : ∀ t : Fin grid0.N, _)

/-- What the region finds in the arrays it reads. -/
theorem V_z (c : Dev nD) : V m c main_arg3 = aZ m c := by unfold V; after_results
theorem V_kv (c : Dev nD) : (V m c main_v4 : S2048x512.Idx → EReal) = aKV m c := by unfold V; after_results; rfl
theorem V_o (c : Dev nD) : (V m c main_v5 : S2048x1024.Idx → EReal) = aO m c := by unfold V; after_results; rfl
theorem V_q (c : Dev nD) (i : Fin 2048) (k : Fin 1024) : (V m c main_v3 : S2048x1024.Idx → EReal) (ix2 i k) = aQ m c (ix2 i k) + aB m c (ix1 k) := by
  have e : V m c main_v3 = truncf .bf16 (addf (aQ m c) (broadcastInDim S2048x1024 ![0, 1] bcast_S1x1024_S2048x1024_0_1 (broadcastInDim S1x1024 ![1] bcast_S1024_S1x1024_1 (aB m c)))) bitsLt_bf16_f32 := by unfold V; after_results
  rw [e]; pointwise

variable (qp : Fin 2048 → Fin 1024 → ℝ) (b : Fin 1024 → ℝ) (kv : Fin 2048 → Fin 512 → ℝ) (z : Fin 16 → ℝ) (o : Fin 2048 → Fin 1024 → ℝ)

/-- The arguments are these real numbers. -/
structure Args (c : Dev nD) : Prop where
  hq : ∀ i k, (aQ m c : S2048x1024.Idx → EReal) (ix2 i k) = (qp i k : EReal)
  hb : ∀ k, (aB m c : S1024.Idx → EReal) (ix1 k) = (b k : EReal)
  hkv : ∀ i k, (aKV m c : S2048x512.Idx → EReal) (ix2 i k) = (kv i k : EReal)
  hz : ∀ k, (aZ m c : S16.Idx → EReal) (ix1 k) = (z k : EReal)
  ho : ∀ i k, (aO m c : S2048x1024.Idx → EReal) (ix2 i k) = (o i k : EReal)

variable {m qp b kv z o} {c : Dev nD} (H : Args m qp b kv z o c) (t : Fin cfg0.N)

/-- A point's block of rows. -/
abbrev pt (t : Fin cfg0.N) : Fin 16 := ⟨t.val, lt_of_lt_of_eq t.isLt N_0⟩

theorem rows (t : Fin cfg0.N) (y : Fin 128) : t.val * 128 + y.val < 2048 := by have : t.val < 16 := (pt t).isLt; omega
theorem rows' (t : Fin cfg0.N) (y : Fin 128) : (t.val - 1) * 128 + y.val < 2048 := by have : t.val < 16 := (pt t).isLt; omega

include H
/-- The blocks at point `t`, read at an index. -/
theorem blk0 (k : Fin 16) : iblk m c 0 t (ix1 k) = (z k : EReal) := by
  refine Eq.trans (b := V m c main_arg3 (((cfg0.win 0).blk t).view.emb (ix1 k))) rfl ?_
  rw [V_z, show ((cfg0.win 0).blk t).view.emb (ix1 k) = (ix1 k : S16.Idx) from by blk_ext [idx t]]
  exact H.hz k
theorem blk1 (y : Fin 128) (k : Fin 1024) : iblk m c 1 t (ix2 y k) = ((qp ⟨t.val * 128 + y.val, rows t y⟩ k + b k : ℝ) : EReal) := by
  refine Eq.trans (b := (V m c main_v3 : S2048x1024.Idx → EReal) (((cfg0.win 1).blk t).view.emb (ix2 y k))) rfl ?_
  rw [show ((cfg0.win 1).blk t).view.emb (ix2 y k) = (ix2 ⟨t.val * 128 + y.val, rows t y⟩ k : S2048x1024.Idx) from by blk_ext [idx t], V_q, H.hq, H.hb, EReal.coe_add]
theorem blk2 (y : Fin 128) (k : Fin 512) : iblk m c 2 t (ix2 y k) = (kv ⟨(t.val - 1) * 128 + y.val, rows' t y⟩ k : EReal) := by
  refine Eq.trans (b := (V m c main_v4 : S2048x512.Idx → EReal) (((cfg0.win 2).blk t).view.emb (ix2 y k))) rfl ?_
  rw [V_kv, show ((cfg0.win 2).blk t).view.emb (ix2 y k) = (ix2 ⟨(t.val - 1) * 128 + y.val, rows' t y⟩ k : S2048x512.Idx) from by blk_ext [idx t], H.hkv]
theorem blk3 (y : Fin 128) (k : Fin 512) : iblk m c 3 t (ix2 y k) = (kv ⟨t.val * 128 + y.val, rows t y⟩ k : EReal) := by
  refine Eq.trans (b := (V m c main_v4 : S2048x512.Idx → EReal) (((cfg0.win 3).blk t).view.emb (ix2 y k))) rfl ?_
  rw [V_kv, show ((cfg0.win 3).blk t).view.emb (ix2 y k) = (ix2 ⟨t.val * 128 + y.val, rows t y⟩ k : S2048x512.Idx) from by blk_ext [idx t], H.hkv]
theorem blk4 (y : Fin 128) (k : Fin 1024) : iblk m c 4 t (ix2 y k) = (o ⟨t.val * 128 + y.val, rows t y⟩ k : EReal) := by
  refine Eq.trans (b := (V m c main_v5 : S2048x1024.Idx → EReal) (((cfg0.win 4).blk t).view.emb (ix2 y k))) rfl ?_
  rw [V_o, show ((cfg0.win 4).blk t).view.emb (ix2 y k) = (ix2 ⟨t.val * 128 + y.val, rows t y⟩ k : S2048x1024.Idx) from by blk_ext [idx t], H.ho]

theorem head_real (k : Fin 4) : IsReal (hdAt m c t k) (kdata qp b kv z o) (pt t) k := by
  refine hd_real (kdata qp b kv z o) (pt t) _ _ _ _ _ (fun k g => blk0 H t _) (fun y k g d => blk1 H t y _) ?_ ?_ ?_ ?_ (fun y k g d => blk4 H t y _) k
  · exact fun y k d => (blk2 H t y _).trans (congrArg Real.toEReal (by
      dsimp only [kdata]; rw [dif_pos (show (lo y).val < 128 from y.isLt)]; exact congrArg _ (Fin.ext (by simp))))
  · exact fun y k d => (blk2 H t y _).trans (congrArg Real.toEReal (by
      dsimp only [kdata]; rw [dif_pos (show (lo y).val < 128 from y.isLt)]; exact congrArg _ (Fin.ext (by simp; omega))))
  · exact fun y k d => (blk3 H t y _).trans (congrArg Real.toEReal (by
      dsimp only [kdata]; rw [dif_neg (by simp [hi])]; exact congrArg₂ kv (Fin.ext (by simp [hi])) (Fin.ext (by simp))))
  · exact fun y k d => (blk3 H t y _).trans (congrArg Real.toEReal (by
      dsimp only [kdata]; rw [dif_neg (by simp [hi])]; exact congrArg₂ kv (Fin.ext (by simp [hi])) (Fin.ext (by simp; omega))))

/-- A head's columns of the queries' gradient at point `t` are the result's. -/
theorem q_at (y : Fin 128) (e : Fin 1024) :
    ((hdAt m c t ⟨e.val / 256, by omega⟩).dq (grid0.coords t) : S128x256.Idx → EReal) (ix2 y ⟨e.val % 256, by omega⟩)
      = (((data qp b kv z o).outQ ⟨t.val * 128 + y.val, rows t y⟩ e : ℝ) : EReal) := by
  refine (dq_at (n := pt t) (coord t) ⟨e.val / 64 % 4, by omega⟩ y ⟨e.val % 64, by omega⟩ (head_real H t _) _ (by simp only; omega)).trans (congrArg Real.toEReal ?_)
  rw [Data.dq_same _ _ _ _ (same qp b kv z o)]
  unfold Data.outQ
  congr 2 <;> (apply Fin.ext; simp only; omega)
/-- A head's columns of the keys' and values' gradients. -/
theorem w_at (f : Fin 128 → Fin 256) (X Y : Fin 4 → S128x64.Idx → EReal) (hX : ∀ k y d, X k (ix2 y d) = (((kdata qp b kv z o).dk (pt t) k (f y) d : ℝ) : EReal))
    (hY : ∀ k y d, Y k (ix2 y d) = (((kdata qp b kv z o).dv (pt t) k (f y) d : ℝ) : EReal)) (y : Fin 128) (e : Fin 512) :
    (if h : e.val < 256 then X ⟨e.val / 64, by omega⟩ (ix2 y ⟨e.val % 64, by omega⟩) else Y ⟨(e.val - 256) / 64, by omega⟩ (ix2 y ⟨(e.val - 256) % 64, by omega⟩))
      = (((data qp b kv z o).outW f (pt t) y e : ℝ) : EReal) := by
  unfold Data.outW
  by_cases h : e.val < 256
  · rw [dif_pos h, dif_pos h, hX, Data.dk_same _ _ (same qp b kv z o)]
  · rw [dif_neg h, dif_neg h, hY, Data.dv_same _ _ (same qp b kv z o)]

/-- The queries' gradient after the run. -/
theorem final5 : (dats m 0 c).arrAt 5 (cfgs 0).N = fun i : S2048x1024.Idx => (((data qp b kv z o).outQ (i 0) (i 1) : ℝ) : EReal) := by
  refine (dats m 0 c).arrAt_eq_of_covers 5 _ (by decide +kernel) fun t _ y => ?_
  blk_simp
  idx_vars y
  have h := rows t y0
  rw [after0_5, show ((cfg0.win 5).blk t).view.emb (ix2 y0 y1) = (ix2 ⟨t.val * 128 + y0.val, h⟩ y1 : S2048x1024.Idx) from by blk_ext [idx t]]
  have e := (pay151_at (fun k => (hdAt m c t k).dq (grid0.coords t)) y0 y1).trans (q_at H t y0 y1)
  by_cases h0 : t.val % 16 = 0
  · rw [out5A m c t h0]; exact e
  · rw [out5B m c t h0]; exact e
/-- The window's first half's keys' and values' gradients after the run. -/
theorem final7 : (dats m 0 c).arrAt 7 (cfgs 0).N = fun i : S16x128x512.Idx => (((data qp b kv z o).outW lo (i 0) (i 1) (i 2) : ℝ) : EReal) := by
  refine (dats m 0 c).arrAt_eq_of_covers 7 _ (by decide +kernel) fun t _ y => ?_
  blk_simp
  idx_vars y
  obtain rfl : y0 = 0 := Subsingleton.elim _ _
  rw [after0_7, show ((cfg0.win 7).blk t).view.emb (ix3 0 y1 y2) = (ix3 (pt t) y1 y2 : S16x128x512.Idx) from by blk_ext [idx t]]
  have e := (pay152_at (fun k => (hdAt m c t k).dkp (grid0.coords t)) (fun k => (hdAt m c t k).dvp (grid0.coords t)) y1 y2).trans
    (w_at H t lo _ _ (fun k y d => dkp_at (n := pt t) (coord t) y d (head_real H t k)) (fun k y d => dvp_at (n := pt t) (coord t) y d (head_real H t k)) y1 y2)
  by_cases h0 : t.val % 16 = 0
  · rw [out7A m c t h0]; exact e
  · rw [out7B m c t h0]; exact e
/-- The second half's. -/
theorem final8 : (dats m 0 c).arrAt 8 (cfgs 0).N = fun i : S16x128x512.Idx => (((data qp b kv z o).outW hi (i 0) (i 1) (i 2) : ℝ) : EReal) := by
  refine (dats m 0 c).arrAt_eq_of_covers 8 _ (by decide +kernel) fun t _ y => ?_
  blk_simp
  idx_vars y
  obtain rfl : y0 = 0 := Subsingleton.elim _ _
  rw [after0_8, show ((cfg0.win 8).blk t).view.emb (ix3 0 y1 y2) = (ix3 (pt t) y1 y2 : S16x128x512.Idx) from by blk_ext [idx t]]
  have e := (pay153_at (fun k => (hdAt m c t k).dkc (grid0.coords t)) (fun k => (hdAt m c t k).dvc (grid0.coords t)) (hdAt m c t 3).o ((hdAt m c t 3).pc (grid0.coords t)) rfl y1 y2).trans
    (w_at H t hi _ _ (fun k y d => dkc_at (n := pt t) (coord t) y d (head_real H t k)) (fun k y d => dvc_at (n := pt t) (coord t) y d (head_real H t k)) y1 y2)
  by_cases h0 : t.val % 16 = 0
  · rw [out8A m c t h0]; exact e
  · rw [out8B m c t h0]; exact e

/-- One point's addition to the bias's gradient and to the sinks'. -/
theorem add6 (v : FVec Ideal S1x1024 .f32) (j : S1x1024.Idx) :
    (k0_pay156 ((hdAt m c t 0).dq (grid0.coords t)) ((hdAt m c t 1).dq (grid0.coords t)) ((hdAt m c t 2).dq (grid0.coords t)) ((hdAt m c t 3).dq (grid0.coords t)) v : S1x1024.Idx → EReal) j
      = v j + (((∑ y : Fin 128, (data qp b kv z o).outQ ⟨t.val * 128 + y.val, rows t y⟩ (j 1) : ℝ)) : EReal) := by
  idx_vars j
  obtain rfl : j0 = 0 := Subsingleton.elim _ _
  refine (pay156_at (fun k => (hdAt m c t k).dq (grid0.coords t)) v j1).trans (congrArg₂ _ rfl ?_)
  rw [coe_sum]
  exact Finset.sum_congr rfl fun y _ => q_at H t y j1
theorem add9 (v : FVec Ideal S1x1024 .f32) (j : S1x1024.Idx) :
    (k0_pay1 (sinkAll (grid0.coords t) (hdAt m c t)) v : S1x1024.Idx → EReal) j
      = v j + ((if h : (j 1).val < 16 then ∑ y, (data qp b kv z o).dsink (pt t) ⟨(j 1).val / 4, by omega⟩ ⟨(j 1).val % 4, by omega⟩ y else 0 : ℝ) : EReal) := by
  idx_vars j
  obtain rfl : j0 = 0 := Subsingleton.elim _ _
  have e : (k0_pay1 (sinkAll (grid0.coords t) (hdAt m c t)) v : S1x1024.Idx → EReal) (ix2 0 j1)
      = v (ix2 0 j1) + (sinkAll (grid0.coords t) (hdAt m c t) : S1x1024.Idx → EReal) (ix2 0 j1) := by pointwise [k0_pay1]
  refine e.trans (congrArg₂ _ rfl ?_)
  refine (sinkAll_at (hdAt m c t) (fun k g y => (kdata qp b kv z o).dsink (pt t) k g y) (fun k g y => dz_at (n := pt t) (coord t) g y (head_real H t k)) j1).trans (congrArg Real.toEReal ?_)
  simp only [Data.dsink_same _ _ _ _ (same qp b kv z o)]
  rfl

/-- The bias's gradient after the run. -/
theorem final6 : (dats m 0 c).arrAt 6 (cfgs 0).N = fun i : S1x1024.Idx => (((data qp b kv z o).outB (i 1) : ℝ) : EReal) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => ((∑ y : Fin 128, (data qp b kv z o).outQ ⟨p.val * 128 + y.val, rows p y⟩ (j 1) : ℝ) : EReal))
    (fun t h j => by rw [out6A m c t h]; exact (add6 H t _ j).trans (congrArg₂ _ (by idx_vars j; pointwise [k0_pay154]) rfl))
    (fun t h j => by rw [out6B m c t h]; exact add6 H t _ j) (le_of_eq N_0) t0_15 rfl j, zero_add]
  idx_vars j
  unfold Data.outB
  rw [coe_sum]
  simp only [coe_sum]
  exact Fin.sum_mul_add_congr fun s k hl => rfl
omit H in
theorem sum_dz (a : Data) (e : Fin 1024) :
    (∑ p : Fin 16, ((if h : e.val < 16 then ∑ y, a.dsink p ⟨e.val / 4, by omega⟩ ⟨e.val % 4, by omega⟩ y else 0 : ℝ) : EReal)) = ((a.outZ e : ℝ) : EReal) := by
  rw [← coe_sum]
  refine congrArg Real.toEReal ?_
  unfold Data.outZ Data.dz
  by_cases h : e.val < 16
  · simp only [dif_pos h]
  · simp only [dif_neg h, Finset.sum_const_zero]
/-- The sinks' gradients after the run. -/
theorem final9 : (dats m 0 c).arrAt 9 (cfgs 0).N = fun i : S1x1024.Idx => (((data qp b kv z o).outZ (i 1) : ℝ) : EReal) := by
  refine (dats m 0 c).arrAt_eq_of_after_last 9 t0_15 (by decide +kernel) _ fun j => ?_
  blk_simp
  rw [after0_9, Pipeline.eq_sum_fin_of_reset_step_apply_last (fun n h => (outsAt0 m c n h).2.2.2.2) 16 (fun _ => 0)
    (fun p j => ((if h : (j 1).val < 16 then ∑ y, (data qp b kv z o).dsink (pt p) ⟨(j 1).val / 4, by omega⟩ ⟨(j 1).val % 4, by omega⟩ y else 0 : ℝ) : EReal))
    (fun t h j => by rw [out9A m c t h]; exact (add9 H t _ j).trans (congrArg₂ _ (by idx_vars j; pointwise [k0_pay155]) rfl))
    (fun t h j => by rw [out9B m c t h]; exact add9 H t _ j) (le_of_eq N_0) t0_15 rfl j, zero_add]
  idx_vars j
  exact sum_dz (data qp b kv z o) j1

end Cert.AttnBwdIdeal.Grad

namespace Cert.Proof

/-- The precondition's side conditions on shapes. -/
instance facts_finite_attn : Cert.Pre_finite_attn.Facts where
  bcast_S_S2048x1024 := by decide
  reducesTo_S2048x1024_S_d0_1 := by decide
  h_S_ := by decide
  bcast_S_S1024 := by decide
  reducesTo_S1024_S_d0 := by decide
  bcast_S_S2048x512 := by decide
  reducesTo_S2048x512_S_d0_1 := by decide
  bcast_S_S16 := by decide
  reducesTo_S16_S_d0 := by decide

theorem frame_AttnBwd : Cert.quiescent_AttnBwd := fun m ρ _ => Cert.AttnBwd.Gen.frame m ρ
theorem frame_AttnBwdIdeal : Cert.quiescent_AttnBwdIdeal := fun m ρ _ => Cert.AttnBwdIdeal.Gen.frame m ρ
/-- The reference's frame: its run leaves the arguments, and it declares no semaphore. -/
theorem frame_AttnRefIdeal : Cert.quiescent_AttnRefIdeal := fun m ρ _ =>
  (θ_run Cert.AttnRefIdeal.defs _ _).mono (fun r h => ⟨fun c => (h c).2.2.2.2.2,
      Idealize.ShloMosaic.sem_eq_zero_of_no_sems (by decide) r.2⟩) (Cert.AttnRefIdeal.Value.run (F := Ideal) m ρ)

/-- What the precondition says: the five arrays hold real numbers. -/
theorem finite_attn_real (m : (ℓ : Loc Cert.AttnBwdIdeal.nD Cert.AttnBwdIdeal.τ Cert.AttnBwdIdeal.sig) → Buf (Elt Ideal) ℓ)
    (h : Cert.Pre_AttnBwdIdeal_finite_attn m) (c : Dev Cert.AttnBwdIdeal.nD) :
    ∃ (qp : Fin 2048 → Fin 1024 → ℝ) (b : Fin 1024 → ℝ) (kv : Fin 2048 → Fin 512 → ℝ) (z : Fin 16 → ℝ) (o : Fin 2048 → Fin 1024 → ℝ),
      Cert.AttnBwdIdeal.Grad.Args m qp b kv z o c := by
  have e := congrFun (h c) (fun a => a.elim0)
  obtain ⟨e, e5⟩ := Cert.Finite.andi_eq_one e
  obtain ⟨e, e4⟩ := Cert.Finite.andi_eq_one e
  obtain ⟨e, e3⟩ := Cert.Finite.andi_eq_one e
  obtain ⟨e1, e2⟩ := Cert.Finite.andi_eq_one e
  obtain ⟨r1, h1⟩ := Cert.Finite.isReal_of_all _ _ _ _ _ _ _ e1
  obtain ⟨r2, h2⟩ := Cert.Finite.isReal_of_all _ _ _ _ _ _ _ e2
  obtain ⟨r3, h3⟩ := Cert.Finite.isReal_of_all _ _ _ _ _ _ _ e3
  obtain ⟨r4, h4⟩ := Cert.Finite.isReal_of_all _ _ _ _ _ _ _ e4
  obtain ⟨r5, h5⟩ := Cert.Finite.isReal_of_all _ _ _ _ _ _ _ e5
  exact ⟨fun i k => r1 (ix2 i k), fun k => r2 (ix1 k), fun i k => r3 (ix2 i k), fun k => r4 (ix1 k), fun i k => r5 (ix2 i k),
    fun i k => congrFun h1 _, fun k => congrFun h2 _, fun i k => congrFun h3 _, fun k => congrFun h4 _, fun i k => congrFun h5 _⟩

/-- The one rewrite: the mask's constant stands for minus infinity. -/
theorem preserves_AttnBwd : Cert.preserves_AttnBwd_AttnBwdIdeal := IdealRules.named_const.statement _ _ _ _ _ rfl

open Cert.Attend in
/-- Kernel and reference end with the same five results. -/
theorem algebraic_Attn : Cert.algebraic_AttnBwdIdeal_AttnRefIdeal_pre_finite_attn := by
  intro m ρ m' ρ' hpre hagree
  choose qp b kv z o H using finite_attn_real m hpre
  refine ⟨fun c i => (((data (qp c) (b c) (kv c) (z c) (o c)).outQ (i 0) (i 1) : ℝ) : EReal), fun c i => (((data (qp c) (b c) (kv c) (z c) (o c)).outB (i 1) : ℝ) : EReal),
    fun c i => (((data (qp c) (b c) (kv c) (z c) (o c)).outW lo (i 0) (i 1) (i 2) : ℝ) : EReal), fun c i => (((data (qp c) (b c) (kv c) (z c) (o c)).outW hi (i 0) (i 1) (i 2) : ℝ) : EReal),
    fun c i => (((data (qp c) (b c) (kv c) (z c) (o c)).outZ (i 1) : ℝ) : EReal), ?_, ?_⟩
  · refine (θ_run Cert.AttnBwdIdeal.defs _ _).mono (fun _ h c => ?_) (Cert.AttnBwdIdeal.Value.run_blocks (F := Ideal) m ρ)
    exact ⟨(h c).1.trans (Cert.AttnBwdIdeal.Grad.final5 (H c)), (h c).2.1.trans (Cert.AttnBwdIdeal.Grad.final6 (H c)), (h c).2.2.1.trans (Cert.AttnBwdIdeal.Grad.final7 (H c)),
      (h c).2.2.2.1.trans (Cert.AttnBwdIdeal.Grad.final8 (H c)), (h c).2.2.2.2.1.trans (Cert.AttnBwdIdeal.Grad.final9 (H c)), (h c).2.2.2.2.2⟩
  · refine (θ_run Cert.AttnRefIdeal.defs _ _).mono (fun _ h c => ?_) (Cert.AttnRefIdeal.Value.run (F := Ideal) m' ρ')
    have A : Cert.AttnRefIdeal.Grad.Args (StableHlo.launchContents m' c) (qp c) (b c) (kv c) (z c) (o c) := by
      obtain ⟨h0, h1, h2, h3, h4⟩ := hagree c
      exact ⟨fun i k => (congrFun h0 _).trans ((H c).hq i k), fun k => (congrFun h1 _).trans ((H c).hb k), fun i k => (congrFun h2 _).trans ((H c).hkv i k),
        fun k => (congrFun h3 _).trans ((H c).hz k), fun i k => (congrFun h4 _).trans ((H c).ho i k)⟩
    exact ⟨(h c).1.trans (Cert.AttnRefIdeal.Grad.res_q A), (h c).2.1.trans (Cert.AttnRefIdeal.Grad.res_b A), (h c).2.2.1.trans (Cert.AttnRefIdeal.Grad.res_p A),
      (h c).2.2.2.1.trans (Cert.AttnRefIdeal.Grad.res_c A), (h c).2.2.2.2.1.trans (Cert.AttnRefIdeal.Grad.res_z A), (h c).2.2.2.2.2⟩

end Cert.Proof

end
-- ==== Proof.AttnFwdRef.lean ====
/- The windowed attention's value over the real numbers, and the reference of `attn_fwd` over real arguments. The reference's softmax is the one whose gradient `AttnRef` treats, so its values are read there. -/
module

public import proofs.«01_k».proof.Proof.Gen.AttnFwdRefIdeal.Run
public import proofs.«01_k».proof.Proof.AttnRef

@[expose] public section

set_option maxRecDepth 16384

noncomputable section

open Idealize.ShloMosaic Idealize.ShloMosaic.TcCoe Idealize.SL.Sem
open Idealize.ShloMosaic.Pipeline (Dat)

namespace Cert.Attend
namespace Data
variable {a b : Data}
/-- The attention's value at a row of a block, a query head and a column. -/
def fwd (a : Data) (n : Fin 16) (k g : Fin 4) (y : Fin 128) (d : Fin 64) : ℝ := ∑ j, a.p n k g y j * a.W n j k d
/-- The result by row and column. -/
def outF (a : Data) (i : Fin 2048) (c : Fin 1024) : ℝ :=
  a.fwd ⟨i.val / 128, by omega⟩ ⟨c.val / 256, by omega⟩ ⟨c.val / 64 % 4, by omega⟩ ⟨i.val % 128, by omega⟩ ⟨c.val % 64, by omega⟩
/-- Window places no row sees do not matter. -/
theorem fwd_same (h : Same a b) (n : Fin 16) (k g : Fin 4) (y : Fin 128) : a.fwd n k g y = b.fwd n k g y := by
  funext d; unfold fwd; rw [p_same n k g y h]
  refine Finset.sum_congr rfl fun j _ => ?_
  by_cases hj : ok n y j
  · rw [h.W n j hj.2]
  · rw [show b.p n k g y j = 0 from P_off _ _ _ hj, zero_mul, zero_mul]
end Data
end Cert.Attend

namespace Cert.AttnRefIdeal.Grad

open Cert.AttnRefIdeal Cert.AttnRefIdeal.Gen Cert.AttnRefIdeal.Value Cert.Attend

set_option maxHeartbeats 4000000

/-- Contents of the reference's arrays with the five arguments given. -/
theorem exists_contents (V : Valuation τ sig (Elt Ideal)) (a0 : FVec Ideal S2048x1024 .f32) (a1 : FVec Ideal S1024 .f32) (a2 : FVec Ideal S2048x512 .f32) (a3 : FVec Ideal S16 .f32) (a4 : FVec Ideal S2048x1024 .f32) :
    ∃ V0 : Valuation τ sig (Elt Ideal), V0 (Proc.devRef .tc main_arg0) = a0 ∧ V0 (Proc.devRef .tc main_arg1) = a1 ∧ V0 (Proc.devRef .tc main_arg2) = a2
      ∧ V0 (Proc.devRef .tc main_arg3) = a3 ∧ V0 (Proc.devRef .tc main_arg4) = a4 := by
  classical
  refine ⟨Function.update (Function.update (Function.update (Function.update (Function.update V
    (Proc.devRef .tc main_arg0) a0) (Proc.devRef .tc main_arg1) a1) (Proc.devRef .tc main_arg2) a2) (Proc.devRef .tc main_arg3) a3) (Proc.devRef .tc main_arg4) a4, ?_, ?_, ?_, ?_, ?_⟩
  · rw [Function.update_of_ne (by decide), Function.update_of_ne (by decide), Function.update_of_ne (by decide), Function.update_of_ne (by decide), Function.update_self]
  · rw [Function.update_of_ne (by decide), Function.update_of_ne (by decide), Function.update_of_ne (by decide), Function.update_self]
  · rw [Function.update_of_ne (by decide), Function.update_of_ne (by decide), Function.update_self]
  · rw [Function.update_of_ne (by decide), Function.update_self]
  · rw [Function.update_self]

variable {V0 : Valuation τ sig (Elt Ideal)} {qp : Fin 2048 → Fin 1024 → ℝ} {b : Fin 1024 → ℝ} {kv : Fin 2048 → Fin 512 → ℝ} {z : Fin 16 → ℝ} {o : Fin 2048 → Fin 1024 → ℝ}

/-- The softmax times the window's values. -/
theorem fwd_at (H : Args V0 qp b kv z o) (n : Fin 16) (k g : Fin 4) (y : Fin 128) (d : Fin 64) :
    (∑ j : Fin 256, (show EReal from (res_main_v13 V0 : S16x256x4x64.Idx → EReal) (ix4 n j k d)) * (show EReal from (res_main_v98 V0 : S16x4x4x128x256.Idx → EReal) (ix5 n k g y j))) = (((data qp b kv z o).fwd n k g y d : ℝ) : EReal) := by
  simp only [v13_at H, v98_at H, ← EReal.coe_mul]
  rw [Data.fwd, Cert.Finite.coe_sum]
  exact Finset.sum_congr rfl fun j _ => congrArg Real.toEReal (mul_comm _ _)

end Cert.AttnRefIdeal.Grad

namespace Cert.AttnFwdRefIdeal.Grad

open Cert.AttnFwdRefIdeal Cert.AttnFwdRefIdeal.Gen Cert.AttnFwdRefIdeal.Value Cert.Attend

set_option maxHeartbeats 4000000

variable (m : (ℓ : Loc nD τ sig) → Buf (Elt Ideal) ℓ) (c : Dev nD)

/-- The reference's result, from the softmax of the contents `V0` with the same arguments. -/
theorem res_eq (V0 : Valuation Cert.AttnRefIdeal.τ Cert.AttnRefIdeal.sig (Elt Ideal))
    (h0 : V0 (Proc.devRef .tc Cert.AttnRefIdeal.main_arg0) = (m ((c.tc : Thread nD τ).loc main_arg0) : FVec Ideal S2048x1024 .f32))
    (h1 : V0 (Proc.devRef .tc Cert.AttnRefIdeal.main_arg1) = (m ((c.tc : Thread nD τ).loc main_arg1) : FVec Ideal S1024 .f32))
    (h2 : V0 (Proc.devRef .tc Cert.AttnRefIdeal.main_arg2) = (m ((c.tc : Thread nD τ).loc main_arg2) : FVec Ideal S2048x512 .f32))
    (h3 : V0 (Proc.devRef .tc Cert.AttnRefIdeal.main_arg3) = (m ((c.tc : Thread nD τ).loc main_arg3) : FVec Ideal S16 .f32)) :
    (res_main_v78 m c : FVec Ideal S2048x1024 .bf16) = (truncf .bf16 (shapeCast S2048x1024 (transpose S16x128x4x4x64 [0, 4, 1, 3, 2] (Host.dotGeneral dot_S16x256x4x64_S16x4x4x128x256_S16x4x64x4x128_1_4_3_23_02_01 none (φ₁ := .f32) (φ₂ := .f32) (Cert.AttnRefIdeal.Value.res_main_v13 V0) (Cert.AttnRefIdeal.Value.res_main_v98 V0)) transposes_S16x4x64x4x128_S16x128x4x4x64_0_4_1_3_2) shapeCasts_S16x128x4x4x64_S2048x1024) bitsLt_bf16_f32) := by
  unfold res_main_v78
  rw [← h0, ← h1, ← h2, ← h3]
  rfl

/-- The reference's result over real arguments. -/
theorem res_at (V : Valuation Cert.AttnRefIdeal.τ Cert.AttnRefIdeal.sig (Elt Ideal))
    (qp : Fin 2048 → Fin 1024 → ℝ) (b : Fin 1024 → ℝ) (kv : Fin 2048 → Fin 512 → ℝ) (z : Fin 16 → ℝ) (o : Fin 2048 → Fin 1024 → ℝ)
    (hq : ∀ i k, (m ((c.tc : Thread nD τ).loc main_arg0) : S2048x1024.Idx → EReal) (ix2 i k) = (qp i k : EReal))
    (hb : ∀ k, (m ((c.tc : Thread nD τ).loc main_arg1) : S1024.Idx → EReal) (ix1 k) = (b k : EReal))
    (hkv : ∀ i k, (m ((c.tc : Thread nD τ).loc main_arg2) : S2048x512.Idx → EReal) (ix2 i k) = (kv i k : EReal))
    (hz : ∀ k, (m ((c.tc : Thread nD τ).loc main_arg3) : S16.Idx → EReal) (ix1 k) = (z k : EReal)) :
    res_main_v78 m c = fun i : S2048x1024.Idx => (((data qp b kv z o).outF (i 0) (i 1) : ℝ) : EReal) := by
  obtain ⟨V0, h0, h1, h2, h3, h4⟩ := Cert.AttnRefIdeal.Grad.exists_contents V (m ((c.tc : Thread nD τ).loc main_arg0)) (m ((c.tc : Thread nD τ).loc main_arg1))
    (m ((c.tc : Thread nD τ).loc main_arg2)) (m ((c.tc : Thread nD τ).loc main_arg3)) (fun i => (o (i 0) (i 1) : EReal))
  have H : Cert.AttnRefIdeal.Grad.Args V0 qp b kv z o :=
    ⟨fun i k => (congrFun h0 _).trans (hq i k), fun k => (congrFun h1 _).trans (hb k), fun i k => (congrFun h2 _).trans (hkv i k), fun k => (congrFun h3 _).trans (hz k),
      fun i k => (congrFun h4 _).trans rfl⟩
  rw [res_eq m c V0 h0 h1 h2 h3]
  funext i; idx_vars i
  refine Eq.trans ?_ (Cert.AttnRefIdeal.Grad.fwd_at H _ _ _ _ _)
  pointwise

end Cert.AttnFwdRefIdeal.Grad

end
-- ==== Proof.AttnFwdOut.lean ====
/- What a point of `attn_fwd`'s grid leaves in the output block. A head's scores and exponentials are those of `attn_bwd`'s head, whose named functions are used here; what the two bodies do with them differs. -/
module

public import proofs.«01_k».proof.Proof.Gen.AttnFwdIdeal.Value
public import proofs.«01_k».proof.Proof.AttnAt
public import proofs.«01_k».proof.Proof.AttnFwdRef
public import proofs.«01_k».proof.Proof.AttnFin
public import Idealize.ShloMosaic.Lib.Pipeline.ValueKit
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)

namespace Cert.AttnFwdIdeal.Grad

open Cert.AttnFwdIdeal Cert.AttnFwdIdeal.Gen Cert.Attend Cert.Finite
open Cert.AttnBwdIdeal.Grad (Head hd row IsReal)

set_option maxHeartbeats 4000000

/-- Values beside a block of ones. -/
def withOnes (v : FVec Ideal S128x64 .bf16) : FVec Ideal S128x128 .bf16 :=
  concatenate S128x128 1 [⟨S128x64, v⟩, ⟨S128x64, (broadcast S128x64 (Scalar.ofBits (F := Ideal) .bf16 0x3F80#16) : FVec Ideal S128x64 .bf16)⟩] concatenates_S128x64_S128x64_S128x128_d1
/-- The exponentials times the values, and their sum in the columns of the ones. -/
def sums (h : Head) (i : Cert.AttnBwdIdeal.grid0.Coords) : FVec Ideal S512x128 .f32 :=
  addf (matmul dot_S512x128_S128x128_S512x128_1_0_0_1_n_n none (truncf .bf16 (h.ep i : FVec Ideal S512x128 .f32) bitsLt_bf16_f32) (withOnes h.vp') (constant S512x128 .f32 0x00000000#32))
    (matmul dot_S512x128_S128x128_S512x128_1_0_0_1_n_n none (truncf .bf16 (h.ec i : FVec Ideal S512x128 .f32) bitsLt_bf16_f32) (withOnes h.vc') (constant S512x128 .f32 0x00000000#32))
/-- The quotient by the denominator. -/
def quot (h : Head) (i : Cert.AttnBwdIdeal.grid0.Coords) : FVec Ideal S512x64 .f32 :=
  divf (extractStridedSlice S512x64 ![0, 0] (sums h i) slices_S512x128_o0_0_S512x64)
    (broadcastTo S512x64 (addf (extractStridedSlice S512x1 ![0, 64] (sums h i) slices_S512x128_o0_64_S512x1) (h.es i : FVec Ideal S512x1 .f32)) broadcasts_S512x1_S512x64)
/-- The four query heads side by side. -/
def out (h : Head) (i : Cert.AttnBwdIdeal.grid0.Coords) : FVec Ideal S128x256 .f32 :=
  concatenate S128x256 1 [⟨S128x64, extractStridedSlice S128x64 ![0, 0] (quot h i) slices_S512x64_o0_0_S128x64⟩, ⟨S128x64, extractStridedSlice S128x64 ![128, 0] (quot h i) slices_S512x64_o128_0_S128x64⟩,
    ⟨S128x64, extractStridedSlice S128x64 ![256, 0] (quot h i) slices_S512x64_o256_0_S128x64⟩, ⟨S128x64, extractStridedSlice S128x64 ![384, 0] (quot h i) slices_S512x64_o384_0_S128x64⟩] concatenates_S128x64_S128x64_S128x64_S128x64_S128x256_d1
/-- The four key heads side by side. -/
def outs (x : Fin 4 → FVec Ideal S128x256 .f32) : FVec Ideal S128x1024 .bf16 :=
  truncf .bf16 (concatenate S128x1024 1 [⟨S128x256, x 0⟩, ⟨S128x256, x 1⟩, ⟨S128x256, x 2⟩, ⟨S128x256, x 3⟩] concatenates_S128x256_S128x256_S128x256_S128x256_S128x1024_d1) bitsLt_bf16_f32

section Values
variable {i : Cert.AttnBwdIdeal.grid0.Coords} (d : Fin 64) {h : Head}
/-- A column of the values, and the column the denominator is read from. -/
theorem sums_at (r : Fin 512) : (sums h i : S512x128.Idx → EReal) (ix2 r ⟨d.val, by omega⟩)
    = (∑ j : Fin 128, (show EReal from (h.ep i : S512x128.Idx → EReal) (ix2 r j)) * (show EReal from (h.vp' : S128x64.Idx → EReal) (ix2 j d)))
      + ∑ j : Fin 128, (show EReal from (h.ec i : S512x128.Idx → EReal) (ix2 r j)) * (show EReal from (h.vc' : S128x64.Idx → EReal) (ix2 j d)) := by
  pointwise [sums, withOnes]
theorem ones_at (r : Fin 512) : (sums h i : S512x128.Idx → EReal) (ix2 r 64)
    = (∑ j : Fin 128, (h.ep i : S512x128.Idx → EReal) (ix2 r j)) + ∑ j : Fin 128, (h.ec i : S512x128.Idx → EReal) (ix2 r j) := by
  pointwise [sums, withOnes]

variable {n : Fin 16} (hn : (i 0).val = n.val) {k : Fin 4} (g : Fin 4) (y : Fin 128) {a : Data} (R : IsReal h a n k)

include hn R in
/-- The softmax times the values. -/
theorem quot_at : (quot h i : S512x64.Idx → EReal) (ix2 (row g y) d) = ((a.fwd n k g y d : ℝ) : EReal) := by
  obtain ⟨r, hr⟩ := Cert.AttnBwdIdeal.Grad.mx_real hn g y R
  have e : (quot h i : S512x64.Idx → EReal) (ix2 (row g y) d)
      = Ideal.div ((sums h i : S512x128.Idx → EReal) (ix2 (row g y) ⟨d.val, by omega⟩)) ((sums h i : S512x128.Idx → EReal) (ix2 (row g y) 64) + (h.es i : S512x1.Idx → EReal) (ix2 (row g y) 0)) := by
    pointwise [quot]
  rw [e, sums_at, ones_at, Cert.AttnBwdIdeal.Grad.es_at (n := n) g y R hr]
  simp only [Cert.AttnBwdIdeal.Grad.ep_at hn g y _ R hr, Cert.AttnBwdIdeal.Grad.ec_at hn g y _ R hr, R.vp, R.vc, ← EReal.coe_mul]
  rw [← coe_sum, ← coe_sum, ← coe_sum, ← coe_sum, ← EReal.coe_add, ← EReal.coe_add, ← EReal.coe_add,
    ← sum_halves (fun j => E (ok n y) (a.x n k g y) j * Real.exp (-r)), ← sum_halves (fun j => E (ok n y) (a.x n k g y) j * Real.exp (-r) * a.W n j k d), den_shift, Ideal.div_coe (den_ne _ _ _ _), ← EReal.coe_mul]
  refine congrArg Real.toEReal ?_
  rw [Data.fwd, Finset.sum_mul]
  refine Finset.sum_congr rfl fun j _ => ?_
  exact (mul_right_comm _ _ _).trans (congrArg (· * a.W n j k d) (P_shift (ok n y) (a.x n k g y) (a.z k g) r j))
include hn R in
theorem out_at (c : Fin 256) (hc : c.val = g.val * 64 + d.val) : (out h i : S128x256.Idx → EReal) (ix2 y c) = ((a.fwd n k g y d : ℝ) : EReal) := by
  rw [← quot_at d hn g y R]
  pointwise [out]
  have hg : g.val = 0 ∨ g.val = 1 ∨ g.val = 2 ∨ g.val = 3 := by omega
  rcases hg with hg | hg | hg | hg
  · rw [dif_pos (by omega)]; exact congrArg _ (congrArg₂ ix2 (Fin.ext (by simp only [row]; omega)) (Fin.ext (by simp only; omega)))
  · rw [dif_neg (by omega), dif_pos (by omega)]; exact congrArg _ (congrArg₂ ix2 (Fin.ext (by simp only [row]; omega)) (Fin.ext (by simp only; omega)))
  · rw [dif_neg (by omega), dif_neg (by omega), dif_pos (by omega)]; exact congrArg _ (congrArg₂ ix2 (Fin.ext (by simp only [row]; omega)) (Fin.ext (by simp only; omega)))
  · rw [dif_neg (by omega), dif_neg (by omega), dif_neg (by omega)]; exact congrArg _ (congrArg₂ ix2 (Fin.ext (by simp only [row]; omega)) (Fin.ext (by simp only; omega)))
end Values
theorem outs_at (x : Fin 4 → FVec Ideal S128x256 .f32) (y : Fin 128) (c : Fin 1024) : (outs x : S128x1024.Idx → EReal) (ix2 y c) = (x ⟨c.val / 256, by omega⟩ : S128x256.Idx → EReal) (ix2 y ⟨c.val % 256, by omega⟩) := by
  refine Eq.trans ?_ (Cert.AttnBwdIdeal.Grad.pay150_at x y c)
  pointwise [outs, Cert.AttnBwdIdeal.Gen.k0_pay150]

variable (m : (ℓ : Loc nD τ sig) → Buf (Elt Ideal) ℓ)
/-- Head `k` at point `t`; the cotangent a head of `attn_bwd` also reads is not used, and the queries stand in its place. -/
abbrev hdAt (c : Dev nD) (t : Fin cfg0.N) (k : Fin 4) : Head := hd (iblk m c 0 t) (iblk m c 1 t) (iblk m c 2 t) (iblk m c 3 t) (iblk m c 1 t) k

/-- A buffer a block was put in, read back, is the block. -/
theorem rb0 (c : Dev nD) (t : Fin cfg0.N) : (ms0_0 t).view.read (Elt Ideal) ((hs0_0 t).unread (iblk m c 0 t)) = iblk m c 0 t := (hs0_0 t).read_unread _
theorem rb1 (c : Dev nD) (t : Fin cfg0.N) : (ms0_1 t).view.read (Elt Ideal) ((hs0_1 t).unread (iblk m c 1 t)) = iblk m c 1 t := (hs0_1 t).read_unread _
theorem rb2 (c : Dev nD) (t : Fin cfg0.N) : (ms0_2 t).view.read (Elt Ideal) ((hs0_2 t).unread (iblk m c 2 t)) = iblk m c 2 t := (hs0_2 t).read_unread _
theorem rb3 (c : Dev nD) (t : Fin cfg0.N) : (ms0_3 t).view.read (Elt Ideal) ((hs0_3 t).unread (iblk m c 3 t)) = iblk m c 3 t := (hs0_3 t).read_unread _

/-- What a point leaves in the output block. -/
theorem after_eq (c : Dev nD) (t : Fin cfg0.N) : outsAt0 m c t = outs fun k => out (hdAt m c t k) (grid0.coords t) := by
  unfold outsAt0
  frame_out
  repeat (first | rw [rb0] | rw [rb1] | rw [rb2] | rw [rb3])
  sl_kernel_rfl

end Cert.AttnFwdIdeal.Grad

end
-- ==== Proof.AttnFwd.lean ====
/- The attention's forward pass: `attn_fwd`'s result is the reference's. -/
module

public import proofs.«01_k».proof.Defs
public import proofs.«01_k».proof.Proof.Gen.AttnFwd.Frame
public import proofs.«01_k».proof.Proof.Gen.AttnFwdIdeal.Value
public import proofs.«01_k».proof.Proof.Gen.AttnFwdRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack
public import proofs.«01_k».proof.Proof.AttnFin
public import proofs.«01_k».proof.Proof.AttnFwdOut
public import proofs.«01_k».proof.Proof.AttnFwdRef

@[expose] public section

set_option maxRecDepth 16384

noncomputable section

open Idealize.ShloMosaic Idealize.ShloMosaic.TcCoe Idealize.SL.Sem
open Idealize.ShloMosaic.Pipeline (Dat)

namespace Cert.AttnFwdIdeal.Grad

open Cert.AttnFwdIdeal Cert.AttnFwdIdeal.Gen Cert.Attend Cert.Finite
open Cert.AttnBwdIdeal.Grad (hd_real IsReal)

set_option maxHeartbeats 4000000

variable (m : (ℓ : Loc nD τ sig) → Buf (Elt Ideal) ℓ)

/-- The four argument arrays of device `c`: the queries before their bias, the bias, keys and values, sinks. -/
abbrev aQ (c : Dev nD) : FVec Ideal S2048x1024 .f32 := m ((c : Thread nD τ).loc main_arg0)
abbrev aB (c : Dev nD) : FVec Ideal S1024 .f32 := m ((c : Thread nD τ).loc main_arg1)
abbrev aKV (c : Dev nD) : FVec Ideal S2048x512 .f32 := m ((c : Thread nD τ).loc main_arg2)
abbrev aZ (c : Dev nD) : FVec Ideal S16 .f32 := m ((c : Thread nD τ).loc main_arg3)

/-- Every window's block index at every point, and the point's coordinate. -/
theorem idx : ∀ t : Fin cfg0.N, win0_0.index t = ![0] ∧ win0_1.index t = ![t.val, 0] ∧ win0_2.index t = ![t.val - 1, 0]
    ∧ win0_3.index t = ![t.val, 0] ∧ win0_4.index t = ![t.val, 0] :=
  (by decide +kernel : ∀ t : Fin grid0.N, _)
theorem coord : ∀ t : Fin cfg0.N, (grid0.coords t 0).val = t.val := (by decide +kernel : ∀ t : Fin grid0.N, _)

/-- What the region finds in the arrays it reads. -/
theorem V_z (c : Dev nD) : V m c main_arg3 = aZ m c := by unfold V; after_results
theorem V_kv (c : Dev nD) : (V m c main_v4 : S2048x512.Idx → EReal) = aKV m c := by unfold V; after_results; rfl
theorem V_q (c : Dev nD) (i : Fin 2048) (k : Fin 1024) : (V m c main_v3 : S2048x1024.Idx → EReal) (ix2 i k) = aQ m c (ix2 i k) + aB m c (ix1 k) := by
  have e : V m c main_v3 = truncf .bf16 (addf (aQ m c) (broadcastInDim S2048x1024 ![0, 1] bcast_S1x1024_S2048x1024_0_1 (broadcastInDim S1x1024 ![1] bcast_S1024_S1x1024_1 (aB m c)))) bitsLt_bf16_f32 := by unfold V; after_results
  rw [e]; pointwise

variable (qp : Fin 2048 → Fin 1024 → ℝ) (b : Fin 1024 → ℝ) (kv : Fin 2048 → Fin 512 → ℝ) (z : Fin 16 → ℝ)

/-- The arguments are these real numbers. -/
structure Args (c : Dev nD) : Prop where
  hq : ∀ i k, (aQ m c : S2048x1024.Idx → EReal) (ix2 i k) = (qp i k : EReal)
  hb : ∀ k, (aB m c : S1024.Idx → EReal) (ix1 k) = (b k : EReal)
  hkv : ∀ i k, (aKV m c : S2048x512.Idx → EReal) (ix2 i k) = (kv i k : EReal)
  hz : ∀ k, (aZ m c : S16.Idx → EReal) (ix1 k) = (z k : EReal)

variable {m qp b kv z} {c : Dev nD} (H : Args m qp b kv z c) (t : Fin cfg0.N)

/-- A point's block of rows. -/
abbrev pt (t : Fin cfg0.N) : Fin 16 := ⟨t.val, lt_of_lt_of_eq t.isLt N_0⟩

theorem rows (t : Fin cfg0.N) (y : Fin 128) : t.val * 128 + y.val < 2048 := by have : t.val < 16 := (pt t).isLt; omega
theorem rows' (t : Fin cfg0.N) (y : Fin 128) : (t.val - 1) * 128 + y.val < 2048 := by have : t.val < 16 := (pt t).isLt; omega

include H
/-- The blocks at point `t`, read at an index. -/
theorem blk0 (k : Fin 16) : iblk m c 0 t (ix1 k) = (z k : EReal) := by
  refine Eq.trans (b := V m c main_arg3 (((cfg0.win 0).blk t).view.emb (ix1 k))) rfl ?_
  rw [V_z, show ((cfg0.win 0).blk t).view.emb (ix1 k) = (ix1 k : S16.Idx) from by blk_ext [idx t]]
  exact H.hz k
theorem blk1 (y : Fin 128) (k : Fin 1024) : iblk m c 1 t (ix2 y k) = ((qp ⟨t.val * 128 + y.val, rows t y⟩ k + b k : ℝ) : EReal) := by
  refine Eq.trans (b := (V m c main_v3 : S2048x1024.Idx → EReal) (((cfg0.win 1).blk t).view.emb (ix2 y k))) rfl ?_
  rw [show ((cfg0.win 1).blk t).view.emb (ix2 y k) = (ix2 ⟨t.val * 128 + y.val, rows t y⟩ k : S2048x1024.Idx) from by blk_ext [idx t], V_q, H.hq, H.hb, EReal.coe_add]
theorem blk2 (y : Fin 128) (k : Fin 512) : iblk m c 2 t (ix2 y k) = (kv ⟨(t.val - 1) * 128 + y.val, rows' t y⟩ k : EReal) := by
  refine Eq.trans (b := (V m c main_v4 : S2048x512.Idx → EReal) (((cfg0.win 2).blk t).view.emb (ix2 y k))) rfl ?_
  rw [V_kv, show ((cfg0.win 2).blk t).view.emb (ix2 y k) = (ix2 ⟨(t.val - 1) * 128 + y.val, rows' t y⟩ k : S2048x512.Idx) from by blk_ext [idx t], H.hkv]
theorem blk3 (y : Fin 128) (k : Fin 512) : iblk m c 3 t (ix2 y k) = (kv ⟨t.val * 128 + y.val, rows t y⟩ k : EReal) := by
  refine Eq.trans (b := (V m c main_v4 : S2048x512.Idx → EReal) (((cfg0.win 3).blk t).view.emb (ix2 y k))) rfl ?_
  rw [V_kv, show ((cfg0.win 3).blk t).view.emb (ix2 y k) = (ix2 ⟨t.val * 128 + y.val, rows t y⟩ k : S2048x512.Idx) from by blk_ext [idx t], H.hkv]

/-- The queries, standing where `attn_bwd`'s heads have the cotangent. -/
abbrev spare (qp : Fin 2048 → Fin 1024 → ℝ) (b : Fin 1024 → ℝ) : Fin 2048 → Fin 1024 → ℝ := fun i k => qp i k + b k

theorem head_real (k : Fin 4) : IsReal (hdAt m c t k) (kdata qp b kv z (spare qp b)) (pt t) k := by
  refine hd_real (kdata qp b kv z (spare qp b)) (pt t) _ _ _ _ _ (fun k g => blk0 H t _) (fun y k g d => blk1 H t y _) ?_ ?_ ?_ ?_ (fun y k g d => blk1 H t y _) k
  all_goals intro y k d
  · exact (blk2 H t y _).trans (congrArg Real.toEReal (by
      dsimp only [kdata]; rw [dif_pos (show (lo y).val < 128 from y.isLt)]; exact congrArg _ (Fin.ext (by simp))))
  · exact (blk2 H t y _).trans (congrArg Real.toEReal (by
      dsimp only [kdata]; rw [dif_pos (show (lo y).val < 128 from y.isLt)]; exact congrArg _ (Fin.ext (by simp; omega))))
  · exact (blk3 H t y _).trans (congrArg Real.toEReal (by
      dsimp only [kdata]; rw [dif_neg (by simp [hi])]; exact congrArg₂ kv (Fin.ext (by simp [hi])) (Fin.ext (by simp))))
  · exact (blk3 H t y _).trans (congrArg Real.toEReal (by
      dsimp only [kdata]; rw [dif_neg (by simp [hi])]; exact congrArg₂ kv (Fin.ext (by simp [hi])) (Fin.ext (by simp; omega))))

/-- The result after the run. -/
theorem final4 : (dats m 0 c).arrAt 4 (cfgs 0).N = fun i : S2048x1024.Idx => (((data qp b kv z (spare qp b)).outF (i 0) (i 1) : ℝ) : EReal) := by
  refine (dats m 0 c).arrAt_eq_of_covers 4 _ (by decide +kernel) fun t _ y => ?_
  blk_simp
  idx_vars y
  have h := rows t y0
  rw [after0_4, show ((cfg0.win 4).blk t).view.emb (ix2 y0 y1) = (ix2 ⟨t.val * 128 + y0.val, h⟩ y1 : S2048x1024.Idx) from by blk_ext [idx t], after_eq]
  refine (outs_at (fun k => out (hdAt m c t k) (grid0.coords t)) y0 y1).trans ?_
  refine (out_at ⟨y1.val % 64, by omega⟩ (n := pt t) (coord t) ⟨y1.val / 64 % 4, by omega⟩ y0 (head_real H t _) _ (by simp only; omega)).trans (congrArg Real.toEReal ?_)
  rw [Data.fwd_same (same qp b kv z (spare qp b))]
  change _ = (data qp b kv z (spare qp b)).outF ⟨t.val * 128 + y0.val, h⟩ y1
  unfold Data.outF
  congr 2 <;> (apply Fin.ext; simp only; omega)

end Cert.AttnFwdIdeal.Grad

namespace Cert.Proof

/-- The precondition's side conditions on shapes. -/
instance facts_finite_attnf : Cert.Pre_finite_attnf.Facts where
  bcast_S_S2048x1024 := by decide
  reducesTo_S2048x1024_S_d0_1 := by decide
  h_S_ := by decide
  bcast_S_S1024 := by decide
  reducesTo_S1024_S_d0 := by decide
  bcast_S_S2048x512 := by decide
  reducesTo_S2048x512_S_d0_1 := by decide
  bcast_S_S16 := by decide
  reducesTo_S16_S_d0 := by decide

theorem frame_AttnFwd : Cert.quiescent_AttnFwd := fun m ρ _ => Cert.AttnFwd.Gen.frame m ρ
theorem frame_AttnFwdIdeal : Cert.quiescent_AttnFwdIdeal := fun m ρ _ => Cert.AttnFwdIdeal.Gen.frame m ρ
/-- The reference's frame: its run leaves the arguments, and it declares no semaphore. -/
theorem frame_AttnFwdRefIdeal : Cert.quiescent_AttnFwdRefIdeal := fun m ρ _ =>
  (θ_run Cert.AttnFwdRefIdeal.defs _ _).mono (fun r h => ⟨fun c => (h c).2,
      Idealize.ShloMosaic.sem_eq_zero_of_no_sems (by decide) r.2⟩) (Cert.AttnFwdRefIdeal.Value.run (F := Ideal) m ρ)

/-- What the precondition says: the four arrays hold real numbers. -/
theorem finite_attnf_real (m : (ℓ : Loc Cert.AttnFwdIdeal.nD Cert.AttnFwdIdeal.τ Cert.AttnFwdIdeal.sig) → Buf (Elt Ideal) ℓ)
    (h : Cert.Pre_AttnFwdIdeal_finite_attnf m) (c : Dev Cert.AttnFwdIdeal.nD) :
    ∃ (qp : Fin 2048 → Fin 1024 → ℝ) (b : Fin 1024 → ℝ) (kv : Fin 2048 → Fin 512 → ℝ) (z : Fin 16 → ℝ), Cert.AttnFwdIdeal.Grad.Args m qp b kv z c := by
  have e := congrFun (h c) (fun a => a.elim0)
  obtain ⟨e, e4⟩ := Cert.Finite.andi_eq_one e
  obtain ⟨e, e3⟩ := Cert.Finite.andi_eq_one e
  obtain ⟨e1, e2⟩ := Cert.Finite.andi_eq_one e
  obtain ⟨r1, h1⟩ := Cert.Finite.isReal_of_all _ _ _ _ _ _ _ e1
  obtain ⟨r2, h2⟩ := Cert.Finite.isReal_of_all _ _ _ _ _ _ _ e2
  obtain ⟨r3, h3⟩ := Cert.Finite.isReal_of_all _ _ _ _ _ _ _ e3
  obtain ⟨r4, h4⟩ := Cert.Finite.isReal_of_all _ _ _ _ _ _ _ e4
  exact ⟨fun i k => r1 (ix2 i k), fun k => r2 (ix1 k), fun i k => r3 (ix2 i k), fun k => r4 (ix1 k),
    fun i k => congrFun h1 _, fun k => congrFun h2 _, fun i k => congrFun h3 _, fun k => congrFun h4 _⟩

/-- The one rewrite: the mask's constant stands for minus infinity. -/
theorem preserves_AttnFwd : Cert.preserves_AttnFwd_AttnFwdIdeal := IdealRules.named_const.statement _ _ _ _ _ rfl

open Cert.Attend in
/-- Kernel and reference end with the same result. -/
theorem algebraic_AttnFwd : Cert.algebraic_AttnFwdIdeal_AttnFwdRefIdeal_pre_finite_attnf := by
  intro m ρ m' ρ' hpre hagree
  choose qp b kv z H using finite_attnf_real m hpre
  refine ⟨fun c i => (((data (qp c) (b c) (kv c) (z c) (Cert.AttnFwdIdeal.Grad.spare (qp c) (b c))).outF (i 0) (i 1) : ℝ) : EReal), ?_, ?_⟩
  · refine (θ_run Cert.AttnFwdIdeal.defs _ _).mono (fun _ h c => ?_) (Cert.AttnFwdIdeal.Value.run_blocks (F := Ideal) m ρ)
    exact ⟨(h c).1.trans (Cert.AttnFwdIdeal.Grad.final4 (H c)), (h c).2⟩
  · refine (θ_run Cert.AttnFwdRefIdeal.defs _ _).mono (fun _ h c => ?_) (Cert.AttnFwdRefIdeal.Value.run (F := Ideal) m' ρ')
    obtain ⟨h0, h1, h2, h3⟩ := hagree c
    exact ⟨(h c).1.trans (Cert.AttnFwdRefIdeal.Grad.res_at m' c (fun _ _ => Classical.ofNonempty) (qp c) (b c) (kv c) (z c) _
      (fun i k => (congrFun h0 _).trans ((H c).hq i k)) (fun k => (congrFun h1 _).trans ((H c).hb k)) (fun i k => (congrFun h2 _).trans ((H c).hkv i k))
      (fun k => (congrFun h3 _).trans ((H c).hz k))), (h c).2⟩

end Cert.Proof

end
-- ==== Proof.NormFwd.lean ====
/- RMSNorm forward: a kernel's row times its inverse root mean square times the gain is the reference's normalised row. -/
module

public import proofs.«01_k».proof.Proof.Norm

@[expose] public section

set_option maxRecDepth 16384

noncomputable section

open Idealize.ShloMosaic Idealize.ShloMosaic.TcCoe

namespace Cert.Norm

/-- The normalised rows times the gain, rounded to bf16. -/
def nrm (x : FVec Ideal A2 .f32) (g : FVec Ideal V0 .f32) : FVec Ideal A2 .bf16 := truncf .bf16 (mulf (hat x) (rowvec g)) (by decide)

theorem rowvec_at (g : FVec Ideal V0 .f32) (i : Fin 2048) (j : Fin 1024) : rowvec g (ix2 i j) = g (ix1 j) := by
  pointwise [rowvec]
theorem nrm_at (x : FVec Ideal A2 .f32) (g : FVec Ideal V0 .f32) (i : Fin 2048) (j : Fin 1024) :
    nrm x g (ix2 i j) = x (ix2 i j) * (R fun k => x (ix2 i k)) * g (ix1 j) := by
  rw [← hat_at]; pointwise [nrm]

end Cert.Norm

end
-- ==== Proof.GluFwd.lean ====
/- The gated unit forward: value, gate, the gated sum and its norm, as the reference's. -/
module

public import proofs.«01_k».proof.Defs
public import proofs.«01_k».proof.Proof.Gen.GluFwd.Frame
public import proofs.«01_k».proof.Proof.Gen.GluFwdIdeal.Value
public import proofs.«01_k».proof.Proof.Gen.GluFwdRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.NormFwd

@[expose] public section

set_option maxRecDepth 16384

noncomputable section

open Idealize.ShloMosaic Idealize.ShloMosaic.TcCoe Idealize.SL.Sem
open Idealize.ShloMosaic.Pipeline (Dat)

namespace Cert.GluFwdIdeal.Grad

open Cert.GluFwdIdeal Cert.GluFwdIdeal.Gen Cert.Norm

variable (m : (ℓ : Loc nD τ sig) → Buf (Elt Ideal) ℓ)

/-- The five argument arrays of device `c`: the residual rows, the scan's output, the matrix, the bias, the gain. -/
abbrev aX (c : Dev nD) : FVec Ideal S2048x1024 .f32 := m ((c : Thread nD τ).loc main_arg0)
abbrev aY (c : Dev nD) : FVec Ideal S2048x1024 .f32 := m ((c : Thread nD τ).loc main_arg1)
abbrev aW (c : Dev nD) : FVec Ideal S1024x2048 .f32 := m ((c : Thread nD τ).loc main_arg2)
abbrev aB (c : Dev nD) : FVec Ideal S2048 .f32 := m ((c : Thread nD τ).loc main_arg3)
abbrev aG (c : Dev nD) : FVec Ideal S1024 .f32 := m ((c : Thread nD τ).loc main_arg4)

/-- The reference's results: value and gate are the two halves of the product with its bias; then the gated sum and its norm. -/
def Z (c : Dev nD) : FVec Ideal Cert.GluFwdRefIdeal.S2048x2048 .f32 :=
  addf (Host.dotGeneral Cert.GluFwdRefIdeal.dot_S2048x1024_S1024x2048_S2048x2048_1_0_0_1_n_n none (aY m c) (aW m c))
    (broadcastInDim Cert.GluFwdRefIdeal.S2048x2048 ![0, 1] Cert.GluFwdRefIdeal.Gen.bcast_S1x2048_S2048x2048_0_1 (broadcastInDim S1x2048 ![1] Cert.GluFwdRefIdeal.Gen.bcast_S2048_S1x2048_1 (aB m c)))
def Val (c : Dev nD) : FVec Ideal S2048x1024 .f32 := extractStridedSlice S2048x1024 ![0, 0] (Z m c) Cert.GluFwdRefIdeal.Gen.slices_S2048x2048_S2048x1024_0_0
def Gate (c : Dev nD) : FVec Ideal S2048x1024 .f32 := extractStridedSlice S2048x1024 ![0, 1024] (Z m c) Cert.GluFwdRefIdeal.Gen.slices_S2048x2048_S2048x1024_0_1024
def H (c : Dev nD) : FVec Ideal S2048x1024 .f32 := addf (aX m c) (mulf (Val m c) (Host.divf (broadcastInDim S2048x1024 ![] Cert.GluFwdRefIdeal.Gen.bcast_S_S2048x1024 (constant Cert.GluFwdRefIdeal.S_ .f32 0x3F800000#32)) (addf (broadcastInDim S2048x1024 ![] Cert.GluFwdRefIdeal.Gen.bcast_S_S2048x1024 (constant Cert.GluFwdRefIdeal.S_ .f32 0x3F800000#32)) (Host.exp (Host.negf (Gate m c))))))
def Y (c : Dev nD) : FVec Ideal S2048x1024 .bf16 := nrm (H m c) (aG m c)

/-- Every window's block index at every point. -/
theorem idx : ∀ t : Fin cfg0.N, win0_0.index t = ![t.val, 0] ∧ win0_1.index t = ![0, 0] ∧ win0_2.index t = ![0, 1]
    ∧ win0_3.index t = ![t.val, 0] ∧ win0_4.index t = ![0, 0] ∧ win0_5.index t = ![0, 1] ∧ win0_6.index t = ![0, 0]
    ∧ win0_7.index t = ![t.val, 0] ∧ win0_8.index t = ![t.val, 0] ∧ win0_9.index t = ![t.val, 0] ∧ win0_10.index t = ![t.val, 0] :=
  (by decide +kernel : ∀ t : Fin grid0.N, _)

/-- What the region finds in the arrays it reads. -/
theorem V_y (c : Dev nD) : V m c main_v1 = aY m c := by unfold V; after_results; rfl
theorem V_w (c : Dev nD) : V m c main_v2 = aW m c := by unfold V; after_results; rfl
theorem V_x (c : Dev nD) : V m c main_arg0 = aX m c := by unfold V; after_results
theorem V_b (c : Dev nD) (k : Fin 2048) : (V m c main_v0 : S1x2048.Idx → EReal) (ix2 0 k) = aB m c (ix1 k) := by
  have e : V m c main_v0 = shapeCast S1x2048 (aB m c) shapeCasts_S2048_S1x2048 := by unfold V; after_results; rfl
  rw [e]; pointwise
theorem V_g (c : Dev nD) (k : Fin 1024) : (V m c main_v3 : S1x1024.Idx → EReal) (ix2 0 k) = aG m c (ix1 k) := by
  have e : V m c main_v3 = shapeCast S1x1024 (aG m c) shapeCasts_S1024_S1x1024 := by unfold V; after_results; rfl
  rw [e]; pointwise

/-- The blocks at point `t`, read at an index. -/
theorem blk0 (c : Dev nD) (t : Fin cfg0.N) (i : Fin 512) (k : Fin 1024) (h : t.val * 512 + i.val < 2048) :
    iblk m c 0 t (ix2 i k) = aY m c (ix2 ⟨t.val * 512 + i.val, h⟩ k) := by
  refine Eq.trans (b := V m c main_v1 (((cfg0.win 0).blk t).view.emb (ix2 i k))) rfl ?_
  rw [V_y]
  blk_ext [idx t]
theorem blk1 (c : Dev nD) (t : Fin cfg0.N) (k j : Fin 1024) : iblk m c 1 t (ix2 k j) = aW m c (ix2 k ⟨j.val, by omega⟩) := by
  refine Eq.trans (b := V m c main_v2 (((cfg0.win 1).blk t).view.emb (ix2 k j))) rfl ?_
  rw [V_w]
  blk_ext [idx t]
theorem blk2 (c : Dev nD) (t : Fin cfg0.N) (k j : Fin 1024) : iblk m c 2 t (ix2 k j) = aW m c (ix2 k ⟨1024 + j.val, by omega⟩) := by
  refine Eq.trans (b := V m c main_v2 (((cfg0.win 2).blk t).view.emb (ix2 k j))) rfl ?_
  rw [V_w]
  blk_ext [idx t]
theorem blk3 (c : Dev nD) (t : Fin cfg0.N) (i : Fin 512) (k : Fin 1024) (h : t.val * 512 + i.val < 2048) :
    iblk m c 3 t (ix2 i k) = aX m c (ix2 ⟨t.val * 512 + i.val, h⟩ k) := by
  refine Eq.trans (b := V m c main_arg0 (((cfg0.win 3).blk t).view.emb (ix2 i k))) rfl ?_
  rw [V_x]
  blk_ext [idx t]
theorem blk4 (c : Dev nD) (t : Fin cfg0.N) (j : Fin 1024) : iblk m c 4 t (ix2 0 j) = aB m c (ix1 ⟨j.val, by omega⟩) := by
  refine Eq.trans (b := (V m c main_v0 : S1x2048.Idx → EReal) (((cfg0.win 4).blk t).view.emb (ix2 0 j))) rfl ?_
  rw [show ((cfg0.win 4).blk t).view.emb (ix2 0 j) = (ix2 0 ⟨j.val, by omega⟩ : S1x2048.Idx) from by blk_ext [idx t], V_b]
theorem blk5 (c : Dev nD) (t : Fin cfg0.N) (j : Fin 1024) : iblk m c 5 t (ix2 0 j) = aB m c (ix1 ⟨1024 + j.val, by omega⟩) := by
  refine Eq.trans (b := (V m c main_v0 : S1x2048.Idx → EReal) (((cfg0.win 5).blk t).view.emb (ix2 0 j))) rfl ?_
  rw [show ((cfg0.win 5).blk t).view.emb (ix2 0 j) = (ix2 0 ⟨1024 + j.val, by omega⟩ : S1x2048.Idx) from by blk_ext [idx t], V_b]
theorem blk6 (c : Dev nD) (t : Fin cfg0.N) (k : Fin 1024) : iblk m c 6 t (ix2 0 k) = aG m c (ix1 k) := by
  refine Eq.trans (b := (V m c main_v3 : S1x1024.Idx → EReal) (((cfg0.win 6).blk t).view.emb (ix2 0 k))) rfl ?_
  rw [show ((cfg0.win 6).blk t).view.emb (ix2 0 k) = (ix2 0 k : S1x1024.Idx) from by blk_ext [idx t], V_g]

/-- The product with its bias at an index. -/
theorem Z_at (c : Dev nD) (i j : Fin 2048) : Z m c (ix2 i j) = (∑ k : Fin 1024, aY m c (ix2 i k) * aW m c (ix2 k j)) + aB m c (ix1 j) := by
  pointwise [Z]
theorem Val_at (c : Dev nD) (i : Fin 2048) (j : Fin 1024) : Val m c (ix2 i j) = Z m c (ix2 i ⟨j.val, by omega⟩) := by
  pointwise [Val]
theorem Gate_at (c : Dev nD) (i : Fin 2048) (j : Fin 1024) : Gate m c (ix2 i j) = Z m c (ix2 i ⟨1024 + j.val, by omega⟩) := by
  pointwise [Gate]

/-- The body's value, gate, gated sum and normalised rows are the reference's. -/
theorem val_at (c : Dev nD) (t : Fin cfg0.N) (i : Fin 512) (j : Fin 1024) (h : t.val * 512 + i.val < 2048) :
    (k0_pay3 (F := Ideal) (iblk m c 0 t) (iblk m c 1 t) (iblk m c 4 t) : S512x1024.Idx → EReal) (ix2 i j) = Val m c (ix2 ⟨t.val * 512 + i.val, h⟩ j) := by
  rw [Val_at, Z_at]; pointwise [k0_pay3, k0_pay2, blk0 m c t i _ h, blk1, blk4]
theorem gate_at (c : Dev nD) (t : Fin cfg0.N) (i : Fin 512) (j : Fin 1024) (h : t.val * 512 + i.val < 2048) :
    (k0_pay4 (F := Ideal) (iblk m c 0 t) (iblk m c 2 t) (iblk m c 5 t) : S512x1024.Idx → EReal) (ix2 i j) = Gate m c (ix2 ⟨t.val * 512 + i.val, h⟩ j) := by
  rw [Gate_at, Z_at]; pointwise [k0_pay4, k0_pay2, blk0 m c t i _ h, blk2, blk5]
theorem h_at (c : Dev nD) (t : Fin cfg0.N) (i : Fin 512) (j : Fin 1024) (h : t.val * 512 + i.val < 2048) :
    (k0_pay5 (F := Ideal) (iblk m c 0 t) (iblk m c 1 t) (iblk m c 2 t) (iblk m c 3 t) (iblk m c 4 t) (iblk m c 5 t) : S512x1024.Idx → EReal) (ix2 i j) = H m c (ix2 ⟨t.val * 512 + i.val, h⟩ j) := by
  pointwise [k0_pay5, H, val_at m c t i _ h, gate_at m c t i _ h, blk3 m c t i _ h, Ideal.logistic]
theorem norm_of (v0 : FVec Ideal S512x1024 .bf16) (v2 v5 : FVec Ideal S1024x1024 .bf16) (v8 : FVec Ideal S512x1024 .f32) (v9 v11 v13 : FVec Ideal S1x1024 .f32) (i : Fin 512) (j : Fin 1024) :
    (k0_pay6 (F := Ideal) v0 v2 v5 v8 v9 v11 v13 : S512x1024.Idx → EReal) (ix2 i j)
      = (k0_pay5 (F := Ideal) v0 v2 v5 v8 v9 v11 : S512x1024.Idx → EReal) (ix2 i j) * (R fun k => (k0_pay5 (F := Ideal) v0 v2 v5 v8 v9 v11 : S512x1024.Idx → EReal) (ix2 i k)) * v13 (ix2 0 j) := by
  pointwise [k0_pay6, R, S]
theorem y_at (c : Dev nD) (t : Fin cfg0.N) (i : Fin 512) (j : Fin 1024) (h : t.val * 512 + i.val < 2048) :
    (k0_pay1 (F := Ideal) (k0_pay6 (iblk m c 0 t) (iblk m c 1 t) (iblk m c 2 t) (iblk m c 3 t) (iblk m c 4 t) (iblk m c 5 t) (iblk m c 6 t)) : S512x1024.Idx → EReal) (ix2 i j) = Y m c (ix2 ⟨t.val * 512 + i.val, h⟩ j) := by
  refine Eq.trans (b := (k0_pay6 (F := Ideal) (iblk m c 0 t) (iblk m c 1 t) (iblk m c 2 t) (iblk m c 3 t) (iblk m c 4 t) (iblk m c 5 t) (iblk m c 6 t) : S512x1024.Idx → EReal) (ix2 i j)) (by pointwise [k0_pay1]) ?_
  rw [Y, nrm_at, norm_of, blk6]; simp only [h_at m c t i _ h]

/-- The four result arrays after the run. -/
theorem final_h (c : Dev nD) : (dats m 0 c).arrAt 7 (cfgs 0).N = H m c := by
  refine (dats m 0 c).arrAt_eq_of_covers 7 _ (by decide +kernel) fun t _ y => ?_
  blk_simp
  idx_vars y
  have ht : t.val < 4 := lt_of_lt_of_eq t.isLt N_0
  have h : t.val * 512 + y0.val < 2048 := by omega
  rw [after0_7, show ((cfg0.win 7).blk t).view.emb (ix2 y0 y1) = (ix2 ⟨t.val * 512 + y0.val, h⟩ y1 : S2048x1024.Idx) from by blk_ext [idx t]]
  frame_out
  exact h_at m c t y0 y1 h
theorem final_val (c : Dev nD) : (dats m 0 c).arrAt 8 (cfgs 0).N = Val m c := by
  refine (dats m 0 c).arrAt_eq_of_covers 8 _ (by decide +kernel) fun t _ y => ?_
  blk_simp
  idx_vars y
  have ht : t.val < 4 := lt_of_lt_of_eq t.isLt N_0
  have h : t.val * 512 + y0.val < 2048 := by omega
  rw [after0_8, show ((cfg0.win 8).blk t).view.emb (ix2 y0 y1) = (ix2 ⟨t.val * 512 + y0.val, h⟩ y1 : S2048x1024.Idx) from by blk_ext [idx t]]
  frame_out
  exact val_at m c t y0 y1 h
theorem final_gate (c : Dev nD) : (dats m 0 c).arrAt 9 (cfgs 0).N = Gate m c := by
  refine (dats m 0 c).arrAt_eq_of_covers 9 _ (by decide +kernel) fun t _ y => ?_
  blk_simp
  idx_vars y
  have ht : t.val < 4 := lt_of_lt_of_eq t.isLt N_0
  have h : t.val * 512 + y0.val < 2048 := by omega
  rw [after0_9, show ((cfg0.win 9).blk t).view.emb (ix2 y0 y1) = (ix2 ⟨t.val * 512 + y0.val, h⟩ y1 : S2048x1024.Idx) from by blk_ext [idx t]]
  frame_out
  exact gate_at m c t y0 y1 h
theorem final_y (c : Dev nD) : (dats m 0 c).arrAt 10 (cfgs 0).N = Y m c := by
  refine (dats m 0 c).arrAt_eq_of_covers 10 _ (by decide +kernel) fun t _ y => ?_
  blk_simp
  idx_vars y
  have ht : t.val < 4 := lt_of_lt_of_eq t.isLt N_0
  have h : t.val * 512 + y0.val < 2048 := by omega
  rw [after0_10, show ((cfg0.win 10).blk t).view.emb (ix2 y0 y1) = (ix2 ⟨t.val * 512 + y0.val, h⟩ y1 : S2048x1024.Idx) from by blk_ext [idx t]]
  frame_out
  exact y_at m c t y0 y1 h

end Cert.GluFwdIdeal.Grad

namespace Cert.Proof

theorem frame_GluFwd : Cert.quiescent_GluFwd := fun m ρ _ => Cert.GluFwd.Gen.frame m ρ
theorem frame_GluFwdIdeal : Cert.quiescent_GluFwdIdeal := fun m ρ _ => Cert.GluFwdIdeal.Gen.frame m ρ
/-- The reference's frame: its run leaves the arguments, and it declares no semaphore. -/
theorem frame_GluFwdRefIdeal : Cert.quiescent_GluFwdRefIdeal := fun m ρ _ =>
  (θ_run Cert.GluFwdRefIdeal.defs _ _).mono (fun r h => ⟨fun c => (h c).2.2.2.2,
      Idealize.ShloMosaic.sem_eq_zero_of_no_sems (by decide) r.2⟩) (Cert.GluFwdRefIdeal.Value.run (F := Ideal) m ρ)

/-- Kernel and reference end with the same four arrays. -/
theorem algebraic_GluFwd : Cert.algebraic_GluFwdIdeal_GluFwdRefIdeal := by
  intro m ρ m' ρ' _ hagree
  refine ⟨fun c => Cert.GluFwdIdeal.Grad.H m c, fun c => Cert.GluFwdIdeal.Grad.Val m c, fun c => Cert.GluFwdIdeal.Grad.Gate m c, fun c => Cert.GluFwdIdeal.Grad.Y m c, ?_, ?_⟩
  · exact (θ_run Cert.GluFwdIdeal.defs _ _).mono (fun _ h c => ⟨(h c).1.trans (Cert.GluFwdIdeal.Grad.final_h m c), (h c).2.1.trans (Cert.GluFwdIdeal.Grad.final_val m c), (h c).2.2.1.trans (Cert.GluFwdIdeal.Grad.final_gate m c), (h c).2.2.2.1.trans (Cert.GluFwdIdeal.Grad.final_y m c), (h c).2.2.2.2⟩)
      (Cert.GluFwdIdeal.Value.run_blocks (F := Ideal) m ρ)
  · refine (θ_run Cert.GluFwdRefIdeal.defs _ _).mono (fun _ h c => ⟨(h c).1.trans ?_, (h c).2.1.trans ?_, (h c).2.2.1.trans ?_, (h c).2.2.2.1.trans ?_, (h c).2.2.2.2⟩)
      (Cert.GluFwdRefIdeal.Value.run (F := Ideal) m' ρ')
    all_goals
      simp only [(hagree c).1, (hagree c).2.1, (hagree c).2.2.1, (hagree c).2.2.2.1, (hagree c).2.2.2.2]
      rfl

end Cert.Proof

end
-- ==== Proof.MlpIn.lean ====
/- The feed-forward's first product: the square of its positive part and that square's slope, as the reference's. -/
module

public import proofs.«01_k».proof.Defs
public import proofs.«01_k».proof.Proof.Gen.MlpIn.Frame
public import proofs.«01_k».proof.Proof.Gen.MlpInIdeal.Value
public import proofs.«01_k».proof.Proof.Gen.MlpInRefIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpInIdeal.Grad

open Cert.MlpInIdeal Cert.MlpInIdeal.Gen

variable (m : (ℓ : Loc nD τ sig) → Buf (Elt Ideal) ℓ)

/-- The activation before its square: the positive part of the product. -/
def pos (n : FVec Ideal S2048x1024 .f32) (w : FVec Ideal S1024x4096 .f32) : FVec Ideal S2048x4096 .f32 :=
  maximumf (Host.dotGeneral Cert.MlpInRefIdeal.dot_S2048x1024_S1024x4096_S2048x4096_1_0_0_1_n_n none n w) (broadcastInDim S2048x4096 ![] Cert.MlpInRefIdeal.Gen.bcast_S_S2048x4096 (constant Cert.MlpInRefIdeal.S_ .f32 0x00000000#32))
/-- The square, and its slope where the product is positive, as the reference spells them. -/
def square (n : FVec Ideal S2048x1024 .f32) (w : FVec Ideal S1024x4096 .f32) : FVec Ideal S2048x4096 .bf16 :=
  truncf .bf16 (mulf (pos n w) (pos n w)) Cert.MlpInRefIdeal.Gen.bitsLt_bf16_f32
def slope (n : FVec Ideal S2048x1024 .f32) (w : FVec Ideal S1024x4096 .f32) : FVec Ideal S2048x4096 .bf16 :=
  truncf .bf16 (select (cmpf .ogt (Host.dotGeneral Cert.MlpInRefIdeal.dot_S2048x1024_S1024x4096_S2048x4096_1_0_0_1_n_n none n w) (broadcastInDim S2048x4096 ![] Cert.MlpInRefIdeal.Gen.bcast_S_S2048x4096 (constant Cert.MlpInRefIdeal.S_ .f32 0x00000000#32)))
    (mulf (broadcastInDim S2048x4096 ![] Cert.MlpInRefIdeal.Gen.bcast_S_S2048x4096 (constant Cert.MlpInRefIdeal.S_ .f32 0x3F800000#32)) (mulf (broadcastInDim S2048x4096 ![] Cert.MlpInRefIdeal.Gen.bcast_S_S2048x4096 (constant Cert.MlpInRefIdeal.S_ .f32 0x40000000#32)) (pos n w))) (broadcastInDim S2048x4096 ![] Cert.MlpInRefIdeal.Gen.bcast_S_S2048x4096 (constant Cert.MlpInRefIdeal.S_ .f32 0x00000000#32))) Cert.MlpInRefIdeal.Gen.bitsLt_bf16_f32

/-- Every window's block index at every point. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The two argument arrays of device `c`, and the reference's results of them. -/
abbrev aN (c : Dev nD) : FVec Ideal S2048x1024 .f32 := m ((c : Thread nD τ).loc main_arg0)
abbrev aW (c : Dev nD) : FVec Ideal S1024x4096 .f32 := m ((c : Thread nD τ).loc main_arg1)
abbrev Q (c : Dev nD) : FVec Ideal S2048x4096 .bf16 := square (aN m c) (aW m c)
abbrev L (c : Dev nD) : FVec Ideal S2048x4096 .bf16 := slope (aN m c) (aW m c)

/-- What the region finds in the two arrays it reads. -/
theorem V_n (c : Dev nD) : V m c main_v0 = aN m c := by unfold V; after_results; rfl
theorem V_w (c : Dev nD) : V m c main_v1 = aW m c := by unfold V; after_results; rfl

/-- The blocks at point `t`, read at an index. -/
theorem blk0 (c : Dev nD) (t : Fin cfg0.N) (i : Fin 2048) (k : Fin 1024) : iblk m c 0 t (ix2 i k) = aN m c (ix2 i k) := by
  refine Eq.trans (b := V m c main_v0 (((cfg0.win 0).blk t).view.emb (ix2 i k))) rfl ?_
  rw [V_n]
  blk_ext [idx t]
theorem blk1 (c : Dev nD) (t : Fin cfg0.N) (k : Fin 1024) (j : Fin 512) (h : t.val * 512 + j.val < 4096) :
    iblk m c 1 t (ix2 k j) = aW m c (ix2 k ⟨t.val * 512 + j.val, h⟩) := by
  refine Eq.trans (b := V m c main_v1 (((cfg0.win 1).blk t).view.emb (ix2 k j))) rfl ?_
  rw [V_w]
  blk_ext [idx t]

/-- The body's activation at an index, and what it stores of it. -/
theorem pay1_at (c : Dev nD) (t : Fin cfg0.N) (i : Fin 2048) (j : Fin 512) (h : t.val * 512 + j.val < 4096) :
    (k0_pay1 (F := Ideal) (iblk m c 0 t) (iblk m c 1 t) : S2048x512.Idx → EReal) (ix2 i j) = pos (aN m c) (aW m c) (ix2 i ⟨t.val * 512 + j.val, h⟩) := by
  pointwise [k0_pay1, pos, blk0, blk1 m c t _ j h]
theorem pay2_at (c : Dev nD) (t : Fin cfg0.N) (i : Fin 2048) (j : Fin 512) (h : t.val * 512 + j.val < 4096) :
    (k0_pay2 (F := Ideal) (iblk m c 0 t) (iblk m c 1 t) : S2048x512.Idx → EReal) (ix2 i j) = Q m c (ix2 i ⟨t.val * 512 + j.val, h⟩) := by
  pointwise [k0_pay2, Q, square, pay1_at m c t i j h]
/-- Where the product is not positive the slope is zero. -/
theorem slope_one (a b : EReal) : b * max a 0 = if 0 < a then b * max a 0 else 0 := by
  split
  · rfl
  · rw [max_eq_right (not_lt.mp ‹_›), mul_zero]
theorem pay3_at (c : Dev nD) (t : Fin cfg0.N) (i : Fin 2048) (j : Fin 512) (h : t.val * 512 + j.val < 4096) :
    (k0_pay3 (F := Ideal) (iblk m c 0 t) (iblk m c 1 t) : S2048x512.Idx → EReal) (ix2 i j) = L m c (ix2 i ⟨t.val * 512 + j.val, h⟩) := by
  pointwise [k0_pay3, L, slope, pay1_at m c t i j h, pos]
  exact slope_one _ _

/-- The two result arrays after the run. -/
theorem final_q (c : Dev nD) : (dats m 0 c).arrAt 2 (cfgs 0).N = Q m c := by
  refine (dats m 0 c).arrAt_eq_of_covers 2 _ (by decide +kernel) fun t _ y => ?_
  blk_simp
  idx_vars y
  have ht : t.val < 8 := lt_of_lt_of_eq t.isLt N_0
  have h : t.val * 512 + y1.val < 4096 := by omega
  rw [after0_2, show ((cfg0.win 2).blk t).view.emb (ix2 y0 y1) = (ix2 y0 ⟨t.val * 512 + y1.val, h⟩ : S2048x4096.Idx) from by blk_ext [idx t]]
  frame_out
  exact pay2_at m c t y0 y1 h
theorem final_l (c : Dev nD) : (dats m 0 c).arrAt 3 (cfgs 0).N = L m c := by
  refine (dats m 0 c).arrAt_eq_of_covers 3 _ (by decide +kernel) fun t _ y => ?_
  blk_simp
  idx_vars y
  have ht : t.val < 8 := lt_of_lt_of_eq t.isLt N_0
  have h : t.val * 512 + y1.val < 4096 := by omega
  rw [after0_3, show ((cfg0.win 3).blk t).view.emb (ix2 y0 y1) = (ix2 y0 ⟨t.val * 512 + y1.val, h⟩ : S2048x4096.Idx) from by blk_ext [idx t]]
  frame_out
  exact pay3_at m c t y0 y1 h

end Cert.MlpInIdeal.Grad

namespace Cert.Proof

theorem frame_MlpIn : Cert.quiescent_MlpIn := fun m ρ _ => Cert.MlpIn.Gen.frame m ρ
theorem frame_MlpInIdeal : Cert.quiescent_MlpInIdeal := fun m ρ _ => Cert.MlpInIdeal.Gen.frame m ρ
/-- The reference's frame: its run leaves the arguments, and it declares no semaphore. -/
theorem frame_MlpInRefIdeal : Cert.quiescent_MlpInRefIdeal := fun m ρ _ =>
  (θ_run Cert.MlpInRefIdeal.defs _ _).mono (fun r h => ⟨fun c => (h c).2.2,
      Idealize.ShloMosaic.sem_eq_zero_of_no_sems (by decide) r.2⟩) (Cert.MlpInRefIdeal.Value.run (F := Ideal) m ρ)

/-- Kernel and reference end with the same square and slope. -/
theorem algebraic_MlpIn : Cert.algebraic_MlpInIdeal_MlpInRefIdeal := by
  intro m ρ m' ρ' _ hagree
  refine ⟨fun c => Cert.MlpInIdeal.Grad.Q m c, fun c => Cert.MlpInIdeal.Grad.L m c, ?_, ?_⟩
  · exact (θ_run Cert.MlpInIdeal.defs _ _).mono (fun _ h c => ⟨(h c).1.trans (Cert.MlpInIdeal.Grad.final_q m c), (h c).2.1.trans (Cert.MlpInIdeal.Grad.final_l m c), (h c).2.2⟩)
      (Cert.MlpInIdeal.Value.run_blocks (F := Ideal) m ρ)
  · refine (θ_run Cert.MlpInRefIdeal.defs _ _).mono (fun _ h c => ⟨(h c).1.trans ?_, (h c).2.1.trans ?_, (h c).2.2⟩)
      (Cert.MlpInRefIdeal.Value.run (F := Ideal) m' ρ')
    all_goals
      simp only [(hagree c).1, (hagree c).2]
      rfl

end Cert.Proof

end
-- ==== Proof.MlpOut.lean ====
/- The feed-forward's second product added to the rows, and the two norms of the sum, as the reference's. -/
module

public import proofs.«01_k».proof.Defs
public import proofs.«01_k».proof.Proof.Gen.MlpOut.Frame
public import proofs.«01_k».proof.Proof.Gen.MlpOutIdeal.Value
public import proofs.«01_k».proof.Proof.Gen.MlpOutRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.NormFwd

@[expose] public section

set_option maxRecDepth 16384

noncomputable section

open Idealize.ShloMosaic Idealize.ShloMosaic.TcCoe Idealize.SL.Sem
open Idealize.ShloMosaic.Pipeline (Dat)

namespace Cert.MlpOutIdeal.Grad

open Cert.MlpOutIdeal Cert.MlpOutIdeal.Gen Cert.Norm

variable (m : (ℓ : Loc nD τ sig) → Buf (Elt Ideal) ℓ)

/-- The five argument arrays of device `c`: the residual rows, the activation, the matrix, the two gains. -/
abbrev aH (c : Dev nD) : FVec Ideal S2048x1024 .f32 := m ((c : Thread nD τ).loc main_arg0)
abbrev aR (c : Dev nD) : FVec Ideal S2048x4096 .f32 := m ((c : Thread nD τ).loc main_arg1)
abbrev aW (c : Dev nD) : FVec Ideal S4096x1024 .f32 := m ((c : Thread nD τ).loc main_arg2)
abbrev aG (c : Dev nD) : FVec Ideal S1024 .f32 := m ((c : Thread nD τ).loc main_arg3)
abbrev aG' (c : Dev nD) : FVec Ideal S1024 .f32 := m ((c : Thread nD τ).loc main_arg4)

/-- The reference's results: the new rows and their norms under the two gains. -/
def X (c : Dev nD) : FVec Ideal S2048x1024 .f32 :=
  addf (aH m c) (Host.dotGeneral Cert.MlpOutRefIdeal.dot_S2048x4096_S4096x1024_S2048x1024_1_0_0_1_n_n none (aR m c) (aW m c))
def Y (c : Dev nD) : FVec Ideal S2048x1024 .bf16 := nrm (X m c) (aG m c)
def Y' (c : Dev nD) : FVec Ideal S2048x1024 .bf16 := nrm (X m c) (aG' m c)

/-- Every window's block index at every point. -/
theorem idx : ∀ t : Fin cfg0.N, win0_0.index t = ![t.val, 0] ∧ win0_1.index t = ![0, 0] ∧ win0_2.index t = ![t.val, 0]
    ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- What the region finds in the arrays it reads. -/
theorem V_r (c : Dev nD) : V m c main_v0 = aR m c := by unfold V; after_results; rfl
theorem V_w (c : Dev nD) : V m c main_v1 = aW m c := by unfold V; after_results; rfl
theorem V_h (c : Dev nD) : V m c main_arg0 = aH m c := by unfold V; after_results
theorem V_g (c : Dev nD) (k : Fin 1024) : (V m c main_v2 : S1x1024.Idx → EReal) (ix2 0 k) = aG m c (ix1 k) := by
  have e : V m c main_v2 = shapeCast S1x1024 (aG m c) shapeCasts_S1024_S1x1024 := by unfold V; after_results; rfl
  rw [e]; pointwise
theorem V_g' (c : Dev nD) (k : Fin 1024) : (V m c main_v3 : S1x1024.Idx → EReal) (ix2 0 k) = aG' m c (ix1 k) := by
  have e : V m c main_v3 = shapeCast S1x1024 (aG' m c) shapeCasts_S1024_S1x1024 := by unfold V; after_results; rfl
  rw [e]; pointwise

/-- The blocks at point `t`, read at an index. -/
theorem blk0 (c : Dev nD) (t : Fin cfg0.N) (i : Fin 512) (k : Fin 4096) (h : t.val * 512 + i.val < 2048) :
    iblk m c 0 t (ix2 i k) = aR m c (ix2 ⟨t.val * 512 + i.val, h⟩ k) := by
  refine Eq.trans (b := V m c main_v0 (((cfg0.win 0).blk t).view.emb (ix2 i k))) rfl ?_
  rw [V_r]
  blk_ext [idx t]
theorem blk1 (c : Dev nD) (t : Fin cfg0.N) (i : Fin 4096) (k : Fin 1024) : iblk m c 1 t (ix2 i k) = aW m c (ix2 i k) := by
  refine Eq.trans (b := V m c main_v1 (((cfg0.win 1).blk t).view.emb (ix2 i k))) rfl ?_
  rw [V_w]
  blk_ext [idx t]
theorem blk2 (c : Dev nD) (t : Fin cfg0.N) (i : Fin 512) (k : Fin 1024) (h : t.val * 512 + i.val < 2048) :
    iblk m c 2 t (ix2 i k) = aH m c (ix2 ⟨t.val * 512 + i.val, h⟩ k) := by
  refine Eq.trans (b := V m c main_arg0 (((cfg0.win 2).blk t).view.emb (ix2 i k))) rfl ?_
  rw [V_h]
  blk_ext [idx t]
theorem blk3 (c : Dev nD) (t : Fin cfg0.N) (k : Fin 1024) : iblk m c 3 t (ix2 0 k) = aG m c (ix1 k) := by
  refine Eq.trans (b := (V m c main_v2 : S1x1024.Idx → EReal) (((cfg0.win 3).blk t).view.emb (ix2 0 k))) rfl ?_
  rw [show ((cfg0.win 3).blk t).view.emb (ix2 0 k) = (ix2 0 k : S1x1024.Idx) from by blk_ext [idx t], V_g]
theorem blk4 (c : Dev nD) (t : Fin cfg0.N) (k : Fin 1024) : iblk m c 4 t (ix2 0 k) = aG' m c (ix1 k) := by
  refine Eq.trans (b := (V m c main_v3 : S1x1024.Idx → EReal) (((cfg0.win 4).blk t).view.emb (ix2 0 k))) rfl ?_
  rw [show ((cfg0.win 4).blk t).view.emb (ix2 0 k) = (ix2 0 k : S1x1024.Idx) from by blk_ext [idx t], V_g']

/-- The body's sum is the reference's, and so are its normalised rows. -/
theorem x_at (c : Dev nD) (t : Fin cfg0.N) (i : Fin 512) (j : Fin 1024) (h : t.val * 512 + i.val < 2048) :
    (k0_pay1 (F := Ideal) (iblk m c 0 t) (iblk m c 1 t) (iblk m c 2 t) : S512x1024.Idx → EReal) (ix2 i j) = X m c (ix2 ⟨t.val * 512 + i.val, h⟩ j) := by
  pointwise [k0_pay1, X, blk0 m c t i _ h, blk1, blk2 m c t i _ h]
theorem hat_of (v0 : FVec Ideal S512x4096 .bf16) (v2 : FVec Ideal S4096x1024 .bf16) (v5 : FVec Ideal S512x1024 .f32) (i : Fin 512) (j : Fin 1024) :
    (k0_pay2 (F := Ideal) v0 v2 v5 : S512x1024.Idx → EReal) (ix2 i j) = (k0_pay1 (F := Ideal) v0 v2 v5 : S512x1024.Idx → EReal) (ix2 i j) * R fun k => (k0_pay1 (F := Ideal) v0 v2 v5 : S512x1024.Idx → EReal) (ix2 i k) := by
  pointwise [k0_pay2, R, S]
theorem hx_at (c : Dev nD) (t : Fin cfg0.N) (i : Fin 512) (j : Fin 1024) (h : t.val * 512 + i.val < 2048) :
    (k0_pay2 (F := Ideal) (iblk m c 0 t) (iblk m c 1 t) (iblk m c 2 t) : S512x1024.Idx → EReal) (ix2 i j)
      = X m c (ix2 ⟨t.val * 512 + i.val, h⟩ j) * R fun k => X m c (ix2 ⟨t.val * 512 + i.val, h⟩ k) := by
  rw [hat_of]; simp only [x_at m c t i _ h]
theorem y_at (c : Dev nD) (t : Fin cfg0.N) (i : Fin 512) (j : Fin 1024) (h : t.val * 512 + i.val < 2048) :
    (k0_pay3 (F := Ideal) (iblk m c 0 t) (iblk m c 1 t) (iblk m c 2 t) (iblk m c 3 t) : S512x1024.Idx → EReal) (ix2 i j) = Y m c (ix2 ⟨t.val * 512 + i.val, h⟩ j) := by
  rw [Y, nrm_at, ← hx_at m c t i j h]; pointwise [k0_pay3, blk3]
theorem y'_at (c : Dev nD) (t : Fin cfg0.N) (i : Fin 512) (j : Fin 1024) (h : t.val * 512 + i.val < 2048) :
    (k0_pay4 (F := Ideal) (iblk m c 0 t) (iblk m c 1 t) (iblk m c 2 t) (iblk m c 4 t) : S512x1024.Idx → EReal) (ix2 i j) = Y' m c (ix2 ⟨t.val * 512 + i.val, h⟩ j) := by
  rw [Y', nrm_at, ← hx_at m c t i j h]; pointwise [k0_pay4, blk4]

/-- The three result arrays after the run. -/
theorem final_x (c : Dev nD) : (dats m 0 c).arrAt 5 (cfgs 0).N = X m c := by
  refine (dats m 0 c).arrAt_eq_of_covers 5 _ (by decide +kernel) fun t _ y => ?_
  blk_simp
  idx_vars y
  have ht : t.val < 4 := lt_of_lt_of_eq t.isLt N_0
  have h : t.val * 512 + y0.val < 2048 := by omega
  rw [after0_5, show ((cfg0.win 5).blk t).view.emb (ix2 y0 y1) = (ix2 ⟨t.val * 512 + y0.val, h⟩ y1 : S2048x1024.Idx) from by blk_ext [idx t]]
  frame_out
  exact x_at m c t y0 y1 h
theorem final_y (c : Dev nD) : (dats m 0 c).arrAt 6 (cfgs 0).N = Y m c := by
  refine (dats m 0 c).arrAt_eq_of_covers 6 _ (by decide +kernel) fun t _ y => ?_
  blk_simp
  idx_vars y
  have ht : t.val < 4 := lt_of_lt_of_eq t.isLt N_0
  have h : t.val * 512 + y0.val < 2048 := by omega
  rw [after0_6, show ((cfg0.win 6).blk t).view.emb (ix2 y0 y1) = (ix2 ⟨t.val * 512 + y0.val, h⟩ y1 : S2048x1024.Idx) from by blk_ext [idx t]]
  frame_out
  exact y_at m c t y0 y1 h
theorem final_y' (c : Dev nD) : (dats m 0 c).arrAt 7 (cfgs 0).N = Y' m c := by
  refine (dats m 0 c).arrAt_eq_of_covers 7 _ (by decide +kernel) fun t _ y => ?_
  blk_simp
  idx_vars y
  have ht : t.val < 4 := lt_of_lt_of_eq t.isLt N_0
  have h : t.val * 512 + y0.val < 2048 := by omega
  rw [after0_7, show ((cfg0.win 7).blk t).view.emb (ix2 y0 y1) = (ix2 ⟨t.val * 512 + y0.val, h⟩ y1 : S2048x1024.Idx) from by blk_ext [idx t]]
  frame_out
  exact y'_at m c t y0 y1 h

end Cert.MlpOutIdeal.Grad

namespace Cert.Proof

theorem frame_MlpOut : Cert.quiescent_MlpOut := fun m ρ _ => Cert.MlpOut.Gen.frame m ρ
theorem frame_MlpOutIdeal : Cert.quiescent_MlpOutIdeal := fun m ρ _ => Cert.MlpOutIdeal.Gen.frame m ρ
/-- The reference's frame: its run leaves the arguments, and it declares no semaphore. -/
theorem frame_MlpOutRefIdeal : Cert.quiescent_MlpOutRefIdeal := fun m ρ _ =>
  (θ_run Cert.MlpOutRefIdeal.defs _ _).mono (fun r h => ⟨fun c => (h c).2.2.2,
      Idealize.ShloMosaic.sem_eq_zero_of_no_sems (by decide) r.2⟩) (Cert.MlpOutRefIdeal.Value.run (F := Ideal) m ρ)

/-- Kernel and reference end with the same rows and norms. -/
theorem algebraic_MlpOut : Cert.algebraic_MlpOutIdeal_MlpOutRefIdeal := by
  intro m ρ m' ρ' _ hagree
  refine ⟨fun c => Cert.MlpOutIdeal.Grad.X m c, fun c => Cert.MlpOutIdeal.Grad.Y m c, fun c => Cert.MlpOutIdeal.Grad.Y' m c, ?_, ?_⟩
  · exact (θ_run Cert.MlpOutIdeal.defs _ _).mono (fun _ h c => ⟨(h c).1.trans (Cert.MlpOutIdeal.Grad.final_x m c), (h c).2.1.trans (Cert.MlpOutIdeal.Grad.final_y m c), (h c).2.2.1.trans (Cert.MlpOutIdeal.Grad.final_y' m c), (h c).2.2.2⟩)
      (Cert.MlpOutIdeal.Value.run_blocks (F := Ideal) m ρ)
  · refine (θ_run Cert.MlpOutRefIdeal.defs _ _).mono (fun _ h c => ⟨(h c).1.trans ?_, (h c).2.1.trans ?_, (h c).2.2.1.trans ?_, (h c).2.2.2⟩)
      (Cert.MlpOutRefIdeal.Value.run (F := Ideal) m' ρ')
    all_goals
      simp only [(hagree c).1, (hagree c).2.1, (hagree c).2.2.1, (hagree c).2.2.2.1, (hagree c).2.2.2.2]
      rfl

end Cert.Proof

end
-- ==== Proof.OProj.lean ====
/- Attention's output product and bias added to the rows, and the norm of the sum, as the reference's. -/
module

public import proofs.«01_k».proof.Defs
public import proofs.«01_k».proof.Proof.Gen.OProj.Frame
public import proofs.«01_k».proof.Proof.Gen.OProjIdeal.Value
public import proofs.«01_k».proof.Proof.Gen.OProjRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.NormFwd

@[expose] public section

set_option maxRecDepth 16384

noncomputable section

open Idealize.ShloMosaic Idealize.ShloMosaic.TcCoe Idealize.SL.Sem
open Idealize.ShloMosaic.Pipeline (Dat)

namespace Cert.OProjIdeal.Grad

open Cert.OProjIdeal Cert.OProjIdeal.Gen Cert.Norm

variable (m : (ℓ : Loc nD τ sig) → Buf (Elt Ideal) ℓ)

/-- The five argument arrays of device `c`: the residual rows, the heads' output, the matrix, the bias, the gain. -/
abbrev aH (c : Dev nD) : FVec Ideal S2048x1024 .f32 := m ((c : Thread nD τ).loc main_arg0)
abbrev aO (c : Dev nD) : FVec Ideal S2048x1024 .f32 := m ((c : Thread nD τ).loc main_arg1)
abbrev aW (c : Dev nD) : FVec Ideal S1024x1024 .f32 := m ((c : Thread nD τ).loc main_arg2)
abbrev aB (c : Dev nD) : FVec Ideal S1024 .f32 := m ((c : Thread nD τ).loc main_arg3)
abbrev aG (c : Dev nD) : FVec Ideal S1024 .f32 := m ((c : Thread nD τ).loc main_arg4)

/-- The reference's results: the new rows and their norm. -/
def X (c : Dev nD) : FVec Ideal S2048x1024 .f32 :=
  addf (aH m c) (addf (Host.dotGeneral Cert.OProjRefIdeal.dot_S2048x1024_S1024x1024_S2048x1024_1_0_0_1_n_n none (aO m c) (aW m c)) (rowvec (aB m c)))
def Y (c : Dev nD) : FVec Ideal S2048x1024 .bf16 := nrm (X m c) (aG m c)

/-- Every window's block index at every point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- What the region finds in the arrays it reads. -/
theorem V_o (c : Dev nD) : V m c main_v0 = aO m c := by unfold V; after_results; rfl
theorem V_w (c : Dev nD) : V m c main_v1 = aW m c := by unfold V; after_results; rfl
theorem V_h (c : Dev nD) : V m c main_arg0 = aH m c := by unfold V; after_results
theorem V_b (c : Dev nD) (k : Fin 1024) : (V m c main_v2 : S1x1024.Idx → EReal) (ix2 0 k) = aB m c (ix1 k) := by
  have e : V m c main_v2 = shapeCast S1x1024 (aB m c) shapeCasts_S1024_S1x1024 := by unfold V; after_results; rfl
  rw [e]; pointwise
theorem V_g (c : Dev nD) (k : Fin 1024) : (V m c main_v3 : S1x1024.Idx → EReal) (ix2 0 k) = aG m c (ix1 k) := by
  have e : V m c main_v3 = shapeCast S1x1024 (aG m c) shapeCasts_S1024_S1x1024 := by unfold V; after_results; rfl
  rw [e]; pointwise

/-- The blocks at point `t`, read at an index. -/
theorem blk0 (c : Dev nD) (t : Fin cfg0.N) (i : Fin 512) (k : Fin 1024) (h : t.val * 512 + i.val < 2048) :
    iblk m c 0 t (ix2 i k) = aO m c (ix2 ⟨t.val * 512 + i.val, h⟩ k) := by
  refine Eq.trans (b := V m c main_v0 (((cfg0.win 0).blk t).view.emb (ix2 i k))) rfl ?_
  rw [V_o]
  blk_ext [idx t]
theorem blk1 (c : Dev nD) (t : Fin cfg0.N) (i : Fin 1024) (k : Fin 1024) : iblk m c 1 t (ix2 i k) = aW m c (ix2 i k) := by
  refine Eq.trans (b := V m c main_v1 (((cfg0.win 1).blk t).view.emb (ix2 i k))) rfl ?_
  rw [V_w]
  blk_ext [idx t]
theorem blk2 (c : Dev nD) (t : Fin cfg0.N) (i : Fin 512) (k : Fin 1024) (h : t.val * 512 + i.val < 2048) :
    iblk m c 2 t (ix2 i k) = aH m c (ix2 ⟨t.val * 512 + i.val, h⟩ k) := by
  refine Eq.trans (b := V m c main_arg0 (((cfg0.win 2).blk t).view.emb (ix2 i k))) rfl ?_
  rw [V_h]
  blk_ext [idx t]
theorem blk3 (c : Dev nD) (t : Fin cfg0.N) (k : Fin 1024) : iblk m c 3 t (ix2 0 k) = aB m c (ix1 k) := by
  refine Eq.trans (b := (V m c main_v2 : S1x1024.Idx → EReal) (((cfg0.win 3).blk t).view.emb (ix2 0 k))) rfl ?_
  rw [show ((cfg0.win 3).blk t).view.emb (ix2 0 k) = (ix2 0 k : S1x1024.Idx) from by blk_ext [idx t], V_b]
theorem blk4 (c : Dev nD) (t : Fin cfg0.N) (k : Fin 1024) : iblk m c 4 t (ix2 0 k) = aG m c (ix1 k) := by
  refine Eq.trans (b := (V m c main_v3 : S1x1024.Idx → EReal) (((cfg0.win 4).blk t).view.emb (ix2 0 k))) rfl ?_
  rw [show ((cfg0.win 4).blk t).view.emb (ix2 0 k) = (ix2 0 k : S1x1024.Idx) from by blk_ext [idx t], V_g]

/-- The body's sum is the reference's with its three terms grouped the other way, and its normalised rows are the reference's. -/
theorem x_at (c : Dev nD) (t : Fin cfg0.N) (i : Fin 512) (j : Fin 1024) (h : t.val * 512 + i.val < 2048) :
    (k0_pay1 (F := Ideal) (iblk m c 0 t) (iblk m c 1 t) (iblk m c 2 t) (iblk m c 3 t) : S512x1024.Idx → EReal) (ix2 i j) = X m c (ix2 ⟨t.val * 512 + i.val, h⟩ j) := by
  pointwise [k0_pay1, X, blk0 m c t i _ h, blk1, blk2 m c t i _ h, blk3]
  exact add_assoc _ _ _
theorem norm_of (v0 : FVec Ideal S512x1024 .bf16) (v2 : FVec Ideal S1024x1024 .bf16) (v5 : FVec Ideal S512x1024 .f32) (v6 v8 : FVec Ideal S1x1024 .f32) (i : Fin 512) (j : Fin 1024) :
    (k0_pay2 (F := Ideal) v0 v2 v5 v6 v8 : S512x1024.Idx → EReal) (ix2 i j)
      = (k0_pay1 (F := Ideal) v0 v2 v5 v6 : S512x1024.Idx → EReal) (ix2 i j) * (R fun k => (k0_pay1 (F := Ideal) v0 v2 v5 v6 : S512x1024.Idx → EReal) (ix2 i k)) * v8 (ix2 0 j) := by
  pointwise [k0_pay2, R, S]
theorem y_at (c : Dev nD) (t : Fin cfg0.N) (i : Fin 512) (j : Fin 1024) (h : t.val * 512 + i.val < 2048) :
    (k0_pay2 (F := Ideal) (iblk m c 0 t) (iblk m c 1 t) (iblk m c 2 t) (iblk m c 3 t) (iblk m c 4 t) : S512x1024.Idx → EReal) (ix2 i j) = Y m c (ix2 ⟨t.val * 512 + i.val, h⟩ j) := by
  rw [Y, nrm_at, norm_of, blk4]; simp only [x_at m c t i _ h]

/-- The two result arrays after the run. -/
theorem final_x (c : Dev nD) : (dats m 0 c).arrAt 5 (cfgs 0).N = X m c := by
  refine (dats m 0 c).arrAt_eq_of_covers 5 _ (by decide +kernel) fun t _ y => ?_
  blk_simp
  idx_vars y
  have ht : t.val < 4 := lt_of_lt_of_eq t.isLt N_0
  have h : t.val * 512 + y0.val < 2048 := by omega
  rw [after0_5, show ((cfg0.win 5).blk t).view.emb (ix2 y0 y1) = (ix2 ⟨t.val * 512 + y0.val, h⟩ y1 : S2048x1024.Idx) from by blk_ext [idx t]]
  frame_out
  exact x_at m c t y0 y1 h
theorem final_y (c : Dev nD) : (dats m 0 c).arrAt 6 (cfgs 0).N = Y m c := by
  refine (dats m 0 c).arrAt_eq_of_covers 6 _ (by decide +kernel) fun t _ y => ?_
  blk_simp
  idx_vars y
  have ht : t.val < 4 := lt_of_lt_of_eq t.isLt N_0
  have h : t.val * 512 + y0.val < 2048 := by omega
  rw [after0_6, show ((cfg0.win 6).blk t).view.emb (ix2 y0 y1) = (ix2 ⟨t.val * 512 + y0.val, h⟩ y1 : S2048x1024.Idx) from by blk_ext [idx t]]
  frame_out
  exact y_at m c t y0 y1 h

end Cert.OProjIdeal.Grad

namespace Cert.Proof

theorem frame_OProj : Cert.quiescent_OProj := fun m ρ _ => Cert.OProj.Gen.frame m ρ
theorem frame_OProjIdeal : Cert.quiescent_OProjIdeal := fun m ρ _ => Cert.OProjIdeal.Gen.frame m ρ
/-- The reference's frame: its run leaves the arguments, and it declares no semaphore. -/
theorem frame_OProjRefIdeal : Cert.quiescent_OProjRefIdeal := fun m ρ _ =>
  (θ_run Cert.OProjRefIdeal.defs _ _).mono (fun r h => ⟨fun c => (h c).2.2,
      Idealize.ShloMosaic.sem_eq_zero_of_no_sems (by decide) r.2⟩) (Cert.OProjRefIdeal.Value.run (F := Ideal) m ρ)

/-- Kernel and reference end with the same rows and norm. -/
theorem algebraic_OProj : Cert.algebraic_OProjIdeal_OProjRefIdeal := by
  intro m ρ m' ρ' _ hagree
  refine ⟨fun c => Cert.OProjIdeal.Grad.X m c, fun c => Cert.OProjIdeal.Grad.Y m c, ?_, ?_⟩
  · exact (θ_run Cert.OProjIdeal.defs _ _).mono (fun _ h c => ⟨(h c).1.trans (Cert.OProjIdeal.Grad.final_x m c), (h c).2.1.trans (Cert.OProjIdeal.Grad.final_y m c), (h c).2.2⟩)
      (Cert.OProjIdeal.Value.run_blocks (F := Ideal) m ρ)
  · refine (θ_run Cert.OProjRefIdeal.defs _ _).mono (fun _ h c => ⟨(h c).1.trans ?_, (h c).2.1.trans ?_, (h c).2.2⟩)
      (Cert.OProjRefIdeal.Value.run (F := Ideal) m' ρ')
    all_goals
      simp only [(hagree c).1, (hagree c).2.1, (hagree c).2.2.1, (hagree c).2.2.2.1, (hagree c).2.2.2.2]
      rfl

end Cert.Proof

end
-- ==== Proof.S5Prep.lean ====
/- The discretisation and its matrices laid out two groups to a row: the six results of `s5_prep`. -/
module

public import proofs.«01_k».proof.Defs
public import proofs.«01_k».proof.Proof.Gen.S5Prep.Frame
public import proofs.«01_k».proof.Proof.Gen.S5PrepIdeal.Value
public import proofs.«01_k».proof.Proof.Gen.S5PrepRefIdeal.Run
public import Idealize.ShloMosaic.Lib.Pipeline.ValueKit
public import Idealize.ShloMosaic.Lib.Pointwise
public import Idealize.ShloMosaic.Lib.Claim
public import Idealize.ShloMosaic.Lib.Quiescent
public import proofs.«01_k».proof.Proof.S5Real
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.S5PrepIdeal.Grad

open Cert.S5PrepIdeal Cert.S5PrepIdeal.Gen Cert.Finite Cert.Discretise

/-- An entry of the layout: row `k` of group `g`, at state `s` of the column block `n`. A row holds its group's real part in block `0` or
    `1`, by the group's parity, its imaginary part in block `2` or `3`, and nothing in the others. -/
def entry (re im : FVec Ideal S64x16x64 .f32) (g : Fin 64) (k : Fin 16) (s : Fin 64) (n : ℕ) : EReal :=
  if g.val % 2 = n % 2 then (if n < 2 then re (ix3 g k s) else im (ix3 g k s)) else 0
/-- The layout: four blocks of sixteen groups. -/
def lay (re im : FVec Ideal S64x16x64 .f32) (b : Fin 4) (r j : Fin 256) : EReal :=
  entry re im ⟨16 * b.val + r.val / 16, by omega⟩ ⟨r.val % 16, by omega⟩ ⟨j.val % 64, by omega⟩ (j.val / 64)
def layA (re im : FVec Ideal S64x16x64 .f32) : FVec Ideal S4x256x256 .bf16 := fun i => lay re im (i 0) (i 1) (i 2)
def layT (re im : FVec Ideal S64x16x64 .f32) : FVec Ideal S4x256x256 .bf16 := fun i => lay re im (i 0) (i 2) (i 1)

/-- The body's own arrangement of a block's two parts, under a mask of the rows of even groups. -/
def four (p : IVec S256x64 1) (x y : FVec Ideal S256x64 .f32) : FVec Ideal S256x256 .f32 :=
  concatenate S256x256 1 [⟨S256x64, select p x (broadcast S256x64 (Scalar.ofBits (F := Ideal) .f32 0x00000000#32))⟩, ⟨S256x64, select p (broadcast S256x64 (Scalar.ofBits (F := Ideal) .f32 0x00000000#32)) x⟩,
    ⟨S256x64, select p y (broadcast S256x64 (Scalar.ofBits (F := Ideal) .f32 0x00000000#32))⟩, ⟨S256x64, select p (broadcast S256x64 (Scalar.ofBits (F := Ideal) .f32 0x00000000#32)) y⟩] concatenates_S256x64_S256x64_S256x64_S256x64_S256x256_d1

/-- A row's group, and the mask. -/
theorem row_at (r : Fin 256) (s : Fin 64) : (k0_pay18 : S256x64.Idx → BitVec 32) (ix2 r s) = BitVec.ofNat 32 (r.val / 16) := by
  pointwise [k0_pay18]
  revert r; decide +kernel
theorem par_at (r : Fin 256) (s : Fin 64) : (k0_pay19 k0_pay18 2#32 (Scalar.cmpi .eq 2#32 0#32) : S256x64.Idx → BitVec 1) (ix2 r s) = BitVec.ofBool (decide (r.val / 16 % 2 = 0)) := by
  pointwise [k0_pay19, row_at]
  revert r; decide +kernel

/-- What a block of the layout is made of: the block's rows of the two parts. -/
def Rows (v : FVec Ideal S64x16x64 .f32) (b : Fin 4) (x : FVec Ideal S256x64 .f32) : Prop :=
  ∀ (r : Fin 256) (s : Fin 64), (x : S256x64.Idx → EReal) (ix2 r s) = v (ix3 ⟨16 * b.val + r.val / 16, by omega⟩ ⟨r.val % 16, by omega⟩ s)
theorem select_dec (q : Prop) [Decidable q] (a b : EReal) : (if BitVec.ofBool (decide q) = 1#1 then a else b) = if q then a else b := by
  by_cases h : q <;> simp [h]
theorem even_g (b n : ℕ) : ((16 * b + n) % 2 = 0) = (n % 2 = 0) := by rw [eq_iff_iff]; omega
theorem odd_g (b n : ℕ) : ((16 * b + n) % 2 = 1) = ¬(n % 2 = 0) := by rw [eq_iff_iff]; omega

section
variable {p : IVec S256x64 1} (hp : ∀ (r : Fin 256) (s : Fin 64), p (ix2 r s) = BitVec.ofBool (decide (r.val / 16 % 2 = 0))) {re im : FVec Ideal S64x16x64 .f32} {b : Fin 4}
  {x y : FVec Ideal S256x64 .f32} (hx : Rows re b x) (hy : Rows im b y) (r : Fin 256) (s : Fin 64)
include hp hx hy
theorem four_0 : (four p x y : S256x256.Idx → EReal) (ix2 r ⟨s.val, by omega⟩) = lay re im b r ⟨s.val, by omega⟩ := by
  have e : (⟨(s.val) % 64, by omega⟩ : Fin 64) = s := Fin.ext (by dsimp only; omega)
  have d : (s.val) / 64 = 0 := by omega
  pointwise [four, hp, hx r s, select_dec, lay, entry, d, e]
  simp only [even_g]
theorem four_1 : (four p x y : S256x256.Idx → EReal) (ix2 r ⟨64 + s.val, by omega⟩) = lay re im b r ⟨64 + s.val, by omega⟩ := by
  have e : (⟨(64 + s.val) % 64, by omega⟩ : Fin 64) = s := Fin.ext (by dsimp only; omega)
  have d : (64 + s.val) / 64 = 1 := by omega
  pointwise [four, hp, hx r s, select_dec, lay, entry, d, e]
  simp only [odd_g, ite_not]
theorem four_2 : (four p x y : S256x256.Idx → EReal) (ix2 r ⟨128 + s.val, by omega⟩) = lay re im b r ⟨128 + s.val, by omega⟩ := by
  have e : (⟨(128 + s.val) % 64, by omega⟩ : Fin 64) = s := Fin.ext (by dsimp only; omega)
  have d : (128 + s.val) / 64 = 2 := by omega
  pointwise [four, hp, hy r s, select_dec, lay, entry, d, e]
  rw [dif_neg (by omega), dif_neg (by omega), dif_pos (by omega), show (⟨128 + s.val - 64 - 64, by omega⟩ : Fin 64) = s from Fin.ext (by dsimp only; omega), hy r s]
  simp only [even_g]
theorem four_3 : (four p x y : S256x256.Idx → EReal) (ix2 r ⟨192 + s.val, by omega⟩) = lay re im b r ⟨192 + s.val, by omega⟩ := by
  have e : (⟨(192 + s.val) % 64, by omega⟩ : Fin 64) = s := Fin.ext (by dsimp only; omega)
  have d : (192 + s.val) / 64 = 3 := by omega
  pointwise [four, hp, hy r s, select_dec, lay, entry, d, e]
  rw [dif_neg (by omega), dif_neg (by omega), dif_neg (by omega), show (⟨192 + s.val - 64 - 64 - 64, by omega⟩ : Fin 64) = s from Fin.ext (by dsimp only; omega), hy r s]
  simp only [odd_g, ite_not]
theorem four_at (j : Fin 256) : (four p x y : S256x256.Idx → EReal) (ix2 r j) = lay re im b r j := by
  have hq : j.val / 64 = 0 ∨ j.val / 64 = 1 ∨ j.val / 64 = 2 ∨ j.val / 64 = 3 := by omega
  rcases hq with h | h | h | h
  · exact four_0 hp hx hy r ⟨j.val, by omega⟩
  · rw [show j = ⟨64 + (⟨j.val - 64, by omega⟩ : Fin 64).val, by dsimp only; omega⟩ from Fin.ext (by dsimp only; omega)]
    exact four_1 hp hx hy r _
  · rw [show j = ⟨128 + (⟨j.val - 128, by omega⟩ : Fin 64).val, by dsimp only; omega⟩ from Fin.ext (by dsimp only; omega)]
    exact four_2 hp hx hy r _
  · rw [show j = ⟨192 + (⟨j.val - 192, by omega⟩ : Fin 64).val, by dsimp only; omega⟩ from Fin.ext (by dsimp only; omega)]
    exact four_3 hp hx hy r _
end

/-- The rows of a block, as the body reads them: a slice of a whole array, a load, and a load negated. -/
abbrev rLd (b : Fin 4) : Rect S64x16x64 :=
  Rect.unit (s := S64x16x64) ![16 * b.val, 0, 0] S16x16x64.size (fun a => by fin_cases a <;> simp [S64x16x64, S16x16x64] <;> omega)
theorem rows_slice0 (v : FVec Ideal S64x16x64 .f32) : Rows v 0 (shapeCast S256x64 (extractStridedSlice S16x16x64 ![0, 0, 0] v slices_S64x16x64_o0_0_0_S16x16x64) shapeCasts_S16x16x64_S256x64) := by
  intro r s; pointwise
theorem rows_slice1 (v : FVec Ideal S64x16x64 .f32) : Rows v 1 (shapeCast S256x64 (extractStridedSlice S16x16x64 ![16, 0, 0] v slices_S64x16x64_o16_0_0_S16x16x64) shapeCasts_S16x16x64_S256x64) := by
  intro r s; pointwise
theorem rows_ld (v : Vec Ideal S64x16x64 .f32) (b : Fin 4) : Rows v b (k0_pay21 (F := Ideal) (View.ld v (rLd b))) := by
  intro r s; pointwise [k0_pay21]
theorem rows_neg (v : Vec Ideal S64x16x64 .f32) (b : Fin 4) : Rows (fun i => -(v i : EReal)) b (k0_pay22 (F := Ideal) (View.ld v (rLd b))) := by
  intro r s; pointwise [k0_pay22]; rw [zero_sub]

theorem rows_slice2 (v : FVec Ideal S64x16x64 .f32) : Rows v 2 (shapeCast S256x64 (extractStridedSlice S16x16x64 ![32, 0, 0] v slices_S64x16x64_o32_0_0_S16x16x64) shapeCasts_S16x16x64_S256x64) := by
  intro r s; pointwise
theorem rows_slice3 (v : FVec Ideal S64x16x64 .f32) : Rows v 3 (shapeCast S256x64 (extractStridedSlice S16x16x64 ![48, 0, 0] v slices_S64x16x64_o48_0_0_S16x16x64) shapeCasts_S16x16x64_S256x64) := by
  intro r s; pointwise

/-- A stored block is a block of the layout, or of the layout with rows and columns exchanged. -/
abbrev rSt (b : Fin 4) : Rect S4x256x256 :=
  Rect.unit (s := S4x256x256) ![b.val, 0, 0] S1x256x256.size (fun a => by fin_cases a <;> simp [S4x256x256, S1x256x256] <;> omega)
theorem piece {re im : FVec Ideal S64x16x64 .f32} (b : Fin 4) {v : FVec Ideal S256x256 .f32} (h : ∀ r j, (v : S256x256.Idx → EReal) (ix2 r j) = lay re im b r j)
    {w : FVec Ideal S1x256x256 .bf16} (hw : ∀ r j, (w : S1x256x256.Idx → EReal) (ix3 0 r j) = v (ix2 r j)) (x : S1x256x256.Idx) :
    (w x : EReal) = layA re im ((rSt b).emb x) := by
  idx_vars x
  obtain rfl : x0 = 0 := Subsingleton.elim _ _
  rw [show (rSt b).emb (ix3 0 x1 x2) = (ix3 b x1 x2 : S4x256x256.Idx) from by blk_ext]
  exact (hw x1 x2).trans (h x1 x2)
theorem pieceT {re im : FVec Ideal S64x16x64 .f32} (b : Fin 4) {v : FVec Ideal S256x256 .f32} (h : ∀ r j, (v : S256x256.Idx → EReal) (ix2 r j) = lay re im b r j)
    {w : FVec Ideal S1x256x256 .bf16} (hw : ∀ r j, (w : S1x256x256.Idx → EReal) (ix3 0 r j) = v (ix2 j r)) (x : S1x256x256.Idx) :
    (w x : EReal) = layT re im ((rSt b).emb x) := by
  idx_vars x
  obtain rfl : x0 = 0 := Subsingleton.elim _ _
  rw [show (rSt b).emb (ix3 0 x1 x2) = (ix3 b x1 x2 : S4x256x256.Idx) from by blk_ext]
  exact (hw x1 x2).trans (h x2 x1)

section
variable (x0 x1 : Vec Ideal S64x1x64 .f32) (x2 : Vec Ideal S64x1x1 .f32) (x3 x4 x5 x6 : Vec Ideal S64x16x64 .f32)

/-- The four blocks of each layout before rounding. -/
theorem b0 (r j : Fin 256) : (k0_pay55 (F := Ideal) x0 x1 x2 x3 x4 x5 x6 : S256x256.Idx → EReal) (ix2 r j) = lay (k0_pay51 (F := Ideal) x0 x1 x2 x3 x4 x5 x6) (k0_pay52 (F := Ideal) x0 x1 x2 x3 x4 x5 x6) 0 r j :=
  four_at par_at (rows_slice0 _) (rows_slice0 _) r j
theorem b1 (r j : Fin 256) : (k0_pay60 (F := Ideal) x0 x1 x2 x3 x4 x5 x6 : S256x256.Idx → EReal) (ix2 r j) = lay (k0_pay51 (F := Ideal) x0 x1 x2 x3 x4 x5 x6) (k0_pay52 (F := Ideal) x0 x1 x2 x3 x4 x5 x6) 1 r j :=
  four_at par_at (rows_slice1 _) (rows_slice1 _) r j
theorem b2 (r j : Fin 256) : (k0_pay39 (F := Ideal) (k0_pay54 (F := Ideal) x0 x1 x2 x3 x4 x5 x6) (k0_pay61 (F := Ideal) x0 x1 x2 x3 x4 x5 x6) (k0_pay62 (F := Ideal) x0 x1 x2 x3 x4 x5 x6) : S256x256.Idx → EReal) (ix2 r j) = lay (k0_pay51 (F := Ideal) x0 x1 x2 x3 x4 x5 x6) (k0_pay52 (F := Ideal) x0 x1 x2 x3 x4 x5 x6) 2 r j :=
  four_at (p := k0_pay54 (F := Ideal) x0 x1 x2 x3 x4 x5 x6) par_at (rows_slice2 (k0_pay51 (F := Ideal) x0 x1 x2 x3 x4 x5 x6)) (rows_slice2 (k0_pay52 (F := Ideal) x0 x1 x2 x3 x4 x5 x6)) r j
theorem b3 (r j : Fin 256) : (k0_pay46 (F := Ideal) (k0_pay51 (F := Ideal) x0 x1 x2 x3 x4 x5 x6) (k0_pay52 (F := Ideal) x0 x1 x2 x3 x4 x5 x6) (k0_pay54 (F := Ideal) x0 x1 x2 x3 x4 x5 x6) : S256x256.Idx → EReal) (ix2 r j) = lay (k0_pay51 (F := Ideal) x0 x1 x2 x3 x4 x5 x6) (k0_pay52 (F := Ideal) x0 x1 x2 x3 x4 x5 x6) 3 r j :=
  four_at par_at (rows_slice3 _) (rows_slice3 _) r j
theorem d0 (r j : Fin 256) : (k0_pay26 (F := Ideal) (k0_pay54 (F := Ideal) x0 x1 x2 x3 x4 x5 x6) (k0_pay56 (F := Ideal) x0 x1 x2 x3 x4 x5 x6) (k0_pay57 (F := Ideal) x0 x1 x2 x3 x4 x5 x6) (k0_pay58 (F := Ideal) x0 x1 x2 x3 x4 x5 x6) (k0_pay59 (F := Ideal) x0 x1 x2 x3 x4 x5 x6) : S256x256.Idx → EReal) (ix2 r j) = lay x5 (fun i => -(x6 i : EReal)) 0 r j :=
  four_at par_at (rows_ld x5 0) (rows_neg x6 0) r j
theorem d1 (r j : Fin 256) : (k0_pay32 (F := Ideal) (k0_pay54 (F := Ideal) x0 x1 x2 x3 x4 x5 x6) (View.ld x5 r0_5) (View.ld x6 r0_5) : S256x256.Idx → EReal) (ix2 r j) = lay x5 (fun i => -(x6 i : EReal)) 1 r j :=
  four_at par_at (rows_ld x5 1) (rows_neg x6 1) r j
theorem d2 (r j : Fin 256) : (k0_pay40 (F := Ideal) (k0_pay54 (F := Ideal) x0 x1 x2 x3 x4 x5 x6) (View.ld x5 r0_7) (View.ld x6 r0_7) : S256x256.Idx → EReal) (ix2 r j) = lay x5 (fun i => -(x6 i : EReal)) 2 r j :=
  four_at par_at (rows_ld x5 2) (rows_neg x6 2) r j
theorem d3 (r j : Fin 256) : (k0_pay63 (F := Ideal) x0 x1 x2 x3 x4 x5 x6 : S256x256.Idx → EReal) (ix2 r j) = lay x5 (fun i => -(x6 i : EReal)) 3 r j :=
  four_at par_at (rows_ld x5 3) (rows_neg x6 3) r j

/-- The four results that are layouts: four stores tile each. -/
theorem out7 : out0_7 (F := Ideal) x0 x1 x2 x3 x4 x5 x6 = layA (k0_pay51 (F := Ideal) x0 x1 x2 x3 x4 x5 x6) (k0_pay52 (F := Ideal) x0 x1 x2 x3 x4 x5 x6) := by
  funext y
  unfold out0_7
  refine View.canon_append_of_piecesOf (Val := Elt Ideal) (layA _ _) [] [_, _, _, _] ?_ y (cover0_7 _ _ _ _ y)
  exact ⟨piece 3 (b3 x0 x1 x2 x3 x4 x5 x6) fun r j => by pointwise [k0_pay1, k0_pay48], piece 2 (b2 x0 x1 x2 x3 x4 x5 x6) fun r j => by pointwise [k0_pay41],
    piece 1 (b1 x0 x1 x2 x3 x4 x5 x6) fun r j => by pointwise [k0_pay33], piece 0 (b0 x0 x1 x2 x3 x4 x5 x6) fun r j => by pointwise [k0_pay27], trivial⟩
theorem out8 : out0_8 (F := Ideal) x0 x1 x2 x3 x4 x5 x6 = layT (k0_pay51 (F := Ideal) x0 x1 x2 x3 x4 x5 x6) (k0_pay52 (F := Ideal) x0 x1 x2 x3 x4 x5 x6) := by
  funext y
  unfold out0_8
  refine View.canon_append_of_piecesOf (Val := Elt Ideal) (layT _ _) [] [_, _, _, _] ?_ y (cover0_8 _ _ _ _ y)
  exact ⟨pieceT 3 (b3 x0 x1 x2 x3 x4 x5 x6) fun r j => by pointwise [k0_pay2], pieceT 2 (b2 x0 x1 x2 x3 x4 x5 x6) fun r j => by pointwise [k0_pay42],
    pieceT 1 (b1 x0 x1 x2 x3 x4 x5 x6) fun r j => by pointwise [k0_pay34], pieceT 0 (b0 x0 x1 x2 x3 x4 x5 x6) fun r j => by pointwise [k0_pay28], trivial⟩
theorem out9 : out0_9 (F := Ideal) x0 x1 x2 x3 x4 x5 x6 = layT x5 (fun i => -(x6 i : EReal)) := by
  funext y
  unfold out0_9
  refine View.canon_append_of_piecesOf (Val := Elt Ideal) (layT _ _) [] [_, _, _, _] ?_ y (cover0_9 _ _ _ _ y)
  exact ⟨pieceT 3 (d3 x0 x1 x2 x3 x4 x5 x6) fun r j => by pointwise [k0_pay4], pieceT 2 (d2 x0 x1 x2 x3 x4 x5 x6) fun r j => by pointwise [k0_pay45],
    pieceT 1 (d1 x0 x1 x2 x3 x4 x5 x6) fun r j => by pointwise [k0_pay36], pieceT 0 (d0 x0 x1 x2 x3 x4 x5 x6) fun r j => by pointwise [k0_pay30], trivial⟩
theorem out10 : out0_10 (F := Ideal) x0 x1 x2 x3 x4 x5 x6 = layA x5 (fun i => -(x6 i : EReal)) := by
  funext y
  unfold out0_10
  refine View.canon_append_of_piecesOf (Val := Elt Ideal) (layA _ _) [] [_, _, _, _] ?_ y (cover0_10 _ _ _ _ y)
  exact ⟨piece 3 (d3 x0 x1 x2 x3 x4 x5 x6) fun r j => by pointwise [k0_pay3], piece 2 (d2 x0 x1 x2 x3 x4 x5 x6) fun r j => by pointwise [k0_pay44, k0_pay43],
    piece 1 (d1 x0 x1 x2 x3 x4 x5 x6) fun r j => by pointwise [k0_pay35], piece 0 (d0 x0 x1 x2 x3 x4 x5 x6) fun r j => by pointwise [k0_pay29], trivial⟩

end

variable (m : (ℓ : Loc nD τ sig) → Buf (Elt Ideal) ℓ)

/-- The seven argument arrays of device `c`: the pole's two parts, the step's logarithm, and the input and output matrices in pairs. -/
abbrev aA (c : Dev nD) : FVec Ideal S64x64 .f32 := m ((c : Thread nD τ).loc main_arg0)
abbrev aB (c : Dev nD) : FVec Ideal S64x64 .f32 := m ((c : Thread nD τ).loc main_arg1)
abbrev aT (c : Dev nD) : FVec Ideal S64 .f32 := m ((c : Thread nD τ).loc main_arg2)
abbrev aBr (c : Dev nD) : FVec Ideal S64x64x16 .f32 := m ((c : Thread nD τ).loc main_arg3)
abbrev aBi (c : Dev nD) : FVec Ideal S64x64x16 .f32 := m ((c : Thread nD τ).loc main_arg4)
abbrev aCr (c : Dev nD) : FVec Ideal S64x16x64 .f32 := m ((c : Thread nD τ).loc main_arg5)
abbrev aCi (c : Dev nD) : FVec Ideal S64x16x64 .f32 := m ((c : Thread nD τ).loc main_arg6)

/-- The input matrix times its factor, in two parts, the output matrix's conjugate's second part, and the discretised pole. -/
def BR (c : Dev nD) : FVec Ideal S64x16x64 .f32 := fun i =>
  fr (aA m c (ix2 (i 0) (i 2))) (aB m c (ix2 (i 0) (i 2))) (aT m c (ix1 (i 0))) * aBr m c (ix3 (i 0) (i 2) (i 1))
    - fi (aA m c (ix2 (i 0) (i 2))) (aB m c (ix2 (i 0) (i 2))) (aT m c (ix1 (i 0))) * aBi m c (ix3 (i 0) (i 2) (i 1))
def BI (c : Dev nD) : FVec Ideal S64x16x64 .f32 := fun i =>
  fr (aA m c (ix2 (i 0) (i 2))) (aB m c (ix2 (i 0) (i 2))) (aT m c (ix1 (i 0))) * aBi m c (ix3 (i 0) (i 2) (i 1))
    + fi (aA m c (ix2 (i 0) (i 2))) (aB m c (ix2 (i 0) (i 2))) (aT m c (ix1 (i 0))) * aBr m c (ix3 (i 0) (i 2) (i 1))
def CI (c : Dev nD) : FVec Ideal S64x16x64 .f32 := fun i => -aCi m c i
def LR (c : Dev nD) : FVec Ideal S64x1x64 .f32 := fun i => lbr (aA m c (ix2 (i 0) (i 2))) (aB m c (ix2 (i 0) (i 2))) (aT m c (ix1 (i 0)))
def LI (c : Dev nD) : FVec Ideal S64x1x64 .f32 := fun i => lbi (aA m c (ix2 (i 0) (i 2))) (aB m c (ix2 (i 0) (i 2))) (aT m c (ix1 (i 0)))

/-- What the region finds in the arrays it reads. -/
theorem V_a (c : Dev nD) : V m c main_v0 = broadcastInDim S64x1x64 ![0, 2] bcast_S64x64_S64x1x64_0_2 (aA m c) := by unfold V; after_results
theorem V_b (c : Dev nD) : V m c main_v1 = broadcastInDim S64x1x64 ![0, 2] bcast_S64x64_S64x1x64_0_2 (aB m c) := by unfold V; after_results
theorem V_t (c : Dev nD) : V m c main_v2 = broadcastInDim S64x1x1 ![0] bcast_S64_S64x1x1_0 (aT m c) := by unfold V; after_results
theorem V_br (c : Dev nD) : V m c main_v3 = transpose S64x16x64 [0, 2, 1] (aBr m c) transposes_S64x64x16_S64x16x64_0_2_1 := by unfold V; after_results
theorem V_bi (c : Dev nD) : V m c main_v4 = transpose S64x16x64 [0, 2, 1] (aBi m c) transposes_S64x64x16_S64x16x64_0_2_1 := by unfold V; after_results
theorem V_cr (c : Dev nD) : V m c main_arg5 = aCr m c := by unfold V; after_results
theorem V_ci (c : Dev nD) : V m c main_arg6 = aCi m c := by unfold V; after_results

/-- Every window's block index at the one point, and the blocks there, read at an index. -/
theorem idx : ∀ t : Fin cfg0.N, win0_0.index t = ![0, 0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0] ∧ win0_9.index t = ![0, 0, 0] ∧ win0_10.index t = ![0, 0, 0] ∧ win0_11.index t = ![0, 0, 0] ∧ win0_12.index t = ![0, 0, 0] :=
  (by decide +kernel : ∀ t : Fin grid0.N, _)
theorem blk0 (c : Dev nD) (t : Fin cfg0.N) (g s : Fin 64) : (iblk m c 0 t : S64x1x64.Idx → EReal) (ix3 g 0 s) = aA m c (ix2 g s) := by
  refine Eq.trans (b := (V m c main_v0 : S64x1x64.Idx → EReal) (((cfg0.win 0).blk t).view.emb (ix3 g 0 s))) rfl ?_
  rw [show ((cfg0.win 0).blk t).view.emb (ix3 g 0 s) = (ix3 g 0 s : S64x1x64.Idx) from by blk_ext [idx t], V_a]
  pointwise
theorem blk1 (c : Dev nD) (t : Fin cfg0.N) (g s : Fin 64) : (iblk m c 1 t : S64x1x64.Idx → EReal) (ix3 g 0 s) = aB m c (ix2 g s) := by
  refine Eq.trans (b := (V m c main_v1 : S64x1x64.Idx → EReal) (((cfg0.win 1).blk t).view.emb (ix3 g 0 s))) rfl ?_
  rw [show ((cfg0.win 1).blk t).view.emb (ix3 g 0 s) = (ix3 g 0 s : S64x1x64.Idx) from by blk_ext [idx t], V_b]
  pointwise
theorem blk2 (c : Dev nD) (t : Fin cfg0.N) (g : Fin 64) : (iblk m c 2 t : S64x1x1.Idx → EReal) (ix3 g 0 0) = aT m c (ix1 g) := by
  refine Eq.trans (b := (V m c main_v2 : S64x1x1.Idx → EReal) (((cfg0.win 2).blk t).view.emb (ix3 g 0 0))) rfl ?_
  rw [show ((cfg0.win 2).blk t).view.emb (ix3 g 0 0) = (ix3 g 0 0 : S64x1x1.Idx) from by blk_ext [idx t], V_t]
  pointwise
theorem blk3 (c : Dev nD) (t : Fin cfg0.N) (g : Fin 64) (k : Fin 16) (s : Fin 64) : (iblk m c 3 t : S64x16x64.Idx → EReal) (ix3 g k s) = aBr m c (ix3 g s k) := by
  refine Eq.trans (b := (V m c main_v3 : S64x16x64.Idx → EReal) (((cfg0.win 3).blk t).view.emb (ix3 g k s))) rfl ?_
  rw [show ((cfg0.win 3).blk t).view.emb (ix3 g k s) = (ix3 g k s : S64x16x64.Idx) from by blk_ext [idx t], V_br]
  pointwise
theorem blk4 (c : Dev nD) (t : Fin cfg0.N) (g : Fin 64) (k : Fin 16) (s : Fin 64) : (iblk m c 4 t : S64x16x64.Idx → EReal) (ix3 g k s) = aBi m c (ix3 g s k) := by
  refine Eq.trans (b := (V m c main_v4 : S64x16x64.Idx → EReal) (((cfg0.win 4).blk t).view.emb (ix3 g k s))) rfl ?_
  rw [show ((cfg0.win 4).blk t).view.emb (ix3 g k s) = (ix3 g k s : S64x16x64.Idx) from by blk_ext [idx t], V_bi]
  pointwise
theorem blk5 (c : Dev nD) (t : Fin cfg0.N) : iblk m c 5 t = aCr m c := by
  funext i
  refine Eq.trans (b := (V m c main_arg5 : S64x16x64.Idx → EReal) (((cfg0.win 5).blk t).view.emb i)) rfl ?_
  rw [V_cr]
  idx_vars i
  exact congrArg _ (by blk_ext [idx t])
theorem blk6 (c : Dev nD) (t : Fin cfg0.N) : iblk m c 6 t = aCi m c := by
  funext i
  refine Eq.trans (b := (V m c main_arg6 : S64x16x64.Idx → EReal) (((cfg0.win 6).blk t).view.emb i)) rfl ?_
  rw [V_ci]
  idx_vars i
  exact congrArg _ (by blk_ext [idx t])

/-- The body's named values at a state, from the blocks it loads. -/
theorem pay5_at (v : FVec Ideal S64x1x64 .f32) (g s : Fin 64) : (k0_pay5 (F := Ideal) v : S64x1x64.Idx → EReal) (ix3 g 0 s) = v (ix3 g 0 s) := by
  pointwise [k0_pay5]
theorem pay6_at (v : FVec Ideal S64x1x64 .f32) (g s : Fin 64) : (k0_pay6 (F := Ideal) v : S64x1x64.Idx → EReal) (ix3 g 0 s) = L (v (ix3 g 0 s)) := by
  pointwise [k0_pay6, L, cL]
theorem pay7_at (v : FVec Ideal S64x1x1 .f32) (g : Fin 64) : (k0_pay7 (F := Ideal) v : S64x1x1.Idx → EReal) (ix3 g 0 0) = dt (v (ix3 g 0 0)) := by
  pointwise [k0_pay7, dt]
theorem pay8_at (a : FVec Ideal S64x1x64 .f32) (v : FVec Ideal S64x1x1 .f32) (g s : Fin 64) :
    (k0_pay8 (F := Ideal) a v : S64x1x64.Idx → EReal) (ix3 g 0 s) = ex (a (ix3 g 0 s)) (v (ix3 g 0 0)) := by
  pointwise [k0_pay8, pay6_at, pay7_at, ex]
theorem pay10_at (a b : FVec Ideal S64x1x64 .f32) (v : FVec Ideal S64x1x1 .f32) (g s : Fin 64) :
    (k0_pay10 (F := Ideal) a b v : S64x1x64.Idx → EReal) (ix3 g 0 s) = lbr (a (ix3 g 0 s)) (b (ix3 g 0 s)) (v (ix3 g 0 0)) := by
  pointwise [k0_pay10, k0_pay9, pay5_at, pay7_at, pay8_at, lbr, co]
theorem pay11_at (a b : FVec Ideal S64x1x64 .f32) (v : FVec Ideal S64x1x1 .f32) (g s : Fin 64) :
    (k0_pay11 (F := Ideal) a b v : S64x1x64.Idx → EReal) (ix3 g 0 s) = lbi (a (ix3 g 0 s)) (b (ix3 g 0 s)) (v (ix3 g 0 0)) := by
  pointwise [k0_pay11, k0_pay9, pay5_at, pay7_at, pay8_at, lbi, si]
theorem pay12_at (a b : FVec Ideal S64x1x64 .f32) (g s : Fin 64) :
    (k0_pay12 (F := Ideal) a b : S64x1x64.Idx → EReal) (ix3 g 0 s) = N (a (ix3 g 0 s)) (b (ix3 g 0 s)) := by
  pointwise [k0_pay12, pay5_at, pay6_at, N]
theorem pay13_at (a b : FVec Ideal S64x1x64 .f32) (v : FVec Ideal S64x1x1 .f32) (g s : Fin 64) :
    (k0_pay13 (F := Ideal) a b v : S64x1x64.Idx → EReal) (ix3 g 0 s) = fr (a (ix3 g 0 s)) (b (ix3 g 0 s)) (v (ix3 g 0 0)) := by
  pointwise [k0_pay13, pay5_at, pay6_at, pay10_at, pay11_at, pay12_at, fr, nr, c1]
theorem pay14_at (a b : FVec Ideal S64x1x64 .f32) (v : FVec Ideal S64x1x1 .f32) (g s : Fin 64) :
    (k0_pay14 (F := Ideal) a b v : S64x1x64.Idx → EReal) (ix3 g 0 s) = fi (a (ix3 g 0 s)) (b (ix3 g 0 s)) (v (ix3 g 0 0)) := by
  pointwise [k0_pay14, pay5_at, pay6_at, pay10_at, pay11_at, pay12_at, fi, ni, c1]

/-- A whole block read. -/
theorem ld_s (x : Vec Ideal S64x1x64 .f32) : View.ld (Val := Elt Ideal) (e' := .f32) x r0_0 = x := View.ld_unit_lit _ x (by decide)
theorem ld_t (x : Vec Ideal S64x1x1 .f32) : View.ld (Val := Elt Ideal) (e' := .f32) x r0_1 = x := View.ld_unit_lit _ x (by decide)
theorem ld_k (x : Vec Ideal S64x16x64 .f32) : View.ld (Val := Elt Ideal) (e' := .f32) x r0_2 = x := View.ld_unit_lit _ x (by decide)

section
variable (c : Dev nD) (t : Fin cfg0.N)

/-- The input matrix the body computes once, at the run's blocks. -/
theorem n49 (g s : Fin 64) : (k0_pay49 (F := Ideal) (iblk m c 0 t) (iblk m c 1 t) (iblk m c 2 t) (iblk m c 3 t) (iblk m c 4 t) (iblk m c 5 t) (iblk m c 6 t) : S64x1x64.Idx → EReal) (ix3 g 0 s) = fr (aA m c (ix2 g s)) (aB m c (ix2 g s)) (aT m c (ix1 g)) := by
  rw [k0_pay49, ld_s, ld_s, ld_t, pay13_at, blk0, blk1, blk2]
theorem n50 (g s : Fin 64) : (k0_pay50 (F := Ideal) (iblk m c 0 t) (iblk m c 1 t) (iblk m c 2 t) (iblk m c 3 t) (iblk m c 4 t) (iblk m c 5 t) (iblk m c 6 t) : S64x1x64.Idx → EReal) (ix3 g 0 s) = fi (aA m c (ix2 g s)) (aB m c (ix2 g s)) (aT m c (ix1 g)) := by
  rw [k0_pay50, ld_s, ld_s, ld_t, pay14_at, blk0, blk1, blk2]
theorem n51 : k0_pay51 (F := Ideal) (iblk m c 0 t) (iblk m c 1 t) (iblk m c 2 t) (iblk m c 3 t) (iblk m c 4 t) (iblk m c 5 t) (iblk m c 6 t) = BR m c := by
  funext i
  idx_vars i
  rw [k0_pay51, ld_k, ld_k]
  pointwise [k0_pay16, k0_pay15, n49, n50, blk3, blk4]
  rfl
theorem n52 : k0_pay52 (F := Ideal) (iblk m c 0 t) (iblk m c 1 t) (iblk m c 2 t) (iblk m c 3 t) (iblk m c 4 t) (iblk m c 5 t) (iblk m c 6 t) = BI m c := by
  funext i
  idx_vars i
  rw [k0_pay52, ld_k, ld_k]
  pointwise [k0_pay17, n49, n50, blk3, blk4]
  rfl
end

/-- The arrays after the run. -/
theorem final7 (c : Dev nD) : (dats m 0 c).arrAt 7 (cfgs 0).N = layA (BR m c) (BI m c) := by
  refine (dats m 0 c).arrAt_eq_of_covers 7 _ (by decide +kernel) fun t _ y => ?_
  blk_simp
  idx_vars y
  rw [after0_7, show ((cfg0.win 7).blk t).view.emb (ix3 y0 y1 y2) = (ix3 y0 y1 y2 : S4x256x256.Idx) from by blk_ext [idx t], out7, n51, n52]
theorem final8 (c : Dev nD) : (dats m 0 c).arrAt 8 (cfgs 0).N = layT (BR m c) (BI m c) := by
  refine (dats m 0 c).arrAt_eq_of_covers 8 _ (by decide +kernel) fun t _ y => ?_
  blk_simp
  idx_vars y
  rw [after0_8, show ((cfg0.win 8).blk t).view.emb (ix3 y0 y1 y2) = (ix3 y0 y1 y2 : S4x256x256.Idx) from by blk_ext [idx t], out8, n51, n52]
theorem final9 (c : Dev nD) : (dats m 0 c).arrAt 9 (cfgs 0).N = layT (aCr m c) (CI m c) := by
  refine (dats m 0 c).arrAt_eq_of_covers 9 _ (by decide +kernel) fun t _ y => ?_
  blk_simp
  idx_vars y
  rw [after0_9, show ((cfg0.win 9).blk t).view.emb (ix3 y0 y1 y2) = (ix3 y0 y1 y2 : S4x256x256.Idx) from by blk_ext [idx t], out9, blk5, blk6]
  rfl
theorem final10 (c : Dev nD) : (dats m 0 c).arrAt 10 (cfgs 0).N = layA (aCr m c) (CI m c) := by
  refine (dats m 0 c).arrAt_eq_of_covers 10 _ (by decide +kernel) fun t _ y => ?_
  blk_simp
  idx_vars y
  rw [after0_10, show ((cfg0.win 10).blk t).view.emb (ix3 y0 y1 y2) = (ix3 y0 y1 y2 : S4x256x256.Idx) from by blk_ext [idx t], out10, blk5, blk6]
  rfl
theorem final11 (c : Dev nD) : (dats m 0 c).arrAt 11 (cfgs 0).N = LR m c := by
  refine (dats m 0 c).arrAt_eq_of_covers 11 _ (by decide +kernel) fun t _ y => ?_
  blk_simp
  idx_vars y
  obtain rfl : y1 = 0 := Subsingleton.elim _ _
  rw [after0_11, show ((cfg0.win 11).blk t).view.emb (ix3 y0 0 y2) = (ix3 y0 0 y2 : S64x1x64.Idx) from by blk_ext [idx t]]
  frame_out
  pointwise [ld_s, ld_t, pay10_at, blk0, blk1, blk2]
  rfl
theorem final12 (c : Dev nD) : (dats m 0 c).arrAt 12 (cfgs 0).N = LI m c := by
  refine (dats m 0 c).arrAt_eq_of_covers 12 _ (by decide +kernel) fun t _ y => ?_
  blk_simp
  idx_vars y
  obtain rfl : y1 = 0 := Subsingleton.elim _ _
  rw [after0_12, show ((cfg0.win 12).blk t).view.emb (ix3 y0 0 y2) = (ix3 y0 0 y2 : S64x1x64.Idx) from by blk_ext [idx t]]
  frame_out
  pointwise [ld_s, ld_t, pay11_at, blk0, blk1, blk2]
  rfl

end Cert.S5PrepIdeal.Grad

end
-- ==== Proof.S5PrepRef.lean ====
/- The reference's discretisation and layout, read at an index, and the claim that `s5_prep` computes them. -/
module

public import proofs.«01_k».proof.Proof.S5Prep

@[expose] public section

set_option maxRecDepth 16384

noncomputable section

open Idealize.ShloMosaic Idealize.ShloMosaic.TcCoe Idealize.SL.Sem
open Idealize.ShloMosaic.Pipeline (Dat)

namespace Cert.S5PrepRefIdeal.Grad

open Cert.S5PrepRefIdeal Cert.S5PrepRefIdeal.Gen Cert.S5PrepRefIdeal.Value Cert.Finite Cert.Discretise
open Cert.S5PrepIdeal.Grad (entry lay layA layT)

/-- One part of a layout as the reference writes it: each group's rows twice, kept in the column block of the group's parity. -/
def spread (v : FVec Ideal S64x16x64 .f32) : FVec Ideal S4x256x128 .f32 :=
  shapeCast _ (select (broadcastInDim S32x2x16x2x64 ![0, 1, 2, 3, 4] bcast_S1x2x1x2x1_S32x2x16x2x64_0_1_2_3_4 (broadcastInDim S1x2x1x2x1 ![1, 3] bcast_S2x2_S1x2x1x2x1_1_3 (cmpi .eq (broadcastInDim S2x2 ![0, 1] bcast_S2x1_S2x2_0_1 (broadcastInDim S2x1 ![0] bcast_S2_S2x1_0 (iotaInDim S2 32 0))) (broadcastInDim S2x2 ![0, 1] bcast_S1x2_S2x2_0_1 (broadcastInDim S1x2 ![1] bcast_S2_S1x2_1 (iotaInDim S2 32 0))))))
    (broadcastInDim S32x2x16x2x64 ![0, 1, 2, 3, 4] bcast_S32x2x16x1x64_S32x2x16x2x64_0_1_2_3_4 (shapeCast _ v shapeCasts_S64x16x64_S32x2x16x1x64)) (broadcastInDim S32x2x16x2x64 ![] bcast_S_S32x2x16x2x64 (id (constant S_ .f32 0x00000000#32)))) shapeCasts_S32x2x16x2x64_S4x256x128
def both (re im : FVec Ideal S64x16x64 .f32) : FVec Ideal S4x256x256 .bf16 :=
  truncf .bf16 (concatenate S4x256x256 2 [⟨S4x256x128, spread re⟩, ⟨S4x256x128, spread im⟩] concatenates_S4x256x128_S4x256x128_S4x256x256_d2) bitsLt_bf16_f32

theorem eq_at : ∀ n q : Fin 2, IntOp.cmpi .eq (BitVec.ofNat 32 n.val) (BitVec.ofNat 32 q.val) = BitVec.ofBool (decide (n.val = q.val)) := by decide +kernel
theorem spread_at (v : FVec Ideal S64x16x64 .f32) (b : Fin 4) (r : Fin 256) (j : Fin 128) :
    (spread v : S4x256x128.Idx → EReal) (ix3 b r j) = if r.val / 16 % 2 = j.val / 64 then v (ix3 ⟨16 * b.val + r.val / 16, by omega⟩ ⟨r.val % 16, by omega⟩ ⟨j.val % 64, by omega⟩) else 0 := by
  pointwise [spread]
  rw [show (id (constant (F := Ideal) S_ .f32 0x00000000#32) ix0 : EReal) = 0 from by simp only [id]; pointwise,
    eq_at ⟨r.val / 16 % 2, by omega⟩ ⟨j.val / 64, by omega⟩, show (⟨(b.val * 8 + r.val / 32) * 2 + r.val / 16 % 2, by omega⟩ : Fin 64) = ⟨16 * b.val + r.val / 16, by omega⟩ from Fin.ext (by dsimp only; omega)]
  by_cases h : r.val / 16 % 2 = j.val / 64 <;> simp [h, Scalar.select]

/-- Both parts side by side are the layout. -/
theorem both_eq (re im : FVec Ideal S64x16x64 .f32) : both re im = layA re im := by
  funext i
  idx_vars i
  show _ = lay re im i0 i1 i2
  by_cases h : i2.val < 128
  · have e : both re im (ix3 i0 i1 i2) = (spread re : S4x256x128.Idx → EReal) (ix3 i0 i1 ⟨i2.val, h⟩) := by
      pointwise [both]
      rw [dif_pos h]
    rw [e, spread_at, lay, entry, if_pos (show i2.val / 64 < 2 by omega)]
    refine if_congr ?_ rfl rfl
    dsimp only; omega
  · have e : both re im (ix3 i0 i1 i2) = (spread im : S4x256x128.Idx → EReal) (ix3 i0 i1 ⟨i2.val - 128, by omega⟩) := by
      pointwise [both]
      rw [dif_neg h]
    rw [e, spread_at, lay, entry, if_neg (show ¬ i2.val / 64 < 2 by omega), show (⟨(i2.val - 128) % 64, by omega⟩ : Fin 64) = ⟨i2.val % 64, by omega⟩ from Fin.ext (by dsimp only; omega)]
    refine if_congr ?_ rfl rfl
    dsimp only; omega
theorem bothT_eq (re im : FVec Ideal S64x16x64 .f32) : transpose S4x256x256 [0, 2, 1] (both re im) transposes_S4x256x256_S4x256x256_0_2_1 = layT re im := by
  rw [both_eq]
  funext i
  idx_vars i
  pointwise
  rfl

variable {m' : (ℓ : Loc nD τ sig) → Buf (Elt Ideal) ℓ}
  {m : (ℓ : Loc Cert.S5PrepIdeal.nD Cert.S5PrepIdeal.τ Cert.S5PrepIdeal.sig) → Buf (Elt Ideal) ℓ} {c : Dev nD}

open Cert.S5PrepIdeal.Grad (aA aB aT aBr aBi aCr aCi BR BI CI LR LI)

/-- The arguments of the two programs agree on device `c`. -/
structure Agree (m' : (ℓ : Loc nD τ sig) → Buf (Elt Ideal) ℓ)
    (m : (ℓ : Loc Cert.S5PrepIdeal.nD Cert.S5PrepIdeal.τ Cert.S5PrepIdeal.sig) → Buf (Elt Ideal) ℓ) (c : Dev nD) : Prop where
  a : m' ((c.tc : Thread nD τ).loc main_arg0) = aA m c
  b : m' ((c.tc : Thread nD τ).loc main_arg1) = aB m c
  t : m' ((c.tc : Thread nD τ).loc main_arg2) = aT m c
  br : m' ((c.tc : Thread nD τ).loc main_arg3) = aBr m c
  bi : m' ((c.tc : Thread nD τ).loc main_arg4) = aBi m c
  cr : m' ((c.tc : Thread nD τ).loc main_arg5) = aCr m c
  ci : m' ((c.tc : Thread nD τ).loc main_arg6) = aCi m c

/-- The reference's input matrices, and its results. -/
theorem ref_rb (e : Agree m' m c) : (res_main_v63 m' c : FVec Ideal S4x256x256 .bf16) = layA (BR m c) (BI m c) := by
  unfold res_main_v63
  rewrite [e.a, e.b, e.t, e.br, e.bi]
  refine (both_eq _ _).trans (congrArg₂ layA (funext fun i => ?_) (funext fun i => ?_))
  · idx_vars i
    pointwise [BR, BI, fr, fi, nr, ni, N, ex, co, si, lbr, lbi, L, dt, cL, c1]
  · idx_vars i
    pointwise [BR, BI, fr, fi, nr, ni, N, ex, co, si, lbr, lbi, L, dt, cL, c1]
theorem ref_rbt (e : Agree m' m c) : (res_main_v82 m' c : FVec Ideal S4x256x256 .bf16) = layT (BR m c) (BI m c) := by
  unfold res_main_v82
  rewrite [e.a, e.b, e.t, e.br, e.bi]
  refine (bothT_eq _ _).trans (congrArg₂ layT (funext fun i => ?_) (funext fun i => ?_))
  · idx_vars i
    pointwise [BR, BI, fr, fi, nr, ni, N, ex, co, si, lbr, lbi, L, dt, cL, c1]
  · idx_vars i
    pointwise [BR, BI, fr, fi, nr, ni, N, ex, co, si, lbr, lbi, L, dt, cL, c1]
theorem neg_ci (e : Agree m' m c) : (Host.negf (m' ((c.tc : Thread nD τ).loc main_arg6)) : FVec Ideal S64x16x64 .f32) = CI m c := by
  rewrite [e.ci]; rfl

end Cert.S5PrepRefIdeal.Grad

namespace Cert.Proof

open Cert.S5PrepIdeal.Grad Cert.S5PrepRefIdeal.Grad Cert.Discretise

theorem frame_S5Prep : Cert.quiescent_S5Prep := fun m ρ _ => Cert.S5Prep.Gen.frame m ρ
theorem frame_S5PrepIdeal : Cert.quiescent_S5PrepIdeal := fun m ρ _ => Cert.S5PrepIdeal.Gen.frame m ρ
/-- The reference's frame: its run leaves the arguments, and it declares no semaphore. -/
theorem frame_S5PrepRefIdeal : Cert.quiescent_S5PrepRefIdeal := fun m ρ _ =>
  (θ_run Cert.S5PrepRefIdeal.defs _ _).mono (fun r h => ⟨fun c => (h c).2.2.2.2.2.2,
      Idealize.ShloMosaic.sem_eq_zero_of_no_sems (by decide) r.2⟩) (Cert.S5PrepRefIdeal.Value.run (F := Ideal) m ρ)

/-- Kernel and reference end with the same six results. -/
theorem algebraic_S5Prep : Cert.algebraic_S5PrepIdeal_S5PrepRefIdeal := by
  intro m ρ m' ρ' _ hagree
  refine ⟨fun c => layA (BR m c) (BI m c), fun c => layT (BR m c) (BI m c), fun c => layT (aCr m c) (CI m c), fun c => layA (aCr m c) (CI m c), fun c => LR m c, fun c => LI m c, ?_, ?_⟩
  · refine (θ_run Cert.S5PrepIdeal.defs _ _).mono (fun r h c => ?_) (Cert.S5PrepIdeal.Value.run_blocks (F := Ideal) m ρ)
    obtain ⟨h7, h8, h9, h10, h11, h12, hk⟩ := h c
    exact ⟨h7.trans (final7 m c), h8.trans (final8 m c), h9.trans (final9 m c), h10.trans (final10 m c), h11.trans (final11 m c), h12.trans (final12 m c), hk⟩
  · refine (θ_run Cert.S5PrepRefIdeal.defs _ _).mono (fun _ h c => ?_) (Cert.S5PrepRefIdeal.Value.run (F := Ideal) m' ρ')
    obtain ⟨h0, h1, h2, h3, h4, h5, h6⟩ := hagree c
    have e : Agree m' m c := ⟨h0, h1, h2, h3, h4, h5, h6⟩
    obtain ⟨g0, g1, g2, g3, g4, g5, hk⟩ := h c
    refine ⟨g0.trans (ref_rb e), g1.trans (ref_rbt e), g2.trans ((bothT_eq _ _).trans (congrArg₂ layT e.cr (neg_ci e))), g3.trans ((both_eq _ _).trans (congrArg₂ layA e.cr (neg_ci e))), g4.trans ?_, g5.trans ?_, hk⟩
    · rewrite [e.a, e.b, e.t]
      funext i
      idx_vars i
      pointwise [LR, LI, lbr, lbi, ex, co, si, L, dt, cL]
    · rewrite [e.a, e.b, e.t]
      funext i
      idx_vars i
      pointwise [LR, LI, lbr, lbi, ex, co, si, L, dt, cL]

end Cert.Proof

end
-- ==== Proof.S5Compact.lean ====
/- The gradient of the layout of `s5_prep`: of each group's rows the columns of the group's own parity, from the two laid out matrices,
   and the poles' rows. What `s5_compact` writes, what the reference writes, and the claim that they are the same. -/
module

public import proofs.«01_k».proof.Defs
public import proofs.«01_k».proof.Proof.Gen.S5Compact.Frame
public import proofs.«01_k».proof.Proof.Gen.S5CompactIdeal.Value
public import proofs.«01_k».proof.Proof.Gen.S5CompactRefIdeal.Run
public import Idealize.ShloMosaic.Lib.Pipeline.ValueKit
public import Idealize.ShloMosaic.Lib.Pointwise
public import Idealize.ShloMosaic.Lib.Claim
public import Idealize.ShloMosaic.Lib.Quiescent
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.S5CompactIdeal.Grad

open Cert.S5CompactIdeal Cert.S5CompactIdeal.Gen

/-- The column of a laid out matrix that row `r` keeps at `j`: real parts in the first half, imaginary in the second, each at the parity of
    the row's group. -/
def col (r : ℕ) (j : Fin 128) : Fin 256 := ⟨128 * (j.val / 64) + 64 * (r / 16 % 2) + j.val % 64, by omega⟩
/-- The two results: the kept columns of both matrices, one under the other, and the poles' two parts, one under the other. -/
def mats (x0 x1 : FVec Ideal S4x256x256 .f32) : FVec Ideal S2048x128 .f32 := fun i =>
  (if (i 0).val < 1024 then x0 else x1) (ix3 ⟨(i 0).val % 1024 / 256, by omega⟩ ⟨(i 0).val % 256, by omega⟩ (col (i 0).val (i 1)))
def lams (x2 x3 : FVec Ideal S4x8x128 .f32) : FVec Ideal S64x128 .f32 := fun i =>
  (if (i 0).val < 32 then x2 else x3) (ix3 ⟨(i 0).val % 32 / 8, by omega⟩ ⟨(i 0).val % 8, by omega⟩ (i 1))

/-- The mask of the rows of even groups. -/
theorem par_at (r : Fin 256) (s : Fin 64) : (k0_pay3 : S256x64.Idx → BitVec 1) (ix2 r s) = BitVec.ofBool (decide (r.val / 16 % 2 = 0)) := by
  pointwise [k0_pay3]
  revert r; decide +kernel

/-- What the body stores of one block of a matrix. -/
theorem kept (v : FVec Ideal S1x256x256 .f32) (r : Fin 256) (j : Fin 128) : (k0_pay4 (F := Ideal) k0_pay3 v : S256x128.Idx → EReal) (ix2 r j) = v (ix3 0 r (col r.val j)) := by
  have h : r.val / 16 % 2 = 0 ∨ r.val / 16 % 2 = 1 := by omega
  by_cases hj : j.val < 64
  · pointwise [k0_pay4]
    rw [dif_pos hj, par_at]
    rcases h with h | h <;> simp only [h, col] <;> refine congrArg v ?_ <;> congr 1 <;> exact Fin.ext (by dsimp only; omega)
  · pointwise [k0_pay4]
    rw [dif_neg hj, par_at]
    rcases h with h | h <;> simp only [h, col] <;> refine congrArg v ?_ <;> congr 1 <;> exact Fin.ext (by dsimp only; omega)

/-- The blocks read and the rows stored. -/
abbrev rLd (b : Fin 4) : Rect S4x256x256 := Rect.unit (s := S4x256x256) ![b.val, 0, 0] S1x256x256.size (fun a => by fin_cases a <;> simp [S4x256x256, S1x256x256] <;> omega)
abbrev rSt (k : Fin 2) (b : Fin 4) : Rect S2048x128 := Rect.unit (s := S2048x128) ![1024 * k.val + 256 * b.val, 0] S256x128.size (fun a => by fin_cases a <;> simp [S2048x128, S256x128] <;> omega)
abbrev rLd' (b : Fin 4) : Rect S4x8x128 := Rect.unit (s := S4x8x128) ![b.val, 0, 0] S1x8x128.size (fun a => by fin_cases a <;> simp [S4x8x128, S1x8x128] <;> omega)
abbrev rSt' (k : Fin 2) (b : Fin 4) : Rect S64x128 := Rect.unit (s := S64x128) ![32 * k.val + 8 * b.val, 0] S8x128.size (fun a => by fin_cases a <;> simp [S64x128, S8x128] <;> omega)

/-- A stored block is the block of the result, for both matrices and for both parts of the poles. -/
theorem piece (x0 x1 x : Vec Ideal S4x256x256 .f32) (k : Fin 2) (b : Fin 4) (hx : x = if k.val = 0 then x0 else x1) (i : S256x128.Idx) :
    (k0_pay4 (F := Ideal) k0_pay3 (View.ld x (rLd b)) i : EReal) = mats x0 x1 ((rSt k b).emb i) := by
  idx_vars i
  rw [show (rSt k b).emb (ix2 i0 i1) = (ix2 ⟨1024 * k.val + 256 * b.val + i0.val, by omega⟩ i1 : S2048x128.Idx) from by blk_ext, kept]
  have e : (1024 * k.val + 256 * b.val + i0.val) / 16 % 2 = i0.val / 16 % 2 := by omega
  have q : (1024 * k.val + 256 * b.val + i0.val < 1024) = (k.val = 0) := by rw [eq_iff_iff]; omega
  show (x : S4x256x256.Idx → EReal) ((rLd b).emb (ix3 0 i0 (col i0.val i1))) = mats x0 x1 (ix2 ⟨1024 * k.val + 256 * b.val + i0.val, by omega⟩ i1)
  rw [show (rLd b).emb (ix3 0 i0 (col i0.val i1)) = (ix3 b i0 (col i0.val i1) : S4x256x256.Idx) from by blk_ext, hx]
  show _ = (if 1024 * k.val + 256 * b.val + i0.val < 1024 then x0 else x1) (ix3 ⟨(1024 * k.val + 256 * b.val + i0.val) % 1024 / 256, by omega⟩ ⟨(1024 * k.val + 256 * b.val + i0.val) % 256, by omega⟩ (col (1024 * k.val + 256 * b.val + i0.val) i1))
  rw [show (⟨(1024 * k.val + 256 * b.val + i0.val) % 1024 / 256, by omega⟩ : Fin 4) = b from Fin.ext (by dsimp only; omega),
    show (⟨(1024 * k.val + 256 * b.val + i0.val) % 256, by omega⟩ : Fin 256) = i0 from Fin.ext (by dsimp only; omega)]
  simp only [col, e, q]
theorem piece' (x2 x3 x : Vec Ideal S4x8x128 .f32) (k : Fin 2) (b : Fin 4) (hx : x = if k.val = 0 then x2 else x3) (i : S8x128.Idx) :
    (k0_pay1 (F := Ideal) (View.ld x (rLd' b)) i : EReal) = lams x2 x3 ((rSt' k b).emb i) := by
  idx_vars i
  have q : (32 * k.val + 8 * b.val + i0.val < 32) = (k.val = 0) := by rw [eq_iff_iff]; omega
  rw [show (rSt' k b).emb (ix2 i0 i1) = (ix2 ⟨32 * k.val + 8 * b.val + i0.val, by omega⟩ i1 : S64x128.Idx) from by blk_ext]
  have l : (k0_pay1 (F := Ideal) (View.ld x (rLd' b)) (ix2 i0 i1) : EReal) = (x : S4x8x128.Idx → EReal) (ix3 b i0 i1) := by
    pointwise [k0_pay1]
  rw [l, hx]
  show _ = (if 32 * k.val + 8 * b.val + i0.val < 32 then x2 else x3) (ix3 ⟨(32 * k.val + 8 * b.val + i0.val) % 32 / 8, by omega⟩ ⟨(32 * k.val + 8 * b.val + i0.val) % 8, by omega⟩ i1)
  rw [show (⟨(32 * k.val + 8 * b.val + i0.val) % 32 / 8, by omega⟩ : Fin 4) = b from Fin.ext (by dsimp only; omega),
    show (⟨(32 * k.val + 8 * b.val + i0.val) % 8, by omega⟩ : Fin 8) = i0 from Fin.ext (by dsimp only; omega)]
  simp only [q]

/-- The body's two results: eight stores tile each. -/
theorem out4 (x0 x1 : Vec Ideal S4x256x256 .f32) (x2 x3 : Vec Ideal S4x8x128 .f32) : out0_4 (F := Ideal) x0 x1 x2 x3 = mats x0 x1 := by
  funext y
  unfold out0_4
  refine View.canon_append_of_piecesOf (Val := Elt Ideal) (mats x0 x1) [] [_, _, _, _, _, _, _, _] ?_ y (cover0_4 _ _ _ _ _ _ _ _ y)
  exact ⟨piece x0 x1 x1 1 3 rfl, piece x0 x1 x0 0 3 rfl, piece x0 x1 x1 1 2 rfl, piece x0 x1 x0 0 2 rfl, piece x0 x1 x1 1 1 rfl, piece x0 x1 x0 0 1 rfl, piece x0 x1 x1 1 0 rfl, piece x0 x1 x0 0 0 rfl, trivial⟩
theorem out5 (x0 x1 : Vec Ideal S4x256x256 .f32) (x2 x3 : Vec Ideal S4x8x128 .f32) : out0_5 (F := Ideal) x0 x1 x2 x3 = lams x2 x3 := by
  funext y
  unfold out0_5
  refine View.canon_append_of_piecesOf (Val := Elt Ideal) (lams x2 x3) [] [_, _, _, _, _, _, _, _] ?_ y (cover0_5 _ _ _ _ _ _ _ _ y)
  exact ⟨piece' x2 x3 x3 1 3 rfl, piece' x2 x3 x2 0 3 rfl, piece' x2 x3 x3 1 2 rfl, piece' x2 x3 x2 0 2 rfl, piece' x2 x3 x3 1 1 rfl, piece' x2 x3 x2 0 1 rfl, piece' x2 x3 x3 1 0 rfl, piece' x2 x3 x2 0 0 rfl, trivial⟩

variable (m : (ℓ : Loc nD τ sig) → Buf (Elt Ideal) ℓ)

/-- The four argument arrays of device `c`: the gradients of the laid out input and output matrices, and of the poles' two parts. -/
abbrev aB (c : Dev nD) : FVec Ideal S4x256x256 .f32 := m ((c : Thread nD τ).loc main_arg0)
abbrev aC (c : Dev nD) : FVec Ideal S4x256x256 .f32 := m ((c : Thread nD τ).loc main_arg1)
abbrev aR (c : Dev nD) : FVec Ideal S4x8x128 .f32 := m ((c : Thread nD τ).loc main_arg2)
abbrev aI (c : Dev nD) : FVec Ideal S4x8x128 .f32 := m ((c : Thread nD τ).loc main_arg3)

theorem G4_eq (x0 x1 : FVec Ideal S4x256x256 .f32) (x2 x3 : FVec Ideal S4x8x128 .f32) : Cert.S5CompactIdeal.Value.G4 (F := Ideal) x0 x1 x2 x3 = mats x0 x1 :=
  (Cert.S5CompactIdeal.Value.out4_eq (F := Ideal) x0 x1 x2 x3).symm.trans (out4 x0 x1 x2 x3)
theorem G5_eq (x0 x1 : FVec Ideal S4x256x256 .f32) (x2 x3 : FVec Ideal S4x8x128 .f32) : Cert.S5CompactIdeal.Value.G5 (F := Ideal) x0 x1 x2 x3 = lams x2 x3 :=
  (Cert.S5CompactIdeal.Value.out5_eq (F := Ideal) x0 x1 x2 x3).symm.trans (out5 x0 x1 x2 x3)

end Cert.S5CompactIdeal.Grad

namespace Cert.S5CompactRefIdeal.Grad

open Cert.S5CompactRefIdeal Cert.S5CompactRefIdeal.Gen Cert.S5CompactRefIdeal.Value
open Cert.S5CompactIdeal.Grad (col mats lams)

/-- A part's gradient with the columns of the other parity at zero, and its sum over the two parities, as rows. -/
def spread (X : FVec Ideal S4x256x128 .f32) : FVec Ideal S32x2x16x2x64 .f32 :=
  select (broadcastInDim S32x2x16x2x64 ![0, 1, 2, 3, 4] bcast_S1x2x1x2x1_S32x2x16x2x64_0_1_2_3_4 (broadcastInDim S1x2x1x2x1 ![1, 3] bcast_S2x2_S1x2x1x2x1_1_3 (cmpi .eq (broadcastInDim S2x2 ![0, 1] bcast_S2x1_S2x2_0_1 (broadcastInDim S2x1 ![0] bcast_S2_S2x1_0 (iotaInDim S2 32 0))) (broadcastInDim S2x2 ![0, 1] bcast_S1x2_S2x2_0_1 (broadcastInDim S1x2 ![1] bcast_S2_S1x2_1 (iotaInDim S2 32 0))))))
    (shapeCast _ X shapeCasts_S4x256x128_S32x2x16x2x64) (broadcastInDim S32x2x16x2x64 ![] bcast_S_S32x2x16x2x64 (constant S_ .f32 0x00000000#32))
def own (X : FVec Ideal S4x256x128 .f32) : FVec Ideal S1024x64 .f32 :=
  shapeCast _ (shapeCast _ (broadcastInDim S32x2x16x1x64 ![0, 1, 2, 4] bcast_S32x2x16x64_S32x2x16x1x64_0_1_2_4 (Host.reduceAdd (spread X) (constant S_ .f32 0x00000000#32) reducesTo_S32x2x16x2x64_S32x2x16x64_d3 h_S_)) shapeCasts_S32x2x16x1x64_S64x16x64) shapeCasts_S64x16x64_S1024x64

/-- A function of three indices at equal values. -/
theorem at3 {k n q : ℕ} (f : Fin k → Fin n → Fin q → EReal) {a a' : Fin k} {b b' : Fin n} {c c' : Fin q} (ha : a.val = a'.val) (hb : b.val = b'.val) (hc : c.val = c'.val) : f a b c = f a' b' c' := by
  rw [Fin.ext ha, Fin.ext hb, Fin.ext hc]
theorem eq_at : ∀ n q : Fin 2, IntOp.cmpi .eq (BitVec.ofNat 32 n.val) (BitVec.ofNat 32 q.val) = BitVec.ofBool (decide (n = q)) := by decide +kernel
theorem spread_at (X : FVec Ideal S4x256x128 .f32) (g : Fin 32) (n : Fin 2) (k : Fin 16) (q : Fin 2) (s : Fin 64) :
    (spread X : S32x2x16x2x64.Idx → EReal) (ix5 g n k q s) = if n = q then X (ix3 ⟨g.val / 8, by omega⟩ ⟨32 * (g.val % 8) + 16 * n.val + k.val, by omega⟩ ⟨64 * q.val + s.val, by omega⟩) else 0 := by
  pointwise [spread]
  rw [eq_at]
  by_cases h : n = q
  · simp only [h, decide_true, Scalar.select, if_pos]
    exact at3 (fun a b c => X (ix3 a b c)) rfl (by dsimp only; omega) (by dsimp only; omega)
  · simp [h, Scalar.select]
theorem own_at (X : FVec Ideal S4x256x128 .f32) (i : Fin 1024) (s : Fin 64) :
    (own X : S1024x64.Idx → EReal) (ix2 i s) = X (ix3 ⟨i.val / 256, by omega⟩ ⟨i.val % 256, by omega⟩ ⟨64 * (i.val / 16 % 2) + s.val, by omega⟩) := by
  pointwise [own, spread_at]
  rw [Finset.sum_ite_eq, if_pos (Finset.mem_univ _)]
  exact at3 (fun a b c => X (ix3 a b c)) (by dsimp only; omega) (by dsimp only; omega) rfl

variable (m : (ℓ : Loc nD τ sig) → Buf (Elt Ideal) ℓ)

/-- The reference's rows of the matrices, and of the poles. -/
theorem ref_mats (c : Dev nD) : (res_main_v60 m c : FVec Ideal S2048x128 .f32) = mats (m ((c.tc : Thread nD τ).loc main_arg0)) (m ((c.tc : Thread nD τ).loc main_arg1)) := by
  funext i
  idx_vars i
  show (concatenate S2048x128 0 [⟨S1024x128, concatenate S1024x128 1 [⟨S1024x64, own (extractStridedSlice S4x256x128 ![0, 0, 0] (m ((c.tc : Thread nD τ).loc main_arg0)) slices_S4x256x256_S4x256x128_0_0_0)⟩, ⟨S1024x64, own (extractStridedSlice S4x256x128 ![0, 0, 128] (m ((c.tc : Thread nD τ).loc main_arg0)) slices_S4x256x256_S4x256x128_0_0_128)⟩] concatenates_S1024x64_S1024x64_S1024x128_d1⟩,
    ⟨S1024x128, concatenate S1024x128 1 [⟨S1024x64, own (extractStridedSlice S4x256x128 ![0, 0, 0] (m ((c.tc : Thread nD τ).loc main_arg1)) slices_S4x256x256_S4x256x128_0_0_0)⟩, ⟨S1024x64, own (extractStridedSlice S4x256x128 ![0, 0, 128] (m ((c.tc : Thread nD τ).loc main_arg1)) slices_S4x256x256_S4x256x128_0_0_128)⟩] concatenates_S1024x64_S1024x64_S1024x128_d1⟩] concatenates_S1024x128_S1024x128_S2048x128_d0 : S2048x128.Idx → EReal) (ix2 i0 i1) = _
  show _ = (if i0.val < 1024 then m ((c.tc : Thread nD τ).loc main_arg0) else m ((c.tc : Thread nD τ).loc main_arg1)) (ix3 ⟨i0.val % 1024 / 256, by omega⟩ ⟨i0.val % 256, by omega⟩ (col i0.val i1))
  by_cases h0 : i0.val < 1024
  · rw [if_pos h0]
    by_cases h1 : i1.val < 64 <;> pointwise [own_at] <;> simp only [h0, h1, dif_pos, dif_neg, not_false_eq_true] <;>
      exact at3 (fun a b c' => m ((c.tc : Thread nD τ).loc main_arg0) (ix3 a b c')) (by dsimp only; omega) rfl (by dsimp only [col]; omega)
  · rw [if_neg h0]
    by_cases h1 : i1.val < 64 <;> pointwise [own_at] <;> simp only [h0, h1, dif_pos, dif_neg, not_false_eq_true] <;>
      exact at3 (fun a b c' => m ((c.tc : Thread nD τ).loc main_arg1) (ix3 a b c')) (by dsimp only; omega) (by dsimp only; omega) (by dsimp only [col]; omega)
theorem ref_lams (x2 x3 : FVec Ideal S4x8x128 .f32) : (concatenate S64x128 0 [⟨S32x128, shapeCast _ (shapeCast S64x64 x2 shapeCasts_S4x8x128_S64x64) shapeCasts_S64x64_S32x128⟩, ⟨S32x128, shapeCast _ (shapeCast S64x64 x3 shapeCasts_S4x8x128_S64x64) shapeCasts_S64x64_S32x128⟩] concatenates_S32x128_S32x128_S64x128_d0 : FVec Ideal S64x128 .f32) = lams x2 x3 := by
  funext i
  idx_vars i
  show _ = (if i0.val < 32 then x2 else x3) (ix3 ⟨i0.val % 32 / 8, by omega⟩ ⟨i0.val % 8, by omega⟩ i1)
  by_cases h0 : i0.val < 32
  · rw [if_pos h0]
    pointwise
    rw [dif_pos h0]
    exact at3 (fun a b c => x2 (ix3 a b c)) (by dsimp only; omega) rfl rfl
  · rw [if_neg h0]
    pointwise
    rw [dif_neg h0]
    exact at3 (fun a b c => x3 (ix3 a b c)) (by dsimp only; omega) (by dsimp only; omega) rfl

end Cert.S5CompactRefIdeal.Grad

namespace Cert.Proof

open Cert.S5CompactIdeal.Grad Cert.S5CompactRefIdeal.Grad

theorem frame_S5Compact : Cert.quiescent_S5Compact := fun m ρ _ => Cert.S5Compact.Gen.frame m ρ
theorem frame_S5CompactIdeal : Cert.quiescent_S5CompactIdeal := fun m ρ _ => Cert.S5CompactIdeal.Gen.frame m ρ
/-- The reference's frame: its run leaves the arguments, and it declares no semaphore. -/
theorem frame_S5CompactRefIdeal : Cert.quiescent_S5CompactRefIdeal := fun m ρ _ =>
  (θ_run Cert.S5CompactRefIdeal.defs _ _).mono (fun r h => ⟨fun c => (h c).2.2,
      Idealize.ShloMosaic.sem_eq_zero_of_no_sems (by decide) r.2⟩) (Cert.S5CompactRefIdeal.Value.run (F := Ideal) m ρ)

/-- Kernel and reference end with the same two results. -/
theorem algebraic_S5Compact : Cert.algebraic_S5CompactIdeal_S5CompactRefIdeal := by
  intro m ρ m' ρ' _ hagree
  refine ⟨fun c => mats (aB m c) (aC m c), fun c => lams (aR m c) (aI m c), ?_, ?_⟩
  · refine (θ_run Cert.S5CompactIdeal.defs _ _).mono (fun r h c => ?_) (Cert.S5CompactIdeal.Value.run (F := Ideal) m ρ)
    obtain ⟨h4, h5, hk⟩ := h c
    exact ⟨h4.trans (G4_eq _ _ _ _), h5.trans (G5_eq _ _ _ _), hk⟩
  · refine (θ_run Cert.S5CompactRefIdeal.defs _ _).mono (fun _ h c => ?_) (Cert.S5CompactRefIdeal.Value.run (F := Ideal) m' ρ')
    obtain ⟨h0, h1, h2, h3⟩ := hagree c
    obtain ⟨g0, g1, hk⟩ := h c
    exact ⟨g0.trans ((ref_mats m' c).trans (congrArg₂ mats h0 h1)), g1.trans ((ref_lams _ _).trans (congrArg₂ lams h2 h3)), hk⟩

end Cert.Proof

end
-- ==== Proof.MlpDw.lean ====
/- The gradient of a product with respect to its matrix: the sum over the rows, as the reference's. -/
module

public import proofs.«01_k».proof.Defs
public import proofs.«01_k».proof.Proof.Gen.MlpDw.Frame
public import proofs.«01_k».proof.Proof.Gen.MlpDwIdeal.Value
public import proofs.«01_k».proof.Proof.Gen.MlpDwRefIdeal.Run
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MlpDwIdeal.Grad

open Cert.MlpDwIdeal Cert.MlpDwIdeal.Gen

variable (m : (ℓ : Loc nD τ sig) → Buf (Elt Ideal) ℓ)

/-- The sum over the rows of the products of the two arrays' entries. -/
def rows (n : FVec Ideal S2048x1024 .f32) (d : FVec Ideal S2048x4096 .f32) : FVec Ideal S1024x4096 .bf16 := fun i =>
  ∑ r : Fin 2048, (n (ix2 r (i 0)) : EReal) * d (ix2 r (i 1))

/-- The two argument arrays of device `c`, and what the region finds in the arrays it reads. -/
abbrev aN (c : Dev nD) : FVec Ideal S2048x1024 .f32 := m ((c : Thread nD τ).loc main_arg0)
abbrev aD (c : Dev nD) : FVec Ideal S2048x4096 .f32 := m ((c : Thread nD τ).loc main_arg1)
theorem V_n (c : Dev nD) : V m c main_v0 = aN m c := by unfold V; after_results; rfl
theorem V_d (c : Dev nD) : V m c main_v1 = aD m c := by unfold V; after_results; rfl

/-- Every window's block index at every point, and the blocks there, read at an index. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)
theorem blk0 (c : Dev nD) (t : Fin cfg0.N) (r : Fin 2048) (k : Fin 512) (h : t.val / 4 * 512 + k.val < 1024) :
    iblk m c 0 t (ix2 r k) = aN m c (ix2 r ⟨t.val / 4 * 512 + k.val, h⟩) := by
  refine Eq.trans (b := V m c main_v0 (((cfg0.win 0).blk t).view.emb (ix2 r k))) rfl ?_
  rw [V_n]
  blk_ext [idx t]
theorem blk1 (c : Dev nD) (t : Fin cfg0.N) (r : Fin 2048) (j : Fin 1024) (h : t.val % 4 * 1024 + j.val < 4096) :
    iblk m c 1 t (ix2 r j) = aD m c (ix2 r ⟨t.val % 4 * 1024 + j.val, h⟩) := by
  refine Eq.trans (b := V m c main_v1 (((cfg0.win 1).blk t).view.emb (ix2 r j))) rfl ?_
  rw [V_d]
  blk_ext [idx t]

/-- What the body stores, and the array after the run. -/
theorem pay_at (c : Dev nD) (t : Fin cfg0.N) (k : Fin 512) (j : Fin 1024) (h : t.val / 4 * 512 + k.val < 1024) (h' : t.val % 4 * 1024 + j.val < 4096) :
    (k0_pay1 (F := Ideal) (iblk m c 0 t) (iblk m c 1 t) : S512x1024.Idx → EReal) (ix2 k j) = rows (aN m c) (aD m c) (ix2 ⟨t.val / 4 * 512 + k.val, h⟩ ⟨t.val % 4 * 1024 + j.val, h'⟩) := by
  pointwise [k0_pay1, blk0 m c t _ k h, blk1 m c t _ j h']
  rfl
theorem final (c : Dev nD) : (dats m 0 c).arrAt 2 (cfgs 0).N = rows (aN m c) (aD m c) := by
  refine (dats m 0 c).arrAt_eq_of_covers 2 _ (by decide +kernel) fun t _ y => ?_
  blk_simp
  idx_vars y
  have ht : t.val < 8 := lt_of_lt_of_eq t.isLt N_0
  have h : t.val / 4 * 512 + y0.val < 1024 := by omega
  have h' : t.val % 4 * 1024 + y1.val < 4096 := by omega
  rw [after0_2, show ((cfg0.win 2).blk t).view.emb (ix2 y0 y1) = (ix2 ⟨t.val / 4 * 512 + y0.val, h⟩ ⟨t.val % 4 * 1024 + y1.val, h'⟩ : S1024x4096.Idx) from by blk_ext [idx t]]
  frame_out
  exact pay_at m c t y0 y1 h h'

end Cert.MlpDwIdeal.Grad

namespace Cert.Proof

theorem frame_MlpDw : Cert.quiescent_MlpDw := fun m ρ _ => Cert.MlpDw.Gen.frame m ρ
theorem frame_MlpDwIdeal : Cert.quiescent_MlpDwIdeal := fun m ρ _ => Cert.MlpDwIdeal.Gen.frame m ρ
/-- The reference's frame: its run leaves the arguments, and it declares no semaphore. -/
theorem frame_MlpDwRefIdeal : Cert.quiescent_MlpDwRefIdeal := fun m ρ _ =>
  (θ_run Cert.MlpDwRefIdeal.defs _ _).mono (fun r h => ⟨fun c => (h c).2,
      Idealize.ShloMosaic.sem_eq_zero_of_no_sems (by decide) r.2⟩) (Cert.MlpDwRefIdeal.Value.run (F := Ideal) m ρ)

/-- Kernel and reference end with the same matrix. -/
theorem algebraic_MlpDw : Cert.algebraic_MlpDwIdeal_MlpDwRefIdeal := by
  intro m ρ m' ρ' _ hagree
  refine ⟨fun c => Cert.MlpDwIdeal.Grad.rows (Cert.MlpDwIdeal.Grad.aN m c) (Cert.MlpDwIdeal.Grad.aD m c), ?_, ?_⟩
  · exact (θ_run Cert.MlpDwIdeal.defs _ _).mono (fun _ h c => ⟨(h c).1.trans (Cert.MlpDwIdeal.Grad.final m c), (h c).2⟩)
      (Cert.MlpDwIdeal.Value.run_blocks (F := Ideal) m ρ)
  · refine (θ_run Cert.MlpDwRefIdeal.defs _ _).mono (fun _ h c => ⟨(h c).1.trans ?_, (h c).2⟩)
      (Cert.MlpDwRefIdeal.Value.run (F := Ideal) m' ρ')
    simp only [(hagree c).1, (hagree c).2]
    funext i
    idx_vars i
    pointwise [Cert.MlpDwIdeal.Grad.rows]
    exact Finset.sum_congr rfl fun _ _ => mul_comm _ _

end Cert.Proof

end
-- ==== Proof.lean ====
/- The certificate: every pair of programs runs and leaves its arguments, and kernel and reference end with the same results. -/
module

public import proofs.«01_k».proof.Defs
public import proofs.«01_k».proof.Proof.Gen.GluBwd.Frame
public import proofs.«01_k».proof.Proof.Gen.GluBwdIdeal.Value
public import proofs.«01_k».proof.Proof.Gen.GluRefIdeal.Run
public import proofs.«01_k».proof.Proof.Glu
public import proofs.«01_k».proof.Proof.Gen.GluDy.Frame
public import proofs.«01_k».proof.Proof.Gen.GluDyIdeal.Value
public import proofs.«01_k».proof.Proof.Gen.GluDyRefIdeal.Run
public import proofs.«01_k».proof.Proof.GluDy
public import proofs.«01_k».proof.Proof.Gen.MlpDa.Frame
public import proofs.«01_k».proof.Proof.Gen.MlpDaIdeal.Value
public import proofs.«01_k».proof.Proof.Gen.MlpDaRefIdeal.Run
public import proofs.«01_k».proof.Proof.MlpDa
public import proofs.«01_k».proof.Proof.Gen.KvCombine.Frame
public import proofs.«01_k».proof.Proof.Gen.KvCombineIdeal.Value
public import proofs.«01_k».proof.Proof.Gen.KvCombineRefIdeal.Run
public import proofs.«01_k».proof.Proof.KvCombine
public import proofs.«01_k».proof.Proof.Gen.MlpDn.Frame
public import proofs.«01_k».proof.Proof.Gen.MlpDnIdeal.Value
public import proofs.«01_k».proof.Proof.Gen.MlpDnRefIdeal.Run
public import proofs.«01_k».proof.Proof.MlpDn
public import proofs.«01_k».proof.Proof.Gen.AttnDn.Frame
public import proofs.«01_k».proof.Proof.Gen.AttnDnIdeal.Value
public import proofs.«01_k».proof.Proof.Gen.AttnDnRefIdeal.Run
public import proofs.«01_k».proof.Proof.AttnDn
public import proofs.«01_k».proof.Proof.Gen.LossHead.Frame
public import proofs.«01_k».proof.Proof.Gen.LossHeadIdeal.Value
public import proofs.«01_k».proof.Proof.Gen.LossRefIdeal.Run
public import proofs.«01_k».proof.Proof.Loss
public import proofs.«01_k».proof.Proof.Gen.S5Param.Frame
public import proofs.«01_k».proof.Proof.Gen.S5ParamIdeal.Frame
public import proofs.«01_k».proof.Proof.Gen.S5ParamRefIdeal.Run
public import proofs.«01_k».proof.Proof.S5ParamRef
public import proofs.«01_k».proof.Proof.Gen.AttnBwd.Frame
public import proofs.«01_k».proof.Proof.Gen.AttnBwdIdeal.Value
public import proofs.«01_k».proof.Proof.Gen.AttnRefIdeal.Run
public import proofs.«01_k».proof.Proof.Attn
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.AttnFwd
public import proofs.«01_k».proof.Proof.Gen.GluFwd.Frame
public import proofs.«01_k».proof.Proof.Gen.GluFwdIdeal.Value
public import proofs.«01_k».proof.Proof.Gen.GluFwdRefIdeal.Run
public import proofs.«01_k».proof.Proof.GluFwd
public import proofs.«01_k».proof.Proof.Gen.MlpIn.Frame
public import proofs.«01_k».proof.Proof.Gen.MlpInIdeal.Value
public import proofs.«01_k».proof.Proof.Gen.MlpInRefIdeal.Run
public import proofs.«01_k».proof.Proof.MlpIn
public import proofs.«01_k».proof.Proof.Gen.MlpOut.Frame
public import proofs.«01_k».proof.Proof.Gen.MlpOutIdeal.Value
public import proofs.«01_k».proof.Proof.Gen.MlpOutRefIdeal.Run
public import proofs.«01_k».proof.Proof.MlpOut
public import proofs.«01_k».proof.Proof.Gen.OProj.Frame
public import proofs.«01_k».proof.Proof.Gen.OProjIdeal.Value
public import proofs.«01_k».proof.Proof.Gen.OProjRefIdeal.Run
public import proofs.«01_k».proof.Proof.OProj
public import proofs.«01_k».proof.Proof.Gen.S5Prep.Frame
public import proofs.«01_k».proof.Proof.Gen.S5PrepIdeal.Value
public import proofs.«01_k».proof.Proof.Gen.S5PrepRefIdeal.Run
public import proofs.«01_k».proof.Proof.S5PrepRef
public import proofs.«01_k».proof.Proof.Gen.S5Compact.Frame
public import proofs.«01_k».proof.Proof.Gen.S5CompactIdeal.Value
public import proofs.«01_k».proof.Proof.Gen.S5CompactRefIdeal.Run
public import proofs.«01_k».proof.Proof.S5Compact
public import proofs.«01_k».proof.Proof.Gen.MlpDw.Frame
public import proofs.«01_k».proof.Proof.Gen.MlpDwIdeal.Value
public import proofs.«01_k».proof.Proof.Gen.MlpDwRefIdeal.Run
public import proofs.«01_k».proof.Proof.MlpDw

@[expose] public section

noncomputable section

namespace Cert.Proof

open Idealize.ShloMosaic Idealize.SL.Sem

theorem claim : Cert.Claim :=
  ⟨Cert.GluBwd.Gen.facts, Cert.GluBwdIdeal.Gen.facts, Cert.GluRefIdeal.Gen.facts, Cert.GluDy.Gen.facts, Cert.GluDyIdeal.Gen.facts, Cert.GluDyRefIdeal.Gen.facts, Cert.MlpDa.Gen.facts, Cert.MlpDaIdeal.Gen.facts, Cert.MlpDaRefIdeal.Gen.facts, Cert.KvCombine.Gen.facts, Cert.KvCombineIdeal.Gen.facts, Cert.KvCombineRefIdeal.Gen.facts, Cert.MlpDn.Gen.facts, Cert.MlpDnIdeal.Gen.facts, Cert.MlpDnRefIdeal.Gen.facts, Cert.AttnDn.Gen.facts, Cert.AttnDnIdeal.Gen.facts, Cert.AttnDnRefIdeal.Gen.facts, Cert.LossHead.Gen.facts, Cert.LossHeadIdeal.Gen.facts, Cert.LossRefIdeal.Gen.facts, Cert.S5Param.Gen.facts, Cert.S5ParamIdeal.Gen.facts, Cert.S5ParamRefIdeal.Gen.facts, Cert.AttnBwd.Gen.facts, Cert.AttnBwdIdeal.Gen.facts, Cert.AttnRefIdeal.Gen.facts, Cert.AttnFwd.Gen.facts, Cert.AttnFwdIdeal.Gen.facts, Cert.AttnFwdRefIdeal.Gen.facts, Cert.GluFwd.Gen.facts, Cert.GluFwdIdeal.Gen.facts, Cert.GluFwdRefIdeal.Gen.facts, Cert.MlpIn.Gen.facts, Cert.MlpInIdeal.Gen.facts, Cert.MlpInRefIdeal.Gen.facts, Cert.MlpOut.Gen.facts, Cert.MlpOutIdeal.Gen.facts, Cert.MlpOutRefIdeal.Gen.facts, Cert.OProj.Gen.facts, Cert.OProjIdeal.Gen.facts, Cert.OProjRefIdeal.Gen.facts, Cert.S5Prep.Gen.facts, Cert.S5PrepIdeal.Gen.facts, Cert.S5PrepRefIdeal.Gen.facts, Cert.S5Compact.Gen.facts, Cert.S5CompactIdeal.Gen.facts, Cert.S5CompactRefIdeal.Gen.facts, Cert.MlpDw.Gen.facts, Cert.MlpDwIdeal.Gen.facts, Cert.MlpDwRefIdeal.Gen.facts, facts_finite_dy, facts_finite_mlpdn, facts_finite_attndn, facts_finite_loss, facts_finite_pbwd, facts_finite_attn, facts_finite_attnf,
    frame_GluBwd, frame_GluBwdIdeal, frame_GluRefIdeal, frame_GluDy, frame_GluDyIdeal, fun m ρ _ => frame_GluDyIdeal m ρ trivial, frame_GluDyRefIdeal, fun m ρ _ => frame_GluDyRefIdeal m ρ trivial, frame_MlpDa, frame_MlpDaIdeal, frame_MlpDaRefIdeal, frame_KvCombine, frame_KvCombineIdeal, frame_KvCombineRefIdeal, frame_MlpDn, frame_MlpDnIdeal, fun m ρ _ => frame_MlpDnIdeal m ρ trivial, frame_MlpDnRefIdeal, fun m ρ _ => frame_MlpDnRefIdeal m ρ trivial, frame_AttnDn, frame_AttnDnIdeal, fun m ρ _ => frame_AttnDnIdeal m ρ trivial, frame_AttnDnRefIdeal, fun m ρ _ => frame_AttnDnRefIdeal m ρ trivial, frame_LossHead, frame_LossHeadIdeal, fun m ρ _ => frame_LossHeadIdeal m ρ trivial, frame_LossRefIdeal, fun m ρ _ => frame_LossRefIdeal m ρ trivial, frame_S5Param, frame_S5ParamIdeal, fun m ρ _ => frame_S5ParamIdeal m ρ trivial, frame_S5ParamRefIdeal, fun m ρ _ => frame_S5ParamRefIdeal m ρ trivial, frame_AttnBwd, frame_AttnBwdIdeal, fun m ρ _ => frame_AttnBwdIdeal m ρ trivial, frame_AttnRefIdeal, fun m ρ _ => frame_AttnRefIdeal m ρ trivial, frame_AttnFwd, frame_AttnFwdIdeal, fun m ρ _ => frame_AttnFwdIdeal m ρ trivial, frame_AttnFwdRefIdeal, fun m ρ _ => frame_AttnFwdRefIdeal m ρ trivial, frame_GluFwd, frame_GluFwdIdeal, frame_GluFwdRefIdeal, frame_MlpIn, frame_MlpInIdeal, frame_MlpInRefIdeal, frame_MlpOut, frame_MlpOutIdeal, frame_MlpOutRefIdeal, frame_OProj, frame_OProjIdeal, frame_OProjRefIdeal, frame_S5Prep, frame_S5PrepIdeal, frame_S5PrepRefIdeal, frame_S5Compact, frame_S5CompactIdeal, frame_S5CompactRefIdeal, frame_MlpDw, frame_MlpDwIdeal, frame_MlpDwRefIdeal,
    trivial, algebraic_Glu, trivial, algebraic_GluDy, trivial, algebraic_MlpDa, trivial, algebraic_KvCombine, trivial, algebraic_MlpDn, trivial, algebraic_AttnDn, trivial, algebraic_Loss, trivial, algebraic_S5Param, preserves_AttnBwd, algebraic_Attn, preserves_AttnFwd, algebraic_AttnFwd, trivial, algebraic_GluFwd, trivial, algebraic_MlpIn, trivial, algebraic_MlpOut, trivial, algebraic_OProj, trivial, algebraic_S5Prep, trivial, algebraic_S5Compact, trivial, algebraic_MlpDw⟩

end Cert.Proof

end
